-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Grouped (m : (ℓ : Loc Cert.Grouped.nD Cert.Grouped.τ Cert.Grouped.sig) → Buf (Elt Bits) ℓ) : Prop :=
  True

def Pre_GroupedIdeal (m : (ℓ : Loc Cert.GroupedIdeal.nD Cert.GroupedIdeal.τ Cert.GroupedIdeal.sig) → Buf (Elt Ideal) ℓ) : Prop :=
  True

def Pre_GroupedIdeal_finite_grouped_queries_and_keys [hPre_finite_grouped_queries_and_keys : Cert.Pre_finite_grouped_queries_and_keys.Facts] (m : (ℓ : Loc Cert.GroupedIdeal.nD Cert.GroupedIdeal.τ Cert.GroupedIdeal.sig) → Buf (Elt Ideal) ℓ) : Prop :=
  ∀ c : Dev Cert.GroupedIdeal.nD,
    (Cert.Pre_finite_grouped_queries_and_keys.fn (F := Ideal) (m ((c.tc : Thread Cert.GroupedIdeal.nD Cert.GroupedIdeal.τ).loc Cert.GroupedIdeal.main_arg0)) (m ((c.tc : Thread Cert.GroupedIdeal.nD Cert.GroupedIdeal.τ).loc Cert.GroupedIdeal.main_arg1)) (m ((c.tc : Thread Cert.GroupedIdeal.nD Cert.GroupedIdeal.τ).loc Cert.GroupedIdeal.main_arg2))) = (fun _ => 1#1)

def Pre_GroupedReferenceIdeal (m : (ℓ : Loc Cert.GroupedReferenceIdeal.nD Cert.GroupedReferenceIdeal.τ Cert.GroupedReferenceIdeal.sig) → Buf (Elt Ideal) ℓ) : Prop :=
  True

def Pre_GroupedReferenceIdeal_finite_grouped_queries_and_keys [hPre_finite_grouped_queries_and_keys : Cert.Pre_finite_grouped_queries_and_keys.Facts] (m : (ℓ : Loc Cert.GroupedReferenceIdeal.nD Cert.GroupedReferenceIdeal.τ Cert.GroupedReferenceIdeal.sig) → Buf (Elt Ideal) ℓ) : Prop :=
  ∀ c : Dev Cert.GroupedReferenceIdeal.nD,
    (Cert.Pre_finite_grouped_queries_and_keys.fn (F := Ideal) (m ((c.tc : Thread Cert.GroupedReferenceIdeal.nD Cert.GroupedReferenceIdeal.τ).loc Cert.GroupedReferenceIdeal.main_arg0)) (m ((c.tc : Thread Cert.GroupedReferenceIdeal.nD Cert.GroupedReferenceIdeal.τ).loc Cert.GroupedReferenceIdeal.main_arg1)) (m ((c.tc : Thread Cert.GroupedReferenceIdeal.nD Cert.GroupedReferenceIdeal.τ).loc Cert.GroupedReferenceIdeal.main_arg2))) = (fun _ => 1#1)

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputReferenceIdeal (m : (ℓ : Loc Cert.OutputReferenceIdeal.nD Cert.OutputReferenceIdeal.τ Cert.OutputReferenceIdeal.sig) → Buf (Elt Ideal) ℓ) : Prop :=
  True

def Pre_Joint (m : (ℓ : Loc Cert.Joint.nD Cert.Joint.τ Cert.Joint.sig) → Buf (Elt Bits) ℓ) : Prop :=
  True

def Pre_JointIdeal (m : (ℓ : Loc Cert.JointIdeal.nD Cert.JointIdeal.τ Cert.JointIdeal.sig) → Buf (Elt Ideal) ℓ) : Prop :=
  True

def Pre_JointReferenceIdeal (m : (ℓ : Loc Cert.JointReferenceIdeal.nD Cert.JointReferenceIdeal.τ Cert.JointReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationIdeal_finite_conditioning [hPre_finite_conditioning : Cert.Pre_finite_conditioning.Facts] (m : (ℓ : Loc Cert.ModulationIdeal.nD Cert.ModulationIdeal.τ Cert.ModulationIdeal.sig) → Buf (Elt Ideal) ℓ) : Prop :=
  ∀ c : Dev Cert.ModulationIdeal.nD,
    (Cert.Pre_finite_conditioning.fn (F := Ideal) (m ((c.tc : Thread Cert.ModulationIdeal.nD Cert.ModulationIdeal.τ).loc Cert.ModulationIdeal.main_arg0)) (m ((c.tc : Thread Cert.ModulationIdeal.nD Cert.ModulationIdeal.τ).loc Cert.ModulationIdeal.main_arg1)) (m ((c.tc : Thread Cert.ModulationIdeal.nD Cert.ModulationIdeal.τ).loc Cert.ModulationIdeal.main_arg2))) = (fun _ => 1#1)

def Pre_ModulationReferenceIdeal (m : (ℓ : Loc Cert.ModulationReferenceIdeal.nD Cert.ModulationReferenceIdeal.τ Cert.ModulationReferenceIdeal.sig) → Buf (Elt Ideal) ℓ) : Prop :=
  True

def Pre_ModulationReferenceIdeal_finite_conditioning [hPre_finite_conditioning : Cert.Pre_finite_conditioning.Facts] (m : (ℓ : Loc Cert.ModulationReferenceIdeal.nD Cert.ModulationReferenceIdeal.τ Cert.ModulationReferenceIdeal.sig) → Buf (Elt Ideal) ℓ) : Prop :=
  ∀ c : Dev Cert.ModulationReferenceIdeal.nD,
    (Cert.Pre_finite_conditioning.fn (F := Ideal) (m ((c.tc : Thread Cert.ModulationReferenceIdeal.nD Cert.ModulationReferenceIdeal.τ).loc Cert.ModulationReferenceIdeal.main_arg0)) (m ((c.tc : Thread Cert.ModulationReferenceIdeal.nD Cert.ModulationReferenceIdeal.τ).loc Cert.ModulationReferenceIdeal.main_arg1)) (m ((c.tc : Thread Cert.ModulationReferenceIdeal.nD Cert.ModulationReferenceIdeal.τ).loc Cert.ModulationReferenceIdeal.main_arg2))) = (fun _ => 1#1)

def Pre_Context (m : (ℓ : Loc Cert.Context.nD Cert.Context.τ Cert.Context.sig) → Buf (Elt Bits) ℓ) : Prop :=
  True

def Pre_ContextIdeal (m : (ℓ : Loc Cert.ContextIdeal.nD Cert.ContextIdeal.τ Cert.ContextIdeal.sig) → Buf (Elt Ideal) ℓ) : Prop :=
  True

def Pre_ContextIdeal_finite_context_queries_and_keys [hPre_finite_context_queries_and_keys : Cert.Pre_finite_context_queries_and_keys.Facts] (m : (ℓ : Loc Cert.ContextIdeal.nD Cert.ContextIdeal.τ Cert.ContextIdeal.sig) → Buf (Elt Ideal) ℓ) : Prop :=
  ∀ c : Dev Cert.ContextIdeal.nD,
    (Cert.Pre_finite_context_queries_and_keys.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2))) = (fun _ => 1#1)

def Pre_ContextReferenceIdeal (m : (ℓ : Loc Cert.ContextReferenceIdeal.nD Cert.ContextReferenceIdeal.τ Cert.ContextReferenceIdeal.sig) → Buf (Elt Ideal) ℓ) : Prop :=
  True

def Pre_ContextReferenceIdeal_finite_context_queries_and_keys [hPre_finite_context_queries_and_keys : Cert.Pre_finite_context_queries_and_keys.Facts] (m : (ℓ : Loc Cert.ContextReferenceIdeal.nD Cert.ContextReferenceIdeal.τ Cert.ContextReferenceIdeal.sig) → Buf (Elt Ideal) ℓ) : Prop :=
  ∀ c : Dev Cert.ContextReferenceIdeal.nD,
    (Cert.Pre_finite_context_queries_and_keys.fn (F := Ideal) (m ((c.tc : Thread Cert.ContextReferenceIdeal.nD Cert.ContextReferenceIdeal.τ).loc Cert.ContextReferenceIdeal.main_arg0)) (m ((c.tc : Thread Cert.ContextReferenceIdeal.nD Cert.ContextReferenceIdeal.τ).loc Cert.ContextReferenceIdeal.main_arg1)) (m ((c.tc : Thread Cert.ContextReferenceIdeal.nD Cert.ContextReferenceIdeal.τ).loc Cert.ContextReferenceIdeal.main_arg2))) = (fun _ => 1#1)

def Pre_ContextGrouped (m : (ℓ : Loc Cert.ContextGrouped.nD Cert.ContextGrouped.τ Cert.ContextGrouped.sig) → Buf (Elt Bits) ℓ) : Prop :=
  True

def Pre_ContextGroupedIdeal (m : (ℓ : Loc Cert.ContextGroupedIdeal.nD Cert.ContextGroupedIdeal.τ Cert.ContextGroupedIdeal.sig) → Buf (Elt Ideal) ℓ) : Prop :=
  True

def Pre_ContextGroupedIdeal_finite_context_grouped_queries_and_keys [hPre_finite_context_grouped_queries_and_keys : Cert.Pre_finite_context_grouped_queries_and_keys.Facts] (m : (ℓ : Loc Cert.ContextGroupedIdeal.nD Cert.ContextGroupedIdeal.τ Cert.ContextGroupedIdeal.sig) → Buf (Elt Ideal) ℓ) : Prop :=
  ∀ c : Dev Cert.ContextGroupedIdeal.nD,
    (Cert.Pre_finite_context_grouped_queries_and_keys.fn (F := Ideal) (m ((c.tc : Thread Cert.ContextGroupedIdeal.nD Cert.ContextGroupedIdeal.τ).loc Cert.ContextGroupedIdeal.main_arg0)) (m ((c.tc : Thread Cert.ContextGroupedIdeal.nD Cert.ContextGroupedIdeal.τ).loc Cert.ContextGroupedIdeal.main_arg1)) (m ((c.tc : Thread Cert.ContextGroupedIdeal.nD Cert.ContextGroupedIdeal.τ).loc Cert.ContextGroupedIdeal.main_arg2))) = (fun _ => 1#1)

def Pre_ContextGroupedReferenceIdeal (m : (ℓ : Loc Cert.ContextGroupedReferenceIdeal.nD Cert.ContextGroupedReferenceIdeal.τ Cert.ContextGroupedReferenceIdeal.sig) → Buf (Elt Ideal) ℓ) : Prop :=
  True

def Pre_ContextGroupedReferenceIdeal_finite_context_grouped_queries_and_keys [hPre_finite_context_grouped_queries_and_keys : Cert.Pre_finite_context_grouped_queries_and_keys.Facts] (m : (ℓ : Loc Cert.ContextGroupedReferenceIdeal.nD Cert.ContextGroupedReferenceIdeal.τ Cert.ContextGroupedReferenceIdeal.sig) → Buf (Elt Ideal) ℓ) : Prop :=
  ∀ c : Dev Cert.ContextGroupedReferenceIdeal.nD,
    (Cert.Pre_finite_context_grouped_queries_and_keys.fn (F := Ideal) (m ((c.tc : Thread Cert.ContextGroupedReferenceIdeal.nD Cert.ContextGroupedReferenceIdeal.τ).loc Cert.ContextGroupedReferenceIdeal.main_arg0)) (m ((c.tc : Thread Cert.ContextGroupedReferenceIdeal.nD Cert.ContextGroupedReferenceIdeal.τ).loc Cert.ContextGroupedReferenceIdeal.main_arg1)) (m ((c.tc : Thread Cert.ContextGroupedReferenceIdeal.nD Cert.ContextGroupedReferenceIdeal.τ).loc Cert.ContextGroupedReferenceIdeal.main_arg2))) = (fun _ => 1#1)

def Pre_JointContext (m : (ℓ : Loc Cert.JointContext.nD Cert.JointContext.τ Cert.JointContext.sig) → Buf (Elt Bits) ℓ) : Prop :=
  True

def Pre_JointContextIdeal (m : (ℓ : Loc Cert.JointContextIdeal.nD Cert.JointContextIdeal.τ Cert.JointContextIdeal.sig) → Buf (Elt Ideal) ℓ) : Prop :=
  True

def Pre_JointContextReferenceIdeal (m : (ℓ : Loc Cert.JointContextReferenceIdeal.nD Cert.JointContextReferenceIdeal.τ Cert.JointContextReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Grouped [hGrouped : Cert.Grouped.Facts] : Prop :=
  ∀ (m : (ℓ : Loc Cert.Grouped.nD Cert.Grouped.τ Cert.Grouped.sig) → Buf (Elt Bits) ℓ) (g : Dev Cert.Grouped.nD → PrngReg), Pre_Grouped m →
    θ_run (Cert.Grouped.defs (F := Bits)) (onTc (τ := Cert.Grouped.τ) (Cert.Grouped.main (F := Bits))) ⟨m, fun _ => 0, g⟩ (fun r => (∀ c : Dev Cert.Grouped.nD,
      r.2.mem ((c.tc : Thread Cert.Grouped.nD Cert.Grouped.τ).loc Cert.Grouped.main_arg0) = m ((c.tc : Thread Cert.Grouped.nD Cert.Grouped.τ).loc Cert.Grouped.main_arg0)
      ∧ r.2.mem ((c.tc : Thread Cert.Grouped.nD Cert.Grouped.τ).loc Cert.Grouped.main_arg1) = m ((c.tc : Thread Cert.Grouped.nD Cert.Grouped.τ).loc Cert.Grouped.main_arg1)
      ∧ r.2.mem ((c.tc : Thread Cert.Grouped.nD Cert.Grouped.τ).loc Cert.Grouped.main_arg2) = m ((c.tc : Thread Cert.Grouped.nD Cert.Grouped.τ).loc Cert.Grouped.main_arg2))
      ∧ r.2.sem = fun _ => 0)

def quiescent_GroupedIdeal [hGroupedIdeal : Cert.GroupedIdeal.Facts] : Prop :=
  ∀ (m : (ℓ : Loc Cert.GroupedIdeal.nD Cert.GroupedIdeal.τ Cert.GroupedIdeal.sig) → Buf (Elt Ideal) ℓ) (g : Dev Cert.GroupedIdeal.nD → PrngReg), Pre_GroupedIdeal m →
    θ_run (Cert.GroupedIdeal.defs (F := Ideal)) (onTc (τ := Cert.GroupedIdeal.τ) (Cert.GroupedIdeal.main (F := Ideal))) ⟨m, fun _ => 0, g⟩ (fun r => (∀ c : Dev Cert.GroupedIdeal.nD,
      r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
      ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
      ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2))
      ∧ r.2.sem = fun _ => 0)

def quiescent_GroupedIdeal_pre_finite_grouped_queries_and_keys [hGroupedIdeal : Cert.GroupedIdeal.Facts] [hPre_finite_grouped_queries_and_keys : Cert.Pre_finite_grouped_queries_and_keys.Facts] : Prop :=
  ∀ (m : (ℓ : Loc Cert.GroupedIdeal.nD Cert.GroupedIdeal.τ Cert.GroupedIdeal.sig) → Buf (Elt Ideal) ℓ) (g : Dev Cert.GroupedIdeal.nD → PrngReg), Pre_GroupedIdeal_finite_grouped_queries_and_keys m →
    θ_run (Cert.GroupedIdeal.defs (F := Ideal)) (onTc (τ := Cert.GroupedIdeal.τ) (Cert.GroupedIdeal.main (F := Ideal))) ⟨m, fun _ => 0, g⟩ (fun r => (∀ c : Dev Cert.GroupedIdeal.nD,
      r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
      ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
      ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2))
      ∧ r.2.sem = fun _ => 0)

def quiescent_GroupedReferenceIdeal [hGroupedReferenceIdeal : Cert.GroupedReferenceIdeal.Facts] : Prop :=
  ∀ (m : (ℓ : Loc Cert.GroupedReferenceIdeal.nD Cert.GroupedReferenceIdeal.τ Cert.GroupedReferenceIdeal.sig) → Buf (Elt Ideal) ℓ) (g : Dev Cert.GroupedReferenceIdeal.nD → PrngReg), Pre_GroupedReferenceIdeal m →
    θ_run (Cert.GroupedReferenceIdeal.defs (F := Ideal)) (onTc (τ := Cert.GroupedReferenceIdeal.τ) (Cert.GroupedReferenceIdeal.main (F := Ideal))) ⟨m, fun _ => 0, g⟩ (fun r => (∀ c : Dev Cert.GroupedReferenceIdeal.nD,
      r.2.mem ((c.tc : Thread Cert.GroupedReferenceIdeal.nD Cert.GroupedReferenceIdeal.τ).loc Cert.GroupedReferenceIdeal.main_arg0) = m ((c.tc : Thread Cert.GroupedReferenceIdeal.nD Cert.GroupedReferenceIdeal.τ).loc Cert.GroupedReferenceIdeal.main_arg0)
      ∧ r.2.mem ((c.tc : Thread Cert.GroupedReferenceIdeal.nD Cert.GroupedReferenceIdeal.τ).loc Cert.GroupedReferenceIdeal.main_arg1) = m ((c.tc : Thread Cert.GroupedReferenceIdeal.nD Cert.GroupedReferenceIdeal.τ).loc Cert.GroupedReferenceIdeal.main_arg1)
      ∧ r.2.mem ((c.tc : Thread Cert.GroupedReferenceIdeal.nD Cert.GroupedReferenceIdeal.τ).loc Cert.GroupedReferenceIdeal.main_arg2) = m ((c.tc : Thread Cert.GroupedReferenceIdeal.nD Cert.GroupedReferenceIdeal.τ).loc Cert.GroupedReferenceIdeal.main_arg2))
      ∧ r.2.sem = fun _ => 0)

def quiescent_GroupedReferenceIdeal_pre_finite_grouped_queries_and_keys [hGroupedReferenceIdeal : Cert.GroupedReferenceIdeal.Facts] [hPre_finite_grouped_queries_and_keys : Cert.Pre_finite_grouped_queries_and_keys.Facts] : Prop :=
  ∀ (m : (ℓ : Loc Cert.GroupedReferenceIdeal.nD Cert.GroupedReferenceIdeal.τ Cert.GroupedReferenceIdeal.sig) → Buf (Elt Ideal) ℓ) (g : Dev Cert.GroupedReferenceIdeal.nD → PrngReg), Pre_GroupedReferenceIdeal_finite_grouped_queries_and_keys m →
    θ_run (Cert.GroupedReferenceIdeal.defs (F := Ideal)) (onTc (τ := Cert.GroupedReferenceIdeal.τ) (Cert.GroupedReferenceIdeal.main (F := Ideal))) ⟨m, fun _ => 0, g⟩ (fun r => (∀ c : Dev Cert.GroupedReferenceIdeal.nD,
      r.2.mem ((c.tc : Thread Cert.GroupedReferenceIdeal.nD Cert.GroupedReferenceIdeal.τ).loc Cert.GroupedReferenceIdeal.main_arg0) = m ((c.tc : Thread Cert.GroupedReferenceIdeal.nD Cert.GroupedReferenceIdeal.τ).loc Cert.GroupedReferenceIdeal.main_arg0)
      ∧ r.2.mem ((c.tc : Thread Cert.GroupedReferenceIdeal.nD Cert.GroupedReferenceIdeal.τ).loc Cert.GroupedReferenceIdeal.main_arg1) = m ((c.tc : Thread Cert.GroupedReferenceIdeal.nD Cert.GroupedReferenceIdeal.τ).loc Cert.GroupedReferenceIdeal.main_arg1)
      ∧ r.2.mem ((c.tc : Thread Cert.GroupedReferenceIdeal.nD Cert.GroupedReferenceIdeal.τ).loc Cert.GroupedReferenceIdeal.main_arg2) = m ((c.tc : Thread Cert.GroupedReferenceIdeal.nD Cert.GroupedReferenceIdeal.τ).loc Cert.GroupedReferenceIdeal.main_arg2))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5)
      ∧ r.2.mem ((c.tc : Thread Cert.Output.nD Cert.Output.τ).loc Cert.Output.main_arg6) = m ((c.tc : Thread Cert.Output.nD Cert.Output.τ).loc Cert.Output.main_arg6)
      ∧ r.2.mem ((c.tc : Thread Cert.Output.nD Cert.Output.τ).loc Cert.Output.main_arg7) = m ((c.tc : Thread Cert.Output.nD Cert.Output.τ).loc Cert.Output.main_arg7))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
      ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7))
      ∧ r.2.sem = fun _ => 0)

def quiescent_OutputReferenceIdeal [hOutputReferenceIdeal : Cert.OutputReferenceIdeal.Facts] : Prop :=
  ∀ (m : (ℓ : Loc Cert.OutputReferenceIdeal.nD Cert.OutputReferenceIdeal.τ Cert.OutputReferenceIdeal.sig) → Buf (Elt Ideal) ℓ) (g : Dev Cert.OutputReferenceIdeal.nD → PrngReg), Pre_OutputReferenceIdeal m →
    θ_run (Cert.OutputReferenceIdeal.defs (F := Ideal)) (onTc (τ := Cert.OutputReferenceIdeal.τ) (Cert.OutputReferenceIdeal.main (F := Ideal))) ⟨m, fun _ => 0, g⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1)
      ∧ r.2.mem ((c.tc : Thread Cert.OutputReferenceIdeal.nD Cert.OutputReferenceIdeal.τ).loc Cert.OutputReferenceIdeal.main_arg2) = m ((c.tc : Thread Cert.OutputReferenceIdeal.nD Cert.OutputReferenceIdeal.τ).loc Cert.OutputReferenceIdeal.main_arg2)
      ∧ r.2.mem ((c.tc : Thread Cert.OutputReferenceIdeal.nD Cert.OutputReferenceIdeal.τ).loc Cert.OutputReferenceIdeal.main_arg3) = m ((c.tc : Thread Cert.OutputReferenceIdeal.nD Cert.OutputReferenceIdeal.τ).loc Cert.OutputReferenceIdeal.main_arg3)
      ∧ r.2.mem ((c.tc : Thread Cert.OutputReferenceIdeal.nD Cert.OutputReferenceIdeal.τ).loc Cert.OutputReferenceIdeal.main_arg4) = m ((c.tc : Thread Cert.OutputReferenceIdeal.nD Cert.OutputReferenceIdeal.τ).loc Cert.OutputReferenceIdeal.main_arg4)
      ∧ r.2.mem ((c.tc : Thread Cert.OutputReferenceIdeal.nD Cert.OutputReferenceIdeal.τ).loc Cert.OutputReferenceIdeal.main_arg5) = m ((c.tc : Thread Cert.OutputReferenceIdeal.nD Cert.OutputReferenceIdeal.τ).loc Cert.OutputReferenceIdeal.main_arg5)
      ∧ r.2.mem ((c.tc : Thread Cert.OutputReferenceIdeal.nD Cert.OutputReferenceIdeal.τ).loc Cert.OutputReferenceIdeal.main_arg6) = m ((c.tc : Thread Cert.OutputReferenceIdeal.nD Cert.OutputReferenceIdeal.τ).loc Cert.OutputReferenceIdeal.main_arg6)
      ∧ r.2.mem ((c.tc : Thread Cert.OutputReferenceIdeal.nD Cert.OutputReferenceIdeal.τ).loc Cert.OutputReferenceIdeal.main_arg7) = m ((c.tc : Thread Cert.OutputReferenceIdeal.nD Cert.OutputReferenceIdeal.τ).loc Cert.OutputReferenceIdeal.main_arg7))
      ∧ r.2.sem = fun _ => 0)

def quiescent_Joint [hJoint : Cert.Joint.Facts] : Prop :=
  ∀ (m : (ℓ : Loc Cert.Joint.nD Cert.Joint.τ Cert.Joint.sig) → Buf (Elt Bits) ℓ) (g : Dev Cert.Joint.nD → PrngReg), Pre_Joint m →
    θ_run (Cert.Joint.defs (F := Bits)) (onTc (τ := Cert.Joint.τ) (Cert.Joint.main (F := Bits))) ⟨m, fun _ => 0, g⟩ (fun r => (∀ c : Dev Cert.Joint.nD,
      r.2.mem ((c.tc : Thread Cert.Joint.nD Cert.Joint.τ).loc Cert.Joint.main_arg0) = m ((c.tc : Thread Cert.Joint.nD Cert.Joint.τ).loc Cert.Joint.main_arg0)
      ∧ r.2.mem ((c.tc : Thread Cert.Joint.nD Cert.Joint.τ).loc Cert.Joint.main_arg1) = m ((c.tc : Thread Cert.Joint.nD Cert.Joint.τ).loc Cert.Joint.main_arg1)
      ∧ r.2.mem ((c.tc : Thread Cert.Joint.nD Cert.Joint.τ).loc Cert.Joint.main_arg2) = m ((c.tc : Thread Cert.Joint.nD Cert.Joint.τ).loc Cert.Joint.main_arg2)
      ∧ r.2.mem ((c.tc : Thread Cert.Joint.nD Cert.Joint.τ).loc Cert.Joint.main_arg3) = m ((c.tc : Thread Cert.Joint.nD Cert.Joint.τ).loc Cert.Joint.main_arg3)
      ∧ r.2.mem ((c.tc : Thread Cert.Joint.nD Cert.Joint.τ).loc Cert.Joint.main_arg4) = m ((c.tc : Thread Cert.Joint.nD Cert.Joint.τ).loc Cert.Joint.main_arg4)
      ∧ r.2.mem ((c.tc : Thread Cert.Joint.nD Cert.Joint.τ).loc Cert.Joint.main_arg5) = m ((c.tc : Thread Cert.Joint.nD Cert.Joint.τ).loc Cert.Joint.main_arg5))
      ∧ r.2.sem = fun _ => 0)

def quiescent_JointIdeal [hJointIdeal : Cert.JointIdeal.Facts] : Prop :=
  ∀ (m : (ℓ : Loc Cert.JointIdeal.nD Cert.JointIdeal.τ Cert.JointIdeal.sig) → Buf (Elt Ideal) ℓ) (g : Dev Cert.JointIdeal.nD → PrngReg), Pre_JointIdeal m →
    θ_run (Cert.JointIdeal.defs (F := Ideal)) (onTc (τ := Cert.JointIdeal.τ) (Cert.JointIdeal.main (F := Ideal))) ⟨m, fun _ => 0, g⟩ (fun r => (∀ c : Dev Cert.JointIdeal.nD,
      r.2.mem ((c.tc : Thread Cert.JointIdeal.nD Cert.JointIdeal.τ).loc Cert.JointIdeal.main_arg0) = m ((c.tc : Thread Cert.JointIdeal.nD Cert.JointIdeal.τ).loc Cert.JointIdeal.main_arg0)
      ∧ r.2.mem ((c.tc : Thread Cert.JointIdeal.nD Cert.JointIdeal.τ).loc Cert.JointIdeal.main_arg1) = m ((c.tc : Thread Cert.JointIdeal.nD Cert.JointIdeal.τ).loc Cert.JointIdeal.main_arg1)
      ∧ r.2.mem ((c.tc : Thread Cert.JointIdeal.nD Cert.JointIdeal.τ).loc Cert.JointIdeal.main_arg2) = m ((c.tc : Thread Cert.JointIdeal.nD Cert.JointIdeal.τ).loc Cert.JointIdeal.main_arg2)
      ∧ r.2.mem ((c.tc : Thread Cert.JointIdeal.nD Cert.JointIdeal.τ).loc Cert.JointIdeal.main_arg3) = m ((c.tc : Thread Cert.JointIdeal.nD Cert.JointIdeal.τ).loc Cert.JointIdeal.main_arg3)
      ∧ r.2.mem ((c.tc : Thread Cert.JointIdeal.nD Cert.JointIdeal.τ).loc Cert.JointIdeal.main_arg4) = m ((c.tc : Thread Cert.JointIdeal.nD Cert.JointIdeal.τ).loc Cert.JointIdeal.main_arg4)
      ∧ r.2.mem ((c.tc : Thread Cert.JointIdeal.nD Cert.JointIdeal.τ).loc Cert.JointIdeal.main_arg5) = m ((c.tc : Thread Cert.JointIdeal.nD Cert.JointIdeal.τ).loc Cert.JointIdeal.main_arg5))
      ∧ r.2.sem = fun _ => 0)

def quiescent_JointReferenceIdeal [hJointReferenceIdeal : Cert.JointReferenceIdeal.Facts] : Prop :=
  ∀ (m : (ℓ : Loc Cert.JointReferenceIdeal.nD Cert.JointReferenceIdeal.τ Cert.JointReferenceIdeal.sig) → Buf (Elt Ideal) ℓ) (g : Dev Cert.JointReferenceIdeal.nD → PrngReg), Pre_JointReferenceIdeal m →
    θ_run (Cert.JointReferenceIdeal.defs (F := Ideal)) (onTc (τ := Cert.JointReferenceIdeal.τ) (Cert.JointReferenceIdeal.main (F := Ideal))) ⟨m, fun _ => 0, g⟩ (fun r => (∀ c : Dev Cert.JointReferenceIdeal.nD,
      r.2.mem ((c.tc : Thread Cert.JointReferenceIdeal.nD Cert.JointReferenceIdeal.τ).loc Cert.JointReferenceIdeal.main_arg0) = m ((c.tc : Thread Cert.JointReferenceIdeal.nD Cert.JointReferenceIdeal.τ).loc Cert.JointReferenceIdeal.main_arg0)
      ∧ r.2.mem ((c.tc : Thread Cert.JointReferenceIdeal.nD Cert.JointReferenceIdeal.τ).loc Cert.JointReferenceIdeal.main_arg1) = m ((c.tc : Thread Cert.JointReferenceIdeal.nD Cert.JointReferenceIdeal.τ).loc Cert.JointReferenceIdeal.main_arg1)
      ∧ r.2.mem ((c.tc : Thread Cert.JointReferenceIdeal.nD Cert.JointReferenceIdeal.τ).loc Cert.JointReferenceIdeal.main_arg2) = m ((c.tc : Thread Cert.JointReferenceIdeal.nD Cert.JointReferenceIdeal.τ).loc Cert.JointReferenceIdeal.main_arg2)
      ∧ r.2.mem ((c.tc : Thread Cert.JointReferenceIdeal.nD Cert.JointReferenceIdeal.τ).loc Cert.JointReferenceIdeal.main_arg3) = m ((c.tc : Thread Cert.JointReferenceIdeal.nD Cert.JointReferenceIdeal.τ).loc Cert.JointReferenceIdeal.main_arg3)
      ∧ r.2.mem ((c.tc : Thread Cert.JointReferenceIdeal.nD Cert.JointReferenceIdeal.τ).loc Cert.JointReferenceIdeal.main_arg4) = m ((c.tc : Thread Cert.JointReferenceIdeal.nD Cert.JointReferenceIdeal.τ).loc Cert.JointReferenceIdeal.main_arg4)
      ∧ r.2.mem ((c.tc : Thread Cert.JointReferenceIdeal.nD Cert.JointReferenceIdeal.τ).loc Cert.JointReferenceIdeal.main_arg5) = m ((c.tc : Thread Cert.JointReferenceIdeal.nD Cert.JointReferenceIdeal.τ).loc Cert.JointReferenceIdeal.main_arg5))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationIdeal_pre_finite_conditioning [hModulationIdeal : Cert.ModulationIdeal.Facts] [hPre_finite_conditioning : Cert.Pre_finite_conditioning.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal_finite_conditioning m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_ModulationReferenceIdeal_pre_finite_conditioning [hModulationReferenceIdeal : Cert.ModulationReferenceIdeal.Facts] [hPre_finite_conditioning : Cert.Pre_finite_conditioning.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal_finite_conditioning m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_Context [hContext : Cert.Context.Facts] : Prop :=
  ∀ (m : (ℓ : Loc Cert.Context.nD Cert.Context.τ Cert.Context.sig) → Buf (Elt Bits) ℓ) (g : Dev Cert.Context.nD → PrngReg), Pre_Context m →
    θ_run (Cert.Context.defs (F := Bits)) (onTc (τ := Cert.Context.τ) (Cert.Context.main (F := Bits))) ⟨m, fun _ => 0, g⟩ (fun r => (∀ c : Dev Cert.Context.nD,
      r.2.mem ((c.tc : Thread Cert.Context.nD Cert.Context.τ).loc Cert.Context.main_arg0) = m ((c.tc : Thread Cert.Context.nD Cert.Context.τ).loc Cert.Context.main_arg0)
      ∧ r.2.mem ((c.tc : Thread Cert.Context.nD Cert.Context.τ).loc Cert.Context.main_arg1) = m ((c.tc : Thread Cert.Context.nD Cert.Context.τ).loc Cert.Context.main_arg1)
      ∧ r.2.mem ((c.tc : Thread Cert.Context.nD Cert.Context.τ).loc Cert.Context.main_arg2) = m ((c.tc : Thread Cert.Context.nD Cert.Context.τ).loc Cert.Context.main_arg2))
      ∧ r.2.sem = fun _ => 0)

def quiescent_ContextIdeal [hContextIdeal : Cert.ContextIdeal.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2))
      ∧ r.2.sem = fun _ => 0)

def quiescent_ContextIdeal_pre_finite_context_queries_and_keys [hContextIdeal : Cert.ContextIdeal.Facts] [hPre_finite_context_queries_and_keys : Cert.Pre_finite_context_queries_and_keys.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal_finite_context_queries_and_keys m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2))
      ∧ r.2.sem = fun _ => 0)

def quiescent_ContextReferenceIdeal [hContextReferenceIdeal : Cert.ContextReferenceIdeal.Facts] : Prop :=
  ∀ (m : (ℓ : Loc Cert.ContextReferenceIdeal.nD Cert.ContextReferenceIdeal.τ Cert.ContextReferenceIdeal.sig) → Buf (Elt Ideal) ℓ) (g : Dev Cert.ContextReferenceIdeal.nD → PrngReg), Pre_ContextReferenceIdeal m →
    θ_run (Cert.ContextReferenceIdeal.defs (F := Ideal)) (onTc (τ := Cert.ContextReferenceIdeal.τ) (Cert.ContextReferenceIdeal.main (F := Ideal))) ⟨m, fun _ => 0, g⟩ (fun r => (∀ c : Dev Cert.ContextReferenceIdeal.nD,
      r.2.mem ((c.tc : Thread Cert.ContextReferenceIdeal.nD Cert.ContextReferenceIdeal.τ).loc Cert.ContextReferenceIdeal.main_arg0) = m ((c.tc : Thread Cert.ContextReferenceIdeal.nD Cert.ContextReferenceIdeal.τ).loc Cert.ContextReferenceIdeal.main_arg0)
      ∧ r.2.mem ((c.tc : Thread Cert.ContextReferenceIdeal.nD Cert.ContextReferenceIdeal.τ).loc Cert.ContextReferenceIdeal.main_arg1) = m ((c.tc : Thread Cert.ContextReferenceIdeal.nD Cert.ContextReferenceIdeal.τ).loc Cert.ContextReferenceIdeal.main_arg1)
      ∧ r.2.mem ((c.tc : Thread Cert.ContextReferenceIdeal.nD Cert.ContextReferenceIdeal.τ).loc Cert.ContextReferenceIdeal.main_arg2) = m ((c.tc : Thread Cert.ContextReferenceIdeal.nD Cert.ContextReferenceIdeal.τ).loc Cert.ContextReferenceIdeal.main_arg2))
      ∧ r.2.sem = fun _ => 0)

def quiescent_ContextReferenceIdeal_pre_finite_context_queries_and_keys [hContextReferenceIdeal : Cert.ContextReferenceIdeal.Facts] [hPre_finite_context_queries_and_keys : Cert.Pre_finite_context_queries_and_keys.Facts] : Prop :=
  ∀ (m : (ℓ : Loc Cert.ContextReferenceIdeal.nD Cert.ContextReferenceIdeal.τ Cert.ContextReferenceIdeal.sig) → Buf (Elt Ideal) ℓ) (g : Dev Cert.ContextReferenceIdeal.nD → PrngReg), Pre_ContextReferenceIdeal_finite_context_queries_and_keys m →
    θ_run (Cert.ContextReferenceIdeal.defs (F := Ideal)) (onTc (τ := Cert.ContextReferenceIdeal.τ) (Cert.ContextReferenceIdeal.main (F := Ideal))) ⟨m, fun _ => 0, g⟩ (fun r => (∀ c : Dev Cert.ContextReferenceIdeal.nD,
      r.2.mem ((c.tc : Thread Cert.ContextReferenceIdeal.nD Cert.ContextReferenceIdeal.τ).loc Cert.ContextReferenceIdeal.main_arg0) = m ((c.tc : Thread Cert.ContextReferenceIdeal.nD Cert.ContextReferenceIdeal.τ).loc Cert.ContextReferenceIdeal.main_arg0)
      ∧ r.2.mem ((c.tc : Thread Cert.ContextReferenceIdeal.nD Cert.ContextReferenceIdeal.τ).loc Cert.ContextReferenceIdeal.main_arg1) = m ((c.tc : Thread Cert.ContextReferenceIdeal.nD Cert.ContextReferenceIdeal.τ).loc Cert.ContextReferenceIdeal.main_arg1)
      ∧ r.2.mem ((c.tc : Thread Cert.ContextReferenceIdeal.nD Cert.ContextReferenceIdeal.τ).loc Cert.ContextReferenceIdeal.main_arg2) = m ((c.tc : Thread Cert.ContextReferenceIdeal.nD Cert.ContextReferenceIdeal.τ).loc Cert.ContextReferenceIdeal.main_arg2))
      ∧ r.2.sem = fun _ => 0)

def quiescent_ContextGrouped [hContextGrouped : Cert.ContextGrouped.Facts] : Prop :=
  ∀ (m : (ℓ : Loc Cert.ContextGrouped.nD Cert.ContextGrouped.τ Cert.ContextGrouped.sig) → Buf (Elt Bits) ℓ) (g : Dev Cert.ContextGrouped.nD → PrngReg), Pre_ContextGrouped m →
    θ_run (Cert.ContextGrouped.defs (F := Bits)) (onTc (τ := Cert.ContextGrouped.τ) (Cert.ContextGrouped.main (F := Bits))) ⟨m, fun _ => 0, g⟩ (fun r => (∀ c : Dev Cert.ContextGrouped.nD,
      r.2.mem ((c.tc : Thread Cert.ContextGrouped.nD Cert.ContextGrouped.τ).loc Cert.ContextGrouped.main_arg0) = m ((c.tc : Thread Cert.ContextGrouped.nD Cert.ContextGrouped.τ).loc Cert.ContextGrouped.main_arg0)
      ∧ r.2.mem ((c.tc : Thread Cert.ContextGrouped.nD Cert.ContextGrouped.τ).loc Cert.ContextGrouped.main_arg1) = m ((c.tc : Thread Cert.ContextGrouped.nD Cert.ContextGrouped.τ).loc Cert.ContextGrouped.main_arg1)
      ∧ r.2.mem ((c.tc : Thread Cert.ContextGrouped.nD Cert.ContextGrouped.τ).loc Cert.ContextGrouped.main_arg2) = m ((c.tc : Thread Cert.ContextGrouped.nD Cert.ContextGrouped.τ).loc Cert.ContextGrouped.main_arg2))
      ∧ r.2.sem = fun _ => 0)

def quiescent_ContextGroupedIdeal [hContextGroupedIdeal : Cert.ContextGroupedIdeal.Facts] : Prop :=
  ∀ (m : (ℓ : Loc Cert.ContextGroupedIdeal.nD Cert.ContextGroupedIdeal.τ Cert.ContextGroupedIdeal.sig) → Buf (Elt Ideal) ℓ) (g : Dev Cert.ContextGroupedIdeal.nD → PrngReg), Pre_ContextGroupedIdeal m →
    θ_run (Cert.ContextGroupedIdeal.defs (F := Ideal)) (onTc (τ := Cert.ContextGroupedIdeal.τ) (Cert.ContextGroupedIdeal.main (F := Ideal))) ⟨m, fun _ => 0, g⟩ (fun r => (∀ c : Dev Cert.ContextGroupedIdeal.nD,
      r.2.mem ((c.tc : Thread Cert.ContextGroupedIdeal.nD Cert.ContextGroupedIdeal.τ).loc Cert.ContextGroupedIdeal.main_arg0) = m ((c.tc : Thread Cert.ContextGroupedIdeal.nD Cert.ContextGroupedIdeal.τ).loc Cert.ContextGroupedIdeal.main_arg0)
      ∧ r.2.mem ((c.tc : Thread Cert.ContextGroupedIdeal.nD Cert.ContextGroupedIdeal.τ).loc Cert.ContextGroupedIdeal.main_arg1) = m ((c.tc : Thread Cert.ContextGroupedIdeal.nD Cert.ContextGroupedIdeal.τ).loc Cert.ContextGroupedIdeal.main_arg1)
      ∧ r.2.mem ((c.tc : Thread Cert.ContextGroupedIdeal.nD Cert.ContextGroupedIdeal.τ).loc Cert.ContextGroupedIdeal.main_arg2) = m ((c.tc : Thread Cert.ContextGroupedIdeal.nD Cert.ContextGroupedIdeal.τ).loc Cert.ContextGroupedIdeal.main_arg2))
      ∧ r.2.sem = fun _ => 0)

def quiescent_ContextGroupedIdeal_pre_finite_context_grouped_queries_and_keys [hContextGroupedIdeal : Cert.ContextGroupedIdeal.Facts] [hPre_finite_context_grouped_queries_and_keys : Cert.Pre_finite_context_grouped_queries_and_keys.Facts] : Prop :=
  ∀ (m : (ℓ : Loc Cert.ContextGroupedIdeal.nD Cert.ContextGroupedIdeal.τ Cert.ContextGroupedIdeal.sig) → Buf (Elt Ideal) ℓ) (g : Dev Cert.ContextGroupedIdeal.nD → PrngReg), Pre_ContextGroupedIdeal_finite_context_grouped_queries_and_keys m →
    θ_run (Cert.ContextGroupedIdeal.defs (F := Ideal)) (onTc (τ := Cert.ContextGroupedIdeal.τ) (Cert.ContextGroupedIdeal.main (F := Ideal))) ⟨m, fun _ => 0, g⟩ (fun r => (∀ c : Dev Cert.ContextGroupedIdeal.nD,
      r.2.mem ((c.tc : Thread Cert.ContextGroupedIdeal.nD Cert.ContextGroupedIdeal.τ).loc Cert.ContextGroupedIdeal.main_arg0) = m ((c.tc : Thread Cert.ContextGroupedIdeal.nD Cert.ContextGroupedIdeal.τ).loc Cert.ContextGroupedIdeal.main_arg0)
      ∧ r.2.mem ((c.tc : Thread Cert.ContextGroupedIdeal.nD Cert.ContextGroupedIdeal.τ).loc Cert.ContextGroupedIdeal.main_arg1) = m ((c.tc : Thread Cert.ContextGroupedIdeal.nD Cert.ContextGroupedIdeal.τ).loc Cert.ContextGroupedIdeal.main_arg1)
      ∧ r.2.mem ((c.tc : Thread Cert.ContextGroupedIdeal.nD Cert.ContextGroupedIdeal.τ).loc Cert.ContextGroupedIdeal.main_arg2) = m ((c.tc : Thread Cert.ContextGroupedIdeal.nD Cert.ContextGroupedIdeal.τ).loc Cert.ContextGroupedIdeal.main_arg2))
      ∧ r.2.sem = fun _ => 0)

def quiescent_ContextGroupedReferenceIdeal [hContextGroupedReferenceIdeal : Cert.ContextGroupedReferenceIdeal.Facts] : Prop :=
  ∀ (m : (ℓ : Loc Cert.ContextGroupedReferenceIdeal.nD Cert.ContextGroupedReferenceIdeal.τ Cert.ContextGroupedReferenceIdeal.sig) → Buf (Elt Ideal) ℓ) (g : Dev Cert.ContextGroupedReferenceIdeal.nD → PrngReg), Pre_ContextGroupedReferenceIdeal m →
    θ_run (Cert.ContextGroupedReferenceIdeal.defs (F := Ideal)) (onTc (τ := Cert.ContextGroupedReferenceIdeal.τ) (Cert.ContextGroupedReferenceIdeal.main (F := Ideal))) ⟨m, fun _ => 0, g⟩ (fun r => (∀ c : Dev Cert.ContextGroupedReferenceIdeal.nD,
      r.2.mem ((c.tc : Thread Cert.ContextGroupedReferenceIdeal.nD Cert.ContextGroupedReferenceIdeal.τ).loc Cert.ContextGroupedReferenceIdeal.main_arg0) = m ((c.tc : Thread Cert.ContextGroupedReferenceIdeal.nD Cert.ContextGroupedReferenceIdeal.τ).loc Cert.ContextGroupedReferenceIdeal.main_arg0)
      ∧ r.2.mem ((c.tc : Thread Cert.ContextGroupedReferenceIdeal.nD Cert.ContextGroupedReferenceIdeal.τ).loc Cert.ContextGroupedReferenceIdeal.main_arg1) = m ((c.tc : Thread Cert.ContextGroupedReferenceIdeal.nD Cert.ContextGroupedReferenceIdeal.τ).loc Cert.ContextGroupedReferenceIdeal.main_arg1)
      ∧ r.2.mem ((c.tc : Thread Cert.ContextGroupedReferenceIdeal.nD Cert.ContextGroupedReferenceIdeal.τ).loc Cert.ContextGroupedReferenceIdeal.main_arg2) = m ((c.tc : Thread Cert.ContextGroupedReferenceIdeal.nD Cert.ContextGroupedReferenceIdeal.τ).loc Cert.ContextGroupedReferenceIdeal.main_arg2))
      ∧ r.2.sem = fun _ => 0)

def quiescent_ContextGroupedReferenceIdeal_pre_finite_context_grouped_queries_and_keys [hContextGroupedReferenceIdeal : Cert.ContextGroupedReferenceIdeal.Facts] [hPre_finite_context_grouped_queries_and_keys : Cert.Pre_finite_context_grouped_queries_and_keys.Facts] : Prop :=
  ∀ (m : (ℓ : Loc Cert.ContextGroupedReferenceIdeal.nD Cert.ContextGroupedReferenceIdeal.τ Cert.ContextGroupedReferenceIdeal.sig) → Buf (Elt Ideal) ℓ) (g : Dev Cert.ContextGroupedReferenceIdeal.nD → PrngReg), Pre_ContextGroupedReferenceIdeal_finite_context_grouped_queries_and_keys m →
    θ_run (Cert.ContextGroupedReferenceIdeal.defs (F := Ideal)) (onTc (τ := Cert.ContextGroupedReferenceIdeal.τ) (Cert.ContextGroupedReferenceIdeal.main (F := Ideal))) ⟨m, fun _ => 0, g⟩ (fun r => (∀ c : Dev Cert.ContextGroupedReferenceIdeal.nD,
      r.2.mem ((c.tc : Thread Cert.ContextGroupedReferenceIdeal.nD Cert.ContextGroupedReferenceIdeal.τ).loc Cert.ContextGroupedReferenceIdeal.main_arg0) = m ((c.tc : Thread Cert.ContextGroupedReferenceIdeal.nD Cert.ContextGroupedReferenceIdeal.τ).loc Cert.ContextGroupedReferenceIdeal.main_arg0)
      ∧ r.2.mem ((c.tc : Thread Cert.ContextGroupedReferenceIdeal.nD Cert.ContextGroupedReferenceIdeal.τ).loc Cert.ContextGroupedReferenceIdeal.main_arg1) = m ((c.tc : Thread Cert.ContextGroupedReferenceIdeal.nD Cert.ContextGroupedReferenceIdeal.τ).loc Cert.ContextGroupedReferenceIdeal.main_arg1)
      ∧ r.2.mem ((c.tc : Thread Cert.ContextGroupedReferenceIdeal.nD Cert.ContextGroupedReferenceIdeal.τ).loc Cert.ContextGroupedReferenceIdeal.main_arg2) = m ((c.tc : Thread Cert.ContextGroupedReferenceIdeal.nD Cert.ContextGroupedReferenceIdeal.τ).loc Cert.ContextGroupedReferenceIdeal.main_arg2))
      ∧ r.2.sem = fun _ => 0)

def quiescent_JointContext [hJointContext : Cert.JointContext.Facts] : Prop :=
  ∀ (m : (ℓ : Loc Cert.JointContext.nD Cert.JointContext.τ Cert.JointContext.sig) → Buf (Elt Bits) ℓ) (g : Dev Cert.JointContext.nD → PrngReg), Pre_JointContext m →
    θ_run (Cert.JointContext.defs (F := Bits)) (onTc (τ := Cert.JointContext.τ) (Cert.JointContext.main (F := Bits))) ⟨m, fun _ => 0, g⟩ (fun r => (∀ c : Dev Cert.JointContext.nD,
      r.2.mem ((c.tc : Thread Cert.JointContext.nD Cert.JointContext.τ).loc Cert.JointContext.main_arg0) = m ((c.tc : Thread Cert.JointContext.nD Cert.JointContext.τ).loc Cert.JointContext.main_arg0)
      ∧ r.2.mem ((c.tc : Thread Cert.JointContext.nD Cert.JointContext.τ).loc Cert.JointContext.main_arg1) = m ((c.tc : Thread Cert.JointContext.nD Cert.JointContext.τ).loc Cert.JointContext.main_arg1)
      ∧ r.2.mem ((c.tc : Thread Cert.JointContext.nD Cert.JointContext.τ).loc Cert.JointContext.main_arg2) = m ((c.tc : Thread Cert.JointContext.nD Cert.JointContext.τ).loc Cert.JointContext.main_arg2)
      ∧ r.2.mem ((c.tc : Thread Cert.JointContext.nD Cert.JointContext.τ).loc Cert.JointContext.main_arg3) = m ((c.tc : Thread Cert.JointContext.nD Cert.JointContext.τ).loc Cert.JointContext.main_arg3)
      ∧ r.2.mem ((c.tc : Thread Cert.JointContext.nD Cert.JointContext.τ).loc Cert.JointContext.main_arg4) = m ((c.tc : Thread Cert.JointContext.nD Cert.JointContext.τ).loc Cert.JointContext.main_arg4)
      ∧ r.2.mem ((c.tc : Thread Cert.JointContext.nD Cert.JointContext.τ).loc Cert.JointContext.main_arg5) = m ((c.tc : Thread Cert.JointContext.nD Cert.JointContext.τ).loc Cert.JointContext.main_arg5))
      ∧ r.2.sem = fun _ => 0)

def quiescent_JointContextIdeal [hJointContextIdeal : Cert.JointContextIdeal.Facts] : Prop :=
  ∀ (m : (ℓ : Loc Cert.JointContextIdeal.nD Cert.JointContextIdeal.τ Cert.JointContextIdeal.sig) → Buf (Elt Ideal) ℓ) (g : Dev Cert.JointContextIdeal.nD → PrngReg), Pre_JointContextIdeal m →
    θ_run (Cert.JointContextIdeal.defs (F := Ideal)) (onTc (τ := Cert.JointContextIdeal.τ) (Cert.JointContextIdeal.main (F := Ideal))) ⟨m, fun _ => 0, g⟩ (fun r => (∀ c : Dev Cert.JointContextIdeal.nD,
      r.2.mem ((c.tc : Thread Cert.JointContextIdeal.nD Cert.JointContextIdeal.τ).loc Cert.JointContextIdeal.main_arg0) = m ((c.tc : Thread Cert.JointContextIdeal.nD Cert.JointContextIdeal.τ).loc Cert.JointContextIdeal.main_arg0)
      ∧ r.2.mem ((c.tc : Thread Cert.JointContextIdeal.nD Cert.JointContextIdeal.τ).loc Cert.JointContextIdeal.main_arg1) = m ((c.tc : Thread Cert.JointContextIdeal.nD Cert.JointContextIdeal.τ).loc Cert.JointContextIdeal.main_arg1)
      ∧ r.2.mem ((c.tc : Thread Cert.JointContextIdeal.nD Cert.JointContextIdeal.τ).loc Cert.JointContextIdeal.main_arg2) = m ((c.tc : Thread Cert.JointContextIdeal.nD Cert.JointContextIdeal.τ).loc Cert.JointContextIdeal.main_arg2)
      ∧ r.2.mem ((c.tc : Thread Cert.JointContextIdeal.nD Cert.JointContextIdeal.τ).loc Cert.JointContextIdeal.main_arg3) = m ((c.tc : Thread Cert.JointContextIdeal.nD Cert.JointContextIdeal.τ).loc Cert.JointContextIdeal.main_arg3)
      ∧ r.2.mem ((c.tc : Thread Cert.JointContextIdeal.nD Cert.JointContextIdeal.τ).loc Cert.JointContextIdeal.main_arg4) = m ((c.tc : Thread Cert.JointContextIdeal.nD Cert.JointContextIdeal.τ).loc Cert.JointContextIdeal.main_arg4)
      ∧ r.2.mem ((c.tc : Thread Cert.JointContextIdeal.nD Cert.JointContextIdeal.τ).loc Cert.JointContextIdeal.main_arg5) = m ((c.tc : Thread Cert.JointContextIdeal.nD Cert.JointContextIdeal.τ).loc Cert.JointContextIdeal.main_arg5))
      ∧ r.2.sem = fun _ => 0)

def quiescent_JointContextReferenceIdeal [hJointContextReferenceIdeal : Cert.JointContextReferenceIdeal.Facts] : Prop :=
  ∀ (m : (ℓ : Loc Cert.JointContextReferenceIdeal.nD Cert.JointContextReferenceIdeal.τ Cert.JointContextReferenceIdeal.sig) → Buf (Elt Ideal) ℓ) (g : Dev Cert.JointContextReferenceIdeal.nD → PrngReg), Pre_JointContextReferenceIdeal m →
    θ_run (Cert.JointContextReferenceIdeal.defs (F := Ideal)) (onTc (τ := Cert.JointContextReferenceIdeal.τ) (Cert.JointContextReferenceIdeal.main (F := Ideal))) ⟨m, fun _ => 0, g⟩ (fun r => (∀ c : Dev Cert.JointContextReferenceIdeal.nD,
      r.2.mem ((c.tc : Thread Cert.JointContextReferenceIdeal.nD Cert.JointContextReferenceIdeal.τ).loc Cert.JointContextReferenceIdeal.main_arg0) = m ((c.tc : Thread Cert.JointContextReferenceIdeal.nD Cert.JointContextReferenceIdeal.τ).loc Cert.JointContextReferenceIdeal.main_arg0)
      ∧ r.2.mem ((c.tc : Thread Cert.JointContextReferenceIdeal.nD Cert.JointContextReferenceIdeal.τ).loc Cert.JointContextReferenceIdeal.main_arg1) = m ((c.tc : Thread Cert.JointContextReferenceIdeal.nD Cert.JointContextReferenceIdeal.τ).loc Cert.JointContextReferenceIdeal.main_arg1)
      ∧ r.2.mem ((c.tc : Thread Cert.JointContextReferenceIdeal.nD Cert.JointContextReferenceIdeal.τ).loc Cert.JointContextReferenceIdeal.main_arg2) = m ((c.tc : Thread Cert.JointContextReferenceIdeal.nD Cert.JointContextReferenceIdeal.τ).loc Cert.JointContextReferenceIdeal.main_arg2)
      ∧ r.2.mem ((c.tc : Thread Cert.JointContextReferenceIdeal.nD Cert.JointContextReferenceIdeal.τ).loc Cert.JointContextReferenceIdeal.main_arg3) = m ((c.tc : Thread Cert.JointContextReferenceIdeal.nD Cert.JointContextReferenceIdeal.τ).loc Cert.JointContextReferenceIdeal.main_arg3)
      ∧ r.2.mem ((c.tc : Thread Cert.JointContextReferenceIdeal.nD Cert.JointContextReferenceIdeal.τ).loc Cert.JointContextReferenceIdeal.main_arg4) = m ((c.tc : Thread Cert.JointContextReferenceIdeal.nD Cert.JointContextReferenceIdeal.τ).loc Cert.JointContextReferenceIdeal.main_arg4)
      ∧ r.2.mem ((c.tc : Thread Cert.JointContextReferenceIdeal.nD Cert.JointContextReferenceIdeal.τ).loc Cert.JointContextReferenceIdeal.main_arg5) = m ((c.tc : Thread Cert.JointContextReferenceIdeal.nD Cert.JointContextReferenceIdeal.τ).loc Cert.JointContextReferenceIdeal.main_arg5))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4)
      ∧ r.2.mem ((c.tc : Thread Cert.Projection.nD Cert.Projection.τ).loc Cert.Projection.main_arg5) = m ((c.tc : Thread Cert.Projection.nD Cert.Projection.τ).loc Cert.Projection.main_arg5)
      ∧ r.2.mem ((c.tc : Thread Cert.Projection.nD Cert.Projection.τ).loc Cert.Projection.main_arg6) = m ((c.tc : Thread Cert.Projection.nD Cert.Projection.τ).loc Cert.Projection.main_arg6)
      ∧ r.2.mem ((c.tc : Thread Cert.Projection.nD Cert.Projection.τ).loc Cert.Projection.main_arg7) = m ((c.tc : Thread Cert.Projection.nD Cert.Projection.τ).loc Cert.Projection.main_arg7))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
      ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
      ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6)
      ∧ r.2.mem ((c.tc : Thread Cert.ProjectionIdeal.nD Cert.ProjectionIdeal.τ).loc Cert.ProjectionIdeal.main_arg7) = m ((c.tc : Thread Cert.ProjectionIdeal.nD Cert.ProjectionIdeal.τ).loc Cert.ProjectionIdeal.main_arg7))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3)
      ∧ r.2.mem ((c.tc : Thread Cert.ProjectionReferenceIdeal.nD Cert.ProjectionReferenceIdeal.τ).loc Cert.ProjectionReferenceIdeal.main_arg4) = m ((c.tc : Thread Cert.ProjectionReferenceIdeal.nD Cert.ProjectionReferenceIdeal.τ).loc Cert.ProjectionReferenceIdeal.main_arg4)
      ∧ r.2.mem ((c.tc : Thread Cert.ProjectionReferenceIdeal.nD Cert.ProjectionReferenceIdeal.τ).loc Cert.ProjectionReferenceIdeal.main_arg5) = m ((c.tc : Thread Cert.ProjectionReferenceIdeal.nD Cert.ProjectionReferenceIdeal.τ).loc Cert.ProjectionReferenceIdeal.main_arg5)
      ∧ r.2.mem ((c.tc : Thread Cert.ProjectionReferenceIdeal.nD Cert.ProjectionReferenceIdeal.τ).loc Cert.ProjectionReferenceIdeal.main_arg6) = m ((c.tc : Thread Cert.ProjectionReferenceIdeal.nD Cert.ProjectionReferenceIdeal.τ).loc Cert.ProjectionReferenceIdeal.main_arg6)
      ∧ r.2.mem ((c.tc : Thread Cert.ProjectionReferenceIdeal.nD Cert.ProjectionReferenceIdeal.τ).loc Cert.ProjectionReferenceIdeal.main_arg7) = m ((c.tc : Thread Cert.ProjectionReferenceIdeal.nD Cert.ProjectionReferenceIdeal.τ).loc Cert.ProjectionReferenceIdeal.main_arg7))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Grouped_GroupedIdeal : Prop :=
  IdealRules.named_const.Statement Cert.GroupedIdeal.κ "inv_ln2" .f32 0x3FB8AA3B#32 (((Real.log 2)⁻¹ : ℝ) : EReal)

def algebraic_GroupedIdeal_GroupedReferenceIdeal_pre_finite_grouped_queries_and_keys [hGroupedIdeal : Cert.GroupedIdeal.Facts] [hGroupedReferenceIdeal : Cert.GroupedReferenceIdeal.Facts] [hPre_finite_grouped_queries_and_keys : Cert.Pre_finite_grouped_queries_and_keys.Facts] : Prop :=
  ∀ (m : (ℓ : Loc Cert.GroupedIdeal.nD Cert.GroupedIdeal.τ Cert.GroupedIdeal.sig) → Buf (Elt Ideal) ℓ) (g : Dev Cert.GroupedIdeal.nD → PrngReg)
    (m' : (ℓ : Loc Cert.GroupedReferenceIdeal.nD Cert.GroupedReferenceIdeal.τ Cert.GroupedReferenceIdeal.sig) → Buf (Elt Ideal) ℓ) (g' : Dev Cert.GroupedReferenceIdeal.nD → PrngReg), Pre_GroupedIdeal_finite_grouped_queries_and_keys m →
    (∀ c : Dev Cert.GroupedIdeal.nD,
      m' ((c.tc : Thread Cert.GroupedReferenceIdeal.nD Cert.GroupedReferenceIdeal.τ).loc Cert.GroupedReferenceIdeal.main_arg0) = m ((c.tc : Thread Cert.GroupedIdeal.nD Cert.GroupedIdeal.τ).loc Cert.GroupedIdeal.main_arg0)
      ∧ m' ((c.tc : Thread Cert.GroupedReferenceIdeal.nD Cert.GroupedReferenceIdeal.τ).loc Cert.GroupedReferenceIdeal.main_arg1) = m ((c.tc : Thread Cert.GroupedIdeal.nD Cert.GroupedIdeal.τ).loc Cert.GroupedIdeal.main_arg1)
      ∧ m' ((c.tc : Thread Cert.GroupedReferenceIdeal.nD Cert.GroupedReferenceIdeal.τ).loc Cert.GroupedReferenceIdeal.main_arg2) = m ((c.tc : Thread Cert.GroupedIdeal.nD Cert.GroupedIdeal.τ).loc Cert.GroupedIdeal.main_arg2)) →
    ∃ (v0 : (c : Dev Cert.GroupedIdeal.nD) → Buf (Elt Ideal) ((c.tc : Thread Cert.GroupedIdeal.nD Cert.GroupedIdeal.τ).loc Cert.GroupedIdeal.main_v0)),
      θ_run (Cert.GroupedIdeal.defs (F := Ideal)) (onTc (τ := Cert.GroupedIdeal.τ) (Cert.GroupedIdeal.main (F := Ideal))) ⟨m, fun _ => 0, g⟩ (fun r => ∀ c : Dev Cert.GroupedIdeal.nD,
          r.2.mem ((c.tc : Thread Cert.GroupedIdeal.nD Cert.GroupedIdeal.τ).loc Cert.GroupedIdeal.main_v0) = v0 c
          ∧ r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
          ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
          ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2))
      ∧ θ_run (Cert.GroupedReferenceIdeal.defs (F := Ideal)) (onTc (τ := Cert.GroupedReferenceIdeal.τ) (Cert.GroupedReferenceIdeal.main (F := Ideal))) ⟨m', fun _ => 0, g'⟩ (fun r => ∀ c : Dev Cert.GroupedReferenceIdeal.nD,
          r.2.mem ((c.tc : Thread Cert.GroupedReferenceIdeal.nD Cert.GroupedReferenceIdeal.τ).loc Cert.GroupedReferenceIdeal.main_v28) = v0 c
          ∧ r.2.mem ((c.tc : Thread Cert.GroupedReferenceIdeal.nD Cert.GroupedReferenceIdeal.τ).loc Cert.GroupedReferenceIdeal.main_arg0) = m' ((c.tc : Thread Cert.GroupedReferenceIdeal.nD Cert.GroupedReferenceIdeal.τ).loc Cert.GroupedReferenceIdeal.main_arg0)
          ∧ r.2.mem ((c.tc : Thread Cert.GroupedReferenceIdeal.nD Cert.GroupedReferenceIdeal.τ).loc Cert.GroupedReferenceIdeal.main_arg1) = m' ((c.tc : Thread Cert.GroupedReferenceIdeal.nD Cert.GroupedReferenceIdeal.τ).loc Cert.GroupedReferenceIdeal.main_arg1)
          ∧ r.2.mem ((c.tc : Thread Cert.GroupedReferenceIdeal.nD Cert.GroupedReferenceIdeal.τ).loc Cert.GroupedReferenceIdeal.main_arg2) = m' ((c.tc : Thread Cert.GroupedReferenceIdeal.nD Cert.GroupedReferenceIdeal.τ).loc Cert.GroupedReferenceIdeal.main_arg2))

def preserves_Output_OutputIdeal : Prop :=
  True

def algebraic_OutputIdeal_OutputReferenceIdeal [hOutputIdeal : Cert.OutputIdeal.Facts] [hOutputReferenceIdeal : Cert.OutputReferenceIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputReferenceIdeal.nD Cert.OutputReferenceIdeal.τ Cert.OutputReferenceIdeal.sig) → Buf (Elt Ideal) ℓ) (g' : Dev Cert.OutputReferenceIdeal.nD → PrngReg), Pre_OutputIdeal m →
    (∀ c : Dev Cert.OutputIdeal.nD,
      m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
      ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
      ∧ m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
      ∧ m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)
      ∧ m' ((c.tc : Thread Cert.OutputReferenceIdeal.nD Cert.OutputReferenceIdeal.τ).loc Cert.OutputReferenceIdeal.main_arg4) = m ((c.tc : Thread Cert.OutputIdeal.nD Cert.OutputIdeal.τ).loc Cert.OutputIdeal.main_arg4)
      ∧ m' ((c.tc : Thread Cert.OutputReferenceIdeal.nD Cert.OutputReferenceIdeal.τ).loc Cert.OutputReferenceIdeal.main_arg5) = m ((c.tc : Thread Cert.OutputIdeal.nD Cert.OutputIdeal.τ).loc Cert.OutputIdeal.main_arg5)
      ∧ m' ((c.tc : Thread Cert.OutputReferenceIdeal.nD Cert.OutputReferenceIdeal.τ).loc Cert.OutputReferenceIdeal.main_arg6) = m ((c.tc : Thread Cert.OutputIdeal.nD Cert.OutputIdeal.τ).loc Cert.OutputIdeal.main_arg6)
      ∧ m' ((c.tc : Thread Cert.OutputReferenceIdeal.nD Cert.OutputReferenceIdeal.τ).loc Cert.OutputReferenceIdeal.main_arg7) = m ((c.tc : Thread Cert.OutputIdeal.nD Cert.OutputIdeal.τ).loc Cert.OutputIdeal.main_arg7)) →
    ∃ (v0 : (c : Dev Cert.OutputIdeal.nD) → Buf (Elt Ideal) ((c.tc : Thread Cert.OutputIdeal.nD Cert.OutputIdeal.τ).loc Cert.OutputIdeal.main_v2)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v2) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
          ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
          ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7))
      ∧ θ_run (Cert.OutputReferenceIdeal.defs (F := Ideal)) (onTc (τ := Cert.OutputReferenceIdeal.τ) (Cert.OutputReferenceIdeal.main (F := Ideal))) ⟨m', fun _ => 0, g'⟩ (fun r => ∀ c : Dev Cert.OutputReferenceIdeal.nD,
          r.2.mem ((c.tc : Thread Cert.OutputReferenceIdeal.nD Cert.OutputReferenceIdeal.τ).loc Cert.OutputReferenceIdeal.main_v29) = v0 c
          ∧ r.2.mem ((c.tc : Thread Cert.OutputReferenceIdeal.nD Cert.OutputReferenceIdeal.τ).loc Cert.OutputReferenceIdeal.main_arg0) = m' ((c.tc : Thread Cert.OutputReferenceIdeal.nD Cert.OutputReferenceIdeal.τ).loc Cert.OutputReferenceIdeal.main_arg0)
          ∧ r.2.mem ((c.tc : Thread Cert.OutputReferenceIdeal.nD Cert.OutputReferenceIdeal.τ).loc Cert.OutputReferenceIdeal.main_arg1) = m' ((c.tc : Thread Cert.OutputReferenceIdeal.nD Cert.OutputReferenceIdeal.τ).loc Cert.OutputReferenceIdeal.main_arg1)
          ∧ r.2.mem ((c.tc : Thread Cert.OutputReferenceIdeal.nD Cert.OutputReferenceIdeal.τ).loc Cert.OutputReferenceIdeal.main_arg2) = m' ((c.tc : Thread Cert.OutputReferenceIdeal.nD Cert.OutputReferenceIdeal.τ).loc Cert.OutputReferenceIdeal.main_arg2)
          ∧ r.2.mem ((c.tc : Thread Cert.OutputReferenceIdeal.nD Cert.OutputReferenceIdeal.τ).loc Cert.OutputReferenceIdeal.main_arg3) = m' ((c.tc : Thread Cert.OutputReferenceIdeal.nD Cert.OutputReferenceIdeal.τ).loc Cert.OutputReferenceIdeal.main_arg3)
          ∧ r.2.mem ((c.tc : Thread Cert.OutputReferenceIdeal.nD Cert.OutputReferenceIdeal.τ).loc Cert.OutputReferenceIdeal.main_arg4) = m' ((c.tc : Thread Cert.OutputReferenceIdeal.nD Cert.OutputReferenceIdeal.τ).loc Cert.OutputReferenceIdeal.main_arg4)
          ∧ r.2.mem ((c.tc : Thread Cert.OutputReferenceIdeal.nD Cert.OutputReferenceIdeal.τ).loc Cert.OutputReferenceIdeal.main_arg5) = m' ((c.tc : Thread Cert.OutputReferenceIdeal.nD Cert.OutputReferenceIdeal.τ).loc Cert.OutputReferenceIdeal.main_arg5)
          ∧ r.2.mem ((c.tc : Thread Cert.OutputReferenceIdeal.nD Cert.OutputReferenceIdeal.τ).loc Cert.OutputReferenceIdeal.main_arg6) = m' ((c.tc : Thread Cert.OutputReferenceIdeal.nD Cert.OutputReferenceIdeal.τ).loc Cert.OutputReferenceIdeal.main_arg6)
          ∧ r.2.mem ((c.tc : Thread Cert.OutputReferenceIdeal.nD Cert.OutputReferenceIdeal.τ).loc Cert.OutputReferenceIdeal.main_arg7) = m' ((c.tc : Thread Cert.OutputReferenceIdeal.nD Cert.OutputReferenceIdeal.τ).loc Cert.OutputReferenceIdeal.main_arg7))

def preserves_Joint_JointIdeal : Prop :=
  True

def algebraic_JointIdeal_JointReferenceIdeal [hJointIdeal : Cert.JointIdeal.Facts] [hJointReferenceIdeal : Cert.JointReferenceIdeal.Facts] : Prop :=
  ∀ (m : (ℓ : Loc Cert.JointIdeal.nD Cert.JointIdeal.τ Cert.JointIdeal.sig) → Buf (Elt Ideal) ℓ) (g : Dev Cert.JointIdeal.nD → PrngReg)
    (m' : (ℓ : Loc Cert.JointReferenceIdeal.nD Cert.JointReferenceIdeal.τ Cert.JointReferenceIdeal.sig) → Buf (Elt Ideal) ℓ) (g' : Dev Cert.JointReferenceIdeal.nD → PrngReg), Pre_JointIdeal m →
    (∀ c : Dev Cert.JointIdeal.nD,
      m' ((c.tc : Thread Cert.JointReferenceIdeal.nD Cert.JointReferenceIdeal.τ).loc Cert.JointReferenceIdeal.main_arg0) = m ((c.tc : Thread Cert.JointIdeal.nD Cert.JointIdeal.τ).loc Cert.JointIdeal.main_arg0)
      ∧ m' ((c.tc : Thread Cert.JointReferenceIdeal.nD Cert.JointReferenceIdeal.τ).loc Cert.JointReferenceIdeal.main_arg1) = m ((c.tc : Thread Cert.JointIdeal.nD Cert.JointIdeal.τ).loc Cert.JointIdeal.main_arg1)
      ∧ m' ((c.tc : Thread Cert.JointReferenceIdeal.nD Cert.JointReferenceIdeal.τ).loc Cert.JointReferenceIdeal.main_arg2) = m ((c.tc : Thread Cert.JointIdeal.nD Cert.JointIdeal.τ).loc Cert.JointIdeal.main_arg2)
      ∧ m' ((c.tc : Thread Cert.JointReferenceIdeal.nD Cert.JointReferenceIdeal.τ).loc Cert.JointReferenceIdeal.main_arg3) = m ((c.tc : Thread Cert.JointIdeal.nD Cert.JointIdeal.τ).loc Cert.JointIdeal.main_arg3)
      ∧ m' ((c.tc : Thread Cert.JointReferenceIdeal.nD Cert.JointReferenceIdeal.τ).loc Cert.JointReferenceIdeal.main_arg4) = m ((c.tc : Thread Cert.JointIdeal.nD Cert.JointIdeal.τ).loc Cert.JointIdeal.main_arg4)
      ∧ m' ((c.tc : Thread Cert.JointReferenceIdeal.nD Cert.JointReferenceIdeal.τ).loc Cert.JointReferenceIdeal.main_arg5) = m ((c.tc : Thread Cert.JointIdeal.nD Cert.JointIdeal.τ).loc Cert.JointIdeal.main_arg5)) →
    ∃ (v0 : (c : Dev Cert.JointIdeal.nD) → Buf (Elt Ideal) ((c.tc : Thread Cert.JointIdeal.nD Cert.JointIdeal.τ).loc Cert.JointIdeal.main_v0)),
      θ_run (Cert.JointIdeal.defs (F := Ideal)) (onTc (τ := Cert.JointIdeal.τ) (Cert.JointIdeal.main (F := Ideal))) ⟨m, fun _ => 0, g⟩ (fun r => ∀ c : Dev Cert.JointIdeal.nD,
          r.2.mem ((c.tc : Thread Cert.JointIdeal.nD Cert.JointIdeal.τ).loc Cert.JointIdeal.main_v0) = v0 c
          ∧ r.2.mem ((c.tc : Thread Cert.JointIdeal.nD Cert.JointIdeal.τ).loc Cert.JointIdeal.main_arg0) = m ((c.tc : Thread Cert.JointIdeal.nD Cert.JointIdeal.τ).loc Cert.JointIdeal.main_arg0)
          ∧ r.2.mem ((c.tc : Thread Cert.JointIdeal.nD Cert.JointIdeal.τ).loc Cert.JointIdeal.main_arg1) = m ((c.tc : Thread Cert.JointIdeal.nD Cert.JointIdeal.τ).loc Cert.JointIdeal.main_arg1)
          ∧ r.2.mem ((c.tc : Thread Cert.JointIdeal.nD Cert.JointIdeal.τ).loc Cert.JointIdeal.main_arg2) = m ((c.tc : Thread Cert.JointIdeal.nD Cert.JointIdeal.τ).loc Cert.JointIdeal.main_arg2)
          ∧ r.2.mem ((c.tc : Thread Cert.JointIdeal.nD Cert.JointIdeal.τ).loc Cert.JointIdeal.main_arg3) = m ((c.tc : Thread Cert.JointIdeal.nD Cert.JointIdeal.τ).loc Cert.JointIdeal.main_arg3)
          ∧ r.2.mem ((c.tc : Thread Cert.JointIdeal.nD Cert.JointIdeal.τ).loc Cert.JointIdeal.main_arg4) = m ((c.tc : Thread Cert.JointIdeal.nD Cert.JointIdeal.τ).loc Cert.JointIdeal.main_arg4)
          ∧ r.2.mem ((c.tc : Thread Cert.JointIdeal.nD Cert.JointIdeal.τ).loc Cert.JointIdeal.main_arg5) = m ((c.tc : Thread Cert.JointIdeal.nD Cert.JointIdeal.τ).loc Cert.JointIdeal.main_arg5))
      ∧ θ_run (Cert.JointReferenceIdeal.defs (F := Ideal)) (onTc (τ := Cert.JointReferenceIdeal.τ) (Cert.JointReferenceIdeal.main (F := Ideal))) ⟨m', fun _ => 0, g'⟩ (fun r => ∀ c : Dev Cert.JointReferenceIdeal.nD,
          r.2.mem ((c.tc : Thread Cert.JointReferenceIdeal.nD Cert.JointReferenceIdeal.τ).loc Cert.JointReferenceIdeal.main_v6) = v0 c
          ∧ r.2.mem ((c.tc : Thread Cert.JointReferenceIdeal.nD Cert.JointReferenceIdeal.τ).loc Cert.JointReferenceIdeal.main_arg0) = m' ((c.tc : Thread Cert.JointReferenceIdeal.nD Cert.JointReferenceIdeal.τ).loc Cert.JointReferenceIdeal.main_arg0)
          ∧ r.2.mem ((c.tc : Thread Cert.JointReferenceIdeal.nD Cert.JointReferenceIdeal.τ).loc Cert.JointReferenceIdeal.main_arg1) = m' ((c.tc : Thread Cert.JointReferenceIdeal.nD Cert.JointReferenceIdeal.τ).loc Cert.JointReferenceIdeal.main_arg1)
          ∧ r.2.mem ((c.tc : Thread Cert.JointReferenceIdeal.nD Cert.JointReferenceIdeal.τ).loc Cert.JointReferenceIdeal.main_arg2) = m' ((c.tc : Thread Cert.JointReferenceIdeal.nD Cert.JointReferenceIdeal.τ).loc Cert.JointReferenceIdeal.main_arg2)
          ∧ r.2.mem ((c.tc : Thread Cert.JointReferenceIdeal.nD Cert.JointReferenceIdeal.τ).loc Cert.JointReferenceIdeal.main_arg3) = m' ((c.tc : Thread Cert.JointReferenceIdeal.nD Cert.JointReferenceIdeal.τ).loc Cert.JointReferenceIdeal.main_arg3)
          ∧ r.2.mem ((c.tc : Thread Cert.JointReferenceIdeal.nD Cert.JointReferenceIdeal.τ).loc Cert.JointReferenceIdeal.main_arg4) = m' ((c.tc : Thread Cert.JointReferenceIdeal.nD Cert.JointReferenceIdeal.τ).loc Cert.JointReferenceIdeal.main_arg4)
          ∧ r.2.mem ((c.tc : Thread Cert.JointReferenceIdeal.nD Cert.JointReferenceIdeal.τ).loc Cert.JointReferenceIdeal.main_arg5) = m' ((c.tc : Thread Cert.JointReferenceIdeal.nD Cert.JointReferenceIdeal.τ).loc Cert.JointReferenceIdeal.main_arg5))

def preserves_Modulation_ModulationIdeal : Prop :=
  True

def algebraic_ModulationIdeal_ModulationReferenceIdeal_pre_finite_conditioning [hModulationIdeal : Cert.ModulationIdeal.Facts] [hModulationReferenceIdeal : Cert.ModulationReferenceIdeal.Facts] [hPre_finite_conditioning : Cert.Pre_finite_conditioning.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal_finite_conditioning m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v5) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def preserves_Context_ContextIdeal : Prop :=
  True

def algebraic_ContextIdeal_ContextReferenceIdeal_pre_finite_context_queries_and_keys [hContextIdeal : Cert.ContextIdeal.Facts] [hContextReferenceIdeal : Cert.ContextReferenceIdeal.Facts] [hPre_finite_context_queries_and_keys : Cert.Pre_finite_context_queries_and_keys.Facts] : Prop :=
  ∀ (m : (ℓ : Loc Cert.ContextIdeal.nD Cert.ContextIdeal.τ Cert.ContextIdeal.sig) → Buf (Elt Ideal) ℓ) (g : Dev Cert.ContextIdeal.nD → PrngReg)
    (m' : (ℓ : Loc Cert.ContextReferenceIdeal.nD Cert.ContextReferenceIdeal.τ Cert.ContextReferenceIdeal.sig) → Buf (Elt Ideal) ℓ) (g' : Dev Cert.ContextReferenceIdeal.nD → PrngReg), Pre_ContextIdeal_finite_context_queries_and_keys m →
    (∀ c : Dev Cert.ContextIdeal.nD,
      m' ((c.tc : Thread Cert.ContextReferenceIdeal.nD Cert.ContextReferenceIdeal.τ).loc Cert.ContextReferenceIdeal.main_arg0) = m ((c.tc : Thread Cert.ContextIdeal.nD Cert.ContextIdeal.τ).loc Cert.ContextIdeal.main_arg0)
      ∧ m' ((c.tc : Thread Cert.ContextReferenceIdeal.nD Cert.ContextReferenceIdeal.τ).loc Cert.ContextReferenceIdeal.main_arg1) = m ((c.tc : Thread Cert.ContextIdeal.nD Cert.ContextIdeal.τ).loc Cert.ContextIdeal.main_arg1)
      ∧ m' ((c.tc : Thread Cert.ContextReferenceIdeal.nD Cert.ContextReferenceIdeal.τ).loc Cert.ContextReferenceIdeal.main_arg2) = m ((c.tc : Thread Cert.ContextIdeal.nD Cert.ContextIdeal.τ).loc Cert.ContextIdeal.main_arg2)) →
    ∃ (v0 : (c : Dev Cert.ContextIdeal.nD) → Buf (Elt Ideal) ((c.tc : Thread Cert.ContextIdeal.nD Cert.ContextIdeal.τ).loc Cert.ContextIdeal.main_v0)),
      θ_run (Cert.ContextIdeal.defs (F := Ideal)) (onTc (τ := Cert.ContextIdeal.τ) (Cert.ContextIdeal.main (F := Ideal))) ⟨m, fun _ => 0, g⟩ (fun r => ∀ c : Dev Cert.ContextIdeal.nD,
          r.2.mem ((c.tc : Thread Cert.ContextIdeal.nD Cert.ContextIdeal.τ).loc Cert.ContextIdeal.main_v0) = v0 c
          ∧ r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
          ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
          ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2))
      ∧ θ_run (Cert.ContextReferenceIdeal.defs (F := Ideal)) (onTc (τ := Cert.ContextReferenceIdeal.τ) (Cert.ContextReferenceIdeal.main (F := Ideal))) ⟨m', fun _ => 0, g'⟩ (fun r => ∀ c : Dev Cert.ContextReferenceIdeal.nD,
          r.2.mem ((c.tc : Thread Cert.ContextReferenceIdeal.nD Cert.ContextReferenceIdeal.τ).loc Cert.ContextReferenceIdeal.main_v24) = v0 c
          ∧ r.2.mem ((c.tc : Thread Cert.ContextReferenceIdeal.nD Cert.ContextReferenceIdeal.τ).loc Cert.ContextReferenceIdeal.main_arg0) = m' ((c.tc : Thread Cert.ContextReferenceIdeal.nD Cert.ContextReferenceIdeal.τ).loc Cert.ContextReferenceIdeal.main_arg0)
          ∧ r.2.mem ((c.tc : Thread Cert.ContextReferenceIdeal.nD Cert.ContextReferenceIdeal.τ).loc Cert.ContextReferenceIdeal.main_arg1) = m' ((c.tc : Thread Cert.ContextReferenceIdeal.nD Cert.ContextReferenceIdeal.τ).loc Cert.ContextReferenceIdeal.main_arg1)
          ∧ r.2.mem ((c.tc : Thread Cert.ContextReferenceIdeal.nD Cert.ContextReferenceIdeal.τ).loc Cert.ContextReferenceIdeal.main_arg2) = m' ((c.tc : Thread Cert.ContextReferenceIdeal.nD Cert.ContextReferenceIdeal.τ).loc Cert.ContextReferenceIdeal.main_arg2))

def preserves_ContextGrouped_ContextGroupedIdeal : Prop :=
  True

def algebraic_ContextGroupedIdeal_ContextGroupedReferenceIdeal_pre_finite_context_grouped_queries_and_keys [hContextGroupedIdeal : Cert.ContextGroupedIdeal.Facts] [hContextGroupedReferenceIdeal : Cert.ContextGroupedReferenceIdeal.Facts] [hPre_finite_context_grouped_queries_and_keys : Cert.Pre_finite_context_grouped_queries_and_keys.Facts] : Prop :=
  ∀ (m : (ℓ : Loc Cert.ContextGroupedIdeal.nD Cert.ContextGroupedIdeal.τ Cert.ContextGroupedIdeal.sig) → Buf (Elt Ideal) ℓ) (g : Dev Cert.ContextGroupedIdeal.nD → PrngReg)
    (m' : (ℓ : Loc Cert.ContextGroupedReferenceIdeal.nD Cert.ContextGroupedReferenceIdeal.τ Cert.ContextGroupedReferenceIdeal.sig) → Buf (Elt Ideal) ℓ) (g' : Dev Cert.ContextGroupedReferenceIdeal.nD → PrngReg), Pre_ContextGroupedIdeal_finite_context_grouped_queries_and_keys m →
    (∀ c : Dev Cert.ContextGroupedIdeal.nD,
      m' ((c.tc : Thread Cert.ContextGroupedReferenceIdeal.nD Cert.ContextGroupedReferenceIdeal.τ).loc Cert.ContextGroupedReferenceIdeal.main_arg0) = m ((c.tc : Thread Cert.ContextGroupedIdeal.nD Cert.ContextGroupedIdeal.τ).loc Cert.ContextGroupedIdeal.main_arg0)
      ∧ m' ((c.tc : Thread Cert.ContextGroupedReferenceIdeal.nD Cert.ContextGroupedReferenceIdeal.τ).loc Cert.ContextGroupedReferenceIdeal.main_arg1) = m ((c.tc : Thread Cert.ContextGroupedIdeal.nD Cert.ContextGroupedIdeal.τ).loc Cert.ContextGroupedIdeal.main_arg1)
      ∧ m' ((c.tc : Thread Cert.ContextGroupedReferenceIdeal.nD Cert.ContextGroupedReferenceIdeal.τ).loc Cert.ContextGroupedReferenceIdeal.main_arg2) = m ((c.tc : Thread Cert.ContextGroupedIdeal.nD Cert.ContextGroupedIdeal.τ).loc Cert.ContextGroupedIdeal.main_arg2)) →
    ∃ (v0 : (c : Dev Cert.ContextGroupedIdeal.nD) → Buf (Elt Ideal) ((c.tc : Thread Cert.ContextGroupedIdeal.nD Cert.ContextGroupedIdeal.τ).loc Cert.ContextGroupedIdeal.main_v0)),
      θ_run (Cert.ContextGroupedIdeal.defs (F := Ideal)) (onTc (τ := Cert.ContextGroupedIdeal.τ) (Cert.ContextGroupedIdeal.main (F := Ideal))) ⟨m, fun _ => 0, g⟩ (fun r => ∀ c : Dev Cert.ContextGroupedIdeal.nD,
          r.2.mem ((c.tc : Thread Cert.ContextGroupedIdeal.nD Cert.ContextGroupedIdeal.τ).loc Cert.ContextGroupedIdeal.main_v0) = v0 c
          ∧ r.2.mem ((c.tc : Thread Cert.ContextGroupedIdeal.nD Cert.ContextGroupedIdeal.τ).loc Cert.ContextGroupedIdeal.main_arg0) = m ((c.tc : Thread Cert.ContextGroupedIdeal.nD Cert.ContextGroupedIdeal.τ).loc Cert.ContextGroupedIdeal.main_arg0)
          ∧ r.2.mem ((c.tc : Thread Cert.ContextGroupedIdeal.nD Cert.ContextGroupedIdeal.τ).loc Cert.ContextGroupedIdeal.main_arg1) = m ((c.tc : Thread Cert.ContextGroupedIdeal.nD Cert.ContextGroupedIdeal.τ).loc Cert.ContextGroupedIdeal.main_arg1)
          ∧ r.2.mem ((c.tc : Thread Cert.ContextGroupedIdeal.nD Cert.ContextGroupedIdeal.τ).loc Cert.ContextGroupedIdeal.main_arg2) = m ((c.tc : Thread Cert.ContextGroupedIdeal.nD Cert.ContextGroupedIdeal.τ).loc Cert.ContextGroupedIdeal.main_arg2))
      ∧ θ_run (Cert.ContextGroupedReferenceIdeal.defs (F := Ideal)) (onTc (τ := Cert.ContextGroupedReferenceIdeal.τ) (Cert.ContextGroupedReferenceIdeal.main (F := Ideal))) ⟨m', fun _ => 0, g'⟩ (fun r => ∀ c : Dev Cert.ContextGroupedReferenceIdeal.nD,
          r.2.mem ((c.tc : Thread Cert.ContextGroupedReferenceIdeal.nD Cert.ContextGroupedReferenceIdeal.τ).loc Cert.ContextGroupedReferenceIdeal.main_v28) = v0 c
          ∧ r.2.mem ((c.tc : Thread Cert.ContextGroupedReferenceIdeal.nD Cert.ContextGroupedReferenceIdeal.τ).loc Cert.ContextGroupedReferenceIdeal.main_arg0) = m' ((c.tc : Thread Cert.ContextGroupedReferenceIdeal.nD Cert.ContextGroupedReferenceIdeal.τ).loc Cert.ContextGroupedReferenceIdeal.main_arg0)
          ∧ r.2.mem ((c.tc : Thread Cert.ContextGroupedReferenceIdeal.nD Cert.ContextGroupedReferenceIdeal.τ).loc Cert.ContextGroupedReferenceIdeal.main_arg1) = m' ((c.tc : Thread Cert.ContextGroupedReferenceIdeal.nD Cert.ContextGroupedReferenceIdeal.τ).loc Cert.ContextGroupedReferenceIdeal.main_arg1)
          ∧ r.2.mem ((c.tc : Thread Cert.ContextGroupedReferenceIdeal.nD Cert.ContextGroupedReferenceIdeal.τ).loc Cert.ContextGroupedReferenceIdeal.main_arg2) = m' ((c.tc : Thread Cert.ContextGroupedReferenceIdeal.nD Cert.ContextGroupedReferenceIdeal.τ).loc Cert.ContextGroupedReferenceIdeal.main_arg2))

def preserves_JointContext_JointContextIdeal : Prop :=
  True

def algebraic_JointContextIdeal_JointContextReferenceIdeal [hJointContextIdeal : Cert.JointContextIdeal.Facts] [hJointContextReferenceIdeal : Cert.JointContextReferenceIdeal.Facts] : Prop :=
  ∀ (m : (ℓ : Loc Cert.JointContextIdeal.nD Cert.JointContextIdeal.τ Cert.JointContextIdeal.sig) → Buf (Elt Ideal) ℓ) (g : Dev Cert.JointContextIdeal.nD → PrngReg)
    (m' : (ℓ : Loc Cert.JointContextReferenceIdeal.nD Cert.JointContextReferenceIdeal.τ Cert.JointContextReferenceIdeal.sig) → Buf (Elt Ideal) ℓ) (g' : Dev Cert.JointContextReferenceIdeal.nD → PrngReg), Pre_JointContextIdeal m →
    (∀ c : Dev Cert.JointContextIdeal.nD,
      m' ((c.tc : Thread Cert.JointContextReferenceIdeal.nD Cert.JointContextReferenceIdeal.τ).loc Cert.JointContextReferenceIdeal.main_arg0) = m ((c.tc : Thread Cert.JointContextIdeal.nD Cert.JointContextIdeal.τ).loc Cert.JointContextIdeal.main_arg0)
      ∧ m' ((c.tc : Thread Cert.JointContextReferenceIdeal.nD Cert.JointContextReferenceIdeal.τ).loc Cert.JointContextReferenceIdeal.main_arg1) = m ((c.tc : Thread Cert.JointContextIdeal.nD Cert.JointContextIdeal.τ).loc Cert.JointContextIdeal.main_arg1)
      ∧ m' ((c.tc : Thread Cert.JointContextReferenceIdeal.nD Cert.JointContextReferenceIdeal.τ).loc Cert.JointContextReferenceIdeal.main_arg2) = m ((c.tc : Thread Cert.JointContextIdeal.nD Cert.JointContextIdeal.τ).loc Cert.JointContextIdeal.main_arg2)
      ∧ m' ((c.tc : Thread Cert.JointContextReferenceIdeal.nD Cert.JointContextReferenceIdeal.τ).loc Cert.JointContextReferenceIdeal.main_arg3) = m ((c.tc : Thread Cert.JointContextIdeal.nD Cert.JointContextIdeal.τ).loc Cert.JointContextIdeal.main_arg3)
      ∧ m' ((c.tc : Thread Cert.JointContextReferenceIdeal.nD Cert.JointContextReferenceIdeal.τ).loc Cert.JointContextReferenceIdeal.main_arg4) = m ((c.tc : Thread Cert.JointContextIdeal.nD Cert.JointContextIdeal.τ).loc Cert.JointContextIdeal.main_arg4)
      ∧ m' ((c.tc : Thread Cert.JointContextReferenceIdeal.nD Cert.JointContextReferenceIdeal.τ).loc Cert.JointContextReferenceIdeal.main_arg5) = m ((c.tc : Thread Cert.JointContextIdeal.nD Cert.JointContextIdeal.τ).loc Cert.JointContextIdeal.main_arg5)) →
    ∃ (v0 : (c : Dev Cert.JointContextIdeal.nD) → Buf (Elt Ideal) ((c.tc : Thread Cert.JointContextIdeal.nD Cert.JointContextIdeal.τ).loc Cert.JointContextIdeal.main_v0)),
      θ_run (Cert.JointContextIdeal.defs (F := Ideal)) (onTc (τ := Cert.JointContextIdeal.τ) (Cert.JointContextIdeal.main (F := Ideal))) ⟨m, fun _ => 0, g⟩ (fun r => ∀ c : Dev Cert.JointContextIdeal.nD,
          r.2.mem ((c.tc : Thread Cert.JointContextIdeal.nD Cert.JointContextIdeal.τ).loc Cert.JointContextIdeal.main_v0) = v0 c
          ∧ r.2.mem ((c.tc : Thread Cert.JointContextIdeal.nD Cert.JointContextIdeal.τ).loc Cert.JointContextIdeal.main_arg0) = m ((c.tc : Thread Cert.JointContextIdeal.nD Cert.JointContextIdeal.τ).loc Cert.JointContextIdeal.main_arg0)
          ∧ r.2.mem ((c.tc : Thread Cert.JointContextIdeal.nD Cert.JointContextIdeal.τ).loc Cert.JointContextIdeal.main_arg1) = m ((c.tc : Thread Cert.JointContextIdeal.nD Cert.JointContextIdeal.τ).loc Cert.JointContextIdeal.main_arg1)
          ∧ r.2.mem ((c.tc : Thread Cert.JointContextIdeal.nD Cert.JointContextIdeal.τ).loc Cert.JointContextIdeal.main_arg2) = m ((c.tc : Thread Cert.JointContextIdeal.nD Cert.JointContextIdeal.τ).loc Cert.JointContextIdeal.main_arg2)
          ∧ r.2.mem ((c.tc : Thread Cert.JointContextIdeal.nD Cert.JointContextIdeal.τ).loc Cert.JointContextIdeal.main_arg3) = m ((c.tc : Thread Cert.JointContextIdeal.nD Cert.JointContextIdeal.τ).loc Cert.JointContextIdeal.main_arg3)
          ∧ r.2.mem ((c.tc : Thread Cert.JointContextIdeal.nD Cert.JointContextIdeal.τ).loc Cert.JointContextIdeal.main_arg4) = m ((c.tc : Thread Cert.JointContextIdeal.nD Cert.JointContextIdeal.τ).loc Cert.JointContextIdeal.main_arg4)
          ∧ r.2.mem ((c.tc : Thread Cert.JointContextIdeal.nD Cert.JointContextIdeal.τ).loc Cert.JointContextIdeal.main_arg5) = m ((c.tc : Thread Cert.JointContextIdeal.nD Cert.JointContextIdeal.τ).loc Cert.JointContextIdeal.main_arg5))
      ∧ θ_run (Cert.JointContextReferenceIdeal.defs (F := Ideal)) (onTc (τ := Cert.JointContextReferenceIdeal.τ) (Cert.JointContextReferenceIdeal.main (F := Ideal))) ⟨m', fun _ => 0, g'⟩ (fun r => ∀ c : Dev Cert.JointContextReferenceIdeal.nD,
          r.2.mem ((c.tc : Thread Cert.JointContextReferenceIdeal.nD Cert.JointContextReferenceIdeal.τ).loc Cert.JointContextReferenceIdeal.main_v6) = v0 c
          ∧ r.2.mem ((c.tc : Thread Cert.JointContextReferenceIdeal.nD Cert.JointContextReferenceIdeal.τ).loc Cert.JointContextReferenceIdeal.main_arg0) = m' ((c.tc : Thread Cert.JointContextReferenceIdeal.nD Cert.JointContextReferenceIdeal.τ).loc Cert.JointContextReferenceIdeal.main_arg0)
          ∧ r.2.mem ((c.tc : Thread Cert.JointContextReferenceIdeal.nD Cert.JointContextReferenceIdeal.τ).loc Cert.JointContextReferenceIdeal.main_arg1) = m' ((c.tc : Thread Cert.JointContextReferenceIdeal.nD Cert.JointContextReferenceIdeal.τ).loc Cert.JointContextReferenceIdeal.main_arg1)
          ∧ r.2.mem ((c.tc : Thread Cert.JointContextReferenceIdeal.nD Cert.JointContextReferenceIdeal.τ).loc Cert.JointContextReferenceIdeal.main_arg2) = m' ((c.tc : Thread Cert.JointContextReferenceIdeal.nD Cert.JointContextReferenceIdeal.τ).loc Cert.JointContextReferenceIdeal.main_arg2)
          ∧ r.2.mem ((c.tc : Thread Cert.JointContextReferenceIdeal.nD Cert.JointContextReferenceIdeal.τ).loc Cert.JointContextReferenceIdeal.main_arg3) = m' ((c.tc : Thread Cert.JointContextReferenceIdeal.nD Cert.JointContextReferenceIdeal.τ).loc Cert.JointContextReferenceIdeal.main_arg3)
          ∧ r.2.mem ((c.tc : Thread Cert.JointContextReferenceIdeal.nD Cert.JointContextReferenceIdeal.τ).loc Cert.JointContextReferenceIdeal.main_arg4) = m' ((c.tc : Thread Cert.JointContextReferenceIdeal.nD Cert.JointContextReferenceIdeal.τ).loc Cert.JointContextReferenceIdeal.main_arg4)
          ∧ r.2.mem ((c.tc : Thread Cert.JointContextReferenceIdeal.nD Cert.JointContextReferenceIdeal.τ).loc Cert.JointContextReferenceIdeal.main_arg5) = m' ((c.tc : Thread Cert.JointContextReferenceIdeal.nD Cert.JointContextReferenceIdeal.τ).loc Cert.JointContextReferenceIdeal.main_arg5))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)
      ∧ m' ((c.tc : Thread Cert.ProjectionReferenceIdeal.nD Cert.ProjectionReferenceIdeal.τ).loc Cert.ProjectionReferenceIdeal.main_arg4) = m ((c.tc : Thread Cert.ProjectionIdeal.nD Cert.ProjectionIdeal.τ).loc Cert.ProjectionIdeal.main_arg4)
      ∧ m' ((c.tc : Thread Cert.ProjectionReferenceIdeal.nD Cert.ProjectionReferenceIdeal.τ).loc Cert.ProjectionReferenceIdeal.main_arg5) = m ((c.tc : Thread Cert.ProjectionIdeal.nD Cert.ProjectionIdeal.τ).loc Cert.ProjectionIdeal.main_arg5)
      ∧ m' ((c.tc : Thread Cert.ProjectionReferenceIdeal.nD Cert.ProjectionReferenceIdeal.τ).loc Cert.ProjectionReferenceIdeal.main_arg6) = m ((c.tc : Thread Cert.ProjectionIdeal.nD Cert.ProjectionIdeal.τ).loc Cert.ProjectionIdeal.main_arg6)
      ∧ m' ((c.tc : Thread Cert.ProjectionReferenceIdeal.nD Cert.ProjectionReferenceIdeal.τ).loc Cert.ProjectionReferenceIdeal.main_arg7) = m ((c.tc : Thread Cert.ProjectionIdeal.nD Cert.ProjectionIdeal.τ).loc Cert.ProjectionIdeal.main_arg7)) →
    ∃ (v0 : (c : Dev Cert.ProjectionIdeal.nD) → Buf (Elt Ideal) ((c.tc : Thread Cert.ProjectionIdeal.nD Cert.ProjectionIdeal.τ).loc Cert.ProjectionIdeal.main_v4_2)) (v1 : (c : Dev Cert.ProjectionIdeal.nD) → Buf (Elt Ideal) ((c.tc : Thread Cert.ProjectionIdeal.nD Cert.ProjectionIdeal.τ).loc Cert.ProjectionIdeal.main_v4_3)) (v2 : (c : Dev Cert.ProjectionIdeal.nD) → Buf (Elt Ideal) ((c.tc : Thread Cert.ProjectionIdeal.nD Cert.ProjectionIdeal.τ).loc Cert.ProjectionIdeal.main_v4_4)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v4_2) = v0 c
          ∧ r.2.mem ((c.tc : Thread Cert.ProjectionIdeal.nD Cert.ProjectionIdeal.τ).loc Cert.ProjectionIdeal.main_v4_3) = v1 c
          ∧ r.2.mem ((c.tc : Thread Cert.ProjectionIdeal.nD Cert.ProjectionIdeal.τ).loc Cert.ProjectionIdeal.main_v4_4) = v2 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
          ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
          ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6)
          ∧ r.2.mem ((c.tc : Thread Cert.ProjectionIdeal.nD Cert.ProjectionIdeal.τ).loc Cert.ProjectionIdeal.main_arg7) = m ((c.tc : Thread Cert.ProjectionIdeal.nD Cert.ProjectionIdeal.τ).loc Cert.ProjectionIdeal.main_arg7))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v51) = v0 c
          ∧ r.2.mem ((c.tc : Thread Cert.ProjectionReferenceIdeal.nD Cert.ProjectionReferenceIdeal.τ).loc Cert.ProjectionReferenceIdeal.main_v52) = v1 c
          ∧ r.2.mem ((c.tc : Thread Cert.ProjectionReferenceIdeal.nD Cert.ProjectionReferenceIdeal.τ).loc Cert.ProjectionReferenceIdeal.main_v53) = v2 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3)
          ∧ r.2.mem ((c.tc : Thread Cert.ProjectionReferenceIdeal.nD Cert.ProjectionReferenceIdeal.τ).loc Cert.ProjectionReferenceIdeal.main_arg4) = m' ((c.tc : Thread Cert.ProjectionReferenceIdeal.nD Cert.ProjectionReferenceIdeal.τ).loc Cert.ProjectionReferenceIdeal.main_arg4)
          ∧ r.2.mem ((c.tc : Thread Cert.ProjectionReferenceIdeal.nD Cert.ProjectionReferenceIdeal.τ).loc Cert.ProjectionReferenceIdeal.main_arg5) = m' ((c.tc : Thread Cert.ProjectionReferenceIdeal.nD Cert.ProjectionReferenceIdeal.τ).loc Cert.ProjectionReferenceIdeal.main_arg5)
          ∧ r.2.mem ((c.tc : Thread Cert.ProjectionReferenceIdeal.nD Cert.ProjectionReferenceIdeal.τ).loc Cert.ProjectionReferenceIdeal.main_arg6) = m' ((c.tc : Thread Cert.ProjectionReferenceIdeal.nD Cert.ProjectionReferenceIdeal.τ).loc Cert.ProjectionReferenceIdeal.main_arg6)
          ∧ r.2.mem ((c.tc : Thread Cert.ProjectionReferenceIdeal.nD Cert.ProjectionReferenceIdeal.τ).loc Cert.ProjectionReferenceIdeal.main_arg7) = m' ((c.tc : Thread Cert.ProjectionReferenceIdeal.nD Cert.ProjectionReferenceIdeal.τ).loc Cert.ProjectionReferenceIdeal.main_arg7))

def Claim : Prop :=
  ∃ (hKernel : Cert.Kernel.Facts) (hKernelIdeal : Cert.KernelIdeal.Facts) (hReferenceIdeal : Cert.ReferenceIdeal.Facts) (hGrouped : Cert.Grouped.Facts) (hGroupedIdeal : Cert.GroupedIdeal.Facts) (hGroupedReferenceIdeal : Cert.GroupedReferenceIdeal.Facts) (hOutput : Cert.Output.Facts) (hOutputIdeal : Cert.OutputIdeal.Facts) (hOutputReferenceIdeal : Cert.OutputReferenceIdeal.Facts) (hJoint : Cert.Joint.Facts) (hJointIdeal : Cert.JointIdeal.Facts) (hJointReferenceIdeal : Cert.JointReferenceIdeal.Facts) (hModulation : Cert.Modulation.Facts) (hModulationIdeal : Cert.ModulationIdeal.Facts) (hModulationReferenceIdeal : Cert.ModulationReferenceIdeal.Facts) (hContext : Cert.Context.Facts) (hContextIdeal : Cert.ContextIdeal.Facts) (hContextReferenceIdeal : Cert.ContextReferenceIdeal.Facts) (hContextGrouped : Cert.ContextGrouped.Facts) (hContextGroupedIdeal : Cert.ContextGroupedIdeal.Facts) (hContextGroupedReferenceIdeal : Cert.ContextGroupedReferenceIdeal.Facts) (hJointContext : Cert.JointContext.Facts) (hJointContextIdeal : Cert.JointContextIdeal.Facts) (hJointContextReferenceIdeal : Cert.JointContextReferenceIdeal.Facts) (hProjection : Cert.Projection.Facts) (hProjectionIdeal : Cert.ProjectionIdeal.Facts) (hProjectionReferenceIdeal : Cert.ProjectionReferenceIdeal.Facts) (hPre_finite_queries_and_keys : Cert.Pre_finite_queries_and_keys.Facts) (hPre_finite_grouped_queries_and_keys : Cert.Pre_finite_grouped_queries_and_keys.Facts) (hPre_finite_conditioning : Cert.Pre_finite_conditioning.Facts) (hPre_finite_context_queries_and_keys : Cert.Pre_finite_context_queries_and_keys.Facts) (hPre_finite_context_grouped_queries_and_keys : Cert.Pre_finite_context_grouped_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Grouped (hGrouped := hGrouped)
    ∧ quiescent_GroupedIdeal (hGroupedIdeal := hGroupedIdeal)
    ∧ quiescent_GroupedIdeal_pre_finite_grouped_queries_and_keys (hGroupedIdeal := hGroupedIdeal) (hPre_finite_grouped_queries_and_keys := hPre_finite_grouped_queries_and_keys)
    ∧ quiescent_GroupedReferenceIdeal (hGroupedReferenceIdeal := hGroupedReferenceIdeal)
    ∧ quiescent_GroupedReferenceIdeal_pre_finite_grouped_queries_and_keys (hGroupedReferenceIdeal := hGroupedReferenceIdeal) (hPre_finite_grouped_queries_and_keys := hPre_finite_grouped_queries_and_keys)
    ∧ quiescent_Output (hOutput := hOutput)
    ∧ quiescent_OutputIdeal (hOutputIdeal := hOutputIdeal)
    ∧ quiescent_OutputReferenceIdeal (hOutputReferenceIdeal := hOutputReferenceIdeal)
    ∧ quiescent_Joint (hJoint := hJoint)
    ∧ quiescent_JointIdeal (hJointIdeal := hJointIdeal)
    ∧ quiescent_JointReferenceIdeal (hJointReferenceIdeal := hJointReferenceIdeal)
    ∧ quiescent_Modulation (hModulation := hModulation)
    ∧ quiescent_ModulationIdeal (hModulationIdeal := hModulationIdeal)
    ∧ quiescent_ModulationIdeal_pre_finite_conditioning (hModulationIdeal := hModulationIdeal) (hPre_finite_conditioning := hPre_finite_conditioning)
    ∧ quiescent_ModulationReferenceIdeal (hModulationReferenceIdeal := hModulationReferenceIdeal)
    ∧ quiescent_ModulationReferenceIdeal_pre_finite_conditioning (hModulationReferenceIdeal := hModulationReferenceIdeal) (hPre_finite_conditioning := hPre_finite_conditioning)
    ∧ quiescent_Context (hContext := hContext)
    ∧ quiescent_ContextIdeal (hContextIdeal := hContextIdeal)
    ∧ quiescent_ContextIdeal_pre_finite_context_queries_and_keys (hContextIdeal := hContextIdeal) (hPre_finite_context_queries_and_keys := hPre_finite_context_queries_and_keys)
    ∧ quiescent_ContextReferenceIdeal (hContextReferenceIdeal := hContextReferenceIdeal)
    ∧ quiescent_ContextReferenceIdeal_pre_finite_context_queries_and_keys (hContextReferenceIdeal := hContextReferenceIdeal) (hPre_finite_context_queries_and_keys := hPre_finite_context_queries_and_keys)
    ∧ quiescent_ContextGrouped (hContextGrouped := hContextGrouped)
    ∧ quiescent_ContextGroupedIdeal (hContextGroupedIdeal := hContextGroupedIdeal)
    ∧ quiescent_ContextGroupedIdeal_pre_finite_context_grouped_queries_and_keys (hContextGroupedIdeal := hContextGroupedIdeal) (hPre_finite_context_grouped_queries_and_keys := hPre_finite_context_grouped_queries_and_keys)
    ∧ quiescent_ContextGroupedReferenceIdeal (hContextGroupedReferenceIdeal := hContextGroupedReferenceIdeal)
    ∧ quiescent_ContextGroupedReferenceIdeal_pre_finite_context_grouped_queries_and_keys (hContextGroupedReferenceIdeal := hContextGroupedReferenceIdeal) (hPre_finite_context_grouped_queries_and_keys := hPre_finite_context_grouped_queries_and_keys)
    ∧ quiescent_JointContext (hJointContext := hJointContext)
    ∧ quiescent_JointContextIdeal (hJointContextIdeal := hJointContextIdeal)
    ∧ quiescent_JointContextReferenceIdeal (hJointContextReferenceIdeal := hJointContextReferenceIdeal)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Grouped_GroupedIdeal
    ∧ algebraic_GroupedIdeal_GroupedReferenceIdeal_pre_finite_grouped_queries_and_keys (hGroupedIdeal := hGroupedIdeal) (hGroupedReferenceIdeal := hGroupedReferenceIdeal) (hPre_finite_grouped_queries_and_keys := hPre_finite_grouped_queries_and_keys)
    ∧ preserves_Output_OutputIdeal
    ∧ algebraic_OutputIdeal_OutputReferenceIdeal (hOutputIdeal := hOutputIdeal) (hOutputReferenceIdeal := hOutputReferenceIdeal)
    ∧ preserves_Joint_JointIdeal
    ∧ algebraic_JointIdeal_JointReferenceIdeal (hJointIdeal := hJointIdeal) (hJointReferenceIdeal := hJointReferenceIdeal)
    ∧ preserves_Modulation_ModulationIdeal
    ∧ algebraic_ModulationIdeal_ModulationReferenceIdeal_pre_finite_conditioning (hModulationIdeal := hModulationIdeal) (hModulationReferenceIdeal := hModulationReferenceIdeal) (hPre_finite_conditioning := hPre_finite_conditioning)
    ∧ preserves_Context_ContextIdeal
    ∧ algebraic_ContextIdeal_ContextReferenceIdeal_pre_finite_context_queries_and_keys (hContextIdeal := hContextIdeal) (hContextReferenceIdeal := hContextReferenceIdeal) (hPre_finite_context_queries_and_keys := hPre_finite_context_queries_and_keys)
    ∧ preserves_ContextGrouped_ContextGroupedIdeal
    ∧ algebraic_ContextGroupedIdeal_ContextGroupedReferenceIdeal_pre_finite_context_grouped_queries_and_keys (hContextGroupedIdeal := hContextGroupedIdeal) (hContextGroupedReferenceIdeal := hContextGroupedReferenceIdeal) (hPre_finite_context_grouped_queries_and_keys := hPre_finite_context_grouped_queries_and_keys)
    ∧ preserves_JointContext_JointContextIdeal
    ∧ algebraic_JointContextIdeal_JointContextReferenceIdeal (hJointContextIdeal := hJointContextIdeal) (hJointContextReferenceIdeal := hJointContextReferenceIdeal)
    ∧ preserves_Projection_ProjectionIdeal
    ∧ algebraic_ProjectionIdeal_ProjectionReferenceIdeal (hProjectionIdeal := hProjectionIdeal) (hProjectionReferenceIdeal := hProjectionReferenceIdeal)
-- ==== Pre_finite_conditioning.lean ====
abbrev S8x1024 : Shape := ⟨2, ![8, 1024]⟩
abbrev S2x1024x3072 : Shape := ⟨3, ![2, 1024, 3072]⟩
abbrev S2x3072 : Shape := ⟨2, ![2, 3072]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel

variable [Facts]

def fn {F : FTy → Type} [FloatOps F] (main_arg0 : FVec F S8x1024 .f32) (main_arg1 : FVec F S2x1024x3072 .f32) (main_arg2 : FVec F S2x3072 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  main_v3
-- ==== Pre_finite_context_grouped_queries_and_keys.lean ====
abbrev S2x8x128x17408 : Shape := ⟨4, ![2, 8, 128, 17408]⟩
abbrev S2x1x17408x128 : Shape := ⟨4, ![2, 1, 17408, 128]⟩
abbrev S2x2x64x17408 : Shape := ⟨4, ![2, 2, 64, 17408]⟩
abbrev S2x8x128x256 : Shape := ⟨4, ![2, 8, 128, 256]⟩
abbrev S2x1x256x128 : Shape := ⟨4, ![2, 1, 256, 128]⟩
abbrev S2x256x128 : Shape := ⟨3, ![2, 256, 128]⟩
abbrev S_ : Shape := ⟨0, ![]⟩

class Facts : Prop where
  slices_S2x8x128x17408_S2x8x128x256_0_0_0_16384 : S2x8x128x17408.Slices ![0, 0, 0, 16384] S2x8x128x256
  bitsLt_bf16_f32 : FTy.bits .bf16 < FTy.bits .f32
  slices_S2x1x17408x128_S2x1x256x128_0_0_16384_0 : S2x1x17408x128.Slices ![0, 0, 16384, 0] S2x1x256x128
  shapeCasts_S2x1x256x128_S2x256x128 : S2x1x256x128.ShapeCasts S2x256x128
  bcast_S_S2x8x128x256 : S_.BroadcastsInDim S2x8x128x256 (![] : Fin 0 → Fin S2x8x128x256.rank)
  reducesTo_S2x8x128x256_S_d0_1_2_3 : S2x8x128x256.ReducesTo [0, 1, 2, 3] S_
  h_S_ : 0 < S_.numel
  bcast_S_S2x256x128 : S_.BroadcastsInDim S2x256x128 (![] : Fin 0 → Fin S2x256x128.rank)
  reducesTo_S2x256x128_S_d0_1_2 : S2x256x128.ReducesTo [0, 1, 2] S_

variable [Facts]

def fn {F : FTy → Type} [FloatOps F] (main_arg0 : FVec F S2x8x128x17408 .bf16) (main_arg1 : FVec F S2x1x17408x128 .bf16) (main_arg2 : FVec F S2x2x64x17408 .bf16) : IVec S_ 1 :=
  let main_v0 : FVec F S2x8x128x256 .bf16 := (extractStridedSlice S2x8x128x256 ![0, 0, 0, 16384] · slices_S2x8x128x17408_S2x8x128x256_0_0_0_16384) main_arg0
  let main_v1 : FVec F S2x8x128x256 .f32 := (extf .f32 · bitsLt_bf16_f32) main_v0
  let main_v2 : FVec F S2x1x256x128 .bf16 := (extractStridedSlice S2x1x256x128 ![0, 0, 16384, 0] · slices_S2x1x17408x128_S2x1x256x128_0_0_16384_0) main_arg1
  let main_v3 : FVec F S2x256x128 .bf16 := shapeCast S2x256x128 main_v2 shapeCasts_S2x1x256x128_S2x256x128
  let main_v4 : FVec F S2x256x128 .f32 := (extf .f32 · bitsLt_bf16_f32) main_v3
  let main_v5 : FVec F S2x8x128x256 .f32 := Host.absf main_v1
  let main_cst : FVec F S_ .f32 := constant S_ .f32 0x7F800000#32
  let main_v6 : FVec F S2x8x128x256 .f32 := broadcastInDim S2x8x128x256 ![] bcast_S_S2x8x128x256 main_cst
  let main_v7 : IVec S2x8x128x256 1 := cmpf .olt main_v5 main_v6
  let main_c : IVec S_ 1 := constantI S_ 1 1#1
  let main_v8 : IVec S_ 1 := (fun x v => Host.reduce IntOp.andi x v reducesTo_S2x8x128x256_S_d0_1_2_3 h_S_) main_v7 main_c
  let main_v9 : FVec F S2x256x128 .f32 := Host.absf main_v4
  let main_cst_0 : FVec F S_ .f32 := constant S_ .f32 0x7F800000#32
  let main_v10 : FVec F S2x256x128 .f32 := broadcastInDim S2x256x128 ![] bcast_S_S2x256x128 main_cst_0
  let main_v11 : IVec S2x256x128 1 := cmpf .olt main_v9 main_v10
  let main_c_1 : IVec S_ 1 := constantI S_ 1 1#1
  let main_v12 : IVec S_ 1 := (fun x v => Host.reduce IntOp.andi x v reducesTo_S2x256x128_S_d0_1_2 h_S_) main_v11 main_c_1
  let main_v13 : IVec S_ 1 := andi main_v8 main_v12
  main_v13
-- ==== Pre_finite_context_queries_and_keys.lean ====
abbrev S2x8x128x17408 : Shape := ⟨4, ![2, 8, 128, 17408]⟩
abbrev S2x8x17408x128 : Shape := ⟨4, ![2, 8, 17408, 128]⟩
abbrev S2x8x64x17408 : Shape := ⟨4, ![2, 8, 64, 17408]⟩
abbrev S2x8x128x256 : Shape := ⟨4, ![2, 8, 128, 256]⟩
abbrev S2x8x256x128 : Shape := ⟨4, ![2, 8, 256, 128]⟩
abbrev S_ : Shape := ⟨0, ![]⟩

class Facts : Prop where
  slices_S2x8x128x17408_S2x8x128x256_0_0_0_16384 : S2x8x128x17408.Slices ![0, 0, 0, 16384] S2x8x128x256
  bitsLt_bf16_f32 : FTy.bits .bf16 < FTy.bits .f32
  slices_S2x8x17408x128_S2x8x256x128_0_0_16384_0 : S2x8x17408x128.Slices ![0, 0, 16384, 0] S2x8x256x128
  bcast_S_S2x8x128x256 : S_.BroadcastsInDim S2x8x128x256 (![] : Fin 0 → Fin S2x8x128x256.rank)
  reducesTo_S2x8x128x256_S_d0_1_2_3 : S2x8x128x256.ReducesTo [0, 1, 2, 3] S_
  h_S_ : 0 < S_.numel
  bcast_S_S2x8x256x128 : S_.BroadcastsInDim S2x8x256x128 (![] : Fin 0 → Fin S2x8x256x128.rank)
  reducesTo_S2x8x256x128_S_d0_1_2_3 : S2x8x256x128.ReducesTo [0, 1, 2, 3] S_

variable [Facts]

def fn {F : FTy → Type} [FloatOps F] (main_arg0 : FVec F S2x8x128x17408 .bf16) (main_arg1 : FVec F S2x8x17408x128 .bf16) (main_arg2 : FVec F S2x8x64x17408 .bf16) : IVec S_ 1 :=
  let main_v0 : FVec F S2x8x128x256 .bf16 := (extractStridedSlice S2x8x128x256 ![0, 0, 0, 16384] · slices_S2x8x128x17408_S2x8x128x256_0_0_0_16384) main_arg0
  let main_v1 : FVec F S2x8x128x256 .f32 := (extf .f32 · bitsLt_bf16_f32) main_v0
  let main_v2 : FVec F S2x8x256x128 .bf16 := (extractStridedSlice S2x8x256x128 ![0, 0, 16384, 0] · slices_S2x8x17408x128_S2x8x256x128_0_0_16384_0) main_arg1
  let main_v3 : FVec F S2x8x256x128 .f32 := (extf .f32 · bitsLt_bf16_f32) main_v2
  let main_v4 : FVec F S2x8x128x256 .f32 := Host.absf main_v1
  let main_cst : FVec F S_ .f32 := constant S_ .f32 0x7F800000#32
  let main_v5 : FVec F S2x8x128x256 .f32 := broadcastInDim S2x8x128x256 ![] bcast_S_S2x8x128x256 main_cst
  let main_v6 : IVec S2x8x128x256 1 := cmpf .olt main_v4 main_v5
  let main_c : IVec S_ 1 := constantI S_ 1 1#1
  let main_v7 : IVec S_ 1 := (fun x v => Host.reduce IntOp.andi x v reducesTo_S2x8x128x256_S_d0_1_2_3 h_S_) main_v6 main_c
  let main_v8 : FVec F S2x8x256x128 .f32 := Host.absf main_v3
  let main_cst_0 : FVec F S_ .f32 := constant S_ .f32 0x7F800000#32
  let main_v9 : FVec F S2x8x256x128 .f32 := broadcastInDim S2x8x256x128 ![] bcast_S_S2x8x256x128 main_cst_0
  let main_v10 : IVec S2x8x256x128 1 := cmpf .olt main_v8 main_v9
  let main_c_1 : IVec S_ 1 := constantI S_ 1 1#1
  let main_v11 : IVec S_ 1 := (fun x v => Host.reduce IntOp.andi x v reducesTo_S2x8x256x128_S_d0_1_2_3 h_S_) main_v10 main_c_1
  let main_v12 : IVec S_ 1 := andi main_v7 main_v11
  main_v12
-- ==== Pre_finite_grouped_queries_and_keys.lean ====
abbrev S2x8x128x17408 : Shape := ⟨4, ![2, 8, 128, 17408]⟩
abbrev S2x1x17408x128 : Shape := ⟨4, ![2, 1, 17408, 128]⟩
abbrev S2x2x64x17408 : Shape := ⟨4, ![2, 2, 64, 17408]⟩
abbrev S2x8x128x16384 : Shape := ⟨4, ![2, 8, 128, 16384]⟩
abbrev S2x1x16640x128 : Shape := ⟨4, ![2, 1, 16640, 128]⟩
abbrev S2x16640x128 : Shape := ⟨3, ![2, 16640, 128]⟩
abbrev S_ : Shape := ⟨0, ![]⟩

class Facts : Prop where
  slices_S2x8x128x17408_S2x8x128x16384_0_0_0_0 : S2x8x128x17408.Slices ![0, 0, 0, 0] S2x8x128x16384
  bitsLt_bf16_f32 : FTy.bits .bf16 < FTy.bits .f32
  slices_S2x1x17408x128_S2x1x16640x128_0_0_0_0 : S2x1x17408x128.Slices ![0, 0, 0, 0] S2x1x16640x128
  shapeCasts_S2x1x16640x128_S2x16640x128 : S2x1x16640x128.ShapeCasts S2x16640x128
  bcast_S_S2x8x128x16384 : S_.BroadcastsInDim S2x8x128x16384 (![] : Fin 0 → Fin S2x8x128x16384.rank)
  reducesTo_S2x8x128x16384_S_d0_1_2_3 : S2x8x128x16384.ReducesTo [0, 1, 2, 3] S_
  h_S_ : 0 < S_.numel
  bcast_S_S2x16640x128 : S_.BroadcastsInDim S2x16640x128 (![] : Fin 0 → Fin S2x16640x128.rank)
  reducesTo_S2x16640x128_S_d0_1_2 : S2x16640x128.ReducesTo [0, 1, 2] S_

variable [Facts]

def fn {F : FTy → Type} [FloatOps F] (main_arg0 : FVec F S2x8x128x17408 .bf16) (main_arg1 : FVec F S2x1x17408x128 .bf16) (main_arg2 : FVec F S2x2x64x17408 .bf16) : IVec S_ 1 :=
  let main_v0 : FVec F S2x8x128x16384 .bf16 := (extractStridedSlice S2x8x128x16384 ![0, 0, 0, 0] · slices_S2x8x128x17408_S2x8x128x16384_0_0_0_0) main_arg0
  let main_v1 : FVec F S2x8x128x16384 .f32 := (extf .f32 · bitsLt_bf16_f32) main_v0
  let main_v2 : FVec F S2x1x16640x128 .bf16 := (extractStridedSlice S2x1x16640x128 ![0, 0, 0, 0] · slices_S2x1x17408x128_S2x1x16640x128_0_0_0_0) main_arg1
  let main_v3 : FVec F S2x16640x128 .bf16 := shapeCast S2x16640x128 main_v2 shapeCasts_S2x1x16640x128_S2x16640x128
  let main_v4 : FVec F S2x16640x128 .f32 := (extf .f32 · bitsLt_bf16_f32) main_v3
  let main_v5 : FVec F S2x8x128x16384 .f32 := Host.absf main_v1
  let main_cst : FVec F S_ .f32 := constant S_ .f32 0x7F800000#32
  let main_v6 : FVec F S2x8x128x16384 .f32 := broadcastInDim S2x8x128x16384 ![] bcast_S_S2x8x128x16384 main_cst
  let main_v7 : IVec S2x8x128x16384 1 := cmpf .olt main_v5 main_v6
  let main_c : IVec S_ 1 := constantI S_ 1 1#1
  let main_v8 : IVec S_ 1 := (fun x v => Host.reduce IntOp.andi x v reducesTo_S2x8x128x16384_S_d0_1_2_3 h_S_) main_v7 main_c
  let main_v9 : FVec F S2x16640x128 .f32 := Host.absf main_v4
  let main_cst_0 : FVec F S_ .f32 := constant S_ .f32 0x7F800000#32
  let main_v10 : FVec F S2x16640x128 .f32 := broadcastInDim S2x16640x128 ![] bcast_S_S2x16640x128 main_cst_0
  let main_v11 : IVec S2x16640x128 1 := cmpf .olt main_v9 main_v10
  let main_c_1 : IVec S_ 1 := constantI S_ 1 1#1
  let main_v12 : IVec S_ 1 := (fun x v => Host.reduce IntOp.andi x v reducesTo_S2x16640x128_S_d0_1_2 h_S_) main_v11 main_c_1
  let main_v13 : IVec S_ 1 := andi main_v8 main_v12
  main_v13
-- ==== Pre_finite_queries_and_keys.lean ====
abbrev S2x8x128x17408 : Shape := ⟨4, ![2, 8, 128, 17408]⟩
abbrev S2x8x17408x128 : Shape := ⟨4, ![2, 8, 17408, 128]⟩
abbrev S2x8x64x17408 : Shape := ⟨4, ![2, 8, 64, 17408]⟩
abbrev S2x8x128x16384 : Shape := ⟨4, ![2, 8, 128, 16384]⟩
abbrev S2x8x16640x128 : Shape := ⟨4, ![2, 8, 16640, 128]⟩
abbrev S_ : Shape := ⟨0, ![]⟩

class Facts : Prop where
  slices_S2x8x128x17408_S2x8x128x16384_0_0_0_0 : S2x8x128x17408.Slices ![0, 0, 0, 0] S2x8x128x16384
  bitsLt_bf16_f32 : FTy.bits .bf16 < FTy.bits .f32
  slices_S2x8x17408x128_S2x8x16640x128_0_0_0_0 : S2x8x17408x128.Slices ![0, 0, 0, 0] S2x8x16640x128
  bcast_S_S2x8x128x16384 : S_.BroadcastsInDim S2x8x128x16384 (![] : Fin 0 → Fin S2x8x128x16384.rank)
  reducesTo_S2x8x128x16384_S_d0_1_2_3 : S2x8x128x16384.ReducesTo [0, 1, 2, 3] S_
  h_S_ : 0 < S_.numel
  bcast_S_S2x8x16640x128 : S_.BroadcastsInDim S2x8x16640x128 (![] : Fin 0 → Fin S2x8x16640x128.rank)
  reducesTo_S2x8x16640x128_S_d0_1_2_3 : S2x8x16640x128.ReducesTo [0, 1, 2, 3] S_

variable [Facts]

def fn {F : FTy → Type} [FloatOps F] (main_arg0 : FVec F S2x8x128x17408 .bf16) (main_arg1 : FVec F S2x8x17408x128 .bf16) (main_arg2 : FVec F S2x8x64x17408 .bf16) : IVec S_ 1 :=
  let main_v0 : FVec F S2x8x128x16384 .bf16 := (extractStridedSlice S2x8x128x16384 ![0, 0, 0, 0] · slices_S2x8x128x17408_S2x8x128x16384_0_0_0_0) main_arg0
  let main_v1 : FVec F S2x8x128x16384 .f32 := (extf .f32 · bitsLt_bf16_f32) main_v0
  let main_v2 : FVec F S2x8x16640x128 .bf16 := (extractStridedSlice S2x8x16640x128 ![0, 0, 0, 0] · slices_S2x8x17408x128_S2x8x16640x128_0_0_0_0) main_arg1
  let main_v3 : FVec F S2x8x16640x128 .f32 := (extf .f32 · bitsLt_bf16_f32) main_v2
  let main_v4 : FVec F S2x8x128x16384 .f32 := Host.absf main_v1
  let main_cst : FVec F S_ .f32 := constant S_ .f32 0x7F800000#32
  let main_v5 : FVec F S2x8x128x16384 .f32 := broadcastInDim S2x8x128x16384 ![] bcast_S_S2x8x128x16384 main_cst
  let main_v6 : IVec S2x8x128x16384 1 := cmpf .olt main_v4 main_v5
  let main_c : IVec S_ 1 := constantI S_ 1 1#1
  let main_v7 : IVec S_ 1 := (fun x v => Host.reduce IntOp.andi x v reducesTo_S2x8x128x16384_S_d0_1_2_3 h_S_) main_v6 main_c
  let main_v8 : FVec F S2x8x16640x128 .f32 := Host.absf main_v3
  let main_cst_0 : FVec F S_ .f32 := constant S_ .f32 0x7F800000#32
  let main_v9 : FVec F S2x8x16640x128 .f32 := broadcastInDim S2x8x16640x128 ![] bcast_S_S2x8x16640x128 main_cst_0
  let main_v10 : IVec S2x8x16640x128 1 := cmpf .olt main_v8 main_v9
  let main_c_1 : IVec S_ 1 := constantI S_ 1 1#1
  let main_v11 : IVec S_ 1 := (fun x v => Host.reduce IntOp.andi x v reducesTo_S2x8x16640x128_S_d0_1_2_3 h_S_) main_v10 main_c_1
  let main_v12 : IVec S_ 1 := andi main_v7 main_v11
  main_v12
-- ==== Kernel.lean ====
abbrev S2x8x128x17408 : Shape := ⟨4, ![2, 8, 128, 17408]⟩
abbrev S2x8x17408x128 : Shape := ⟨4, ![2, 8, 17408, 128]⟩
abbrev S2x8x64x17408 : Shape := ⟨4, ![2, 8, 64, 17408]⟩
abbrev S2x8x64x16384 : Shape := ⟨4, ![2, 8, 64, 16384]⟩
abbrev S1x8x128x512 : Shape := ⟨4, ![1, 8, 128, 512]⟩
abbrev S1x8x3328x128 : Shape := ⟨4, ![1, 8, 3328, 128]⟩
abbrev S1x8x64x3328 : Shape := ⟨4, ![1, 8, 64, 3328]⟩
abbrev S1x8x64x512 : Shape := ⟨4, ![1, 8, 64, 512]⟩
abbrev S2x8x1x512 : Shape := ⟨4, ![2, 8, 1, 512]⟩
abbrev S2x8x72x512 : Shape := ⟨4, ![2, 8, 72, 512]⟩
abbrev S8x64x512 : Shape := ⟨3, ![8, 64, 512]⟩
abbrev S1x1x16x128 : Shape := ⟨4, ![1, 1, 16, 128]⟩
abbrev S16x128 : Shape := ⟨2, ![16, 128]⟩
abbrev S1x1x128x512 : Shape := ⟨4, ![1, 1, 128, 512]⟩
abbrev S128x512 : Shape := ⟨2, ![128, 512]⟩
abbrev S16x512 : Shape := ⟨2, ![16, 512]⟩
abbrev S512 : Shape := ⟨1, ![512]⟩
abbrev S1x512 : Shape := ⟨2, ![1, 512]⟩
abbrev S1x1x1x512 : Shape := ⟨4, ![1, 1, 1, 512]⟩
abbrev S8x72x512 : Shape := ⟨3, ![8, 72, 512]⟩
abbrev S1x8x72x512 : Shape := ⟨4, ![1, 8, 72, 512]⟩
abbrev S1x1x256x128 : Shape := ⟨4, ![1, 1, 256, 128]⟩
abbrev S256x128 : Shape := ⟨2, ![256, 128]⟩
abbrev S256x512 : Shape := ⟨2, ![256, 512]⟩
abbrev S8x512 : Shape := ⟨2, ![8, 512]⟩
abbrev S32x8x512 : Shape := ⟨3, ![32, 8, 512]⟩
abbrev S1x8x512 : Shape := ⟨3, ![1, 8, 512]⟩
abbrev S16x16x512 : Shape := ⟨3, ![16, 16, 512]⟩
abbrev S1x1x64x256 : Shape := ⟨4, ![1, 1, 64, 256]⟩
abbrev S64x256 : Shape := ⟨2, ![64, 256]⟩
abbrev S64x512 : Shape := ⟨2, ![64, 512]⟩
abbrev S1x64x512 : Shape := ⟨3, ![1, 64, 512]⟩
abbrev S1x1x64x512 : Shape := ⟨4, ![1, 1, 64, 512]⟩
abbrev S1x1x512 : Shape := ⟨3, ![1, 1, 512]⟩
abbrev S1 : Shape := ⟨1, ![1]⟩
abbrev S1x1x1 : Shape := ⟨3, ![1, 1, 1]⟩

abbrev nBuf : Space → Nat
  | .hbm => 4
  | .vmem => 11
  | .smem => 0
  | _ => 0

abbrev bufTy : (tb : Table) → Fin (tcTables nBuf tb) → BufTy
  | .hbm, ⟨0, _⟩ => ⟨S2x8x128x17408, .bf16⟩
  | .hbm, ⟨1, _⟩ => ⟨S2x8x17408x128, .bf16⟩
  | .hbm, ⟨2, _⟩ => ⟨S2x8x64x17408, .bf16⟩
  | .hbm, ⟨3, _⟩ => ⟨S2x8x64x16384, .bf16⟩
  | .local _ .vmem, ⟨0, _⟩ => ⟨S1x8x128x512, .bf16⟩
  | .local _ .vmem, ⟨1, _⟩ => ⟨S1x8x128x512, .bf16⟩
  | .local _ .vmem, ⟨2, _⟩ => ⟨S1x8x3328x128, .bf16⟩
  | .local _ .vmem, ⟨3, _⟩ => ⟨S1x8x3328x128, .bf16⟩
  | .local _ .vmem, ⟨4, _⟩ => ⟨S1x8x64x3328, .bf16⟩
  | .local _ .vmem, ⟨5, _⟩ => ⟨S1x8x64x3328, .bf16⟩
  | .local _ .vmem, ⟨6, _⟩ => ⟨S1x8x64x512, .bf16⟩
  | .local _ .vmem, ⟨7, _⟩ => ⟨S1x8x64x512, .bf16⟩
  | .local _ .vmem, ⟨8, _⟩ => ⟨S2x8x1x512, .f32⟩
  | .local _ .vmem, ⟨9, _⟩ => ⟨S2x8x72x512, .f32⟩
  | .local _ .vmem, ⟨10, _⟩ => ⟨S8x64x512, .f32⟩
  | _, _ => ⟨S2x8x128x17408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 32, 5], ![false, false, false]⟩

def k0_off1 (i : grid0.Coords) : Fin 4 → Nat :=
  let arg2 : BitVec 32 := BitVec.ofNat 32 (i 2).val
  let c2_i32 : BitVec 32 := 2#32
  let v0 : BitVec 32 := Scalar.remsi arg2 c2_i32
  let v20 : Index := Scalar.indexCast v0
  let c0_24 : Index := 0#32
  let c0_25 : Index := 0#32
  let c0_26 : Index := 0#32
  ![v20.toNat, 0, 0, 0]
def k0_off2 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v422 : Index := Scalar.indexCast v1
  let c0_329 : Index := 0#32
  let c0_330 : Index := 0#32
  let c0_331 : Index := 0#32
  ![v422.toNat, 0, 0, 0]
def k0_off3 (i : grid0.Coords) : Fin 4 → Nat :=
  let arg2 : BitVec 32 := BitVec.ofNat 32 (i 2).val
  let c2_i32 : BitVec 32 := 2#32
  let v0 : BitVec 32 := Scalar.remsi arg2 c2_i32
  let v428 : Index := Scalar.indexCast v0
  let c0_333 : Index := 0#32
  let c0_334 : Index := 0#32
  let c0_335 : Index := 0#32
  ![v428.toNat, 0, 0, 0]
def k0_off4 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v436 : Index := Scalar.indexCast v1
  let c0_339 : Index := 0#32
  let c0_340 : Index := 0#32
  let c0_341 : Index := 0#32
  ![v436.toNat, 0, 0, 0]
def k0_off5 (i : grid0.Coords) : Fin 4 → Nat :=
  let arg2 : BitVec 32 := BitVec.ofNat 32 (i 2).val
  let c2_i32 : BitVec 32 := 2#32
  let v0 : BitVec 32 := Scalar.remsi arg2 c2_i32
  let v440 : Index := Scalar.indexCast v0
  let c0_342 : Index := 0#32
  let c64 : Index := 64#32
  let c0_343 : Index := 0#32
  ![v440.toNat, 0, 64, 0]
def k0_off6 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v447 : Index := Scalar.indexCast v1
  let c0_345 : Index := 0#32
  let c64_346 : Index := 64#32
  let c0_347 : Index := 0#32
  ![v447.toNat, 0, 64, 0]
def k0_off7 (i : grid0.Coords) : Fin 4 → Nat :=
  let arg2 : BitVec 32 := BitVec.ofNat 32 (i 2).val
  let c2_i32 : BitVec 32 := 2#32
  let v0 : BitVec 32 := Scalar.remsi arg2 c2_i32
  let v456 : Index := Scalar.indexCast v0
  let c1_357 : Index := 1#32
  let c0_358 : Index := 0#32
  let c0_359 : Index := 0#32
  ![v456.toNat, 1, 0, 0]
def k0_off8 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v859 : Index := Scalar.indexCast v1
  let c1_672 : Index := 1#32
  let c0_673 : Index := 0#32
  let c0_674 : Index := 0#32
  ![v859.toNat, 1, 0, 0]
def k0_off9 (i : grid0.Coords) : Fin 4 → Nat :=
  let arg2 : BitVec 32 := BitVec.ofNat 32 (i 2).val
  let c2_i32 : BitVec 32 := 2#32
  let v0 : BitVec 32 := Scalar.remsi arg2 c2_i32
  let v865 : Index := Scalar.indexCast v0
  let c1_676 : Index := 1#32
  let c0_677 : Index := 0#32
  let c0_678 : Index := 0#32
  ![v865.toNat, 1, 0, 0]
def k0_off10 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v873 : Index := Scalar.indexCast v1
  let c1_682 : Index := 1#32
  let c0_683 : Index := 0#32
  let c0_684 : Index := 0#32
  ![v873.toNat, 1, 0, 0]
def k0_off11 (i : grid0.Coords) : Fin 4 → Nat :=
  let arg2 : BitVec 32 := BitVec.ofNat 32 (i 2).val
  let c2_i32 : BitVec 32 := 2#32
  let v0 : BitVec 32 := Scalar.remsi arg2 c2_i32
  let v877 : Index := Scalar.indexCast v0
  let c1_685 : Index := 1#32
  let c64_686 : Index := 64#32
  let c0_687 : Index := 0#32
  ![v877.toNat, 1, 64, 0]
def k0_off12 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v884 : Index := Scalar.indexCast v1
  let c1_689 : Index := 1#32
  let c64_690 : Index := 64#32
  let c0_691 : Index := 0#32
  ![v884.toNat, 1, 64, 0]
def k0_off13 (i : grid0.Coords) : Fin 4 → Nat :=
  let arg2 : BitVec 32 := BitVec.ofNat 32 (i 2).val
  let c2_i32 : BitVec 32 := 2#32
  let v0 : BitVec 32 := Scalar.remsi arg2 c2_i32
  let v893 : Index := Scalar.indexCast v0
  let c2_701 : Index := 2#32
  let c0_702 : Index := 0#32
  let c0_703 : Index := 0#32
  ![v893.toNat, 2, 0, 0]
def k0_off14 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v1296 : Index := Scalar.indexCast v1
  let c2_1016 : Index := 2#32
  let c0_1017 : Index := 0#32
  let c0_1018 : Index := 0#32
  ![v1296.toNat, 2, 0, 0]
def k0_off15 (i : grid0.Coords) : Fin 4 → Nat :=
  let arg2 : BitVec 32 := BitVec.ofNat 32 (i 2).val
  let c2_i32 : BitVec 32 := 2#32
  let v0 : BitVec 32 := Scalar.remsi arg2 c2_i32
  let v1302 : Index := Scalar.indexCast v0
  let c2_1020 : Index := 2#32
  let c0_1021 : Index := 0#32
  let c0_1022 : Index := 0#32
  ![v1302.toNat, 2, 0, 0]
def k0_off16 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v1310 : Index := Scalar.indexCast v1
  let c2_1026 : Index := 2#32
  let c0_1027 : Index := 0#32
  let c0_1028 : Index := 0#32
  ![v1310.toNat, 2, 0, 0]
def k0_off17 (i : grid0.Coords) : Fin 4 → Nat :=
  let arg2 : BitVec 32 := BitVec.ofNat 32 (i 2).val
  let c2_i32 : BitVec 32 := 2#32
  let v0 : BitVec 32 := Scalar.remsi arg2 c2_i32
  let v1314 : Index := Scalar.indexCast v0
  let c2_1029 : Index := 2#32
  let c64_1030 : Index := 64#32
  let c0_1031 : Index := 0#32
  ![v1314.toNat, 2, 64, 0]
def k0_off18 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v1321 : Index := Scalar.indexCast v1
  let c2_1033 : Index := 2#32
  let c64_1034 : Index := 64#32
  let c0_1035 : Index := 0#32
  ![v1321.toNat, 2, 64, 0]
def k0_off19 (i : grid0.Coords) : Fin 4 → Nat :=
  let arg2 : BitVec 32 := BitVec.ofNat 32 (i 2).val
  let c2_i32 : BitVec 32 := 2#32
  let v0 : BitVec 32 := Scalar.remsi arg2 c2_i32
  let v1330 : Index := Scalar.indexCast v0
  let c3_1045 : Index := 3#32
  let c0_1046 : Index := 0#32
  let c0_1047 : Index := 0#32
  ![v1330.toNat, 3, 0, 0]
def k0_off20 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v1733 : Index := Scalar.indexCast v1
  let c3_1360 : Index := 3#32
  let c0_1361 : Index := 0#32
  let c0_1362 : Index := 0#32
  ![v1733.toNat, 3, 0, 0]
def k0_off21 (i : grid0.Coords) : Fin 4 → Nat :=
  let arg2 : BitVec 32 := BitVec.ofNat 32 (i 2).val
  let c2_i32 : BitVec 32 := 2#32
  let v0 : BitVec 32 := Scalar.remsi arg2 c2_i32
  let v1739 : Index := Scalar.indexCast v0
  let c3_1364 : Index := 3#32
  let c0_1365 : Index := 0#32
  let c0_1366 : Index := 0#32
  ![v1739.toNat, 3, 0, 0]
def k0_off22 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v1747 : Index := Scalar.indexCast v1
  let c3_1370 : Index := 3#32
  let c0_1371 : Index := 0#32
  let c0_1372 : Index := 0#32
  ![v1747.toNat, 3, 0, 0]
def k0_off23 (i : grid0.Coords) : Fin 4 → Nat :=
  let arg2 : BitVec 32 := BitVec.ofNat 32 (i 2).val
  let c2_i32 : BitVec 32 := 2#32
  let v0 : BitVec 32 := Scalar.remsi arg2 c2_i32
  let v1751 : Index := Scalar.indexCast v0
  let c3_1373 : Index := 3#32
  let c64_1374 : Index := 64#32
  let c0_1375 : Index := 0#32
  ![v1751.toNat, 3, 64, 0]
def k0_off24 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v1758 : Index := Scalar.indexCast v1
  let c3_1377 : Index := 3#32
  let c64_1378 : Index := 64#32
  let c0_1379 : Index := 0#32
  ![v1758.toNat, 3, 64, 0]
def k0_off25 (i : grid0.Coords) : Fin 4 → Nat :=
  let arg2 : BitVec 32 := BitVec.ofNat 32 (i 2).val
  let c2_i32 : BitVec 32 := 2#32
  let v0 : BitVec 32 := Scalar.remsi arg2 c2_i32
  let v1767 : Index := Scalar.indexCast v0
  let c4_1389 : Index := 4#32
  let c0_1390 : Index := 0#32
  let c0_1391 : Index := 0#32
  ![v1767.toNat, 4, 0, 0]
def k0_off26 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v2170 : Index := Scalar.indexCast v1
  let c4_1704 : Index := 4#32
  let c0_1705 : Index := 0#32
  let c0_1706 : Index := 0#32
  ![v2170.toNat, 4, 0, 0]
def k0_off27 (i : grid0.Coords) : Fin 4 → Nat :=
  let arg2 : BitVec 32 := BitVec.ofNat 32 (i 2).val
  let c2_i32 : BitVec 32 := 2#32
  let v0 : BitVec 32 := Scalar.remsi arg2 c2_i32
  let v2176 : Index := Scalar.indexCast v0
  let c4_1708 : Index := 4#32
  let c0_1709 : Index := 0#32
  let c0_1710 : Index := 0#32
  ![v2176.toNat, 4, 0, 0]
def k0_off28 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v2184 : Index := Scalar.indexCast v1
  let c4_1714 : Index := 4#32
  let c0_1715 : Index := 0#32
  let c0_1716 : Index := 0#32
  ![v2184.toNat, 4, 0, 0]
def k0_off29 (i : grid0.Coords) : Fin 4 → Nat :=
  let arg2 : BitVec 32 := BitVec.ofNat 32 (i 2).val
  let c2_i32 : BitVec 32 := 2#32
  let v0 : BitVec 32 := Scalar.remsi arg2 c2_i32
  let v2188 : Index := Scalar.indexCast v0
  let c4_1717 : Index := 4#32
  let c64_1718 : Index := 64#32
  let c0_1719 : Index := 0#32
  ![v2188.toNat, 4, 64, 0]
def k0_off30 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v2195 : Index := Scalar.indexCast v1
  let c4_1721 : Index := 4#32
  let c64_1722 : Index := 64#32
  let c0_1723 : Index := 0#32
  ![v2195.toNat, 4, 64, 0]
def k0_off31 (i : grid0.Coords) : Fin 4 → Nat :=
  let arg2 : BitVec 32 := BitVec.ofNat 32 (i 2).val
  let c2_i32 : BitVec 32 := 2#32
  let v0 : BitVec 32 := Scalar.remsi arg2 c2_i32
  let v2204 : Index := Scalar.indexCast v0
  let c5_1733 : Index := 5#32
  let c0_1734 : Index := 0#32
  let c0_1735 : Index := 0#32
  ![v2204.toNat, 5, 0, 0]
def k0_off32 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v2607 : Index := Scalar.indexCast v1
  let c5_2048 : Index := 5#32
  let c0_2049 : Index := 0#32
  let c0_2050 : Index := 0#32
  ![v2607.toNat, 5, 0, 0]
def k0_off33 (i : grid0.Coords) : Fin 4 → Nat :=
  let arg2 : BitVec 32 := BitVec.ofNat 32 (i 2).val
  let c2_i32 : BitVec 32 := 2#32
  let v0 : BitVec 32 := Scalar.remsi arg2 c2_i32
  let v2613 : Index := Scalar.indexCast v0
  let c5_2052 : Index := 5#32
  let c0_2053 : Index := 0#32
  let c0_2054 : Index := 0#32
  ![v2613.toNat, 5, 0, 0]
def k0_off34 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v2621 : Index := Scalar.indexCast v1
  let c5_2058 : Index := 5#32
  let c0_2059 : Index := 0#32
  let c0_2060 : Index := 0#32
  ![v2621.toNat, 5, 0, 0]
def k0_off35 (i : grid0.Coords) : Fin 4 → Nat :=
  let arg2 : BitVec 32 := BitVec.ofNat 32 (i 2).val
  let c2_i32 : BitVec 32 := 2#32
  let v0 : BitVec 32 := Scalar.remsi arg2 c2_i32
  let v2625 : Index := Scalar.indexCast v0
  let c5_2061 : Index := 5#32
  let c64_2062 : Index := 64#32
  let c0_2063 : Index := 0#32
  ![v2625.toNat, 5, 64, 0]
def k0_off36 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v2632 : Index := Scalar.indexCast v1
  let c5_2065 : Index := 5#32
  let c64_2066 : Index := 64#32
  let c0_2067 : Index := 0#32
  ![v2632.toNat, 5, 64, 0]
def k0_off37 (i : grid0.Coords) : Fin 4 → Nat :=
  let arg2 : BitVec 32 := BitVec.ofNat 32 (i 2).val
  let c2_i32 : BitVec 32 := 2#32
  let v0 : BitVec 32 := Scalar.remsi arg2 c2_i32
  let v2641 : Index := Scalar.indexCast v0
  let c6_2077 : Index := 6#32
  let c0_2078 : Index := 0#32
  let c0_2079 : Index := 0#32
  ![v2641.toNat, 6, 0, 0]
def k0_off38 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3044 : Index := Scalar.indexCast v1
  let c6_2392 : Index := 6#32
  let c0_2393 : Index := 0#32
  let c0_2394 : Index := 0#32
  ![v3044.toNat, 6, 0, 0]
def k0_off39 (i : grid0.Coords) : Fin 4 → Nat :=
  let arg2 : BitVec 32 := BitVec.ofNat 32 (i 2).val
  let c2_i32 : BitVec 32 := 2#32
  let v0 : BitVec 32 := Scalar.remsi arg2 c2_i32
  let v3050 : Index := Scalar.indexCast v0
  let c6_2396 : Index := 6#32
  let c0_2397 : Index := 0#32
  let c0_2398 : Index := 0#32
  ![v3050.toNat, 6, 0, 0]
def k0_off40 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3058 : Index := Scalar.indexCast v1
  let c6_2402 : Index := 6#32
  let c0_2403 : Index := 0#32
  let c0_2404 : Index := 0#32
  ![v3058.toNat, 6, 0, 0]
def k0_off41 (i : grid0.Coords) : Fin 4 → Nat :=
  let arg2 : BitVec 32 := BitVec.ofNat 32 (i 2).val
  let c2_i32 : BitVec 32 := 2#32
  let v0 : BitVec 32 := Scalar.remsi arg2 c2_i32
  let v3062 : Index := Scalar.indexCast v0
  let c6_2405 : Index := 6#32
  let c64_2406 : Index := 64#32
  let c0_2407 : Index := 0#32
  ![v3062.toNat, 6, 64, 0]
def k0_off42 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3069 : Index := Scalar.indexCast v1
  let c6_2409 : Index := 6#32
  let c64_2410 : Index := 64#32
  let c0_2411 : Index := 0#32
  ![v3069.toNat, 6, 64, 0]
def k0_off43 (i : grid0.Coords) : Fin 4 → Nat :=
  let arg2 : BitVec 32 := BitVec.ofNat 32 (i 2).val
  let c2_i32 : BitVec 32 := 2#32
  let v0 : BitVec 32 := Scalar.remsi arg2 c2_i32
  let v3078 : Index := Scalar.indexCast v0
  let c7_2421 : Index := 7#32
  let c0_2422 : Index := 0#32
  let c0_2423 : Index := 0#32
  ![v3078.toNat, 7, 0, 0]
def k0_off44 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3471 : Index := Scalar.indexCast v1
  let c7_2719 : Index := 7#32
  let c0_2720 : Index := 0#32
  let c0_2721 : Index := 0#32
  ![v3471.toNat, 7, 0, 0]
def k0_off45 (i : grid0.Coords) : Fin 4 → Nat :=
  let arg2 : BitVec 32 := BitVec.ofNat 32 (i 2).val
  let c2_i32 : BitVec 32 := 2#32
  let v0 : BitVec 32 := Scalar.remsi arg2 c2_i32
  let v3477 : Index := Scalar.indexCast v0
  let c7_2723 : Index := 7#32
  let c0_2724 : Index := 0#32
  let c0_2725 : Index := 0#32
  ![v3477.toNat, 7, 0, 0]
def k0_off46 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3485 : Index := Scalar.indexCast v1
  let c7_2729 : Index := 7#32
  let c0_2730 : Index := 0#32
  let c0_2731 : Index := 0#32
  ![v3485.toNat, 7, 0, 0]
def k0_off47 (i : grid0.Coords) : Fin 4 → Nat :=
  let arg2 : BitVec 32 := BitVec.ofNat 32 (i 2).val
  let c2_i32 : BitVec 32 := 2#32
  let v0 : BitVec 32 := Scalar.remsi arg2 c2_i32
  let v3489 : Index := Scalar.indexCast v0
  let c7_2732 : Index := 7#32
  let c64_2733 : Index := 64#32
  let c0_2734 : Index := 0#32
  ![v3489.toNat, 7, 64, 0]
def k0_off48 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3496 : Index := Scalar.indexCast v1
  let c7_2736 : Index := 7#32
  let c64_2737 : Index := 64#32
  let c0_2738 : Index := 0#32
  ![v3496.toNat, 7, 64, 0]
@[reducible] def k0_t1_loop : Scf.Loop 32 :=
  let c0_i32_2743 : BitVec 32 := 0#32
  let c8_i32 : BitVec 32 := 8#32
  let v3511 : BitVec 32 := Scalar.addi c0_i32_2743 c8_i32
  let c1_i32_2744 : BitVec 32 := 1#32
  ⟨c0_i32_2743, v3511, c1_i32_2744⟩
def k0_off49 (k0_t1 : Fin k0_t1_loop.trips) : Fin 4 → Nat :=
  let c0_2746 : Index := 0#32
  let c0_i32_2743 : BitVec 32 := 0#32
  let c1_i32_2744 : BitVec 32 := 1#32
  let arg10 : BitVec 32 := Scf.iv c0_i32_2743 c1_i32_2744 k0_t1
  let v3512 : Index := Scalar.indexCast arg10
  let c0_2747 : Index := 0#32
  let c0_2748 : Index := 0#32
  ![0, v3512.toNat, 0, 0]
def k0_off50 (i : grid0.Coords) (k0_t1 : Fin k0_t1_loop.trips) : Fin 4 → Nat :=
  let arg2 : BitVec 32 := BitVec.ofNat 32 (i 2).val
  let c2_i32 : BitVec 32 := 2#32
  let v0 : BitVec 32 := Scalar.remsi arg2 c2_i32
  let v3551 : Index := Scalar.indexCast v0
  let c0_i32_2743 : BitVec 32 := 0#32
  let c1_i32_2744 : BitVec 32 := 1#32
  let arg10 : BitVec 32 := Scf.iv c0_i32_2743 c1_i32_2744 k0_t1
  let v3552 : Index := Scalar.indexCast arg10
  let c0_2765 : Index := 0#32
  let c0_2766 : Index := 0#32
  ![v3551.toNat, v3552.toNat, 0, 0]
@[reducible] def k0_t2_loop : Scf.Loop 32 :=
  let c0_i32_2767 : BitVec 32 := 0#32
  let c13_i32 : BitVec 32 := 13#32
  let v3555 : BitVec 32 := Scalar.addi c0_i32_2767 c13_i32
  let c1_i32_2768 : BitVec 32 := 1#32
  ⟨c0_i32_2767, v3555, c1_i32_2768⟩
def k0_mult1 (k0_t2 : Fin k0_t2_loop.trips) : BitVec 32 :=
  let c0_i32_2767 : BitVec 32 := 0#32
  let c1_i32_2768 : BitVec 32 := 1#32
  let arg11 : BitVec 32 := Scf.iv c0_i32_2767 c1_i32_2768 k0_t2
  let c256_i32 : BitVec 32 := 256#32
  let v3591 : BitVec 32 := Scalar.muli arg11 c256_i32
  v3591
def k0_off51 (k0_t1 : Fin k0_t1_loop.trips) (k0_t2 : Fin k0_t2_loop.trips) : Fin 4 → Nat :=
  let c0_2786 : Index := 0#32
  let c0_i32_2743 : BitVec 32 := 0#32
  let c1_i32_2744 : BitVec 32 := 1#32
  let arg10 : BitVec 32 := Scf.iv c0_i32_2743 c1_i32_2744 k0_t1
  let c8_i32_2749 : BitVec 32 := 8#32
  let v3515 : BitVec 32 := Scalar.muli arg10 c8_i32_2749
  let c0_i32_2751 : BitVec 32 := 0#32
  let v3517 : BitVec 1 := Scalar.cmpi .sgt v3515 c0_i32_2751
  let v3518 : BitVec 32 := Scalar.extui v3517
  let c0_i32_2752 : BitVec 32 := 0#32
  let v3519 : BitVec 1 := Scalar.cmpi .slt v3515 c0_i32_2752
  let v3520 : BitVec 32 := Scalar.extui v3519
  let v3521 : BitVec 32 := Scalar.subi v3518 v3520
  let c8_i32_2750 : BitVec 32 := 8#32
  let c0_i32_2753 : BitVec 32 := 0#32
  let v3522 : BitVec 1 := Scalar.cmpi .sgt c8_i32_2750 c0_i32_2753
  let v3523 : BitVec 32 := Scalar.extui v3522
  let c0_i32_2754 : BitVec 32 := 0#32
  let v3524 : BitVec 1 := Scalar.cmpi .slt c8_i32_2750 c0_i32_2754
  let v3525 : BitVec 32 := Scalar.extui v3524
  let v3526 : BitVec 32 := Scalar.subi v3523 v3525
  let v3527 : BitVec 1 := Scalar.cmpi .ne v3521 v3526
  let v3528 : BitVec 32 := Scalar.remsi v3515 c8_i32_2750
  let c0_i32_2755 : BitVec 32 := 0#32
  let v3529 : BitVec 1 := Scalar.cmpi .ne v3528 c0_i32_2755
  let v3530 : BitVec 1 := Scalar.andi v3527 v3529
  let v3516 : BitVec 32 := Scalar.divsi v3515 c8_i32_2750
  let c1_i32_2756 : BitVec 32 := 1#32
  let v3531 : BitVec 32 := Scalar.subi v3516 c1_i32_2756
  let v3532 : BitVec 32 := Scalar.select v3530 v3531 v3516
  let v3593 : Index := Scalar.indexCast v3532
  let c0_i32_2767 : BitVec 32 := 0#32
  let c1_i32_2768 : BitVec 32 := 1#32
  let arg11 : BitVec 32 := Scf.iv c0_i32_2767 c1_i32_2768 k0_t2
  let c256_i32 : BitVec 32 := 256#32
  let v3591 : BitVec 32 := Scalar.muli arg11 c256_i32
  let v3592 : BitVec 32 := v3591
  let v3594 : Index := Scalar.indexCast v3592
  let c0_2787 : Index := 0#32
  ![0, v3593.toNat, v3594.toNat, 0]
@[reducible] def k0_t3_loop : Scf.Loop 32 :=
  let c0_i32_2772 : BitVec 32 := 0#32
  let c13_i32_2773 : BitVec 32 := 13#32
  let v3559 : BitVec 32 := Scalar.addi c0_i32_2772 c13_i32_2773
  let c1_i32_2774 : BitVec 32 := 1#32
  ⟨c0_i32_2772, v3559, c1_i32_2774⟩
def k0_mult2 (k0_t3 : Fin k0_t3_loop.trips) : BitVec 32 :=
  let c0_i32_2772 : BitVec 32 := 0#32
  let c1_i32_2774 : BitVec 32 := 1#32
  let arg11 : BitVec 32 := Scf.iv c0_i32_2772 c1_i32_2774 k0_t3
  let c256_i32 : BitVec 32 := 256#32
  let v3591 : BitVec 32 := Scalar.muli arg11 c256_i32
  v3591
def k0_off52 (k0_t1 : Fin k0_t1_loop.trips) (k0_t3 : Fin k0_t3_loop.trips) : Fin 4 → Nat :=
  let c0_2786 : Index := 0#32
  let c0_i32_2743 : BitVec 32 := 0#32
  let c1_i32_2744 : BitVec 32 := 1#32
  let arg10 : BitVec 32 := Scf.iv c0_i32_2743 c1_i32_2744 k0_t1
  let c8_i32_2749 : BitVec 32 := 8#32
  let v3515 : BitVec 32 := Scalar.muli arg10 c8_i32_2749
  let c0_i32_2751 : BitVec 32 := 0#32
  let v3517 : BitVec 1 := Scalar.cmpi .sgt v3515 c0_i32_2751
  let v3518 : BitVec 32 := Scalar.extui v3517
  let c0_i32_2752 : BitVec 32 := 0#32
  let v3519 : BitVec 1 := Scalar.cmpi .slt v3515 c0_i32_2752
  let v3520 : BitVec 32 := Scalar.extui v3519
  let v3521 : BitVec 32 := Scalar.subi v3518 v3520
  let c8_i32_2750 : BitVec 32 := 8#32
  let c0_i32_2753 : BitVec 32 := 0#32
  let v3522 : BitVec 1 := Scalar.cmpi .sgt c8_i32_2750 c0_i32_2753
  let v3523 : BitVec 32 := Scalar.extui v3522
  let c0_i32_2754 : BitVec 32 := 0#32
  let v3524 : BitVec 1 := Scalar.cmpi .slt c8_i32_2750 c0_i32_2754
  let v3525 : BitVec 32 := Scalar.extui v3524
  let v3526 : BitVec 32 := Scalar.subi v3523 v3525
  let v3527 : BitVec 1 := Scalar.cmpi .ne v3521 v3526
  let v3528 : BitVec 32 := Scalar.remsi v3515 c8_i32_2750
  let c0_i32_2755 : BitVec 32 := 0#32
  let v3529 : BitVec 1 := Scalar.cmpi .ne v3528 c0_i32_2755
  let v3530 : BitVec 1 := Scalar.andi v3527 v3529
  let v3516 : BitVec 32 := Scalar.divsi v3515 c8_i32_2750
  let c1_i32_2756 : BitVec 32 := 1#32
  let v3531 : BitVec 32 := Scalar.subi v3516 c1_i32_2756
  let v3532 : BitVec 32 := Scalar.select v3530 v3531 v3516
  let v3593 : Index := Scalar.indexCast v3532
  let c0_i32_2772 : BitVec 32 := 0#32
  let c1_i32_2774 : BitVec 32 := 1#32
  let arg11 : BitVec 32 := Scf.iv c0_i32_2772 c1_i32_2774 k0_t3
  let c256_i32 : BitVec 32 := 256#32
  let v3591 : BitVec 32 := Scalar.muli arg11 c256_i32
  let v3592 : BitVec 32 := v3591
  let v3594 : Index := Scalar.indexCast v3592
  let c0_2787 : Index := 0#32
  ![0, v3593.toNat, v3594.toNat, 0]
def k0_off53 (k0_t1 : Fin k0_t1_loop.trips) (k0_t3 : Fin k0_t3_loop.trips) : Fin 4 → Nat :=
  let c0_2789 : Index := 0#32
  let c0_i32_2743 : BitVec 32 := 0#32
  let c1_i32_2744 : BitVec 32 := 1#32
  let arg10 : BitVec 32 := Scf.iv c0_i32_2743 c1_i32_2744 k0_t1
  let c8_i32_2757 : BitVec 32 := 8#32
  let v3533 : BitVec 32 := Scalar.muli arg10 c8_i32_2757
  let c0_i32_2759 : BitVec 32 := 0#32
  let v3535 : BitVec 1 := Scalar.cmpi .sgt v3533 c0_i32_2759
  let v3536 : BitVec 32 := Scalar.extui v3535
  let c0_i32_2760 : BitVec 32 := 0#32
  let v3537 : BitVec 1 := Scalar.cmpi .slt v3533 c0_i32_2760
  let v3538 : BitVec 32 := Scalar.extui v3537
  let v3539 : BitVec 32 := Scalar.subi v3536 v3538
  let c8_i32_2758 : BitVec 32 := 8#32
  let c0_i32_2761 : BitVec 32 := 0#32
  let v3540 : BitVec 1 := Scalar.cmpi .sgt c8_i32_2758 c0_i32_2761
  let v3541 : BitVec 32 := Scalar.extui v3540
  let c0_i32_2762 : BitVec 32 := 0#32
  let v3542 : BitVec 1 := Scalar.cmpi .slt c8_i32_2758 c0_i32_2762
  let v3543 : BitVec 32 := Scalar.extui v3542
  let v3544 : BitVec 32 := Scalar.subi v3541 v3543
  let v3545 : BitVec 1 := Scalar.cmpi .ne v3539 v3544
  let v3546 : BitVec 32 := Scalar.remsi v3533 c8_i32_2758
  let c0_i32_2763 : BitVec 32 := 0#32
  let v3547 : BitVec 1 := Scalar.cmpi .ne v3546 c0_i32_2763
  let v3548 : BitVec 1 := Scalar.andi v3545 v3547
  let v3534 : BitVec 32 := Scalar.divsi v3533 c8_i32_2758
  let c1_i32_2764 : BitVec 32 := 1#32
  let v3549 : BitVec 32 := Scalar.subi v3534 c1_i32_2764
  let v3550 : BitVec 32 := Scalar.select v3548 v3549 v3534
  let v3601 : Index := Scalar.indexCast v3550
  let c0_2790 : Index := 0#32
  let c0_i32_2772 : BitVec 32 := 0#32
  let c1_i32_2774 : BitVec 32 := 1#32
  let arg11 : BitVec 32 := Scf.iv c0_i32_2772 c1_i32_2774 k0_t3
  let c256_i32 : BitVec 32 := 256#32
  let v3591 : BitVec 32 := Scalar.muli arg11 c256_i32
  let v3592 : BitVec 32 := v3591
  let v3602 : Index := Scalar.indexCast v3592
  ![0, v3601.toNat, 0, v3602.toNat]
def k0_off54 (i : grid0.Coords) (k0_t1 : Fin k0_t1_loop.trips) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3563 : Index := Scalar.indexCast v1
  let c0_i32_2743 : BitVec 32 := 0#32
  let c1_i32_2744 : BitVec 32 := 1#32
  let arg10 : BitVec 32 := Scf.iv c0_i32_2743 c1_i32_2744 k0_t1
  let v3564 : Index := Scalar.indexCast arg10
  let c0_2776 : Index := 0#32
  let c0_2777 : Index := 0#32
  ![v3563.toNat, v3564.toNat, 0, 0]
def k0_off55 (i : grid0.Coords) (k0_t1 : Fin k0_t1_loop.trips) : Fin 4 → Nat :=
  let arg2 : BitVec 32 := BitVec.ofNat 32 (i 2).val
  let c2_i32 : BitVec 32 := 2#32
  let v0 : BitVec 32 := Scalar.remsi arg2 c2_i32
  let v3568 : Index := Scalar.indexCast v0
  let c0_i32_2743 : BitVec 32 := 0#32
  let c1_i32_2744 : BitVec 32 := 1#32
  let arg10 : BitVec 32 := Scf.iv c0_i32_2743 c1_i32_2744 k0_t1
  let v3569 : Index := Scalar.indexCast arg10
  let c0_2778 : Index := 0#32
  let c0_2779 : Index := 0#32
  ![v3568.toNat, v3569.toNat, 0, 0]
def k0_off56 (i : grid0.Coords) (k0_t1 : Fin k0_t1_loop.trips) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3575 : Index := Scalar.indexCast v1
  let c0_i32_2743 : BitVec 32 := 0#32
  let c1_i32_2744 : BitVec 32 := 1#32
  let arg10 : BitVec 32 := Scf.iv c0_i32_2743 c1_i32_2744 k0_t1
  let v3576 : Index := Scalar.indexCast arg10
  let c0_2780 : Index := 0#32
  let c0_2781 : Index := 0#32
  ![v3575.toNat, v3576.toNat, 0, 0]
def k0_off57 (i : grid0.Coords) (k0_t1 : Fin k0_t1_loop.trips) : Fin 4 → Nat :=
  let arg2 : BitVec 32 := BitVec.ofNat 32 (i 2).val
  let c2_i32 : BitVec 32 := 2#32
  let v0 : BitVec 32 := Scalar.remsi arg2 c2_i32
  let v3580 : Index := Scalar.indexCast v0
  let c0_i32_2743 : BitVec 32 := 0#32
  let c1_i32_2744 : BitVec 32 := 1#32
  let arg10 : BitVec 32 := Scf.iv c0_i32_2743 c1_i32_2744 k0_t1
  let v3581 : Index := Scalar.indexCast arg10
  let c64_2782 : Index := 64#32
  let c0_2783 : Index := 0#32
  ![v3580.toNat, v3581.toNat, 64, 0]
def k0_off58 (i : grid0.Coords) (k0_t1 : Fin k0_t1_loop.trips) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3586 : Index := Scalar.indexCast v1
  let c0_i32_2743 : BitVec 32 := 0#32
  let c1_i32_2744 : BitVec 32 := 1#32
  let arg10 : BitVec 32 := Scf.iv c0_i32_2743 c1_i32_2744 k0_t1
  let v3587 : Index := Scalar.indexCast arg10
  let c64_2784 : Index := 64#32
  let c0_2785 : Index := 0#32
  ![v3586.toNat, v3587.toNat, 64, 0]
def k0_cond3 (i : grid0.Coords) : BitVec 1 :=
  let arg2 : BitVec 32 := BitVec.ofNat 32 (i 2).val
  let c4_i32 : BitVec 32 := 4#32
  let v3508 : BitVec 1 := Scalar.cmpi .eq arg2 c4_i32
  let v3509 : BitVec 32 := Scalar.extui v3508
  let c0_i32_2742 : BitVec 32 := 0#32
  let v3510 : BitVec 1 := Scalar.cmpi .ne v3509 c0_i32_2742
  v3510

def k0_off59 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3511 : Index := Scalar.indexCast v1
  let c0_2743 : Index := 0#32
  let c0_2744 : Index := 0#32
  let c0_2745 : Index := 0#32
  ![v3511.toNat, 0, 0, 0]
def k0_off60 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3514 : Index := Scalar.indexCast v1
  let c0_2746 : Index := 0#32
  let c64_2747 : Index := 64#32
  let c0_2748 : Index := 0#32
  ![v3514.toNat, 0, 64, 0]
def k0_off61 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3523 : Index := Scalar.indexCast v1
  let c1_2753 : Index := 1#32
  let c0_2754 : Index := 0#32
  let c0_2755 : Index := 0#32
  ![v3523.toNat, 1, 0, 0]
def k0_off62 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3526 : Index := Scalar.indexCast v1
  let c1_2756 : Index := 1#32
  let c64_2757 : Index := 64#32
  let c0_2758 : Index := 0#32
  ![v3526.toNat, 1, 64, 0]
def k0_off63 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3535 : Index := Scalar.indexCast v1
  let c2_2763 : Index := 2#32
  let c0_2764 : Index := 0#32
  let c0_2765 : Index := 0#32
  ![v3535.toNat, 2, 0, 0]
def k0_off64 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3538 : Index := Scalar.indexCast v1
  let c2_2766 : Index := 2#32
  let c64_2767 : Index := 64#32
  let c0_2768 : Index := 0#32
  ![v3538.toNat, 2, 64, 0]
def k0_off65 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3547 : Index := Scalar.indexCast v1
  let c3_2773 : Index := 3#32
  let c0_2774 : Index := 0#32
  let c0_2775 : Index := 0#32
  ![v3547.toNat, 3, 0, 0]
def k0_off66 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3550 : Index := Scalar.indexCast v1
  let c3_2776 : Index := 3#32
  let c64_2777 : Index := 64#32
  let c0_2778 : Index := 0#32
  ![v3550.toNat, 3, 64, 0]
def k0_off67 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3559 : Index := Scalar.indexCast v1
  let c4_2783 : Index := 4#32
  let c0_2784 : Index := 0#32
  let c0_2785 : Index := 0#32
  ![v3559.toNat, 4, 0, 0]
def k0_off68 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3562 : Index := Scalar.indexCast v1
  let c4_2786 : Index := 4#32
  let c64_2787 : Index := 64#32
  let c0_2788 : Index := 0#32
  ![v3562.toNat, 4, 64, 0]
def k0_off69 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3571 : Index := Scalar.indexCast v1
  let c5_2793 : Index := 5#32
  let c0_2794 : Index := 0#32
  let c0_2795 : Index := 0#32
  ![v3571.toNat, 5, 0, 0]
def k0_off70 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3574 : Index := Scalar.indexCast v1
  let c5_2796 : Index := 5#32
  let c64_2797 : Index := 64#32
  let c0_2798 : Index := 0#32
  ![v3574.toNat, 5, 64, 0]
def k0_off71 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3583 : Index := Scalar.indexCast v1
  let c6_2803 : Index := 6#32
  let c0_2804 : Index := 0#32
  let c0_2805 : Index := 0#32
  ![v3583.toNat, 6, 0, 0]
def k0_off72 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3586 : Index := Scalar.indexCast v1
  let c6_2806 : Index := 6#32
  let c64_2807 : Index := 64#32
  let c0_2808 : Index := 0#32
  ![v3586.toNat, 6, 64, 0]
def k0_off73 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3595 : Index := Scalar.indexCast v1
  let c7_2813 : Index := 7#32
  let c0_2814 : Index := 0#32
  let c0_2815 : Index := 0#32
  ![v3595.toNat, 7, 0, 0]
def k0_off74 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3598 : Index := Scalar.indexCast v1
  let c7_2816 : Index := 7#32
  let c64_2817 : Index := 64#32
  let c0_2818 : Index := 0#32
  ![v3598.toNat, 7, 64, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x3328x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x8x64x3328 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x8x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelIdeal.lean ====
variable {F : FTy → Type} [FloatOps F] [Named F]
def κ : String → Option EReal := fun
  | "inv_ln2" => some (((Real.log 2)⁻¹ : ℝ) : EReal)
  | _ => none
-- ==== ReferenceIdeal.lean ====
abbrev S2x8x128x17408 : Shape := ⟨4, ![2, 8, 128, 17408]⟩
abbrev S2x8x17408x128 : Shape := ⟨4, ![2, 8, 17408, 128]⟩
abbrev S2x8x64x17408 : Shape := ⟨4, ![2, 8, 64, 17408]⟩
abbrev S2x8x128x16384 : Shape := ⟨4, ![2, 8, 128, 16384]⟩
abbrev S2x8x16640x128 : Shape := ⟨4, ![2, 8, 16640, 128]⟩
abbrev S2x8x64x16640 : Shape := ⟨4, ![2, 8, 64, 16640]⟩
abbrev S2x8x16384x16640 : Shape := ⟨4, ![2, 8, 16384, 16640]⟩
abbrev S_ : Shape := ⟨0, ![]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩

abbrev nBuf : Space → Nat
  | .hbm => 32
  | .vmem => 0
  | .smem => 0
  | _ => 0

abbrev bufTy : (tb : Table) → Fin (tcTables nBuf tb) → BufTy
  | .hbm, ⟨0, _⟩ => ⟨S2x8x128x17408, .bf16⟩
  | .hbm, ⟨1, _⟩ => ⟨S2x8x17408x128, .bf16⟩
  | .hbm, ⟨2, _⟩ => ⟨S2x8x64x17408, .bf16⟩
  | .hbm, ⟨3, _⟩ => ⟨S2x8x128x16384, .bf16⟩
  | .hbm, ⟨4, _⟩ => ⟨S2x8x128x16384, .f32⟩
  | .hbm, ⟨5, _⟩ => ⟨S2x8x16640x128, .bf16⟩
  | .hbm, ⟨6, _⟩ => ⟨S2x8x16640x128, .f32⟩
  | .hbm, ⟨7, _⟩ => ⟨S2x8x64x16640, .bf16⟩
  | .hbm, ⟨8, _⟩ => ⟨S2x8x64x16640, .f32⟩
  | .hbm, ⟨9, _⟩ => ⟨S2x8x16384x16640, .f32⟩
  | .hbm, ⟨10, _⟩ => ⟨S_, .f32⟩
  | .hbm, ⟨11, _⟩ => ⟨S_, .f32⟩
  | .hbm, ⟨12, _⟩ => ⟨S2x8x16384x16640, .f32⟩
  | .hbm, ⟨13, _⟩ => ⟨S2x8x16384x16640, .f32⟩
  | .hbm, ⟨14, _⟩ => ⟨S_, .f32⟩
  | .hbm, ⟨15, _⟩ => ⟨S2x8x16384, .f32⟩
  | .hbm, ⟨16, _⟩ => ⟨S_, .f32⟩
  | .hbm, ⟨17, _⟩ => ⟨S2x8x16384, .f32⟩
  | .hbm, ⟨18, _⟩ => ⟨S2x8x16384, .f32⟩
  | .hbm, ⟨19, _⟩ => ⟨S2x8x16384x1, .f32⟩
  | .hbm, ⟨20, _⟩ => ⟨S2x8x16384x16640, .f32⟩
  | .hbm, ⟨21, _⟩ => ⟨S2x8x16384x16640, .f32⟩
  | .hbm, ⟨22, _⟩ => ⟨S2x8x16384x16640, .f32⟩
  | .hbm, ⟨23, _⟩ => ⟨S_, .f32⟩
  | .hbm, ⟨24, _⟩ => ⟨S2x8x16384, .f32⟩
  | .hbm, ⟨25, _⟩ => ⟨S2x8x16384x1, .f32⟩
  | .hbm, ⟨26, _⟩ => ⟨S2x8x16384x16640, .f32⟩
  | .hbm, ⟨27, _⟩ => ⟨S2x8x16384x16640, .f32⟩
  | .hbm, ⟨28, _⟩ => ⟨S2x8x16384x16640, .bf16⟩
  | .hbm, ⟨29, _⟩ => ⟨S2x8x16384x16640, .f32⟩
  | .hbm, ⟨30, _⟩ => ⟨S2x8x64x16384, .f32⟩
  | .hbm, ⟨31, _⟩ => ⟨S2x8x64x16384, .bf16⟩
  | _, _ => ⟨S2x8x128x17408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Grouped.lean ====
abbrev S2x8x128x17408 : Shape := ⟨4, ![2, 8, 128, 17408]⟩
abbrev S2x1x17408x128 : Shape := ⟨4, ![2, 1, 17408, 128]⟩
abbrev S2x2x64x17408 : Shape := ⟨4, ![2, 2, 64, 17408]⟩
abbrev S2x8x64x16384 : Shape := ⟨4, ![2, 8, 64, 16384]⟩
abbrev S1x8x128x512 : Shape := ⟨4, ![1, 8, 128, 512]⟩
abbrev S1x1x3328x128 : Shape := ⟨4, ![1, 1, 3328, 128]⟩
abbrev S1x2x64x3328 : Shape := ⟨4, ![1, 2, 64, 3328]⟩
abbrev S1x8x64x512 : Shape := ⟨4, ![1, 8, 64, 512]⟩
abbrev S2x8x1x512 : Shape := ⟨4, ![2, 8, 1, 512]⟩
abbrev S2x8x72x512 : Shape := ⟨4, ![2, 8, 72, 512]⟩
abbrev S8x64x512 : Shape := ⟨3, ![8, 64, 512]⟩
abbrev S1x1x16x128 : Shape := ⟨4, ![1, 1, 16, 128]⟩
abbrev S16x128 : Shape := ⟨2, ![16, 128]⟩
abbrev S1x1x128x512 : Shape := ⟨4, ![1, 1, 128, 512]⟩
abbrev S128x512 : Shape := ⟨2, ![128, 512]⟩
abbrev S16x512 : Shape := ⟨2, ![16, 512]⟩
abbrev S512 : Shape := ⟨1, ![512]⟩
abbrev S1x512 : Shape := ⟨2, ![1, 512]⟩
abbrev S1x1x1x512 : Shape := ⟨4, ![1, 1, 1, 512]⟩
abbrev S8x72x512 : Shape := ⟨3, ![8, 72, 512]⟩
abbrev S1x8x72x512 : Shape := ⟨4, ![1, 8, 72, 512]⟩
abbrev S1x1x256x128 : Shape := ⟨4, ![1, 1, 256, 128]⟩
abbrev S256x128 : Shape := ⟨2, ![256, 128]⟩
abbrev S256x512 : Shape := ⟨2, ![256, 512]⟩
abbrev S8x512 : Shape := ⟨2, ![8, 512]⟩
abbrev S32x8x512 : Shape := ⟨3, ![32, 8, 512]⟩
abbrev S1x8x512 : Shape := ⟨3, ![1, 8, 512]⟩
abbrev S16x16x512 : Shape := ⟨3, ![16, 16, 512]⟩
abbrev S1x1x64x256 : Shape := ⟨4, ![1, 1, 64, 256]⟩
abbrev S64x256 : Shape := ⟨2, ![64, 256]⟩
abbrev S64x512 : Shape := ⟨2, ![64, 512]⟩
abbrev S1x64x512 : Shape := ⟨3, ![1, 64, 512]⟩
abbrev S1x1x64x512 : Shape := ⟨4, ![1, 1, 64, 512]⟩
abbrev S1x1x512 : Shape := ⟨3, ![1, 1, 512]⟩
abbrev S1 : Shape := ⟨1, ![1]⟩
abbrev S1x1x1 : Shape := ⟨3, ![1, 1, 1]⟩

abbrev nBuf : Space → Nat
  | .hbm => 4
  | .vmem => 11
  | .smem => 0
  | _ => 0

abbrev bufTy : (tb : Table) → Fin (tcTables nBuf tb) → BufTy
  | .hbm, ⟨0, _⟩ => ⟨S2x8x128x17408, .bf16⟩
  | .hbm, ⟨1, _⟩ => ⟨S2x1x17408x128, .bf16⟩
  | .hbm, ⟨2, _⟩ => ⟨S2x2x64x17408, .bf16⟩
  | .hbm, ⟨3, _⟩ => ⟨S2x8x64x16384, .bf16⟩
  | .local _ .vmem, ⟨0, _⟩ => ⟨S1x8x128x512, .bf16⟩
  | .local _ .vmem, ⟨1, _⟩ => ⟨S1x8x128x512, .bf16⟩
  | .local _ .vmem, ⟨2, _⟩ => ⟨S1x1x3328x128, .bf16⟩
  | .local _ .vmem, ⟨3, _⟩ => ⟨S1x1x3328x128, .bf16⟩
  | .local _ .vmem, ⟨4, _⟩ => ⟨S1x2x64x3328, .bf16⟩
  | .local _ .vmem, ⟨5, _⟩ => ⟨S1x2x64x3328, .bf16⟩
  | .local _ .vmem, ⟨6, _⟩ => ⟨S1x8x64x512, .bf16⟩
  | .local _ .vmem, ⟨7, _⟩ => ⟨S1x8x64x512, .bf16⟩
  | .local _ .vmem, ⟨8, _⟩ => ⟨S2x8x1x512, .f32⟩
  | .local _ .vmem, ⟨9, _⟩ => ⟨S2x8x72x512, .f32⟩
  | .local _ .vmem, ⟨10, _⟩ => ⟨S8x64x512, .f32⟩
  | _, _ => ⟨S2x8x128x17408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 32, 5], ![false, false, false]⟩

def k0_off1 (i : grid0.Coords) : Fin 4 → Nat :=
  let arg2 : BitVec 32 := BitVec.ofNat 32 (i 2).val
  let c2_i32 : BitVec 32 := 2#32
  let v0 : BitVec 32 := Scalar.remsi arg2 c2_i32
  let v20 : Index := Scalar.indexCast v0
  let c0_24 : Index := 0#32
  let c0_25 : Index := 0#32
  let c0_26 : Index := 0#32
  ![v20.toNat, 0, 0, 0]
def k0_off2 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v422 : Index := Scalar.indexCast v1
  let c0_329 : Index := 0#32
  let c0_330 : Index := 0#32
  let c0_331 : Index := 0#32
  ![v422.toNat, 0, 0, 0]
def k0_off3 (i : grid0.Coords) : Fin 4 → Nat :=
  let arg2 : BitVec 32 := BitVec.ofNat 32 (i 2).val
  let c2_i32 : BitVec 32 := 2#32
  let v0 : BitVec 32 := Scalar.remsi arg2 c2_i32
  let v428 : Index := Scalar.indexCast v0
  let c0_333 : Index := 0#32
  let c0_334 : Index := 0#32
  let c0_335 : Index := 0#32
  ![v428.toNat, 0, 0, 0]
def k0_off4 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v436 : Index := Scalar.indexCast v1
  let c0_339 : Index := 0#32
  let c0_340 : Index := 0#32
  let c0_341 : Index := 0#32
  ![v436.toNat, 0, 0, 0]
def k0_off5 (i : grid0.Coords) : Fin 4 → Nat :=
  let arg2 : BitVec 32 := BitVec.ofNat 32 (i 2).val
  let c2_i32 : BitVec 32 := 2#32
  let v0 : BitVec 32 := Scalar.remsi arg2 c2_i32
  let v440 : Index := Scalar.indexCast v0
  let c0_342 : Index := 0#32
  let c64 : Index := 64#32
  let c0_343 : Index := 0#32
  ![v440.toNat, 0, 64, 0]
def k0_off6 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v447 : Index := Scalar.indexCast v1
  let c0_345 : Index := 0#32
  let c64_346 : Index := 64#32
  let c0_347 : Index := 0#32
  ![v447.toNat, 0, 64, 0]
def k0_off7 (i : grid0.Coords) : Fin 4 → Nat :=
  let arg2 : BitVec 32 := BitVec.ofNat 32 (i 2).val
  let c2_i32 : BitVec 32 := 2#32
  let v0 : BitVec 32 := Scalar.remsi arg2 c2_i32
  let v456 : Index := Scalar.indexCast v0
  let c1_357 : Index := 1#32
  let c0_358 : Index := 0#32
  let c0_359 : Index := 0#32
  ![v456.toNat, 1, 0, 0]
def k0_off8 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v859 : Index := Scalar.indexCast v1
  let c1_672 : Index := 1#32
  let c0_673 : Index := 0#32
  let c0_674 : Index := 0#32
  ![v859.toNat, 1, 0, 0]
def k0_off9 (i : grid0.Coords) : Fin 4 → Nat :=
  let arg2 : BitVec 32 := BitVec.ofNat 32 (i 2).val
  let c2_i32 : BitVec 32 := 2#32
  let v0 : BitVec 32 := Scalar.remsi arg2 c2_i32
  let v865 : Index := Scalar.indexCast v0
  let c1_676 : Index := 1#32
  let c0_677 : Index := 0#32
  let c0_678 : Index := 0#32
  ![v865.toNat, 1, 0, 0]
def k0_off10 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v873 : Index := Scalar.indexCast v1
  let c1_682 : Index := 1#32
  let c0_683 : Index := 0#32
  let c0_684 : Index := 0#32
  ![v873.toNat, 1, 0, 0]
def k0_off11 (i : grid0.Coords) : Fin 4 → Nat :=
  let arg2 : BitVec 32 := BitVec.ofNat 32 (i 2).val
  let c2_i32 : BitVec 32 := 2#32
  let v0 : BitVec 32 := Scalar.remsi arg2 c2_i32
  let v877 : Index := Scalar.indexCast v0
  let c1_685 : Index := 1#32
  let c64_686 : Index := 64#32
  let c0_687 : Index := 0#32
  ![v877.toNat, 1, 64, 0]
def k0_off12 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v884 : Index := Scalar.indexCast v1
  let c1_689 : Index := 1#32
  let c64_690 : Index := 64#32
  let c0_691 : Index := 0#32
  ![v884.toNat, 1, 64, 0]
def k0_off13 (i : grid0.Coords) : Fin 4 → Nat :=
  let arg2 : BitVec 32 := BitVec.ofNat 32 (i 2).val
  let c2_i32 : BitVec 32 := 2#32
  let v0 : BitVec 32 := Scalar.remsi arg2 c2_i32
  let v893 : Index := Scalar.indexCast v0
  let c2_701 : Index := 2#32
  let c0_702 : Index := 0#32
  let c0_703 : Index := 0#32
  ![v893.toNat, 2, 0, 0]
def k0_off14 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v1296 : Index := Scalar.indexCast v1
  let c2_1016 : Index := 2#32
  let c0_1017 : Index := 0#32
  let c0_1018 : Index := 0#32
  ![v1296.toNat, 2, 0, 0]
def k0_off15 (i : grid0.Coords) : Fin 4 → Nat :=
  let arg2 : BitVec 32 := BitVec.ofNat 32 (i 2).val
  let c2_i32 : BitVec 32 := 2#32
  let v0 : BitVec 32 := Scalar.remsi arg2 c2_i32
  let v1302 : Index := Scalar.indexCast v0
  let c2_1020 : Index := 2#32
  let c0_1021 : Index := 0#32
  let c0_1022 : Index := 0#32
  ![v1302.toNat, 2, 0, 0]
def k0_off16 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v1310 : Index := Scalar.indexCast v1
  let c2_1026 : Index := 2#32
  let c0_1027 : Index := 0#32
  let c0_1028 : Index := 0#32
  ![v1310.toNat, 2, 0, 0]
def k0_off17 (i : grid0.Coords) : Fin 4 → Nat :=
  let arg2 : BitVec 32 := BitVec.ofNat 32 (i 2).val
  let c2_i32 : BitVec 32 := 2#32
  let v0 : BitVec 32 := Scalar.remsi arg2 c2_i32
  let v1314 : Index := Scalar.indexCast v0
  let c2_1029 : Index := 2#32
  let c64_1030 : Index := 64#32
  let c0_1031 : Index := 0#32
  ![v1314.toNat, 2, 64, 0]
def k0_off18 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v1321 : Index := Scalar.indexCast v1
  let c2_1033 : Index := 2#32
  let c64_1034 : Index := 64#32
  let c0_1035 : Index := 0#32
  ![v1321.toNat, 2, 64, 0]
def k0_off19 (i : grid0.Coords) : Fin 4 → Nat :=
  let arg2 : BitVec 32 := BitVec.ofNat 32 (i 2).val
  let c2_i32 : BitVec 32 := 2#32
  let v0 : BitVec 32 := Scalar.remsi arg2 c2_i32
  let v1330 : Index := Scalar.indexCast v0
  let c3_1045 : Index := 3#32
  let c0_1046 : Index := 0#32
  let c0_1047 : Index := 0#32
  ![v1330.toNat, 3, 0, 0]
def k0_off20 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v1733 : Index := Scalar.indexCast v1
  let c3_1360 : Index := 3#32
  let c0_1361 : Index := 0#32
  let c0_1362 : Index := 0#32
  ![v1733.toNat, 3, 0, 0]
def k0_off21 (i : grid0.Coords) : Fin 4 → Nat :=
  let arg2 : BitVec 32 := BitVec.ofNat 32 (i 2).val
  let c2_i32 : BitVec 32 := 2#32
  let v0 : BitVec 32 := Scalar.remsi arg2 c2_i32
  let v1739 : Index := Scalar.indexCast v0
  let c3_1364 : Index := 3#32
  let c0_1365 : Index := 0#32
  let c0_1366 : Index := 0#32
  ![v1739.toNat, 3, 0, 0]
def k0_off22 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v1747 : Index := Scalar.indexCast v1
  let c3_1370 : Index := 3#32
  let c0_1371 : Index := 0#32
  let c0_1372 : Index := 0#32
  ![v1747.toNat, 3, 0, 0]
def k0_off23 (i : grid0.Coords) : Fin 4 → Nat :=
  let arg2 : BitVec 32 := BitVec.ofNat 32 (i 2).val
  let c2_i32 : BitVec 32 := 2#32
  let v0 : BitVec 32 := Scalar.remsi arg2 c2_i32
  let v1751 : Index := Scalar.indexCast v0
  let c3_1373 : Index := 3#32
  let c64_1374 : Index := 64#32
  let c0_1375 : Index := 0#32
  ![v1751.toNat, 3, 64, 0]
def k0_off24 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v1758 : Index := Scalar.indexCast v1
  let c3_1377 : Index := 3#32
  let c64_1378 : Index := 64#32
  let c0_1379 : Index := 0#32
  ![v1758.toNat, 3, 64, 0]
def k0_off25 (i : grid0.Coords) : Fin 4 → Nat :=
  let arg2 : BitVec 32 := BitVec.ofNat 32 (i 2).val
  let c2_i32 : BitVec 32 := 2#32
  let v0 : BitVec 32 := Scalar.remsi arg2 c2_i32
  let v1767 : Index := Scalar.indexCast v0
  let c4_1389 : Index := 4#32
  let c0_1390 : Index := 0#32
  let c0_1391 : Index := 0#32
  ![v1767.toNat, 4, 0, 0]
def k0_off26 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v2170 : Index := Scalar.indexCast v1
  let c4_1704 : Index := 4#32
  let c0_1705 : Index := 0#32
  let c0_1706 : Index := 0#32
  ![v2170.toNat, 4, 0, 0]
def k0_off27 (i : grid0.Coords) : Fin 4 → Nat :=
  let arg2 : BitVec 32 := BitVec.ofNat 32 (i 2).val
  let c2_i32 : BitVec 32 := 2#32
  let v0 : BitVec 32 := Scalar.remsi arg2 c2_i32
  let v2176 : Index := Scalar.indexCast v0
  let c4_1708 : Index := 4#32
  let c0_1709 : Index := 0#32
  let c0_1710 : Index := 0#32
  ![v2176.toNat, 4, 0, 0]
def k0_off28 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v2184 : Index := Scalar.indexCast v1
  let c4_1714 : Index := 4#32
  let c0_1715 : Index := 0#32
  let c0_1716 : Index := 0#32
  ![v2184.toNat, 4, 0, 0]
def k0_off29 (i : grid0.Coords) : Fin 4 → Nat :=
  let arg2 : BitVec 32 := BitVec.ofNat 32 (i 2).val
  let c2_i32 : BitVec 32 := 2#32
  let v0 : BitVec 32 := Scalar.remsi arg2 c2_i32
  let v2188 : Index := Scalar.indexCast v0
  let c4_1717 : Index := 4#32
  let c64_1718 : Index := 64#32
  let c0_1719 : Index := 0#32
  ![v2188.toNat, 4, 64, 0]
def k0_off30 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v2195 : Index := Scalar.indexCast v1
  let c4_1721 : Index := 4#32
  let c64_1722 : Index := 64#32
  let c0_1723 : Index := 0#32
  ![v2195.toNat, 4, 64, 0]
def k0_off31 (i : grid0.Coords) : Fin 4 → Nat :=
  let arg2 : BitVec 32 := BitVec.ofNat 32 (i 2).val
  let c2_i32 : BitVec 32 := 2#32
  let v0 : BitVec 32 := Scalar.remsi arg2 c2_i32
  let v2204 : Index := Scalar.indexCast v0
  let c5_1733 : Index := 5#32
  let c0_1734 : Index := 0#32
  let c0_1735 : Index := 0#32
  ![v2204.toNat, 5, 0, 0]
def k0_off32 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v2607 : Index := Scalar.indexCast v1
  let c5_2048 : Index := 5#32
  let c0_2049 : Index := 0#32
  let c0_2050 : Index := 0#32
  ![v2607.toNat, 5, 0, 0]
def k0_off33 (i : grid0.Coords) : Fin 4 → Nat :=
  let arg2 : BitVec 32 := BitVec.ofNat 32 (i 2).val
  let c2_i32 : BitVec 32 := 2#32
  let v0 : BitVec 32 := Scalar.remsi arg2 c2_i32
  let v2613 : Index := Scalar.indexCast v0
  let c5_2052 : Index := 5#32
  let c0_2053 : Index := 0#32
  let c0_2054 : Index := 0#32
  ![v2613.toNat, 5, 0, 0]
def k0_off34 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v2621 : Index := Scalar.indexCast v1
  let c5_2058 : Index := 5#32
  let c0_2059 : Index := 0#32
  let c0_2060 : Index := 0#32
  ![v2621.toNat, 5, 0, 0]
def k0_off35 (i : grid0.Coords) : Fin 4 → Nat :=
  let arg2 : BitVec 32 := BitVec.ofNat 32 (i 2).val
  let c2_i32 : BitVec 32 := 2#32
  let v0 : BitVec 32 := Scalar.remsi arg2 c2_i32
  let v2625 : Index := Scalar.indexCast v0
  let c5_2061 : Index := 5#32
  let c64_2062 : Index := 64#32
  let c0_2063 : Index := 0#32
  ![v2625.toNat, 5, 64, 0]
def k0_off36 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v2632 : Index := Scalar.indexCast v1
  let c5_2065 : Index := 5#32
  let c64_2066 : Index := 64#32
  let c0_2067 : Index := 0#32
  ![v2632.toNat, 5, 64, 0]
def k0_off37 (i : grid0.Coords) : Fin 4 → Nat :=
  let arg2 : BitVec 32 := BitVec.ofNat 32 (i 2).val
  let c2_i32 : BitVec 32 := 2#32
  let v0 : BitVec 32 := Scalar.remsi arg2 c2_i32
  let v2641 : Index := Scalar.indexCast v0
  let c6_2077 : Index := 6#32
  let c0_2078 : Index := 0#32
  let c0_2079 : Index := 0#32
  ![v2641.toNat, 6, 0, 0]
def k0_off38 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3044 : Index := Scalar.indexCast v1
  let c6_2392 : Index := 6#32
  let c0_2393 : Index := 0#32
  let c0_2394 : Index := 0#32
  ![v3044.toNat, 6, 0, 0]
def k0_off39 (i : grid0.Coords) : Fin 4 → Nat :=
  let arg2 : BitVec 32 := BitVec.ofNat 32 (i 2).val
  let c2_i32 : BitVec 32 := 2#32
  let v0 : BitVec 32 := Scalar.remsi arg2 c2_i32
  let v3050 : Index := Scalar.indexCast v0
  let c6_2396 : Index := 6#32
  let c0_2397 : Index := 0#32
  let c0_2398 : Index := 0#32
  ![v3050.toNat, 6, 0, 0]
def k0_off40 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3058 : Index := Scalar.indexCast v1
  let c6_2402 : Index := 6#32
  let c0_2403 : Index := 0#32
  let c0_2404 : Index := 0#32
  ![v3058.toNat, 6, 0, 0]
def k0_off41 (i : grid0.Coords) : Fin 4 → Nat :=
  let arg2 : BitVec 32 := BitVec.ofNat 32 (i 2).val
  let c2_i32 : BitVec 32 := 2#32
  let v0 : BitVec 32 := Scalar.remsi arg2 c2_i32
  let v3062 : Index := Scalar.indexCast v0
  let c6_2405 : Index := 6#32
  let c64_2406 : Index := 64#32
  let c0_2407 : Index := 0#32
  ![v3062.toNat, 6, 64, 0]
def k0_off42 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3069 : Index := Scalar.indexCast v1
  let c6_2409 : Index := 6#32
  let c64_2410 : Index := 64#32
  let c0_2411 : Index := 0#32
  ![v3069.toNat, 6, 64, 0]
def k0_off43 (i : grid0.Coords) : Fin 4 → Nat :=
  let arg2 : BitVec 32 := BitVec.ofNat 32 (i 2).val
  let c2_i32 : BitVec 32 := 2#32
  let v0 : BitVec 32 := Scalar.remsi arg2 c2_i32
  let v3078 : Index := Scalar.indexCast v0
  let c7_2421 : Index := 7#32
  let c0_2422 : Index := 0#32
  let c0_2423 : Index := 0#32
  ![v3078.toNat, 7, 0, 0]
def k0_off44 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3471 : Index := Scalar.indexCast v1
  let c7_2719 : Index := 7#32
  let c0_2720 : Index := 0#32
  let c0_2721 : Index := 0#32
  ![v3471.toNat, 7, 0, 0]
def k0_off45 (i : grid0.Coords) : Fin 4 → Nat :=
  let arg2 : BitVec 32 := BitVec.ofNat 32 (i 2).val
  let c2_i32 : BitVec 32 := 2#32
  let v0 : BitVec 32 := Scalar.remsi arg2 c2_i32
  let v3477 : Index := Scalar.indexCast v0
  let c7_2723 : Index := 7#32
  let c0_2724 : Index := 0#32
  let c0_2725 : Index := 0#32
  ![v3477.toNat, 7, 0, 0]
def k0_off46 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3485 : Index := Scalar.indexCast v1
  let c7_2729 : Index := 7#32
  let c0_2730 : Index := 0#32
  let c0_2731 : Index := 0#32
  ![v3485.toNat, 7, 0, 0]
def k0_off47 (i : grid0.Coords) : Fin 4 → Nat :=
  let arg2 : BitVec 32 := BitVec.ofNat 32 (i 2).val
  let c2_i32 : BitVec 32 := 2#32
  let v0 : BitVec 32 := Scalar.remsi arg2 c2_i32
  let v3489 : Index := Scalar.indexCast v0
  let c7_2732 : Index := 7#32
  let c64_2733 : Index := 64#32
  let c0_2734 : Index := 0#32
  ![v3489.toNat, 7, 64, 0]
def k0_off48 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3496 : Index := Scalar.indexCast v1
  let c7_2736 : Index := 7#32
  let c64_2737 : Index := 64#32
  let c0_2738 : Index := 0#32
  ![v3496.toNat, 7, 64, 0]
@[reducible] def k0_t1_loop : Scf.Loop 32 :=
  let c0_i32_2743 : BitVec 32 := 0#32
  let c8_i32 : BitVec 32 := 8#32
  let v3511 : BitVec 32 := Scalar.addi c0_i32_2743 c8_i32
  let c1_i32_2744 : BitVec 32 := 1#32
  ⟨c0_i32_2743, v3511, c1_i32_2744⟩
def k0_off49 (k0_t1 : Fin k0_t1_loop.trips) : Fin 4 → Nat :=
  let c0_2746 : Index := 0#32
  let c0_i32_2743 : BitVec 32 := 0#32
  let c1_i32_2744 : BitVec 32 := 1#32
  let arg10 : BitVec 32 := Scf.iv c0_i32_2743 c1_i32_2744 k0_t1
  let v3512 : Index := Scalar.indexCast arg10
  let c0_2747 : Index := 0#32
  let c0_2748 : Index := 0#32
  ![0, v3512.toNat, 0, 0]
def k0_off50 (i : grid0.Coords) (k0_t1 : Fin k0_t1_loop.trips) : Fin 4 → Nat :=
  let arg2 : BitVec 32 := BitVec.ofNat 32 (i 2).val
  let c2_i32 : BitVec 32 := 2#32
  let v0 : BitVec 32 := Scalar.remsi arg2 c2_i32
  let v3551 : Index := Scalar.indexCast v0
  let c0_i32_2743 : BitVec 32 := 0#32
  let c1_i32_2744 : BitVec 32 := 1#32
  let arg10 : BitVec 32 := Scf.iv c0_i32_2743 c1_i32_2744 k0_t1
  let v3552 : Index := Scalar.indexCast arg10
  let c0_2765 : Index := 0#32
  let c0_2766 : Index := 0#32
  ![v3551.toNat, v3552.toNat, 0, 0]
@[reducible] def k0_t2_loop : Scf.Loop 32 :=
  let c0_i32_2767 : BitVec 32 := 0#32
  let c13_i32 : BitVec 32 := 13#32
  let v3555 : BitVec 32 := Scalar.addi c0_i32_2767 c13_i32
  let c1_i32_2768 : BitVec 32 := 1#32
  ⟨c0_i32_2767, v3555, c1_i32_2768⟩
def k0_mult1 (k0_t2 : Fin k0_t2_loop.trips) : BitVec 32 :=
  let c0_i32_2767 : BitVec 32 := 0#32
  let c1_i32_2768 : BitVec 32 := 1#32
  let arg11 : BitVec 32 := Scf.iv c0_i32_2767 c1_i32_2768 k0_t2
  let c256_i32 : BitVec 32 := 256#32
  let v3591 : BitVec 32 := Scalar.muli arg11 c256_i32
  v3591
def k0_off51 (k0_t1 : Fin k0_t1_loop.trips) (k0_t2 : Fin k0_t2_loop.trips) : Fin 4 → Nat :=
  let c0_2786 : Index := 0#32
  let c0_i32_2743 : BitVec 32 := 0#32
  let c1_i32_2744 : BitVec 32 := 1#32
  let arg10 : BitVec 32 := Scf.iv c0_i32_2743 c1_i32_2744 k0_t1
  let c1_i32_2749 : BitVec 32 := 1#32
  let v3515 : BitVec 32 := Scalar.muli arg10 c1_i32_2749
  let c0_i32_2751 : BitVec 32 := 0#32
  let v3517 : BitVec 1 := Scalar.cmpi .sgt v3515 c0_i32_2751
  let v3518 : BitVec 32 := Scalar.extui v3517
  let c0_i32_2752 : BitVec 32 := 0#32
  let v3519 : BitVec 1 := Scalar.cmpi .slt v3515 c0_i32_2752
  let v3520 : BitVec 32 := Scalar.extui v3519
  let v3521 : BitVec 32 := Scalar.subi v3518 v3520
  let c8_i32_2750 : BitVec 32 := 8#32
  let c0_i32_2753 : BitVec 32 := 0#32
  let v3522 : BitVec 1 := Scalar.cmpi .sgt c8_i32_2750 c0_i32_2753
  let v3523 : BitVec 32 := Scalar.extui v3522
  let c0_i32_2754 : BitVec 32 := 0#32
  let v3524 : BitVec 1 := Scalar.cmpi .slt c8_i32_2750 c0_i32_2754
  let v3525 : BitVec 32 := Scalar.extui v3524
  let v3526 : BitVec 32 := Scalar.subi v3523 v3525
  let v3527 : BitVec 1 := Scalar.cmpi .ne v3521 v3526
  let v3528 : BitVec 32 := Scalar.remsi v3515 c8_i32_2750
  let c0_i32_2755 : BitVec 32 := 0#32
  let v3529 : BitVec 1 := Scalar.cmpi .ne v3528 c0_i32_2755
  let v3530 : BitVec 1 := Scalar.andi v3527 v3529
  let v3516 : BitVec 32 := Scalar.divsi v3515 c8_i32_2750
  let c1_i32_2756 : BitVec 32 := 1#32
  let v3531 : BitVec 32 := Scalar.subi v3516 c1_i32_2756
  let v3532 : BitVec 32 := Scalar.select v3530 v3531 v3516
  let v3593 : Index := Scalar.indexCast v3532
  let c0_i32_2767 : BitVec 32 := 0#32
  let c1_i32_2768 : BitVec 32 := 1#32
  let arg11 : BitVec 32 := Scf.iv c0_i32_2767 c1_i32_2768 k0_t2
  let c256_i32 : BitVec 32 := 256#32
  let v3591 : BitVec 32 := Scalar.muli arg11 c256_i32
  let v3592 : BitVec 32 := v3591
  let v3594 : Index := Scalar.indexCast v3592
  let c0_2787 : Index := 0#32
  ![0, v3593.toNat, v3594.toNat, 0]
@[reducible] def k0_t3_loop : Scf.Loop 32 :=
  let c0_i32_2772 : BitVec 32 := 0#32
  let c13_i32_2773 : BitVec 32 := 13#32
  let v3559 : BitVec 32 := Scalar.addi c0_i32_2772 c13_i32_2773
  let c1_i32_2774 : BitVec 32 := 1#32
  ⟨c0_i32_2772, v3559, c1_i32_2774⟩
def k0_mult2 (k0_t3 : Fin k0_t3_loop.trips) : BitVec 32 :=
  let c0_i32_2772 : BitVec 32 := 0#32
  let c1_i32_2774 : BitVec 32 := 1#32
  let arg11 : BitVec 32 := Scf.iv c0_i32_2772 c1_i32_2774 k0_t3
  let c256_i32 : BitVec 32 := 256#32
  let v3591 : BitVec 32 := Scalar.muli arg11 c256_i32
  v3591
def k0_off52 (k0_t1 : Fin k0_t1_loop.trips) (k0_t3 : Fin k0_t3_loop.trips) : Fin 4 → Nat :=
  let c0_2786 : Index := 0#32
  let c0_i32_2743 : BitVec 32 := 0#32
  let c1_i32_2744 : BitVec 32 := 1#32
  let arg10 : BitVec 32 := Scf.iv c0_i32_2743 c1_i32_2744 k0_t1
  let c1_i32_2749 : BitVec 32 := 1#32
  let v3515 : BitVec 32 := Scalar.muli arg10 c1_i32_2749
  let c0_i32_2751 : BitVec 32 := 0#32
  let v3517 : BitVec 1 := Scalar.cmpi .sgt v3515 c0_i32_2751
  let v3518 : BitVec 32 := Scalar.extui v3517
  let c0_i32_2752 : BitVec 32 := 0#32
  let v3519 : BitVec 1 := Scalar.cmpi .slt v3515 c0_i32_2752
  let v3520 : BitVec 32 := Scalar.extui v3519
  let v3521 : BitVec 32 := Scalar.subi v3518 v3520
  let c8_i32_2750 : BitVec 32 := 8#32
  let c0_i32_2753 : BitVec 32 := 0#32
  let v3522 : BitVec 1 := Scalar.cmpi .sgt c8_i32_2750 c0_i32_2753
  let v3523 : BitVec 32 := Scalar.extui v3522
  let c0_i32_2754 : BitVec 32 := 0#32
  let v3524 : BitVec 1 := Scalar.cmpi .slt c8_i32_2750 c0_i32_2754
  let v3525 : BitVec 32 := Scalar.extui v3524
  let v3526 : BitVec 32 := Scalar.subi v3523 v3525
  let v3527 : BitVec 1 := Scalar.cmpi .ne v3521 v3526
  let v3528 : BitVec 32 := Scalar.remsi v3515 c8_i32_2750
  let c0_i32_2755 : BitVec 32 := 0#32
  let v3529 : BitVec 1 := Scalar.cmpi .ne v3528 c0_i32_2755
  let v3530 : BitVec 1 := Scalar.andi v3527 v3529
  let v3516 : BitVec 32 := Scalar.divsi v3515 c8_i32_2750
  let c1_i32_2756 : BitVec 32 := 1#32
  let v3531 : BitVec 32 := Scalar.subi v3516 c1_i32_2756
  let v3532 : BitVec 32 := Scalar.select v3530 v3531 v3516
  let v3593 : Index := Scalar.indexCast v3532
  let c0_i32_2772 : BitVec 32 := 0#32
  let c1_i32_2774 : BitVec 32 := 1#32
  let arg11 : BitVec 32 := Scf.iv c0_i32_2772 c1_i32_2774 k0_t3
  let c256_i32 : BitVec 32 := 256#32
  let v3591 : BitVec 32 := Scalar.muli arg11 c256_i32
  let v3592 : BitVec 32 := v3591
  let v3594 : Index := Scalar.indexCast v3592
  let c0_2787 : Index := 0#32
  ![0, v3593.toNat, v3594.toNat, 0]
def k0_off53 (k0_t1 : Fin k0_t1_loop.trips) (k0_t3 : Fin k0_t3_loop.trips) : Fin 4 → Nat :=
  let c0_2789 : Index := 0#32
  let c0_i32_2743 : BitVec 32 := 0#32
  let c1_i32_2744 : BitVec 32 := 1#32
  let arg10 : BitVec 32 := Scf.iv c0_i32_2743 c1_i32_2744 k0_t1
  let c2_i32_2757 : BitVec 32 := 2#32
  let v3533 : BitVec 32 := Scalar.muli arg10 c2_i32_2757
  let c0_i32_2759 : BitVec 32 := 0#32
  let v3535 : BitVec 1 := Scalar.cmpi .sgt v3533 c0_i32_2759
  let v3536 : BitVec 32 := Scalar.extui v3535
  let c0_i32_2760 : BitVec 32 := 0#32
  let v3537 : BitVec 1 := Scalar.cmpi .slt v3533 c0_i32_2760
  let v3538 : BitVec 32 := Scalar.extui v3537
  let v3539 : BitVec 32 := Scalar.subi v3536 v3538
  let c8_i32_2758 : BitVec 32 := 8#32
  let c0_i32_2761 : BitVec 32 := 0#32
  let v3540 : BitVec 1 := Scalar.cmpi .sgt c8_i32_2758 c0_i32_2761
  let v3541 : BitVec 32 := Scalar.extui v3540
  let c0_i32_2762 : BitVec 32 := 0#32
  let v3542 : BitVec 1 := Scalar.cmpi .slt c8_i32_2758 c0_i32_2762
  let v3543 : BitVec 32 := Scalar.extui v3542
  let v3544 : BitVec 32 := Scalar.subi v3541 v3543
  let v3545 : BitVec 1 := Scalar.cmpi .ne v3539 v3544
  let v3546 : BitVec 32 := Scalar.remsi v3533 c8_i32_2758
  let c0_i32_2763 : BitVec 32 := 0#32
  let v3547 : BitVec 1 := Scalar.cmpi .ne v3546 c0_i32_2763
  let v3548 : BitVec 1 := Scalar.andi v3545 v3547
  let v3534 : BitVec 32 := Scalar.divsi v3533 c8_i32_2758
  let c1_i32_2764 : BitVec 32 := 1#32
  let v3549 : BitVec 32 := Scalar.subi v3534 c1_i32_2764
  let v3550 : BitVec 32 := Scalar.select v3548 v3549 v3534
  let v3601 : Index := Scalar.indexCast v3550
  let c0_2790 : Index := 0#32
  let c0_i32_2772 : BitVec 32 := 0#32
  let c1_i32_2774 : BitVec 32 := 1#32
  let arg11 : BitVec 32 := Scf.iv c0_i32_2772 c1_i32_2774 k0_t3
  let c256_i32 : BitVec 32 := 256#32
  let v3591 : BitVec 32 := Scalar.muli arg11 c256_i32
  let v3592 : BitVec 32 := v3591
  let v3602 : Index := Scalar.indexCast v3592
  ![0, v3601.toNat, 0, v3602.toNat]
def k0_off54 (i : grid0.Coords) (k0_t1 : Fin k0_t1_loop.trips) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3563 : Index := Scalar.indexCast v1
  let c0_i32_2743 : BitVec 32 := 0#32
  let c1_i32_2744 : BitVec 32 := 1#32
  let arg10 : BitVec 32 := Scf.iv c0_i32_2743 c1_i32_2744 k0_t1
  let v3564 : Index := Scalar.indexCast arg10
  let c0_2776 : Index := 0#32
  let c0_2777 : Index := 0#32
  ![v3563.toNat, v3564.toNat, 0, 0]
def k0_off55 (i : grid0.Coords) (k0_t1 : Fin k0_t1_loop.trips) : Fin 4 → Nat :=
  let arg2 : BitVec 32 := BitVec.ofNat 32 (i 2).val
  let c2_i32 : BitVec 32 := 2#32
  let v0 : BitVec 32 := Scalar.remsi arg2 c2_i32
  let v3568 : Index := Scalar.indexCast v0
  let c0_i32_2743 : BitVec 32 := 0#32
  let c1_i32_2744 : BitVec 32 := 1#32
  let arg10 : BitVec 32 := Scf.iv c0_i32_2743 c1_i32_2744 k0_t1
  let v3569 : Index := Scalar.indexCast arg10
  let c0_2778 : Index := 0#32
  let c0_2779 : Index := 0#32
  ![v3568.toNat, v3569.toNat, 0, 0]
def k0_off56 (i : grid0.Coords) (k0_t1 : Fin k0_t1_loop.trips) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3575 : Index := Scalar.indexCast v1
  let c0_i32_2743 : BitVec 32 := 0#32
  let c1_i32_2744 : BitVec 32 := 1#32
  let arg10 : BitVec 32 := Scf.iv c0_i32_2743 c1_i32_2744 k0_t1
  let v3576 : Index := Scalar.indexCast arg10
  let c0_2780 : Index := 0#32
  let c0_2781 : Index := 0#32
  ![v3575.toNat, v3576.toNat, 0, 0]
def k0_off57 (i : grid0.Coords) (k0_t1 : Fin k0_t1_loop.trips) : Fin 4 → Nat :=
  let arg2 : BitVec 32 := BitVec.ofNat 32 (i 2).val
  let c2_i32 : BitVec 32 := 2#32
  let v0 : BitVec 32 := Scalar.remsi arg2 c2_i32
  let v3580 : Index := Scalar.indexCast v0
  let c0_i32_2743 : BitVec 32 := 0#32
  let c1_i32_2744 : BitVec 32 := 1#32
  let arg10 : BitVec 32 := Scf.iv c0_i32_2743 c1_i32_2744 k0_t1
  let v3581 : Index := Scalar.indexCast arg10
  let c64_2782 : Index := 64#32
  let c0_2783 : Index := 0#32
  ![v3580.toNat, v3581.toNat, 64, 0]
def k0_off58 (i : grid0.Coords) (k0_t1 : Fin k0_t1_loop.trips) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3586 : Index := Scalar.indexCast v1
  let c0_i32_2743 : BitVec 32 := 0#32
  let c1_i32_2744 : BitVec 32 := 1#32
  let arg10 : BitVec 32 := Scf.iv c0_i32_2743 c1_i32_2744 k0_t1
  let v3587 : Index := Scalar.indexCast arg10
  let c64_2784 : Index := 64#32
  let c0_2785 : Index := 0#32
  ![v3586.toNat, v3587.toNat, 64, 0]
def k0_cond3 (i : grid0.Coords) : BitVec 1 :=
  let arg2 : BitVec 32 := BitVec.ofNat 32 (i 2).val
  let c4_i32 : BitVec 32 := 4#32
  let v3508 : BitVec 1 := Scalar.cmpi .eq arg2 c4_i32
  let v3509 : BitVec 32 := Scalar.extui v3508
  let c0_i32_2742 : BitVec 32 := 0#32
  let v3510 : BitVec 1 := Scalar.cmpi .ne v3509 c0_i32_2742
  v3510

def k0_off59 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3511 : Index := Scalar.indexCast v1
  let c0_2743 : Index := 0#32
  let c0_2744 : Index := 0#32
  let c0_2745 : Index := 0#32
  ![v3511.toNat, 0, 0, 0]
def k0_off60 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3514 : Index := Scalar.indexCast v1
  let c0_2746 : Index := 0#32
  let c64_2747 : Index := 64#32
  let c0_2748 : Index := 0#32
  ![v3514.toNat, 0, 64, 0]
def k0_off61 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3523 : Index := Scalar.indexCast v1
  let c1_2753 : Index := 1#32
  let c0_2754 : Index := 0#32
  let c0_2755 : Index := 0#32
  ![v3523.toNat, 1, 0, 0]
def k0_off62 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3526 : Index := Scalar.indexCast v1
  let c1_2756 : Index := 1#32
  let c64_2757 : Index := 64#32
  let c0_2758 : Index := 0#32
  ![v3526.toNat, 1, 64, 0]
def k0_off63 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3535 : Index := Scalar.indexCast v1
  let c2_2763 : Index := 2#32
  let c0_2764 : Index := 0#32
  let c0_2765 : Index := 0#32
  ![v3535.toNat, 2, 0, 0]
def k0_off64 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3538 : Index := Scalar.indexCast v1
  let c2_2766 : Index := 2#32
  let c64_2767 : Index := 64#32
  let c0_2768 : Index := 0#32
  ![v3538.toNat, 2, 64, 0]
def k0_off65 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3547 : Index := Scalar.indexCast v1
  let c3_2773 : Index := 3#32
  let c0_2774 : Index := 0#32
  let c0_2775 : Index := 0#32
  ![v3547.toNat, 3, 0, 0]
def k0_off66 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3550 : Index := Scalar.indexCast v1
  let c3_2776 : Index := 3#32
  let c64_2777 : Index := 64#32
  let c0_2778 : Index := 0#32
  ![v3550.toNat, 3, 64, 0]
def k0_off67 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3559 : Index := Scalar.indexCast v1
  let c4_2783 : Index := 4#32
  let c0_2784 : Index := 0#32
  let c0_2785 : Index := 0#32
  ![v3559.toNat, 4, 0, 0]
def k0_off68 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3562 : Index := Scalar.indexCast v1
  let c4_2786 : Index := 4#32
  let c64_2787 : Index := 64#32
  let c0_2788 : Index := 0#32
  ![v3562.toNat, 4, 64, 0]
def k0_off69 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3571 : Index := Scalar.indexCast v1
  let c5_2793 : Index := 5#32
  let c0_2794 : Index := 0#32
  let c0_2795 : Index := 0#32
  ![v3571.toNat, 5, 0, 0]
def k0_off70 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3574 : Index := Scalar.indexCast v1
  let c5_2796 : Index := 5#32
  let c64_2797 : Index := 64#32
  let c0_2798 : Index := 0#32
  ![v3574.toNat, 5, 64, 0]
def k0_off71 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3583 : Index := Scalar.indexCast v1
  let c6_2803 : Index := 6#32
  let c0_2804 : Index := 0#32
  let c0_2805 : Index := 0#32
  ![v3583.toNat, 6, 0, 0]
def k0_off72 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3586 : Index := Scalar.indexCast v1
  let c6_2806 : Index := 6#32
  let c64_2807 : Index := 64#32
  let c0_2808 : Index := 0#32
  ![v3586.toNat, 6, 64, 0]
def k0_off73 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3595 : Index := Scalar.indexCast v1
  let c7_2813 : Index := 7#32
  let c0_2814 : Index := 0#32
  let c0_2815 : Index := 0#32
  ![v3595.toNat, 7, 0, 0]
def k0_off74 (i : grid0.Coords) : Fin 4 → Nat :=
  let c1_i32 : BitVec 32 := 1#32
  let arg2 : BitVec 32 := BitVec.ofNat 32 (i 2).val
  let c2_i32 : BitVec 32 := 2#32
  let v0 : BitVec 32 := Scalar.remsi arg2 c2_i32
  let v1 : BitVec 32 := Scalar.subi c1_i32 v0
  let v3598 : Index := Scalar.indexCast v1
  let c7_2816 : Index := 7#32
  let c64_2817 : Index := 64#32
  let c0_2818 : Index := 0#32
  ![v3598.toNat, 7, 64, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x3328x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2x64x3328 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x8x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GroupedIdeal.lean ====
variable {F : FTy → Type} [FloatOps F] [Named F]
def κ : String → Option EReal := fun
  | "inv_ln2" => some (((Real.log 2)⁻¹ : ℝ) : EReal)
  | _ => none
-- ==== GroupedReferenceIdeal.lean ====
abbrev S2x8x128x17408 : Shape := ⟨4, ![2, 8, 128, 17408]⟩
abbrev S2x1x17408x128 : Shape := ⟨4, ![2, 1, 17408, 128]⟩
abbrev S2x2x64x17408 : Shape := ⟨4, ![2, 2, 64, 17408]⟩
abbrev S2x8x128x16384 : Shape := ⟨4, ![2, 8, 128, 16384]⟩
abbrev S2x1x16640x128 : Shape := ⟨4, ![2, 1, 16640, 128]⟩
abbrev S2x16640x128 : Shape := ⟨3, ![2, 16640, 128]⟩
abbrev S2x2x64x16640 : Shape := ⟨4, ![2, 2, 64, 16640]⟩
abbrev S2x2x1x64x16640 : Shape := ⟨5, ![2, 2, 1, 64, 16640]⟩
abbrev S2x2x4x64x16640 : Shape := ⟨5, ![2, 2, 4, 64, 16640]⟩
abbrev S2x8x64x16640 : Shape := ⟨4, ![2, 8, 64, 16640]⟩
abbrev S2x8x16384x16640 : Shape := ⟨4, ![2, 8, 16384, 16640]⟩
abbrev S_ : Shape := ⟨0, ![]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩

abbrev nBuf : Space → Nat
  | .hbm => 36
  | .vmem => 0
  | .smem => 0
  | _ => 0

abbrev bufTy : (tb : Table) → Fin (tcTables nBuf tb) → BufTy
  | .hbm, ⟨0, _⟩ => ⟨S2x8x128x17408, .bf16⟩
  | .hbm, ⟨1, _⟩ => ⟨S2x1x17408x128, .bf16⟩
  | .hbm, ⟨2, _⟩ => ⟨S2x2x64x17408, .bf16⟩
  | .hbm, ⟨3, _⟩ => ⟨S2x8x128x16384, .bf16⟩
  | .hbm, ⟨4, _⟩ => ⟨S2x8x128x16384, .f32⟩
  | .hbm, ⟨5, _⟩ => ⟨S2x1x16640x128, .bf16⟩
  | .hbm, ⟨6, _⟩ => ⟨S2x16640x128, .bf16⟩
  | .hbm, ⟨7, _⟩ => ⟨S2x16640x128, .f32⟩
  | .hbm, ⟨8, _⟩ => ⟨S2x2x64x16640, .bf16⟩
  | .hbm, ⟨9, _⟩ => ⟨S2x2x64x16640, .f32⟩
  | .hbm, ⟨10, _⟩ => ⟨S2x2x1x64x16640, .f32⟩
  | .hbm, ⟨11, _⟩ => ⟨S2x2x4x64x16640, .f32⟩
  | .hbm, ⟨12, _⟩ => ⟨S2x8x64x16640, .f32⟩
  | .hbm, ⟨13, _⟩ => ⟨S2x8x16384x16640, .f32⟩
  | .hbm, ⟨14, _⟩ => ⟨S_, .f32⟩
  | .hbm, ⟨15, _⟩ => ⟨S_, .f32⟩
  | .hbm, ⟨16, _⟩ => ⟨S2x8x16384x16640, .f32⟩
  | .hbm, ⟨17, _⟩ => ⟨S2x8x16384x16640, .f32⟩
  | .hbm, ⟨18, _⟩ => ⟨S_, .f32⟩
  | .hbm, ⟨19, _⟩ => ⟨S2x8x16384, .f32⟩
  | .hbm, ⟨20, _⟩ => ⟨S_, .f32⟩
  | .hbm, ⟨21, _⟩ => ⟨S2x8x16384, .f32⟩
  | .hbm, ⟨22, _⟩ => ⟨S2x8x16384, .f32⟩
  | .hbm, ⟨23, _⟩ => ⟨S2x8x16384x1, .f32⟩
  | .hbm, ⟨24, _⟩ => ⟨S2x8x16384x16640, .f32⟩
  | .hbm, ⟨25, _⟩ => ⟨S2x8x16384x16640, .f32⟩
  | .hbm, ⟨26, _⟩ => ⟨S2x8x16384x16640, .f32⟩
  | .hbm, ⟨27, _⟩ => ⟨S_, .f32⟩
  | .hbm, ⟨28, _⟩ => ⟨S2x8x16384, .f32⟩
  | .hbm, ⟨29, _⟩ => ⟨S2x8x16384x1, .f32⟩
  | .hbm, ⟨30, _⟩ => ⟨S2x8x16384x16640, .f32⟩
  | .hbm, ⟨31, _⟩ => ⟨S2x8x16384x16640, .f32⟩
  | .hbm, ⟨32, _⟩ => ⟨S2x8x16384x16640, .bf16⟩
  | .hbm, ⟨33, _⟩ => ⟨S2x8x16384x16640, .f32⟩
  | .hbm, ⟨34, _⟩ => ⟨S2x8x64x16384, .f32⟩
  | .hbm, ⟨35, _⟩ => ⟨S2x8x64x16384, .bf16⟩
  | _, _ => ⟨S2x8x128x17408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Output.lean ====
abbrev S2x16384x1024 : Shape := ⟨3, ![2, 16384, 1024]⟩
abbrev S2x512x16384 : Shape := ⟨3, ![2, 512, 16384]⟩
abbrev S2x512x17408 : Shape := ⟨3, ![2, 512, 17408]⟩
abbrev S3x512 : Shape := ⟨2, ![3, 512]⟩
abbrev S2x1024x17408 : Shape := ⟨3, ![2, 1024, 17408]⟩
abbrev S2x1x1024 : Shape := ⟨3, ![2, 1, 1024]⟩
abbrev S1024x1024 : Shape := ⟨2, ![1024, 1024]⟩
abbrev S3x512x1 : Shape := ⟨3, ![3, 512, 1]⟩
abbrev S3x512x128 : Shape := ⟨3, ![3, 512, 128]⟩
abbrev S1x1024x1024 : Shape := ⟨3, ![1, 1024, 1024]⟩
abbrev S1x512x1024 : Shape := ⟨3, ![1, 512, 1024]⟩
abbrev S1x512x128 : Shape := ⟨3, ![1, 512, 128]⟩
abbrev S1x1x1024 : Shape := ⟨3, ![1, 1, 1024]⟩
abbrev S512x1024 : Shape := ⟨2, ![512, 1024]⟩
abbrev S512x128 : Shape := ⟨2, ![512, 128]⟩
abbrev S1x1024 : Shape := ⟨2, ![1, 1024]⟩

abbrev nBuf : Space → Nat
  | .hbm => 11
  | .vmem => 20
  | .smem => 0
  | _ => 0

abbrev bufTy : (tb : Table) → Fin (tcTables nBuf tb) → BufTy
  | .hbm, ⟨0, _⟩ => ⟨S2x16384x1024, .f32⟩
  | .hbm, ⟨1, _⟩ => ⟨S2x512x16384, .bf16⟩
  | .hbm, ⟨2, _⟩ => ⟨S2x512x17408, .bf16⟩
  | .hbm, ⟨3, _⟩ => ⟨S2x512x17408, .bf16⟩
  | .hbm, ⟨4, _⟩ => ⟨S3x512, .f32⟩
  | .hbm, ⟨5, _⟩ => ⟨S2x1024x17408, .bf16⟩
  | .hbm, ⟨6, _⟩ => ⟨S2x1x1024, .f32⟩
  | .hbm, ⟨7, _⟩ => ⟨S1024x1024, .bf16⟩
  | .hbm, ⟨8, _⟩ => ⟨S3x512x1, .f32⟩
  | .hbm, ⟨9, _⟩ => ⟨S3x512x128, .f32⟩
  | .hbm, ⟨10, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x128, .bf16⟩
  | .local _ .vmem, ⟨11, _⟩ => ⟨S1x512x128, .bf16⟩
  | .local _ .vmem, ⟨12, _⟩ => ⟨S3x512x128, .f32⟩
  | .local _ .vmem, ⟨13, _⟩ => ⟨S1x1024x1024, .bf16⟩
  | .local _ .vmem, ⟨14, _⟩ => ⟨S1x1024x1024, .bf16⟩
  | .local _ .vmem, ⟨15, _⟩ => ⟨S1x1x1024, .f32⟩
  | .local _ .vmem, ⟨16, _⟩ => ⟨S1x1x1024, .f32⟩
  | .local _ .vmem, ⟨17, _⟩ => ⟨S1024x1024, .bf16⟩
  | .local _ .vmem, ⟨18, _⟩ => ⟨S1x1024x1024, .f32⟩
  | .local _ .vmem, ⟨19, _⟩ => ⟨S1x1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![arg0.toNat, c0_i32.toNat, v2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S3x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutputReferenceIdeal.lean ====
abbrev S2x16384x1024 : Shape := ⟨3, ![2, 16384, 1024]⟩
abbrev S2x512x16384 : Shape := ⟨3, ![2, 512, 16384]⟩
abbrev S2x512x17408 : Shape := ⟨3, ![2, 512, 17408]⟩
abbrev S3x512 : Shape := ⟨2, ![3, 512]⟩
abbrev S2x1024x17408 : Shape := ⟨3, ![2, 1024, 17408]⟩
abbrev S2x1x1024 : Shape := ⟨3, ![2, 1, 1024]⟩
abbrev S1024x1024 : Shape := ⟨2, ![1024, 1024]⟩
abbrev S_ : Shape := ⟨0, ![]⟩
abbrev S2x512x16386 : Shape := ⟨3, ![2, 512, 16386]⟩
abbrev S3x1x512x1 : Shape := ⟨4, ![3, 1, 512, 1]⟩
abbrev S3x2x512x16384 : Shape := ⟨4, ![3, 2, 512, 16384]⟩
abbrev S1x2x512x16384 : Shape := ⟨4, ![1, 2, 512, 16384]⟩
abbrev S2x1024x16384 : Shape := ⟨3, ![2, 1024, 16384]⟩

abbrev nBuf : Space → Nat
  | .hbm => 40
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x512x16384, .bf16⟩
  | .hbm, ⟨2, _⟩ => ⟨S2x512x17408, .bf16⟩
  | .hbm, ⟨3, _⟩ => ⟨S2x512x17408, .bf16⟩
  | .hbm, ⟨4, _⟩ => ⟨S3x512, .f32⟩
  | .hbm, ⟨5, _⟩ => ⟨S2x1024x17408, .bf16⟩
  | .hbm, ⟨6, _⟩ => ⟨S2x1x1024, .f32⟩
  | .hbm, ⟨7, _⟩ => ⟨S1024x1024, .bf16⟩
  | .hbm, ⟨8, _⟩ => ⟨S2x512x16384, .bf16⟩
  | .hbm, ⟨9, _⟩ => ⟨S2x512x16384, .f32⟩
  | .hbm, ⟨10, _⟩ => ⟨S_, .i32⟩
  | .hbm, ⟨11, _⟩ => ⟨S_, .f32⟩
  | .hbm, ⟨12, _⟩ => ⟨S2x512x16386, .f32⟩
  | .hbm, ⟨13, _⟩ => ⟨S3x1x512x1, .f32⟩
  | .hbm, ⟨14, _⟩ => ⟨S3x2x512x16384, .f32⟩
  | .hbm, ⟨15, _⟩ => ⟨S1x2x512x16384, .f32⟩
  | .hbm, ⟨16, _⟩ => ⟨S2x512x16384, .f32⟩
  | .hbm, ⟨17, _⟩ => ⟨S2x512x16384, .f32⟩
  | .hbm, ⟨18, _⟩ => ⟨S2x512x16384, .f32⟩
  | .hbm, ⟨19, _⟩ => ⟨S1x2x512x16384, .f32⟩
  | .hbm, ⟨20, _⟩ => ⟨S2x512x16384, .f32⟩
  | .hbm, ⟨21, _⟩ => ⟨S2x512x16384, .f32⟩
  | .hbm, ⟨22, _⟩ => ⟨S2x512x16384, .f32⟩
  | .hbm, ⟨23, _⟩ => ⟨S2x512x16384, .f32⟩
  | .hbm, ⟨24, _⟩ => ⟨S1x2x512x16384, .f32⟩
  | .hbm, ⟨25, _⟩ => ⟨S2x512x16384, .f32⟩
  | .hbm, ⟨26, _⟩ => ⟨S2x512x16384, .f32⟩
  | .hbm, ⟨27, _⟩ => ⟨S2x512x16384, .f32⟩
  | .hbm, ⟨28, _⟩ => ⟨S2x512x16384, .f32⟩
  | .hbm, ⟨29, _⟩ => ⟨S2x512x16384, .bf16⟩
  | .hbm, ⟨30, _⟩ => ⟨S2x512x16384, .f32⟩
  | .hbm, ⟨31, _⟩ => ⟨S2x512x16384, .f32⟩
  | .hbm, ⟨32, _⟩ => ⟨S2x512x16384, .bf16⟩
  | .hbm, ⟨33, _⟩ => ⟨S2x1024x16384, .bf16⟩
  | .hbm, ⟨34, _⟩ => ⟨S2x1024x16384, .bf16⟩
  | .hbm, ⟨35, _⟩ => ⟨S2x1024x16384, .bf16⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Joint.lean ====
abbrev S2x16384x1024 : Shape := ⟨3, ![2, 16384, 1024]⟩
abbrev S2x512x16384 : Shape := ⟨3, ![2, 512, 16384]⟩
abbrev S2x1024x17408 : Shape := ⟨3, ![2, 1024, 17408]⟩
abbrev S2x1x1024 : Shape := ⟨3, ![2, 1, 1024]⟩
abbrev S1024x1024 : Shape := ⟨2, ![1024, 1024]⟩
abbrev S1x1024x1024 : Shape := ⟨3, ![1, 1024, 1024]⟩
abbrev S1x512x1024 : Shape := ⟨3, ![1, 512, 1024]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 7
  | .vmem => 13
  | .smem => 0
  | _ => 0

abbrev bufTy : (tb : Table) → Fin (tcTables nBuf tb) → BufTy
  | .hbm, ⟨0, _⟩ => ⟨S2x16384x1024, .f32⟩
  | .hbm, ⟨1, _⟩ => ⟨S2x512x16384, .bf16⟩
  | .hbm, ⟨2, _⟩ => ⟨S2x512x16384, .bf16⟩
  | .hbm, ⟨3, _⟩ => ⟨S2x1024x17408, .bf16⟩
  | .hbm, ⟨4, _⟩ => ⟨S2x1x1024, .f32⟩
  | .hbm, ⟨5, _⟩ => ⟨S1024x1024, .bf16⟩
  | .hbm, ⟨6, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1024x1024, .bf16⟩
  | .local _ .vmem, ⟨11, _⟩ => ⟨S1x1024x1024, .f32⟩
  | .local _ .vmem, ⟨12, _⟩ => ⟨S1x1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== JointReferenceIdeal.lean ====
abbrev S2x16384x1024 : Shape := ⟨3, ![2, 16384, 1024]⟩
abbrev S2x512x16384 : Shape := ⟨3, ![2, 512, 16384]⟩
abbrev S2x1024x17408 : Shape := ⟨3, ![2, 1024, 17408]⟩
abbrev S2x1x1024 : Shape := ⟨3, ![2, 1, 1024]⟩
abbrev S1024x1024 : Shape := ⟨2, ![1024, 1024]⟩
abbrev S2x1024x16384 : Shape := ⟨3, ![2, 1024, 16384]⟩

abbrev nBuf : Space → Nat
  | .hbm => 13
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x512x16384, .bf16⟩
  | .hbm, ⟨2, _⟩ => ⟨S2x512x16384, .bf16⟩
  | .hbm, ⟨3, _⟩ => ⟨S2x1024x17408, .bf16⟩
  | .hbm, ⟨4, _⟩ => ⟨S2x1x1024, .f32⟩
  | .hbm, ⟨5, _⟩ => ⟨S1024x1024, .bf16⟩
  | .hbm, ⟨6, _⟩ => ⟨S2x1024x16384, .bf16⟩
  | .hbm, ⟨7, _⟩ => ⟨S2x1024x16384, .bf16⟩
  | .hbm, ⟨8, _⟩ => ⟨S2x1024x16384, .bf16⟩
  | .hbm, ⟨9, _⟩ => ⟨S2x16384x1024, .f32⟩
  | .hbm, ⟨10, _⟩ => ⟨S2x16384x1024, .f32⟩
  | .hbm, ⟨11, _⟩ => ⟨S2x16384x1024, .f32⟩
  | .hbm, ⟨12, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Modulation.lean ====
abbrev S8x1024 : Shape := ⟨2, ![8, 1024]⟩
abbrev S2x1024x3072 : Shape := ⟨3, ![2, 1024, 3072]⟩
abbrev S2x3072 : Shape := ⟨2, ![2, 3072]⟩
abbrev S2x1x3072 : Shape := ⟨3, ![2, 1, 3072]⟩
abbrev S2x8x3072 : Shape := ⟨3, ![2, 8, 3072]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x3072, .f32⟩
  | .hbm, ⟨2, _⟩ => ⟨S2x3072, .f32⟩
  | .hbm, ⟨3, _⟩ => ⟨S2x1x3072, .f32⟩
  | .hbm, ⟨4, _⟩ => ⟨S2x8x3072, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S8x1024 : Shape := ⟨2, ![8, 1024]⟩
abbrev S2x1024x3072 : Shape := ⟨3, ![2, 1024, 3072]⟩
abbrev S2x3072 : Shape := ⟨2, ![2, 3072]⟩
abbrev S_ : Shape := ⟨0, ![]⟩
abbrev S2x3072x8 : Shape := ⟨3, ![2, 3072, 8]⟩
abbrev S2x8x3072 : Shape := ⟨3, ![2, 8, 3072]⟩
abbrev S2x1x3072 : Shape := ⟨3, ![2, 1, 3072]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x3072, .f32⟩
  | .hbm, ⟨2, _⟩ => ⟨S2x3072, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S2x3072x8, .f32⟩
  | .hbm, ⟨13, _⟩ => ⟨S2x8x3072, .f32⟩
  | .hbm, ⟨14, _⟩ => ⟨S2x1x3072, .f32⟩
  | .hbm, ⟨15, _⟩ => ⟨S2x8x3072, .f32⟩
  | .hbm, ⟨16, _⟩ => ⟨S2x8x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Context.lean ====
abbrev S2x8x128x17408 : Shape := ⟨4, ![2, 8, 128, 17408]⟩
abbrev S2x8x17408x128 : Shape := ⟨4, ![2, 8, 17408, 128]⟩
abbrev S2x8x64x17408 : Shape := ⟨4, ![2, 8, 64, 17408]⟩
abbrev S2x8x64x256 : Shape := ⟨4, ![2, 8, 64, 256]⟩
abbrev S1x8x128x256 : Shape := ⟨4, ![1, 8, 128, 256]⟩
abbrev S1x8x256x128 : Shape := ⟨4, ![1, 8, 256, 128]⟩
abbrev S1x8x64x256 : Shape := ⟨4, ![1, 8, 64, 256]⟩
abbrev S1x1x256x128 : Shape := ⟨4, ![1, 1, 256, 128]⟩
abbrev S256x128 : Shape := ⟨2, ![256, 128]⟩
abbrev S1x1x128x256 : Shape := ⟨4, ![1, 1, 128, 256]⟩
abbrev S128x256 : Shape := ⟨2, ![128, 256]⟩
abbrev S256x256 : Shape := ⟨2, ![256, 256]⟩
abbrev S256 : Shape := ⟨1, ![256]⟩
abbrev S1x256 : Shape := ⟨2, ![1, 256]⟩
abbrev S1x1x64x256 : Shape := ⟨4, ![1, 1, 64, 256]⟩
abbrev S64x256 : Shape := ⟨2, ![64, 256]⟩

abbrev nBuf : Space → Nat
  | .hbm => 4
  | .vmem => 8
  | .smem => 0
  | _ => 0

abbrev bufTy : (tb : Table) → Fin (tcTables nBuf tb) → BufTy
  | .hbm, ⟨0, _⟩ => ⟨S2x8x128x17408, .bf16⟩
  | .hbm, ⟨1, _⟩ => ⟨S2x8x17408x128, .bf16⟩
  | .hbm, ⟨2, _⟩ => ⟨S2x8x64x17408, .bf16⟩
  | .hbm, ⟨3, _⟩ => ⟨S2x8x64x256, .bf16⟩
  | .local _ .vmem, ⟨0, _⟩ => ⟨S1x8x128x256, .bf16⟩
  | .local _ .vmem, ⟨1, _⟩ => ⟨S1x8x128x256, .bf16⟩
  | .local _ .vmem, ⟨2, _⟩ => ⟨S1x8x256x128, .bf16⟩
  | .local _ .vmem, ⟨3, _⟩ => ⟨S1x8x256x128, .bf16⟩
  | .local _ .vmem, ⟨4, _⟩ => ⟨S1x8x64x256, .bf16⟩
  | .local _ .vmem, ⟨5, _⟩ => ⟨S1x8x64x256, .bf16⟩
  | .local _ .vmem, ⟨6, _⟩ => ⟨S1x8x64x256, .bf16⟩
  | .local _ .vmem, ⟨7, _⟩ => ⟨S1x8x64x256, .bf16⟩
  | _, _ => ⟨S2x8x128x17408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c64_i32 : BitVec 32 := 64#32
  let c0_i32_1 : BitVec 32 := 0#32
  ![arg0.toNat, c0_i32.toNat, c0_i32_0.toNat, c64_i32.toNat]

def cc0_transform_1 (i : grid0.Coords) : Fin 4 → Nat :=
  let arg0 : BitVec 32 := BitVec.ofNat 32 (i 0).val
  let c0_i32 : BitVec 32 := 0#32
  let c64_i32 : BitVec 32 := 64#32
  let c0_i32_0 : BitVec 32 := 0#32
  let c0_i32_1 : BitVec 32 := 0#32
  ![arg0.toNat, c0_i32.toNat, c64_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c64_i32 : BitVec 32 := 64#32
  let c0_i32_1 : BitVec 32 := 0#32
  ![arg0.toNat, c0_i32.toNat, c0_i32_0.toNat, c64_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ContextReferenceIdeal.lean ====
abbrev S2x8x128x17408 : Shape := ⟨4, ![2, 8, 128, 17408]⟩
abbrev S2x8x17408x128 : Shape := ⟨4, ![2, 8, 17408, 128]⟩
abbrev S2x8x64x17408 : Shape := ⟨4, ![2, 8, 64, 17408]⟩
abbrev S2x8x128x256 : Shape := ⟨4, ![2, 8, 128, 256]⟩
abbrev S2x8x256x128 : Shape := ⟨4, ![2, 8, 256, 128]⟩
abbrev S2x8x64x256 : Shape := ⟨4, ![2, 8, 64, 256]⟩
abbrev S2x8x256x256 : Shape := ⟨4, ![2, 8, 256, 256]⟩
abbrev S_ : Shape := ⟨0, ![]⟩
abbrev S2x8x256 : Shape := ⟨3, ![2, 8, 256]⟩
abbrev S2x8x256x1 : Shape := ⟨4, ![2, 8, 256, 1]⟩

abbrev nBuf : Space → Nat
  | .hbm => 32
  | .vmem => 0
  | .smem => 0
  | _ => 0

abbrev bufTy : (tb : Table) → Fin (tcTables nBuf tb) → BufTy
  | .hbm, ⟨0, _⟩ => ⟨S2x8x128x17408, .bf16⟩
  | .hbm, ⟨1, _⟩ => ⟨S2x8x17408x128, .bf16⟩
  | .hbm, ⟨2, _⟩ => ⟨S2x8x64x17408, .bf16⟩
  | .hbm, ⟨3, _⟩ => ⟨S2x8x128x256, .bf16⟩
  | .hbm, ⟨4, _⟩ => ⟨S2x8x128x256, .f32⟩
  | .hbm, ⟨5, _⟩ => ⟨S2x8x256x128, .bf16⟩
  | .hbm, ⟨6, _⟩ => ⟨S2x8x256x128, .f32⟩
  | .hbm, ⟨7, _⟩ => ⟨S2x8x64x256, .bf16⟩
  | .hbm, ⟨8, _⟩ => ⟨S2x8x64x256, .f32⟩
  | .hbm, ⟨9, _⟩ => ⟨S2x8x256x256, .f32⟩
  | .hbm, ⟨10, _⟩ => ⟨S_, .f32⟩
  | .hbm, ⟨11, _⟩ => ⟨S_, .f32⟩
  | .hbm, ⟨12, _⟩ => ⟨S2x8x256x256, .f32⟩
  | .hbm, ⟨13, _⟩ => ⟨S2x8x256x256, .f32⟩
  | .hbm, ⟨14, _⟩ => ⟨S_, .f32⟩
  | .hbm, ⟨15, _⟩ => ⟨S2x8x256, .f32⟩
  | .hbm, ⟨16, _⟩ => ⟨S_, .f32⟩
  | .hbm, ⟨17, _⟩ => ⟨S2x8x256, .f32⟩
  | .hbm, ⟨18, _⟩ => ⟨S2x8x256, .f32⟩
  | .hbm, ⟨19, _⟩ => ⟨S2x8x256x1, .f32⟩
  | .hbm, ⟨20, _⟩ => ⟨S2x8x256x256, .f32⟩
  | .hbm, ⟨21, _⟩ => ⟨S2x8x256x256, .f32⟩
  | .hbm, ⟨22, _⟩ => ⟨S2x8x256x256, .f32⟩
  | .hbm, ⟨23, _⟩ => ⟨S_, .f32⟩
  | .hbm, ⟨24, _⟩ => ⟨S2x8x256, .f32⟩
  | .hbm, ⟨25, _⟩ => ⟨S2x8x256x1, .f32⟩
  | .hbm, ⟨26, _⟩ => ⟨S2x8x256x256, .f32⟩
  | .hbm, ⟨27, _⟩ => ⟨S2x8x256x256, .f32⟩
  | .hbm, ⟨28, _⟩ => ⟨S2x8x256x256, .bf16⟩
  | .hbm, ⟨29, _⟩ => ⟨S2x8x256x256, .f32⟩
  | .hbm, ⟨30, _⟩ => ⟨S2x8x64x256, .f32⟩
  | .hbm, ⟨31, _⟩ => ⟨S2x8x64x256, .bf16⟩
  | _, _ => ⟨S2x8x128x17408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== ContextGrouped.lean ====
abbrev S2x8x128x17408 : Shape := ⟨4, ![2, 8, 128, 17408]⟩
abbrev S2x1x17408x128 : Shape := ⟨4, ![2, 1, 17408, 128]⟩
abbrev S2x2x64x17408 : Shape := ⟨4, ![2, 2, 64, 17408]⟩
abbrev S2x8x64x256 : Shape := ⟨4, ![2, 8, 64, 256]⟩
abbrev S1x8x128x256 : Shape := ⟨4, ![1, 8, 128, 256]⟩
abbrev S1x1x256x128 : Shape := ⟨4, ![1, 1, 256, 128]⟩
abbrev S1x2x64x256 : Shape := ⟨4, ![1, 2, 64, 256]⟩
abbrev S1x8x64x256 : Shape := ⟨4, ![1, 8, 64, 256]⟩
abbrev S256x128 : Shape := ⟨2, ![256, 128]⟩
abbrev S1x1x128x256 : Shape := ⟨4, ![1, 1, 128, 256]⟩
abbrev S128x256 : Shape := ⟨2, ![128, 256]⟩
abbrev S256x256 : Shape := ⟨2, ![256, 256]⟩
abbrev S256 : Shape := ⟨1, ![256]⟩
abbrev S1x256 : Shape := ⟨2, ![1, 256]⟩
abbrev S1x1x64x256 : Shape := ⟨4, ![1, 1, 64, 256]⟩
abbrev S64x256 : Shape := ⟨2, ![64, 256]⟩

abbrev nBuf : Space → Nat
  | .hbm => 4
  | .vmem => 8
  | .smem => 0
  | _ => 0

abbrev bufTy : (tb : Table) → Fin (tcTables nBuf tb) → BufTy
  | .hbm, ⟨0, _⟩ => ⟨S2x8x128x17408, .bf16⟩
  | .hbm, ⟨1, _⟩ => ⟨S2x1x17408x128, .bf16⟩
  | .hbm, ⟨2, _⟩ => ⟨S2x2x64x17408, .bf16⟩
  | .hbm, ⟨3, _⟩ => ⟨S2x8x64x256, .bf16⟩
  | .local _ .vmem, ⟨0, _⟩ => ⟨S1x8x128x256, .bf16⟩
  | .local _ .vmem, ⟨1, _⟩ => ⟨S1x8x128x256, .bf16⟩
  | .local _ .vmem, ⟨2, _⟩ => ⟨S1x1x256x128, .bf16⟩
  | .local _ .vmem, ⟨3, _⟩ => ⟨S1x1x256x128, .bf16⟩
  | .local _ .vmem, ⟨4, _⟩ => ⟨S1x2x64x256, .bf16⟩
  | .local _ .vmem, ⟨5, _⟩ => ⟨S1x2x64x256, .bf16⟩
  | .local _ .vmem, ⟨6, _⟩ => ⟨S1x8x64x256, .bf16⟩
  | .local _ .vmem, ⟨7, _⟩ => ⟨S1x8x64x256, .bf16⟩
  | _, _ => ⟨S2x8x128x17408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c64_i32 : BitVec 32 := 64#32
  let c0_i32_1 : BitVec 32 := 0#32
  ![arg0.toNat, c0_i32.toNat, c0_i32_0.toNat, c64_i32.toNat]

def cc0_transform_1 (i : grid0.Coords) : Fin 4 → Nat :=
  let arg0 : BitVec 32 := BitVec.ofNat 32 (i 0).val
  let c0_i32 : BitVec 32 := 0#32
  let c64_i32 : BitVec 32 := 64#32
  let c0_i32_0 : BitVec 32 := 0#32
  let c0_i32_1 : BitVec 32 := 0#32
  ![arg0.toNat, c0_i32.toNat, c64_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c64_i32 : BitVec 32 := 64#32
  let c0_i32_1 : BitVec 32 := 0#32
  ![arg0.toNat, c0_i32.toNat, c0_i32_0.toNat, c64_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ContextGroupedReferenceIdeal.lean ====
abbrev S2x8x128x17408 : Shape := ⟨4, ![2, 8, 128, 17408]⟩
abbrev S2x1x17408x128 : Shape := ⟨4, ![2, 1, 17408, 128]⟩
abbrev S2x2x64x17408 : Shape := ⟨4, ![2, 2, 64, 17408]⟩
abbrev S2x8x128x256 : Shape := ⟨4, ![2, 8, 128, 256]⟩
abbrev S2x1x256x128 : Shape := ⟨4, ![2, 1, 256, 128]⟩
abbrev S2x256x128 : Shape := ⟨3, ![2, 256, 128]⟩
abbrev S2x2x64x256 : Shape := ⟨4, ![2, 2, 64, 256]⟩
abbrev S2x2x1x64x256 : Shape := ⟨5, ![2, 2, 1, 64, 256]⟩
abbrev S2x2x4x64x256 : Shape := ⟨5, ![2, 2, 4, 64, 256]⟩
abbrev S2x8x64x256 : Shape := ⟨4, ![2, 8, 64, 256]⟩
abbrev S2x8x256x256 : Shape := ⟨4, ![2, 8, 256, 256]⟩
abbrev S_ : Shape := ⟨0, ![]⟩
abbrev S2x8x256 : Shape := ⟨3, ![2, 8, 256]⟩
abbrev S2x8x256x1 : Shape := ⟨4, ![2, 8, 256, 1]⟩

abbrev nBuf : Space → Nat
  | .hbm => 36
  | .vmem => 0
  | .smem => 0
  | _ => 0

abbrev bufTy : (tb : Table) → Fin (tcTables nBuf tb) → BufTy
  | .hbm, ⟨0, _⟩ => ⟨S2x8x128x17408, .bf16⟩
  | .hbm, ⟨1, _⟩ => ⟨S2x1x17408x128, .bf16⟩
  | .hbm, ⟨2, _⟩ => ⟨S2x2x64x17408, .bf16⟩
  | .hbm, ⟨3, _⟩ => ⟨S2x8x128x256, .bf16⟩
  | .hbm, ⟨4, _⟩ => ⟨S2x8x128x256, .f32⟩
  | .hbm, ⟨5, _⟩ => ⟨S2x1x256x128, .bf16⟩
  | .hbm, ⟨6, _⟩ => ⟨S2x256x128, .bf16⟩
  | .hbm, ⟨7, _⟩ => ⟨S2x256x128, .f32⟩
  | .hbm, ⟨8, _⟩ => ⟨S2x2x64x256, .bf16⟩
  | .hbm, ⟨9, _⟩ => ⟨S2x2x64x256, .f32⟩
  | .hbm, ⟨10, _⟩ => ⟨S2x2x1x64x256, .f32⟩
  | .hbm, ⟨11, _⟩ => ⟨S2x2x4x64x256, .f32⟩
  | .hbm, ⟨12, _⟩ => ⟨S2x8x64x256, .f32⟩
  | .hbm, ⟨13, _⟩ => ⟨S2x8x256x256, .f32⟩
  | .hbm, ⟨14, _⟩ => ⟨S_, .f32⟩
  | .hbm, ⟨15, _⟩ => ⟨S_, .f32⟩
  | .hbm, ⟨16, _⟩ => ⟨S2x8x256x256, .f32⟩
  | .hbm, ⟨17, _⟩ => ⟨S2x8x256x256, .f32⟩
  | .hbm, ⟨18, _⟩ => ⟨S_, .f32⟩
  | .hbm, ⟨19, _⟩ => ⟨S2x8x256, .f32⟩
  | .hbm, ⟨20, _⟩ => ⟨S_, .f32⟩
  | .hbm, ⟨21, _⟩ => ⟨S2x8x256, .f32⟩
  | .hbm, ⟨22, _⟩ => ⟨S2x8x256, .f32⟩
  | .hbm, ⟨23, _⟩ => ⟨S2x8x256x1, .f32⟩
  | .hbm, ⟨24, _⟩ => ⟨S2x8x256x256, .f32⟩
  | .hbm, ⟨25, _⟩ => ⟨S2x8x256x256, .f32⟩
  | .hbm, ⟨26, _⟩ => ⟨S2x8x256x256, .f32⟩
  | .hbm, ⟨27, _⟩ => ⟨S_, .f32⟩
  | .hbm, ⟨28, _⟩ => ⟨S2x8x256, .f32⟩
  | .hbm, ⟨29, _⟩ => ⟨S2x8x256x1, .f32⟩
  | .hbm, ⟨30, _⟩ => ⟨S2x8x256x256, .f32⟩
  | .hbm, ⟨31, _⟩ => ⟨S2x8x256x256, .f32⟩
  | .hbm, ⟨32, _⟩ => ⟨S2x8x256x256, .bf16⟩
  | .hbm, ⟨33, _⟩ => ⟨S2x8x256x256, .f32⟩
  | .hbm, ⟨34, _⟩ => ⟨S2x8x64x256, .f32⟩
  | .hbm, ⟨35, _⟩ => ⟨S2x8x64x256, .bf16⟩
  | _, _ => ⟨S2x8x128x17408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== JointContext.lean ====
abbrev S2x256x1024 : Shape := ⟨3, ![2, 256, 1024]⟩
abbrev S2x512x256 : Shape := ⟨3, ![2, 512, 256]⟩
abbrev S2x1024x17408 : Shape := ⟨3, ![2, 1024, 17408]⟩
abbrev S2x1x1024 : Shape := ⟨3, ![2, 1, 1024]⟩
abbrev S1024x1024 : Shape := ⟨2, ![1024, 1024]⟩
abbrev S1x256x1024 : Shape := ⟨3, ![1, 256, 1024]⟩
abbrev S1x512x256 : Shape := ⟨3, ![1, 512, 256]⟩
abbrev S1x1024x256 : Shape := ⟨3, ![1, 1024, 256]⟩
abbrev S1x1x1024 : Shape := ⟨3, ![1, 1, 1024]⟩
abbrev S512x256 : Shape := ⟨2, ![512, 256]⟩
abbrev S1024x256 : Shape := ⟨2, ![1024, 256]⟩
abbrev S256x1024 : Shape := ⟨2, ![256, 1024]⟩
abbrev S1x1024 : Shape := ⟨2, ![1, 1024]⟩

abbrev nBuf : Space → Nat
  | .hbm => 7
  | .vmem => 13
  | .smem => 0
  | _ => 0

abbrev bufTy : (tb : Table) → Fin (tcTables nBuf tb) → BufTy
  | .hbm, ⟨0, _⟩ => ⟨S2x256x1024, .f32⟩
  | .hbm, ⟨1, _⟩ => ⟨S2x512x256, .bf16⟩
  | .hbm, ⟨2, _⟩ => ⟨S2x512x256, .bf16⟩
  | .hbm, ⟨3, _⟩ => ⟨S2x1024x17408, .bf16⟩
  | .hbm, ⟨4, _⟩ => ⟨S2x1x1024, .f32⟩
  | .hbm, ⟨5, _⟩ => ⟨S1024x1024, .bf16⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1x1024, .f32⟩
  | .local _ .vmem, ⟨9, _⟩ => ⟨S1x1x1024, .f32⟩
  | .local _ .vmem, ⟨10, _⟩ => ⟨S1024x1024, .bf16⟩
  | .local _ .vmem, ⟨11, _⟩ => ⟨S1x256x1024, .f32⟩
  | .local _ .vmem, ⟨12, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi arg1 c64_i32
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== JointContextReferenceIdeal.lean ====
abbrev S2x256x1024 : Shape := ⟨3, ![2, 256, 1024]⟩
abbrev S2x512x256 : Shape := ⟨3, ![2, 512, 256]⟩
abbrev S2x1024x17408 : Shape := ⟨3, ![2, 1024, 17408]⟩
abbrev S2x1x1024 : Shape := ⟨3, ![2, 1, 1024]⟩
abbrev S1024x1024 : Shape := ⟨2, ![1024, 1024]⟩
abbrev S2x1024x256 : Shape := ⟨3, ![2, 1024, 256]⟩

abbrev nBuf : Space → Nat
  | .hbm => 13
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x512x256, .bf16⟩
  | .hbm, ⟨2, _⟩ => ⟨S2x512x256, .bf16⟩
  | .hbm, ⟨3, _⟩ => ⟨S2x1024x17408, .bf16⟩
  | .hbm, ⟨4, _⟩ => ⟨S2x1x1024, .f32⟩
  | .hbm, ⟨5, _⟩ => ⟨S1024x1024, .bf16⟩
  | .hbm, ⟨6, _⟩ => ⟨S2x1024x256, .bf16⟩
  | .hbm, ⟨7, _⟩ => ⟨S2x1024x256, .bf16⟩
  | .hbm, ⟨8, _⟩ => ⟨S2x1024x256, .bf16⟩
  | .hbm, ⟨9, _⟩ => ⟨S2x256x1024, .f32⟩
  | .hbm, ⟨10, _⟩ => ⟨S2x256x1024, .f32⟩
  | .hbm, ⟨11, _⟩ => ⟨S2x256x1024, .f32⟩
  | .hbm, ⟨12, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Projection.lean ====
abbrev S2x16384x1024 : Shape := ⟨3, ![2, 16384, 1024]⟩
abbrev S2x256x1024 : Shape := ⟨3, ![2, 256, 1024]⟩
abbrev S2x2x2x1024 : Shape := ⟨4, ![2, 2, 2, 1024]⟩
abbrev S3328x1024 : Shape := ⟨2, ![3328, 1024]⟩
abbrev S64 : Shape := ⟨1, ![64]⟩
abbrev S64x17408 : Shape := ⟨2, ![64, 17408]⟩
abbrev S64x1 : Shape := ⟨2, ![64, 1]⟩
abbrev S64x256 : Shape := ⟨2, ![64, 256]⟩
abbrev S2x8x128x17408 : Shape := ⟨4, ![2, 8, 128, 17408]⟩
abbrev S2x17408x128 : Shape := ⟨3, ![2, 17408, 128]⟩
abbrev S2x2x64x17408 : Shape := ⟨4, ![2, 2, 64, 17408]⟩
abbrev S2x512x17408 : Shape := ⟨3, ![2, 512, 17408]⟩
abbrev S2x1024x17408 : Shape := ⟨3, ![2, 1024, 17408]⟩
abbrev S1x1024x1024 : Shape := ⟨3, ![1, 1024, 1024]⟩
abbrev S1x256x1024 : Shape := ⟨3, ![1, 256, 1024]⟩
abbrev S1x1x2x1024 : Shape := ⟨4, ![1, 1, 2, 1024]⟩
abbrev S64x1024 : Shape := ⟨2, ![64, 1024]⟩
abbrev S1x8x128x1024 : Shape := ⟨4, ![1, 8, 128, 1024]⟩
abbrev S1x1024x128 : Shape := ⟨3, ![1, 1024, 128]⟩
abbrev S1x2x64x1024 : Shape := ⟨4, ![1, 2, 64, 1024]⟩
abbrev S1x512x1024 : Shape := ⟨3, ![1, 512, 1024]⟩
abbrev S256x1024 : Shape := ⟨2, ![256, 1024]⟩
abbrev S1024x1024 : Shape := ⟨2, ![1024, 1024]⟩
abbrev S1x1x1x1024 : Shape := ⟨4, ![1, 1, 1, 1024]⟩
abbrev S1x1024 : Shape := ⟨2, ![1, 1024]⟩
abbrev S256 : Shape := ⟨1, ![256]⟩
abbrev S256x1 : Shape := ⟨2, ![256, 1]⟩
abbrev S512x1024 : Shape := ⟨2, ![512, 1024]⟩
abbrev S512x256 : Shape := ⟨2, ![512, 256]⟩
abbrev S768x1024 : Shape := ⟨2, ![768, 1024]⟩
abbrev S768x256 : Shape := ⟨2, ![768, 256]⟩
abbrev S1024x256 : Shape := ⟨2, ![1024, 256]⟩
abbrev S256x256 : Shape := ⟨2, ![256, 256]⟩
abbrev S1x256 : Shape := ⟨2, ![1, 256]⟩
abbrev S16x256 : Shape := ⟨2, ![16, 256]⟩
abbrev S1x1x64x256 : Shape := ⟨4, ![1, 1, 64, 256]⟩
abbrev S128x256 : Shape := ⟨2, ![128, 256]⟩
abbrev S256x128 : Shape := ⟨2, ![256, 128]⟩
abbrev S1x256x128 : Shape := ⟨3, ![1, 256, 128]⟩
abbrev S1x512x256 : Shape := ⟨3, ![1, 512, 256]⟩
abbrev S1x256x256 : Shape := ⟨3, ![1, 256, 256]⟩

abbrev nBuf : Space → Nat
  | .hbm => 18
  | .vmem => 25
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x2x2x1024, .f32⟩
  | .hbm, ⟨3, _⟩ => ⟨S3328x1024, .bf16⟩
  | .hbm, ⟨4, _⟩ => ⟨S64, .f32⟩
  | .hbm, ⟨5, _⟩ => ⟨S64, .f32⟩
  | .hbm, ⟨6, _⟩ => ⟨S64x17408, .f32⟩
  | .hbm, ⟨7, _⟩ => ⟨S64x17408, .f32⟩
  | .hbm, ⟨8, _⟩ => ⟨S64x1, .f32⟩
  | .hbm, ⟨9, _⟩ => ⟨S64x256, .f32⟩
  | .hbm, ⟨10, _⟩ => ⟨S64x1, .f32⟩
  | .hbm, ⟨11, _⟩ => ⟨S64x256, .f32⟩
  | .hbm, ⟨12, _⟩ => ⟨S2x8x128x17408, .bf16⟩
  | .hbm, ⟨13, _⟩ => ⟨S2x17408x128, .bf16⟩
  | .hbm, ⟨14, _⟩ => ⟨S2x2x64x17408, .bf16⟩
  | .hbm, ⟨15, _⟩ => ⟨S2x512x17408, .bf16⟩
  | .hbm, ⟨16, _⟩ => ⟨S2x512x17408, .bf16⟩
  | .hbm, ⟨17, _⟩ => ⟨S2x1024x17408, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x2x1024, .f32⟩
  | .local _ .vmem, ⟨5, _⟩ => ⟨S1x1x2x1024, .f32⟩
  | .local _ .vmem, ⟨6, _⟩ => ⟨S3328x1024, .bf16⟩
  | .local _ .vmem, ⟨7, _⟩ => ⟨S64x256, .f32⟩
  | .local _ .vmem, ⟨8, _⟩ => ⟨S64x256, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S1x8x128x1024, .bf16⟩
  | .local _ .vmem, ⟨14, _⟩ => ⟨S1x8x128x1024, .bf16⟩
  | .local _ .vmem, ⟨15, _⟩ => ⟨S1x1024x128, .bf16⟩
  | .local _ .vmem, ⟨16, _⟩ => ⟨S1x1024x128, .bf16⟩
  | .local _ .vmem, ⟨17, _⟩ => ⟨S1x2x64x1024, .bf16⟩
  | .local _ .vmem, ⟨18, _⟩ => ⟨S1x2x64x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x1024x1024, .bf16⟩
  | .local _ .vmem, ⟨24, _⟩ => ⟨S1x1024x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3328x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x8x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjectionReferenceIdeal.lean ====
abbrev S2x16384x1024 : Shape := ⟨3, ![2, 16384, 1024]⟩
abbrev S2x256x1024 : Shape := ⟨3, ![2, 256, 1024]⟩
abbrev S2x2x2x1024 : Shape := ⟨4, ![2, 2, 2, 1024]⟩
abbrev S3328x1024 : Shape := ⟨2, ![3328, 1024]⟩
abbrev S64 : Shape := ⟨1, ![64]⟩
abbrev S64x17408 : Shape := ⟨2, ![64, 17408]⟩
abbrev S2x1x2x1024 : Shape := ⟨4, ![2, 1, 2, 1024]⟩
abbrev S2x2x1024 : Shape := ⟨3, ![2, 2, 1024]⟩
abbrev S_ : Shape := ⟨0, ![]⟩
abbrev S2x256 : Shape := ⟨2, ![2, 256]⟩
abbrev S2x256x1 : Shape := ⟨3, ![2, 256, 1]⟩
abbrev S2x1x1024 : Shape := ⟨3, ![2, 1, 1024]⟩
abbrev S2x16384 : Shape := ⟨2, ![2, 16384]⟩
abbrev S2x16384x1 : Shape := ⟨3, ![2, 16384, 1]⟩
abbrev S2x17408x1024 : Shape := ⟨3, ![2, 17408, 1024]⟩
abbrev S3328x2x17408 : Shape := ⟨3, ![3328, 2, 17408]⟩
abbrev S2x3328x17408 : Shape := ⟨3, ![2, 3328, 17408]⟩
abbrev S2x128x17408 : Shape := ⟨3, ![2, 128, 17408]⟩
abbrev S2x2x64x17408 : Shape := ⟨4, ![2, 2, 64, 17408]⟩
abbrev S2x512x17408 : Shape := ⟨3, ![2, 512, 17408]⟩

abbrev nBuf : Space → Nat
  | .hbm => 70
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x2x2x1024, .f32⟩
  | .hbm, ⟨3, _⟩ => ⟨S3328x1024, .bf16⟩
  | .hbm, ⟨4, _⟩ => ⟨S64, .f32⟩
  | .hbm, ⟨5, _⟩ => ⟨S64, .f32⟩
  | .hbm, ⟨6, _⟩ => ⟨S64x17408, .f32⟩
  | .hbm, ⟨7, _⟩ => ⟨S64x17408, .f32⟩
  | .hbm, ⟨8, _⟩ => ⟨S2x1x2x1024, .f32⟩
  | .hbm, ⟨9, _⟩ => ⟨S2x2x1024, .f32⟩
  | .hbm, ⟨10, _⟩ => ⟨S2x256x1024, .f32⟩
  | .hbm, ⟨11, _⟩ => ⟨S_, .f32⟩
  | .hbm, ⟨12, _⟩ => ⟨S2x256, .f32⟩
  | .hbm, ⟨13, _⟩ => ⟨S2x256x1, .f32⟩
  | .hbm, ⟨14, _⟩ => ⟨S_, .f32⟩
  | .hbm, ⟨15, _⟩ => ⟨S2x256x1, .f32⟩
  | .hbm, ⟨16, _⟩ => ⟨S2x256x1, .f32⟩
  | .hbm, ⟨17, _⟩ => ⟨S_, .f32⟩
  | .hbm, ⟨18, _⟩ => ⟨S2x256x1, .f32⟩
  | .hbm, ⟨19, _⟩ => ⟨S2x256x1, .f32⟩
  | .hbm, ⟨20, _⟩ => ⟨S2x256x1, .f32⟩
  | .hbm, ⟨21, _⟩ => ⟨S2x256x1024, .f32⟩
  | .hbm, ⟨22, _⟩ => ⟨S2x256x1024, .f32⟩
  | .hbm, ⟨23, _⟩ => ⟨S2x1x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x256x1024, .f32⟩
  | .hbm, ⟨28, _⟩ => ⟨S2x256x1024, .f32⟩
  | .hbm, ⟨29, _⟩ => ⟨S2x1x1024, .f32⟩
  | .hbm, ⟨30, _⟩ => ⟨S2x256x1024, .f32⟩
  | .hbm, ⟨31, _⟩ => ⟨S2x256x1024, .f32⟩
  | .hbm, ⟨32, _⟩ => ⟨S2x256x1024, .bf16⟩
  | .hbm, ⟨33, _⟩ => ⟨S2x1x2x1024, .f32⟩
  | .hbm, ⟨34, _⟩ => ⟨S2x2x1024, .f32⟩
  | .hbm, ⟨35, _⟩ => ⟨S2x16384x1024, .f32⟩
  | .hbm, ⟨36, _⟩ => ⟨S_, .f32⟩
  | .hbm, ⟨37, _⟩ => ⟨S2x16384, .f32⟩
  | .hbm, ⟨38, _⟩ => ⟨S2x16384x1, .f32⟩
  | .hbm, ⟨39, _⟩ => ⟨S_, .f32⟩
  | .hbm, ⟨40, _⟩ => ⟨S2x16384x1, .f32⟩
  | .hbm, ⟨41, _⟩ => ⟨S2x16384x1, .f32⟩
  | .hbm, ⟨42, _⟩ => ⟨S_, .f32⟩
  | .hbm, ⟨43, _⟩ => ⟨S2x16384x1, .f32⟩
  | .hbm, ⟨44, _⟩ => ⟨S2x16384x1, .f32⟩
  | .hbm, ⟨45, _⟩ => ⟨S2x16384x1, .f32⟩
  | .hbm, ⟨46, _⟩ => ⟨S2x16384x1024, .f32⟩
  | .hbm, ⟨47, _⟩ => ⟨S2x16384x1024, .f32⟩
  | .hbm, ⟨48, _⟩ => ⟨S2x1x1024, .f32⟩
  | .hbm, ⟨49, _⟩ => ⟨S_, .f32⟩
  | .hbm, ⟨50, _⟩ => ⟨S2x1x1024, .f32⟩
  | .hbm, ⟨51, _⟩ => ⟨S2x1x1024, .f32⟩
  | .hbm, ⟨52, _⟩ => ⟨S2x16384x1024, .f32⟩
  | .hbm, ⟨53, _⟩ => ⟨S2x16384x1024, .f32⟩
  | .hbm, ⟨54, _⟩ => ⟨S2x1x1024, .f32⟩
  | .hbm, ⟨55, _⟩ => ⟨S2x16384x1024, .f32⟩
  | .hbm, ⟨56, _⟩ => ⟨S2x16384x1024, .f32⟩
  | .hbm, ⟨57, _⟩ => ⟨S2x16384x1024, .bf16⟩
  | .hbm, ⟨58, _⟩ => ⟨S2x17408x1024, .bf16⟩
  | .hbm, ⟨59, _⟩ => ⟨S3328x2x17408, .f32⟩
  | .hbm, ⟨60, _⟩ => ⟨S2x3328x17408, .f32⟩
  | .hbm, ⟨61, _⟩ => ⟨S2x128x17408, .f32⟩
  | .hbm, ⟨62, _⟩ => ⟨S2x2x64x17408, .f32⟩
  | .hbm, ⟨63, _⟩ => ⟨S2x512x17408, .f32⟩
  | .hbm, ⟨64, _⟩ => ⟨S2x512x17408, .f32⟩
  | .hbm, ⟨65, _⟩ => ⟨S2x512x17408, .f32⟩
  | .hbm, ⟨66, _⟩ => ⟨S2x512x17408, .f32⟩
  | .hbm, ⟨67, _⟩ => ⟨S2x2x64x17408, .bf16⟩
  | .hbm, ⟨68, _⟩ => ⟨S2x512x17408, .bf16⟩
  | .hbm, ⟨69, _⟩ => ⟨S2x512x17408, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== Proof.KernelIdeal.Redo.lean ====
/- The exact pass of the streaming attention body (the loop over the heads which the body runs when a weight of the
   tile is too large for its reference): what one head's trip leaves in the two carried buffers, and the loop by that.
   The buffers' contents before trip `k` are a function of the contents before the loop (`redo`). -/
module

public import proofs.«01_k».proof.Proof.Gen.KernelIdeal.Frame
public import proofs.«01_k».proof.Proof.Gen.KernelIdeal.Loops
public import Idealize.ShloMosaic.Lib.Tactic

@[expose] public section

set_option maxRecDepth 16384
set_option maxHeartbeats 4000000

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦[M.view.set]{fullShare} f

variable (c : Dev nD) (i : grid0.Coords) (arg3 : Memref sig .tc .vmem S1x8x128x512 .bf16) (harg3 : arg3.IsWhole) (arg4 : Memref sig .tc .vmem S1x8x3328x128 .bf16) (harg4 : arg4.IsWhole) (arg5 : Memref sig .tc .vmem S1x8x64x3328 .bf16) (harg5 : arg5.IsWhole) (arg6 : Memref sig .tc .vmem S1x8x64x512 .bf16) (harg6 : arg6.IsWhole) (arg7 : Memref sig .tc .vmem S2x8x1x512 .f32) (harg7 : arg7.IsWhole) (arg8 : Memref sig .tc .vmem S2x8x72x512 .f32) (harg8 : arg8.IsWhole) (arg9 : Memref sig .tc .vmem S8x64x512 .f32) (harg9 : arg9.IsWhole) (v0 v1 : BitVec 32)
  (f3 : Bf (F := F) c arg3) (f4 : Bf (F := F) c arg4) (f5 : Bf (F := F) c arg5)

/-- One head's trip, from the carried buffers at `f7`, `f8`: what it leaves in them, with the run. -/
def trip (k : Fin k0_t1_loop.trips) (f7 : Bf (F := F) c arg7) (f8 : Bf (F := F) c arg8) :
    { R : Bf (F := F) c arg7 × Bf (F := F) c arg8 // ∀ (acc : Unit),
      iprop(pt c arg3 f3 ∗ pt c arg4 f4 ∗ pt c arg5 f5 ∗ pt c arg7 f7 ∗ pt c arg8 f8)
      ⊢ wp Idealize.ShloMosaic.frame (wpE (defs₀ (F := F)) Variants.none c none) Set.univ
        (k0_t1_body (F := F) i arg3 harg3 arg4 harg4 arg5 harg5 arg6 harg6 arg7 harg7 arg8 harg8 arg9 harg9 v0 v1 k acc)
        (fun _ => iprop(pt c arg3 f3 ∗ pt c arg4 f4 ∗ pt c arg5 f5 ∗ pt c arg7 R.1 ∗ pt c arg8 R.2)) } := by
  have hk : k.val < 8 := k.isLt
  refine ⟨⟨?_, ?_⟩, fun acc => ?run⟩
  case run =>
    unfold k0_t1_body
    iintro ⟨H3, H4, H5, H7, H8⟩
    sl_open_parts
    sl_exec
    simp only [bind_assoc]
    sl_exec
    sl_step
    isplitl [H3]; · iexact H3
    isplitl [H4]; · iexact H4
    isplitl [H5]; · iexact H5
    isplitl [H7]; · iexact H7
    iexact H8

/-- The carried buffers before trip `n` of the exact pass, from their contents before it. -/
def redo (f7 : Bf (F := F) c arg7) (f8 : Bf (F := F) c arg8) : ℕ → Bf (F := F) c arg7 × Bf (F := F) c arg8
  | 0 => (f7, f8)
  | n + 1 =>
    if h : n < k0_t1_loop.trips then
      (trip c i arg3 harg3 arg4 harg4 arg5 harg5 arg6 harg6 arg7 harg7 arg8 harg8 arg9 harg9 v0 v1 f3 f4 f5 ⟨n, h⟩ (redo f7 f8 n).1 (redo f7 f8 n).2).1
    else redo f7 f8 n

theorem redo_succ (f7 : Bf (F := F) c arg7) (f8 : Bf (F := F) c arg8) (k : Fin k0_t1_loop.trips) :
    redo c i arg3 harg3 arg4 harg4 arg5 harg5 arg6 harg6 arg7 harg7 arg8 harg8 arg9 harg9 v0 v1 f3 f4 f5 f7 f8 (k.val + 1)
      = (trip c i arg3 harg3 arg4 harg4 arg5 harg5 arg6 harg6 arg7 harg7 arg8 harg8 arg9 harg9 v0 v1 f3 f4 f5 k
          (redo c i arg3 harg3 arg4 harg4 arg5 harg5 arg6 harg6 arg7 harg7 arg8 harg8 arg9 harg9 v0 v1 f3 f4 f5 f7 f8 k.val).1
          (redo c i arg3 harg3 arg4 harg4 arg5 harg5 arg6 harg6 arg7 harg7 arg8 harg8 arg9 harg9 v0 v1 f3 f4 f5 f7 f8 k.val).2).1 := by
  rw [redo.eq_2, dif_pos k.isLt]

/-- The resources of the exact pass before trip `n`. -/
def redoInv (f7 : Bf (F := F) c arg7) (f8 : Bf (F := F) c arg8) (n : ℕ) (_ : Unit) : sProp 𝕄 :=
  iprop(pt c arg3 f3 ∗ pt c arg4 f4 ∗ pt c arg5 f5
    ∗ pt c arg7 (redo c i arg3 harg3 arg4 harg4 arg5 harg5 arg6 harg6 arg7 harg7 arg8 harg8 arg9 harg9 v0 v1 f3 f4 f5 f7 f8 n).1
    ∗ pt c arg8 (redo c i arg3 harg3 arg4 harg4 arg5 harg5 arg6 harg6 arg7 harg7 arg8 harg8 arg9 harg9 v0 v1 f3 f4 f5 f7 f8 n).2)

theorem redo_step (f7 : Bf (F := F) c arg7) (f8 : Bf (F := F) c arg8) (k : Fin k0_t1_loop.trips) (acc : Unit) :
    redoInv c i arg3 harg3 arg4 harg4 arg5 harg5 arg6 harg6 arg7 harg7 arg8 harg8 arg9 harg9 v0 v1 f3 f4 f5 f7 f8 k.val acc
      ⊢ wp Idealize.ShloMosaic.frame (wpE (defs₀ (F := F)) Variants.none c none) Set.univ
        (k0_t1_body (F := F) i arg3 harg3 arg4 harg4 arg5 harg5 arg6 harg6 arg7 harg7 arg8 harg8 arg9 harg9 v0 v1 k acc)
        (redoInv c i arg3 harg3 arg4 harg4 arg5 harg5 arg6 harg6 arg7 harg7 arg8 harg8 arg9 harg9 v0 v1 f3 f4 f5 f7 f8 (k.val + 1)) := by
  unfold redoInv
  rw [redo_succ]
  exact (trip c i arg3 harg3 arg4 harg4 arg5 harg5 arg6 harg6 arg7 harg7 arg8 harg8 arg9 harg9 v0 v1 f3 f4 f5 k _ _).2 acc

end Cert.KernelIdeal.Body
end
-- ==== Proof.KernelIdeal.Body.lean ====
/- The streaming attention body, run once at symbolic operands: what it leaves in the carried buffers (running
   reference, weighted sums, scratch) and in the result's staging buffer, as functions of what it finds. -/
module

public import proofs.«01_k».proof.Proof.KernelIdeal.Redo
public import Idealize.ShloMosaic.Lib.Tactic

@[expose] public section

set_option maxRecDepth 16384
set_option maxHeartbeats 1000000

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg3 : Memref sig .tc .vmem S1x8x128x512 .bf16) (harg3 : arg3.IsWhole) (arg4 : Memref sig .tc .vmem S1x8x3328x128 .bf16) (harg4 : arg4.IsWhole) (arg5 : Memref sig .tc .vmem S1x8x64x3328 .bf16) (harg5 : arg5.IsWhole) (arg6 : Memref sig .tc .vmem S1x8x64x512 .bf16) (harg6 : arg6.IsWhole) (arg7 : Memref sig .tc .vmem S2x8x1x512 .f32) (harg7 : arg7.IsWhole) (arg8 : Memref sig .tc .vmem S2x8x72x512 .f32) (harg8 : arg8.IsWhole) (arg9 : Memref sig .tc .vmem S8x64x512 .f32) (harg9 : arg9.IsWhole)
  (f3 : Bf (F := F) c arg3) (f4 : Bf (F := F) c arg4) (f5 : Bf (F := F) c arg5)

/-- The body's run, from what it finds to what it leaves. `w7`, `w8`, `w9`: the carried buffers when every weight of the tile is
    moderate; otherwise the exact pass over them follows (`redo`). `w6`: the result's staging buffer, from what it held
    and what the carried sums end at. -/
def Runs (f7 : Bf (F := F) c arg7) (f8 : Bf (F := F) c arg8) (f9 : Bf (F := F) c arg9)
    (w7 : Bf (F := F) c arg7) (w8 : Bf (F := F) c arg8) (w9 : Bf (F := F) c arg9)
    (w6 : Bf (F := F) c arg6 → Bf (F := F) c arg8 → Bf (F := F) c arg6) : Prop :=
  ∀ (f6 : Bf (F := F) c arg6) (Q : PUnit → sProp 𝕄) (K : sProp 𝕄),
    (K ⊢ ∀ (f7' : Bf (F := F) c arg7) (f8' : Bf (F := F) c arg8),
      ⌜(f7' = w7 ∧ f8' = w8)
        ∨ (f7' = (redo c i arg3 harg3 arg4 harg4 arg5 harg5 arg6 harg6 arg7 harg7 arg8 harg8 arg9 harg9 (Scalar.remsi (BitVec.ofNat 32 (i 2).val) 2#32) (Scalar.subi 1#32 (Scalar.remsi (BitVec.ofNat 32 (i 2).val) 2#32)) f3 f4 f5 w7 w8 k0_t1_loop.trips).1
          ∧ f8' = (redo c i arg3 harg3 arg4 harg4 arg5 harg5 arg6 harg6 arg7 harg7 arg8 harg8 arg9 harg9 (Scalar.remsi (BitVec.ofNat 32 (i 2).val) 2#32) (Scalar.subi 1#32 (Scalar.remsi (BitVec.ofNat 32 (i 2).val) 2#32)) f3 f4 f5 w7 w8 k0_t1_loop.trips).2)⌝ -∗
      iprop(pt c arg3 f3 ∗ pt c arg4 f4 ∗ pt c arg5 f5 ∗ pt c arg6 (w6 f6 f8') ∗ pt c arg7 f7' ∗ pt c arg8 f8' ∗ pt c arg9 w9) -∗ Q ⟨⟩) →
    (iprop(pt c arg3 f3 ∗ pt c arg4 f4 ∗ pt c arg5 f5 ∗ pt c arg6 f6 ∗ pt c arg7 f7 ∗ pt c arg8 f8 ∗ pt c arg9 f9 ∗ K)
    ⊢ wp Idealize.ShloMosaic.frame (wpE (defs₀ (F := F)) Variants.none c none) Set.univ
      (cc0_flash_mla (F := F) i arg3 harg3 arg4 harg4 arg5 harg5 arg6 harg6 arg7 harg7 arg8 harg8 arg9 harg9) Q)

/-- What the body leaves, and its run. -/
def bodyRun (f7 : Bf (F := F) c arg7) (f8 : Bf (F := F) c arg8) (f9 : Bf (F := F) c arg9) :
    { W : Bf (F := F) c arg7 × Bf (F := F) c arg8 × Bf (F := F) c arg9 × (Bf (F := F) c arg6 → Bf (F := F) c arg8 → Bf (F := F) c arg6) //
      Runs c i arg3 harg3 arg4 harg4 arg5 harg5 arg6 harg6 arg7 harg7 arg8 harg8 arg9 harg9 f3 f4 f5 f7 f8 f9 W.1 W.2.1 W.2.2.1 W.2.2.2 } := by
  refine ⟨⟨?w7, ?w8, ?w9, ?w6⟩, ?run⟩
  case run =>
    dsimp only
    unfold Runs
    intro f6 Q K hK
    iintro ⟨H3, H4, H5, H6, H7, H8, H9, Hk⟩
    sl_exec_parts
    ihave H7 : iprop(pt c arg7 ?w7) $$ [H7]
    · iexact H7
    ihave H8 : iprop(pt c arg8 ?w8) $$ [H8]
    · iexact H8
    ihave H9 : iprop(pt c arg9 ?w9) $$ [H9]
    · iexact H9
    by_cases hr : bodyRun.sl.v3507 c i arg3 arg4 arg7 f3 f4 f7 = 1#1
    swap
    · rw [if_neg hr]
      ihave H8 : iprop(∃ f8' : Bf c arg8, ⌜f8' = ?w8⌝ ∗ pt c arg8 f8') $$ [H8]
      · iexists ?w8
        isplitr; · ipureintro; exact rfl
        iexact H8
      icases H8 with ⟨%f8', %h8, H8⟩
      sl_exec_parts
      sl_step
      ihave Hk := hK $$ Hk
      iapply Hk $$ %_ %f8' %(Or.inl ⟨rfl, h8⟩)
      isplitl [H3]; · iexact H3
      isplitl [H4]; · iexact H4
      isplitl [H5]; · iexact H5
      isplitl [H6]; · iexact H6
      isplitl [H7]; · iexact H7
      isplitl [H8]; · iexact H8
      iexact H9
    · rw [if_pos hr]
      iapply (Scf.wp_for_bind Idealize.ShloMosaic.frame (wpE (defs₀ (F := F)) Variants.none c none) Set.univ _ _ _ k0_t1_ok _ _
        (redoInv c i arg3 harg3 arg4 harg4 arg5 harg5 arg6 harg6 arg7 harg7 arg8 harg8 arg9 harg9 (Scalar.remsi (BitVec.ofNat 32 (i 2).val) 2#32) (Scalar.subi 1#32 (Scalar.remsi (BitVec.ofNat 32 (i 2).val) 2#32)) f3 f4 f5 ?w7 ?w8) (redo_step c i arg3 harg3 arg4 harg4 arg5 harg5 arg6 harg6 arg7 harg7 arg8 harg8 arg9 harg9 (Scalar.remsi (BitVec.ofNat 32 (i 2).val) 2#32) (Scalar.subi 1#32 (Scalar.remsi (BitVec.ofNat 32 (i 2).val) 2#32)) f3 f4 f5 ?w7 ?w8)) $$ [H3 H4 H5 H7 H8]
      · unfold redoInv redo
        isplitl [H3]; · iexact H3
        isplitl [H4]; · iexact H4
        isplitl [H5]; · iexact H5
        isplitl [H7]; · iexact H7
        iexact H8
      iintro %s Hinv
      unfold redoInv
      icases Hinv with ⟨H3, H4, H5, H7, H8⟩
      generalize hr7 : (redo c i arg3 harg3 arg4 harg4 arg5 harg5 arg6 harg6 arg7 harg7 arg8 harg8 arg9 harg9 (Scalar.remsi (BitVec.ofNat 32 (i 2).val) 2#32) (Scalar.subi 1#32 (Scalar.remsi (BitVec.ofNat 32 (i 2).val) 2#32)) f3 f4 f5 _ _ k0_t1_loop.trips).1 = f7'
      generalize hr8 : (redo c i arg3 harg3 arg4 harg4 arg5 harg5 arg6 harg6 arg7 harg7 arg8 harg8 arg9 harg9 (Scalar.remsi (BitVec.ofNat 32 (i 2).val) 2#32) (Scalar.subi 1#32 (Scalar.remsi (BitVec.ofNat 32 (i 2).val) 2#32)) f3 f4 f5 _ _ k0_t1_loop.trips).2 = f8'
      sl_exec_parts
      sl_step
      ihave Hk := hK $$ Hk
      iapply Hk $$ %f7' %f8' %(Or.inr ⟨hr7.symm, hr8.symm⟩)
      isplitl [H3]; · iexact H3
      isplitl [H4]; · iexact H4
      isplitl [H5]; · iexact H5
      isplitl [H6]; · iexact H6
      isplitl [H7]; · iexact H7
      isplitl [H8]; · iexact H8
      iexact H9

end Cert.KernelIdeal.Body
end
-- ==== Proof.KernelIdeal.Run.lean ====
/- The streaming attention kernel's run: the pipeline's proof data, the obligation its body meets, and the launch. What the
   carried buffers hold before a point (`Inv`) and what a point leaves in the result's staging buffer (`Post`) are
   parameters; `Steps` is what they must satisfy. -/
module

public import proofs.«01_k».proof.Proof.KernelIdeal.Body
public import Idealize.ShloMosaic.Lib.Pipeline.DatRel
public import Idealize.ShloMosaic.Lib.Pipeline.ArrRel
public import Idealize.ShloMosaic.Lib.Tactic

@[expose] public section

set_option maxRecDepth 16384
set_option maxHeartbeats 1000000

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Idealize.ShloMosaic.Pipeline (Dat Cfg Window BodyObligationRel)

local notation "𝕄" => MT nD τ sig Unit (Elt F) ℕ (UR sig nD τ) ℕ

/-- The carried buffers: the running references, the weighted sums with the weights' sum, and the scratch of the products. -/
abbrev scM : Memref sig .tc .vmem S2x8x1x512 .f32 := Memref.whole cc0_scratch0
abbrev scS : Memref sig .tc .vmem S2x8x72x512 .f32 := Memref.whole cc0_scratch1
abbrev scP : Memref sig .tc .vmem S8x64x512 .f32 := Memref.whole cc0_scratch2

/-- The body's run at point `t`. -/
abbrev runAt (c : Dev nD) (t : Fin cfg0.N) (f3 : Bf (F := F) c (st0_0 t)) (f4 : Bf (F := F) c (st0_1 t)) (f5 : Bf (F := F) c (st0_2 t))
    (f7 : Bf (F := F) c scM) (f8 : Bf (F := F) c scS) (f9 : Bf (F := F) c scP) :=
  bodyRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM (Memref.isWhole_whole _) scS (Memref.isWhole_whole _) scP (Memref.isWhole_whole _) f3 f4 f5 f7 f8 f9

/-- The exact pass at point `t`, over all heads. -/
abbrev redoAt (c : Dev nD) (t : Fin cfg0.N) (f3 : Bf (F := F) c (st0_0 t)) (f4 : Bf (F := F) c (st0_1 t)) (f5 : Bf (F := F) c (st0_2 t))
    (f7 : Bf (F := F) c scM) (f8 : Bf (F := F) c scS) (n : ℕ) :=
  redo (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM (Memref.isWhole_whole _) scS (Memref.isWhole_whole _) scP (Memref.isWhole_whole _) (Scalar.remsi (BitVec.ofNat 32 ((grid0.coords t) 2).val) 2#32) (Scalar.subi 1#32 (Scalar.remsi (BitVec.ofNat 32 ((grid0.coords t) 2).val) 2#32)) f3 f4 f5 f7 f8 n

variable (m : (ℓ : Loc nD τ sig) → Buf (Elt F) ℓ) (ρ : Dev nD → PrngReg)
variable (Inv : (c : Dev nD) → ℕ → Bf (F := F) c scM → Bf (F := F) c scS → Prop)
variable (Post : (c : Dev nD) → Fin cfg0.N → (S1x8x64x512.Idx → Elt F .bf16) → Prop)

/-- What the invariant and the postcondition must satisfy: the invariant holds at launch whatever the buffers hold, and a point
    carries it on and leaves the postcondition. -/
structure Steps : Prop where
  zero : ∀ c f7 f8, Inv c 0 f7 f8
  step : ∀ (c : Dev nD) (t : Fin cfg0.N) (f3 : Bf (F := F) c (st0_0 t)) (f4 : Bf (F := F) c (st0_1 t)) (f5 : Bf (F := F) c (st0_2 t))
    (f6 : Bf (F := F) c (st0_3 t)) (f7 : Bf (F := F) c scM) (f8 : Bf (F := F) c scS) (f9 : Bf (F := F) c scP)
    (f7' : Bf (F := F) c scM) (f8' : Bf (F := F) c scS),
    (st0_0 t).view.read (Elt F) f3 = iblk m c 0 t → (st0_1 t).view.read (Elt F) f4 = X0_1 m c t →
    (st0_2 t).view.read (Elt F) f5 = X0_2 m c t → Inv c t.val f7 f8 →
    ((f7' = (runAt c t f3 f4 f5 f7 f8 f9).1.1 ∧ f8' = (runAt c t f3 f4 f5 f7 f8 f9).1.2.1)
      ∨ (f7' = (redoAt c t f3 f4 f5 (runAt c t f3 f4 f5 f7 f8 f9).1.1 (runAt c t f3 f4 f5 f7 f8 f9).1.2.1 k0_t1_loop.trips).1
        ∧ f8' = (redoAt c t f3 f4 f5 (runAt c t f3 f4 f5 f7 f8 f9).1.1 (runAt c t f3 f4 f5 f7 f8 f9).1.2.1 k0_t1_loop.trips).2)) →
    Inv c (t.val + 1) f7' f8' ∧ Post c t ((st0_3 t).view.read (Elt F) ((runAt c t f3 f4 f5 f7 f8 f9).1.2.2.2 f6 f8'))

/-- The invariant before point `n`: the carried buffers at contents which satisfy `Inv`, the scratch and the core's generator
    register at something. -/
def Φ (c : Dev nD) (n : ℕ) : sProp 𝕄 :=
  iprop((∃ (f7 : Bf (F := F) c scM) (f8 : Bf (F := F) c scS) (f9 : Bf (F := F) c scP), ⌜Inv c n f7 f8⌝ ∗ pt c scM f7 ∗ pt c scS f8 ∗ pt c scP f9)
    ∗ ∃ r, prngReg c r)

/-- The proof data on core `c`: the arrays as launched; the inputs' staging buffers left in place; nothing named of the
    result's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => fun _ => Classical.choice inferInstance
  Φ t := Φ Inv c t.val
  q _ := fullShare
  owed _ := 0

/-- Only the result is held to a postcondition. -/
def held : Fin 4 → Bool := fun | 3 => true | _ => false
def rel (c : Dev nD) (w : Fin cfg0.W) (t : Fin cfg0.N) : ((cfg0.win w).block.Idx → Elt F (cfg0.win w).elt) → Prop :=
  match w with
    | ⟨0, _⟩ => fun _ => True
    | ⟨1, _⟩ => fun _ => True
    | ⟨2, _⟩ => fun _ => True
    | ⟨3, _⟩ => fun X => Post c t X

theorem defs₀_row (t : Fin cfg0.N) : defs₀ (F := F) .tc cfg0.body (cfg0.bodyArgs t (cfg0.slots t)) = bodyAt0 t := by
  unfold defs₀; rw [Defs.onTc_tc]

variable (hS : Steps m Inv Post)
include hS

theorem sound_body (c : Dev nD) (t : Fin cfg0.N) :
    iprop((dats m Inv 0 c).Φ t.castSucc ∗ (dats m Inv 0 c).owesAt () t.castSucc
      ∗ (∃ d, owns (c : Thread nD τ) (st0_0 t) fullShare ((dats m Inv 0 c).before 0 t d))
      ∗ (∃ d, owns (c : Thread nD τ) (st0_1 t) fullShare ((dats m Inv 0 c).before 1 t d))
      ∗ (∃ d, owns (c : Thread nD τ) (st0_2 t) fullShare ((dats m Inv 0 c).before 2 t d))
      ∗ (∃ Y, ⌜((dats m Inv 0 c).toRRel held (rel Post c)).Finds 3 t Y⌝ ∗ owns (c : Thread nD τ) (st0_3 t) fullShare Y))
    ⊢ wp Idealize.ShloMosaic.frame (wpE (defs₀ (F := F)) Variants.none c none) Set.univ (bodyAt0 t) (fun _ =>
      iprop((dats m Inv 0 c).Φ t.succ ∗ (dats m Inv 0 c).owesAt () t.succ
        ∗ owns (c : Thread nD τ) (st0_0 t) fullShare ((dats m Inv 0 c).after 0 t)
        ∗ (∃ d, owns (c : Thread nD τ) (st0_1 t) fullShare ((cfg0.win 1).fill (cfg0.grid.coords t) d ((cfg0.win 1).cut (cfg0.grid.coords t) ((dats m Inv 0 c).after 1 t))))
        ∗ (∃ d, owns (c : Thread nD τ) (st0_2 t) fullShare ((cfg0.win 2).fill (cfg0.grid.coords t) d ((cfg0.win 2).cut (cfg0.grid.coords t) ((dats m Inv 0 c).after 2 t))))
        ∗ (∃ X, ⌜rel Post c 3 t X⌝ ∗ owns (c : Thread nD τ) (st0_3 t) fullShare X))) := by
  rw [show (dats m Inv 0 c).owesAt () t.succ = (dats m Inv 0 c).owesAt () t.castSucc from rfl,
    show (dats m Inv 0 c).Φ t.castSucc = Φ Inv c t.val from rfl, show (dats m Inv 0 c).Φ t.succ = Φ Inv c (t.val + 1) from rfl]
  unfold Φ owns bodyAt0
  iintro ⟨⟨⟨%f7, %f8, %f9, %hI, H7, H8, H9⟩, Hg⟩, HO, ⟨%d0, %f3, %h3, H3⟩, ⟨%d1, %f4, %h4, H4⟩, ⟨%d2, %f5, %h5, H5⟩, ⟨%Y, -, %f6, -, H6⟩⟩
  rw [before0_0_of m (dats m Inv 0 c) rfl (fun _ => rfl)] at h3
  rw [before0_1_of m (dats m Inv 0 c) rfl (fun _ => rfl)] at h4
  rw [before0_2_of m (dats m Inv 0 c) rfl (fun _ => rfl)] at h5
  iapply ((runAt c t f3 f4 f5 f7 f8 f9).2 f6 _ _ .rfl)
  isplitl [H3]; · iexact H3
  isplitl [H4]; · iexact H4
  isplitl [H5]; · iexact H5
  isplitl [H6]; · iexact H6
  isplitl [H7]; · iexact H7
  isplitl [H8]; · iexact H8
  isplitl [H9]; · iexact H9
  iintro %f7' %f8' %hL ⟨H3, H4, H5, H6, H7, H8, H9⟩
  have hs := hS.step c t f3 f4 f5 f6 f7 f8 f9 f7' f8' h3 h4 h5 hI hL
  isplitl [H7 H8 H9 Hg]
  · isplitr [Hg]
    · iexists f7', f8', _
      isplitr; · ipureintro; exact hs.1
      isplitl [H7]; · iexact H7
      isplitl [H8]; · iexact H8
      iexact H9
    iexact Hg
  isplitl [HO]; · iexact HO
  isplitl [H3]
  · iexists f3
    isplitr; · ipureintro; exact h3
    iexact H3
  isplitl [H4]
  · iexists dflt0_1, f4
    isplitr
    · ipureintro; rw [h4]; show X0_1 m c t = (cfg0.win 1).fill (cfg0.grid.coords t) dflt0_1 ((cfg0.win 1).cut (cfg0.grid.coords t) (X0_1 m c t))
      unfold X0_1; rw [Pipeline.Window.cut_fill]
    iexact H4
  isplitl [H5]
  · iexists dflt0_2, f5
    isplitr
    · ipureintro; rw [h5]; show X0_2 m c t = (cfg0.win 2).fill (cfg0.grid.coords t) dflt0_2 ((cfg0.win 2).cut (cfg0.grid.coords t) (X0_2 m c t))
      unfold X0_2; rw [Pipeline.Window.cut_fill]
    iexact H5
  iexists _
  isplitr; · ipureintro; exact hs.2
  iexists _
  isplitr; swap; · iexact H6
  ipureintro; rfl

/-- The library's body obligation, the result held to `Post`. -/
theorem body_obligation (c : Dev nD) :
    BodyObligationRel (dats m Inv 0 c) (defs₀ (F := F)) Variants.none () Set.univ held (rel Post c) := fun t => by
  rw [bigSep_W0, bigSep_W0, defs₀_row]
  exact triple_restated (sound_body m Inv Post hS c t) rfl .rfl fun _ => .rfl

set_option backward.isDefEq.respectTransparency.types false in
/-- Every weakly fair execution of @main on the TensorCores terminates, in a state in which every counter is zero, the inputs'
    arrays are as launched and the result's array is overwritten at each write-back by a block that satisfies `Post`. -/
theorem run_main :
    θ_run defs (onTc (τ := τ) (main (F := F))) (s₀ m ρ)
      (fun r => Pipeline.RDat.FramePost (cfgs 0) (fun c => (dats m Inv 0 c).toRRel held (rel Post c)) (V m) r ∧ r.2.sem = fun _ => 0) :=
  Pipeline.RDat.θ_run_frame_track (Q' := _) cfgs (0 : Fin 1) launch0 defs₀ Variants.none (fun c => (dats m Inv 0 c).toRRel held (rel Post c)) m ρ main
    (hbody := fun c => (body_obligation m Inv Post hS c).toRRel) (hshare := fun c => (dats m Inv 0 c).share_full fun _ => rfl)
    (howed := fun _ _ => rfl) (V := V m) (hmain := hmain m Variants.none) (hA := fun _ _ => rfl)
    (hin := fun c => by
      show _ ⊢ Φ Inv c 0
      unfold Pipeline.ΦA Φ
      rw [show (cfgs 0).spec = spec0 from rfl, scopedRest0_eq]
      iintro ⟨⟨⟨%f7, H7⟩, ⟨%f8, H8⟩, ⟨%f9, H9⟩⟩, Hg⟩
      isplitr [Hg]
      · iexists f7, f8, f9
        isplitr; · ipureintro; exact hS.zero c f7 f8
        unfold pt
        simp only [Memref.view_whole, View.set_whole]
        isplitl [H7]; · iexact H7
        isplitl [H8]; · iexact H8
        iexact H9
      iexact Hg)
    (hout := fun c => by
      show Φ Inv c _ ⊢ _
      unfold Pipeline.ΦA Φ
      rw [show (cfgs 0).spec = spec0 from rfl, scopedRest0_eq]
      unfold pt
      simp only [Memref.view_whole, View.set_whole]
      iintro ⟨⟨%f7, %f8, %f9, -, H7, H8, H9⟩, Hg⟩
      isplitr [Hg]
      · isplitl [H7]; · iexists f7; iexact H7
        isplitl [H8]; · iexists f8; iexact H8
        iexists f9; iexact H9
      iexact Hg)

end Cert.KernelIdeal.Body
end
-- ==== Proof.KernelIdeal.Frame.lean ====
/- The frame of the streaming attention kernel: its run at the invariant which says nothing. -/
module

public import proofs.«01_k».proof.Proof.KernelIdeal.Run

@[expose] public section

noncomputable section

namespace Cert.KernelIdeal.Body

open Cert.KernelIdeal Cert.KernelIdeal.Gen

open Idealize.ShloMosaic
open Idealize.ShloMosaic.TcCoe
open Idealize.SL.Sem

variable {F : FTy → Type} [FloatOps F] [Named F]

variable (m : (ℓ : Loc nD τ sig) → Buf (Elt F) ℓ) (ρ : Dev nD → PrngReg)

/-- From the run, at any invariant and postcondition, the inputs' arrays as launched and the counters at zero. -/
theorem args_of {Inv : (c : Dev nD) → ℕ → Bf (F := F) c scM → Bf (F := F) c scS → Prop}
    {Post : (c : Dev nD) → Fin cfg0.N → (S1x8x64x512.Idx → Elt F .bf16) → Prop} {r : PUnit × MemSt nD τ sig (Elt F)}
    (h : Pipeline.RDat.FramePost (cfgs 0) (fun c => (dats m Inv 0 c).toRRel held (rel Post c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(congrFun (((dats m Inv 0 c).toRRel held (rel Post c)).ArrAt_in 0 rfl _) _).mp ((h c).1 0),
    (congrFun (((dats m Inv 0 c).toRRel held (rel Post c)).ArrAt_in 1 rfl _) _).mp ((h c).1 1),
    (congrFun (((dats m Inv 0 c).toRRel held (rel Post c)).ArrAt_in 2 rfl _) _).mp ((h c).1 2)⟩

/-- The kernel terminates with its inputs unchanged and every counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_of m h.1, h.2⟩)
    (run_main m ρ (fun _ _ _ _ => True) (fun _ _ _ => True)
      ⟨fun _ _ _ => trivial, fun _ _ _ _ _ _ _ _ _ _ _ _ _ _ _ _ => ⟨trivial, trivial⟩⟩)

end Cert.KernelIdeal.Body
end
-- ==== Proof.Stream.Tile.lean ====
/- One head's work on one key tile of the streaming attention kernel, as functions of the tile's loads: the main pass (the
   weights against the carried reference, their largest, the new reference and the new sums). The body's text writes it out
   for eight heads and thirteen chunks of 256 keys; these functions say it once. -/
module

public import proofs.«01_k».proof.Proof.KernelIdeal.Run

@[expose] public section

set_option maxRecDepth 16384
set_option maxHeartbeats 1000000

noncomputable section

namespace Cert.KernelIdeal.Stream

open Cert.KernelIdeal Cert.KernelIdeal.Gen Cert.KernelIdeal.Body

open Idealize.ShloMosaic

variable {F : FTy → Type} [FloatOps F] [Named F]

/-- A left fold over the thirteen chunks, up to chunk `n`. -/
def chain {α β : Type} (first : β → α) (next : α → β → α) (x : Fin 13 → β) : (n : ℕ) → n < 13 → α
  | 0, h => first (x ⟨0, h⟩)
  | n + 1, h => next (chain first next x n (by omega)) (x ⟨n + 1, h⟩)

/-- The scores of one chunk of keys against the query tile. -/
def scores (q : Vec F S1x1x128x512 .bf16) (k : Vec F S1x1x256x128 .bf16) : FVec F S256x512 .f32 :=
  matmul dot_S256x128_S128x512_S256x512_1_0_0_1_n_n none (shapeCast S256x128 k shapeCasts_S1x1x256x128_S256x128)
    (shapeCast S128x512 q shapeCasts_S1x1x128x512_S128x512) (constant S256x512 .f32 0x00000000#32)

/-- The weights of one chunk: two to the scores less the carried reference. -/
def weights (q : Vec F S1x1x128x512 .bf16) (k : Vec F S1x1x256x128 .bf16) (m : Vec F S1x1x1x512 .f32) : FVec F S32x8x512 .f32 :=
  exp2 (subf (shapeCast S32x8x512 (scores q k) shapeCasts_S256x512_S32x8x512)
    (broadcastTo S32x8x512 (shapeCast S1x8x512 (broadcastTo S8x512
      (shapeCast S1x512 (shapeCast S1x512 m shapeCasts_S1x1x1x512_S1x512) shapeCasts_S1x512_S1x512) broadcasts_S1x512_S8x512)
      shapeCasts_S8x512_S1x8x512) broadcasts_S1x8x512_S32x8x512))

/-- The weights as a matrix over the chunk's keys. -/
def weightsM (q : Vec F S1x1x128x512 .bf16) (k : Vec F S1x1x256x128 .bf16) (m : Vec F S1x1x1x512 .f32) : FVec F S256x512 .bf16 :=
  truncf .bf16 (shapeCast S256x512 (weights q k m) shapeCasts_S32x8x512_S256x512) bitsLt_bf16_f32

/-- A chunk's weights added up, eight partial sums to a lane. -/
def partL (q : Vec F S1x1x128x512 .bf16) (m : Vec F S1x1x1x512 .f32) (k : Vec F S1x1x256x128 .bf16) : FVec F S8x512 .f32 :=
  multiReduction .add [0] S8x512 (weights q k m) 0x00000000#32 reduces_S32x8x512_S8x512 (.inl rfl) rfl

/-- A chunk's largest weights, sixteen to a lane. -/
def partM (q : Vec F S1x1x128x512 .bf16) (m : Vec F S1x1x1x512 .f32) (k : Vec F S1x1x256x128 .bf16) : FVec F S16x512 .bf16 :=
  multiReduction .maximumf [0] S16x512 (shapeCast S16x16x512 (weightsM q k m) shapeCasts_S256x512_S16x16x512) 0xFF80#16
    reduces_S16x16x512_S16x512 (.inr rfl) rfl

/-- A chunk's values against its weights. -/
def partV (q : Vec F S1x1x128x512 .bf16) (m : Vec F S1x1x1x512 .f32) (kv : Vec F S1x1x256x128 .bf16 × Vec F S1x1x64x256 .bf16) : FVec F S64x512 .f32 :=
  matmul dot_S64x256_S256x512_S64x512_1_0_0_1_n_n none (shapeCast S64x256 kv.2 shapeCasts_S1x1x64x256_S64x256)
    (weightsM q kv.1 m) (constant S64x512 .f32 0x00000000#32)

/-- The tile's weights added up. -/
def sumL (q : Vec F S1x1x128x512 .bf16) (k : Fin 13 → Vec F S1x1x256x128 .bf16) (m : Vec F S1x1x1x512 .f32) : FVec F S8x512 .f32 :=
  chain (partL q m) (fun a b => addf a (partL q m b)) k 12 (by decide)

/-- The tile's largest weights. -/
def maxM (q : Vec F S1x1x128x512 .bf16) (k : Fin 13 → Vec F S1x1x256x128 .bf16) (m : Vec F S1x1x1x512 .f32) : FVec F S16x512 .bf16 :=
  chain (partM q m) (fun a b => maximumf a (partM q m b)) k 12 (by decide)

/-- The tile's values against its weights, as the scratch holds them. -/
def sumV (q : Vec F S1x1x128x512 .bf16) (k : Fin 13 → Vec F S1x1x256x128 .bf16) (v : Fin 13 → Vec F S1x1x64x256 .bf16) (m : Vec F S1x1x1x512 .f32) : Vec F S1x64x512 .f32 :=
  chain (fun b => shapeCast S1x64x512 (partV q m b) shapeCasts_S64x512_S1x64x512)
    (fun a b => shapeCast S1x64x512 (addf (shapeCast S64x512 a shapeCasts_S1x64x512_S64x512) (partV q m b)) shapeCasts_S64x512_S1x64x512)
    (fun c => (k c, v c)) 12 (by decide)

/-- The factor the references grow by: the tile's largest weight, or one. -/
def peak (q : Vec F S1x1x128x512 .bf16) (k : Fin 13 → Vec F S1x1x256x128 .bf16) (m : Vec F S1x1x1x512 .f32) : FVec F S1x512 .f32 :=
  maximumf (shapeCast S1x512 (multiReduction .maximumf [0] S512 (extf .f32 (maxM q k m) bitsLt_bf16_f32) 0xFF800000#32 reduces_S16x512_S512 (.inl rfl) rfl)
    shapeCasts_S512_S1x512) (broadcast S1x512 (Scalar.ofBits .f32 0x3F800000#32))

/-- The new reference. -/
def newM (q : Vec F S1x1x128x512 .bf16) (k : Fin 13 → Vec F S1x1x256x128 .bf16) (m : Vec F S1x1x1x512 .f32) : Vec F S1x1x1x512 .f32 :=
  shapeCast S1x1x1x512 (addf (shapeCast S1x512 m shapeCasts_S1x1x1x512_S1x512)
    (mulf (log (peak q k m)) (broadcast S1x512 (Named.named κ "inv_ln2" 0x3FB8AA3B#32)))) shapeCasts_S1x512_S1x1x1x512

/-- What the sums are rescaled by. -/
def rescale (q : Vec F S1x1x128x512 .bf16) (k : Fin 13 → Vec F S1x1x256x128 .bf16) (m : Vec F S1x1x1x512 .f32) : FVec F S1x512 .f32 :=
  divf (broadcast S1x512 (Scalar.ofBits .f32 0x3F800000#32)) (peak q k m)

/-- The new weighted sums. -/
def newA (q : Vec F S1x1x128x512 .bf16) (k : Fin 13 → Vec F S1x1x256x128 .bf16) (v : Fin 13 → Vec F S1x1x64x256 .bf16) (m : Vec F S1x1x1x512 .f32)
    (a : Vec F S1x1x64x512 .f32) : Vec F S1x1x64x512 .f32 :=
  shapeCast S1x1x64x512 (mulf (addf (shapeCast S64x512 a shapeCasts_S1x1x64x512_S64x512) (shapeCast S64x512 (sumV q k v m) shapeCasts_S1x64x512_S64x512))
    (broadcastTo S64x512 (rescale q k m) broadcasts_S1x512_S64x512)) shapeCasts_S64x512_S1x1x64x512

/-- The new sum of the weights. -/
def newL (q : Vec F S1x1x128x512 .bf16) (k : Fin 13 → Vec F S1x1x256x128 .bf16) (m : Vec F S1x1x1x512 .f32) (l : Vec F S1x1x1x512 .f32) : Vec F S1x1x1x512 .f32 :=
  shapeCast S1x1x1x512 (mulf (addf (shapeCast S1x512 l shapeCasts_S1x1x1x512_S1x512)
    (shapeCast S1x512 (multiReduction .add [0] S512 (sumL q k m) 0x00000000#32 reduces_S8x512_S512 (.inl rfl) rfl) shapeCasts_S512_S1x512))
    (rescale q k m)) shapeCasts_S1x512_S1x1x1x512

/-! ## The loads -/

theorem inbQ (g : Fin 8) : ∀ a, (![0, g.val, 0, 0] : Fin 4 → ℕ) a + S1x1x128x512.size a ≤ S1x8x128x512.size a := by revert g; decide
theorem inbK (g : Fin 8) (n : Fin 13) : ∀ a, (![0, g.val, 256 * n.val, 0] : Fin 4 → ℕ) a + S1x1x256x128.size a ≤ S1x8x3328x128.size a := by revert g n; decide
theorem inbK0 (g : Fin 8) : ∀ a, (![0, g.val, 0, 0] : Fin 4 → ℕ) a + S1x1x16x128.size a ≤ S1x8x3328x128.size a := by revert g; decide
theorem inbV (g : Fin 8) (n : Fin 13) : ∀ a, (![0, g.val, 0, 256 * n.val] : Fin 4 → ℕ) a + S1x1x64x256.size a ≤ S1x8x64x3328.size a := by revert g n; decide
theorem inbM0 (g : Fin 8) : ∀ a, (![0, g.val, 0, 0] : Fin 4 → ℕ) a + S1x1x1x512.size a ≤ S2x8x1x512.size a := by revert g; decide

section Loads

variable (c : Dev nD) (i : grid0.Coords) (arg3 : Memref sig .tc .vmem S1x8x128x512 .bf16) (arg4 : Memref sig .tc .vmem S1x8x3328x128 .bf16) (arg5 : Memref sig .tc .vmem S1x8x64x3328 .bf16)
  (arg7 : Memref sig .tc .vmem S2x8x1x512 .f32) (arg8 : Memref sig .tc .vmem S2x8x72x512 .f32)
  (f3 : Bf (F := F) c arg3) (f4 : Bf (F := F) c arg4) (f5 : Bf (F := F) c arg5) (f7 : Bf (F := F) c arg7) (f8 : Bf (F := F) c arg8)

/-- The slot the point reads, as the body computes it, and the one it writes. -/
abbrev curW : BitVec 32 := Scalar.remsi (BitVec.ofNat 32 (i 2).val) 2#32
abbrev nxtW : BitVec 32 := Scalar.subi 1#32 (curW i)

/-- Head `g`'s queries, its keys' and its values' chunk `n`. -/
def qOf (g : Fin 8) : Vec F S1x1x128x512 .bf16 :=
  View.readAt (Elt F) arg3.view (Rect.unit (s := S1x8x128x512) ![0, g.val, 0, 0] S1x1x128x512.size (inbQ g)).toLoadRect f3
def kOf (g : Fin 8) (n : Fin 13) : Vec F S1x1x256x128 .bf16 :=
  View.readAt (Elt F) arg4.view (Rect.unit (s := S1x8x3328x128) ![0, g.val, 256 * n.val, 0] S1x1x256x128.size (inbK g n)).toLoadRect f4
def vOf (g : Fin 8) (n : Fin 13) : Vec F S1x1x64x256 .bf16 :=
  View.readAt (Elt F) arg5.view (Rect.unit (s := S1x8x64x3328) ![0, g.val, 0, 256 * n.val] S1x1x64x256.size (inbV g n)).toLoadRect f5

/-- The first reference of head `g`: the largest of its first sixteen scores. -/
def firstM (g : Fin 8) : Vec F S1x1x1x512 .f32 :=
  shapeCast S1x1x1x512 (shapeCast S1x512 (multiReduction .maximumf [0] S512
    (matmul dot_S16x128_S128x512_S16x512_1_0_0_1_n_n none
      (shapeCast S16x128 (View.readAt (Elt F) arg4.view (Rect.unit (s := S1x8x3328x128) ![0, g.val, 0, 0] S1x1x16x128.size (inbK0 g)).toLoadRect f4) shapeCasts_S1x1x16x128_S16x128)
      (shapeCast S128x512 (qOf c arg3 f3 g) shapeCasts_S1x1x128x512_S128x512) (constant S16x512 .f32 0x00000000#32))
    0xFF800000#32 reduces_S16x512_S512 (.inl rfl) rfl) shapeCasts_S512_S1x512) shapeCasts_S1x512_S1x1x1x512

/-- The first references of all heads, in slot zero. -/
def initM : List (View.Piece (Elt F) S2x8x1x512 .f32) :=
  [7, 6, 5, 4, 3, 2, 1, 0].map fun g : Fin 8 => ⟨Rect.unit (s := S2x8x1x512) ![0, g.val, 0, 0] S1x1x1x512.size (inbM0 g), firstM c arg3 arg4 f3 f4 g⟩

/-- The references' buffer once the tile pass starts. -/
def start7 : Bf (F := F) c arg7 :=
  if bodyRun.sl.v4 i = 1#1 then arg7.view.writes (Elt F) f7 (initM c arg3 arg4 f3 f4) else f7

end Loads

end Cert.KernelIdeal.Stream
end
-- ==== Proof.Stream.Pieces.lean ====
/- What the body's main pass leaves in the carried buffers, head by head: the pieces its run writes are the tile functions of
   the head's loads. -/
module

public import proofs.«01_k».proof.Proof.Stream.Tile

@[expose] public section

set_option maxRecDepth 65536
set_option maxHeartbeats 1000000

noncomputable section

namespace Cert.KernelIdeal.Stream

open Cert.KernelIdeal Cert.KernelIdeal.Gen Cert.KernelIdeal.Body

open Idealize.ShloMosaic

variable {F : FTy → Type} [FloatOps F] [Named F]

/-- The offsets of head `g`'s row `r` in the slot read, and in the slot written. -/
abbrev offC (i : grid0.Coords) (g r : ℕ) : Fin 4 → ℕ := ![(Scalar.indexCast (curW i)).toNat, g, r, 0]
abbrev offN (i : grid0.Coords) (g r : ℕ) : Fin 4 → ℕ := ![(Scalar.indexCast (nxtW i)).toNat, g, r, 0]

theorem curW_toNat (i : grid0.Coords) : (Scalar.indexCast (curW i)).toNat = (i 2).val % 2 := by
  have h : (i 2).val < 5 := (i 2).isLt
  unfold curW
  generalize (i 2).val = n at *
  revert h n; decide

theorem nxtW_toNat (i : grid0.Coords) : (Scalar.indexCast (nxtW i)).toNat = 1 - (i 2).val % 2 := by
  have h : (i 2).val < 5 := (i 2).isLt
  unfold nxtW curW
  generalize (i 2).val = n at *
  revert h n; decide

theorem inbMC (i : grid0.Coords) (g : Fin 8) : ∀ a, offC i g.val 0 a + S1x1x1x512.size a ≤ S2x8x1x512.size a := by
  unfold offC; rw [curW_toNat]; generalize hn : (i 2).val % 2 = n; have h : n < 2 := by omega
  clear hn; revert h n g; decide
theorem inbMN (i : grid0.Coords) (g : Fin 8) : ∀ a, offN i g.val 0 a + S1x1x1x512.size a ≤ S2x8x1x512.size a := by
  unfold offN; rw [nxtW_toNat]; generalize hn : 1 - (i 2).val % 2 = n; have h : n < 2 := by omega
  clear hn; revert h n g; decide
theorem inbLC (i : grid0.Coords) (g : Fin 8) : ∀ a, offC i g.val 64 a + S1x1x1x512.size a ≤ S2x8x72x512.size a := by
  unfold offC; rw [curW_toNat]; generalize hn : (i 2).val % 2 = n; have h : n < 2 := by omega
  clear hn; revert h n g; decide
theorem inbLN (i : grid0.Coords) (g : Fin 8) : ∀ a, offN i g.val 64 a + S1x1x1x512.size a ≤ S2x8x72x512.size a := by
  unfold offN; rw [nxtW_toNat]; generalize hn : 1 - (i 2).val % 2 = n; have h : n < 2 := by omega
  clear hn; revert h n g; decide
theorem inbAC (i : grid0.Coords) (g : Fin 8) : ∀ a, offC i g.val 0 a + S1x1x64x512.size a ≤ S2x8x72x512.size a := by
  unfold offC; rw [curW_toNat]; generalize hn : (i 2).val % 2 = n; have h : n < 2 := by omega
  clear hn; revert h n g; decide
theorem inbAN (i : grid0.Coords) (g : Fin 8) : ∀ a, offN i g.val 0 a + S1x1x64x512.size a ≤ S2x8x72x512.size a := by
  unfold offN; rw [nxtW_toNat]; generalize hn : 1 - (i 2).val % 2 = n; have h : n < 2 := by omega
  clear hn; revert h n g; decide

section Main

variable (c : Dev nD) (i : grid0.Coords) (arg3 : Memref sig .tc .vmem S1x8x128x512 .bf16) (harg3 : arg3.IsWhole) (arg4 : Memref sig .tc .vmem S1x8x3328x128 .bf16) (harg4 : arg4.IsWhole) (arg5 : Memref sig .tc .vmem S1x8x64x3328 .bf16) (harg5 : arg5.IsWhole) (arg6 : Memref sig .tc .vmem S1x8x64x512 .bf16) (harg6 : arg6.IsWhole) (arg7 : Memref sig .tc .vmem S2x8x1x512 .f32) (harg7 : arg7.IsWhole) (arg8 : Memref sig .tc .vmem S2x8x72x512 .f32) (harg8 : arg8.IsWhole) (arg9 : Memref sig .tc .vmem S8x64x512 .f32) (harg9 : arg9.IsWhole)
  (f3 : Bf (F := F) c arg3) (f4 : Bf (F := F) c arg4) (f5 : Bf (F := F) c arg5) (f7 : Bf (F := F) c arg7) (f8 : Bf (F := F) c arg8) (f9 : Bf (F := F) c arg9)

/-- The sums' buffer once the tile pass starts. -/
def start8 : Bf (F := F) c arg8 :=
  if bodyRun.sl.v4 i = 1#1 then
    arg8.view.writes (Elt F) f8 [⟨Rect.unit (s := S2x8x72x512) ![0, 0, 0, 0] S1x8x72x512.size inb_S2x8x72x512_S1x8x72x512_0_0_0_0, bodyRun.sl.v3594⟩]
  else f8

/-- The carried reference, sums and weights' sum of head `g`. -/
def mOf (f7' : Bf (F := F) c arg7) (g : Fin 8) : Vec F S1x1x1x512 .f32 :=
  View.readAt (Elt F) arg7.view (Rect.unit (s := S2x8x1x512) (offC i g.val 0) S1x1x1x512.size (inbMC i g)).toLoadRect f7'
def aOf (f8' : Bf (F := F) c arg8) (g : Fin 8) : Vec F S1x1x64x512 .f32 :=
  View.readAt (Elt F) arg8.view (Rect.unit (s := S2x8x72x512) (offC i g.val 0) S1x1x64x512.size (inbAC i g)).toLoadRect f8'
def lOf (f8' : Bf (F := F) c arg8) (g : Fin 8) : Vec F S1x1x1x512 .f32 :=
  View.readAt (Elt F) arg8.view (Rect.unit (s := S2x8x72x512) (offC i g.val 64) S1x1x1x512.size (inbLC i g)).toLoadRect f8'

/-- The references the main pass writes. -/
def mainM : List (View.Piece (Elt F) S2x8x1x512 .f32) :=
  [7, 6, 5, 4, 3, 2, 1, 0].map fun g : Fin 8 => ⟨Rect.unit (s := S2x8x1x512) (offN i g.val 0) S1x1x1x512.size (inbMN i g),
    newM (qOf c arg3 f3 g) (kOf c arg4 f4 g) (mOf c i arg7 (start7 c i arg3 arg4 arg7 f3 f4 f7) g)⟩

theorem main7_list : bodyRun.sl.H7_8 c i arg3 arg4 arg7 f3 f4 f7 = mainM c i arg3 arg4 arg7 f3 f4 f7 := rfl

theorem main7_start : (if hc : bodyRun.sl.v4 i = 1#1 then
    arg7.view.writes (Elt F) f7 (⟨Rect.unit (s := S2x8x1x512) ![0, 7, 0, 0] S1x1x1x512.size (inbM0 7), bodyRun.sl.v3590 c arg3 arg4 f3 f4⟩ ::
      ⟨Rect.unit (s := S2x8x1x512) ![0, 6, 0, 0] S1x1x1x512.size (inbM0 6), bodyRun.sl.v3580 c arg3 arg4 f3 f4⟩ ::
      ⟨Rect.unit (s := S2x8x1x512) ![0, 5, 0, 0] S1x1x1x512.size (inbM0 5), bodyRun.sl.v3570 c arg3 arg4 f3 f4⟩ ::
      ⟨Rect.unit (s := S2x8x1x512) ![0, 4, 0, 0] S1x1x1x512.size (inbM0 4), bodyRun.sl.v3560 c arg3 arg4 f3 f4⟩ :: bodyRun.sl.H7_4 c arg3 arg4 f3 f4)
    else f7) = start7 c i arg3 arg4 arg7 f3 f4 f7 := rfl

/-- What the main pass leaves in the references' buffer. -/
theorem main7 : (bodyRun (F := F) c i arg3 harg3 arg4 harg4 arg5 harg5 arg6 harg6 arg7 harg7 arg8 harg8 arg9 harg9 f3 f4 f5 f7 f8 f9).1.1
    = arg7.view.writes (Elt F) (start7 c i arg3 arg4 arg7 f3 f4 f7) (mainM c i arg3 arg4 arg7 f3 f4 f7) := by
  unfold bodyRun
  dsimp only
  exact congrArg₂ (arg7.view.writes (Elt F)) (main7_start c i arg3 arg4 arg7 f3 f4 f7) (main7_list c i arg3 arg4 arg7 f3 f4 f7)

/-- A head's new weights' sum and new sums, as pieces. -/
def pieceL (g : Fin 8) : View.Piece (Elt F) S2x8x72x512 .f32 :=
  ⟨Rect.unit (s := S2x8x72x512) (offN i g.val 64) S1x1x1x512.size (inbLN i g),
    newL (qOf c arg3 f3 g) (kOf c arg4 f4 g) (mOf c i arg7 (start7 c i arg3 arg4 arg7 f3 f4 f7) g) (lOf c i arg8 (start8 c i arg8 f8) g)⟩
def pieceA (g : Fin 8) : View.Piece (Elt F) S2x8x72x512 .f32 :=
  ⟨Rect.unit (s := S2x8x72x512) (offN i g.val 0) S1x1x64x512.size (inbAN i g),
    newA (qOf c arg3 f3 g) (kOf c arg4 f4 g) (vOf c arg5 f5 g) (mOf c i arg7 (start7 c i arg3 arg4 arg7 f3 f4 f7) g) (aOf c i arg8 (start8 c i arg8 f8) g)⟩

/-- The sums the main pass writes. -/
def mainS : List (View.Piece (Elt F) S2x8x72x512 .f32) :=
  [7, 6, 5, 4, 3, 2, 1, 0].flatMap fun g : Fin 8 => [pieceL c i arg3 arg4 arg7 arg8 f3 f4 f7 f8 g, pieceA c i arg3 arg4 arg5 arg7 arg8 f3 f4 f5 f7 f8 g]

/-- The scratch read back after a write is what was written; -/
theorem cov_first {g : Fin 3 → ℕ} {h : ∀ a, g a + S1x64x512.size a ≤ S8x64x512.size a} {w : Vec F S1x64x512 .f32} {L : List (View.Piece (Elt F) S8x64x512 .f32)} :
    arg9.view.readCov (⟨Rect.unit (s := S8x64x512) g S1x64x512.size h, w⟩ :: L) (Rect.unit (s := S8x64x512) g S1x64x512.size h).toLoadRect = w :=
  View.readCov_cons_toLoadRect _ _ _ _
/-- and so with the running product of a later chunk, from the one before. -/
theorem cov_next {g : Fin 3 → ℕ} {h : ∀ a, g a + S1x64x512.size a ≤ S8x64x512.size a} {p p' : Vec F S1x64x512 .f32} {d : FVec F S64x512 .f32}
    {L : List (View.Piece (Elt F) S8x64x512 .f32)} (e : p = p') :
    arg9.view.readCov (⟨Rect.unit (s := S8x64x512) g S1x64x512.size h, shapeCast S1x64x512 (addf (shapeCast S64x512 p shapeCasts_S1x64x512_S64x512) d) shapeCasts_S64x512_S1x64x512⟩ :: L)
        (Rect.unit (s := S8x64x512) g S1x64x512.size h).toLoadRect
      = shapeCast S1x64x512 (addf (shapeCast S64x512 p' shapeCasts_S1x64x512_S64x512) d) shapeCasts_S64x512_S1x64x512 :=
  e ▸ View.readCov_cons_toLoadRect _ _ _ _

/-- One head's two pieces before the earlier heads', the scratch's read replaced by the product it holds. -/
theorem two (g : Fin 8) {p : Vec F S1x64x512 .f32} {L L' : List (View.Piece (Elt F) S2x8x72x512 .f32)}
    (e : p = sumV (qOf c arg3 f3 g) (kOf c arg4 f4 g) (vOf c arg5 f5 g) (mOf c i arg7 (start7 c i arg3 arg4 arg7 f3 f4 f7) g)) (hL : L = L') :
    pieceL c i arg3 arg4 arg7 arg8 f3 f4 f7 f8 g :: ⟨Rect.unit (s := S2x8x72x512) (offN i g.val 0) S1x1x64x512.size (inbAN i g),
        shapeCast S1x1x64x512 (mulf (addf (shapeCast S64x512 (aOf c i arg8 (start8 c i arg8 f8) g) shapeCasts_S1x1x64x512_S64x512) (shapeCast S64x512 p shapeCasts_S1x64x512_S64x512))
          (broadcastTo S64x512 (rescale (qOf c arg3 f3 g) (kOf c arg4 f4 g) (mOf c i arg7 (start7 c i arg3 arg4 arg7 f3 f4 f7) g)) broadcasts_S1x512_S64x512)) shapeCasts_S64x512_S1x1x64x512⟩ :: L
      = pieceL c i arg3 arg4 arg7 arg8 f3 f4 f7 f8 g :: pieceA c i arg3 arg4 arg5 arg7 arg8 f3 f4 f5 f7 f8 g :: L' := by
  rw [e, hL]; rfl

theorem main8_list : bodyRun.sl.H8_16 c i arg3 arg4 arg5 arg7 arg8 arg9 f3 f4 f5 f7 f8 = mainS c i arg3 arg4 arg5 arg7 arg8 f3 f4 f5 f7 f8 := by
  have step := fun g {p L L'} => two c i arg3 arg4 arg5 arg7 arg8 f3 f4 f5 f7 f8 g (p := p) (L := L) (L' := L')
  refine step 7 ?_ (step 6 ?_ (step 5 ?_ (step 4 ?_ (step 3 ?_ (step 2 ?_ (step 1 ?_ (step 0 ?_ rfl)))))))
  all_goals
    iterate 12 refine cov_next arg9 ?_
    exact cov_first arg9

/-- What the main pass leaves in the sums' buffer. -/
theorem main8 : (bodyRun (F := F) c i arg3 harg3 arg4 harg4 arg5 harg5 arg6 harg6 arg7 harg7 arg8 harg8 arg9 harg9 f3 f4 f5 f7 f8 f9).1.2.1
    = arg8.view.writes (Elt F) (start8 c i arg8 f8) (mainS c i arg3 arg4 arg5 arg7 arg8 f3 f4 f5 f7 f8) := by
  unfold bodyRun
  dsimp only
  exact congrArg (arg8.view.writes (Elt F) (start8 c i arg8 f8)) (main8_list c i arg3 arg4 arg5 arg7 arg8 arg9 f3 f4 f5 f7 f8)

/-- The result's blocks, head by head: the sums over the weights' sum. -/
def outA (a : Vec F S1x1x64x512 .f32) (l : Vec F S1x1x1x512 .f32) : Vec F S1x1x64x512 .bf16 :=
  shapeCast S1x1x64x512 (truncf .bf16 (divf (shapeCast S64x512 a shapeCasts_S1x1x64x512_S64x512)
    (broadcastTo S64x512 (shapeCast S1x512 l shapeCasts_S1x1x1x512_S1x512) broadcasts_S1x512_S64x512)) bitsLt_bf16_f32) shapeCasts_S64x512_S1x1x64x512

theorem inbO (g : Fin 8) : ∀ a, (![0, g.val, 0, 0] : Fin 4 → ℕ) a + S1x1x64x512.size a ≤ S1x8x64x512.size a := by revert g; decide

/-- The sums and weights' sum of head `g` in the slot written. -/
def aNew (f8' : Bf (F := F) c arg8) (g : Fin 8) : Vec F S1x1x64x512 .f32 :=
  View.readAt (Elt F) arg8.view (Rect.unit (s := S2x8x72x512) (offN i g.val 0) S1x1x64x512.size (inbAN i g)).toLoadRect f8'
def lNew (f8' : Bf (F := F) c arg8) (g : Fin 8) : Vec F S1x1x1x512 .f32 :=
  View.readAt (Elt F) arg8.view (Rect.unit (s := S2x8x72x512) (offN i g.val 64) S1x1x1x512.size (inbLN i g)).toLoadRect f8'

def outS (f8' : Bf (F := F) c arg8) : List (View.Piece (Elt F) S1x8x64x512 .bf16) :=
  [7, 6, 5, 4, 3, 2, 1, 0].map fun g : Fin 8 => ⟨Rect.unit (s := S1x8x64x512) ![0, g.val, 0, 0] S1x1x64x512.size (inbO g),
    outA (aNew c i arg8 f8' g) (lNew c i arg8 f8' g)⟩

/-- What the body leaves in the result's staging buffer at a last tile. -/
theorem main6 (hc : k0_cond3 i = 1#1) (f6 : Bf (F := F) c arg6) (f8' : Bf (F := F) c arg8) :
    (bodyRun (F := F) c i arg3 harg3 arg4 harg4 arg5 harg5 arg6 harg6 arg7 harg7 arg8 harg8 arg9 harg9 f3 f4 f5 f7 f8 f9).1.2.2.2 f6 f8'
      = arg6.view.writes (Elt F) f6 (outS c i arg8 f8') := by
  unfold bodyRun
  dsimp only
  rw [dif_pos hc]
  refine congrArg (arg6.view.writes (Elt F) f6) ?_
  rfl

end Main

end Cert.KernelIdeal.Stream
end
-- ==== Proof.Stream.Lists.lean ====
/- What a buffer holds after a list of pieces is written to it, one piece or two to each of eight heads: inside a piece its
   payload, outside them all what was there. -/
module

public import Idealize.ShloMosaic.Lib.WritesUnit
public import Idealize.ShloMosaic.Lib.VecWindow

@[expose] public section

set_option maxRecDepth 16384
set_option maxHeartbeats 1000000

noncomputable section

namespace Cert.KernelIdeal.Stream

open Idealize.ShloMosaic

/-! ## Lists of pieces, one or two to a head -/

section Lists

variable {sig : RefSig} {S : Shape} {e : EltTy} {Val : EltTy → Type}

/-- A load read at an index. -/
theorem readAt_at {κ' : Kind} {sp : Space} (v : View sig κ' sp S e) (f : v.ty.Contents Val) {off size : Fin S.rank → ℕ} (inb : ∀ a, off a + size a ≤ S.size a)
    (x : (Rect.unit (s := S) off size inb).shape.Idx) (y : S.Idx) (h : ∀ a, (y a).val = off a + (x a).val) :
    v.readAt Val (Rect.unit (s := S) off size inb).toLoadRect f x = v.read Val f y := by
  rw [View.readAt_unit v f inb rfl inb]
  refine congrArg (v.read Val f) (funext fun a => Fin.ext ?_)
  show off a + 1 * (x a).val = (y a).val
  rw [h a, Nat.one_mul]

variable {κ' : Kind} {sp : Space} (v : View sig κ' sp S e) (f : v.ty.Contents Val)
  {size : Fin S.rank → ℕ} (off : Fin 8 → Fin S.rank → ℕ) (inb : ∀ g a, off g a + size a ≤ S.size a)
  (w : (g : Fin 8) → (Rect.unit (s := S) (off g) size (inb g)).shape.Idx → Val e)
  {size' : Fin S.rank → ℕ} (off' : Fin 8 → Fin S.rank → ℕ) (inb' : ∀ g a, off' g a + size' a ≤ S.size a)
  (w' : (g : Fin 8) → (Rect.unit (s := S) (off' g) size' (inb' g)).shape.Idx → Val e)

/-- One piece to a head: inside a head's piece the list reads its payload, -/
theorem read_map_mem (y : S.Idx) (g : Fin 8) (x : (Rect.unit (s := S) (off g) size (inb g)).shape.Idx) (hx : ∀ a, (y a).val = off g a + (x a).val)
    (ax : Fin S.rank) (hax : ∀ h, h ≠ g → (y ax).val < off h ax ∨ off h ax + size ax ≤ (y ax).val) :
    ∀ hs : List (Fin 8), g ∈ hs →
      v.read Val (v.writes Val f (hs.map fun g => (⟨Rect.unit (s := S) (off g) size (inb g), w g⟩ : View.Piece Val S e))) y = w g x
  | [], hg => absurd hg (List.not_mem_nil)
  | h :: hs, hg => by
    rw [List.map_cons]
    by_cases hh : h = g
    · subst hh
      exact View.read_writes_cons_unit_of_mem v f (inb h) (w h) _ y x rfl hx
    · rw [View.read_writes_cons_unit_of_not_mem v f (inb h) (w h) _ y rfl ax (hax h hh)]
      exact read_map_mem y g x hx ax hax hs ((List.mem_cons.1 hg).resolve_left fun e => hh e.symm)

/-- and outside them all what was there. -/
theorem read_map_not (y : S.Idx) (ax : Fin S.rank) (hax : ∀ h, (y ax).val < off h ax ∨ off h ax + size ax ≤ (y ax).val) :
    ∀ hs : List (Fin 8),
      v.read Val (v.writes Val f (hs.map fun g => (⟨Rect.unit (s := S) (off g) size (inb g), w g⟩ : View.Piece Val S e))) y = v.read Val f y
  | [] => rfl
  | h :: hs => by
    rw [List.map_cons, View.read_writes_cons_unit_of_not_mem v f (inb h) (w h) _ y rfl ax (hax h)]
    exact read_map_not y ax hax hs

/-- Two pieces to a head: inside a head's first piece, -/
theorem read_two_fst (y : S.Idx) (g : Fin 8) (x : (Rect.unit (s := S) (off g) size (inb g)).shape.Idx) (hx : ∀ a, (y a).val = off g a + (x a).val)
    (ax : Fin S.rank) (hax : ∀ h, h ≠ g → (y ax).val < off h ax ∨ off h ax + size ax ≤ (y ax).val)
    (hax' : ∀ h, h ≠ g → (y ax).val < off' h ax ∨ off' h ax + size' ax ≤ (y ax).val) :
    ∀ hs : List (Fin 8), g ∈ hs →
      v.read Val (v.writes Val f (hs.flatMap fun g => [(⟨Rect.unit (s := S) (off g) size (inb g), w g⟩ : View.Piece Val S e), ⟨Rect.unit (s := S) (off' g) size' (inb' g), w' g⟩])) y = w g x
  | [], hg => absurd hg (List.not_mem_nil)
  | h :: hs, hg => by
    rw [List.flatMap_cons, List.cons_append, List.cons_append, List.nil_append]
    by_cases hh : h = g
    · subst hh
      exact View.read_writes_cons_unit_of_mem v f (inb h) (w h) _ y x rfl hx
    · rw [View.read_writes_cons_unit_of_not_mem v f (inb h) (w h) _ y rfl ax (hax h hh),
        View.read_writes_cons_unit_of_not_mem v f (inb' h) (w' h) _ y rfl ax (hax' h hh)]
      exact read_two_fst y g x hx ax hax hax' hs ((List.mem_cons.1 hg).resolve_left fun e => hh e.symm)

/-- inside its second, -/
theorem read_two_snd (y : S.Idx) (g : Fin 8) (x : (Rect.unit (s := S) (off' g) size' (inb' g)).shape.Idx) (hx : ∀ a, (y a).val = off' g a + (x a).val)
    (ax : Fin S.rank) (hax : ∀ h, h ≠ g → (y ax).val < off h ax ∨ off h ax + size ax ≤ (y ax).val)
    (hax' : ∀ h, h ≠ g → (y ax).val < off' h ax ∨ off' h ax + size' ax ≤ (y ax).val)
    (bx : Fin S.rank) (hbx : (y bx).val < off g bx ∨ off g bx + size bx ≤ (y bx).val) :
    ∀ hs : List (Fin 8), g ∈ hs →
      v.read Val (v.writes Val f (hs.flatMap fun g => [(⟨Rect.unit (s := S) (off g) size (inb g), w g⟩ : View.Piece Val S e), ⟨Rect.unit (s := S) (off' g) size' (inb' g), w' g⟩])) y = w' g x
  | [], hg => absurd hg (List.not_mem_nil)
  | h :: hs, hg => by
    rw [List.flatMap_cons, List.cons_append, List.cons_append, List.nil_append]
    by_cases hh : h = g
    · subst hh
      rw [View.read_writes_cons_unit_of_not_mem v f (inb h) (w h) _ y rfl bx hbx]
      exact View.read_writes_cons_unit_of_mem v f (inb' h) (w' h) _ y x rfl hx
    · rw [View.read_writes_cons_unit_of_not_mem v f (inb h) (w h) _ y rfl ax (hax h hh),
        View.read_writes_cons_unit_of_not_mem v f (inb' h) (w' h) _ y rfl ax (hax' h hh)]
      exact read_two_snd y g x hx ax hax hax' bx hbx hs ((List.mem_cons.1 hg).resolve_left fun e => hh e.symm)

/-- and outside them all. -/
theorem read_two_not (y : S.Idx) (ax : Fin S.rank) (hax : ∀ h, (y ax).val < off h ax ∨ off h ax + size ax ≤ (y ax).val)
    (hax' : ∀ h, (y ax).val < off' h ax ∨ off' h ax + size' ax ≤ (y ax).val) :
    ∀ hs : List (Fin 8),
      v.read Val (v.writes Val f (hs.flatMap fun g => [(⟨Rect.unit (s := S) (off g) size (inb g), w g⟩ : View.Piece Val S e), ⟨Rect.unit (s := S) (off' g) size' (inb' g), w' g⟩])) y = v.read Val f y
  | [] => rfl
  | h :: hs => by
    rw [List.flatMap_cons, List.cons_append, List.cons_append, List.nil_append, View.read_writes_cons_unit_of_not_mem v f (inb h) (w h) _ y rfl ax (hax h),
      View.read_writes_cons_unit_of_not_mem v f (inb' h) (w' h) _ y rfl ax (hax' h)]
    exact read_two_not y ax hax hax' hs

theorem all_heads (g : Fin 8) : g ∈ ([7, 6, 5, 4, 3, 2, 1, 0] : List (Fin 8)) := by revert g; decide

end Lists

theorem read_writes_one {sig : RefSig} {S : Shape} {e : EltTy} {Val : EltTy → Type} {κ' : Kind} {sp : Space} (v : View sig κ' sp S e) (f : v.ty.Contents Val)
    {off size : Fin S.rank → ℕ} (inb : ∀ a, off a + size a ≤ S.size a) (w : (Rect.unit (s := S) off size inb).shape.Idx → Val e)
    (y : S.Idx) (ax : Fin S.rank) (hax : (y ax).val < off ax ∨ off ax + size ax ≤ (y ax).val) :
    v.read Val (v.writes Val f [(⟨Rect.unit (s := S) off size inb, w⟩ : View.Piece Val S e)]) y = v.read Val f y :=
  View.read_writes_cons_unit_of_not_mem v f inb w _ y rfl ax hax

theorem read_writes_pair {sig : RefSig} {S : Shape} {e : EltTy} {Val : EltTy → Type} {κ' : Kind} {sp : Space} (v : View sig κ' sp S e) (f : v.ty.Contents Val)
    {off size : Fin S.rank → ℕ} (inb : ∀ a, off a + size a ≤ S.size a) (w : (Rect.unit (s := S) off size inb).shape.Idx → Val e)
    {off' size' : Fin S.rank → ℕ} (inb' : ∀ a, off' a + size' a ≤ S.size a) (w' : (Rect.unit (s := S) off' size' inb').shape.Idx → Val e)
    (y : S.Idx) (ax : Fin S.rank) (hax : (y ax).val < off ax ∨ off ax + size ax ≤ (y ax).val) (hax' : (y ax).val < off' ax ∨ off' ax + size' ax ≤ (y ax).val) :
    v.read Val (v.writes Val f [(⟨Rect.unit (s := S) off size inb, w⟩ : View.Piece Val S e), ⟨Rect.unit (s := S) off' size' inb', w'⟩]) y = v.read Val f y :=
  (View.read_writes_cons_unit_of_not_mem v f inb w _ y rfl ax hax).trans (View.read_writes_cons_unit_of_not_mem v f inb' w' _ y rfl ax hax')

/-- A load, and a piece, by its offset. -/
theorem read_off {sig : RefSig} {S : Shape} {e : EltTy} {Val : EltTy → Type} {κ' : Kind} {sp : Space} (v : View sig κ' sp S e) (f : v.ty.Contents Val)
    {o o' z : Fin S.rank → ℕ} (h : ∀ a, o a + z a ≤ S.size a) (h' : ∀ a, o' a + z a ≤ S.size a) (e : o = o') :
    v.readAt Val (Rect.unit (s := S) o z h).toLoadRect f = v.readAt Val (Rect.unit (s := S) o' z h').toLoadRect f := by
  subst e; rfl

theorem piece_off {S : Shape} {e : EltTy} {Val : EltTy → Type} {o o' : Fin S.rank → ℕ} {z : Fin S.rank → ℕ}
    (h : ∀ a, o a + z a ≤ S.size a) (h' : ∀ a, o' a + z a ≤ S.size a) (ho : o = o') {w w' : (⟨S.rank, z⟩ : Shape).Idx → Val e} (ew : w = w') :
    (⟨Rect.unit (s := S) o z h, w⟩ : View.Piece Val S e) = ⟨Rect.unit (s := S) o' z h', w'⟩ := by
  subst ho ew; rfl

end Cert.KernelIdeal.Stream
end
-- ==== Proof.Stream.Trip.lean ====
/- What one trip of the exact pass leaves in the carried buffers, in the words of one head: the reference is raised to the
   largest score of the tile, the weights are taken against it, and the carried sums are rescaled. -/
module

public import proofs.«01_k».proof.Proof.KernelIdeal.Run
public import proofs.«01_k».proof.Proof.Stream.Pieces
public import proofs.«01_k».proof.Proof.Stream.Lists

@[expose] public section

set_option maxRecDepth 16384
set_option maxHeartbeats 1000000

noncomputable section

namespace Cert.KernelIdeal.Stream

open Cert.KernelIdeal Cert.KernelIdeal.Gen Cert.KernelIdeal.Body

open Idealize.ShloMosaic
open Idealize.ShloMosaic.TcCoe

variable {F : FTy → Type} [FloatOps F] [Named F]

/-- The reference after `n` chunks: the largest of the carried one and the chunks' scores. -/
def topM (q : FVec F S128x512 .bf16) (k : Fin 13 → Vec F S1x1x256x128 .bf16) (m : FVec F S1x512 .f32) : ℕ → FVec F S1x512 .f32
  | 0 => m
  | n + 1 => if h : n < 13 then k0_pay17 q (topM q k m n) (k ⟨n, h⟩) else topM q k m n

/-- The sums against the weights, and of the weights, after `n` chunks. -/
def exactS (q : FVec F S128x512 .bf16) (k : Fin 13 → Vec F S1x1x256x128 .bf16) (v : Fin 13 → Vec F S1x1x64x256 .bf16) (m : FVec F S1x512 .f32) :
    ℕ → FVec F S64x512 .f32 × FVec F S1x512 .f32
  | 0 => (k0_pay18, k0_pay19)
  | n + 1 => if h : n < 13 then
      (k0_pay21 q m (exactS q k v m n).1 (k ⟨n, h⟩) (v ⟨n, h⟩), k0_pay22 q m (exactS q k v m n).2 (k ⟨n, h⟩))
    else exactS q k v m n

/-- The exact pass's new reference, sums and weights' sum of a head. -/
def redoM (q : Vec F S1x1x128x512 .bf16) (k : Fin 13 → Vec F S1x1x256x128 .bf16) (m : Vec F S1x1x1x512 .f32) : FVec F S1x512 .f32 :=
  topM (k0_pay15 q) k (k0_pay16 m) 13
def redoA (q : Vec F S1x1x128x512 .bf16) (k : Fin 13 → Vec F S1x1x256x128 .bf16) (v : Fin 13 → Vec F S1x1x64x256 .bf16) (m : Vec F S1x1x1x512 .f32)
    (a : Vec F S1x1x64x512 .f32) : FVec F S1x1x64x512 .f32 :=
  k0_pay25 m (redoM q k m) (exactS (k0_pay15 q) k v (redoM q k m) 13).1 a
def redoL (q : Vec F S1x1x128x512 .bf16) (k : Fin 13 → Vec F S1x1x256x128 .bf16) (v : Fin 13 → Vec F S1x1x64x256 .bf16) (m : Vec F S1x1x1x512 .f32)
    (l : Vec F S1x1x1x512 .f32) : FVec F S1x1x1x512 .f32 :=
  k0_pay4 (k0_pay26 m (redoM q k m) (exactS (k0_pay15 q) k v (redoM q k m) 13).2 l)

variable (c : Dev nD) (i : grid0.Coords) (arg3 : Memref sig .tc .vmem S1x8x128x512 .bf16) (harg3 : arg3.IsWhole) (arg4 : Memref sig .tc .vmem S1x8x3328x128 .bf16) (harg4 : arg4.IsWhole) (arg5 : Memref sig .tc .vmem S1x8x64x3328 .bf16) (harg5 : arg5.IsWhole) (arg6 : Memref sig .tc .vmem S1x8x64x512 .bf16) (harg6 : arg6.IsWhole) (arg7 : Memref sig .tc .vmem S2x8x1x512 .f32) (harg7 : arg7.IsWhole) (arg8 : Memref sig .tc .vmem S2x8x72x512 .f32) (harg8 : arg8.IsWhole) (arg9 : Memref sig .tc .vmem S8x64x512 .f32) (harg9 : arg9.IsWhole)
  (v0 v1 : BitVec 32)
  (f3 : Bf (F := F) c arg3) (f4 : Bf (F := F) c arg4) (f5 : Bf (F := F) c arg5) (f7 : Bf (F := F) c arg7) (f8 : Bf (F := F) c arg8)
  (k : Fin k0_t1_loop.trips)

/-- The head of trip `k`. -/
abbrev headOf (k : Fin k0_t1_loop.trips) : Fin 8 := ⟨k.val, k.isLt⟩

theorem payL {m m' : Vec F S1x1x1x512 .f32} {M M' : FVec F S1x512 .f32} {S S' : FVec F S64x512 .f32 × FVec F S1x512 .f32} {l l' : Vec F S1x1x1x512 .f32}
    (hm : m = m') (hM : M = M') (hS : S = S') (hl : l = l') : k0_pay4 (k0_pay26 m M S.2 l) = k0_pay4 (k0_pay26 m' M' S'.2 l') := by
  subst hm hM hS hl; rfl
theorem payA {m m' : Vec F S1x1x1x512 .f32} {M M' : FVec F S1x512 .f32} {S S' : FVec F S64x512 .f32 × FVec F S1x512 .f32} {a a' : Vec F S1x1x64x512 .f32}
    (hm : m = m') (hM : M = M') (hS : S = S') (ha : a = a') : k0_pay25 m M S.1 a = k0_pay25 m' M' S'.1 a' := by
  subst hm hM hS ha; rfl

theorem topM_eq (arg10 x y : BitVec 32) (q : FVec F S128x512 .bf16) (m : FVec F S1x512 .f32) (n : ℕ) (hn : n ≤ 13) :
    st_k0_t2 (F := F) Variants.none c none i arg3 harg3 arg4 harg4 arg5 harg5 arg6 harg6 arg7 harg7 arg8 harg8 arg9 harg9 v0 v1 k arg10 q x y f4 m n
      = topM q (kOf c arg4 f4 (headOf k)) m n := by
  induction n with
  | zero => rfl
  | succ n ih =>
    have e := st_k0_t2_succ (F := F) Variants.none c none i arg3 harg3 arg4 harg4 arg5 harg5 arg6 harg6 arg7 harg7 arg8 harg8 arg9 harg9 v0 v1 k arg10 q x y f4 m ⟨n, hn⟩
    refine e.trans ?_
    rw [topM, dif_pos (show n < 13 from hn)]
    unfold tripR_k0_t2 trip_k0_t2
    show k0_pay17 _ _ _ = k0_pay17 _ _ _
    rw [ih (by omega)]
    exact congrArg _ (read_off arg4.view f4 _ _ (k0_off51_eq k ⟨n, hn⟩))

theorem exactS_eq (arg10 x y : BitVec 32) (q : FVec F S128x512 .bf16) (m : FVec F S1x512 .f32) (n : ℕ) (hn : n ≤ 13) :
    st_k0_t3 (F := F) Variants.none c none i arg3 harg3 arg4 harg4 arg5 harg5 arg6 harg6 arg7 harg7 arg8 harg8 arg9 harg9 v0 v1 k arg10 q x y m f4 f5 (k0_pay18, k0_pay19) n
      = exactS q (kOf c arg4 f4 (headOf k)) (vOf c arg5 f5 (headOf k)) m n := by
  induction n with
  | zero => rfl
  | succ n ih =>
    have e := st_k0_t3_succ (F := F) Variants.none c none i arg3 harg3 arg4 harg4 arg5 harg5 arg6 harg6 arg7 harg7 arg8 harg8 arg9 harg9 v0 v1 k arg10 q x y m f4 f5 (k0_pay18, k0_pay19) ⟨n, hn⟩
    refine e.trans ?_
    rw [exactS, dif_pos (show n < 13 from hn)]
    unfold tripR_k0_t3 trip_k0_t3
    show (k0_pay21 _ _ _ _ _, k0_pay22 _ _ _ _) = (k0_pay21 _ _ _ _ _, k0_pay22 _ _ _ _)
    have ek := read_off arg4.view f4 (k0_off52_inb k ⟨n, hn⟩) (inbK (headOf k) ⟨n, hn⟩) (k0_off52_eq k ⟨n, hn⟩)
    have ev := read_off arg5.view f5 (k0_off53_inb k ⟨n, hn⟩) (inbV (headOf k) ⟨n, hn⟩) (k0_off53_eq k ⟨n, hn⟩)
    have ih' := ih (by omega)
    rw [ih']
    exact Prod.ext (congrArg₂ (fun a b => k0_pay21 q m _ a b) ek ev) (congrArg (fun a => k0_pay22 q m _ a) ek)

/-- What a trip leaves in the two carried buffers. -/
theorem trip_eq :
    (trip (F := F) c i arg3 harg3 arg4 harg4 arg5 harg5 arg6 harg6 arg7 harg7 arg8 harg8 arg9 harg9 v0 v1 f3 f4 f5 k f7 f8).1
      = (arg7.view.writes (Elt F) f7 [⟨Rect.unit (s := S2x8x1x512) (offN i k.val 0) S1x1x1x512.size (inbMN i (headOf k)),
            k0_pay24 (redoM (qOf c arg3 f3 (headOf k)) (kOf c arg4 f4 (headOf k)) (mOf c i arg7 f7 (headOf k)))⟩],
         arg8.view.writes (Elt F) f8 [
          ⟨Rect.unit (s := S2x8x72x512) (offN i k.val 64) S1x1x1x512.size (inbLN i (headOf k)),
            redoL (qOf c arg3 f3 (headOf k)) (kOf c arg4 f4 (headOf k)) (vOf c arg5 f5 (headOf k)) (mOf c i arg7 f7 (headOf k)) (lOf c i arg8 f8 (headOf k))⟩,
          ⟨Rect.unit (s := S2x8x72x512) (offN i k.val 0) S1x1x64x512.size (inbAN i (headOf k)),
            redoA (qOf c arg3 f3 (headOf k)) (kOf c arg4 f4 (headOf k)) (vOf c arg5 f5 (headOf k)) (mOf c i arg7 f7 (headOf k)) (aOf c i arg8 f8 (headOf k))⟩]) := by
  have hN : ∀ r, ![1 - (i 2).val % 2, k.val, r, 0] = offN i k.val r := fun r => by rw [offN, nxtW_toNat]
  have hC : ∀ r, ![(i 2).val % 2, k.val, r, 0] = offC i k.val r := fun r => by rw [offC, curW_toNat]
  have eq : View.readAt (Elt F) arg3.view (Rect.unit (s := S1x8x128x512) (k0_off49 k) S1x1x128x512.size (k0_off49_inb k)).toLoadRect f3 = qOf c arg3 f3 (headOf k) :=
    read_off arg3.view f3 _ _ (k0_off49_eq k)
  have em : View.readAt (Elt F) arg7.view (Rect.unit (s := S2x8x1x512) (k0_off50 i k) S1x1x1x512.size (k0_off50_inb i k)).toLoadRect f7 = mOf c i arg7 f7 (headOf k) :=
    read_off arg7.view f7 _ _ ((k0_off50_eq i k).trans (hC 0))
  have ea : View.readAt (Elt F) arg8.view (Rect.unit (s := S2x8x72x512) (k0_off55 i k) S1x1x64x512.size (k0_off55_inb i k)).toLoadRect f8 = aOf c i arg8 f8 (headOf k) :=
    read_off arg8.view f8 _ _ ((k0_off55_eq i k).trans (hC 0))
  have el : View.readAt (Elt F) arg8.view (Rect.unit (s := S2x8x72x512) (k0_off57 i k) S1x1x1x512.size (k0_off57_inb i k)).toLoadRect f8 = lOf c i arg8 f8 (headOf k) :=
    read_off arg8.view f8 _ _ ((k0_off57_eq i k).trans (hC 64))
  have e2 : Scf.trips k0_t2_loop.lb k0_t2_loop.ub k0_t2_loop.st = 13 := by decide
  have e3 : Scf.trips k0_t3_loop.lb k0_t3_loop.ub k0_t3_loop.st = 13 := by decide
  have st2 : ∀ {x y : BitVec 32} {q m n}, q = qOf c arg3 f3 (headOf k) → m = mOf c i arg7 f7 (headOf k) → n = 13 →
      st_k0_t2 (F := F) Variants.none c none i arg3 harg3 arg4 harg4 arg5 harg5 arg6 harg6 arg7 harg7 arg8 harg8 arg9 harg9 v0 v1 k (Scf.iv 0#32 1#32 k.val)
        (k0_pay15 q) x y f4 (k0_pay16 m) n = redoM (qOf c arg3 f3 (headOf k)) (kOf c arg4 f4 (headOf k)) (mOf c i arg7 f7 (headOf k)) := by
    intro x y q m n hq hm hn
    subst hq hm hn
    exact topM_eq (F := F) c i arg3 harg3 arg4 harg4 arg5 harg5 arg6 harg6 arg7 harg7 arg8 harg8 arg9 harg9 v0 v1 f4 k (Scf.iv 0#32 1#32 k.val) x y _ _ 13 le_rfl
  have st3 : ∀ {x y : BitVec 32} {q M n}, q = qOf c arg3 f3 (headOf k) →
      M = redoM (qOf c arg3 f3 (headOf k)) (kOf c arg4 f4 (headOf k)) (mOf c i arg7 f7 (headOf k)) → n = 13 →
      st_k0_t3 (F := F) Variants.none c none i arg3 harg3 arg4 harg4 arg5 harg5 arg6 harg6 arg7 harg7 arg8 harg8 arg9 harg9 v0 v1 k (Scf.iv 0#32 1#32 k.val)
        (k0_pay15 q) x y M f4 f5 (k0_pay18, k0_pay19) n = exactS (k0_pay15 (qOf c arg3 f3 (headOf k))) (kOf c arg4 f4 (headOf k)) (vOf c arg5 f5 (headOf k))
          (redoM (qOf c arg3 f3 (headOf k)) (kOf c arg4 f4 (headOf k)) (mOf c i arg7 f7 (headOf k))) 13 := by
    intro x y q M n hq hM hn
    subst hq hM hn
    exact exactS_eq (F := F) c i arg3 harg3 arg4 harg4 arg5 harg5 arg6 harg6 arg7 harg7 arg8 harg8 arg9 harg9 v0 v1 f4 f5 k (Scf.iv 0#32 1#32 k.val) x y _ _ 13 le_rfl
  unfold trip trip.sl.x
  dsimp only
  refine congrArg₂ Prod.mk (congrArg (arg7.view.writes (Elt F) f7) ?_) (congrArg (arg8.view.writes (Elt F) f8) ?_)
  · refine congrArg (fun p => [p]) (piece_off (Val := Elt F) (S := S2x8x1x512) (e := .f32) _ _ ?_ ?_)
    · exact (k0_off54_eq i k).trans (hN 0)
    · exact congrArg k0_pay24 (st2 eq em e2)
  · refine congrArg₂ (fun p r => [p, r]) (piece_off (Val := Elt F) (S := S2x8x72x512) (e := .f32) _ _ ?_ ?_)
      (piece_off (Val := Elt F) (S := S2x8x72x512) (e := .f32) _ _ ?_ ?_)
    · exact (k0_off58_eq i k).trans (hN 64)
    · exact payL em (st2 eq em e2) (st3 eq (st2 eq em e2) e3) el
    · exact (k0_off56_eq i k).trans (hN 0)
    · exact payA em (st2 eq em e2) (st3 eq (st2 eq em e2) e3) ea

end Cert.KernelIdeal.Stream
end
-- ==== Proof.Stream.Lane.lean ====
/- One query's running softmax over the extended reals: a reference `μ`, the weights `2 ^ (s - μ)` of the keys seen so far, and
   the values summed against them. Changing the reference rescales the sums, and a tile of keys extends them. -/
module

public import Idealize.ShloMosaic.PureOps.Ideal
public import Idealize.ShloMosaic.Lib.Pointwise

@[expose] public section

noncomputable section

namespace Cert.KernelIdeal.Stream

open Idealize.ShloMosaic
open Finset

/-- A key's weight against the reference `μ`. -/
def wt (s μ : ℝ) : EReal := ((Real.rpow 2 (s - μ) : ℝ) : EReal)

theorem rpow_pos (s μ : ℝ) : 0 < Real.rpow 2 (s - μ) := Real.rpow_pos_of_pos (by norm_num) _
theorem wt_nonneg (s μ : ℝ) : 0 ≤ wt s μ := EReal.coe_nonneg.2 (rpow_pos s μ).le
theorem wt_ne_top (s μ : ℝ) : wt s μ ≠ ⊤ := EReal.coe_ne_top _
theorem exp2_sub (s μ : ℝ) : Ideal.exp2 ((s : EReal) - (μ : EReal)) = wt s μ := by
  rw [← EReal.coe_sub]; rfl
theorem wt_mul (s μ ν : ℝ) : wt s μ * wt μ ν = wt s ν := by
  unfold wt
  rw [← EReal.coe_mul]
  congr 1
  show (2:ℝ) ^ (s - μ) * (2:ℝ) ^ (μ - ν) = (2:ℝ) ^ (s - ν)
  rw [← Real.rpow_add (by norm_num)]
  congr 1; ring

theorem add_mul_wt (x y : EReal) (s μ : ℝ) : (x + y) * wt s μ = x * wt s μ + y * wt s μ :=
  EReal.right_distrib_of_nonneg_of_ne_top (wt_nonneg s μ) (wt_ne_top s μ) x y

/-- Rescaling a sum of values against weights changes their reference. -/
theorem sum_rescale (N : ℕ) (v : ℕ → EReal) (s : ℕ → ℝ) (μ ν : ℝ) :
    (∑ n ∈ range N, v n * wt (s n) μ) * wt μ ν = ∑ n ∈ range N, v n * wt (s n) ν := by
  induction N with
  | zero => simp
  | succ N ih => rw [sum_range_succ, add_mul_wt, ih, mul_assoc, wt_mul, sum_range_succ]

theorem sum_rescale_one (N : ℕ) (s : ℕ → ℝ) (μ ν : ℝ) :
    (∑ n ∈ range N, wt (s n) μ) * wt μ ν = ∑ n ∈ range N, wt (s n) ν := by
  simpa using sum_rescale N (fun _ => 1) s μ ν

/-- A sum cut in blocks. -/
theorem sum_blocks {M : Type} [AddCommMonoid M] (a b : ℕ) (f : ℕ → M) :
    ∑ n ∈ range (a * b), f n = ∑ i ∈ range a, ∑ j ∈ range b, f (i * b + j) := by
  induction a with
  | zero => simp
  | succ a ih => rw [Nat.succ_mul, sum_range_add, ih, sum_range_succ]

/-- The carried state of one query: the reference, the sum of the weights, and the values' sums, over the first `N` keys. -/
def Lane (N : ℕ) (s : ℕ → ℝ) (v : Fin 64 → ℕ → EReal) (m l : EReal) (a : Fin 64 → EReal) : Prop :=
  ∃ μ : ℝ, m = μ ∧ l = ∑ n ∈ range N, wt (s n) μ ∧ ∀ d, a d = ∑ n ∈ range N, v d n * wt (s n) μ

theorem Lane.zero (s : ℕ → ℝ) (v : Fin 64 → ℕ → EReal) (μ : ℝ) : Lane 0 s v μ 0 (fun _ => 0) :=
  ⟨μ, rfl, by simp, fun _ => by simp⟩

/-- The reciprocal of a growth `p` is the weight of the old reference against the new one. -/
theorem recip_wt {p : ℝ} (hp : 1 ≤ p) (μ : ℝ) :
    Ideal.div 1 (p : EReal) = wt μ (μ + Real.log p * (Real.log 2)⁻¹) := by
  have h0 : (0:ℝ) < p := by linarith
  have hpe : (p : EReal) ≠ 0 := by exact_mod_cast h0.ne'
  have e : Real.rpow 2 (μ - (μ + Real.log p * (Real.log 2)⁻¹)) = p⁻¹ := by
    show (2:ℝ) ^ (μ - (μ + Real.log p * (Real.log 2)⁻¹)) = p⁻¹
    have h2 : Real.log 2 ≠ 0 := (Real.log_pos (by norm_num)).ne'
    rw [Real.rpow_def_of_pos (by norm_num), show Real.log 2 * (μ - (μ + Real.log p * (Real.log 2)⁻¹)) = -Real.log p by field_simp; ring,
      Real.exp_neg, Real.exp_log h0]
  unfold wt
  rw [e, EReal.coe_inv]
  simp [Ideal.div, hpe]

/-- The main pass on one query: the tile's weights are taken against the old reference, which then grows by `p ≥ 1`. -/
theorem Lane.main {N T : ℕ} {s : ℕ → ℝ} {v : Fin 64 → ℕ → EReal} {m l : EReal} {a : Fin 64 → EReal} (h : Lane N s v m l a)
    {p : ℝ} (hp : 1 ≤ p) {κ : EReal} (hκ : κ = ((Real.log 2)⁻¹ : ℝ)) :
    Lane (N + T) s v (m + Ideal.log (p : EReal) * κ)
      ((l + ∑ j ∈ range T, Ideal.exp2 ((s (N + j) : EReal) - m)) * Ideal.div 1 (p : EReal))
      (fun d => (a d + ∑ j ∈ range T, v d (N + j) * Ideal.exp2 ((s (N + j) : EReal) - m)) * Ideal.div 1 (p : EReal)) := by
  obtain ⟨μ, rfl, rfl, ha⟩ := h
  refine ⟨μ + Real.log p * (Real.log 2)⁻¹, ?_, ?_, fun d => ?_⟩
  · rw [hκ, Ideal.log_coe, if_neg (by linarith)]; norm_cast
  · rw [recip_wt hp μ]
    simp only [exp2_sub]
    rw [← sum_range_add (fun n => wt (s n) μ), sum_rescale_one]
  · simp only [exp2_sub, recip_wt hp μ, ha d]
    rw [← sum_range_add (fun n => v d n * wt (s n) μ), sum_rescale]

/-- The exact pass on one query: the new reference `ν` is any real. -/
theorem Lane.exact {N T : ℕ} {s : ℕ → ℝ} {v : Fin 64 → ℕ → EReal} {m l : EReal} {a : Fin 64 → EReal} (h : Lane N s v m l a) (ν : ℝ) :
    Lane (N + T) s v (ν : EReal)
      (l * Ideal.exp2 (m - ν) + ∑ j ∈ range T, Ideal.exp2 ((s (N + j) : EReal) - ν))
      (fun d => a d * Ideal.exp2 (m - ν) + ∑ j ∈ range T, v d (N + j) * Ideal.exp2 ((s (N + j) : EReal) - ν)) := by
  obtain ⟨μ, rfl, rfl, ha⟩ := h
  refine ⟨ν, rfl, ?_, fun d => ?_⟩
  · simp only [exp2_sub]
    rw [sum_rescale_one, ← sum_range_add (fun n => wt (s n) ν)]
  · simp only [exp2_sub, ha d]
    rw [sum_rescale, ← sum_range_add (fun n => v d n * wt (s n) ν)]

theorem Lane.real {N : ℕ} {s : ℕ → ℝ} {v : Fin 64 → ℕ → EReal} {m l : EReal} {a : Fin 64 → EReal} (h : Lane N s v m l a) : ∃ μ : ℝ, m = μ :=
  let ⟨μ, e, _⟩ := h; ⟨μ, e⟩

theorem real_of {x : EReal} (h : ⊥ < x) (h' : x < ⊤) : ∃ r : ℝ, x = r := by
  induction x using EReal.rec with
  | bot => exact absurd h (lt_irrefl _)
  | top => exact absurd h' (lt_irrefl _)
  | coe r => exact ⟨r, rfl⟩

end Cert.KernelIdeal.Stream
end
-- ==== Proof.Stream.Head.lean ====
/- One head's tile functions over the extended reals, read at a query: the main pass and the exact pass both carry a query's
   running softmax (`Lane`) from the keys before the tile to the keys up to its end. -/
module

public import proofs.«01_k».proof.Proof.Stream.Trip
public import proofs.«01_k».proof.Proof.Stream.Lane

@[expose] public section

set_option maxRecDepth 16384
set_option maxHeartbeats 1000000

noncomputable section

namespace Cert.KernelIdeal.Stream

open Cert.KernelIdeal Cert.KernelIdeal.Gen Cert.KernelIdeal.Body

open Idealize.ShloMosaic

theorem neg_inf32 : Ideal.ofBits .f32 0xFF800000#32 = ⊥ := by simp [Ideal.ofBits, Ideal.ieee]
theorem neg_inf16 : Ideal.ofBits .bf16 0xFF80#16 = ⊥ := by simp [Ideal.ofBits, Ideal.ieee]

/-! ## The main pass's functions at an index -/

theorem scores_at (q : Vec Ideal S1x1x128x512 .bf16) (k : Vec Ideal S1x1x256x128 .bf16) (r : Fin 256) (x : Fin 512) :
    scores q k (ix2 r x) = ∑ d : Fin 128, k (ix4 0 0 r d) * q (ix4 0 0 d x) := by
  pointwise [scores]

theorem weights_at (q : Vec Ideal S1x1x128x512 .bf16) (k : Vec Ideal S1x1x256x128 .bf16) (m : Vec Ideal S1x1x1x512 .f32) (a : Fin 32) (b : Fin 8) (x : Fin 512) :
    weights q k m (ix3 a b x) = Ideal.exp2 (scores q k (ix2 ⟨a.val * 8 + b.val, by omega⟩ x) - m (ix4 0 0 0 x)) := by
  pointwise [weights]
  rfl

theorem weightsM_at (q : Vec Ideal S1x1x128x512 .bf16) (k : Vec Ideal S1x1x256x128 .bf16) (m : Vec Ideal S1x1x1x512 .f32) (r : Fin 256) (x : Fin 512) :
    weightsM q k m (ix2 r x) = weights q k m (ix3 ⟨r.val / 8, by omega⟩ ⟨r.val % 8, by omega⟩ x) := by
  pointwise [weightsM]

theorem partL_at (q : Vec Ideal S1x1x128x512 .bf16) (k : Vec Ideal S1x1x256x128 .bf16) (m : Vec Ideal S1x1x1x512 .f32) (b : Fin 8) (x : Fin 512) :
    partL q m k (ix2 b x) = ∑ a : Fin 32, weights q k m (ix3 a b x) := by
  pointwise [partL]

theorem partV_at (q : Vec Ideal S1x1x128x512 .bf16) (m : Vec Ideal S1x1x1x512 .f32) (k : Vec Ideal S1x1x256x128 .bf16) (v : Vec Ideal S1x1x64x256 .bf16) (d : Fin 64) (x : Fin 512) :
    partV q m (k, v) (ix2 d x) = ∑ r : Fin 256, v (ix4 0 0 d r) * weightsM q k m (ix2 r x) := by
  pointwise [partV]

theorem newL_at (q : Vec Ideal S1x1x128x512 .bf16) (k : Fin 13 → Vec Ideal S1x1x256x128 .bf16) (m l : Vec Ideal S1x1x1x512 .f32) (x : Fin 512) :
    newL q k m l (ix4 0 0 0 x) = (l (ix4 0 0 0 x) + ∑ b : Fin 8, sumL q k m (ix2 b x)) * rescale q k m (ix2 0 x) := by
  pointwise [newL]

theorem newA_at (q : Vec Ideal S1x1x128x512 .bf16) (k : Fin 13 → Vec Ideal S1x1x256x128 .bf16) (v : Fin 13 → Vec Ideal S1x1x64x256 .bf16) (m : Vec Ideal S1x1x1x512 .f32) (a : Vec Ideal S1x1x64x512 .f32) (d : Fin 64) (x : Fin 512) :
    newA q k v m a (ix4 0 0 d x) = (a (ix4 0 0 d x) + sumV q k v m (ix3 0 d x)) * rescale q k m (ix2 0 x) := by
  pointwise [newA]

theorem newM_at (q : Vec Ideal S1x1x128x512 .bf16) (k : Fin 13 → Vec Ideal S1x1x256x128 .bf16) (m : Vec Ideal S1x1x1x512 .f32) (x : Fin 512) :
    newM q k m (ix4 0 0 0 x) = m (ix4 0 0 0 x) + Ideal.log (peak q k m (ix2 0 x)) * Named.named (F := Ideal) (φ := .f32) κ "inv_ln2" 0x3FB8AA3B#32 := by
  pointwise [newM]

theorem rescale_at (q : Vec Ideal S1x1x128x512 .bf16) (k : Fin 13 → Vec Ideal S1x1x256x128 .bf16) (m : Vec Ideal S1x1x1x512 .f32) (x : Fin 512) :
    rescale q k m (ix2 0 x) = Ideal.div 1 (peak q k m (ix2 0 x)) := by
  pointwise [rescale]

theorem peak_at (q : Vec Ideal S1x1x128x512 .bf16) (k : Fin 13 → Vec Ideal S1x1x256x128 .bf16) (m : Vec Ideal S1x1x1x512 .f32) (x : Fin 512) :
    peak q k m (ix2 0 x) = max (Finset.univ.fold max ⊥ fun b : Fin 16 => maxM q k m (ix2 b x)) 1 := by
  pointwise [peak]
  rw [neg_inf32]

theorem partM_at (q : Vec Ideal S1x1x128x512 .bf16) (k : Vec Ideal S1x1x256x128 .bf16) (m : Vec Ideal S1x1x1x512 .f32) (b : Fin 16) (x : Fin 512) :
    partM q m k (ix2 b x) = Finset.univ.fold max ⊥ fun a : Fin 16 => weightsM q k m (ix2 ⟨a.val * 16 + b.val, by omega⟩ x) := by
  pointwise [partM]
  rw [neg_inf16]

/-! ## The thirteen chunks -/

theorem chain_sum {α β : Type} (first : β → α) (next : α → β → α) (x : Fin 13 → β) (e : α → EReal) (φ : β → EReal) (f : ℕ → EReal)
    (h0 : ∀ b, e (first b) = φ b) (hs : ∀ a b, e (next a b) = e a + φ b) (hf : ∀ c : Fin 13, φ (x c) = f c.val) :
    ∀ (n : ℕ) (h : n < 13), e (chain first next x n h) = ∑ c ∈ Finset.range (n + 1), f c
  | 0, h => by rw [chain, h0, hf ⟨0, h⟩]; simp
  | n + 1, h => by rw [chain, hs, chain_sum first next x e φ f h0 hs hf n (by omega), hf ⟨n + 1, h⟩, Finset.sum_range_succ _ (n + 1)]

theorem chain_lt {α β : Type} (first : β → α) (next : α → β → α) (x : Fin 13 → β) (e : α → EReal) (φ : β → EReal)
    (h0 : ∀ b, e (first b) = φ b) (hs : ∀ a b, e (next a b) = max (e a) (φ b)) (hf : ∀ c : Fin 13, φ (x c) < ⊤) :
    ∀ (n : ℕ) (h : n < 13), e (chain first next x n h) < ⊤
  | 0, h => by rw [chain, h0]; exact hf _
  | n + 1, h => by rw [chain, hs]; exact max_lt (chain_lt first next x e φ h0 hs hf n (by omega)) (hf _)

section Head

variable {q : Vec Ideal S1x1x128x512 .bf16} {k : Fin 13 → Vec Ideal S1x1x256x128 .bf16} {v : Fin 13 → Vec Ideal S1x1x64x256 .bf16}
  {m l : Vec Ideal S1x1x1x512 .f32} {a : Vec Ideal S1x1x64x512 .f32}

/-- The tile's scores and values, key by key: key `256 c + r` of the tile is row `r` of chunk `c`. -/
def TileScores (q : Vec Ideal S1x1x128x512 .bf16) (k : Fin 13 → Vec Ideal S1x1x256x128 .bf16) (x : Fin 512) (s : ℕ → ℝ) : Prop :=
  ∀ (c : Fin 13) (r : Fin 256), scores q (k c) (ix2 r x) = (s (c.val * 256 + r.val) : EReal)
def TileValues (v : Fin 13 → Vec Ideal S1x1x64x256 .bf16) (u : Fin 64 → ℕ → EReal) : Prop :=
  ∀ (c : Fin 13) (d : Fin 64) (r : Fin 256), v c (ix4 0 0 d r) = u d (c.val * 256 + r.val)

theorem weightsM_tile {x : Fin 512} {s : ℕ → ℝ} (hs : TileScores q k x s) (c : Fin 13) (r : Fin 256) :
    weightsM q (k c) m (ix2 r x) = Ideal.exp2 ((s (c.val * 256 + r.val) : EReal) - m (ix4 0 0 0 x)) := by
  rw [weightsM_at, weights_at]
  have e : (⟨(⟨r.val / 8, by omega⟩ : Fin 32).val * 8 + (⟨r.val % 8, by omega⟩ : Fin 8).val, by dsimp only; omega⟩ : Fin 256) = r := Fin.ext (by dsimp only; omega)
  rw [e, hs]

theorem sumL_tile {x : Fin 512} {s : ℕ → ℝ} (hs : TileScores q k x s) :
    ∑ b : Fin 8, sumL q k m (ix2 b x) = ∑ j ∈ Finset.range 3328, Ideal.exp2 ((s j : EReal) - m (ix4 0 0 0 x)) := by
  have e : ∀ b : Fin 8, sumL q k m (ix2 b x)
      = ∑ c ∈ Finset.range 13, ∑ a ∈ Finset.range 32, Ideal.exp2 ((s (c * 256 + (a * 8 + b.val)) : EReal) - m (ix4 0 0 0 x)) := fun b =>
    chain_sum _ _ k (fun y : FVec Ideal S8x512 .f32 => y (ix2 b x)) (fun kc => partL q m kc (ix2 b x))
      (fun c => ∑ a ∈ Finset.range 32, Ideal.exp2 ((s (c * 256 + (a * 8 + b.val)) : EReal) - m (ix4 0 0 0 x))) (fun _ => rfl) (fun _ _ => rfl) (fun c => by
      rw [partL_at, Finset.sum_range]
      refine Finset.sum_congr rfl fun a _ => ?_
      rw [weights_at, hs c]) 12 (by decide)
  rw [Finset.sum_congr rfl fun b _ => e b,
    show (3328 : ℕ) = 13 * 256 from rfl, sum_blocks, Finset.sum_comm]
  refine Finset.sum_congr rfl fun c _ => ?_
  rw [show (256 : ℕ) = 32 * 8 from rfl, sum_blocks 32 8, Finset.sum_comm]
  refine Finset.sum_congr rfl fun a _ => ?_
  rw [Finset.sum_range]

theorem sumV_tile {x : Fin 512} {s : ℕ → ℝ} {u : Fin 64 → ℕ → EReal} (hs : TileScores q k x s) (hv : TileValues v u) (d : Fin 64) :
    sumV q k v m (ix3 0 d x) = ∑ j ∈ Finset.range 3328, u d j * Ideal.exp2 ((s j : EReal) - m (ix4 0 0 0 x)) := by
  rw [show (3328 : ℕ) = 13 * 256 from rfl, sum_blocks]
  exact chain_sum _ _ (fun c => (k c, v c)) (fun y : Vec Ideal S1x64x512 .f32 => y (ix3 0 d x)) (fun kv => partV q m kv (ix2 d x))
    (fun c => ∑ r ∈ Finset.range 256, u d (c * 256 + r) * Ideal.exp2 ((s (c * 256 + r) : EReal) - m (ix4 0 0 0 x)))
    (fun b => by pointwise) (fun a b => by pointwise)
    (fun c => by
      rw [partV_at, Finset.sum_range]
      refine Finset.sum_congr rfl fun r _ => ?_
      rw [weightsM_tile hs, hv]) 12 (by decide)

theorem peak_tile {x : Fin 512} {s : ℕ → ℝ} (hs : TileScores q k x s) {μ : ℝ} (hm : m (ix4 0 0 0 x) = μ) :
    ∃ p : ℝ, 1 ≤ p ∧ peak q k m (ix2 0 x) = p := by
  have hlt : peak q k m (ix2 0 x) < ⊤ := by
    rw [peak_at]
    refine max_lt ((Finset.fold_max_lt _).2 ⟨bot_lt_top, fun b _ => ?_⟩) (EReal.coe_lt_top 1)
    refine chain_lt _ _ k (fun y : FVec Ideal S16x512 .bf16 => y (ix2 b x)) (fun kc => partM q m kc (ix2 b x)) ?_ ?_ (fun c => ?_) 12 (by decide)
    · intro b; rfl
    · intro a b; pointwise
    rw [partM_at]
    refine (Finset.fold_max_lt _).2 ⟨bot_lt_top, fun a _ => ?_⟩
    rw [weightsM_tile hs, hm, exp2_sub]
    exact EReal.coe_lt_top _
  have h1 : (1 : EReal) ≤ peak q k m (ix2 0 x) := by rw [peak_at]; exact le_max_right _ _
  obtain ⟨p, hp⟩ := real_of (lt_of_lt_of_le (EReal.bot_lt_coe 1) h1) hlt
  refine ⟨p, ?_, hp⟩
  rw [hp] at h1
  exact_mod_cast h1

/-- THE MAIN PASS ON ONE QUERY of a head. -/
theorem main_head {N : ℕ} {x : Fin 512} {s : ℕ → ℝ} {u : Fin 64 → ℕ → EReal} (hs : TileScores q k x fun j => s (N + j)) (hv : TileValues v fun d j => u d (N + j))
    (h : Lane N s u (m (ix4 0 0 0 x)) (l (ix4 0 0 0 x)) (fun d => a (ix4 0 0 d x))) :
    Lane (N + 3328) s u (newM q k m (ix4 0 0 0 x)) (newL q k m l (ix4 0 0 0 x)) (fun d => newA q k v m a (ix4 0 0 d x)) := by
  obtain ⟨μ, hm⟩ := h.real
  obtain ⟨p, hp, e⟩ := peak_tile hs hm
  have := h.main (T := 3328) hp (κ := Named.named (F := Ideal) (φ := .f32) κ "inv_ln2" 0x3FB8AA3B#32) (IdealRules.named_const.ideal_named_scalar _ _ _ _ rfl)
  simpa only [newM_at, newL_at, newA_at, rescale_at, e, sumL_tile hs, sumV_tile hs hv] using this

end Head

end Cert.KernelIdeal.Stream
end
-- ==== Proof.Stream.Again.lean ====
/- One head's exact pass over the extended reals, read at a query, with the first references and the result's quotient. -/
module

public import proofs.«01_k».proof.Proof.Stream.Head

@[expose] public section

set_option maxRecDepth 16384
set_option maxHeartbeats 1000000

noncomputable section

namespace Cert.KernelIdeal.Stream

open Cert.KernelIdeal Cert.KernelIdeal.Gen Cert.KernelIdeal.Body

open Idealize.ShloMosaic

/-! ## The exact pass's functions at an index -/

theorem top_at (q : Vec Ideal S1x1x128x512 .bf16) (k : Vec Ideal S1x1x256x128 .bf16) (m : FVec Ideal S1x512 .f32) (x : Fin 512) :
    k0_pay17 (k0_pay15 q) m k (ix2 0 x) = max (m (ix2 0 x)) (Finset.univ.fold max ⊥ fun r : Fin 256 => scores q k (ix2 r x)) := by
  pointwise [k0_pay17, k0_pay15, scores]
  rw [neg_inf32]

theorem wts_at (q : Vec Ideal S1x1x128x512 .bf16) (k : Vec Ideal S1x1x256x128 .bf16) (m : FVec Ideal S1x512 .f32) (r : Fin 256) (x : Fin 512) :
    k0_pay20 (k0_pay15 q) m k (ix2 r x) = Ideal.exp2 (scores q k (ix2 r x) - m (ix2 0 x)) := by
  pointwise [k0_pay20, k0_pay15, scores]
  rfl

theorem sumA_at (q : Vec Ideal S1x1x128x512 .bf16) (k : Vec Ideal S1x1x256x128 .bf16) (v : Vec Ideal S1x1x64x256 .bf16) (m : FVec Ideal S1x512 .f32)
    (p : FVec Ideal S64x512 .f32) (d : Fin 64) (x : Fin 512) :
    k0_pay21 (k0_pay15 q) m p k v (ix2 d x) = p (ix2 d x) + ∑ r : Fin 256, v (ix4 0 0 d r) * k0_pay20 (k0_pay15 q) m k (ix2 r x) := by
  pointwise [k0_pay21]

theorem sumW_at (q : Vec Ideal S1x1x128x512 .bf16) (k : Vec Ideal S1x1x256x128 .bf16) (m p : FVec Ideal S1x512 .f32) (x : Fin 512) :
    k0_pay22 (k0_pay15 q) m p k (ix2 0 x) = p (ix2 0 x) + ∑ r : Fin 256, k0_pay20 (k0_pay15 q) m k (ix2 r x) := by
  pointwise [k0_pay22]

theorem carA_at (m : Vec Ideal S1x1x1x512 .f32) (M : FVec Ideal S1x512 .f32) (p : FVec Ideal S64x512 .f32) (a : Vec Ideal S1x1x64x512 .f32) (d : Fin 64) (x : Fin 512) :
    k0_pay25 m M p a (ix4 0 0 d x) = a (ix4 0 0 d x) * Ideal.exp2 (m (ix4 0 0 0 x) - M (ix2 0 x)) + p (ix2 d x) := by
  pointwise [k0_pay25, k0_pay23, k0_pay16]
  rfl

theorem carL_at (m : Vec Ideal S1x1x1x512 .f32) (M p : FVec Ideal S1x512 .f32) (l : Vec Ideal S1x1x1x512 .f32) (x : Fin 512) :
    k0_pay4 (k0_pay26 m M p l) (ix4 0 0 0 x) = l (ix4 0 0 0 x) * Ideal.exp2 (m (ix4 0 0 0 x) - M (ix2 0 x)) + p (ix2 0 x) := by
  pointwise [k0_pay4, k0_pay26, k0_pay23, k0_pay16]
  rfl

theorem ref_at (m : Vec Ideal S1x1x1x512 .f32) (x : Fin 512) : k0_pay16 m (ix2 0 x) = m (ix4 0 0 0 x) := by
  pointwise [k0_pay16]

theorem put_at (M : FVec Ideal S1x512 .f32) (x : Fin 512) : k0_pay24 M (ix4 0 0 0 x) = M (ix2 0 x) := by
  pointwise [k0_pay24]

theorem zeroA_at (d : Fin 64) (x : Fin 512) : (k0_pay18 : FVec Ideal S64x512 .f32) (ix2 d x) = 0 := by
  pointwise [k0_pay18]

theorem zeroL_at (x : Fin 512) : (k0_pay19 : FVec Ideal S1x512 .f32) (ix2 0 x) = 0 := by
  pointwise [k0_pay19]

/-- The result's quotient. -/
theorem outA_at (a : Vec Ideal S1x1x64x512 .f32) (l : Vec Ideal S1x1x1x512 .f32) (d : Fin 64) (x : Fin 512) :
    outA a l (ix4 0 0 d x) = Ideal.div (a (ix4 0 0 d x)) (l (ix4 0 0 0 x)) := by
  pointwise [outA]

section Head

variable {q : Vec Ideal S1x1x128x512 .bf16} {k : Fin 13 → Vec Ideal S1x1x256x128 .bf16} {v : Fin 13 → Vec Ideal S1x1x64x256 .bf16}
  {m l : Vec Ideal S1x1x1x512 .f32} {a : Vec Ideal S1x1x64x512 .f32}

theorem topM_real {x : Fin 512} {s : ℕ → ℝ} (hs : TileScores q k x s) {m : FVec Ideal S1x512 .f32} {μ : ℝ} (hm : m (ix2 0 x) = μ) :
    ∀ n, ∃ ν : ℝ, topM (k0_pay15 q) k m n (ix2 0 x) = ν
  | 0 => ⟨μ, hm⟩
  | n + 1 => by
    obtain ⟨ν, e⟩ := topM_real hs hm n
    unfold topM
    by_cases h : n < 13
    · rw [dif_pos h, top_at, e]
      refine real_of (lt_of_lt_of_le (EReal.bot_lt_coe ν) (le_max_left _ _)) (max_lt (EReal.coe_lt_top ν) ((Finset.fold_max_lt _).2 ⟨bot_lt_top, fun r _ => ?_⟩))
      rw [hs]; exact EReal.coe_lt_top _
    · rw [dif_neg h]; exact ⟨ν, e⟩

theorem exactS_L {x : Fin 512} {s : ℕ → ℝ} (hs : TileScores q k x s) (M : FVec Ideal S1x512 .f32) :
    ∀ n, n ≤ 13 → (exactS (k0_pay15 q) k v M n).2 (ix2 0 x) = ∑ j ∈ Finset.range (n * 256), Ideal.exp2 ((s j : EReal) - M (ix2 0 x))
  | 0, _ => by rw [Nat.zero_mul]; exact zeroL_at x
  | n + 1, h => by
    unfold exactS
    rw [dif_pos (show n < 13 by omega)]
    dsimp only
    rw [sumW_at, exactS_L hs M n (by omega), Nat.succ_mul, Finset.sum_range_add, Finset.sum_range (n := 256)]
    refine congrArg _ (Finset.sum_congr rfl fun r _ => ?_)
    rw [wts_at, hs]

theorem exactS_A {x : Fin 512} {s : ℕ → ℝ} {u : Fin 64 → ℕ → EReal} (hs : TileScores q k x s) (hv : TileValues v u) (M : FVec Ideal S1x512 .f32) (d : Fin 64) :
    ∀ n, n ≤ 13 → (exactS (k0_pay15 q) k v M n).1 (ix2 d x) = ∑ j ∈ Finset.range (n * 256), u d j * Ideal.exp2 ((s j : EReal) - M (ix2 0 x))
  | 0, _ => by rw [Nat.zero_mul]; exact zeroA_at d x
  | n + 1, h => by
    unfold exactS
    rw [dif_pos (show n < 13 by omega)]
    dsimp only
    rw [sumA_at, exactS_A hs hv M d n (by omega), Nat.succ_mul, Finset.sum_range_add, Finset.sum_range (n := 256)]
    refine congrArg _ (Finset.sum_congr rfl fun r _ => ?_)
    rw [wts_at, hs, hv]

/-- THE EXACT PASS ON ONE QUERY of a head. -/
theorem redo_head {N : ℕ} {x : Fin 512} {s : ℕ → ℝ} {u : Fin 64 → ℕ → EReal} (hs : TileScores q k x fun j => s (N + j)) (hv : TileValues v fun d j => u d (N + j))
    (h : Lane N s u (m (ix4 0 0 0 x)) (l (ix4 0 0 0 x)) (fun d => a (ix4 0 0 d x))) :
    Lane (N + 3328) s u (k0_pay24 (redoM q k m) (ix4 0 0 0 x)) (redoL q k v m l (ix4 0 0 0 x)) (fun d => redoA q k v m a (ix4 0 0 d x)) := by
  obtain ⟨μ, hm⟩ := h.real
  obtain ⟨ν, e⟩ := topM_real hs (m := k0_pay16 m) (μ := μ) (by rw [ref_at, hm]) 13
  have e' : redoM q k m (ix2 0 x) = ν := e
  have := h.exact (T := 3328) ν
  rw [put_at, e']
  have eL : redoL q k v m l (ix4 0 0 0 x) = l (ix4 0 0 0 x) * Ideal.exp2 (m (ix4 0 0 0 x) - ν) + ∑ j ∈ Finset.range 3328, Ideal.exp2 ((s (N + j) : EReal) - ν) := by
    unfold redoL
    rw [carL_at, exactS_L hs _ 13 (by decide), e']
  have eA : (fun d => redoA q k v m a (ix4 0 0 d x)) = fun d => a (ix4 0 0 d x) * Ideal.exp2 (m (ix4 0 0 0 x) - ν) + ∑ j ∈ Finset.range 3328, u d (N + j) * Ideal.exp2 ((s (N + j) : EReal) - ν) := by
    funext d
    unfold redoA
    rw [carA_at, exactS_A hs hv _ d 13 (by decide), e']
  rw [eL, eA]
  exact this

end Head

/-! ## The first references -/

/-- The largest of sixteen scores. -/
def firstV {F : FTy → Type} [FloatOps F] [Named F] (q : Vec F S1x1x128x512 .bf16) (k : Vec F S1x1x16x128 .bf16) : Vec F S1x1x1x512 .f32 :=
  shapeCast S1x1x1x512 (shapeCast S1x512 (multiReduction .maximumf [0] S512
    (matmul dot_S16x128_S128x512_S16x512_1_0_0_1_n_n none (shapeCast S16x128 k shapeCasts_S1x1x16x128_S16x128)
      (shapeCast S128x512 q shapeCasts_S1x1x128x512_S128x512) (constant S16x512 .f32 0x00000000#32))
    0xFF800000#32 reduces_S16x512_S512 (.inl rfl) rfl) shapeCasts_S512_S1x512) shapeCasts_S1x512_S1x1x1x512

theorem firstV_at (q : Vec Ideal S1x1x128x512 .bf16) (k : Vec Ideal S1x1x16x128 .bf16) (x : Fin 512) :
    firstV q k (ix4 0 0 0 x) = Finset.univ.fold max ⊥ fun r : Fin 16 => ∑ d : Fin 128, k (ix4 0 0 r d) * q (ix4 0 0 d x) := by
  pointwise [firstV]
  rw [neg_inf32]

theorem firstV_real {q : Vec Ideal S1x1x128x512 .bf16} {k : Vec Ideal S1x1x16x128 .bf16} {x : Fin 512} {s : ℕ → ℝ}
    (hs : ∀ r : Fin 16, ∑ d : Fin 128, k (ix4 0 0 r d) * q (ix4 0 0 d x) = (s r.val : EReal)) : ∃ μ : ℝ, firstV q k (ix4 0 0 0 x) = μ := by
  rw [firstV_at]
  refine real_of ((Finset.lt_fold_max _).2 (.inr ⟨0, Finset.mem_univ _, ?_⟩)) ((Finset.fold_max_lt _).2 ⟨bot_lt_top, fun r _ => ?_⟩)
  · rw [hs]; exact EReal.bot_lt_coe _
  · rw [hs]; exact EReal.coe_lt_top _

end Cert.KernelIdeal.Stream
end
-- ==== Proof.Stream.Reads.lean ====
/- The carried buffers read at an index: what the main pass and the exact pass leave, as each query's running softmax. -/
module

public import proofs.«01_k».proof.Proof.Stream.Again
public import proofs.«01_k».proof.Proof.Stream.Lists

@[expose] public section

set_option maxRecDepth 16384
set_option maxHeartbeats 1000000

noncomputable section

namespace Cert.KernelIdeal.Stream

open Cert.KernelIdeal Cert.KernelIdeal.Gen Cert.KernelIdeal.Body

open Idealize.ShloMosaic

/-! ## The loads at an index -/

section Loads

variable (c : Dev nD) (i : grid0.Coords) (arg3 : Memref sig .tc .vmem S1x8x128x512 .bf16) (harg3 : arg3.IsWhole) (arg4 : Memref sig .tc .vmem S1x8x3328x128 .bf16) (harg4 : arg4.IsWhole) (arg5 : Memref sig .tc .vmem S1x8x64x3328 .bf16) (harg5 : arg5.IsWhole) (arg6 : Memref sig .tc .vmem S1x8x64x512 .bf16) (harg6 : arg6.IsWhole) (arg7 : Memref sig .tc .vmem S2x8x1x512 .f32) (harg7 : arg7.IsWhole) (arg8 : Memref sig .tc .vmem S2x8x72x512 .f32) (harg8 : arg8.IsWhole) (arg9 : Memref sig .tc .vmem S8x64x512 .f32) (harg9 : arg9.IsWhole)
  (f3 : Bf (F := Ideal) c arg3) (f4 : Bf (F := Ideal) c arg4) (f5 : Bf (F := Ideal) c arg5) (f7 : Bf (F := Ideal) c arg7) (f8 : Bf (F := Ideal) c arg8) (f9 : Bf (F := Ideal) c arg9)

/-- The slot point `i` reads and the one it writes. -/
def cur : Fin 2 := ⟨(i 2).val % 2, by omega⟩
def nxt : Fin 2 := ⟨1 - (i 2).val % 2, by omega⟩

theorem offC_eq (g r : ℕ) : offC i g r = ![(cur i).val, g, r, 0] := by rw [offC, curW_toNat]; rfl
theorem offN_eq (g r : ℕ) : offN i g r = ![(nxt i).val, g, r, 0] := by rw [offN, nxtW_toNat]; rfl
theorem atC (y x : Fin 4 → ℕ) (g r : ℕ) (h : ∀ a, y a = (![(cur i).val, g, r, 0] : Fin 4 → ℕ) a + x a) : ∀ a, y a = offC i g r a + x a := by rw [offC_eq]; exact h
theorem atN (y x : Fin 4 → ℕ) (g r : ℕ) (h : ∀ a, y a = (![(nxt i).val, g, r, 0] : Fin 4 → ℕ) a + x a) : ∀ a, y a = offN i g r a + x a := by rw [offN_eq]; exact h
theorem nxt_ne : (nxt i).val ≠ (cur i).val := by
  show 1 - (i 2).val % 2 ≠ (i 2).val % 2
  omega

theorem qOf_at (g : Fin 8) (d : Fin 128) (x : Fin 512) : qOf c arg3 f3 g (ix4 0 0 d x) = arg3.view.read (Elt Ideal) f3 (ix4 0 g d x) :=
  readAt_at arg3.view f3 (inbQ g) _ _ fun a => by fin_cases a <;> simp [ix4]
theorem kOf_at (g : Fin 8) (n : Fin 13) (r : Fin 256) (d : Fin 128) :
    kOf c arg4 f4 g n (ix4 0 0 r d) = arg4.view.read (Elt Ideal) f4 (ix4 0 g ⟨n.val * 256 + r.val, by omega⟩ d) :=
  readAt_at arg4.view f4 (inbK g n) _ _ fun a => by fin_cases a <;> simp [ix4, Nat.mul_comm]
theorem vOf_at (g : Fin 8) (n : Fin 13) (d : Fin 64) (r : Fin 256) :
    vOf c arg5 f5 g n (ix4 0 0 d r) = arg5.view.read (Elt Ideal) f5 (ix4 0 g d ⟨n.val * 256 + r.val, by omega⟩) :=
  readAt_at arg5.view f5 (inbV g n) _ _ fun a => by fin_cases a <;> simp [ix4, Nat.mul_comm]

theorem mOf_at (g : Fin 8) (x : Fin 512) : mOf c i arg7 f7 g (ix4 0 0 0 x) = arg7.view.read (Elt Ideal) f7 (ix4 (cur i) g 0 x) :=
  readAt_at arg7.view f7 (inbMC i g) _ _ (atC i _ _ _ _ fun a => by fin_cases a <;> simp [ix4])
theorem lOf_at (g : Fin 8) (x : Fin 512) : lOf c i arg8 f8 g (ix4 0 0 0 x) = arg8.view.read (Elt Ideal) f8 (ix4 (cur i) g 64 x) :=
  readAt_at arg8.view f8 (inbLC i g) _ _ (atC i _ _ _ _ fun a => by fin_cases a <;> simp [ix4])
theorem aOf_at (g : Fin 8) (d : Fin 64) (x : Fin 512) : aOf c i arg8 f8 g (ix4 0 0 d x) = arg8.view.read (Elt Ideal) f8 (ix4 (cur i) g ⟨d.val, by omega⟩ x) :=
  readAt_at arg8.view f8 (inbAC i g) _ _ (atC i _ _ _ _ fun a => by fin_cases a <;> simp [ix4])
theorem lNew_at (g : Fin 8) (x : Fin 512) : lNew c i arg8 f8 g (ix4 0 0 0 x) = arg8.view.read (Elt Ideal) f8 (ix4 (nxt i) g 64 x) :=
  readAt_at arg8.view f8 (inbLN i g) _ _ (atN i _ _ _ _ fun a => by fin_cases a <;> simp [ix4])
theorem aNew_at (g : Fin 8) (d : Fin 64) (x : Fin 512) : aNew c i arg8 f8 g (ix4 0 0 d x) = arg8.view.read (Elt Ideal) f8 (ix4 (nxt i) g ⟨d.val, by omega⟩ x) :=
  readAt_at arg8.view f8 (inbAN i g) _ _ (atN i _ _ _ _ fun a => by fin_cases a <;> simp [ix4])

/-- Slot `z` carries the running softmax of query `x` of head `g` over the first `N` keys. -/
def LaneIn (z : Fin 2) (g : Fin 8) (x : Fin 512) (N : ℕ) (s : ℕ → ℝ) (u : Fin 64 → ℕ → EReal) : Prop :=
  Lane N s u (arg7.view.read (Elt Ideal) f7 (ix4 z g 0 x)) (arg8.view.read (Elt Ideal) f8 (ix4 z g 64 x))
    (fun d => arg8.view.read (Elt Ideal) f8 (ix4 z g ⟨d.val, by omega⟩ x))

theorem LaneIn.of (g : Fin 8) (x : Fin 512) {N : ℕ} {s : ℕ → ℝ} {u : Fin 64 → ℕ → EReal} (h : LaneIn c arg7 arg8 f7 f8 (cur i) g x N s u) :
    Lane N s u (mOf c i arg7 f7 g (ix4 0 0 0 x)) (lOf c i arg8 f8 g (ix4 0 0 0 x)) (fun d => aOf c i arg8 f8 g (ix4 0 0 d x)) := by
  simp only [mOf_at, lOf_at, aOf_at]
  exact h

/-! ## The main pass -/

/-- The main pass carries every query from the slot read to the slot written. -/
theorem main_lane {N : ℕ} {s : ℕ → ℝ} {u : Fin 64 → ℕ → EReal} (g : Fin 8) (x : Fin 512)
    (hs : TileScores (qOf c arg3 f3 g) (kOf c arg4 f4 g) x fun j => s (N + j)) (hv : TileValues (vOf c arg5 f5 g) fun d j => u d (N + j))
    (h : LaneIn c arg7 arg8 (start7 c i arg3 arg4 arg7 f3 f4 f7) (start8 c i arg8 f8) (cur i) g x N s u) :
    LaneIn c arg7 arg8 (arg7.view.writes (Elt Ideal) (start7 c i arg3 arg4 arg7 f3 f4 f7) (mainM c i arg3 arg4 arg7 f3 f4 f7))
      (arg8.view.writes (Elt Ideal) (start8 c i arg8 f8) (mainS c i arg3 arg4 arg5 arg7 arg8 f3 f4 f5 f7 f8)) (nxt i) g x (N + 3328) s u := by
  have key := main_head hs hv (h.of c i arg7 arg8 _ _ g x)
  have e7 := read_map_mem arg7.view (start7 c i arg3 arg4 arg7 f3 f4 f7) (fun g => offN i g.val 0) (inbMN i)
    (fun g => newM (qOf c arg3 f3 g) (kOf c arg4 f4 g) (mOf c i arg7 (start7 c i arg3 arg4 arg7 f3 f4 f7) g))
    (ix4 (nxt i) g 0 x) g (ix4 0 0 0 x) (atN i _ _ _ _ fun a => by fin_cases a <;> simp [ix4]) 1
    (fun h hh => by rw [offN_eq]; have : h.val ≠ g.val := fun e => hh (Fin.ext e); simp [ix4]; omega) _ (all_heads g)
  have eL := read_two_fst arg8.view (start8 c i arg8 f8) (fun g => offN i g.val 64) (inbLN i)
    (fun g => newL (qOf c arg3 f3 g) (kOf c arg4 f4 g) (mOf c i arg7 (start7 c i arg3 arg4 arg7 f3 f4 f7) g) (lOf c i arg8 (start8 c i arg8 f8) g))
    (fun g => offN i g.val 0) (inbAN i)
    (fun g => newA (qOf c arg3 f3 g) (kOf c arg4 f4 g) (vOf c arg5 f5 g) (mOf c i arg7 (start7 c i arg3 arg4 arg7 f3 f4 f7) g) (aOf c i arg8 (start8 c i arg8 f8) g))
    (ix4 (nxt i) g 64 x) g (ix4 0 0 0 x) (atN i _ _ _ _ fun a => by fin_cases a <;> simp [ix4]) 1
    (fun h hh => by rw [offN_eq]; have : h.val ≠ g.val := fun e => hh (Fin.ext e); simp [ix4]; omega)
    (fun h hh => by rw [offN_eq]; have : h.val ≠ g.val := fun e => hh (Fin.ext e); simp [ix4]; omega) _ (all_heads g)
  have eA := fun d : Fin 64 => read_two_snd arg8.view (start8 c i arg8 f8) (fun g => offN i g.val 64) (inbLN i)
    (fun g => newL (qOf c arg3 f3 g) (kOf c arg4 f4 g) (mOf c i arg7 (start7 c i arg3 arg4 arg7 f3 f4 f7) g) (lOf c i arg8 (start8 c i arg8 f8) g))
    (fun g => offN i g.val 0) (inbAN i)
    (fun g => newA (qOf c arg3 f3 g) (kOf c arg4 f4 g) (vOf c arg5 f5 g) (mOf c i arg7 (start7 c i arg3 arg4 arg7 f3 f4 f7) g) (aOf c i arg8 (start8 c i arg8 f8) g))
    (ix4 (nxt i) g ⟨d.val, by omega⟩ x) g (ix4 0 0 d x) (atN i _ _ _ _ fun a => by fin_cases a <;> simp [ix4]) 1
    (fun h hh => by rw [offN_eq]; have : h.val ≠ g.val := fun e => hh (Fin.ext e); simp [ix4]; omega)
    (fun h hh => by rw [offN_eq]; have : h.val ≠ g.val := fun e => hh (Fin.ext e); simp [ix4]; omega) 2
    (.inl (by rw [offN_eq]; simp [ix4])) _ (all_heads g)
  unfold LaneIn
  obtain ⟨μ, h1, h2, h3⟩ := key
  exact ⟨μ, e7.trans h1, eL.trans h2, fun d => (eA d).trans (h3 d)⟩

/-- and leaves the slot read alone. -/
theorem main_cur {N : ℕ} {s : ℕ → ℝ} {u : Fin 64 → ℕ → EReal} (g : Fin 8) (x : Fin 512)
    (h : LaneIn c arg7 arg8 (start7 c i arg3 arg4 arg7 f3 f4 f7) (start8 c i arg8 f8) (cur i) g x N s u) :
    LaneIn c arg7 arg8 (arg7.view.writes (Elt Ideal) (start7 c i arg3 arg4 arg7 f3 f4 f7) (mainM c i arg3 arg4 arg7 f3 f4 f7))
      (arg8.view.writes (Elt Ideal) (start8 c i arg8 f8) (mainS c i arg3 arg4 arg5 arg7 arg8 f3 f4 f5 f7 f8)) (cur i) g x N s u := by
  have hn := nxt_ne i
  have e7 := read_map_not arg7.view (start7 c i arg3 arg4 arg7 f3 f4 f7) (fun g => offN i g.val 0) (inbMN i)
    (fun g => newM (qOf c arg3 f3 g) (kOf c arg4 f4 g) (mOf c i arg7 (start7 c i arg3 arg4 arg7 f3 f4 f7) g))
    (ix4 (cur i) g 0 x) 0 (fun h => by rw [offN_eq]; simp [ix4]; omega) [7, 6, 5, 4, 3, 2, 1, 0]
  have e8 := fun r : Fin 72 => read_two_not arg8.view (start8 c i arg8 f8) (fun g => offN i g.val 64) (inbLN i)
    (fun g => newL (qOf c arg3 f3 g) (kOf c arg4 f4 g) (mOf c i arg7 (start7 c i arg3 arg4 arg7 f3 f4 f7) g) (lOf c i arg8 (start8 c i arg8 f8) g))
    (fun g => offN i g.val 0) (inbAN i)
    (fun g => newA (qOf c arg3 f3 g) (kOf c arg4 f4 g) (vOf c arg5 f5 g) (mOf c i arg7 (start7 c i arg3 arg4 arg7 f3 f4 f7) g) (aOf c i arg8 (start8 c i arg8 f8) g))
    (ix4 (cur i) g r x) 0 (fun h => by rw [offN_eq]; simp [ix4]; omega) (fun h => by rw [offN_eq]; simp [ix4]; omega) [7, 6, 5, 4, 3, 2, 1, 0]
  obtain ⟨μ, h1, h2, h3⟩ := h
  exact ⟨μ, e7.trans h1, (e8 _).trans h2, fun d => (e8 _).trans (h3 d)⟩

/-! ## The exact pass -/

/-- What a head's trip writes. -/
def tripM (g : Fin 8) : List (View.Piece (Elt Ideal) S2x8x1x512 .f32) :=
  [⟨Rect.unit (s := S2x8x1x512) (offN i g.val 0) S1x1x1x512.size (inbMN i g), k0_pay24 (redoM (qOf c arg3 f3 g) (kOf c arg4 f4 g) (mOf c i arg7 f7 g))⟩]
def tripS (g : Fin 8) : List (View.Piece (Elt Ideal) S2x8x72x512 .f32) :=
  [⟨Rect.unit (s := S2x8x72x512) (offN i g.val 64) S1x1x1x512.size (inbLN i g), redoL (qOf c arg3 f3 g) (kOf c arg4 f4 g) (vOf c arg5 f5 g) (mOf c i arg7 f7 g) (lOf c i arg8 f8 g)⟩,
   ⟨Rect.unit (s := S2x8x72x512) (offN i g.val 0) S1x1x64x512.size (inbAN i g), redoA (qOf c arg3 f3 g) (kOf c arg4 f4 g) (vOf c arg5 f5 g) (mOf c i arg7 f7 g) (aOf c i arg8 f8 g)⟩]

/-- One head's trip carries its queries from the slot read to the slot written, -/
theorem trip_lane {N : ℕ} {s : ℕ → ℝ} {u : Fin 64 → ℕ → EReal} (g : Fin 8) (x : Fin 512)
    (hs : TileScores (qOf c arg3 f3 g) (kOf c arg4 f4 g) x fun j => s (N + j)) (hv : TileValues (vOf c arg5 f5 g) fun d j => u d (N + j))
    (h : LaneIn c arg7 arg8 f7 f8 (cur i) g x N s u) :
    LaneIn c arg7 arg8 (arg7.view.writes (Elt Ideal) f7 (tripM c i arg3 arg4 arg7 f3 f4 f7 g)) (arg8.view.writes (Elt Ideal) f8 (tripS c i arg3 arg4 arg5 arg7 arg8 f3 f4 f5 f7 f8 g)) (nxt i) g x (N + 3328) s u := by
  have key := redo_head hs hv (h.of c i arg7 arg8 _ _ g x)
  have e7 := read_map_mem arg7.view f7 (fun g => offN i g.val 0) (inbMN i) (fun g => k0_pay24 (redoM (qOf c arg3 f3 g) (kOf c arg4 f4 g) (mOf c i arg7 f7 g)))
    (ix4 (nxt i) g 0 x) g (ix4 0 0 0 x) (atN i _ _ _ _ fun a => by fin_cases a <;> simp [ix4]) 1
    (fun h hh => by rw [offN_eq]; have : h.val ≠ g.val := fun e => hh (Fin.ext e); simp [ix4]; omega) [g] (List.mem_singleton.2 rfl)
  have eL := read_two_fst arg8.view f8 (fun g => offN i g.val 64) (inbLN i)
    (fun g => redoL (qOf c arg3 f3 g) (kOf c arg4 f4 g) (vOf c arg5 f5 g) (mOf c i arg7 f7 g) (lOf c i arg8 f8 g))
    (fun g => offN i g.val 0) (inbAN i)
    (fun g => redoA (qOf c arg3 f3 g) (kOf c arg4 f4 g) (vOf c arg5 f5 g) (mOf c i arg7 f7 g) (aOf c i arg8 f8 g))
    (ix4 (nxt i) g 64 x) g (ix4 0 0 0 x) (atN i _ _ _ _ fun a => by fin_cases a <;> simp [ix4]) 1
    (fun h hh => by rw [offN_eq]; have : h.val ≠ g.val := fun e => hh (Fin.ext e); simp [ix4]; omega)
    (fun h hh => by rw [offN_eq]; have : h.val ≠ g.val := fun e => hh (Fin.ext e); simp [ix4]; omega) [g] (List.mem_singleton.2 rfl)
  have eA := fun d : Fin 64 => read_two_snd arg8.view f8 (fun g => offN i g.val 64) (inbLN i)
    (fun g => redoL (qOf c arg3 f3 g) (kOf c arg4 f4 g) (vOf c arg5 f5 g) (mOf c i arg7 f7 g) (lOf c i arg8 f8 g))
    (fun g => offN i g.val 0) (inbAN i)
    (fun g => redoA (qOf c arg3 f3 g) (kOf c arg4 f4 g) (vOf c arg5 f5 g) (mOf c i arg7 f7 g) (aOf c i arg8 f8 g))
    (ix4 (nxt i) g ⟨d.val, by omega⟩ x) g (ix4 0 0 d x) (atN i _ _ _ _ fun a => by fin_cases a <;> simp [ix4]) 1
    (fun h hh => by rw [offN_eq]; have : h.val ≠ g.val := fun e => hh (Fin.ext e); simp [ix4]; omega)
    (fun h hh => by rw [offN_eq]; have : h.val ≠ g.val := fun e => hh (Fin.ext e); simp [ix4]; omega) 2
    (.inl (by rw [offN_eq]; simp [ix4])) [g] (List.mem_singleton.2 rfl)
  obtain ⟨μ, h1, h2, h3⟩ := key
  exact ⟨μ, e7.trans h1, eL.trans h2, fun d => (eA d).trans (h3 d)⟩

/-- and leaves every query elsewhere alone: in the slot read, or of another head. -/
theorem trip_other {N : ℕ} {s : ℕ → ℝ} {u : Fin 64 → ℕ → EReal} (z : Fin 2) (g g' : Fin 8) (x : Fin 512) (hz : z = cur i ∨ g ≠ g')
    (h : LaneIn c arg7 arg8 f7 f8 z g x N s u) :
    LaneIn c arg7 arg8 (arg7.view.writes (Elt Ideal) f7 (tripM c i arg3 arg4 arg7 f3 f4 f7 g')) (arg8.view.writes (Elt Ideal) f8 (tripS c i arg3 arg4 arg5 arg7 arg8 f3 f4 f5 f7 f8 g')) z g x N s u := by
  have hn := nxt_ne i
  have e7 := read_writes_one arg7.view f7 (inbMN i g') (k0_pay24 (redoM (qOf c arg3 f3 g') (kOf c arg4 f4 g') (mOf c i arg7 f7 g')))
    (ix4 z g 0 x)
  have e8 := fun r : Fin 72 => read_writes_pair arg8.view f8 (inbLN i g')
    (redoL (qOf c arg3 f3 g') (kOf c arg4 f4 g') (vOf c arg5 f5 g') (mOf c i arg7 f7 g') (lOf c i arg8 f8 g')) (inbAN i g')
    (redoA (qOf c arg3 f3 g') (kOf c arg4 f4 g') (vOf c arg5 f5 g') (mOf c i arg7 f7 g') (aOf c i arg8 f8 g')) (ix4 z g r x)
  obtain ⟨μ, h1, h2, h3⟩ := h
  rcases hz with hz | hg
  · have k7 := e7 0 (by rw [offN_eq, hz]; simp [ix4]; omega)
    have k8 := fun r => e8 r 0 (by rw [offN_eq, hz]; simp [ix4]; omega) (by rw [offN_eq, hz]; simp [ix4]; omega)
    exact ⟨μ, k7.trans h1, (k8 _).trans h2, fun d => (k8 _).trans (h3 d)⟩
  · have hg' : g.val ≠ g'.val := fun e => hg (Fin.ext e)
    have k7 := e7 1 (by rw [offN_eq]; simp [ix4]; omega)
    have k8 := fun r => e8 r 1 (by rw [offN_eq]; simp [ix4]; omega) (by rw [offN_eq]; simp [ix4]; omega)
    exact ⟨μ, k7.trans h1, (k8 _).trans h2, fun d => (k8 _).trans (h3 d)⟩

variable (v0 v1 : BitVec 32)

theorem trip_list (k : Fin k0_t1_loop.trips) :
    (trip (F := Ideal) c i arg3 harg3 arg4 harg4 arg5 harg5 arg6 harg6 arg7 harg7 arg8 harg8 arg9 harg9 v0 v1 f3 f4 f5 k f7 f8).1
      = (arg7.view.writes (Elt Ideal) f7 (tripM c i arg3 arg4 arg7 f3 f4 f7 (headOf k)), arg8.view.writes (Elt Ideal) f8 (tripS c i arg3 arg4 arg5 arg7 arg8 f3 f4 f5 f7 f8 (headOf k))) := by
  rw [trip_eq]
  unfold tripM tripS
  rfl

theorem lanes_step {N : ℕ} {s : Fin 8 → Fin 512 → ℕ → ℝ} {u : Fin 8 → Fin 64 → ℕ → EReal}
    (hs : ∀ g x, TileScores (qOf c arg3 f3 g) (kOf c arg4 f4 g) x fun j => s g x (N + j)) (hv : ∀ g, TileValues (vOf c arg5 f5 g) fun d j => u g d (N + j))
    (n : Fin 8) (r1 : Bf (F := Ideal) c arg7) (r2 : Bf (F := Ideal) c arg8)
    (e1 : r1 = arg7.view.writes (Elt Ideal) f7 (tripM c i arg3 arg4 arg7 f3 f4 f7 n)) (e2 : r2 = arg8.view.writes (Elt Ideal) f8 (tripS c i arg3 arg4 arg5 arg7 arg8 f3 f4 f5 f7 f8 n))
    (hc : ∀ g x, LaneIn c arg7 arg8 f7 f8 (cur i) g x N (s g x) (u g)) (hx : ∀ g x, g.val < n.val → LaneIn c arg7 arg8 f7 f8 (nxt i) g x (N + 3328) (s g x) (u g)) :
    (∀ g x, LaneIn c arg7 arg8 r1 r2 (cur i) g x N (s g x) (u g)) ∧ ∀ g x, g.val < n.val + 1 → LaneIn c arg7 arg8 r1 r2 (nxt i) g x (N + 3328) (s g x) (u g) := by
  subst e1 e2
  refine ⟨fun g x => trip_other c i arg3 arg4 arg5 arg7 arg8 f3 f4 f5 f7 f8 _ g _ x (.inl rfl) (hc g x), fun g x hg => ?_⟩
  by_cases hgn : g = n
  · subst hgn
    exact trip_lane c i arg3 arg4 arg5 arg7 arg8 f3 f4 f5 f7 f8 g x (hs g x) (hv g) (hc g x)
  · have hg' : g.val ≠ n.val := fun e => hgn (Fin.ext e)
    exact trip_other c i arg3 arg4 arg5 arg7 arg8 f3 f4 f5 f7 f8 _ g _ x (.inr hgn) (hx g x (by omega))

/-- The exact pass over the first `n` heads. -/
theorem redo_lanes {N : ℕ} {s : Fin 8 → Fin 512 → ℕ → ℝ} {u : Fin 8 → Fin 64 → ℕ → EReal}
    (hs : ∀ g x, TileScores (qOf c arg3 f3 g) (kOf c arg4 f4 g) x fun j => s g x (N + j)) (hv : ∀ g, TileValues (vOf c arg5 f5 g) fun d j => u g d (N + j))
    (h : ∀ g x, LaneIn c arg7 arg8 f7 f8 (cur i) g x N (s g x) (u g)) :
    ∀ n, n ≤ 8 → ∀ r, r = redo (F := Ideal) c i arg3 harg3 arg4 harg4 arg5 harg5 arg6 harg6 arg7 harg7 arg8 harg8 arg9 harg9 v0 v1 f3 f4 f5 f7 f8 n →
      (∀ g x, LaneIn c arg7 arg8 r.1 r.2 (cur i) g x N (s g x) (u g)) ∧ ∀ g x, g.val < n → LaneIn c arg7 arg8 r.1 r.2 (nxt i) g x (N + 3328) (s g x) (u g)
  | 0, _, r, hr => by
    subst hr
    exact ⟨h, fun g x hg => absurd hg (Nat.not_lt_zero _)⟩
  | n + 1, hn, r, hr => by
    obtain ⟨p, hp⟩ : ∃ p, p = redo (F := Ideal) c i arg3 harg3 arg4 harg4 arg5 harg5 arg6 harg6 arg7 harg7 arg8 harg8 arg9 harg9 v0 v1 f3 f4 f5 f7 f8 n := ⟨_, rfl⟩
    obtain ⟨hc, hx⟩ := redo_lanes hs hv h n (by omega) p hp
    have hk : n < k0_t1_loop.trips := by show n < 8; omega
    have e := hr.trans (redo_succ c i arg3 harg3 arg4 harg4 arg5 harg5 arg6 harg6 arg7 harg7 arg8 harg8 arg9 harg9 v0 v1 f3 f4 f5 f7 f8 ⟨n, hk⟩)
    rw [trip_list] at e
    obtain ⟨r1, r2⟩ := r
    obtain ⟨e1, e2⟩ := Prod.mk.inj e
    obtain ⟨p1, p2⟩ := p
    exact lanes_step c i arg3 arg4 arg5 arg7 arg8 f3 f4 f5 p1 p2 hs hv ⟨n, by omega⟩ r1 r2 (by rw [e1, ← hp]) (by rw [e2, ← hp]) hc hx

/-! ## The first tile -/

theorem first_tile : bodyRun.sl.v4 i = 1#1 ↔ (i 2).val = 0 := by
  have h : (i 2).val < 5 := (i 2).isLt
  unfold bodyRun.sl.v4
  simp only [bodyRun.sl.v3, bodyRun.sl.v2]
  generalize (i 2).val = n at *
  revert h n; decide

/-- Later tiles start from what the one before left, -/
theorem start_next (h : (i 2).val ≠ 0) : start7 c i arg3 arg4 arg7 f3 f4 f7 = f7 ∧ start8 c i arg8 f8 = f8 :=
  ⟨if_neg fun e => h ((first_tile i).1 e), if_neg fun e => h ((first_tile i).1 e)⟩

/-- and the first from the largest of sixteen scores and no sums. -/
theorem start_first (h : (i 2).val = 0) (g : Fin 8) (x : Fin 512) (s : ℕ → ℝ) (u : Fin 64 → ℕ → EReal)
    (hs : TileScores (qOf c arg3 f3 g) (kOf c arg4 f4 g) x s) :
    LaneIn c arg7 arg8 (start7 c i arg3 arg4 arg7 f3 f4 f7) (start8 c i arg8 f8) (cur i) g x 0 s u := by
  have hv := (first_tile i).2 h
  have hz : cur i = 0 := Fin.ext (by show (i 2).val % 2 = 0; rw [h])
  have e7 : arg7.view.read (Elt Ideal) (start7 c i arg3 arg4 arg7 f3 f4 f7) (ix4 (cur i) g 0 x) = firstM c arg3 arg4 f3 f4 g (ix4 0 0 0 x) := by
    rw [hz]
    unfold start7
    rw [if_pos hv]
    exact read_map_mem arg7.view f7 (fun g => ![0, g.val, 0, 0]) inbM0 (fun g => firstM c arg3 arg4 f3 f4 g) (ix4 0 g 0 x) g (ix4 0 0 0 x)
      (fun a => by fin_cases a <;> simp [ix4]) 1 (fun h hh => by have : h.val ≠ g.val := fun e => hh (Fin.ext e); simp [ix4]; omega) _ (all_heads g)
  have e8 : ∀ r : Fin 72, arg8.view.read (Elt Ideal) (start8 c i arg8 f8) (ix4 (cur i) g r x) = 0 := fun r => by
    rw [hz]
    unfold start8
    rw [if_pos hv]
    have := View.read_writes_cons_unit_of_mem arg8.view f8 inb_S2x8x72x512_S1x8x72x512_0_0_0_0 (bodyRun.sl.v3594 (F := Ideal)) [] (ix4 0 g r x) (ix4 0 g r x) rfl
      (fun a => by fin_cases a <;> simp [ix4])
    exact this.trans (by pointwise [bodyRun.sl.v3594, bodyRun.sl.v3591, bodyRun.sl.cst_2855])
  obtain ⟨μ, hμ⟩ := firstV_real (q := qOf c arg3 f3 g)
    (k := View.readAt (Elt Ideal) arg4.view (Rect.unit (s := S1x8x3328x128) ![0, g.val, 0, 0] S1x1x16x128.size (inbK0 g)).toLoadRect f4) (x := x) (s := s) (fun r => by
      have := hs 0 ⟨r.val, by omega⟩
      rw [scores_at] at this
      simp only [Fin.val_zero, Nat.zero_mul, Nat.zero_add] at this
      rw [← this]
      refine Finset.sum_congr rfl fun d _ => congrArg (· * _) ?_
      rw [kOf_at]
      exact readAt_at arg4.view f4 (inbK0 g) _ _ fun a => by fin_cases a <;> simp [ix4])
  refine ⟨μ, e7.trans hμ, (e8 _).trans (by simp), fun d => (e8 _).trans (by simp)⟩

end Loads

end Cert.KernelIdeal.Stream
end
-- ==== Proof.Stream.Blocks.lean ====
/- The blocks of the queries, keys and values at a grid point, by their arrays: point `t` is batch `t / 160`, query tile
   `t / 5 % 32` and key tile `t % 5`. -/
module

public import proofs.«01_k».proof.Proof.Stream.Reads
public import Idealize.ShloMosaic.Lib.Pipeline.ValueKit.Point

@[expose] public section

set_option maxRecDepth 16384
set_option maxHeartbeats 1000000

noncomputable section

namespace Cert.KernelIdeal.Stream
open Cert.KernelIdeal Cert.KernelIdeal.Gen Cert.KernelIdeal.Body
open Idealize.ShloMosaic
open Idealize.ShloMosaic.TcCoe
variable (m : (ℓ : Loc nD τ sig) → Buf (Elt Ideal) ℓ) (c : Dev nD)

/-- Where each window's block lies at a point, -/
theorem idx0 : ∀ t : Fin cfg0.N, win0_0.index t = ![t.val / 160, 0, 0, t.val / 5 % 32] := (by decide +kernel : ∀ t : Fin grid0.N, _)
theorem idx1 : ∀ t : Fin cfg0.N, win0_1.index t = ![t.val / 160, 0, t.val % 5, 0] := (by decide +kernel : ∀ t : Fin grid0.N, _)
theorem idx2 : ∀ t : Fin cfg0.N, win0_2.index t = ![t.val / 160, 0, 0, t.val % 5] := (by decide +kernel : ∀ t : Fin grid0.N, _)
theorem idx3 : ∀ t : Fin cfg0.N, win0_3.index t = ![t.val / 160, 0, 0, t.val / 5 % 32] := (by decide +kernel : ∀ t : Fin grid0.N, _)
/-- the point's key tile, and the last one's test. -/
theorem coord2 : ∀ t : Fin cfg0.N, ((grid0.coords t) 2).val = t.val % 5 := (by decide +kernel : ∀ t : Fin grid0.N, _)
theorem last : ∀ t : Fin cfg0.N, t.val % 5 = 4 → k0_cond3 (grid0.coords t) = 1#1 := (by decide +kernel : ∀ t : Fin grid0.N, _)
/-- The result's blocks cover its array. -/
theorem covers : win0_3.Covers := by decide +kernel

theorem N320 (t : Fin cfg0.N) : t.val < 320 := t.isLt

/-- The three blocks at an index. -/
theorem q_at (t : Fin cfg0.N) (g : Fin 8) (d : Fin 128) (x : Fin 512) (b : Fin 2) (Q : Fin 17408) (hb : b.val = t.val / 160) (hQ : Q.val = t.val / 5 % 32 * 512 + x.val) :
    iblk m c 0 t (ix4 0 g d x) = m ((c : Thread nD τ).loc main_arg0) (ix4 b g d Q) := by
  blk_ext! [iblk, V, idx0 t, hb, hQ]

theorem kb_at (t : Fin cfg0.N) (j : ((cfg0.win 1).xblock (cfg0.grid.coords t)).Idx) (y : S2x8x17408x128.Idx)
    (h : ∀ a : Fin 4, (y a).val = (![t.val / 160, 0, t.val % 5 * 3328, 0] : Fin 4 → ℕ) a + (j a).val) :
    iblk m c 1 t j = m ((c : Thread nD τ).loc main_arg1) y := by
  have h0 := h 0; have h1 := h 1; have h2 := h 2; have h3 := h 3
  simp only [Matrix.cons_val] at h0 h1 h2 h3
  blk_simp [iblk]
  refine congrArg _ ?_
  blk_ext [idx1 t, h0, h1, h2, h3]

theorem k_at (t : Fin cfg0.N) (g : Fin 8) (r : Fin 3328) (d : Fin 128) (b : Fin 2) (n : Fin 17408) (hb : b.val = t.val / 160) (hn : n.val = t.val % 5 * 3328 + r.val) :
    X0_1 m c t (ix4 0 g r d) = m ((c : Thread nD τ).loc main_arg1) (ix4 b g n d) := by
  unfold X0_1 Pipeline.Window.fill
  rw [dif_pos (moved0_1 t _)]
  refine kb_at m c t _ _ fun a => ?_
  fin_cases a <;> simp [ix4, hb, hn]

theorem vb_at (t : Fin cfg0.N) (j : ((cfg0.win 2).xblock (cfg0.grid.coords t)).Idx) (y : S2x8x64x17408.Idx)
    (h : ∀ a : Fin 4, (y a).val = (![t.val / 160, 0, 0, t.val % 5 * 3328] : Fin 4 → ℕ) a + (j a).val) :
    iblk m c 2 t j = m ((c : Thread nD τ).loc main_arg2) y := by
  have h0 := h 0; have h1 := h 1; have h2 := h 2; have h3 := h 3
  simp only [Matrix.cons_val] at h0 h1 h2 h3
  blk_simp [iblk]
  refine congrArg _ ?_
  blk_ext [idx2 t, h0, h1, h2, h3]

theorem v_at (t : Fin cfg0.N) (g : Fin 8) (d : Fin 64) (r : Fin 3328) (b : Fin 2) (n : Fin 17408) (hb : b.val = t.val / 160) (hn : n.val = t.val % 5 * 3328 + r.val) :
    X0_2 m c t (ix4 0 g d r) = m ((c : Thread nD τ).loc main_arg2) (ix4 b g d n) := by
  unfold X0_2 Pipeline.Window.fill
  rw [dif_pos (moved0_2 t _)]
  refine vb_at m c t _ _ fun a => ?_
  fin_cases a <;> simp [ix4, hb, hn]

end Cert.KernelIdeal.Stream
end
-- ==== Proof.Stream.Walk.lean ====
/- The attention of every query, carried from point to point of the grid, and what the last key tile of a query tile writes. -/
module

public import proofs.«01_k».proof.Proof.Stream.Blocks

@[expose] public section

set_option maxRecDepth 16384
set_option maxHeartbeats 1000000

noncomputable section

namespace Cert.KernelIdeal.Stream

open Cert.KernelIdeal Cert.KernelIdeal.Gen Cert.KernelIdeal.Body

open Idealize.ShloMosaic
open Idealize.ShloMosaic.TcCoe

/-- The score of key `n` and query `Q` of head `g`, as the sum the kernel takes, -/
def dotE (q : S2x8x128x17408.Idx → EReal) (k : S2x8x17408x128.Idx → EReal) (b : Fin 2) (g : Fin 8) (Q n : Fin 17408) : EReal :=
  ∑ d : Fin 128, k (ix4 b g n d) * q (ix4 b g d Q)
/-- as a real, by the key's number; -/
def sc (q : S2x8x128x17408.Idx → EReal) (k : S2x8x17408x128.Idx → EReal) (b : Fin 2) (g : Fin 8) (Q : Fin 17408) (n : ℕ) : ℝ :=
  if h : n < 17408 then (dotE q k b g Q ⟨n, h⟩).toReal else 0
/-- and the value of channel `d` of key `n`. -/
def vl (v : S2x8x64x17408.Idx → EReal) (b : Fin 2) (g : Fin 8) (d : Fin 64) (n : ℕ) : EReal :=
  if h : n < 17408 then v (ix4 b g d ⟨n, h⟩) else 0

/-- The attention of one query: the values against the softmax (base two) of the scores, over the first 16640 keys. -/
def attn (s : ℕ → ℝ) (u : ℕ → EReal) : EReal :=
  Ideal.div (∑ n ∈ Finset.range 16640, u n * wt (s n) 0) (∑ n ∈ Finset.range 16640, wt (s n) 0)

/-- A sum of weights is a real, and positive if there is any. -/
theorem sum_wt (N : ℕ) (s : ℕ → ℝ) (μ : ℝ) : ∑ n ∈ Finset.range N, wt (s n) μ = ((∑ n ∈ Finset.range N, Real.rpow 2 (s n - μ) : ℝ) : EReal) := by
  induction N with
  | zero => simp
  | succ N ih => rw [Finset.sum_range_succ, Finset.sum_range_succ, ih, EReal.coe_add]; rfl

theorem sum_rpow_pos {N : ℕ} (hN : 0 < N) (s : ℕ → ℝ) (μ : ℝ) : 0 < ∑ n ∈ Finset.range N, Real.rpow 2 (s n - μ) :=
  Finset.sum_pos (fun n _ => rpow_pos (s n) μ) ⟨0, Finset.mem_range.2 hN⟩

/-- The carried sums' quotient is the attention, whatever the reference. -/
theorem quot_eq {N : ℕ} (hN : 0 < N) (s : ℕ → ℝ) (u : ℕ → EReal) (μ ν : ℝ) :
    Ideal.div (∑ n ∈ Finset.range N, u n * wt (s n) μ) (∑ n ∈ Finset.range N, wt (s n) μ)
      = Ideal.div (∑ n ∈ Finset.range N, u n * wt (s n) ν) (∑ n ∈ Finset.range N, wt (s n) ν) := by
  rw [← sum_rescale N u s μ ν, ← sum_rescale_one N s μ ν, sum_wt]
  have hp := sum_rpow_pos hN s μ
  generalize (∑ n ∈ Finset.range N, Real.rpow 2 (s n - μ)) = L at hp ⊢
  generalize (∑ n ∈ Finset.range N, u n * wt (s n) μ) = A
  have hw := rpow_pos μ ν
  unfold wt
  generalize Real.rpow 2 (μ - ν) = w at hw ⊢
  rw [← EReal.coe_mul]
  have h1 : ((L : ℝ) : EReal) ≠ 0 := by exact_mod_cast hp.ne'
  have h2 : ((L * w : ℝ) : EReal) ≠ 0 := by exact_mod_cast (mul_pos hp hw).ne'
  unfold Ideal.div
  rw [if_neg h1, if_neg h2, mul_assoc, ← EReal.coe_inv, ← EReal.coe_inv, ← EReal.coe_mul]
  congr 2
  field_simp

theorem Lane.quot {N : ℕ} (hN : 0 < N) {s : ℕ → ℝ} {u : Fin 64 → ℕ → EReal} {m l : EReal} {a : Fin 64 → EReal} (h : Lane N s u m l a) (d : Fin 64) :
    Ideal.div (a d) l = Ideal.div (∑ n ∈ Finset.range N, u d n * wt (s n) 0) (∑ n ∈ Finset.range N, wt (s n) 0) := by
  obtain ⟨μ, h1, h2, h3⟩ := h
  rw [h2, h3]
  exact quot_eq hN s (u d) μ 0

theorem Lane.out {s : ℕ → ℝ} {u : Fin 64 → ℕ → EReal} {m l : EReal} {a : Fin 64 → EReal} (h : Lane 16640 s u m l a) (d : Fin 64) :
    Ideal.div (a d) l = attn s (u d) := Lane.quot (Nat.zero_lt_succ _) h d

section Walk

variable (m : (ℓ : Loc nD τ sig) → Buf (Elt Ideal) ℓ)

/-- The scores and values of query `x` of point `n`'s tile. -/
def bOf (n : ℕ) : Fin 2 := ⟨n / 160 % 2, by omega⟩
def qpos (n : ℕ) (x : Fin 512) : Fin 17408 := ⟨n / 5 % 32 * 512 + x.val, by omega⟩
def scAt (c : Dev nD) (n : ℕ) (g : Fin 8) (x : Fin 512) : ℕ → ℝ := sc (m ((c : Thread nD τ).loc main_arg0)) (m ((c : Thread nD τ).loc main_arg1)) (bOf n) g (qpos n x)
def vlAt (c : Dev nD) (n : ℕ) (g : Fin 8) : Fin 64 → ℕ → EReal := vl (m ((c : Thread nD τ).loc main_arg2)) (bOf n) g

/-- Before a point that is not a tile's first, the slot it reads carries the keys before its own. -/
def Inv (c : Dev nD) (n : ℕ) (f7 : Bf (F := Ideal) c scM) (f8 : Bf (F := Ideal) c scS) : Prop :=
  n % 5 ≠ 0 → ∀ g x, LaneIn c scM scS f7 f8 ⟨n % 5 % 2, by omega⟩ g x (n % 5 * 3328) (scAt m c n g x) (vlAt m c n g)

/-- A tile's last point leaves the attention of its queries. -/
def Post (c : Dev nD) (t : Fin cfg0.N) (X : S1x8x64x512.Idx → Elt Ideal .bf16) : Prop :=
  t.val % 5 = 4 → ∀ g d x, X (ix4 0 g d x) = attn (scAt m c t.val g x) (vlAt m c t.val g d)

/-- Every score of a query and a key that are used is a real. -/
def RealScores (c : Dev nD) : Prop :=
  ∀ (b : Fin 2) (g : Fin 8) (Q n : Fin 17408), Q.val < 16384 → n.val < 16640 → ∃ r : ℝ,
    dotE (m ((c : Thread nD τ).loc main_arg0)) (m ((c : Thread nD τ).loc main_arg1)) b g Q n = r

variable {m}

theorem tile_scores {c : Dev nD} (hr : RealScores m c) (t : Fin cfg0.N) (f3 : Bf (F := Ideal) c (st0_0 t)) (f4 : Bf (F := Ideal) c (st0_1 t))
    (h3 : (st0_0 t).view.read (Elt Ideal) f3 = iblk m c 0 t) (h4 : (st0_1 t).view.read (Elt Ideal) f4 = X0_1 m c t) (g : Fin 8) (x : Fin 512) :
    TileScores (qOf c (st0_0 t) f3 g) (kOf c (st0_1 t) f4 g) x fun j => scAt m c t.val g x (t.val % 5 * 3328 + j) := by
  intro e r
  have ht := N320 t
  have hb : (bOf t.val).val = t.val / 160 := by show t.val / 160 % 2 = _; omega
  have hn : t.val % 5 * 3328 + (e.val * 256 + r.val) < 17408 := by omega
  obtain ⟨ρ, hρ⟩ := hr (bOf t.val) g (qpos t.val x) ⟨_, hn⟩ (by show t.val / 5 % 32 * 512 + x.val < _; omega) (by show t.val % 5 * 3328 + (e.val * 256 + r.val) < 16640; omega)
  have e1 : scAt m c t.val g x (t.val % 5 * 3328 + (e.val * 256 + r.val)) = ρ := by
    unfold scAt sc
    rw [dif_pos hn, hρ, EReal.toReal_coe]
  show _ = ((scAt m c t.val g x (t.val % 5 * 3328 + (e.val * 256 + r.val)) : ℝ) : EReal)
  rw [e1, ← hρ, scores_at]
  unfold dotE
  refine Finset.sum_congr rfl fun d _ => ?_
  rw [kOf_at, qOf_at, h3, h4, k_at m c t g _ d (bOf t.val) ⟨_, hn⟩ hb rfl, q_at m c t g d x (bOf t.val) (qpos t.val x) hb rfl]

theorem tile_values {c : Dev nD} (t : Fin cfg0.N) (f5 : Bf (F := Ideal) c (st0_2 t))
    (h5 : (st0_2 t).view.read (Elt Ideal) f5 = X0_2 m c t) (g : Fin 8) :
    TileValues (vOf c (st0_2 t) f5 g) fun d j => vlAt m c t.val g d (t.val % 5 * 3328 + j) := by
  intro e d r
  have ht := N320 t
  have hb : (bOf t.val).val = t.val / 160 := by show t.val / 160 % 2 = _; omega
  have hn : t.val % 5 * 3328 + (e.val * 256 + r.val) < 17408 := by omega
  show _ = vlAt m c t.val g d (t.val % 5 * 3328 + (e.val * 256 + r.val))
  unfold vlAt vl
  rw [dif_pos hn, vOf_at, h5, v_at m c t g d _ (bOf t.val) ⟨_, hn⟩ hb rfl]

/-- What a point's carried buffers, whichever pass left them, mean for the next point and for the result. -/
theorem step_out {c : Dev nD} (t : Fin cfg0.N) (f3 : Bf (F := Ideal) c (st0_0 t)) (f4 : Bf (F := Ideal) c (st0_1 t)) (f5 : Bf (F := Ideal) c (st0_2 t))
    (f6 : Bf (F := Ideal) c (st0_3 t)) (f7 : Bf (F := Ideal) c scM) (f8 : Bf (F := Ideal) c scS) (f9 : Bf (F := Ideal) c scP)
    (f7' : Bf (F := Ideal) c scM) (f8' : Bf (F := Ideal) c scS)
    (h : ∀ g x, LaneIn c scM scS f7' f8' (nxt (grid0.coords t)) g x (t.val % 5 * 3328 + 3328) (scAt m c t.val g x) (vlAt m c t.val g)) :
    Inv m c (t.val + 1) f7' f8' ∧ Post m c t ((st0_3 t).view.read (Elt Ideal) ((runAt c t f3 f4 f5 f7 f8 f9).1.2.2.2 f6 f8')) := by
  have ht := N320 t
  have h2 := coord2 t
  constructor
  · intro hn g x
    have e1 : (⟨(t.val + 1) % 5 % 2, by omega⟩ : Fin 2) = nxt (grid0.coords t) := Fin.ext (by
      show (t.val + 1) % 5 % 2 = 1 - ((grid0.coords t) 2).val % 2
      rw [h2]; omega)
    have e2 : (t.val + 1) % 5 * 3328 = t.val % 5 * 3328 + 3328 := by omega
    have e3 : bOf (t.val + 1) = bOf t.val := Fin.ext (by show (t.val + 1) / 160 % 2 = t.val / 160 % 2; omega)
    have e4 : qpos (t.val + 1) x = qpos t.val x := Fin.ext (by show (t.val + 1) / 5 % 32 * 512 + x.val = t.val / 5 % 32 * 512 + x.val; omega)
    have e5 : scAt m c (t.val + 1) g x = scAt m c t.val g x := by unfold scAt; rw [e3, e4]
    have e6 : vlAt m c (t.val + 1) g = vlAt m c t.val g := by unfold vlAt; rw [e3]
    rw [e1, e2, e5, e6]
    exact h g x
  · intro h4 g d x
    have hc := last t h4
    rw [main6 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM (Memref.isWhole_whole _) scS (Memref.isWhole_whole _) scP (Memref.isWhole_whole _) f3 f4 f5 f7 f8 f9 hc f6 f8']
    have := read_map_mem (st0_3 t).view f6 (fun g => ![0, g.val, 0, 0]) inbO (fun g => outA (aNew c (grid0.coords t) scS f8' g) (lNew c (grid0.coords t) scS f8' g))
      (ix4 0 g d x) g (ix4 0 0 d x) (fun a => by fin_cases a <;> simp [ix4]) 1
      (fun h hh => by have : h.val ≠ g.val := fun e => hh (Fin.ext e); show g.val < h.val ∨ h.val + 1 ≤ g.val; omega) _ (all_heads g)
    refine Eq.trans this ?_
    rw [outA_at, aNew_at, lNew_at]
    have hl := h g x
    rw [h4] at hl
    exact Lane.out hl d

variable (m) in
/-- The invariant and the postcondition are kept by every point. -/
theorem steps (hr : ∀ c, RealScores m c) : Steps m (Inv m) (Post m) where
  zero c f7 f8 := fun h => absurd rfl h
  step c t f3 f4 f5 f6 f7 f8 f9 f7' f8' h3 h4 h5 hI hL := by
    have h2 := coord2 t
    have hs := tile_scores (hr c) t f3 f4 h3 h4
    have hv := tile_values t f5 h5
    refine step_out t f3 f4 f5 f6 f7 f8 f9 f7' f8' ?_
    have h0 : ∀ g x, LaneIn c scM scS (start7 c (grid0.coords t) (st0_0 t) (st0_1 t) scM f3 f4 f7) (start8 c (grid0.coords t) scS f8) (cur (grid0.coords t)) g x
        (t.val % 5 * 3328) (scAt m c t.val g x) (vlAt m c t.val g) := by
      intro g x
      by_cases h : t.val % 5 = 0
      · rw [h, Nat.zero_mul]
        refine start_first c (grid0.coords t) (st0_0 t) (st0_1 t) scM scS f3 f4 f7 f8 (h2.trans h) g x _ _ ?_
        have := hs g x
        rw [h] at this
        simpa only [Nat.zero_mul, Nat.zero_add] using this
      · obtain ⟨e7, e8⟩ := start_next c (grid0.coords t) (st0_0 t) (st0_1 t) scM scS f3 f4 f7 f8 (by rw [h2]; exact h)
        rw [e7, e8]
        have ec : cur (grid0.coords t) = ⟨t.val % 5 % 2, by omega⟩ := Fin.ext (by show ((grid0.coords t) 2).val % 2 = _; rw [h2])
        rw [ec]
        exact hI h g x
    have hm : ∀ w7 w8, w7 = (runAt c t f3 f4 f5 f7 f8 f9).1.1 → w8 = (runAt c t f3 f4 f5 f7 f8 f9).1.2.1 →
        (∀ g x, LaneIn c scM scS w7 w8 (cur (grid0.coords t)) g x (t.val % 5 * 3328) (scAt m c t.val g x) (vlAt m c t.val g))
          ∧ ∀ g x, LaneIn c scM scS w7 w8 (nxt (grid0.coords t)) g x (t.val % 5 * 3328 + 3328) (scAt m c t.val g x) (vlAt m c t.val g) := by
      intro w7 w8 e7 e8
      rw [main7 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM (Memref.isWhole_whole _) scS (Memref.isWhole_whole _) scP (Memref.isWhole_whole _) f3 f4 f5 f7 f8 f9] at e7
      rw [main8 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM (Memref.isWhole_whole _) scS (Memref.isWhole_whole _) scP (Memref.isWhole_whole _) f3 f4 f5 f7 f8 f9] at e8
      subst e7 e8
      exact ⟨fun g x => main_cur c (grid0.coords t) (st0_0 t) (st0_1 t) (st0_2 t) scM scS f3 f4 f5 f7 f8 g x (h0 g x),
        fun g x => main_lane c (grid0.coords t) (st0_0 t) (st0_1 t) (st0_2 t) scM scS f3 f4 f5 f7 f8 g x (hs g x) (hv g) (h0 g x)⟩
    rcases hL with ⟨e7, e8⟩ | ⟨e7, e8⟩
    · exact (hm f7' f8' e7 e8).2
    · obtain ⟨w7, hw7⟩ : ∃ w7, w7 = (runAt c t f3 f4 f5 f7 f8 f9).1.1 := ⟨_, rfl⟩
      obtain ⟨w8, hw8⟩ : ∃ w8, w8 = (runAt c t f3 f4 f5 f7 f8 f9).1.2.1 := ⟨_, rfl⟩
      rw [← hw7, ← hw8] at e7 e8
      have := redo_lanes c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM (Memref.isWhole_whole _) scS (Memref.isWhole_whole _) scP (Memref.isWhole_whole _) f3 f4 f5 w7 w8
        (Scalar.remsi (BitVec.ofNat 32 ((grid0.coords t) 2).val) 2#32) (Scalar.subi 1#32 (Scalar.remsi (BitVec.ofNat 32 ((grid0.coords t) 2).val) 2#32))
        hs hv (hm w7 w8 hw7 hw8).1 8 le_rfl _ rfl
      intro g x
      rw [e7, e8]
      exact this.2 g x g.isLt

end Walk

end Cert.KernelIdeal.Stream
end
-- ==== Proof.Stream.Result.lean ====
/- What the kernel's result array holds after the run: the attention of every query. -/
module

public import proofs.«01_k».proof.Proof.Stream.Walk
public import proofs.«01_k».proof.Proof.KernelIdeal.Frame
public import Idealize.ShloMosaic.Lib.Pipeline.ArrRel

@[expose] public section

set_option maxRecDepth 16384
set_option maxHeartbeats 1000000

noncomputable section

namespace Cert.KernelIdeal.Stream

open Cert.KernelIdeal Cert.KernelIdeal.Gen Cert.KernelIdeal.Body

open Idealize.ShloMosaic
open Idealize.ShloMosaic.TcCoe
open Idealize.SL.Sem

/-- A query's number among the queries' columns. -/
def wide (Q : Fin 16384) : Fin 17408 := ⟨Q.val, by omega⟩

/-- The attention of the queries `q`, keys `k` and values `v`. -/
def attention (q : S2x8x128x17408.Idx → EReal) (k : S2x8x17408x128.Idx → EReal) (v : S2x8x64x17408.Idx → EReal) (y : S2x8x64x16384.Idx) : EReal :=
  attn (sc q k (y 0) (y 1) (wide (y 3))) (vl v (y 0) (y 1) (y 2))

variable (m : (ℓ : Loc nD τ sig) → Buf (Elt Ideal) ℓ) (ρ : Dev nD → PrngReg)

/-- The attention of the arguments on a device. -/
def result (c : Dev nD) : S2x8x64x16384.Idx → EReal :=
  attention (m ((c : Thread nD τ).loc main_arg0)) (m ((c : Thread nD τ).loc main_arg1)) (m ((c : Thread nD τ).loc main_arg2))

/-- The result's block is written back at each query tile's last key tile. -/
theorem flush3 : ∀ t : Fin cfg0.N, win0_3.flush t = true → t.val % 5 = 4 := (by decide +kernel : ∀ t : Fin grid0.N, _)

/-- Blocks that are the attention of their queries make up the attention of all. -/
theorem arr_eq (c : Dev nD) (dat : Pipeline.Dat τ (Elt Ideal) Unit ℕ (UR sig nD τ) ℕ cfg0 c)
    (h : ∀ t, win0_3.flush t = true → Post m c t (dat.after 3 t)) : dat.arrAt 3 cfg0.N = result m c := by
  refine dat.arrAt_eq_of_covers 3 _ covers fun t hf y => ?_
  have h4 := flush3 t hf
  have hp := h t hf h4
  have ht := N320 t
  blk_simp
  obtain ⟨g, hg⟩ : ∃ g : Fin 8, g.val = (y 1).val := ⟨⟨(y 1).val, (y 1).isLt⟩, rfl⟩
  obtain ⟨d, hd⟩ : ∃ d : Fin 64, d.val = (y 2).val := ⟨⟨(y 2).val, (y 2).isLt⟩, rfl⟩
  obtain ⟨x, hx⟩ : ∃ x : Fin 512, x.val = (y 3).val := ⟨⟨(y 3).val, (y 3).isLt⟩, rfl⟩
  have h0 : (y 0).val = 0 := by have : (y 0).val < 1 := (y 0).isLt; omega
  have hb : (bOf t.val).val = t.val / 160 := by show t.val / 160 % 2 = _; omega
  have ey : (win0_3.blk t).view.emb y = (ix4 (bOf t.val) g d ⟨t.val / 5 % 32 * 512 + x.val, by omega⟩ : S2x8x64x16384.Idx) := by
    blk_ext [idx3 t, hb, hg, hd, hx, h0]
  have ez : y = (ix4 0 g d x : S1x8x64x512.Idx) := by
    funext a; apply Fin.ext; fin_cases a <;> simp [ix4, hg, hd, hx, h0]
  rw [ey]
  refine (congrArg (dat.after 3 t) ez).trans ((hp g d x).trans ?_)
  rfl

/-- The kernel's run: its result array is the attention of its arguments, which are unchanged. -/
theorem run (hr : ∀ c, RealScores m c) :
    θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨by
      obtain ⟨after, hL, hA⟩ := h.1.exists_exact c
      refine (hA 3).trans (arr_eq m c _ fun t hf => ?_)
      exact (dats m (Inv m) 0 c).toRRel_leaves (fgt := held) (Rl := rel (Post m) c) (w := 3) rfl (hL 3 t hf), args_of m h.1 c⟩)
    (run_main m ρ (Inv m) (Post m) (steps m hr))

end Cert.KernelIdeal.Stream
end
-- ==== Proof.Stream.Reference.lean ====
/- The reference's softmax, read at an index: the same quotient of sums as the kernel's, when its queries and keys are finite. -/
module

public import proofs.«01_k».proof.Proof.Gen.ReferenceIdeal.Run
public import proofs.«01_k».proof.Proof.Gen.Pre_finite_queries_and_keys
public import proofs.«01_k».proof.Proof.Stream.Result
public import Idealize.ShloMosaic.Lib.ReduceAll
public import Idealize.ShloMosaic.Lib.Pointwise

@[expose] public section

set_option maxRecDepth 16384
set_option maxHeartbeats 1000000

noncomputable section

namespace Cert.ReferenceIdeal.Softmax

open Cert.ReferenceIdeal Cert.ReferenceIdeal.Gen
open Cert.KernelIdeal.Stream

open Idealize.ShloMosaic
open Idealize.ShloMosaic.TcCoe

/-! ## Numbers -/

theorem two32 : Ideal.ofBits .f32 0x40000000#32 = ((2 : ℝ) : EReal) := by
  simp [Ideal.ofBits, Ideal.ieee]
  rw [← EReal.coe_mul]
  norm_num
theorem inf32 : Ideal.ofBits .f32 0x7F800000#32 = ⊤ := by
  simp [Ideal.ofBits, Ideal.ieee]
theorem ln2 : Ideal.log (Ideal.ofBits .f32 0x40000000#32) = ((Real.log 2 : ℝ) : EReal) := by
  rw [two32, Ideal.log_coe, if_neg (by norm_num)]

/-- The natural exponential of a score times `log 2` is a weight in base two. -/
theorem exp_sub (s μ : ℝ) : Ideal.exp (((s * Real.log 2 : ℝ) : EReal) - (μ : EReal)) = wt s (μ / Real.log 2) := by
  have h : Real.log 2 ≠ 0 := (Real.log_pos (by norm_num)).ne'
  rw [← EReal.coe_sub]
  unfold wt
  show ((Real.exp _ : ℝ) : EReal) = _
  congr 1
  show _ = (2 : ℝ) ^ (s - μ / Real.log 2)
  rw [Real.rpow_def_of_pos (by norm_num)]
  congr 1
  field_simp

/-- Values summed against normalised weights are the quotient of the sums, whatever the reference. -/
theorem ratio {N : ℕ} (hN : 0 < N) (s : ℕ → ℝ) (u : ℕ → EReal) (μ : ℝ) :
    ∑ i : Fin N, u i * Ideal.div (wt (s i) μ) (∑ i : Fin N, wt (s i) μ)
      = Ideal.div (∑ n ∈ Finset.range N, u n * wt (s n) 0) (∑ n ∈ Finset.range N, wt (s n) 0) := by
  rw [← quot_eq hN s u μ 0, ← Finset.sum_range (fun n => wt (s n) μ), ← Finset.sum_range (fun n => u n * Ideal.div (wt (s n) μ) (∑ i ∈ Finset.range N, wt (s i) μ)), sum_wt]
  have hp := sum_rpow_pos hN s μ
  generalize (∑ n ∈ Finset.range N, Real.rpow 2 (s n - μ)) = L at hp ⊢
  have h1 : ((L : ℝ) : EReal) ≠ 0 := by exact_mod_cast hp.ne'
  have hL : (0 : EReal) ≤ ((L⁻¹ : ℝ) : EReal) := EReal.coe_nonneg.2 (inv_pos.2 hp).le
  unfold Ideal.div
  simp only [if_neg h1, ← EReal.coe_inv]
  clear hN
  induction N with
  | zero => simp
  | succ N ih => rw [Finset.sum_range_succ, Finset.sum_range_succ, ih, EReal.right_distrib_of_nonneg_of_ne_top hL (EReal.coe_ne_top _), mul_assoc]

/-- A sum of reals is a real, -/
theorem real_sum {ι : Type} (S : Finset ι) (f : ι → EReal) (h : ∀ i, ∃ r : ℝ, f i = r) : ∃ r : ℝ, ∑ i ∈ S, f i = r :=
  Finset.sum_induction f (fun x => ∃ r : ℝ, x = r) (fun _ _ ⟨a, ha⟩ ⟨b, hb⟩ => ⟨a + b, by rw [ha, hb, EReal.coe_add]⟩) ⟨0, rfl⟩ fun i _ => h i

/-- and so is the greatest of some. -/
theorem fold_real {ι : Type} (S : Finset ι) (f : ι → EReal) (h : ∀ i ∈ S, ∃ r : ℝ, f i = r) (hS : S.Nonempty) :
    ∃ r : ℝ, S.fold max ⊥ f = r := by
  refine real_of ?_ ?_
  · obtain ⟨i, hi⟩ := hS
    obtain ⟨r, hr⟩ := h i hi
    exact (Finset.lt_fold_max _).2 (Or.inr ⟨i, hi, hr ▸ EReal.bot_lt_coe r⟩)
  · refine (Finset.fold_max_lt _).2 ⟨bot_lt_top, fun i hi => ?_⟩
    obtain ⟨r, hr⟩ := h i hi
    exact hr ▸ EReal.coe_lt_top r

/-! ## The reference's stages -/

abbrev Scores := FVec Ideal S2x8x16384x16640 .f32

def scores (q : FVec Ideal S2x8x128x17408 .bf16) (k : FVec Ideal S2x8x17408x128 .bf16) : Scores :=
  mulf (Host.dotGeneral dot_S2x8x128x16384_S2x8x16640x128_S2x8x16384x16640_2_3_3_2_01_01 none (extf .f32 (extractStridedSlice S2x8x128x16384 ![0, 0, 0, 0] q slices_S2x8x128x17408_S2x8x128x16384_0_0_0_0) bitsLt_bf16_f32) (extf .f32 (extractStridedSlice S2x8x16640x128 ![0, 0, 0, 0] k slices_S2x8x17408x128_S2x8x16640x128_0_0_0_0) bitsLt_bf16_f32)) (broadcastInDim S2x8x16384x16640 ![] bcast_S_S2x8x16384x16640 (Host.log (constant S_ .f32 0x40000000#32)))

def top (s : Scores) : FVec Ideal S2x8x16384 .f32 :=
  maximumf (broadcastInDim S2x8x16384 ![] bcast_S_S2x8x16384 (constant S_ .f32 0xFF800000#32)) (Host.reduce FloatOps.maximumf s (constant S_ .f32 0xFF800000#32) reducesTo_S2x8x16384x16640_S2x8x16384_d3 h_S_)

def spread (x : FVec Ideal S2x8x16384 .f32) : Scores :=
  broadcastInDim S2x8x16384x16640 ![0, 1, 2, 3] bcast_S2x8x16384x1_S2x8x16384x16640_0_1_2_3 (broadcastInDim S2x8x16384x1 ![0, 1, 2] bcast_S2x8x16384_S2x8x16384x1_0_1_2 x)

def weights (s : Scores) : Scores := Host.exp (subf s (spread (top s)))

def total (e : Scores) : FVec Ideal S2x8x16384 .f32 := Host.reduceAdd e (constant S_ .f32 0x00000000#32) reducesTo_S2x8x16384x16640_S2x8x16384_d3 h_S_

def soft (e : Scores) : FVec Ideal S2x8x16384x16640 .bf16 := truncf .bf16 (Host.divf e (spread (total e))) bitsLt_bf16_f32

def mix (v : FVec Ideal S2x8x64x17408 .bf16) (p : FVec Ideal S2x8x16384x16640 .bf16) : FVec Ideal S2x8x64x16384 .bf16 :=
  truncf .bf16 (Host.dotGeneral dot_S2x8x64x16640_S2x8x16384x16640_S2x8x64x16384_3_3_2_2_01_01 none (extf .f32 (extractStridedSlice S2x8x64x16640 ![0, 0, 0, 0] v slices_S2x8x64x17408_S2x8x64x16640_0_0_0_0) bitsLt_bf16_f32) (extf .f32 p bitsLt_bf16_f32)) bitsLt_bf16_f32

/-- A key's number among the keys' columns. -/
def key (n : Fin 16640) : Fin 17408 := ⟨n.val, by omega⟩

theorem scores_at (q : FVec Ideal S2x8x128x17408 .bf16) (k : FVec Ideal S2x8x17408x128 .bf16) (b : Fin 2) (g : Fin 8) (Q : Fin 16384) (n : Fin 16640) :
    scores q k (ix4 b g Q n) = dotE q k b g (wide Q) (key n) * ((Real.log 2 : ℝ) : EReal) := by
  unfold dotE
  rw [← ln2, Finset.sum_congr rfl fun d _ => mul_comm _ _]
  pointwise [scores, wide, key]

theorem spread_at (x : FVec Ideal S2x8x16384 .f32) (b : Fin 2) (g : Fin 8) (Q : Fin 16384) (n : Fin 16640) : spread x (ix4 b g Q n) = x (ix3 b g Q) := by
  pointwise [spread]
theorem weights_at (s : Scores) (b : Fin 2) (g : Fin 8) (Q : Fin 16384) (n : Fin 16640) :
    weights s (ix4 b g Q n) = Ideal.exp (s (ix4 b g Q n) - top s (ix3 b g Q)) := by
  pointwise [weights, spread]
theorem total_at (e : Scores) (b : Fin 2) (g : Fin 8) (Q : Fin 16384) : total e (ix3 b g Q) = ∑ n, e (ix4 b g Q n) := by
  pointwise [total]
theorem soft_at (e : Scores) (b : Fin 2) (g : Fin 8) (Q : Fin 16384) (n : Fin 16640) :
    soft e (ix4 b g Q n) = Ideal.div (e (ix4 b g Q n)) (total e (ix3 b g Q)) := by
  pointwise [soft, spread]
theorem mix_at (v : FVec Ideal S2x8x64x17408 .bf16) (p : FVec Ideal S2x8x16384x16640 .bf16) (b : Fin 2) (g : Fin 8) (d : Fin 64) (Q : Fin 16384) :
    mix v p (ix4 b g d Q) = ∑ n, v (ix4 b g d (key n)) * p (ix4 b g Q n) := by
  pointwise [mix, key]

theorem maximumf_at {s : Shape} (x y : FVec Ideal s .f32) (i : s.Idx) : maximumf x y i = max (x i) (y i) := rfl
theorem splat_at {s t : Shape} (dims : Fin s.rank → Fin t.rank) (h : s.BroadcastsInDim t dims) (w : BitVec 32) (i : t.Idx) :
    broadcastInDim t dims h (constant (F := Ideal) s .f32 w) i = Ideal.ofBits .f32 w := rfl

/-- The greatest of reals, from minus infinity on, is a real. -/
theorem reduce_real {s t u : Shape} {axes : List (Fin s.rank)} (x : s.Idx → Ideal .f32) (init : u.Idx → Ideal .f32) (h : s.ReducesTo axes t) (hu : 0 < u.numel) (j : t.Idx)
    (hi : init (Shape.Idx.first hu) = (⊥ : EReal)) (hx : ∀ i, ∃ r : ℝ, x i = (r : EReal)) (i : s.Idx) (hij : h.drop i = j) :
    ∃ r : ℝ, Host.reduce FloatOps.maximumf x init h hu j = (r : EReal) := by
  rw [Host.reduce_eq_fold, hi]
  exact fold_real _ x (fun i _ => hx i) ⟨i, Finset.mem_filter.2 ⟨Finset.mem_univ _, hij⟩⟩

/-- The greatest of real scores is a real. -/
theorem top_real (s : Scores) (h : ∀ i, ∃ r : ℝ, s i = (r : EReal)) (b : Fin 2) (g : Fin 8) (Q : Fin 16384) : ∃ r : ℝ, top s (ix3 b g Q) = (r : EReal) := by
  obtain ⟨r, hr⟩ := reduce_real s (constant S_ .f32 0xFF800000#32) reducesTo_S2x8x16384x16640_S2x8x16384_d3 h_S_ (ix3 b g Q) neg_inf32 h
    (ix4 b g Q ⟨0, Nat.zero_lt_succ _⟩) (by
      funext a
      apply Fin.ext
      fin_cases a
      · exact Shape.ReducesTo.drop_apply_val_of_eq reducesTo_S2x8x16384x16640_S2x8x16384_d3 _ 0 0
      · exact Shape.ReducesTo.drop_apply_val_of_eq reducesTo_S2x8x16384x16640_S2x8x16384_d3 _ 1 1
      · exact Shape.ReducesTo.drop_apply_val_of_eq reducesTo_S2x8x16384x16640_S2x8x16384_d3 _ 2 2)
  refine ⟨r, ?_⟩
  unfold top
  rw [maximumf_at, hr, splat_at, neg_inf32]
  exact max_eq_right bot_le

/-- Values summed against the softmax of scores that are reals times `log 2` are the attention. -/
theorem attn_of (S : Scores) (s : Fin 2 → Fin 8 → Fin 16384 → ℕ → ℝ) (h : ∀ b g Q (n : Fin 16640), S (ix4 b g Q n) = ((s b g Q n.val * Real.log 2 : ℝ) : EReal))
    (u : ℕ → EReal) (b : Fin 2) (g : Fin 8) (Q : Fin 16384) :
    ∑ n : Fin 16640, u n.val * soft (weights S) (ix4 b g Q n) = attn (s b g Q) u := by
  obtain ⟨μ, hμ⟩ := top_real S (fun i => by
    obtain ⟨b, g, Q, n, rfl⟩ : ∃ b g Q n, i = ix4 b g Q n := ⟨i 0, i 1, i 2, i 3, by funext a; fin_cases a <;> rfl⟩
    exact ⟨_, h b g Q n⟩) b g Q
  have hw : ∀ n : Fin 16640, weights S (ix4 b g Q n) = wt (s b g Q n.val) (μ / Real.log 2) := by
    intro n
    rw [weights_at, h, hμ, exp_sub]
  simp only [soft_at, total_at, hw]
  exact ratio (Nat.zero_lt_succ _) (s b g Q) u _

/-- The reference's result is the attention, when the scores are reals. -/
theorem reference_at (q : FVec Ideal S2x8x128x17408 .bf16) (k : FVec Ideal S2x8x17408x128 .bf16) (v : FVec Ideal S2x8x64x17408 .bf16)
    (h : ∀ (b : Fin 2) (g : Fin 8) (Q : Fin 16384) (n : Fin 16640), ∃ r : ℝ, dotE q k b g (wide Q) (key n) = r)
    (b : Fin 2) (g : Fin 8) (d : Fin 64) (Q : Fin 16384) :
    mix v (soft (weights (scores q k))) (ix4 b g d Q) = attn (sc q k b g (wide Q)) (vl v b g d) := by
  have hs : ∀ b g Q (n : Fin 16640), scores q k (ix4 b g Q n) = ((sc q k b g (wide Q) n.val * Real.log 2 : ℝ) : EReal) := by
    intro b g Q n
    obtain ⟨r, hr⟩ := h b g Q n
    unfold sc
    rw [dif_pos (show n.val < 17408 by omega), show (⟨n.val, _⟩ : Fin 17408) = key n from rfl, scores_at, hr, EReal.toReal_coe, EReal.coe_mul]
  have hv : ∀ n : Fin 16640, v (ix4 b g d (key n)) = vl v b g d n.val := by
    intro n
    unfold vl
    rw [dif_pos (show n.val < 17408 by omega)]
    rfl
  rw [mix_at]
  simp only [hv]
  exact attn_of _ (fun b g Q => sc q k b g (wide Q)) hs (vl v b g d) b g Q

/-! ## The precondition -/

/-- A number whose magnitude is below infinity is a real. -/
theorem real_of_abs {x : EReal} (h : Ideal.cmp .olt (max x (-x)) (Ideal.ofBits .f32 0x7F800000#32) = 1#1) : ∃ r : ℝ, x = r := by
  rw [inf32] at h
  have h' : max x (-x) < ⊤ := by
    by_contra hn
    rw [show Ideal.cmp .olt (max x (-x)) ⊤ = 0#1 by simp [Ideal.cmp, hn]] at h
    exact absurd h (by decide)
  refine real_of ?_ ((le_max_left _ _).trans_lt h')
  have := (le_max_right x (-x)).trans_lt h'
  rw [bot_lt_iff_ne_bot]
  rintro rfl
  simp at this

/-- The precondition makes every query and key that is used a real. -/
theorem finite (q : FVec Ideal S2x8x128x17408 .bf16) (k : FVec Ideal S2x8x17408x128 .bf16) (v : FVec Ideal S2x8x64x17408 .bf16)
    (h : Cert.Pre_finite_queries_and_keys.fn q k v = fun _ => 1#1) :
    (∀ b g d Q, ∃ r : ℝ, q (ix4 b g d (wide Q)) = (r : EReal)) ∧ ∀ b g n d, ∃ r : ℝ, k (ix4 b g (key n) d) = (r : EReal) := by
  have e := congrFun h (Shape.Idx.first Cert.Pre_finite_queries_and_keys.Gen.h_S_)
  simp only [Cert.Pre_finite_queries_and_keys.fn, andi] at e
  obtain ⟨e1, e2⟩ := IntOp.andi_eq_one.1 e
  refine ⟨fun b g d Q => ?_, fun b g n d => ?_⟩
  · have := Host.reduce_andi_all _ _ _ _ _ e1 (ix4 b g d Q)
    refine real_of_abs (Eq.trans ?_ this)
    symm
    pointwise [wide]
    rfl
  · have := Host.reduce_andi_all _ _ _ _ _ e2 (ix4 b g n d)
    refine real_of_abs (Eq.trans ?_ this)
    symm
    pointwise [key]
    rfl

/-- Finite queries and keys have real scores. -/
theorem dot_real (q : FVec Ideal S2x8x128x17408 .bf16) (k : FVec Ideal S2x8x17408x128 .bf16) (v : FVec Ideal S2x8x64x17408 .bf16)
    (h : Cert.Pre_finite_queries_and_keys.fn q k v = fun _ => 1#1) (b : Fin 2) (g : Fin 8) (Q : Fin 16384) (n : Fin 16640) :
    ∃ r : ℝ, dotE q k b g (wide Q) (key n) = r := by
  obtain ⟨hq, hk⟩ := finite q k v h
  refine real_sum _ _ fun d => ?_
  obtain ⟨x, hx⟩ := hq b g d Q
  obtain ⟨y, hy⟩ := hk b g n d
  exact ⟨y * x, by rw [hx, hy, EReal.coe_mul]⟩

/-- The kernel's scores are reals, -/
theorem realScores (m : (ℓ : Loc Cert.KernelIdeal.nD Cert.KernelIdeal.τ Cert.KernelIdeal.sig) → Buf (Elt Ideal) ℓ) (c : Dev Cert.KernelIdeal.nD)
    (h : Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = fun _ => 1#1) :
    RealScores m c := fun b g Q n hQ hn => dot_real _ _ _ h b g ⟨Q.val, hQ⟩ ⟨n.val, hn⟩

/-- and the reference's result is the attention of its arguments. -/
theorem reference_eq (q : FVec Ideal S2x8x128x17408 .bf16) (k : FVec Ideal S2x8x17408x128 .bf16) (v : FVec Ideal S2x8x64x17408 .bf16)
    (h : Cert.Pre_finite_queries_and_keys.fn q k v = fun _ => 1#1) :
    mix v (soft (weights (scores q k))) = attention q k v := by
  funext y
  obtain ⟨b, g, d, Q, rfl⟩ : ∃ b g d Q, y = ix4 b g d Q := ⟨y 0, y 1, y 2, y 3, by funext a; fin_cases a <;> rfl⟩
  exact reference_at q k v (dot_real q k v h) b g d Q

end Cert.ReferenceIdeal.Softmax
end
-- ==== Proof.GroupedIdeal.Redo.lean ====
/- The exact pass of the streaming attention body (the loop over the heads which the body runs when a weight of the
   tile is too large for its reference): what one head's trip leaves in the two carried buffers, and the loop by that.
   The buffers' contents before trip `k` are a function of the contents before the loop (`redo`). -/
module

public import proofs.«01_k».proof.Proof.Gen.GroupedIdeal.Frame
public import proofs.«01_k».proof.Proof.Gen.GroupedIdeal.Loops
public import Idealize.ShloMosaic.Lib.Tactic

@[expose] public section

set_option maxRecDepth 16384
set_option maxHeartbeats 4000000

noncomputable section

namespace Cert.GroupedIdeal.Body

open Cert.GroupedIdeal Cert.GroupedIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦[M.view.set]{fullShare} f

variable (c : Dev nD) (i : grid0.Coords) (arg3 : Memref sig .tc .vmem S1x8x128x512 .bf16) (harg3 : arg3.IsWhole) (arg4 : Memref sig .tc .vmem S1x1x3328x128 .bf16) (harg4 : arg4.IsWhole) (arg5 : Memref sig .tc .vmem S1x2x64x3328 .bf16) (harg5 : arg5.IsWhole) (arg6 : Memref sig .tc .vmem S1x8x64x512 .bf16) (harg6 : arg6.IsWhole) (arg7 : Memref sig .tc .vmem S2x8x1x512 .f32) (harg7 : arg7.IsWhole) (arg8 : Memref sig .tc .vmem S2x8x72x512 .f32) (harg8 : arg8.IsWhole) (arg9 : Memref sig .tc .vmem S8x64x512 .f32) (harg9 : arg9.IsWhole) (v0 v1 : BitVec 32)
  (f3 : Bf (F := F) c arg3) (f4 : Bf (F := F) c arg4) (f5 : Bf (F := F) c arg5)

/-- One head's trip, from the carried buffers at `f7`, `f8`: what it leaves in them, with the run. -/
def trip (k : Fin k0_t1_loop.trips) (f7 : Bf (F := F) c arg7) (f8 : Bf (F := F) c arg8) :
    { R : Bf (F := F) c arg7 × Bf (F := F) c arg8 // ∀ (acc : Unit),
      iprop(pt c arg3 f3 ∗ pt c arg4 f4 ∗ pt c arg5 f5 ∗ pt c arg7 f7 ∗ pt c arg8 f8)
      ⊢ wp Idealize.ShloMosaic.frame (wpE (defs₀ (F := F)) Variants.none c none) Set.univ
        (k0_t1_body (F := F) i arg3 harg3 arg4 harg4 arg5 harg5 arg6 harg6 arg7 harg7 arg8 harg8 arg9 harg9 v0 v1 k acc)
        (fun _ => iprop(pt c arg3 f3 ∗ pt c arg4 f4 ∗ pt c arg5 f5 ∗ pt c arg7 R.1 ∗ pt c arg8 R.2)) } := by
  have hk : k.val < 8 := k.isLt
  refine ⟨⟨?_, ?_⟩, fun acc => ?run⟩
  case run =>
    unfold k0_t1_body
    iintro ⟨H3, H4, H5, H7, H8⟩
    sl_open_parts
    sl_exec
    simp only [bind_assoc]
    sl_exec
    sl_step
    isplitl [H3]; · iexact H3
    isplitl [H4]; · iexact H4
    isplitl [H5]; · iexact H5
    isplitl [H7]; · iexact H7
    iexact H8

/-- The carried buffers before trip `n` of the exact pass, from their contents before it. -/
def redo (f7 : Bf (F := F) c arg7) (f8 : Bf (F := F) c arg8) : ℕ → Bf (F := F) c arg7 × Bf (F := F) c arg8
  | 0 => (f7, f8)
  | n + 1 =>
    if h : n < k0_t1_loop.trips then
      (trip c i arg3 harg3 arg4 harg4 arg5 harg5 arg6 harg6 arg7 harg7 arg8 harg8 arg9 harg9 v0 v1 f3 f4 f5 ⟨n, h⟩ (redo f7 f8 n).1 (redo f7 f8 n).2).1
    else redo f7 f8 n

theorem redo_succ (f7 : Bf (F := F) c arg7) (f8 : Bf (F := F) c arg8) (k : Fin k0_t1_loop.trips) :
    redo c i arg3 harg3 arg4 harg4 arg5 harg5 arg6 harg6 arg7 harg7 arg8 harg8 arg9 harg9 v0 v1 f3 f4 f5 f7 f8 (k.val + 1)
      = (trip c i arg3 harg3 arg4 harg4 arg5 harg5 arg6 harg6 arg7 harg7 arg8 harg8 arg9 harg9 v0 v1 f3 f4 f5 k
          (redo c i arg3 harg3 arg4 harg4 arg5 harg5 arg6 harg6 arg7 harg7 arg8 harg8 arg9 harg9 v0 v1 f3 f4 f5 f7 f8 k.val).1
          (redo c i arg3 harg3 arg4 harg4 arg5 harg5 arg6 harg6 arg7 harg7 arg8 harg8 arg9 harg9 v0 v1 f3 f4 f5 f7 f8 k.val).2).1 := by
  rw [redo.eq_2, dif_pos k.isLt]

/-- The resources of the exact pass before trip `n`. -/
def redoInv (f7 : Bf (F := F) c arg7) (f8 : Bf (F := F) c arg8) (n : ℕ) (_ : Unit) : sProp 𝕄 :=
  iprop(pt c arg3 f3 ∗ pt c arg4 f4 ∗ pt c arg5 f5
    ∗ pt c arg7 (redo c i arg3 harg3 arg4 harg4 arg5 harg5 arg6 harg6 arg7 harg7 arg8 harg8 arg9 harg9 v0 v1 f3 f4 f5 f7 f8 n).1
    ∗ pt c arg8 (redo c i arg3 harg3 arg4 harg4 arg5 harg5 arg6 harg6 arg7 harg7 arg8 harg8 arg9 harg9 v0 v1 f3 f4 f5 f7 f8 n).2)

theorem redo_step (f7 : Bf (F := F) c arg7) (f8 : Bf (F := F) c arg8) (k : Fin k0_t1_loop.trips) (acc : Unit) :
    redoInv c i arg3 harg3 arg4 harg4 arg5 harg5 arg6 harg6 arg7 harg7 arg8 harg8 arg9 harg9 v0 v1 f3 f4 f5 f7 f8 k.val acc
      ⊢ wp Idealize.ShloMosaic.frame (wpE (defs₀ (F := F)) Variants.none c none) Set.univ
        (k0_t1_body (F := F) i arg3 harg3 arg4 harg4 arg5 harg5 arg6 harg6 arg7 harg7 arg8 harg8 arg9 harg9 v0 v1 k acc)
        (redoInv c i arg3 harg3 arg4 harg4 arg5 harg5 arg6 harg6 arg7 harg7 arg8 harg8 arg9 harg9 v0 v1 f3 f4 f5 f7 f8 (k.val + 1)) := by
  unfold redoInv
  rw [redo_succ]
  exact (trip c i arg3 harg3 arg4 harg4 arg5 harg5 arg6 harg6 arg7 harg7 arg8 harg8 arg9 harg9 v0 v1 f3 f4 f5 k _ _).2 acc

end Cert.GroupedIdeal.Body
end
-- ==== Proof.GroupedIdeal.Body.lean ====
/- The streaming attention body, run once at symbolic operands: what it leaves in the carried buffers (running
   reference, weighted sums, scratch) and in the result's staging buffer, as functions of what it finds. -/
module

public import proofs.«01_k».proof.Proof.GroupedIdeal.Redo
public import Idealize.ShloMosaic.Lib.Tactic

@[expose] public section

set_option maxRecDepth 16384
set_option maxHeartbeats 1000000

noncomputable section

namespace Cert.GroupedIdeal.Body

open Cert.GroupedIdeal Cert.GroupedIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg3 : Memref sig .tc .vmem S1x8x128x512 .bf16) (harg3 : arg3.IsWhole) (arg4 : Memref sig .tc .vmem S1x1x3328x128 .bf16) (harg4 : arg4.IsWhole) (arg5 : Memref sig .tc .vmem S1x2x64x3328 .bf16) (harg5 : arg5.IsWhole) (arg6 : Memref sig .tc .vmem S1x8x64x512 .bf16) (harg6 : arg6.IsWhole) (arg7 : Memref sig .tc .vmem S2x8x1x512 .f32) (harg7 : arg7.IsWhole) (arg8 : Memref sig .tc .vmem S2x8x72x512 .f32) (harg8 : arg8.IsWhole) (arg9 : Memref sig .tc .vmem S8x64x512 .f32) (harg9 : arg9.IsWhole)
  (f3 : Bf (F := F) c arg3) (f4 : Bf (F := F) c arg4) (f5 : Bf (F := F) c arg5)

/-- The body's run, from what it finds to what it leaves. `w7`, `w8`, `w9`: the carried buffers when every weight of the tile is
    moderate; otherwise the exact pass over them follows (`redo`). `w6`: the result's staging buffer, from what it held
    and what the carried sums end at. -/
def Runs (f7 : Bf (F := F) c arg7) (f8 : Bf (F := F) c arg8) (f9 : Bf (F := F) c arg9)
    (w7 : Bf (F := F) c arg7) (w8 : Bf (F := F) c arg8) (w9 : Bf (F := F) c arg9)
    (w6 : Bf (F := F) c arg6 → Bf (F := F) c arg8 → Bf (F := F) c arg6) : Prop :=
  ∀ (f6 : Bf (F := F) c arg6) (Q : PUnit → sProp 𝕄) (K : sProp 𝕄),
    (K ⊢ ∀ (f7' : Bf (F := F) c arg7) (f8' : Bf (F := F) c arg8),
      ⌜(f7' = w7 ∧ f8' = w8)
        ∨ (f7' = (redo c i arg3 harg3 arg4 harg4 arg5 harg5 arg6 harg6 arg7 harg7 arg8 harg8 arg9 harg9 (Scalar.remsi (BitVec.ofNat 32 (i 2).val) 2#32) (Scalar.subi 1#32 (Scalar.remsi (BitVec.ofNat 32 (i 2).val) 2#32)) f3 f4 f5 w7 w8 k0_t1_loop.trips).1
          ∧ f8' = (redo c i arg3 harg3 arg4 harg4 arg5 harg5 arg6 harg6 arg7 harg7 arg8 harg8 arg9 harg9 (Scalar.remsi (BitVec.ofNat 32 (i 2).val) 2#32) (Scalar.subi 1#32 (Scalar.remsi (BitVec.ofNat 32 (i 2).val) 2#32)) f3 f4 f5 w7 w8 k0_t1_loop.trips).2)⌝ -∗
      iprop(pt c arg3 f3 ∗ pt c arg4 f4 ∗ pt c arg5 f5 ∗ pt c arg6 (w6 f6 f8') ∗ pt c arg7 f7' ∗ pt c arg8 f8' ∗ pt c arg9 w9) -∗ Q ⟨⟩) →
    (iprop(pt c arg3 f3 ∗ pt c arg4 f4 ∗ pt c arg5 f5 ∗ pt c arg6 f6 ∗ pt c arg7 f7 ∗ pt c arg8 f8 ∗ pt c arg9 f9 ∗ K)
    ⊢ wp Idealize.ShloMosaic.frame (wpE (defs₀ (F := F)) Variants.none c none) Set.univ
      (cc0_flash_gqa (F := F) i arg3 harg3 arg4 harg4 arg5 harg5 arg6 harg6 arg7 harg7 arg8 harg8 arg9 harg9) Q)

/-- What the body leaves, and its run. -/
def bodyRun (f7 : Bf (F := F) c arg7) (f8 : Bf (F := F) c arg8) (f9 : Bf (F := F) c arg9) :
    { W : Bf (F := F) c arg7 × Bf (F := F) c arg8 × Bf (F := F) c arg9 × (Bf (F := F) c arg6 → Bf (F := F) c arg8 → Bf (F := F) c arg6) //
      Runs c i arg3 harg3 arg4 harg4 arg5 harg5 arg6 harg6 arg7 harg7 arg8 harg8 arg9 harg9 f3 f4 f5 f7 f8 f9 W.1 W.2.1 W.2.2.1 W.2.2.2 } := by
  refine ⟨⟨?w7, ?w8, ?w9, ?w6⟩, ?run⟩
  case run =>
    dsimp only
    unfold Runs
    intro f6 Q K hK
    iintro ⟨H3, H4, H5, H6, H7, H8, H9, Hk⟩
    sl_exec_parts
    ihave H7 : iprop(pt c arg7 ?w7) $$ [H7]
    · iexact H7
    ihave H8 : iprop(pt c arg8 ?w8) $$ [H8]
    · iexact H8
    ihave H9 : iprop(pt c arg9 ?w9) $$ [H9]
    · iexact H9
    by_cases hr : bodyRun.sl.v3507 c i arg3 arg4 arg7 f3 f4 f7 = 1#1
    swap
    · rw [if_neg hr]
      ihave H8 : iprop(∃ f8' : Bf c arg8, ⌜f8' = ?w8⌝ ∗ pt c arg8 f8') $$ [H8]
      · iexists ?w8
        isplitr; · ipureintro; exact rfl
        iexact H8
      icases H8 with ⟨%f8', %h8, H8⟩
      sl_exec_parts
      sl_step
      ihave Hk := hK $$ Hk
      iapply Hk $$ %_ %f8' %(Or.inl ⟨rfl, h8⟩)
      isplitl [H3]; · iexact H3
      isplitl [H4]; · iexact H4
      isplitl [H5]; · iexact H5
      isplitl [H6]; · iexact H6
      isplitl [H7]; · iexact H7
      isplitl [H8]; · iexact H8
      iexact H9
    · rw [if_pos hr]
      iapply (Scf.wp_for_bind Idealize.ShloMosaic.frame (wpE (defs₀ (F := F)) Variants.none c none) Set.univ _ _ _ k0_t1_ok _ _
        (redoInv c i arg3 harg3 arg4 harg4 arg5 harg5 arg6 harg6 arg7 harg7 arg8 harg8 arg9 harg9 (Scalar.remsi (BitVec.ofNat 32 (i 2).val) 2#32) (Scalar.subi 1#32 (Scalar.remsi (BitVec.ofNat 32 (i 2).val) 2#32)) f3 f4 f5 ?w7 ?w8) (redo_step c i arg3 harg3 arg4 harg4 arg5 harg5 arg6 harg6 arg7 harg7 arg8 harg8 arg9 harg9 (Scalar.remsi (BitVec.ofNat 32 (i 2).val) 2#32) (Scalar.subi 1#32 (Scalar.remsi (BitVec.ofNat 32 (i 2).val) 2#32)) f3 f4 f5 ?w7 ?w8)) $$ [H3 H4 H5 H7 H8]
      · unfold redoInv redo
        isplitl [H3]; · iexact H3
        isplitl [H4]; · iexact H4
        isplitl [H5]; · iexact H5
        isplitl [H7]; · iexact H7
        iexact H8
      iintro %s Hinv
      unfold redoInv
      icases Hinv with ⟨H3, H4, H5, H7, H8⟩
      generalize hr7 : (redo c i arg3 harg3 arg4 harg4 arg5 harg5 arg6 harg6 arg7 harg7 arg8 harg8 arg9 harg9 (Scalar.remsi (BitVec.ofNat 32 (i 2).val) 2#32) (Scalar.subi 1#32 (Scalar.remsi (BitVec.ofNat 32 (i 2).val) 2#32)) f3 f4 f5 _ _ k0_t1_loop.trips).1 = f7'
      generalize hr8 : (redo c i arg3 harg3 arg4 harg4 arg5 harg5 arg6 harg6 arg7 harg7 arg8 harg8 arg9 harg9 (Scalar.remsi (BitVec.ofNat 32 (i 2).val) 2#32) (Scalar.subi 1#32 (Scalar.remsi (BitVec.ofNat 32 (i 2).val) 2#32)) f3 f4 f5 _ _ k0_t1_loop.trips).2 = f8'
      sl_exec_parts
      sl_step
      ihave Hk := hK $$ Hk
      iapply Hk $$ %f7' %f8' %(Or.inr ⟨hr7.symm, hr8.symm⟩)
      isplitl [H3]; · iexact H3
      isplitl [H4]; · iexact H4
      isplitl [H5]; · iexact H5
      isplitl [H6]; · iexact H6
      isplitl [H7]; · iexact H7
      isplitl [H8]; · iexact H8
      iexact H9

end Cert.GroupedIdeal.Body
end
-- ==== Proof.GroupedIdeal.Run.lean ====
/- The streaming attention kernel's run: the pipeline's proof data, the obligation its body meets, and the launch. What the
   carried buffers hold before a point (`Inv`) and what a point leaves in the result's staging buffer (`Post`) are
   parameters; `Steps` is what they must satisfy. -/
module

public import proofs.«01_k».proof.Proof.GroupedIdeal.Body
public import Idealize.ShloMosaic.Lib.Pipeline.DatRel
public import Idealize.ShloMosaic.Lib.Pipeline.ArrRel
public import Idealize.ShloMosaic.Lib.Tactic

@[expose] public section

set_option maxRecDepth 16384
set_option maxHeartbeats 1000000

noncomputable section

namespace Cert.GroupedIdeal.Body

open Cert.GroupedIdeal Cert.GroupedIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Idealize.ShloMosaic.Pipeline (Dat Cfg Window BodyObligationRel)

local notation "𝕄" => MT nD τ sig Unit (Elt F) ℕ (UR sig nD τ) ℕ

/-- The carried buffers: the running references, the weighted sums with the weights' sum, and the scratch of the products. -/
abbrev scM : Memref sig .tc .vmem S2x8x1x512 .f32 := Memref.whole cc0_scratch0
abbrev scS : Memref sig .tc .vmem S2x8x72x512 .f32 := Memref.whole cc0_scratch1
abbrev scP : Memref sig .tc .vmem S8x64x512 .f32 := Memref.whole cc0_scratch2

/-- The body's run at point `t`. -/
abbrev runAt (c : Dev nD) (t : Fin cfg0.N) (f3 : Bf (F := F) c (st0_0 t)) (f4 : Bf (F := F) c (st0_1 t)) (f5 : Bf (F := F) c (st0_2 t))
    (f7 : Bf (F := F) c scM) (f8 : Bf (F := F) c scS) (f9 : Bf (F := F) c scP) :=
  bodyRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM (Memref.isWhole_whole _) scS (Memref.isWhole_whole _) scP (Memref.isWhole_whole _) f3 f4 f5 f7 f8 f9

/-- The exact pass at point `t`, over all heads. -/
abbrev redoAt (c : Dev nD) (t : Fin cfg0.N) (f3 : Bf (F := F) c (st0_0 t)) (f4 : Bf (F := F) c (st0_1 t)) (f5 : Bf (F := F) c (st0_2 t))
    (f7 : Bf (F := F) c scM) (f8 : Bf (F := F) c scS) (n : ℕ) :=
  redo (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM (Memref.isWhole_whole _) scS (Memref.isWhole_whole _) scP (Memref.isWhole_whole _) (Scalar.remsi (BitVec.ofNat 32 ((grid0.coords t) 2).val) 2#32) (Scalar.subi 1#32 (Scalar.remsi (BitVec.ofNat 32 ((grid0.coords t) 2).val) 2#32)) f3 f4 f5 f7 f8 n

variable (m : (ℓ : Loc nD τ sig) → Buf (Elt F) ℓ) (ρ : Dev nD → PrngReg)
variable (Inv : (c : Dev nD) → ℕ → Bf (F := F) c scM → Bf (F := F) c scS → Prop)
variable (Post : (c : Dev nD) → Fin cfg0.N → (S1x8x64x512.Idx → Elt F .bf16) → Prop)

/-- What the invariant and the postcondition must satisfy: the invariant holds at launch whatever the buffers hold, and a point
    carries it on and leaves the postcondition. -/
structure Steps : Prop where
  zero : ∀ c f7 f8, Inv c 0 f7 f8
  step : ∀ (c : Dev nD) (t : Fin cfg0.N) (f3 : Bf (F := F) c (st0_0 t)) (f4 : Bf (F := F) c (st0_1 t)) (f5 : Bf (F := F) c (st0_2 t))
    (f6 : Bf (F := F) c (st0_3 t)) (f7 : Bf (F := F) c scM) (f8 : Bf (F := F) c scS) (f9 : Bf (F := F) c scP)
    (f7' : Bf (F := F) c scM) (f8' : Bf (F := F) c scS),
    (st0_0 t).view.read (Elt F) f3 = iblk m c 0 t → (st0_1 t).view.read (Elt F) f4 = X0_1 m c t →
    (st0_2 t).view.read (Elt F) f5 = X0_2 m c t → Inv c t.val f7 f8 →
    ((f7' = (runAt c t f3 f4 f5 f7 f8 f9).1.1 ∧ f8' = (runAt c t f3 f4 f5 f7 f8 f9).1.2.1)
      ∨ (f7' = (redoAt c t f3 f4 f5 (runAt c t f3 f4 f5 f7 f8 f9).1.1 (runAt c t f3 f4 f5 f7 f8 f9).1.2.1 k0_t1_loop.trips).1
        ∧ f8' = (redoAt c t f3 f4 f5 (runAt c t f3 f4 f5 f7 f8 f9).1.1 (runAt c t f3 f4 f5 f7 f8 f9).1.2.1 k0_t1_loop.trips).2)) →
    Inv c (t.val + 1) f7' f8' ∧ Post c t ((st0_3 t).view.read (Elt F) ((runAt c t f3 f4 f5 f7 f8 f9).1.2.2.2 f6 f8'))

/-- The invariant before point `n`: the carried buffers at contents which satisfy `Inv`, the scratch and the core's generator
    register at something. -/
def Φ (c : Dev nD) (n : ℕ) : sProp 𝕄 :=
  iprop((∃ (f7 : Bf (F := F) c scM) (f8 : Bf (F := F) c scS) (f9 : Bf (F := F) c scP), ⌜Inv c n f7 f8⌝ ∗ pt c scM f7 ∗ pt c scS f8 ∗ pt c scP f9)
    ∗ ∃ r, prngReg c r)

/-- The proof data on core `c`: the arrays as launched; the inputs' staging buffers left in place; nothing named of the
    result's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => fun _ => Classical.choice inferInstance
  Φ t := Φ Inv c t.val
  q _ := fullShare
  owed _ := 0

/-- Only the result is held to a postcondition. -/
def held : Fin 4 → Bool := fun | 3 => true | _ => false
def rel (c : Dev nD) (w : Fin cfg0.W) (t : Fin cfg0.N) : ((cfg0.win w).block.Idx → Elt F (cfg0.win w).elt) → Prop :=
  match w with
    | ⟨0, _⟩ => fun _ => True
    | ⟨1, _⟩ => fun _ => True
    | ⟨2, _⟩ => fun _ => True
    | ⟨3, _⟩ => fun X => Post c t X

theorem defs₀_row (t : Fin cfg0.N) : defs₀ (F := F) .tc cfg0.body (cfg0.bodyArgs t (cfg0.slots t)) = bodyAt0 t := by
  unfold defs₀; rw [Defs.onTc_tc]

variable (hS : Steps m Inv Post)
include hS

theorem sound_body (c : Dev nD) (t : Fin cfg0.N) :
    iprop((dats m Inv 0 c).Φ t.castSucc ∗ (dats m Inv 0 c).owesAt () t.castSucc
      ∗ (∃ d, owns (c : Thread nD τ) (st0_0 t) fullShare ((dats m Inv 0 c).before 0 t d))
      ∗ (∃ d, owns (c : Thread nD τ) (st0_1 t) fullShare ((dats m Inv 0 c).before 1 t d))
      ∗ (∃ d, owns (c : Thread nD τ) (st0_2 t) fullShare ((dats m Inv 0 c).before 2 t d))
      ∗ (∃ Y, ⌜((dats m Inv 0 c).toRRel held (rel Post c)).Finds 3 t Y⌝ ∗ owns (c : Thread nD τ) (st0_3 t) fullShare Y))
    ⊢ wp Idealize.ShloMosaic.frame (wpE (defs₀ (F := F)) Variants.none c none) Set.univ (bodyAt0 t) (fun _ =>
      iprop((dats m Inv 0 c).Φ t.succ ∗ (dats m Inv 0 c).owesAt () t.succ
        ∗ owns (c : Thread nD τ) (st0_0 t) fullShare ((dats m Inv 0 c).after 0 t)
        ∗ (∃ d, owns (c : Thread nD τ) (st0_1 t) fullShare ((cfg0.win 1).fill (cfg0.grid.coords t) d ((cfg0.win 1).cut (cfg0.grid.coords t) ((dats m Inv 0 c).after 1 t))))
        ∗ (∃ d, owns (c : Thread nD τ) (st0_2 t) fullShare ((cfg0.win 2).fill (cfg0.grid.coords t) d ((cfg0.win 2).cut (cfg0.grid.coords t) ((dats m Inv 0 c).after 2 t))))
        ∗ (∃ X, ⌜rel Post c 3 t X⌝ ∗ owns (c : Thread nD τ) (st0_3 t) fullShare X))) := by
  rw [show (dats m Inv 0 c).owesAt () t.succ = (dats m Inv 0 c).owesAt () t.castSucc from rfl,
    show (dats m Inv 0 c).Φ t.castSucc = Φ Inv c t.val from rfl, show (dats m Inv 0 c).Φ t.succ = Φ Inv c (t.val + 1) from rfl]
  unfold Φ owns bodyAt0
  iintro ⟨⟨⟨%f7, %f8, %f9, %hI, H7, H8, H9⟩, Hg⟩, HO, ⟨%d0, %f3, %h3, H3⟩, ⟨%d1, %f4, %h4, H4⟩, ⟨%d2, %f5, %h5, H5⟩, ⟨%Y, -, %f6, -, H6⟩⟩
  rw [before0_0_of m (dats m Inv 0 c) rfl (fun _ => rfl)] at h3
  rw [before0_1_of m (dats m Inv 0 c) rfl (fun _ => rfl)] at h4
  rw [before0_2_of m (dats m Inv 0 c) rfl (fun _ => rfl)] at h5
  iapply ((runAt c t f3 f4 f5 f7 f8 f9).2 f6 _ _ .rfl)
  isplitl [H3]; · iexact H3
  isplitl [H4]; · iexact H4
  isplitl [H5]; · iexact H5
  isplitl [H6]; · iexact H6
  isplitl [H7]; · iexact H7
  isplitl [H8]; · iexact H8
  isplitl [H9]; · iexact H9
  iintro %f7' %f8' %hL ⟨H3, H4, H5, H6, H7, H8, H9⟩
  have hs := hS.step c t f3 f4 f5 f6 f7 f8 f9 f7' f8' h3 h4 h5 hI hL
  isplitl [H7 H8 H9 Hg]
  · isplitr [Hg]
    · iexists f7', f8', _
      isplitr; · ipureintro; exact hs.1
      isplitl [H7]; · iexact H7
      isplitl [H8]; · iexact H8
      iexact H9
    iexact Hg
  isplitl [HO]; · iexact HO
  isplitl [H3]
  · iexists f3
    isplitr; · ipureintro; exact h3
    iexact H3
  isplitl [H4]
  · iexists dflt0_1, f4
    isplitr
    · ipureintro; rw [h4]; show X0_1 m c t = (cfg0.win 1).fill (cfg0.grid.coords t) dflt0_1 ((cfg0.win 1).cut (cfg0.grid.coords t) (X0_1 m c t))
      unfold X0_1; rw [Pipeline.Window.cut_fill]
    iexact H4
  isplitl [H5]
  · iexists dflt0_2, f5
    isplitr
    · ipureintro; rw [h5]; show X0_2 m c t = (cfg0.win 2).fill (cfg0.grid.coords t) dflt0_2 ((cfg0.win 2).cut (cfg0.grid.coords t) (X0_2 m c t))
      unfold X0_2; rw [Pipeline.Window.cut_fill]
    iexact H5
  iexists _
  isplitr; · ipureintro; exact hs.2
  iexists _
  isplitr; swap; · iexact H6
  ipureintro; rfl

/-- The library's body obligation, the result held to `Post`. -/
theorem body_obligation (c : Dev nD) :
    BodyObligationRel (dats m Inv 0 c) (defs₀ (F := F)) Variants.none () Set.univ held (rel Post c) := fun t => by
  rw [bigSep_W0, bigSep_W0, defs₀_row]
  exact triple_restated (sound_body m Inv Post hS c t) rfl .rfl fun _ => .rfl

set_option backward.isDefEq.respectTransparency.types false in
/-- Every weakly fair execution of @main on the TensorCores terminates, in a state in which every counter is zero, the inputs'
    arrays are as launched and the result's array is overwritten at each write-back by a block that satisfies `Post`. -/
theorem run_main :
    θ_run defs (onTc (τ := τ) (main (F := F))) (s₀ m ρ)
      (fun r => Pipeline.RDat.FramePost (cfgs 0) (fun c => (dats m Inv 0 c).toRRel held (rel Post c)) (V m) r ∧ r.2.sem = fun _ => 0) :=
  Pipeline.RDat.θ_run_frame_track (Q' := _) cfgs (0 : Fin 1) launch0 defs₀ Variants.none (fun c => (dats m Inv 0 c).toRRel held (rel Post c)) m ρ main
    (hbody := fun c => (body_obligation m Inv Post hS c).toRRel) (hshare := fun c => (dats m Inv 0 c).share_full fun _ => rfl)
    (howed := fun _ _ => rfl) (V := V m) (hmain := hmain m Variants.none) (hA := fun _ _ => rfl)
    (hin := fun c => by
      show _ ⊢ Φ Inv c 0
      unfold Pipeline.ΦA Φ
      rw [show (cfgs 0).spec = spec0 from rfl, scopedRest0_eq]
      iintro ⟨⟨⟨%f7, H7⟩, ⟨%f8, H8⟩, ⟨%f9, H9⟩⟩, Hg⟩
      isplitr [Hg]
      · iexists f7, f8, f9
        isplitr; · ipureintro; exact hS.zero c f7 f8
        unfold pt
        simp only [Memref.view_whole, View.set_whole]
        isplitl [H7]; · iexact H7
        isplitl [H8]; · iexact H8
        iexact H9
      iexact Hg)
    (hout := fun c => by
      show Φ Inv c _ ⊢ _
      unfold Pipeline.ΦA Φ
      rw [show (cfgs 0).spec = spec0 from rfl, scopedRest0_eq]
      unfold pt
      simp only [Memref.view_whole, View.set_whole]
      iintro ⟨⟨%f7, %f8, %f9, -, H7, H8, H9⟩, Hg⟩
      isplitr [Hg]
      · isplitl [H7]; · iexists f7; iexact H7
        isplitl [H8]; · iexists f8; iexact H8
        iexists f9; iexact H9
      iexact Hg)

end Cert.GroupedIdeal.Body
end
-- ==== Proof.GroupedIdeal.Frame.lean ====
/- The frame of the streaming attention kernel: its run at the invariant which says nothing. -/
module

public import proofs.«01_k».proof.Proof.GroupedIdeal.Run

@[expose] public section

noncomputable section

namespace Cert.GroupedIdeal.Body

open Cert.GroupedIdeal Cert.GroupedIdeal.Gen

open Idealize.ShloMosaic
open Idealize.ShloMosaic.TcCoe
open Idealize.SL.Sem

variable {F : FTy → Type} [FloatOps F] [Named F]

variable (m : (ℓ : Loc nD τ sig) → Buf (Elt F) ℓ) (ρ : Dev nD → PrngReg)

/-- From the run, at any invariant and postcondition, the inputs' arrays as launched and the counters at zero. -/
theorem args_of {Inv : (c : Dev nD) → ℕ → Bf (F := F) c scM → Bf (F := F) c scS → Prop}
    {Post : (c : Dev nD) → Fin cfg0.N → (S1x8x64x512.Idx → Elt F .bf16) → Prop} {r : PUnit × MemSt nD τ sig (Elt F)}
    (h : Pipeline.RDat.FramePost (cfgs 0) (fun c => (dats m Inv 0 c).toRRel held (rel Post c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(congrFun (((dats m Inv 0 c).toRRel held (rel Post c)).ArrAt_in 0 rfl _) _).mp ((h c).1 0),
    (congrFun (((dats m Inv 0 c).toRRel held (rel Post c)).ArrAt_in 1 rfl _) _).mp ((h c).1 1),
    (congrFun (((dats m Inv 0 c).toRRel held (rel Post c)).ArrAt_in 2 rfl _) _).mp ((h c).1 2)⟩

/-- The kernel terminates with its inputs unchanged and every counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_of m h.1, h.2⟩)
    (run_main m ρ (fun _ _ _ _ => True) (fun _ _ _ => True)
      ⟨fun _ _ _ => trivial, fun _ _ _ _ _ _ _ _ _ _ _ _ _ _ _ _ => ⟨trivial, trivial⟩⟩)

end Cert.GroupedIdeal.Body
end
-- ==== Proof.GroupedStream.Loads.lean ====
/- The loads of the grouped streaming attention kernel's body: a head's queries, the keys, which all heads share, and the
   values of the head's group, four heads to a group. The tile functions are the other kernel's. -/
module

public import proofs.«01_k».proof.Proof.GroupedIdeal.Run
public import proofs.«01_k».proof.Proof.Stream.Reference

@[expose] public section

set_option maxRecDepth 16384
set_option maxHeartbeats 1000000

noncomputable section

namespace Cert.GroupedIdeal.Stream

open Cert.GroupedIdeal Cert.GroupedIdeal.Gen Cert.GroupedIdeal.Body

open Idealize.ShloMosaic

variable {F : FTy → Type} [FloatOps F] [Named F]

/-! ## The loads -/

theorem inbQ (g : Fin 8) : ∀ a, (![0, g.val, 0, 0] : Fin 4 → ℕ) a + S1x1x128x512.size a ≤ S1x8x128x512.size a := by revert g; decide
theorem inbK (n : Fin 13) : ∀ a, (![0, 0, 256 * n.val, 0] : Fin 4 → ℕ) a + S1x1x256x128.size a ≤ S1x1x3328x128.size a := by revert n; decide
theorem inbK0 : ∀ a, (![0, 0, 0, 0] : Fin 4 → ℕ) a + S1x1x16x128.size a ≤ S1x1x3328x128.size a := by decide
theorem inbV (g : Fin 8) (n : Fin 13) : ∀ a, (![0, g.val / 4, 0, 256 * n.val] : Fin 4 → ℕ) a + S1x1x64x256.size a ≤ S1x2x64x3328.size a := by revert g n; decide
theorem inbM0 (g : Fin 8) : ∀ a, (![0, g.val, 0, 0] : Fin 4 → ℕ) a + S1x1x1x512.size a ≤ S2x8x1x512.size a := by revert g; decide

section Loads

variable (c : Dev nD) (i : grid0.Coords) (arg3 : Memref sig .tc .vmem S1x8x128x512 .bf16) (arg4 : Memref sig .tc .vmem S1x1x3328x128 .bf16) (arg5 : Memref sig .tc .vmem S1x2x64x3328 .bf16)
  (arg7 : Memref sig .tc .vmem S2x8x1x512 .f32) (arg8 : Memref sig .tc .vmem S2x8x72x512 .f32)
  (f3 : Bf (F := F) c arg3) (f4 : Bf (F := F) c arg4) (f5 : Bf (F := F) c arg5) (f7 : Bf (F := F) c arg7) (f8 : Bf (F := F) c arg8)

/-- The slot the point reads, as the body computes it, and the one it writes. -/
abbrev curW : BitVec 32 := Scalar.remsi (BitVec.ofNat 32 (i 2).val) 2#32
abbrev nxtW : BitVec 32 := Scalar.subi 1#32 (curW i)

/-- Head `g`'s queries, the keys' chunk `n`, and chunk `n` of its group's values. -/
def qOf (g : Fin 8) : Vec F S1x1x128x512 .bf16 :=
  View.readAt (Elt F) arg3.view (Rect.unit (s := S1x8x128x512) ![0, g.val, 0, 0] S1x1x128x512.size (inbQ g)).toLoadRect f3
def kOf (n : Fin 13) : Vec F S1x1x256x128 .bf16 :=
  View.readAt (Elt F) arg4.view (Rect.unit (s := S1x1x3328x128) ![0, 0, 256 * n.val, 0] S1x1x256x128.size (inbK n)).toLoadRect f4
def vOf (g : Fin 8) (n : Fin 13) : Vec F S1x1x64x256 .bf16 :=
  View.readAt (Elt F) arg5.view (Rect.unit (s := S1x2x64x3328) ![0, g.val / 4, 0, 256 * n.val] S1x1x64x256.size (inbV g n)).toLoadRect f5

/-- The first reference of head `g`: the largest of its first sixteen scores. -/
def firstM (g : Fin 8) : Vec F S1x1x1x512 .f32 :=
  shapeCast S1x1x1x512 (shapeCast S1x512 (multiReduction .maximumf [0] S512
    (matmul dot_S16x128_S128x512_S16x512_1_0_0_1_n_n none
      (shapeCast S16x128 (View.readAt (Elt F) arg4.view (Rect.unit (s := S1x1x3328x128) ![0, 0, 0, 0] S1x1x16x128.size inbK0).toLoadRect f4) shapeCasts_S1x1x16x128_S16x128)
      (shapeCast S128x512 (qOf c arg3 f3 g) shapeCasts_S1x1x128x512_S128x512) (constant S16x512 .f32 0x00000000#32))
    0xFF800000#32 reduces_S16x512_S512 (.inl rfl) rfl) shapeCasts_S512_S1x512) shapeCasts_S1x512_S1x1x1x512

/-- The first references of all heads, in slot zero. -/
def initM : List (View.Piece (Elt F) S2x8x1x512 .f32) :=
  [7, 6, 5, 4, 3, 2, 1, 0].map fun g : Fin 8 => ⟨Rect.unit (s := S2x8x1x512) ![0, g.val, 0, 0] S1x1x1x512.size (inbM0 g), firstM c arg3 arg4 f3 f4 g⟩

/-- The references' buffer once the tile pass starts. -/
def start7 : Bf (F := F) c arg7 :=
  if bodyRun.sl.v4 i = 1#1 then arg7.view.writes (Elt F) f7 (initM c arg3 arg4 f3 f4) else f7

end Loads

end Cert.GroupedIdeal.Stream
end
-- ==== Proof.GroupedStream.Pieces.lean ====
/- What the grouped body's main pass leaves in the carried buffers, head by head: the pieces its run writes are the tile
   functions of the head's loads. -/
module

public import proofs.«01_k».proof.Proof.GroupedStream.Loads

@[expose] public section

set_option maxRecDepth 65536
set_option maxHeartbeats 1000000

noncomputable section

namespace Cert.GroupedIdeal.Stream

open Cert.GroupedIdeal Cert.GroupedIdeal.Gen Cert.GroupedIdeal.Body

open Cert.KernelIdeal.Stream (chain scores weights weightsM partL partM partV sumL maxM sumV peak newM rescale newA newL outA)

open Idealize.ShloMosaic

variable {F : FTy → Type} [FloatOps F] [Named F]

/-- The offsets of head `g`'s row `r` in the slot read, and in the slot written. -/
abbrev offC (i : grid0.Coords) (g r : ℕ) : Fin 4 → ℕ := ![(Scalar.indexCast (curW i)).toNat, g, r, 0]
abbrev offN (i : grid0.Coords) (g r : ℕ) : Fin 4 → ℕ := ![(Scalar.indexCast (nxtW i)).toNat, g, r, 0]

theorem curW_toNat (i : grid0.Coords) : (Scalar.indexCast (curW i)).toNat = (i 2).val % 2 := by
  have h : (i 2).val < 5 := (i 2).isLt
  unfold curW
  generalize (i 2).val = n at *
  revert h n; decide

theorem nxtW_toNat (i : grid0.Coords) : (Scalar.indexCast (nxtW i)).toNat = 1 - (i 2).val % 2 := by
  have h : (i 2).val < 5 := (i 2).isLt
  unfold nxtW curW
  generalize (i 2).val = n at *
  revert h n; decide

theorem inbMC (i : grid0.Coords) (g : Fin 8) : ∀ a, offC i g.val 0 a + S1x1x1x512.size a ≤ S2x8x1x512.size a := by
  unfold offC; rw [curW_toNat]; generalize hn : (i 2).val % 2 = n; have h : n < 2 := by omega
  clear hn; revert h n g; decide
theorem inbMN (i : grid0.Coords) (g : Fin 8) : ∀ a, offN i g.val 0 a + S1x1x1x512.size a ≤ S2x8x1x512.size a := by
  unfold offN; rw [nxtW_toNat]; generalize hn : 1 - (i 2).val % 2 = n; have h : n < 2 := by omega
  clear hn; revert h n g; decide
theorem inbLC (i : grid0.Coords) (g : Fin 8) : ∀ a, offC i g.val 64 a + S1x1x1x512.size a ≤ S2x8x72x512.size a := by
  unfold offC; rw [curW_toNat]; generalize hn : (i 2).val % 2 = n; have h : n < 2 := by omega
  clear hn; revert h n g; decide
theorem inbLN (i : grid0.Coords) (g : Fin 8) : ∀ a, offN i g.val 64 a + S1x1x1x512.size a ≤ S2x8x72x512.size a := by
  unfold offN; rw [nxtW_toNat]; generalize hn : 1 - (i 2).val % 2 = n; have h : n < 2 := by omega
  clear hn; revert h n g; decide
theorem inbAC (i : grid0.Coords) (g : Fin 8) : ∀ a, offC i g.val 0 a + S1x1x64x512.size a ≤ S2x8x72x512.size a := by
  unfold offC; rw [curW_toNat]; generalize hn : (i 2).val % 2 = n; have h : n < 2 := by omega
  clear hn; revert h n g; decide
theorem inbAN (i : grid0.Coords) (g : Fin 8) : ∀ a, offN i g.val 0 a + S1x1x64x512.size a ≤ S2x8x72x512.size a := by
  unfold offN; rw [nxtW_toNat]; generalize hn : 1 - (i 2).val % 2 = n; have h : n < 2 := by omega
  clear hn; revert h n g; decide

section Main

variable (c : Dev nD) (i : grid0.Coords) (arg3 : Memref sig .tc .vmem S1x8x128x512 .bf16) (harg3 : arg3.IsWhole) (arg4 : Memref sig .tc .vmem S1x1x3328x128 .bf16) (harg4 : arg4.IsWhole) (arg5 : Memref sig .tc .vmem S1x2x64x3328 .bf16) (harg5 : arg5.IsWhole) (arg6 : Memref sig .tc .vmem S1x8x64x512 .bf16) (harg6 : arg6.IsWhole) (arg7 : Memref sig .tc .vmem S2x8x1x512 .f32) (harg7 : arg7.IsWhole) (arg8 : Memref sig .tc .vmem S2x8x72x512 .f32) (harg8 : arg8.IsWhole) (arg9 : Memref sig .tc .vmem S8x64x512 .f32) (harg9 : arg9.IsWhole)
  (f3 : Bf (F := F) c arg3) (f4 : Bf (F := F) c arg4) (f5 : Bf (F := F) c arg5) (f7 : Bf (F := F) c arg7) (f8 : Bf (F := F) c arg8) (f9 : Bf (F := F) c arg9)

/-- The sums' buffer once the tile pass starts. -/
def start8 : Bf (F := F) c arg8 :=
  if bodyRun.sl.v4 i = 1#1 then
    arg8.view.writes (Elt F) f8 [⟨Rect.unit (s := S2x8x72x512) ![0, 0, 0, 0] S1x8x72x512.size inb_S2x8x72x512_S1x8x72x512_0_0_0_0, bodyRun.sl.v3594⟩]
  else f8

/-- The carried reference, sums and weights' sum of head `g`. -/
def mOf (f7' : Bf (F := F) c arg7) (g : Fin 8) : Vec F S1x1x1x512 .f32 :=
  View.readAt (Elt F) arg7.view (Rect.unit (s := S2x8x1x512) (offC i g.val 0) S1x1x1x512.size (inbMC i g)).toLoadRect f7'
def aOf (f8' : Bf (F := F) c arg8) (g : Fin 8) : Vec F S1x1x64x512 .f32 :=
  View.readAt (Elt F) arg8.view (Rect.unit (s := S2x8x72x512) (offC i g.val 0) S1x1x64x512.size (inbAC i g)).toLoadRect f8'
def lOf (f8' : Bf (F := F) c arg8) (g : Fin 8) : Vec F S1x1x1x512 .f32 :=
  View.readAt (Elt F) arg8.view (Rect.unit (s := S2x8x72x512) (offC i g.val 64) S1x1x1x512.size (inbLC i g)).toLoadRect f8'

/-- The references the main pass writes. -/
def mainM : List (View.Piece (Elt F) S2x8x1x512 .f32) :=
  [7, 6, 5, 4, 3, 2, 1, 0].map fun g : Fin 8 => ⟨Rect.unit (s := S2x8x1x512) (offN i g.val 0) S1x1x1x512.size (inbMN i g),
    newM (qOf c arg3 f3 g) (kOf c arg4 f4) (mOf c i arg7 (start7 c i arg3 arg4 arg7 f3 f4 f7) g)⟩

theorem main7_list : bodyRun.sl.H7_8 c i arg3 arg4 arg7 f3 f4 f7 = mainM c i arg3 arg4 arg7 f3 f4 f7 := rfl

theorem main7_start : (if hc : bodyRun.sl.v4 i = 1#1 then
    arg7.view.writes (Elt F) f7 (⟨Rect.unit (s := S2x8x1x512) ![0, 7, 0, 0] S1x1x1x512.size (inbM0 7), bodyRun.sl.v3590 c arg3 arg4 f3 f4⟩ ::
      ⟨Rect.unit (s := S2x8x1x512) ![0, 6, 0, 0] S1x1x1x512.size (inbM0 6), bodyRun.sl.v3580 c arg3 arg4 f3 f4⟩ ::
      ⟨Rect.unit (s := S2x8x1x512) ![0, 5, 0, 0] S1x1x1x512.size (inbM0 5), bodyRun.sl.v3570 c arg3 arg4 f3 f4⟩ ::
      ⟨Rect.unit (s := S2x8x1x512) ![0, 4, 0, 0] S1x1x1x512.size (inbM0 4), bodyRun.sl.v3560 c arg3 arg4 f3 f4⟩ :: bodyRun.sl.H7_4 c arg3 arg4 f3 f4)
    else f7) = start7 c i arg3 arg4 arg7 f3 f4 f7 := rfl

/-- What the main pass leaves in the references' buffer. -/
theorem main7 : (bodyRun (F := F) c i arg3 harg3 arg4 harg4 arg5 harg5 arg6 harg6 arg7 harg7 arg8 harg8 arg9 harg9 f3 f4 f5 f7 f8 f9).1.1
    = arg7.view.writes (Elt F) (start7 c i arg3 arg4 arg7 f3 f4 f7) (mainM c i arg3 arg4 arg7 f3 f4 f7) := by
  unfold bodyRun
  dsimp only
  exact congrArg₂ (arg7.view.writes (Elt F)) (main7_start c i arg3 arg4 arg7 f3 f4 f7) (main7_list c i arg3 arg4 arg7 f3 f4 f7)

/-- A head's new weights' sum and new sums, as pieces. -/
def pieceL (g : Fin 8) : View.Piece (Elt F) S2x8x72x512 .f32 :=
  ⟨Rect.unit (s := S2x8x72x512) (offN i g.val 64) S1x1x1x512.size (inbLN i g),
    newL (qOf c arg3 f3 g) (kOf c arg4 f4) (mOf c i arg7 (start7 c i arg3 arg4 arg7 f3 f4 f7) g) (lOf c i arg8 (start8 c i arg8 f8) g)⟩
def pieceA (g : Fin 8) : View.Piece (Elt F) S2x8x72x512 .f32 :=
  ⟨Rect.unit (s := S2x8x72x512) (offN i g.val 0) S1x1x64x512.size (inbAN i g),
    newA (qOf c arg3 f3 g) (kOf c arg4 f4) (vOf c arg5 f5 g) (mOf c i arg7 (start7 c i arg3 arg4 arg7 f3 f4 f7) g) (aOf c i arg8 (start8 c i arg8 f8) g)⟩

/-- The sums the main pass writes. -/
def mainS : List (View.Piece (Elt F) S2x8x72x512 .f32) :=
  [7, 6, 5, 4, 3, 2, 1, 0].flatMap fun g : Fin 8 => [pieceL c i arg3 arg4 arg7 arg8 f3 f4 f7 f8 g, pieceA c i arg3 arg4 arg5 arg7 arg8 f3 f4 f5 f7 f8 g]

/-- The scratch read back after a write is what was written; -/
theorem cov_first {g : Fin 3 → ℕ} {h : ∀ a, g a + S1x64x512.size a ≤ S8x64x512.size a} {w : Vec F S1x64x512 .f32} {L : List (View.Piece (Elt F) S8x64x512 .f32)} :
    arg9.view.readCov (⟨Rect.unit (s := S8x64x512) g S1x64x512.size h, w⟩ :: L) (Rect.unit (s := S8x64x512) g S1x64x512.size h).toLoadRect = w :=
  View.readCov_cons_toLoadRect _ _ _ _
/-- and so with the running product of a later chunk, from the one before. -/
theorem cov_next {g : Fin 3 → ℕ} {h : ∀ a, g a + S1x64x512.size a ≤ S8x64x512.size a} {p p' : Vec F S1x64x512 .f32} {d : FVec F S64x512 .f32}
    {L : List (View.Piece (Elt F) S8x64x512 .f32)} (e : p = p') :
    arg9.view.readCov (⟨Rect.unit (s := S8x64x512) g S1x64x512.size h, shapeCast S1x64x512 (addf (shapeCast S64x512 p shapeCasts_S1x64x512_S64x512) d) shapeCasts_S64x512_S1x64x512⟩ :: L)
        (Rect.unit (s := S8x64x512) g S1x64x512.size h).toLoadRect
      = shapeCast S1x64x512 (addf (shapeCast S64x512 p' shapeCasts_S1x64x512_S64x512) d) shapeCasts_S64x512_S1x64x512 :=
  e ▸ View.readCov_cons_toLoadRect _ _ _ _

/-- One head's two pieces before the earlier heads', the scratch's read replaced by the product it holds. -/
theorem two (g : Fin 8) {p : Vec F S1x64x512 .f32} {L L' : List (View.Piece (Elt F) S2x8x72x512 .f32)}
    (e : p = sumV (qOf c arg3 f3 g) (kOf c arg4 f4) (vOf c arg5 f5 g) (mOf c i arg7 (start7 c i arg3 arg4 arg7 f3 f4 f7) g)) (hL : L = L') :
    pieceL c i arg3 arg4 arg7 arg8 f3 f4 f7 f8 g :: ⟨Rect.unit (s := S2x8x72x512) (offN i g.val 0) S1x1x64x512.size (inbAN i g),
        shapeCast S1x1x64x512 (mulf (addf (shapeCast S64x512 (aOf c i arg8 (start8 c i arg8 f8) g) shapeCasts_S1x1x64x512_S64x512) (shapeCast S64x512 p shapeCasts_S1x64x512_S64x512))
          (broadcastTo S64x512 (rescale (qOf c arg3 f3 g) (kOf c arg4 f4) (mOf c i arg7 (start7 c i arg3 arg4 arg7 f3 f4 f7) g)) broadcasts_S1x512_S64x512)) shapeCasts_S64x512_S1x1x64x512⟩ :: L
      = pieceL c i arg3 arg4 arg7 arg8 f3 f4 f7 f8 g :: pieceA c i arg3 arg4 arg5 arg7 arg8 f3 f4 f5 f7 f8 g :: L' := by
  rw [e, hL]; rfl

theorem main8_list : bodyRun.sl.H8_16 c i arg3 arg4 arg5 arg7 arg8 arg9 f3 f4 f5 f7 f8 = mainS c i arg3 arg4 arg5 arg7 arg8 f3 f4 f5 f7 f8 := by
  have step := fun g {p L L'} => two c i arg3 arg4 arg5 arg7 arg8 f3 f4 f5 f7 f8 g (p := p) (L := L) (L' := L')
  refine step 7 ?_ (step 6 ?_ (step 5 ?_ (step 4 ?_ (step 3 ?_ (step 2 ?_ (step 1 ?_ (step 0 ?_ rfl)))))))
  all_goals
    iterate 12 refine cov_next arg9 ?_
    exact cov_first arg9

/-- What the main pass leaves in the sums' buffer. -/
theorem main8 : (bodyRun (F := F) c i arg3 harg3 arg4 harg4 arg5 harg5 arg6 harg6 arg7 harg7 arg8 harg8 arg9 harg9 f3 f4 f5 f7 f8 f9).1.2.1
    = arg8.view.writes (Elt F) (start8 c i arg8 f8) (mainS c i arg3 arg4 arg5 arg7 arg8 f3 f4 f5 f7 f8) := by
  unfold bodyRun
  dsimp only
  exact congrArg (arg8.view.writes (Elt F) (start8 c i arg8 f8)) (main8_list c i arg3 arg4 arg5 arg7 arg8 arg9 f3 f4 f5 f7 f8)

theorem inbO (g : Fin 8) : ∀ a, (![0, g.val, 0, 0] : Fin 4 → ℕ) a + S1x1x64x512.size a ≤ S1x8x64x512.size a := by revert g; decide

/-- The sums and weights' sum of head `g` in the slot written. -/
def aNew (f8' : Bf (F := F) c arg8) (g : Fin 8) : Vec F S1x1x64x512 .f32 :=
  View.readAt (Elt F) arg8.view (Rect.unit (s := S2x8x72x512) (offN i g.val 0) S1x1x64x512.size (inbAN i g)).toLoadRect f8'
def lNew (f8' : Bf (F := F) c arg8) (g : Fin 8) : Vec F S1x1x1x512 .f32 :=
  View.readAt (Elt F) arg8.view (Rect.unit (s := S2x8x72x512) (offN i g.val 64) S1x1x1x512.size (inbLN i g)).toLoadRect f8'

def outS (f8' : Bf (F := F) c arg8) : List (View.Piece (Elt F) S1x8x64x512 .bf16) :=
  [7, 6, 5, 4, 3, 2, 1, 0].map fun g : Fin 8 => ⟨Rect.unit (s := S1x8x64x512) ![0, g.val, 0, 0] S1x1x64x512.size (inbO g),
    outA (aNew c i arg8 f8' g) (lNew c i arg8 f8' g)⟩

/-- What the body leaves in the result's staging buffer at a last tile. -/
theorem main6 (hc : k0_cond3 i = 1#1) (f6 : Bf (F := F) c arg6) (f8' : Bf (F := F) c arg8) :
    (bodyRun (F := F) c i arg3 harg3 arg4 harg4 arg5 harg5 arg6 harg6 arg7 harg7 arg8 harg8 arg9 harg9 f3 f4 f5 f7 f8 f9).1.2.2.2 f6 f8'
      = arg6.view.writes (Elt F) f6 (outS c i arg8 f8') := by
  unfold bodyRun
  dsimp only
  rw [dif_pos hc]
  refine congrArg (arg6.view.writes (Elt F) f6) ?_
  rfl

end Main

end Cert.GroupedIdeal.Stream
end
-- ==== Proof.GroupedStream.Trip.lean ====
/- What one trip of the grouped body's exact pass leaves in the carried buffers, in the words of one head. -/
module

public import proofs.«01_k».proof.Proof.GroupedIdeal.Run
public import proofs.«01_k».proof.Proof.GroupedStream.Pieces

@[expose] public section

set_option maxRecDepth 16384
set_option maxHeartbeats 1000000

noncomputable section

namespace Cert.GroupedIdeal.Stream

open Cert.GroupedIdeal Cert.GroupedIdeal.Gen Cert.GroupedIdeal.Body

open Cert.KernelIdeal.Stream (chain scores weights weightsM partL partM partV sumL maxM sumV peak newM rescale newA newL topM exactS redoM redoA redoL payL payA outA read_off piece_off)

open Idealize.ShloMosaic
open Idealize.ShloMosaic.TcCoe

variable {F : FTy → Type} [FloatOps F] [Named F]

variable (c : Dev nD) (i : grid0.Coords) (arg3 : Memref sig .tc .vmem S1x8x128x512 .bf16) (harg3 : arg3.IsWhole) (arg4 : Memref sig .tc .vmem S1x1x3328x128 .bf16) (harg4 : arg4.IsWhole) (arg5 : Memref sig .tc .vmem S1x2x64x3328 .bf16) (harg5 : arg5.IsWhole) (arg6 : Memref sig .tc .vmem S1x8x64x512 .bf16) (harg6 : arg6.IsWhole) (arg7 : Memref sig .tc .vmem S2x8x1x512 .f32) (harg7 : arg7.IsWhole) (arg8 : Memref sig .tc .vmem S2x8x72x512 .f32) (harg8 : arg8.IsWhole) (arg9 : Memref sig .tc .vmem S8x64x512 .f32) (harg9 : arg9.IsWhole)
  (v0 v1 : BitVec 32)
  (f3 : Bf (F := F) c arg3) (f4 : Bf (F := F) c arg4) (f5 : Bf (F := F) c arg5) (f7 : Bf (F := F) c arg7) (f8 : Bf (F := F) c arg8)
  (k : Fin k0_t1_loop.trips)

/-- The head of trip `k`. -/
abbrev headOf (k : Fin k0_t1_loop.trips) : Fin 8 := ⟨k.val, k.isLt⟩

/-- Where a trip's loads of keys and values lie: the keys are the same for every head, the values its group's. -/
theorem off51 : ∀ (k : Fin k0_t1_loop.trips) (n : Fin k0_t2_loop.trips), k0_off51 k n = ![0, 0, 256 * n.val, 0] := by decide +kernel
theorem off52 : ∀ (k : Fin k0_t1_loop.trips) (n : Fin k0_t3_loop.trips), k0_off52 k n = ![0, 0, 256 * n.val, 0] := by decide +kernel
theorem off53 : ∀ (k : Fin k0_t1_loop.trips) (n : Fin k0_t3_loop.trips), k0_off53 k n = ![0, k.val / 4, 0, 256 * n.val] := by decide +kernel

theorem topM_eq (arg10 x y : BitVec 32) (q : FVec F S128x512 .bf16) (m : FVec F S1x512 .f32) (n : ℕ) (hn : n ≤ 13) :
    st_k0_t2 (F := F) Variants.none c none i arg3 harg3 arg4 harg4 arg5 harg5 arg6 harg6 arg7 harg7 arg8 harg8 arg9 harg9 v0 v1 k arg10 q x y f4 m n
      = topM q (kOf c arg4 f4) m n := by
  induction n with
  | zero => rfl
  | succ n ih =>
    have e := st_k0_t2_succ (F := F) Variants.none c none i arg3 harg3 arg4 harg4 arg5 harg5 arg6 harg6 arg7 harg7 arg8 harg8 arg9 harg9 v0 v1 k arg10 q x y f4 m ⟨n, hn⟩
    refine e.trans ?_
    rw [topM, dif_pos (show n < 13 from hn)]
    unfold tripR_k0_t2 trip_k0_t2
    show k0_pay17 _ _ _ = k0_pay17 _ _ _
    rw [ih (by omega)]
    exact congrArg _ (read_off arg4.view f4 _ _ (off51 k ⟨n, hn⟩))

theorem exactS_eq (arg10 x y : BitVec 32) (q : FVec F S128x512 .bf16) (m : FVec F S1x512 .f32) (n : ℕ) (hn : n ≤ 13) :
    st_k0_t3 (F := F) Variants.none c none i arg3 harg3 arg4 harg4 arg5 harg5 arg6 harg6 arg7 harg7 arg8 harg8 arg9 harg9 v0 v1 k arg10 q x y m f4 f5 (k0_pay18, k0_pay19) n
      = exactS q (kOf c arg4 f4) (vOf c arg5 f5 (headOf k)) m n := by
  induction n with
  | zero => rfl
  | succ n ih =>
    have e := st_k0_t3_succ (F := F) Variants.none c none i arg3 harg3 arg4 harg4 arg5 harg5 arg6 harg6 arg7 harg7 arg8 harg8 arg9 harg9 v0 v1 k arg10 q x y m f4 f5 (k0_pay18, k0_pay19) ⟨n, hn⟩
    refine e.trans ?_
    rw [exactS, dif_pos (show n < 13 from hn)]
    unfold tripR_k0_t3 trip_k0_t3
    show (k0_pay21 _ _ _ _ _, k0_pay22 _ _ _ _) = (k0_pay21 _ _ _ _ _, k0_pay22 _ _ _ _)
    have ek := read_off arg4.view f4 (k0_off52_inb k ⟨n, hn⟩) (inbK ⟨n, hn⟩) (off52 k ⟨n, hn⟩)
    have ev := read_off arg5.view f5 (k0_off53_inb k ⟨n, hn⟩) (inbV (headOf k) ⟨n, hn⟩) (off53 k ⟨n, hn⟩)
    have ih' := ih (by omega)
    rw [ih']
    exact Prod.ext (congrArg₂ (fun a b => k0_pay21 q m _ a b) ek ev) (congrArg (fun a => k0_pay22 q m _ a) ek)

/-- What a trip leaves in the two carried buffers. -/
theorem trip_eq :
    (trip (F := F) c i arg3 harg3 arg4 harg4 arg5 harg5 arg6 harg6 arg7 harg7 arg8 harg8 arg9 harg9 v0 v1 f3 f4 f5 k f7 f8).1
      = (arg7.view.writes (Elt F) f7 [⟨Rect.unit (s := S2x8x1x512) (offN i k.val 0) S1x1x1x512.size (inbMN i (headOf k)),
            k0_pay24 (redoM (qOf c arg3 f3 (headOf k)) (kOf c arg4 f4) (mOf c i arg7 f7 (headOf k)))⟩],
         arg8.view.writes (Elt F) f8 [
          ⟨Rect.unit (s := S2x8x72x512) (offN i k.val 64) S1x1x1x512.size (inbLN i (headOf k)),
            redoL (qOf c arg3 f3 (headOf k)) (kOf c arg4 f4) (vOf c arg5 f5 (headOf k)) (mOf c i arg7 f7 (headOf k)) (lOf c i arg8 f8 (headOf k))⟩,
          ⟨Rect.unit (s := S2x8x72x512) (offN i k.val 0) S1x1x64x512.size (inbAN i (headOf k)),
            redoA (qOf c arg3 f3 (headOf k)) (kOf c arg4 f4) (vOf c arg5 f5 (headOf k)) (mOf c i arg7 f7 (headOf k)) (aOf c i arg8 f8 (headOf k))⟩]) := by
  have hN : ∀ r, ![1 - (i 2).val % 2, k.val, r, 0] = offN i k.val r := fun r => by rw [offN, nxtW_toNat]
  have hC : ∀ r, ![(i 2).val % 2, k.val, r, 0] = offC i k.val r := fun r => by rw [offC, curW_toNat]
  have eq : View.readAt (Elt F) arg3.view (Rect.unit (s := S1x8x128x512) (k0_off49 k) S1x1x128x512.size (k0_off49_inb k)).toLoadRect f3 = qOf c arg3 f3 (headOf k) :=
    read_off arg3.view f3 _ _ (k0_off49_eq k)
  have em : View.readAt (Elt F) arg7.view (Rect.unit (s := S2x8x1x512) (k0_off50 i k) S1x1x1x512.size (k0_off50_inb i k)).toLoadRect f7 = mOf c i arg7 f7 (headOf k) :=
    read_off arg7.view f7 _ _ ((k0_off50_eq i k).trans (hC 0))
  have ea : View.readAt (Elt F) arg8.view (Rect.unit (s := S2x8x72x512) (k0_off55 i k) S1x1x64x512.size (k0_off55_inb i k)).toLoadRect f8 = aOf c i arg8 f8 (headOf k) :=
    read_off arg8.view f8 _ _ ((k0_off55_eq i k).trans (hC 0))
  have el : View.readAt (Elt F) arg8.view (Rect.unit (s := S2x8x72x512) (k0_off57 i k) S1x1x1x512.size (k0_off57_inb i k)).toLoadRect f8 = lOf c i arg8 f8 (headOf k) :=
    read_off arg8.view f8 _ _ ((k0_off57_eq i k).trans (hC 64))
  have e2 : Scf.trips k0_t2_loop.lb k0_t2_loop.ub k0_t2_loop.st = 13 := by decide
  have e3 : Scf.trips k0_t3_loop.lb k0_t3_loop.ub k0_t3_loop.st = 13 := by decide
  have st2 : ∀ {x y : BitVec 32} {q m n}, q = qOf c arg3 f3 (headOf k) → m = mOf c i arg7 f7 (headOf k) → n = 13 →
      st_k0_t2 (F := F) Variants.none c none i arg3 harg3 arg4 harg4 arg5 harg5 arg6 harg6 arg7 harg7 arg8 harg8 arg9 harg9 v0 v1 k (Scf.iv 0#32 1#32 k.val)
        (k0_pay15 q) x y f4 (k0_pay16 m) n = redoM (qOf c arg3 f3 (headOf k)) (kOf c arg4 f4) (mOf c i arg7 f7 (headOf k)) := by
    intro x y q m n hq hm hn
    subst hq hm hn
    exact topM_eq (F := F) c i arg3 harg3 arg4 harg4 arg5 harg5 arg6 harg6 arg7 harg7 arg8 harg8 arg9 harg9 v0 v1 f4 k (Scf.iv 0#32 1#32 k.val) x y _ _ 13 le_rfl
  have st3 : ∀ {x y : BitVec 32} {q M n}, q = qOf c arg3 f3 (headOf k) →
      M = redoM (qOf c arg3 f3 (headOf k)) (kOf c arg4 f4) (mOf c i arg7 f7 (headOf k)) → n = 13 →
      st_k0_t3 (F := F) Variants.none c none i arg3 harg3 arg4 harg4 arg5 harg5 arg6 harg6 arg7 harg7 arg8 harg8 arg9 harg9 v0 v1 k (Scf.iv 0#32 1#32 k.val)
        (k0_pay15 q) x y M f4 f5 (k0_pay18, k0_pay19) n = exactS (k0_pay15 (qOf c arg3 f3 (headOf k))) (kOf c arg4 f4) (vOf c arg5 f5 (headOf k))
          (redoM (qOf c arg3 f3 (headOf k)) (kOf c arg4 f4) (mOf c i arg7 f7 (headOf k))) 13 := by
    intro x y q M n hq hM hn
    subst hq hM hn
    exact exactS_eq (F := F) c i arg3 harg3 arg4 harg4 arg5 harg5 arg6 harg6 arg7 harg7 arg8 harg8 arg9 harg9 v0 v1 f4 f5 k (Scf.iv 0#32 1#32 k.val) x y _ _ 13 le_rfl
  unfold trip trip.sl.x
  dsimp only
  refine congrArg₂ Prod.mk (congrArg (arg7.view.writes (Elt F) f7) ?_) (congrArg (arg8.view.writes (Elt F) f8) ?_)
  · refine congrArg (fun p => [p]) (piece_off (Val := Elt F) (S := S2x8x1x512) (e := .f32) _ _ ?_ ?_)
    · exact (k0_off54_eq i k).trans (hN 0)
    · exact congrArg k0_pay24 (st2 eq em e2)
  · refine congrArg₂ (fun p r => [p, r]) (piece_off (Val := Elt F) (S := S2x8x72x512) (e := .f32) _ _ ?_ ?_)
      (piece_off (Val := Elt F) (S := S2x8x72x512) (e := .f32) _ _ ?_ ?_)
    · exact (k0_off58_eq i k).trans (hN 64)
    · exact payL em (st2 eq em e2) (st3 eq (st2 eq em e2) e3) el
    · exact (k0_off56_eq i k).trans (hN 0)
    · exact payA em (st2 eq em e2) (st3 eq (st2 eq em e2) e3) ea

end Cert.GroupedIdeal.Stream
end
-- ==== Proof.GroupedStream.Reads.lean ====
/- The grouped kernel's carried buffers read at an index: what the main pass and the exact pass leave, as each query's running
   softmax. -/
module

public import proofs.«01_k».proof.Proof.GroupedStream.Trip

@[expose] public section

set_option maxRecDepth 16384
set_option maxHeartbeats 1000000

noncomputable section

namespace Cert.GroupedIdeal.Stream

open Cert.GroupedIdeal Cert.GroupedIdeal.Gen Cert.GroupedIdeal.Body

open Cert.KernelIdeal.Stream (chain scores weights weightsM partL partM partV sumL maxM sumV peak newM rescale newA newL topM exactS redoM redoA redoL payL payA outA read_off piece_off readAt_at read_map_mem read_map_not read_two_fst read_two_snd read_two_not all_heads read_writes_one read_writes_pair Lane TileScores TileValues scores_at main_head redo_head firstV_real outA_at)

open Idealize.ShloMosaic

/-! ## The loads at an index -/

section Loads

variable (c : Dev nD) (i : grid0.Coords) (arg3 : Memref sig .tc .vmem S1x8x128x512 .bf16) (harg3 : arg3.IsWhole) (arg4 : Memref sig .tc .vmem S1x1x3328x128 .bf16) (harg4 : arg4.IsWhole) (arg5 : Memref sig .tc .vmem S1x2x64x3328 .bf16) (harg5 : arg5.IsWhole) (arg6 : Memref sig .tc .vmem S1x8x64x512 .bf16) (harg6 : arg6.IsWhole) (arg7 : Memref sig .tc .vmem S2x8x1x512 .f32) (harg7 : arg7.IsWhole) (arg8 : Memref sig .tc .vmem S2x8x72x512 .f32) (harg8 : arg8.IsWhole) (arg9 : Memref sig .tc .vmem S8x64x512 .f32) (harg9 : arg9.IsWhole)
  (f3 : Bf (F := Ideal) c arg3) (f4 : Bf (F := Ideal) c arg4) (f5 : Bf (F := Ideal) c arg5) (f7 : Bf (F := Ideal) c arg7) (f8 : Bf (F := Ideal) c arg8) (f9 : Bf (F := Ideal) c arg9)

/-- The slot point `i` reads and the one it writes. -/
def cur : Fin 2 := ⟨(i 2).val % 2, by omega⟩
def nxt : Fin 2 := ⟨1 - (i 2).val % 2, by omega⟩

theorem offC_eq (g r : ℕ) : offC i g r = ![(cur i).val, g, r, 0] := by rw [offC, curW_toNat]; rfl
theorem offN_eq (g r : ℕ) : offN i g r = ![(nxt i).val, g, r, 0] := by rw [offN, nxtW_toNat]; rfl
theorem atC (y x : Fin 4 → ℕ) (g r : ℕ) (h : ∀ a, y a = (![(cur i).val, g, r, 0] : Fin 4 → ℕ) a + x a) : ∀ a, y a = offC i g r a + x a := by rw [offC_eq]; exact h
theorem atN (y x : Fin 4 → ℕ) (g r : ℕ) (h : ∀ a, y a = (![(nxt i).val, g, r, 0] : Fin 4 → ℕ) a + x a) : ∀ a, y a = offN i g r a + x a := by rw [offN_eq]; exact h
theorem nxt_ne : (nxt i).val ≠ (cur i).val := by
  show 1 - (i 2).val % 2 ≠ (i 2).val % 2
  omega

/-- The group of head `g`. -/
def grp (g : Fin 8) : Fin 2 := ⟨g.val / 4, by omega⟩

theorem qOf_at (g : Fin 8) (d : Fin 128) (x : Fin 512) : qOf c arg3 f3 g (ix4 0 0 d x) = arg3.view.read (Elt Ideal) f3 (ix4 0 g d x) :=
  readAt_at arg3.view f3 (inbQ g) _ _ fun a => by fin_cases a <;> simp [ix4]
theorem kOf_at (n : Fin 13) (r : Fin 256) (d : Fin 128) :
    kOf c arg4 f4 n (ix4 0 0 r d) = arg4.view.read (Elt Ideal) f4 (ix4 0 0 ⟨n.val * 256 + r.val, by omega⟩ d) :=
  readAt_at arg4.view f4 (inbK n) _ _ fun a => by fin_cases a <;> simp [ix4, Nat.mul_comm]
theorem vOf_at (g : Fin 8) (n : Fin 13) (d : Fin 64) (r : Fin 256) :
    vOf c arg5 f5 g n (ix4 0 0 d r) = arg5.view.read (Elt Ideal) f5 (ix4 0 (grp g) d ⟨n.val * 256 + r.val, by omega⟩) :=
  readAt_at arg5.view f5 (inbV g n) _ _ fun a => by fin_cases a <;> simp [ix4, grp, Nat.mul_comm]

theorem mOf_at (g : Fin 8) (x : Fin 512) : mOf c i arg7 f7 g (ix4 0 0 0 x) = arg7.view.read (Elt Ideal) f7 (ix4 (cur i) g 0 x) :=
  readAt_at arg7.view f7 (inbMC i g) _ _ (atC i _ _ _ _ fun a => by fin_cases a <;> simp [ix4])
theorem lOf_at (g : Fin 8) (x : Fin 512) : lOf c i arg8 f8 g (ix4 0 0 0 x) = arg8.view.read (Elt Ideal) f8 (ix4 (cur i) g 64 x) :=
  readAt_at arg8.view f8 (inbLC i g) _ _ (atC i _ _ _ _ fun a => by fin_cases a <;> simp [ix4])
theorem aOf_at (g : Fin 8) (d : Fin 64) (x : Fin 512) : aOf c i arg8 f8 g (ix4 0 0 d x) = arg8.view.read (Elt Ideal) f8 (ix4 (cur i) g ⟨d.val, by omega⟩ x) :=
  readAt_at arg8.view f8 (inbAC i g) _ _ (atC i _ _ _ _ fun a => by fin_cases a <;> simp [ix4])
theorem lNew_at (g : Fin 8) (x : Fin 512) : lNew c i arg8 f8 g (ix4 0 0 0 x) = arg8.view.read (Elt Ideal) f8 (ix4 (nxt i) g 64 x) :=
  readAt_at arg8.view f8 (inbLN i g) _ _ (atN i _ _ _ _ fun a => by fin_cases a <;> simp [ix4])
theorem aNew_at (g : Fin 8) (d : Fin 64) (x : Fin 512) : aNew c i arg8 f8 g (ix4 0 0 d x) = arg8.view.read (Elt Ideal) f8 (ix4 (nxt i) g ⟨d.val, by omega⟩ x) :=
  readAt_at arg8.view f8 (inbAN i g) _ _ (atN i _ _ _ _ fun a => by fin_cases a <;> simp [ix4])

/-- Slot `z` carries the running softmax of query `x` of head `g` over the first `N` keys. -/
def LaneIn (z : Fin 2) (g : Fin 8) (x : Fin 512) (N : ℕ) (s : ℕ → ℝ) (u : Fin 64 → ℕ → EReal) : Prop :=
  Lane N s u (arg7.view.read (Elt Ideal) f7 (ix4 z g 0 x)) (arg8.view.read (Elt Ideal) f8 (ix4 z g 64 x))
    (fun d => arg8.view.read (Elt Ideal) f8 (ix4 z g ⟨d.val, by omega⟩ x))

theorem LaneIn.of (g : Fin 8) (x : Fin 512) {N : ℕ} {s : ℕ → ℝ} {u : Fin 64 → ℕ → EReal} (h : LaneIn c arg7 arg8 f7 f8 (cur i) g x N s u) :
    Lane N s u (mOf c i arg7 f7 g (ix4 0 0 0 x)) (lOf c i arg8 f8 g (ix4 0 0 0 x)) (fun d => aOf c i arg8 f8 g (ix4 0 0 d x)) := by
  simp only [mOf_at, lOf_at, aOf_at]
  exact h

/-! ## The main pass -/

/-- The main pass carries every query from the slot read to the slot written. -/
theorem main_lane {N : ℕ} {s : ℕ → ℝ} {u : Fin 64 → ℕ → EReal} (g : Fin 8) (x : Fin 512)
    (hs : TileScores (qOf c arg3 f3 g) (kOf c arg4 f4) x fun j => s (N + j)) (hv : TileValues (vOf c arg5 f5 g) fun d j => u d (N + j))
    (h : LaneIn c arg7 arg8 (start7 c i arg3 arg4 arg7 f3 f4 f7) (start8 c i arg8 f8) (cur i) g x N s u) :
    LaneIn c arg7 arg8 (arg7.view.writes (Elt Ideal) (start7 c i arg3 arg4 arg7 f3 f4 f7) (mainM c i arg3 arg4 arg7 f3 f4 f7))
      (arg8.view.writes (Elt Ideal) (start8 c i arg8 f8) (mainS c i arg3 arg4 arg5 arg7 arg8 f3 f4 f5 f7 f8)) (nxt i) g x (N + 3328) s u := by
  have key := main_head hs hv (h.of c i arg7 arg8 _ _ g x)
  have e7 := read_map_mem arg7.view (start7 c i arg3 arg4 arg7 f3 f4 f7) (fun g => offN i g.val 0) (inbMN i)
    (fun g => newM (qOf c arg3 f3 g) (kOf c arg4 f4) (mOf c i arg7 (start7 c i arg3 arg4 arg7 f3 f4 f7) g))
    (ix4 (nxt i) g 0 x) g (ix4 0 0 0 x) (atN i _ _ _ _ fun a => by fin_cases a <;> simp [ix4]) 1
    (fun h hh => by rw [offN_eq]; have : h.val ≠ g.val := fun e => hh (Fin.ext e); simp [ix4]; omega) _ (all_heads g)
  have eL := read_two_fst arg8.view (start8 c i arg8 f8) (fun g => offN i g.val 64) (inbLN i)
    (fun g => newL (qOf c arg3 f3 g) (kOf c arg4 f4) (mOf c i arg7 (start7 c i arg3 arg4 arg7 f3 f4 f7) g) (lOf c i arg8 (start8 c i arg8 f8) g))
    (fun g => offN i g.val 0) (inbAN i)
    (fun g => newA (qOf c arg3 f3 g) (kOf c arg4 f4) (vOf c arg5 f5 g) (mOf c i arg7 (start7 c i arg3 arg4 arg7 f3 f4 f7) g) (aOf c i arg8 (start8 c i arg8 f8) g))
    (ix4 (nxt i) g 64 x) g (ix4 0 0 0 x) (atN i _ _ _ _ fun a => by fin_cases a <;> simp [ix4]) 1
    (fun h hh => by rw [offN_eq]; have : h.val ≠ g.val := fun e => hh (Fin.ext e); simp [ix4]; omega)
    (fun h hh => by rw [offN_eq]; have : h.val ≠ g.val := fun e => hh (Fin.ext e); simp [ix4]; omega) _ (all_heads g)
  have eA := fun d : Fin 64 => read_two_snd arg8.view (start8 c i arg8 f8) (fun g => offN i g.val 64) (inbLN i)
    (fun g => newL (qOf c arg3 f3 g) (kOf c arg4 f4) (mOf c i arg7 (start7 c i arg3 arg4 arg7 f3 f4 f7) g) (lOf c i arg8 (start8 c i arg8 f8) g))
    (fun g => offN i g.val 0) (inbAN i)
    (fun g => newA (qOf c arg3 f3 g) (kOf c arg4 f4) (vOf c arg5 f5 g) (mOf c i arg7 (start7 c i arg3 arg4 arg7 f3 f4 f7) g) (aOf c i arg8 (start8 c i arg8 f8) g))
    (ix4 (nxt i) g ⟨d.val, by omega⟩ x) g (ix4 0 0 d x) (atN i _ _ _ _ fun a => by fin_cases a <;> simp [ix4]) 1
    (fun h hh => by rw [offN_eq]; have : h.val ≠ g.val := fun e => hh (Fin.ext e); simp [ix4]; omega)
    (fun h hh => by rw [offN_eq]; have : h.val ≠ g.val := fun e => hh (Fin.ext e); simp [ix4]; omega) 2
    (.inl (by rw [offN_eq]; simp [ix4])) _ (all_heads g)
  unfold LaneIn
  obtain ⟨μ, h1, h2, h3⟩ := key
  exact ⟨μ, e7.trans h1, eL.trans h2, fun d => (eA d).trans (h3 d)⟩

/-- and leaves the slot read alone. -/
theorem main_cur {N : ℕ} {s : ℕ → ℝ} {u : Fin 64 → ℕ → EReal} (g : Fin 8) (x : Fin 512)
    (h : LaneIn c arg7 arg8 (start7 c i arg3 arg4 arg7 f3 f4 f7) (start8 c i arg8 f8) (cur i) g x N s u) :
    LaneIn c arg7 arg8 (arg7.view.writes (Elt Ideal) (start7 c i arg3 arg4 arg7 f3 f4 f7) (mainM c i arg3 arg4 arg7 f3 f4 f7))
      (arg8.view.writes (Elt Ideal) (start8 c i arg8 f8) (mainS c i arg3 arg4 arg5 arg7 arg8 f3 f4 f5 f7 f8)) (cur i) g x N s u := by
  have hn := nxt_ne i
  have e7 := read_map_not arg7.view (start7 c i arg3 arg4 arg7 f3 f4 f7) (fun g => offN i g.val 0) (inbMN i)
    (fun g => newM (qOf c arg3 f3 g) (kOf c arg4 f4) (mOf c i arg7 (start7 c i arg3 arg4 arg7 f3 f4 f7) g))
    (ix4 (cur i) g 0 x) 0 (fun h => by rw [offN_eq]; simp [ix4]; omega) [7, 6, 5, 4, 3, 2, 1, 0]
  have e8 := fun r : Fin 72 => read_two_not arg8.view (start8 c i arg8 f8) (fun g => offN i g.val 64) (inbLN i)
    (fun g => newL (qOf c arg3 f3 g) (kOf c arg4 f4) (mOf c i arg7 (start7 c i arg3 arg4 arg7 f3 f4 f7) g) (lOf c i arg8 (start8 c i arg8 f8) g))
    (fun g => offN i g.val 0) (inbAN i)
    (fun g => newA (qOf c arg3 f3 g) (kOf c arg4 f4) (vOf c arg5 f5 g) (mOf c i arg7 (start7 c i arg3 arg4 arg7 f3 f4 f7) g) (aOf c i arg8 (start8 c i arg8 f8) g))
    (ix4 (cur i) g r x) 0 (fun h => by rw [offN_eq]; simp [ix4]; omega) (fun h => by rw [offN_eq]; simp [ix4]; omega) [7, 6, 5, 4, 3, 2, 1, 0]
  obtain ⟨μ, h1, h2, h3⟩ := h
  exact ⟨μ, e7.trans h1, (e8 _).trans h2, fun d => (e8 _).trans (h3 d)⟩

/-! ## The exact pass -/

/-- What a head's trip writes. -/
def tripM (g : Fin 8) : List (View.Piece (Elt Ideal) S2x8x1x512 .f32) :=
  [⟨Rect.unit (s := S2x8x1x512) (offN i g.val 0) S1x1x1x512.size (inbMN i g), k0_pay24 (redoM (qOf c arg3 f3 g) (kOf c arg4 f4) (mOf c i arg7 f7 g))⟩]
def tripS (g : Fin 8) : List (View.Piece (Elt Ideal) S2x8x72x512 .f32) :=
  [⟨Rect.unit (s := S2x8x72x512) (offN i g.val 64) S1x1x1x512.size (inbLN i g), redoL (qOf c arg3 f3 g) (kOf c arg4 f4) (vOf c arg5 f5 g) (mOf c i arg7 f7 g) (lOf c i arg8 f8 g)⟩,
   ⟨Rect.unit (s := S2x8x72x512) (offN i g.val 0) S1x1x64x512.size (inbAN i g), redoA (qOf c arg3 f3 g) (kOf c arg4 f4) (vOf c arg5 f5 g) (mOf c i arg7 f7 g) (aOf c i arg8 f8 g)⟩]

/-- One head's trip carries its queries from the slot read to the slot written, -/
theorem trip_lane {N : ℕ} {s : ℕ → ℝ} {u : Fin 64 → ℕ → EReal} (g : Fin 8) (x : Fin 512)
    (hs : TileScores (qOf c arg3 f3 g) (kOf c arg4 f4) x fun j => s (N + j)) (hv : TileValues (vOf c arg5 f5 g) fun d j => u d (N + j))
    (h : LaneIn c arg7 arg8 f7 f8 (cur i) g x N s u) :
    LaneIn c arg7 arg8 (arg7.view.writes (Elt Ideal) f7 (tripM c i arg3 arg4 arg7 f3 f4 f7 g)) (arg8.view.writes (Elt Ideal) f8 (tripS c i arg3 arg4 arg5 arg7 arg8 f3 f4 f5 f7 f8 g)) (nxt i) g x (N + 3328) s u := by
  have key := redo_head hs hv (h.of c i arg7 arg8 _ _ g x)
  have e7 := read_map_mem arg7.view f7 (fun g => offN i g.val 0) (inbMN i) (fun g => k0_pay24 (redoM (qOf c arg3 f3 g) (kOf c arg4 f4) (mOf c i arg7 f7 g)))
    (ix4 (nxt i) g 0 x) g (ix4 0 0 0 x) (atN i _ _ _ _ fun a => by fin_cases a <;> simp [ix4]) 1
    (fun h hh => by rw [offN_eq]; have : h.val ≠ g.val := fun e => hh (Fin.ext e); simp [ix4]; omega) [g] (List.mem_singleton.2 rfl)
  have eL := read_two_fst arg8.view f8 (fun g => offN i g.val 64) (inbLN i)
    (fun g => redoL (qOf c arg3 f3 g) (kOf c arg4 f4) (vOf c arg5 f5 g) (mOf c i arg7 f7 g) (lOf c i arg8 f8 g))
    (fun g => offN i g.val 0) (inbAN i)
    (fun g => redoA (qOf c arg3 f3 g) (kOf c arg4 f4) (vOf c arg5 f5 g) (mOf c i arg7 f7 g) (aOf c i arg8 f8 g))
    (ix4 (nxt i) g 64 x) g (ix4 0 0 0 x) (atN i _ _ _ _ fun a => by fin_cases a <;> simp [ix4]) 1
    (fun h hh => by rw [offN_eq]; have : h.val ≠ g.val := fun e => hh (Fin.ext e); simp [ix4]; omega)
    (fun h hh => by rw [offN_eq]; have : h.val ≠ g.val := fun e => hh (Fin.ext e); simp [ix4]; omega) [g] (List.mem_singleton.2 rfl)
  have eA := fun d : Fin 64 => read_two_snd arg8.view f8 (fun g => offN i g.val 64) (inbLN i)
    (fun g => redoL (qOf c arg3 f3 g) (kOf c arg4 f4) (vOf c arg5 f5 g) (mOf c i arg7 f7 g) (lOf c i arg8 f8 g))
    (fun g => offN i g.val 0) (inbAN i)
    (fun g => redoA (qOf c arg3 f3 g) (kOf c arg4 f4) (vOf c arg5 f5 g) (mOf c i arg7 f7 g) (aOf c i arg8 f8 g))
    (ix4 (nxt i) g ⟨d.val, by omega⟩ x) g (ix4 0 0 d x) (atN i _ _ _ _ fun a => by fin_cases a <;> simp [ix4]) 1
    (fun h hh => by rw [offN_eq]; have : h.val ≠ g.val := fun e => hh (Fin.ext e); simp [ix4]; omega)
    (fun h hh => by rw [offN_eq]; have : h.val ≠ g.val := fun e => hh (Fin.ext e); simp [ix4]; omega) 2
    (.inl (by rw [offN_eq]; simp [ix4])) [g] (List.mem_singleton.2 rfl)
  obtain ⟨μ, h1, h2, h3⟩ := key
  exact ⟨μ, e7.trans h1, eL.trans h2, fun d => (eA d).trans (h3 d)⟩

/-- and leaves every query elsewhere alone: in the slot read, or of another head. -/
theorem trip_other {N : ℕ} {s : ℕ → ℝ} {u : Fin 64 → ℕ → EReal} (z : Fin 2) (g g' : Fin 8) (x : Fin 512) (hz : z = cur i ∨ g ≠ g')
    (h : LaneIn c arg7 arg8 f7 f8 z g x N s u) :
    LaneIn c arg7 arg8 (arg7.view.writes (Elt Ideal) f7 (tripM c i arg3 arg4 arg7 f3 f4 f7 g')) (arg8.view.writes (Elt Ideal) f8 (tripS c i arg3 arg4 arg5 arg7 arg8 f3 f4 f5 f7 f8 g')) z g x N s u := by
  have hn := nxt_ne i
  have e7 := read_writes_one arg7.view f7 (inbMN i g') (k0_pay24 (redoM (qOf c arg3 f3 g') (kOf c arg4 f4) (mOf c i arg7 f7 g')))
    (ix4 z g 0 x)
  have e8 := fun r : Fin 72 => read_writes_pair arg8.view f8 (inbLN i g')
    (redoL (qOf c arg3 f3 g') (kOf c arg4 f4) (vOf c arg5 f5 g') (mOf c i arg7 f7 g') (lOf c i arg8 f8 g')) (inbAN i g')
    (redoA (qOf c arg3 f3 g') (kOf c arg4 f4) (vOf c arg5 f5 g') (mOf c i arg7 f7 g') (aOf c i arg8 f8 g')) (ix4 z g r x)
  obtain ⟨μ, h1, h2, h3⟩ := h
  rcases hz with hz | hg
  · have k7 := e7 0 (by rw [offN_eq, hz]; simp [ix4]; omega)
    have k8 := fun r => e8 r 0 (by rw [offN_eq, hz]; simp [ix4]; omega) (by rw [offN_eq, hz]; simp [ix4]; omega)
    exact ⟨μ, k7.trans h1, (k8 _).trans h2, fun d => (k8 _).trans (h3 d)⟩
  · have hg' : g.val ≠ g'.val := fun e => hg (Fin.ext e)
    have k7 := e7 1 (by rw [offN_eq]; simp [ix4]; omega)
    have k8 := fun r => e8 r 1 (by rw [offN_eq]; simp [ix4]; omega) (by rw [offN_eq]; simp [ix4]; omega)
    exact ⟨μ, k7.trans h1, (k8 _).trans h2, fun d => (k8 _).trans (h3 d)⟩

variable (v0 v1 : BitVec 32)

theorem trip_list (k : Fin k0_t1_loop.trips) :
    (trip (F := Ideal) c i arg3 harg3 arg4 harg4 arg5 harg5 arg6 harg6 arg7 harg7 arg8 harg8 arg9 harg9 v0 v1 f3 f4 f5 k f7 f8).1
      = (arg7.view.writes (Elt Ideal) f7 (tripM c i arg3 arg4 arg7 f3 f4 f7 (headOf k)), arg8.view.writes (Elt Ideal) f8 (tripS c i arg3 arg4 arg5 arg7 arg8 f3 f4 f5 f7 f8 (headOf k))) := by
  rw [trip_eq]
  unfold tripM tripS
  rfl

theorem lanes_step {N : ℕ} {s : Fin 8 → Fin 512 → ℕ → ℝ} {u : Fin 8 → Fin 64 → ℕ → EReal}
    (hs : ∀ g x, TileScores (qOf c arg3 f3 g) (kOf c arg4 f4) x fun j => s g x (N + j)) (hv : ∀ g, TileValues (vOf c arg5 f5 g) fun d j => u g d (N + j))
    (n : Fin 8) (r1 : Bf (F := Ideal) c arg7) (r2 : Bf (F := Ideal) c arg8)
    (e1 : r1 = arg7.view.writes (Elt Ideal) f7 (tripM c i arg3 arg4 arg7 f3 f4 f7 n)) (e2 : r2 = arg8.view.writes (Elt Ideal) f8 (tripS c i arg3 arg4 arg5 arg7 arg8 f3 f4 f5 f7 f8 n))
    (hc : ∀ g x, LaneIn c arg7 arg8 f7 f8 (cur i) g x N (s g x) (u g)) (hx : ∀ g x, g.val < n.val → LaneIn c arg7 arg8 f7 f8 (nxt i) g x (N + 3328) (s g x) (u g)) :
    (∀ g x, LaneIn c arg7 arg8 r1 r2 (cur i) g x N (s g x) (u g)) ∧ ∀ g x, g.val < n.val + 1 → LaneIn c arg7 arg8 r1 r2 (nxt i) g x (N + 3328) (s g x) (u g) := by
  subst e1 e2
  refine ⟨fun g x => trip_other c i arg3 arg4 arg5 arg7 arg8 f3 f4 f5 f7 f8 _ g _ x (.inl rfl) (hc g x), fun g x hg => ?_⟩
  by_cases hgn : g = n
  · subst hgn
    exact trip_lane c i arg3 arg4 arg5 arg7 arg8 f3 f4 f5 f7 f8 g x (hs g x) (hv g) (hc g x)
  · have hg' : g.val ≠ n.val := fun e => hgn (Fin.ext e)
    exact trip_other c i arg3 arg4 arg5 arg7 arg8 f3 f4 f5 f7 f8 _ g _ x (.inr hgn) (hx g x (by omega))

/-- The exact pass over the first `n` heads. -/
theorem redo_lanes {N : ℕ} {s : Fin 8 → Fin 512 → ℕ → ℝ} {u : Fin 8 → Fin 64 → ℕ → EReal}
    (hs : ∀ g x, TileScores (qOf c arg3 f3 g) (kOf c arg4 f4) x fun j => s g x (N + j)) (hv : ∀ g, TileValues (vOf c arg5 f5 g) fun d j => u g d (N + j))
    (h : ∀ g x, LaneIn c arg7 arg8 f7 f8 (cur i) g x N (s g x) (u g)) :
    ∀ n, n ≤ 8 → ∀ r, r = redo (F := Ideal) c i arg3 harg3 arg4 harg4 arg5 harg5 arg6 harg6 arg7 harg7 arg8 harg8 arg9 harg9 v0 v1 f3 f4 f5 f7 f8 n →
      (∀ g x, LaneIn c arg7 arg8 r.1 r.2 (cur i) g x N (s g x) (u g)) ∧ ∀ g x, g.val < n → LaneIn c arg7 arg8 r.1 r.2 (nxt i) g x (N + 3328) (s g x) (u g)
  | 0, _, r, hr => by
    subst hr
    exact ⟨h, fun g x hg => absurd hg (Nat.not_lt_zero _)⟩
  | n + 1, hn, r, hr => by
    obtain ⟨p, hp⟩ : ∃ p, p = redo (F := Ideal) c i arg3 harg3 arg4 harg4 arg5 harg5 arg6 harg6 arg7 harg7 arg8 harg8 arg9 harg9 v0 v1 f3 f4 f5 f7 f8 n := ⟨_, rfl⟩
    obtain ⟨hc, hx⟩ := redo_lanes hs hv h n (by omega) p hp
    have hk : n < k0_t1_loop.trips := by show n < 8; omega
    have e := hr.trans (redo_succ c i arg3 harg3 arg4 harg4 arg5 harg5 arg6 harg6 arg7 harg7 arg8 harg8 arg9 harg9 v0 v1 f3 f4 f5 f7 f8 ⟨n, hk⟩)
    rw [trip_list] at e
    obtain ⟨r1, r2⟩ := r
    obtain ⟨e1, e2⟩ := Prod.mk.inj e
    obtain ⟨p1, p2⟩ := p
    exact lanes_step c i arg3 arg4 arg5 arg7 arg8 f3 f4 f5 p1 p2 hs hv ⟨n, by omega⟩ r1 r2 (by rw [e1, ← hp]) (by rw [e2, ← hp]) hc hx

/-! ## The first tile -/

theorem first_tile : bodyRun.sl.v4 i = 1#1 ↔ (i 2).val = 0 := by
  have h : (i 2).val < 5 := (i 2).isLt
  unfold bodyRun.sl.v4
  simp only [bodyRun.sl.v3, bodyRun.sl.v2]
  generalize (i 2).val = n at *
  revert h n; decide

/-- Later tiles start from what the one before left, -/
theorem start_next (h : (i 2).val ≠ 0) : start7 c i arg3 arg4 arg7 f3 f4 f7 = f7 ∧ start8 c i arg8 f8 = f8 :=
  ⟨if_neg fun e => h ((first_tile i).1 e), if_neg fun e => h ((first_tile i).1 e)⟩

/-- and the first from the largest of sixteen scores and no sums. -/
theorem start_first (h : (i 2).val = 0) (g : Fin 8) (x : Fin 512) (s : ℕ → ℝ) (u : Fin 64 → ℕ → EReal)
    (hs : TileScores (qOf c arg3 f3 g) (kOf c arg4 f4) x s) :
    LaneIn c arg7 arg8 (start7 c i arg3 arg4 arg7 f3 f4 f7) (start8 c i arg8 f8) (cur i) g x 0 s u := by
  have hv := (first_tile i).2 h
  have hz : cur i = 0 := Fin.ext (by show (i 2).val % 2 = 0; rw [h])
  have e7 : arg7.view.read (Elt Ideal) (start7 c i arg3 arg4 arg7 f3 f4 f7) (ix4 (cur i) g 0 x) = firstM c arg3 arg4 f3 f4 g (ix4 0 0 0 x) := by
    rw [hz]
    unfold start7
    rw [if_pos hv]
    exact read_map_mem arg7.view f7 (fun g => ![0, g.val, 0, 0]) inbM0 (fun g => firstM c arg3 arg4 f3 f4 g) (ix4 0 g 0 x) g (ix4 0 0 0 x)
      (fun a => by fin_cases a <;> simp [ix4]) 1 (fun h hh => by have : h.val ≠ g.val := fun e => hh (Fin.ext e); simp [ix4]; omega) _ (all_heads g)
  have e8 : ∀ r : Fin 72, arg8.view.read (Elt Ideal) (start8 c i arg8 f8) (ix4 (cur i) g r x) = 0 := fun r => by
    rw [hz]
    unfold start8
    rw [if_pos hv]
    have := View.read_writes_cons_unit_of_mem arg8.view f8 inb_S2x8x72x512_S1x8x72x512_0_0_0_0 (bodyRun.sl.v3594 (F := Ideal)) [] (ix4 0 g r x) (ix4 0 g r x) rfl
      (fun a => by fin_cases a <;> simp [ix4])
    exact this.trans (by pointwise [bodyRun.sl.v3594, bodyRun.sl.v3591, bodyRun.sl.cst_2855])
  obtain ⟨μ, hμ⟩ := firstV_real (q := qOf c arg3 f3 g)
    (k := View.readAt (Elt Ideal) arg4.view (Rect.unit (s := S1x1x3328x128) ![0, 0, 0, 0] S1x1x16x128.size inbK0).toLoadRect f4) (x := x) (s := s) (fun r => by
      have := hs 0 ⟨r.val, by omega⟩
      rw [scores_at] at this
      simp only [Fin.val_zero, Nat.zero_mul, Nat.zero_add] at this
      rw [← this]
      refine Finset.sum_congr rfl fun d _ => congrArg (· * _) ?_
      rw [kOf_at]
      exact readAt_at arg4.view f4 inbK0 _ _ fun a => by fin_cases a <;> simp [ix4])
  refine ⟨μ, e7.trans hμ, (e8 _).trans (by simp), fun d => (e8 _).trans (by simp)⟩

end Loads

end Cert.GroupedIdeal.Stream
end
-- ==== Proof.GroupedStream.Blocks.lean ====
/- The blocks of the grouped kernel's queries, keys and values at a grid point, by their arrays: point `t` is batch `t / 160`,
   query tile `t / 5 % 32` and key tile `t % 5`. -/
module

public import proofs.«01_k».proof.Proof.GroupedStream.Reads
public import Idealize.ShloMosaic.Lib.Pipeline.ValueKit.Point

@[expose] public section

set_option maxRecDepth 16384
set_option maxHeartbeats 1000000

noncomputable section

namespace Cert.GroupedIdeal.Stream
open Cert.GroupedIdeal Cert.GroupedIdeal.Gen Cert.GroupedIdeal.Body
open Idealize.ShloMosaic
open Idealize.ShloMosaic.TcCoe
variable (m : (ℓ : Loc nD τ sig) → Buf (Elt Ideal) ℓ) (c : Dev nD)

/-- Where each window's block lies at a point, -/
theorem idx0 : ∀ t : Fin cfg0.N, win0_0.index t = ![t.val / 160, 0, 0, t.val / 5 % 32] := (by decide +kernel : ∀ t : Fin grid0.N, _)
theorem idx1 : ∀ t : Fin cfg0.N, win0_1.index t = ![t.val / 160, 0, t.val % 5, 0] := (by decide +kernel : ∀ t : Fin grid0.N, _)
theorem idx2 : ∀ t : Fin cfg0.N, win0_2.index t = ![t.val / 160, 0, 0, t.val % 5] := (by decide +kernel : ∀ t : Fin grid0.N, _)
theorem idx3 : ∀ t : Fin cfg0.N, win0_3.index t = ![t.val / 160, 0, 0, t.val / 5 % 32] := (by decide +kernel : ∀ t : Fin grid0.N, _)
/-- the point's key tile, and the last one's test. -/
theorem coord2 : ∀ t : Fin cfg0.N, ((grid0.coords t) 2).val = t.val % 5 := (by decide +kernel : ∀ t : Fin grid0.N, _)
theorem last : ∀ t : Fin cfg0.N, t.val % 5 = 4 → k0_cond3 (grid0.coords t) = 1#1 := (by decide +kernel : ∀ t : Fin grid0.N, _)
/-- The result's blocks cover its array. -/
theorem covers : win0_3.Covers := by decide +kernel

theorem N320 (t : Fin cfg0.N) : t.val < 320 := t.isLt

/-- The three blocks at an index. -/
theorem q_at (t : Fin cfg0.N) (g : Fin 8) (d : Fin 128) (x : Fin 512) (b : Fin 2) (Q : Fin 17408) (hb : b.val = t.val / 160) (hQ : Q.val = t.val / 5 % 32 * 512 + x.val) :
    iblk m c 0 t (ix4 0 g d x) = m ((c : Thread nD τ).loc main_arg0) (ix4 b g d Q) := by
  blk_ext! [iblk, V, idx0 t, hb, hQ]

theorem kb_at (t : Fin cfg0.N) (j : ((cfg0.win 1).xblock (cfg0.grid.coords t)).Idx) (y : S2x1x17408x128.Idx)
    (h : ∀ a : Fin 4, (y a).val = (![t.val / 160, 0, t.val % 5 * 3328, 0] : Fin 4 → ℕ) a + (j a).val) :
    iblk m c 1 t j = m ((c : Thread nD τ).loc main_arg1) y := by
  have h0 := h 0; have h1 := h 1; have h2 := h 2; have h3 := h 3
  simp only [Matrix.cons_val] at h0 h1 h2 h3
  blk_simp [iblk]
  refine congrArg _ ?_
  blk_ext [idx1 t, h0, h1, h2, h3]

theorem k_at (t : Fin cfg0.N) (r : Fin 3328) (d : Fin 128) (b : Fin 2) (n : Fin 17408) (hb : b.val = t.val / 160) (hn : n.val = t.val % 5 * 3328 + r.val) :
    X0_1 m c t (ix4 0 0 r d) = m ((c : Thread nD τ).loc main_arg1) (ix4 b 0 n d) := by
  unfold X0_1 Pipeline.Window.fill
  rw [dif_pos (moved0_1 t _)]
  refine kb_at m c t _ _ fun a => ?_
  fin_cases a <;> simp [ix4, hb, hn]

theorem vb_at (t : Fin cfg0.N) (j : ((cfg0.win 2).xblock (cfg0.grid.coords t)).Idx) (y : S2x2x64x17408.Idx)
    (h : ∀ a : Fin 4, (y a).val = (![t.val / 160, 0, 0, t.val % 5 * 3328] : Fin 4 → ℕ) a + (j a).val) :
    iblk m c 2 t j = m ((c : Thread nD τ).loc main_arg2) y := by
  have h0 := h 0; have h1 := h 1; have h2 := h 2; have h3 := h 3
  simp only [Matrix.cons_val] at h0 h1 h2 h3
  blk_simp [iblk]
  refine congrArg _ ?_
  blk_ext [idx2 t, h0, h1, h2, h3]

theorem v_at (t : Fin cfg0.N) (g : Fin 2) (d : Fin 64) (r : Fin 3328) (b : Fin 2) (n : Fin 17408) (hb : b.val = t.val / 160) (hn : n.val = t.val % 5 * 3328 + r.val) :
    X0_2 m c t (ix4 0 g d r) = m ((c : Thread nD τ).loc main_arg2) (ix4 b g d n) := by
  unfold X0_2 Pipeline.Window.fill
  rw [dif_pos (moved0_2 t _)]
  refine vb_at m c t _ _ fun a => ?_
  fin_cases a <;> simp [ix4, hb, hn]

end Cert.GroupedIdeal.Stream
end
-- ==== Proof.GroupedStream.Walk.lean ====
/- The grouped attention of every query, carried from point to point of the grid, and what the last key tile of a query tile
   writes. -/
module

public import proofs.«01_k».proof.Proof.GroupedStream.Blocks

@[expose] public section

set_option maxRecDepth 16384
set_option maxHeartbeats 1000000

noncomputable section

namespace Cert.GroupedIdeal.Stream

open Cert.GroupedIdeal Cert.GroupedIdeal.Gen Cert.GroupedIdeal.Body

open Cert.KernelIdeal.Stream (chain scores weights weightsM partL partM partV sumL maxM sumV peak newM rescale newA newL topM exactS redoM redoA redoL payL payA outA read_off piece_off readAt_at read_map_mem read_map_not read_two_fst read_two_snd read_two_not all_heads read_writes_one read_writes_pair Lane TileScores TileValues scores_at main_head redo_head firstV_real outA_at wt attn Lane.out)

open Idealize.ShloMosaic
open Idealize.ShloMosaic.TcCoe

/-- The score of key `n`, which all heads share, and query `Q` of head `g`, as the sum the kernel takes, -/
def dotE (q : S2x8x128x17408.Idx → EReal) (k : S2x1x17408x128.Idx → EReal) (b : Fin 2) (g : Fin 8) (Q n : Fin 17408) : EReal :=
  ∑ d : Fin 128, k (ix4 b 0 n d) * q (ix4 b g d Q)
/-- as a real, by the key's number; -/
def sc (q : S2x8x128x17408.Idx → EReal) (k : S2x1x17408x128.Idx → EReal) (b : Fin 2) (g : Fin 8) (Q : Fin 17408) (n : ℕ) : ℝ :=
  if h : n < 17408 then (dotE q k b g Q ⟨n, h⟩).toReal else 0
/-- and the value of channel `d` of key `n`, in the head's group. -/
def vl (v : S2x2x64x17408.Idx → EReal) (b : Fin 2) (g : Fin 8) (d : Fin 64) (n : ℕ) : EReal :=
  if h : n < 17408 then v (ix4 b (grp g) d ⟨n, h⟩) else 0

section Walk

variable (m : (ℓ : Loc nD τ sig) → Buf (Elt Ideal) ℓ)

/-- The scores and values of query `x` of point `n`'s tile. -/
def bOf (n : ℕ) : Fin 2 := ⟨n / 160 % 2, by omega⟩
def qpos (n : ℕ) (x : Fin 512) : Fin 17408 := ⟨n / 5 % 32 * 512 + x.val, by omega⟩
def scAt (c : Dev nD) (n : ℕ) (g : Fin 8) (x : Fin 512) : ℕ → ℝ := sc (m ((c : Thread nD τ).loc main_arg0)) (m ((c : Thread nD τ).loc main_arg1)) (bOf n) g (qpos n x)
def vlAt (c : Dev nD) (n : ℕ) (g : Fin 8) : Fin 64 → ℕ → EReal := vl (m ((c : Thread nD τ).loc main_arg2)) (bOf n) g

/-- Before a point that is not a tile's first, the slot it reads carries the keys before its own. -/
def Inv (c : Dev nD) (n : ℕ) (f7 : Bf (F := Ideal) c scM) (f8 : Bf (F := Ideal) c scS) : Prop :=
  n % 5 ≠ 0 → ∀ g x, LaneIn c scM scS f7 f8 ⟨n % 5 % 2, by omega⟩ g x (n % 5 * 3328) (scAt m c n g x) (vlAt m c n g)

/-- A tile's last point leaves the attention of its queries. -/
def Post (c : Dev nD) (t : Fin cfg0.N) (X : S1x8x64x512.Idx → Elt Ideal .bf16) : Prop :=
  t.val % 5 = 4 → ∀ g d x, X (ix4 0 g d x) = attn (scAt m c t.val g x) (vlAt m c t.val g d)

/-- Every score of a query and a key that are used is a real. -/
def RealScores (c : Dev nD) : Prop :=
  ∀ (b : Fin 2) (g : Fin 8) (Q n : Fin 17408), Q.val < 16384 → n.val < 16640 → ∃ r : ℝ,
    dotE (m ((c : Thread nD τ).loc main_arg0)) (m ((c : Thread nD τ).loc main_arg1)) b g Q n = r

variable {m}

theorem tile_scores {c : Dev nD} (hr : RealScores m c) (t : Fin cfg0.N) (f3 : Bf (F := Ideal) c (st0_0 t)) (f4 : Bf (F := Ideal) c (st0_1 t))
    (h3 : (st0_0 t).view.read (Elt Ideal) f3 = iblk m c 0 t) (h4 : (st0_1 t).view.read (Elt Ideal) f4 = X0_1 m c t) (g : Fin 8) (x : Fin 512) :
    TileScores (qOf c (st0_0 t) f3 g) (kOf c (st0_1 t) f4) x fun j => scAt m c t.val g x (t.val % 5 * 3328 + j) := by
  intro e r
  have ht := N320 t
  have hb : (bOf t.val).val = t.val / 160 := by show t.val / 160 % 2 = _; omega
  have hn : t.val % 5 * 3328 + (e.val * 256 + r.val) < 17408 := by omega
  obtain ⟨ρ, hρ⟩ := hr (bOf t.val) g (qpos t.val x) ⟨_, hn⟩ (by show t.val / 5 % 32 * 512 + x.val < _; omega) (by show t.val % 5 * 3328 + (e.val * 256 + r.val) < 16640; omega)
  have e1 : scAt m c t.val g x (t.val % 5 * 3328 + (e.val * 256 + r.val)) = ρ := by
    unfold scAt sc
    rw [dif_pos hn, hρ, EReal.toReal_coe]
  show _ = ((scAt m c t.val g x (t.val % 5 * 3328 + (e.val * 256 + r.val)) : ℝ) : EReal)
  rw [e1, ← hρ, scores_at]
  unfold dotE
  refine Finset.sum_congr rfl fun d _ => ?_
  rw [kOf_at, qOf_at, h3, h4, k_at m c t _ d (bOf t.val) ⟨_, hn⟩ hb rfl, q_at m c t g d x (bOf t.val) (qpos t.val x) hb rfl]

theorem tile_values {c : Dev nD} (t : Fin cfg0.N) (f5 : Bf (F := Ideal) c (st0_2 t))
    (h5 : (st0_2 t).view.read (Elt Ideal) f5 = X0_2 m c t) (g : Fin 8) :
    TileValues (vOf c (st0_2 t) f5 g) fun d j => vlAt m c t.val g d (t.val % 5 * 3328 + j) := by
  intro e d r
  have ht := N320 t
  have hb : (bOf t.val).val = t.val / 160 := by show t.val / 160 % 2 = _; omega
  have hn : t.val % 5 * 3328 + (e.val * 256 + r.val) < 17408 := by omega
  show _ = vlAt m c t.val g d (t.val % 5 * 3328 + (e.val * 256 + r.val))
  unfold vlAt vl
  rw [dif_pos hn, vOf_at, h5, v_at m c t (grp g) d _ (bOf t.val) ⟨_, hn⟩ hb rfl]

/-- What a point's carried buffers, whichever pass left them, mean for the next point and for the result. -/
theorem step_out {c : Dev nD} (t : Fin cfg0.N) (f3 : Bf (F := Ideal) c (st0_0 t)) (f4 : Bf (F := Ideal) c (st0_1 t)) (f5 : Bf (F := Ideal) c (st0_2 t))
    (f6 : Bf (F := Ideal) c (st0_3 t)) (f7 : Bf (F := Ideal) c scM) (f8 : Bf (F := Ideal) c scS) (f9 : Bf (F := Ideal) c scP)
    (f7' : Bf (F := Ideal) c scM) (f8' : Bf (F := Ideal) c scS)
    (h : ∀ g x, LaneIn c scM scS f7' f8' (nxt (grid0.coords t)) g x (t.val % 5 * 3328 + 3328) (scAt m c t.val g x) (vlAt m c t.val g)) :
    Inv m c (t.val + 1) f7' f8' ∧ Post m c t ((st0_3 t).view.read (Elt Ideal) ((runAt c t f3 f4 f5 f7 f8 f9).1.2.2.2 f6 f8')) := by
  have ht := N320 t
  have h2 := coord2 t
  constructor
  · intro hn g x
    have e1 : (⟨(t.val + 1) % 5 % 2, by omega⟩ : Fin 2) = nxt (grid0.coords t) := Fin.ext (by
      show (t.val + 1) % 5 % 2 = 1 - ((grid0.coords t) 2).val % 2
      rw [h2]; omega)
    have e2 : (t.val + 1) % 5 * 3328 = t.val % 5 * 3328 + 3328 := by omega
    have e3 : bOf (t.val + 1) = bOf t.val := Fin.ext (by show (t.val + 1) / 160 % 2 = t.val / 160 % 2; omega)
    have e4 : qpos (t.val + 1) x = qpos t.val x := Fin.ext (by show (t.val + 1) / 5 % 32 * 512 + x.val = t.val / 5 % 32 * 512 + x.val; omega)
    have e5 : scAt m c (t.val + 1) g x = scAt m c t.val g x := by unfold scAt; rw [e3, e4]
    have e6 : vlAt m c (t.val + 1) g = vlAt m c t.val g := by unfold vlAt; rw [e3]
    rw [e1, e2, e5, e6]
    exact h g x
  · intro h4 g d x
    have hc := last t h4
    rw [main6 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM (Memref.isWhole_whole _) scS (Memref.isWhole_whole _) scP (Memref.isWhole_whole _) f3 f4 f5 f7 f8 f9 hc f6 f8']
    have := read_map_mem (st0_3 t).view f6 (fun g => ![0, g.val, 0, 0]) inbO (fun g => outA (aNew c (grid0.coords t) scS f8' g) (lNew c (grid0.coords t) scS f8' g))
      (ix4 0 g d x) g (ix4 0 0 d x) (fun a => by fin_cases a <;> simp [ix4]) 1
      (fun h hh => by have : h.val ≠ g.val := fun e => hh (Fin.ext e); show g.val < h.val ∨ h.val + 1 ≤ g.val; omega) _ (all_heads g)
    refine Eq.trans this ?_
    rw [outA_at, aNew_at, lNew_at]
    have hl := h g x
    rw [h4] at hl
    exact Lane.out hl d

variable (m) in
/-- The invariant and the postcondition are kept by every point. -/
theorem steps (hr : ∀ c, RealScores m c) : Steps m (Inv m) (Post m) where
  zero c f7 f8 := fun h => absurd rfl h
  step c t f3 f4 f5 f6 f7 f8 f9 f7' f8' h3 h4 h5 hI hL := by
    have h2 := coord2 t
    have hs := tile_scores (hr c) t f3 f4 h3 h4
    have hv := tile_values t f5 h5
    refine step_out t f3 f4 f5 f6 f7 f8 f9 f7' f8' ?_
    have h0 : ∀ g x, LaneIn c scM scS (start7 c (grid0.coords t) (st0_0 t) (st0_1 t) scM f3 f4 f7) (start8 c (grid0.coords t) scS f8) (cur (grid0.coords t)) g x
        (t.val % 5 * 3328) (scAt m c t.val g x) (vlAt m c t.val g) := by
      intro g x
      by_cases h : t.val % 5 = 0
      · rw [h, Nat.zero_mul]
        refine start_first c (grid0.coords t) (st0_0 t) (st0_1 t) scM scS f3 f4 f7 f8 (h2.trans h) g x _ _ ?_
        have := hs g x
        rw [h] at this
        simpa only [Nat.zero_mul, Nat.zero_add] using this
      · obtain ⟨e7, e8⟩ := start_next c (grid0.coords t) (st0_0 t) (st0_1 t) scM scS f3 f4 f7 f8 (by rw [h2]; exact h)
        rw [e7, e8]
        have ec : cur (grid0.coords t) = ⟨t.val % 5 % 2, by omega⟩ := Fin.ext (by show ((grid0.coords t) 2).val % 2 = _; rw [h2])
        rw [ec]
        exact hI h g x
    have hm : ∀ w7 w8, w7 = (runAt c t f3 f4 f5 f7 f8 f9).1.1 → w8 = (runAt c t f3 f4 f5 f7 f8 f9).1.2.1 →
        (∀ g x, LaneIn c scM scS w7 w8 (cur (grid0.coords t)) g x (t.val % 5 * 3328) (scAt m c t.val g x) (vlAt m c t.val g))
          ∧ ∀ g x, LaneIn c scM scS w7 w8 (nxt (grid0.coords t)) g x (t.val % 5 * 3328 + 3328) (scAt m c t.val g x) (vlAt m c t.val g) := by
      intro w7 w8 e7 e8
      rw [main7 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM (Memref.isWhole_whole _) scS (Memref.isWhole_whole _) scP (Memref.isWhole_whole _) f3 f4 f5 f7 f8 f9] at e7
      rw [main8 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM (Memref.isWhole_whole _) scS (Memref.isWhole_whole _) scP (Memref.isWhole_whole _) f3 f4 f5 f7 f8 f9] at e8
      subst e7 e8
      exact ⟨fun g x => main_cur c (grid0.coords t) (st0_0 t) (st0_1 t) (st0_2 t) scM scS f3 f4 f5 f7 f8 g x (h0 g x),
        fun g x => main_lane c (grid0.coords t) (st0_0 t) (st0_1 t) (st0_2 t) scM scS f3 f4 f5 f7 f8 g x (hs g x) (hv g) (h0 g x)⟩
    rcases hL with ⟨e7, e8⟩ | ⟨e7, e8⟩
    · exact (hm f7' f8' e7 e8).2
    · obtain ⟨w7, hw7⟩ : ∃ w7, w7 = (runAt c t f3 f4 f5 f7 f8 f9).1.1 := ⟨_, rfl⟩
      obtain ⟨w8, hw8⟩ : ∃ w8, w8 = (runAt c t f3 f4 f5 f7 f8 f9).1.2.1 := ⟨_, rfl⟩
      rw [← hw7, ← hw8] at e7 e8
      have := redo_lanes c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) scM (Memref.isWhole_whole _) scS (Memref.isWhole_whole _) scP (Memref.isWhole_whole _) f3 f4 f5 w7 w8
        (Scalar.remsi (BitVec.ofNat 32 ((grid0.coords t) 2).val) 2#32) (Scalar.subi 1#32 (Scalar.remsi (BitVec.ofNat 32 ((grid0.coords t) 2).val) 2#32))
        hs hv (hm w7 w8 hw7 hw8).1 8 le_rfl _ rfl
      intro g x
      rw [e7, e8]
      exact this.2 g x g.isLt

end Walk

end Cert.GroupedIdeal.Stream
end
-- ==== Proof.GroupedStream.Result.lean ====
/- What the grouped kernel's result array holds after the run: the attention of every query. -/
module

public import proofs.«01_k».proof.Proof.GroupedStream.Walk
public import proofs.«01_k».proof.Proof.GroupedIdeal.Frame
public import Idealize.ShloMosaic.Lib.Pipeline.ArrRel

@[expose] public section

set_option maxRecDepth 16384
set_option maxHeartbeats 1000000

noncomputable section

namespace Cert.GroupedIdeal.Stream

open Cert.GroupedIdeal Cert.GroupedIdeal.Gen Cert.GroupedIdeal.Body

open Cert.KernelIdeal.Stream (wide attn)

open Idealize.ShloMosaic
open Idealize.ShloMosaic.TcCoe
open Idealize.SL.Sem

/-- The attention of the queries `q`, keys `k` and values `v`. -/
def attention (q : S2x8x128x17408.Idx → EReal) (k : S2x1x17408x128.Idx → EReal) (v : S2x2x64x17408.Idx → EReal) (y : S2x8x64x16384.Idx) : EReal :=
  attn (sc q k (y 0) (y 1) (wide (y 3))) (vl v (y 0) (y 1) (y 2))

variable (m : (ℓ : Loc nD τ sig) → Buf (Elt Ideal) ℓ) (ρ : Dev nD → PrngReg)

/-- The attention of the arguments on a device. -/
def result (c : Dev nD) : S2x8x64x16384.Idx → EReal :=
  attention (m ((c : Thread nD τ).loc main_arg0)) (m ((c : Thread nD τ).loc main_arg1)) (m ((c : Thread nD τ).loc main_arg2))

/-- The result's block is written back at each query tile's last key tile. -/
theorem flush3 : ∀ t : Fin cfg0.N, win0_3.flush t = true → t.val % 5 = 4 := (by decide +kernel : ∀ t : Fin grid0.N, _)

/-- Blocks that are the attention of their queries make up the attention of all. -/
theorem arr_eq (c : Dev nD) (dat : Pipeline.Dat τ (Elt Ideal) Unit ℕ (UR sig nD τ) ℕ cfg0 c)
    (h : ∀ t, win0_3.flush t = true → Post m c t (dat.after 3 t)) : dat.arrAt 3 cfg0.N = result m c := by
  refine dat.arrAt_eq_of_covers 3 _ covers fun t hf y => ?_
  have h4 := flush3 t hf
  have hp := h t hf h4
  have ht := N320 t
  blk_simp
  obtain ⟨g, hg⟩ : ∃ g : Fin 8, g.val = (y 1).val := ⟨⟨(y 1).val, (y 1).isLt⟩, rfl⟩
  obtain ⟨d, hd⟩ : ∃ d : Fin 64, d.val = (y 2).val := ⟨⟨(y 2).val, (y 2).isLt⟩, rfl⟩
  obtain ⟨x, hx⟩ : ∃ x : Fin 512, x.val = (y 3).val := ⟨⟨(y 3).val, (y 3).isLt⟩, rfl⟩
  have h0 : (y 0).val = 0 := by have : (y 0).val < 1 := (y 0).isLt; omega
  have hb : (bOf t.val).val = t.val / 160 := by show t.val / 160 % 2 = _; omega
  have ey : (win0_3.blk t).view.emb y = (ix4 (bOf t.val) g d ⟨t.val / 5 % 32 * 512 + x.val, by omega⟩ : S2x8x64x16384.Idx) := by
    blk_ext [idx3 t, hb, hg, hd, hx, h0]
  have ez : y = (ix4 0 g d x : S1x8x64x512.Idx) := by
    funext a; apply Fin.ext; fin_cases a <;> simp [ix4, hg, hd, hx, h0]
  rw [ey]
  refine (congrArg (dat.after 3 t) ez).trans ((hp g d x).trans ?_)
  rfl

/-- The kernel's run: its result array is the attention of its arguments, which are unchanged. -/
theorem run (hr : ∀ c, RealScores m c) :
    θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨by
      obtain ⟨after, hL, hA⟩ := h.1.exists_exact c
      refine (hA 3).trans (arr_eq m c _ fun t hf => ?_)
      exact (dats m (Inv m) 0 c).toRRel_leaves (fgt := held) (Rl := rel (Post m) c) (w := 3) rfl (hL 3 t hf), args_of m h.1 c⟩)
    (run_main m ρ (Inv m) (Post m) (steps m hr))

end Cert.GroupedIdeal.Stream
end
-- ==== Proof.GroupedStream.Reference.lean ====
/- The grouped reference's softmax, read at an index: the same quotient of sums as the grouped kernel's, when its queries and
   keys are finite. -/
module

public import proofs.«01_k».proof.Proof.Gen.GroupedReferenceIdeal.Run
public import proofs.«01_k».proof.Proof.Gen.Pre_finite_grouped_queries_and_keys
public import proofs.«01_k».proof.Proof.GroupedStream.Result

@[expose] public section

set_option maxRecDepth 16384
set_option maxHeartbeats 1000000

noncomputable section

namespace Cert.GroupedReferenceIdeal.Softmax

open Cert.GroupedReferenceIdeal Cert.GroupedReferenceIdeal.Gen
open Cert.GroupedIdeal.Stream (dotE sc vl grp attention RealScores)
open Cert.KernelIdeal.Stream (attn wide)
open Cert.ReferenceIdeal.Softmax (Scores soft weights attn_of key ln2 real_sum real_of_abs)

open Idealize.ShloMosaic
open Idealize.ShloMosaic.TcCoe

/-- The scores, times `log 2`: the keys are the same for every head. -/
def scores (q : FVec Ideal S2x8x128x17408 .bf16) (k : FVec Ideal S2x1x17408x128 .bf16) : Scores :=
  mulf (Host.dotGeneral dot_S2x8x128x16384_S2x16640x128_S2x8x16384x16640_2_2_13_1_0_0 none (extf .f32 (extractStridedSlice S2x8x128x16384 ![0, 0, 0, 0] q slices_S2x8x128x17408_S2x8x128x16384_0_0_0_0) bitsLt_bf16_f32) (extf .f32 (shapeCast S2x16640x128 (extractStridedSlice S2x1x16640x128 ![0, 0, 0, 0] k slices_S2x1x17408x128_S2x1x16640x128_0_0_0_0) shapeCasts_S2x1x16640x128_S2x16640x128) bitsLt_bf16_f32)) (broadcastInDim S2x8x16384x16640 ![] bcast_S_S2x8x16384x16640 (Host.log (constant S_ .f32 0x40000000#32)))

/-- The values, each group's repeated for its four heads. -/
def repeated (v : FVec Ideal S2x2x64x17408 .bf16) : FVec Ideal S2x8x64x16640 .f32 :=
  shapeCast S2x8x64x16640 (broadcastInDim S2x2x4x64x16640 ![0, 1, 2, 3, 4] bcast_S2x2x1x64x16640_S2x2x4x64x16640_0_1_2_3_4 (broadcastInDim S2x2x1x64x16640 ![0, 1, 3, 4] bcast_S2x2x64x16640_S2x2x1x64x16640_0_1_3_4 (extf .f32 (extractStridedSlice S2x2x64x16640 ![0, 0, 0, 0] v slices_S2x2x64x17408_S2x2x64x16640_0_0_0_0) bitsLt_bf16_f32))) shapeCasts_S2x2x4x64x16640_S2x8x64x16640

/-- The values against the softmax. -/
def mix (v : FVec Ideal S2x8x64x16640 .f32) (p : FVec Ideal S2x8x16384x16640 .bf16) : FVec Ideal S2x8x64x16384 .bf16 :=
  truncf .bf16 (Host.dotGeneral dot_S2x8x64x16640_S2x8x16384x16640_S2x8x64x16384_3_3_2_2_01_01 none v (extf .f32 p bitsLt_bf16_f32)) bitsLt_bf16_f32

theorem scores_at (q : FVec Ideal S2x8x128x17408 .bf16) (k : FVec Ideal S2x1x17408x128 .bf16) (b : Fin 2) (g : Fin 8) (Q : Fin 16384) (n : Fin 16640) :
    scores q k (ix4 b g Q n) = dotE q k b g (wide Q) (key n) * ((Real.log 2 : ℝ) : EReal) := by
  unfold dotE
  rw [← ln2, Finset.sum_congr rfl fun d _ => mul_comm _ _]
  pointwise [scores, wide, key]

theorem mix_at (v : FVec Ideal S2x8x64x16640 .f32) (p : FVec Ideal S2x8x16384x16640 .bf16) (b : Fin 2) (g : Fin 8) (d : Fin 64) (Q : Fin 16384) :
    mix v p (ix4 b g d Q) = ∑ n, v (ix4 b g d n) * p (ix4 b g Q n) := by
  pointwise [mix]

theorem repeated_at (v : FVec Ideal S2x2x64x17408 .bf16) (b : Fin 2) (g : Fin 8) (d : Fin 64) (n : Fin 16640) :
    repeated v (ix4 b g d n) = v (ix4 b (grp g) d (key n)) := by
  pointwise [repeated, grp, key]

/-- The reference's result is the attention, when the scores are reals. -/
theorem reference_at (q : FVec Ideal S2x8x128x17408 .bf16) (k : FVec Ideal S2x1x17408x128 .bf16) (v : FVec Ideal S2x2x64x17408 .bf16)
    (h : ∀ (b : Fin 2) (g : Fin 8) (Q : Fin 16384) (n : Fin 16640), ∃ r : ℝ, dotE q k b g (wide Q) (key n) = r)
    (b : Fin 2) (g : Fin 8) (d : Fin 64) (Q : Fin 16384) :
    mix (repeated v) (soft (weights (scores q k))) (ix4 b g d Q) = attn (sc q k b g (wide Q)) (vl v b g d) := by
  have hs : ∀ b g Q (n : Fin 16640), scores q k (ix4 b g Q n) = ((sc q k b g (wide Q) n.val * Real.log 2 : ℝ) : EReal) := by
    intro b g Q n
    obtain ⟨r, hr⟩ := h b g Q n
    unfold sc
    rw [dif_pos (show n.val < 17408 by omega), show (⟨n.val, _⟩ : Fin 17408) = key n from rfl, scores_at, hr, EReal.toReal_coe, EReal.coe_mul]
  have hv : ∀ n : Fin 16640, repeated v (ix4 b g d n) = vl v b g d n.val := by
    intro n
    unfold vl
    rw [dif_pos (show n.val < 17408 by omega), repeated_at]
    rfl
  rw [mix_at]
  simp only [hv]
  exact attn_of _ (fun b g Q => sc q k b g (wide Q)) hs (vl v b g d) b g Q

/-! ## The precondition -/

/-- The precondition makes every query and key that is used a real. -/
theorem finite (q : FVec Ideal S2x8x128x17408 .bf16) (k : FVec Ideal S2x1x17408x128 .bf16) (v : FVec Ideal S2x2x64x17408 .bf16)
    (h : Cert.Pre_finite_grouped_queries_and_keys.fn q k v = fun _ => 1#1) :
    (∀ b g d Q, ∃ r : ℝ, q (ix4 b g d (wide Q)) = (r : EReal)) ∧ ∀ b n d, ∃ r : ℝ, k (ix4 b 0 (key n) d) = (r : EReal) := by
  have e := congrFun h (Shape.Idx.first Cert.Pre_finite_grouped_queries_and_keys.Gen.h_S_)
  simp only [Cert.Pre_finite_grouped_queries_and_keys.fn, andi] at e
  obtain ⟨e1, e2⟩ := IntOp.andi_eq_one.1 e
  refine ⟨fun b g d Q => ?_, fun b n d => ?_⟩
  · have := Host.reduce_andi_all _ _ _ _ _ e1 (ix4 b g d Q)
    refine real_of_abs (Eq.trans ?_ this)
    symm
    pointwise [wide]
    rfl
  · have := Host.reduce_andi_all _ _ _ _ _ e2 (ix3 b n d)
    refine real_of_abs (Eq.trans ?_ this)
    symm
    pointwise [key]
    rfl

/-- Finite queries and keys have real scores. -/
theorem dot_real (q : FVec Ideal S2x8x128x17408 .bf16) (k : FVec Ideal S2x1x17408x128 .bf16) (v : FVec Ideal S2x2x64x17408 .bf16)
    (h : Cert.Pre_finite_grouped_queries_and_keys.fn q k v = fun _ => 1#1) (b : Fin 2) (g : Fin 8) (Q : Fin 16384) (n : Fin 16640) :
    ∃ r : ℝ, dotE q k b g (wide Q) (key n) = r := by
  obtain ⟨hq, hk⟩ := finite q k v h
  refine real_sum _ _ fun d => ?_
  obtain ⟨x, hx⟩ := hq b g d Q
  obtain ⟨y, hy⟩ := hk b n d
  exact ⟨y * x, by rw [hx, hy, EReal.coe_mul]⟩

/-- The kernel's scores are reals, -/
theorem realScores (m : (ℓ : Loc Cert.GroupedIdeal.nD Cert.GroupedIdeal.τ Cert.GroupedIdeal.sig) → Buf (Elt Ideal) ℓ) (c : Dev Cert.GroupedIdeal.nD)
    (h : Cert.Pre_finite_grouped_queries_and_keys.fn (F := Ideal) (m ((c.tc : Thread Cert.GroupedIdeal.nD Cert.GroupedIdeal.τ).loc Cert.GroupedIdeal.main_arg0)) (m ((c.tc : Thread Cert.GroupedIdeal.nD Cert.GroupedIdeal.τ).loc Cert.GroupedIdeal.main_arg1)) (m ((c.tc : Thread Cert.GroupedIdeal.nD Cert.GroupedIdeal.τ).loc Cert.GroupedIdeal.main_arg2)) = fun _ => 1#1) :
    RealScores m c := fun b g Q n hQ hn => dot_real _ _ _ h b g ⟨Q.val, hQ⟩ ⟨n.val, hn⟩

/-- and the reference's result is the attention of its arguments. -/
theorem reference_eq (q : FVec Ideal S2x8x128x17408 .bf16) (k : FVec Ideal S2x1x17408x128 .bf16) (v : FVec Ideal S2x2x64x17408 .bf16)
    (h : Cert.Pre_finite_grouped_queries_and_keys.fn q k v = fun _ => 1#1) :
    mix (repeated v) (soft (weights (scores q k))) = attention q k v := by
  funext y
  obtain ⟨b, g, d, Q, rfl⟩ : ∃ b g d Q, y = ix4 b g d Q := ⟨y 0, y 1, y 2, y 3, by funext a; fin_cases a <;> rfl⟩
  exact reference_at q k v (dot_real q k v h) b g d Q

end Cert.GroupedReferenceIdeal.Softmax
end
-- ==== Proof.OutputIdeal.Payload.lean ====
/- What one grid point of the output projection computes, element by element. -/
module

public import proofs.«01_k».proof.Proof.Gen.OutputIdeal.Skeleton
public import Idealize.ShloMosaic.Lib.Pointwise
public import Idealize.ShloMosaic.Lib.Tactic.WordOmega

@[expose] public section

set_option maxRecDepth 16384
set_option maxHeartbeats 1000000

noncomputable section

namespace Cert.OutputIdeal.Out

open Cert.OutputIdeal Cert.OutputIdeal.Gen
open Idealize.ShloMosaic
open Idealize.ShloMosaic.TcCoe

/-- A choice by a lane's number, -/
theorem at_lane (n k : ℕ) (hn : n < 2 ^ 32) (hk : k < 2 ^ 32) (a b : EReal) :
    Scalar.select (IntOp.cmpi .eq (BitVec.ofNat 32 n) (BitVec.ofNat 32 k)) a b = if n = k then a else b := by
  by_cases h : n = k
  · subst h
    simp [Scalar.select, IntOp.cmpi]
  · have e : BitVec.ofNat 32 n ≠ BitVec.ofNat 32 k := by
      intro e
      have := congrArg BitVec.toNat e
      simp only [BitVec.toNat_ofNat] at this
      omega
    rw [if_neg h]
    show (if BitVec.ofBool (BitVec.ofNat 32 n == BitVec.ofNat 32 k) = 1#1 then a else b) = b
    rw [beq_eq_false_iff_ne.mpr e]
    rfl

/-- and by whether a tile is the first -/
theorem not_first (t : ℕ) (h : t < 16) (a b : EReal) : Scalar.select (Scalar.cmpi .sgt (BitVec.ofNat 32 t) 0#32) a b = if t = 0 then b else a := by
  interval_cases t <;> rfl

/-- or the last. -/
theorem not_last (t : ℕ) (h : t < 16) (a b : EReal) : Scalar.select (Scalar.cmpi .slt (BitVec.ofNat 32 t) 15#32) a b = if t = 15 then b else a := by
  interval_cases t <;> rfl

/-- The position before: in the tile, or the last of the tile before; zero before the first. -/
theorem before_at (i : grid0.Coords) (u : Vec Ideal S1x512x1024 .bf16) (p : Vec Ideal S1x512x128 .bf16) (ch : Fin 512) (x : Fin 1024) :
    k0_pay2 (F := Ideal) i u p (ix2 ch x) = if h : x.val = 0 then (if (i 1).val = 0 then 0 else p (ix3 0 ch 127)) else u (ix3 0 ch ⟨x.val - 1, by omega⟩) := by
  pointwise [k0_pay2, k0_pay1]
  rw [at_lane x.val 0 (by omega) (by omega)]
  by_cases h : x.val = 0
  · rw [if_pos h, dif_pos h, dif_pos (by omega), not_first (i 1).val (i 1).isLt]
    exact congrArg (fun q => if (i 1).val = 0 then 0 else p (ix3 0 ch q)) (Fin.ext (by show (x.val + 128 - 1) % 128 = 127; omega))
  · rw [if_neg h, dif_neg h]
    congr 2
    exact Fin.ext (by show (x.val + 1024 - 1) % 1024 = x.val - 1; omega)

/-- The position after, likewise. -/
theorem after_at (i : grid0.Coords) (u : Vec Ideal S1x512x1024 .bf16) (p : Vec Ideal S1x512x128 .bf16) (ch : Fin 512) (x : Fin 1024) :
    k0_pay3 (F := Ideal) i u p (ix2 ch x) = if h : x.val = 1023 then (if (i 1).val = 15 then 0 else p (ix3 0 ch 0)) else u (ix3 0 ch ⟨x.val + 1, by omega⟩) := by
  pointwise [k0_pay3, k0_pay1]
  rw [at_lane x.val 1023 (by omega) (by omega)]
  by_cases h : x.val = 1023
  · rw [if_pos h, dif_pos h]
    iterate 7 rw [dif_neg (by omega)]
    rw [not_last (i 1).val (i 1).isLt]
    exact congrArg (fun q => if (i 1).val = 15 then 0 else p (ix3 0 ch q)) (Fin.ext (by show (x.val - 128 - 128 - 128 - 128 - 128 - 128 - 128 + 128 - 127) % 128 = 0; omega))
  · rw [if_neg h, dif_neg h]
    congr 2
    exact Fin.ext (by show (x.val + 1024 - 1023) % 1024 = x.val + 1; omega)

/-- Eight copies side by side, at a lane. -/
theorem tile_at (w : FVec Ideal S512x128 .f32) (ch : Fin 512) (x : Fin 1024) :
    concatenate S512x1024 1 [⟨S512x128, w⟩, ⟨S512x128, w⟩, ⟨S512x128, w⟩, ⟨S512x128, w⟩, ⟨S512x128, w⟩, ⟨S512x128, w⟩, ⟨S512x128, w⟩, ⟨S512x128, w⟩] concatenates_S512x128_S512x128_S512x128_S512x128_S512x128_S512x128_S512x128_S512x128_S512x1024_d1 (ix2 ch x)
      = w (ix2 ch ⟨x.val % 128, Nat.mod_lt _ (by decide)⟩) := by
  pointwise []
  repeat' split
  all_goals
    refine congrArg w (congrArg (ix2 ch) (Fin.ext ?_))
    simp only
    omega

/-- The convolution at a lane, from its three weights and the three positions. -/
def conv (w0 w1 w2 a b c : EReal) : EReal := w0 * a + w1 * b + w2 * c

/-- The point's result at a position and a channel: the residual and the gated product of the output weights with the
    attention's heads and the gated convolution's channels. -/
theorem point_at (v2 v22 v27 v30 : FVec Ideal S512x1024 .f32) (v32 : FVec Ideal S512x128 .f32) (v34 : Vec Ideal S1x512x128 .f32) (v37 : Vec Ideal S1x512x1024 .bf16)
    (v46 : Vec Ideal S1x1024x1024 .bf16) (v48 : Vec Ideal S1x512x1024 .bf16) (v56 : Vec Ideal S1024x1024 .bf16) (v58 : Vec Ideal S1x1024x1024 .f32) (v60 : Vec Ideal S1x1x1024 .f32)
    (x d : Fin 1024) :
    k0_pay6 v2 v22 v27 v30 v32 v34 v37 v46 v48 v56 v58 v60 (ix3 0 x d) = v58 (ix3 0 x d) + v60 (ix3 0 0 d) *
      ((∑ ch : Fin 512, v56 (ix2 d ⟨ch.val, by omega⟩) * (v48 (ix3 0 ch x) * v46 (ix3 0 ⟨ch.val, by omega⟩ x)))
        + ∑ ch : Fin 512, v56 (ix2 d ⟨512 + ch.val, by omega⟩) *
            (v37 (ix3 0 ch x) * conv (v30 (ix2 ch x)) (v32 (ix2 ch ⟨x.val % 128, Nat.mod_lt _ (by decide)⟩)) (v34 (ix3 0 ch ⟨x.val % 128, Nat.mod_lt _ (by decide)⟩))
              (v22 (ix2 ch x)) (v2 (ix2 ch x)) (v27 (ix2 ch x)) * v46 (ix3 0 ⟨512 + ch.val, by omega⟩ x))) := by
  unfold k0_pay6
  simp only []
  generalize hA : concatenate S512x1024 1 [⟨S512x128, v32⟩, _, _, _, _, _, _, _] _ = A
  generalize hw : shapeCast S512x128 v34 _ = w
  generalize hB : concatenate S512x1024 1 [⟨S512x128, w⟩, _, _, _, _, _, _, _] _ = B
  have eA : ∀ ch, A (ix2 ch x) = v32 (ix2 ch ⟨x.val % 128, Nat.mod_lt _ (by decide)⟩) := fun ch => by rw [← hA]; exact tile_at v32 ch x
  have eB : ∀ ch, B (ix2 ch x) = v34 (ix3 0 ch ⟨x.val % 128, Nat.mod_lt _ (by decide)⟩) := fun ch => by
    rw [← hB]
    refine (tile_at w ch x).trans ?_
    rw [← hw]
    pointwise []
  clear hA hB hw
  pointwise [conv]
  simp only [eA, eB]

/-- The positions, and the first two weights. -/
theorem here_at (u : Vec Ideal S1x512x1024 .bf16) (ch : Fin 512) (x : Fin 1024) : k0_pay1 (F := Ideal) u (ix2 ch x) = u (ix3 0 ch x) := by
  pointwise [k0_pay1]

theorem weight0_at (w : Vec Ideal S1x512x128 .f32) (ch : Fin 512) (x : Fin 1024) :
    k0_pay4 (F := Ideal) w (ix2 ch x) = w (ix3 0 ch ⟨x.val % 128, Nat.mod_lt _ (by decide)⟩) := by
  unfold k0_pay4
  refine (tile_at _ ch x).trans ?_
  pointwise []

theorem weight1_at (w : Vec Ideal S1x512x128 .f32) (ch : Fin 512) (y : Fin 128) : k0_pay5 (F := Ideal) w (ix2 ch y) = w (ix3 0 ch y) := by
  pointwise [k0_pay5]

end Cert.OutputIdeal.Out
end
-- ==== Proof.OutputIdeal.Result.lean ====
/- The output projection's result: what its grid points write back makes up one function of the arguments. -/
module

public import proofs.«01_k».proof.Proof.Gen.OutputIdeal.Value
public import proofs.«01_k».proof.Proof.OutputIdeal.Payload
public import Idealize.ShloMosaic.Lib.Pipeline.ValueKit.Point

@[expose] public section

set_option maxRecDepth 16384
set_option maxHeartbeats 1000000

noncomputable section

namespace Cert.OutputIdeal.Out

open Cert.OutputIdeal Cert.OutputIdeal.Gen
open Idealize.ShloMosaic
open Idealize.ShloMosaic.TcCoe
open Idealize.SL.Sem

/-- A position among the wider arrays' positions. -/
def wide (s : Fin 16384) : Fin 17408 := ⟨s.val, by omega⟩
/-- A channel of the attention's heads, and one of the convolution, among all. -/
def head (ch : Fin 512) : Fin 1024 := ⟨ch.val, by omega⟩
def chan (ch : Fin 512) : Fin 1024 := ⟨512 + ch.val, by omega⟩

/-- The positions beside one, zero outside the sequence. -/
def prev (u : S2x512x17408.Idx → EReal) (b : Fin 2) (ch : Fin 512) (s : Fin 16384) : EReal :=
  if s.val = 0 then 0 else u (ix3 b ch ⟨s.val - 1, by omega⟩)
def next (u : S2x512x17408.Idx → EReal) (b : Fin 2) (ch : Fin 512) (s : Fin 16384) : EReal :=
  if s.val = 16383 then 0 else u (ix3 b ch ⟨s.val + 1, by omega⟩)

/-- The residual stream after the layer: the residual and the gated product of the output weights with the attention's
    heads and the gated convolution's channels, each times its own gate. -/
def output (x : S2x16384x1024.Idx → EReal) (oc : S2x512x16384.Idx → EReal) (gb u : S2x512x17408.Idx → EReal) (w : S3x512.Idx → EReal)
    (sg : S2x1024x17408.Idx → EReal) (gate : S2x1x1024.Idx → EReal) (wo : S1024x1024.Idx → EReal) (b : Fin 2) (s : Fin 16384) (d : Fin 1024) : EReal :=
  x (ix3 b s d) + gate (ix3 b 0 d) *
    ((∑ ch : Fin 512, wo (ix2 d (head ch)) * (oc (ix3 b ch s) * sg (ix3 b (head ch) (wide s))))
      + ∑ ch : Fin 512, wo (ix2 d (chan ch)) *
          (gb (ix3 b ch (wide s)) * conv (w (ix2 0 ch)) (w (ix2 1 ch)) (w (ix2 2 ch)) (prev u b ch s) (u (ix3 b ch (wide s))) (next u b ch s)
            * sg (ix3 b (chan ch) (wide s))))

variable (m : (ℓ : Loc nD τ sig) → Buf (Elt Ideal) ℓ) (ρ : Dev nD → PrngReg) (c : Dev nD)

/-- Where each window's block lies at a point: point `t` is batch `t / 16` and tile `t % 16`. -/
theorem idx0 : ∀ t : Fin cfg0.N, win0_0.index t = ![t.val / 16, t.val % 16, 0] := (by decide +kernel : ∀ t : Fin grid0.N, _)
theorem idx1 : ∀ t : Fin cfg0.N, win0_1.index t = ![t.val / 16, 0, t.val % 16] := (by decide +kernel : ∀ t : Fin grid0.N, _)
theorem idx2 : ∀ t : Fin cfg0.N, win0_2.index t = ![t.val / 16, 0, t.val % 16] := (by decide +kernel : ∀ t : Fin grid0.N, _)
theorem idx3 : ∀ t : Fin cfg0.N, win0_3.index t = ![t.val / 16, 0, 8 * (t.val % 16) - 1] := (by decide +kernel : ∀ t : Fin grid0.N, _)
theorem idx4 : ∀ t : Fin cfg0.N, win0_4.index t = ![t.val / 16, 0, t.val % 16] := (by decide +kernel : ∀ t : Fin grid0.N, _)
theorem idx5 : ∀ t : Fin cfg0.N, win0_5.index t = ![t.val / 16, 0, min (8 * (t.val % 16) + 8) 127] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![t.val / 16, 0, t.val % 16] := (by decide +kernel : ∀ t : Fin grid0.N, _)
theorem idx8 : ∀ t : Fin cfg0.N, win0_8.index t = ![t.val / 16, 0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val / 16, t.val % 16, 0] := (by decide +kernel : ∀ t : Fin grid0.N, _)
/-- The point's tile. -/
theorem coord1 : ∀ t : Fin cfg0.N, ((grid0.coords t) 1).val = t.val % 16 := (by decide +kernel : ∀ t : Fin grid0.N, _)
/-- The result's blocks cover its array. -/
theorem covers : win0_10.Covers := by decide +kernel

theorem N32 (t : Fin cfg0.N) : t.val < 32 := t.isLt

/-- The blocks at an index. -/
theorem x_at (t : Fin cfg0.N) (x d : Fin 1024) (b : Fin 2) (s : Fin 16384) (hb : b.val = t.val / 16) (hs : s.val = t.val % 16 * 1024 + x.val) :
    iblk m c 0 t (ix3 0 x d) = m ((c : Thread nD τ).loc main_arg0) (ix3 b s d) := by
  blk_ext! [iblk, V, idx0 t, hb, hs]

theorem oc_at (t : Fin cfg0.N) (ch : Fin 512) (x : Fin 1024) (b : Fin 2) (s : Fin 16384) (hb : b.val = t.val / 16) (hs : s.val = t.val % 16 * 1024 + x.val) :
    iblk m c 1 t (ix3 0 ch x) = m ((c : Thread nD τ).loc main_arg1) (ix3 b ch s) := by
  blk_ext! [iblk, V, idx1 t, hb, hs]

theorem gb_at (t : Fin cfg0.N) (ch : Fin 512) (x : Fin 1024) (b : Fin 2) (s : Fin 17408) (hb : b.val = t.val / 16) (hs : s.val = t.val % 16 * 1024 + x.val) :
    iblk m c 2 t (ix3 0 ch x) = m ((c : Thread nD τ).loc main_arg2) (ix3 b ch s) := by
  blk_ext! [iblk, V, idx2 t, hb, hs]

theorem u_at (t : Fin cfg0.N) (ch : Fin 512) (x : Fin 1024) (b : Fin 2) (s : Fin 17408) (hb : b.val = t.val / 16) (hs : s.val = t.val % 16 * 1024 + x.val) :
    iblk m c 4 t (ix3 0 ch x) = m ((c : Thread nD τ).loc main_arg3) (ix3 b ch s) := by
  blk_ext! [iblk, V, idx4 t, hb, hs]

theorem sg_at (t : Fin cfg0.N) (ch : Fin 1024) (x : Fin 1024) (b : Fin 2) (s : Fin 17408) (hb : b.val = t.val / 16) (hs : s.val = t.val % 16 * 1024 + x.val) :
    iblk m c 7 t (ix3 0 ch x) = m ((c : Thread nD τ).loc main_arg5) (ix3 b ch s) := by
  blk_ext! [iblk, V, idx7 t, hb, hs]

theorem up_at (t : Fin cfg0.N) (ch : Fin 512) (b : Fin 2) (s : Fin 17408) (hb : b.val = t.val / 16) (h : t.val % 16 ≠ 0) (hs : s.val + 1 = t.val % 16 * 1024) :
    iblk m c 3 t (ix3 0 ch 127) = m ((c : Thread nD τ).loc main_arg3) (ix3 b ch s) := by
  have e : s.val = (8 * (t.val % 16) - 1) * 128 + 127 := by omega
  blk_ext! [iblk, V, idx3 t, hb, e]

theorem un_at (t : Fin cfg0.N) (ch : Fin 512) (b : Fin 2) (s : Fin 17408) (hb : b.val = t.val / 16) (h : t.val % 16 ≠ 15) (hs : s.val = t.val % 16 * 1024 + 1024) :
    iblk m c 5 t (ix3 0 ch 0) = m ((c : Thread nD τ).loc main_arg3) (ix3 b ch s) := by
  have e : s.val = min (8 * (t.val % 16) + 8) 127 * 128 := by omega
  blk_ext! [iblk, V, idx5 t, hb, e]

theorem w_at (t : Fin cfg0.N) (k : Fin 3) (ch : Fin 512) (y : Fin 128) :
    iblk m c 6 t (ix3 k ch y) = m ((c : Thread nD τ).loc main_arg4) (ix2 k ch) := by
  blk_ext! [iblk, V, idx6 t]

theorem gate_at (t : Fin cfg0.N) (d : Fin 1024) (b : Fin 2) (hb : b.val = t.val / 16) :
    iblk m c 8 t (ix3 0 0 d) = m ((c : Thread nD τ).loc main_arg6) (ix3 b 0 d) := by
  blk_ext! [iblk, V, idx8 t, hb]

theorem wo_at (t : Fin cfg0.N) (d k : Fin 1024) : iblk m c 9 t (ix2 d k) = m ((c : Thread nD τ).loc main_arg7) (ix2 d k) := by
  blk_ext! [iblk, V, idx9 t]

/-- The three positions that a point's convolution reads. -/
theorem prev_at (t : Fin cfg0.N) (ch : Fin 512) (x : Fin 1024) (b : Fin 2) (s : Fin 16384) (hb : b.val = t.val / 16) (hs : s.val = t.val % 16 * 1024 + x.val) :
    k0_pay2 (F := Ideal) (grid0.coords t) (iblk m c 4 t) (iblk m c 3 t) (ix2 ch x) = prev (m ((c : Thread nD τ).loc main_arg3)) b ch s := by
  rw [before_at, coord1]
  unfold prev
  by_cases hx : x.val = 0
  · rw [dif_pos hx]
    by_cases ht : t.val % 16 = 0
    · rw [if_pos ht, if_pos (by omega)]
    · rw [if_neg ht, if_neg (by omega)]
      exact up_at m c t ch b _ hb ht (by show s.val - 1 + 1 = _; omega)
  · rw [dif_neg hx, if_neg (by omega)]
    exact u_at m c t ch _ b _ hb (by show s.val - 1 = _ + (x.val - 1); omega)

theorem next_at (t : Fin cfg0.N) (ch : Fin 512) (x : Fin 1024) (b : Fin 2) (s : Fin 16384) (hb : b.val = t.val / 16) (hs : s.val = t.val % 16 * 1024 + x.val) :
    k0_pay3 (F := Ideal) (grid0.coords t) (iblk m c 4 t) (iblk m c 5 t) (ix2 ch x) = next (m ((c : Thread nD τ).loc main_arg3)) b ch s := by
  rw [after_at, coord1]
  unfold next
  by_cases hx : x.val = 1023
  · rw [dif_pos hx]
    by_cases ht : t.val % 16 = 15
    · rw [if_pos ht, if_pos (by omega)]
    · rw [if_neg ht, if_neg (by omega)]
      exact un_at m c t ch b _ hb ht (by show s.val + 1 = _; omega)
  · rw [dif_neg hx, if_neg (by omega)]
    exact u_at m c t ch _ b _ hb (by show s.val + 1 = _ + (x.val + 1); omega)

/-- The weights as the body loads them. -/
theorem ldw_at (t : Fin cfg0.N) (k : Fin 3) (ch : Fin 512) (y : Fin 128) (inb) :
    View.ld (iblk m c 6 t : Vec Ideal S3x512x128 .f32) (Rect.unit (s := S3x512x128) ![k.val, 0, 0] S1x512x128.size inb) (ix3 0 ch y) = m ((c : Thread nD τ).loc main_arg4) (ix2 k ch) := by
  refine (View.ld_unit_apply_of _ _ _ _ _ (ix3 k ch y : S3x512x128.Idx) fun a => ?_).trans (w_at m c t k ch y)
  fin_cases a <;> simp [ix3]

/-- Every other load takes its whole block, and the store its whole buffer. -/
theorem out_eq (i : grid0.Coords) (x0 : Vec Ideal S1x1024x1024 .f32) (x1 x2 : Vec Ideal S1x512x1024 .bf16) (x3 : Vec Ideal S1x512x128 .bf16) (x4 : Vec Ideal S1x512x1024 .bf16)
    (x5 : Vec Ideal S1x512x128 .bf16) (x6 : Vec Ideal S3x512x128 .f32) (x7 : Vec Ideal S1x1024x1024 .bf16) (x8 : Vec Ideal S1x1x1024 .f32) (x9 : Vec Ideal S1024x1024 .bf16) :
    out0_10 (F := Ideal) i x0 x1 x2 x3 x4 x5 x6 x7 x8 x9
      = k0_pay6 (k0_pay1 x4) (k0_pay2 i x4 x3) (k0_pay3 i x4 x5) (k0_pay4 (View.ld x6 r0_2)) (k0_pay5 (View.ld x6 r0_3)) (View.ld x6 r0_4) x2 x7 x1 x9 x0 x8 := by
  unfold out0_10
  have h0 : ∀ X : Vec Ideal S1x512x1024 .bf16, View.ld X r0_0 = X := fun X => View.ld_unit_lit _ X (by decide)
  have h1 : ∀ X : Vec Ideal S1x512x128 .bf16, View.ld X r0_1 = X := fun X => View.ld_unit_lit _ X (by decide)
  have h5 : ∀ X : Vec Ideal S1x1024x1024 .f32, View.ld X r0_5 = X := fun X => View.ld_unit_lit _ X (by decide)
  have h5' : ∀ X : Vec Ideal S1x1024x1024 .bf16, View.ld X r0_5 = X := fun X => View.ld_unit_lit _ X (by decide)
  have h6 : ∀ X : Vec Ideal S1024x1024 .bf16, View.ld X r0_6 = X := fun X => View.ld_unit_lit _ X (by decide)
  have h7 : ∀ X : Vec Ideal S1x1x1024 .f32, View.ld X r0_7 = X := fun X => View.ld_unit_lit _ X (by decide)
  rw [h0, h0, h0, h1, h1, h5, h5', h6, h7]
  exact View.canon_cons_unit_lit _ _ _ (by decide)

theorem conv_congr {w0 w1 w2 a b c w0' w1' w2' a' b' c' : EReal} (h0 : w0 = w0') (h1 : w1 = w1') (h2 : w2 = w2') (ha : a = a') (hb : b = b') (hc : c = c') :
    conv w0 w1 w2 a b c = conv w0' w1' w2' a' b' c' := by rw [h0, h1, h2, ha, hb, hc]

/-- What a point writes back. -/
theorem out_at (t : Fin cfg0.N) (x d : Fin 1024) (b : Fin 2) (s : Fin 16384) (hb : b.val = t.val / 16) (hs : s.val = t.val % 16 * 1024 + x.val) :
    out0_10 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 x d)
      = output (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) b s d := by
  have hw : (wide s).val = t.val % 16 * 1024 + x.val := hs
  rw [out_eq, point_at]
  unfold output
  have e0 : ∀ ch, k0_pay4 (View.ld (iblk m c 6 t : Vec Ideal S3x512x128 .f32) r0_2) (ix2 ch x) = m ((c : Thread nD τ).loc main_arg4) (ix2 0 ch) :=
    fun ch => (weight0_at _ ch x).trans (ldw_at m c t 0 ch _ _)
  have e1 : ∀ ch y, k0_pay5 (View.ld (iblk m c 6 t : Vec Ideal S3x512x128 .f32) r0_3) (ix2 ch y) = m ((c : Thread nD τ).loc main_arg4) (ix2 1 ch) :=
    fun ch y => (weight1_at _ ch y).trans (ldw_at m c t 1 ch y _)
  have e2 : ∀ ch y, View.ld (iblk m c 6 t : Vec Ideal S3x512x128 .f32) r0_4 (ix3 0 ch y) = m ((c : Thread nD τ).loc main_arg4) (ix2 2 ch) :=
    fun ch y => ldw_at m c t 2 ch y _
  refine congrArg₂ (· + ·) (x_at m c t x d b s hb hs) (congrArg₂ (· * ·) (gate_at m c t d b hb) (congrArg₂ (· + ·) ?_ ?_))
  · refine Finset.sum_congr rfl fun ch _ => congrArg₂ (· * ·) (wo_at m c t d _) (congrArg₂ (· * ·) (oc_at m c t ch x b s hb hs) (sg_at m c t _ x b _ hb hw))
  · refine Finset.sum_congr rfl fun ch _ => congrArg₂ (· * ·) (wo_at m c t d _) (congrArg₂ (· * ·) (congrArg₂ (· * ·) (gb_at m c t ch x b _ hb hw) ?_) (sg_at m c t _ x b _ hb hw))
    exact conv_congr (e0 ch) (e1 ch _) (e2 ch _) (prev_at m c t ch x b s hb hs) ((here_at _ ch x).trans (u_at m c t ch x b _ hb hw)) (next_at m c t ch x b s hb hs)

/-- The residual stream after the layer, on a device. -/
def result (c : Dev nD) (y : S2x16384x1024.Idx) : EReal :=
  output (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (y 0) (y 1) (y 2)

/-- The array after the run. -/
theorem arr_eq : (dats m 0 c).arrAt 10 cfg0.N = result m c := by
  refine (dats m 0 c).arrAt_eq_of_covers 10 _ covers fun t hf y => ?_
  have ht := N32 t
  blk_simp
  obtain ⟨x, hx⟩ : ∃ x : Fin 1024, x.val = (y 1).val := ⟨⟨(y 1).val, (y 1).isLt⟩, rfl⟩
  obtain ⟨d, hd⟩ : ∃ d : Fin 1024, d.val = (y 2).val := ⟨⟨(y 2).val, (y 2).isLt⟩, rfl⟩
  have h0 : (y 0).val = 0 := by have : (y 0).val < 1 := (y 0).isLt; omega
  obtain ⟨b, hb⟩ : ∃ b : Fin 2, b.val = t.val / 16 := ⟨⟨t.val / 16, by omega⟩, rfl⟩
  obtain ⟨s, hs⟩ : ∃ s : Fin 16384, s.val = t.val % 16 * 1024 + x.val := ⟨⟨t.val % 16 * 1024 + x.val, by omega⟩, rfl⟩
  have ey : (win0_10.blk t).view.emb y = (ix3 b s d : S2x16384x1024.Idx) := by
    blk_ext [idx10 t, hb, hs, hx, hd, h0]
  have ez : y = (ix3 0 x d : S1x1024x1024.Idx) := by
    funext a; apply Fin.ext; fin_cases a <;> simp [ix3, hx, hd, h0]
  rw [ey]
  refine (congrArg ((dats m 0 c).after 10 t) ez).trans ?_
  rw [after0_10]
  exact out_at m c t x d b s hb hs

end Cert.OutputIdeal.Out
end
-- ==== Proof.OutputIdeal.Reference.lean ====
/- The output projection's reference, read at an index: the same sums as the kernel's. -/
module

public import proofs.«01_k».proof.Proof.Gen.OutputReferenceIdeal.Run
public import proofs.«01_k».proof.Proof.OutputIdeal.Result

@[expose] public section

set_option maxRecDepth 16384
set_option maxHeartbeats 1000000

noncomputable section

namespace Cert.OutputReferenceIdeal.Out

open Cert.OutputReferenceIdeal Cert.OutputReferenceIdeal.Gen
open Cert.OutputIdeal.Out (output conv prev next wide head chan)
open Idealize.ShloMosaic
open Idealize.ShloMosaic.TcCoe

/-- The three weights of the convolution, along the sequence. -/
def weight0 (w : FVec Ideal S3x512 .f32) : FVec Ideal S2x512x16384 .f32 :=
  shapeCast _ (extractStridedSlice S1x2x512x16384 ![0, 0, 0, 0] (broadcastInDim S3x2x512x16384 ![0, 1, 2, 3] bcast_S3x1x512x1_S3x2x512x16384_0_1_2_3 (broadcastInDim S3x1x512x1 ![0, 2] bcast_S3x512_S3x1x512x1_0_2 w)) slices_S3x2x512x16384_S1x2x512x16384_0_0_0_0) shapeCasts_S1x2x512x16384_S2x512x16384
def weight1 (w : FVec Ideal S3x512 .f32) : FVec Ideal S2x512x16384 .f32 :=
  shapeCast _ (extractStridedSlice S1x2x512x16384 ![1, 0, 0, 0] (broadcastInDim S3x2x512x16384 ![0, 1, 2, 3] bcast_S3x1x512x1_S3x2x512x16384_0_1_2_3 (broadcastInDim S3x1x512x1 ![0, 2] bcast_S3x512_S3x1x512x1_0_2 w)) slices_S3x2x512x16384_S1x2x512x16384_1_0_0_0) shapeCasts_S1x2x512x16384_S2x512x16384
def weight2 (w : FVec Ideal S3x512 .f32) : FVec Ideal S2x512x16384 .f32 :=
  shapeCast _ (extractStridedSlice S1x2x512x16384 ![2, 0, 0, 0] (broadcastInDim S3x2x512x16384 ![0, 1, 2, 3] bcast_S3x1x512x1_S3x2x512x16384_0_1_2_3 (broadcastInDim S3x1x512x1 ![0, 2] bcast_S3x512_S3x1x512x1_0_2 w)) slices_S3x2x512x16384_S1x2x512x16384_2_0_0_0) shapeCasts_S1x2x512x16384_S2x512x16384

/-- The sequence with a zero at each end, -/
def padded (u : FVec Ideal S2x512x17408 .bf16) : FVec Ideal S2x512x16386 .f32 :=
  pad S2x512x16386 ![0, 0, 1] ![0, 0, 1] ![0, 0, 0] (extf .f32 (extractStridedSlice S2x512x16384 ![0, 0, 0] u slices_S2x512x17408_S2x512x16384_0_0_0) bitsLt_bf16_f32) (sitofp .f32 (constantI S_ 32 0#32)) pads_S2x512x16384_S2x512x16386_000_000_110 h_S_

/-- and its three windows. -/
def shifted0 (u : FVec Ideal S2x512x17408 .bf16) : FVec Ideal S2x512x16384 .f32 :=
  extractStridedSlice S2x512x16384 ![0, 0, 0] (padded u) slices_S2x512x16386_S2x512x16384_0_0_0
def shifted1 (u : FVec Ideal S2x512x17408 .bf16) : FVec Ideal S2x512x16384 .f32 :=
  extractStridedSlice S2x512x16384 ![0, 0, 1] (padded u) slices_S2x512x16386_S2x512x16384_0_0_1
def shifted2 (u : FVec Ideal S2x512x17408 .bf16) : FVec Ideal S2x512x16384 .f32 :=
  extractStridedSlice S2x512x16384 ![0, 0, 2] (padded u) slices_S2x512x16386_S2x512x16384_0_0_2

/-- The gated convolution, -/
def convolved (gb u : FVec Ideal S2x512x17408 .bf16) (w : FVec Ideal S3x512 .f32) : FVec Ideal S2x512x16384 .bf16 :=
  truncf .bf16 (mulf (extf .f32 (extractStridedSlice S2x512x16384 ![0, 0, 0] gb slices_S2x512x17408_S2x512x16384_0_0_0) bitsLt_bf16_f32) (addf (addf (mulf (weight0 w) (shifted0 u)) (mulf (weight1 w) (shifted1 u))) (mulf (weight2 w) (shifted2 u)))) bitsLt_bf16_f32

/-- the attention's heads and its channels, each times its own gate, -/
def gated (oc od : FVec Ideal S2x512x16384 .bf16) (sg : FVec Ideal S2x1024x17408 .bf16) : FVec Ideal S2x1024x16384 .bf16 :=
  mulf (concatenate S2x1024x16384 1 [⟨S2x512x16384, oc⟩, ⟨S2x512x16384, od⟩] concatenates_S2x512x16384_S2x512x16384_S2x1024x16384_d1) (extractStridedSlice S2x1024x16384 ![0, 0, 0] sg slices_S2x1024x17408_S2x1024x16384_0_0_0)

/-- and the reference's result. -/
def reference (x : FVec Ideal S2x16384x1024 .f32) (oc : FVec Ideal S2x512x16384 .bf16) (gb u : FVec Ideal S2x512x17408 .bf16) (w : FVec Ideal S3x512 .f32)
    (sg : FVec Ideal S2x1024x17408 .bf16) (gate : FVec Ideal S2x1x1024 .f32) (wo : FVec Ideal S1024x1024 .bf16) : FVec Ideal S2x16384x1024 .f32 :=
  addf x (mulf (broadcastInDim S2x16384x1024 ![0, 1, 2] bcast_S2x1x1024_S2x16384x1024_0_1_2 gate) (Host.dotGeneral dot_S2x1024x16384_S1024x1024_S2x16384x1024_1_1_02_0_n_n none (gated oc (convolved gb u w) sg) wo))

/-- The weights, -/
theorem weight0_at (w : FVec Ideal S3x512 .f32) (b : Fin 2) (ch : Fin 512) (s : Fin 16384) : weight0 w (ix3 b ch s) = w (ix2 0 ch) := by
  pointwise [weight0]
theorem weight1_at (w : FVec Ideal S3x512 .f32) (b : Fin 2) (ch : Fin 512) (s : Fin 16384) : weight1 w (ix3 b ch s) = w (ix2 1 ch) := by
  pointwise [weight1]
theorem weight2_at (w : FVec Ideal S3x512 .f32) (b : Fin 2) (ch : Fin 512) (s : Fin 16384) : weight2 w (ix3 b ch s) = w (ix2 2 ch) := by
  pointwise [weight2]

/-- the padded sequence -/
theorem padded_at (u : FVec Ideal S2x512x17408 .bf16) (b : Fin 2) (ch : Fin 512) (n : Fin 16386) :
    padded u (ix3 b ch n) = if h : 1 ≤ n.val ∧ n.val - 1 < 16384 then u (ix3 b ch ⟨n.val - 1, by omega⟩) else 0 := by
  have z : FloatOps.sitofp (F := Ideal) .f32 0#32 = (0 : EReal) := by
    show (((0#32 : BitVec 32).toInt : ℝ) : EReal) = 0
    simp
  pointwise [padded]
  rw [z]

/-- and the gated convolution at an index. -/
theorem convolved_at (gb u : FVec Ideal S2x512x17408 .bf16) (w : FVec Ideal S3x512 .f32) (b : Fin 2) (ch : Fin 512) (s : Fin 16384) :
    convolved gb u w (ix3 b ch s) = gb (ix3 b ch (wide s)) * conv (w (ix2 0 ch)) (w (ix2 1 ch)) (w (ix2 2 ch)) (prev u b ch s) (u (ix3 b ch (wide s))) (next u b ch s) := by
  have a0 : shifted0 u (ix3 b ch s) = prev u b ch s := by
    pointwise [shifted0]
    rw [padded_at]
    unfold prev
    by_cases h : s.val = 0
    · rw [if_pos h, dif_neg (by simp only; omega)]
    · rw [if_neg h, dif_pos (by simp only; omega)]
  have a1 : shifted1 u (ix3 b ch s) = u (ix3 b ch (wide s)) := by
    pointwise [shifted1]
    rw [padded_at, dif_pos (by simp only; omega)]
    exact congrArg (fun q => u (ix3 b ch q)) (Fin.ext (by show 1 + s.val - 1 = s.val; omega))
  have a2 : shifted2 u (ix3 b ch s) = next u b ch s := by
    pointwise [shifted2]
    rw [padded_at]
    unfold next
    by_cases h : s.val = 16383
    · rw [if_pos h, dif_neg (by simp only; omega)]
    · rw [if_neg h, dif_pos (by simp only; omega)]
      exact congrArg (fun q => u (ix3 b ch q)) (Fin.ext (by show 2 + s.val - 1 = s.val + 1; omega))
  pointwise [convolved, conv]
  rw [weight0_at, weight1_at, weight2_at, a0, a1, a2]
  rfl

/-- The reference's result, at a position and a channel. -/
theorem reference_at (x : FVec Ideal S2x16384x1024 .f32) (oc : FVec Ideal S2x512x16384 .bf16) (gb u : FVec Ideal S2x512x17408 .bf16) (w : FVec Ideal S3x512 .f32)
    (sg : FVec Ideal S2x1024x17408 .bf16) (gate : FVec Ideal S2x1x1024 .f32) (wo : FVec Ideal S1024x1024 .bf16) (b : Fin 2) (s : Fin 16384) (d : Fin 1024) :
    reference x oc gb u w sg gate wo (ix3 b s d) = output x oc gb u w sg gate wo b s d := by
  unfold output
  simp only [← convolved_at, mul_comm (wo _)]
  pointwise [reference, gated, head, chan, wide]

/-- The reference's result is the kernel's. -/
theorem reference_eq (x : FVec Ideal S2x16384x1024 .f32) (oc : FVec Ideal S2x512x16384 .bf16) (gb u : FVec Ideal S2x512x17408 .bf16) (w : FVec Ideal S3x512 .f32)
    (sg : FVec Ideal S2x1024x17408 .bf16) (gate : FVec Ideal S2x1x1024 .f32) (wo : FVec Ideal S1024x1024 .bf16) :
    reference x oc gb u w sg gate wo = fun y => output x oc gb u w sg gate wo (y 0) (y 1) (y 2) := by
  funext y
  obtain ⟨b, s, d, rfl⟩ : ∃ b s d, y = ix3 b s d := ⟨y 0, y 1, y 2, eq_ix3 y⟩
  exact reference_at x oc gb u w sg gate wo b s d

end Cert.OutputReferenceIdeal.Out
end
-- ==== Proof.JointIdeal.Result.lean ====
/- The first layer's output projection: what one grid point computes, element by element, and what the points write back
   as one function of the arguments. -/
module

public import proofs.«01_k».proof.Proof.Gen.JointIdeal.Value
public import Idealize.ShloMosaic.Lib.Pointwise
public import Idealize.ShloMosaic.Lib.Pipeline.ValueKit.Point

@[expose] public section

set_option maxRecDepth 16384
set_option maxHeartbeats 1000000

noncomputable section

namespace Cert.JointIdeal.Out

open Cert.JointIdeal Cert.JointIdeal.Gen
open Idealize.ShloMosaic
open Idealize.ShloMosaic.TcCoe
open Idealize.SL.Sem

/-- A position among the gates' positions. -/
def wide (s : Fin 16384) : Fin 17408 := ⟨s.val, by omega⟩
/-- A channel of the first attention, and one of the second, among all. -/
def fst (ch : Fin 512) : Fin 1024 := ⟨ch.val, by omega⟩
def snd (ch : Fin 512) : Fin 1024 := ⟨512 + ch.val, by omega⟩

/-- The point's result at a position and a channel: the residual and the gated product of the output weights with both
    attentions' channels. -/
theorem point_at (oa ob : Vec Ideal S1x512x1024 .bf16) (sg : Vec Ideal S1x1024x1024 .bf16) (wo : Vec Ideal S1024x1024 .bf16) (r : Vec Ideal S1x1024x1024 .f32)
    (gate : Vec Ideal S1x1x1024 .f32) (x d : Fin 1024) :
    k0_pay1 oa ob sg wo r gate (ix3 0 x d) = r (ix3 0 x d) + gate (ix3 0 0 d) *
      ((∑ ch : Fin 512, wo (ix2 d (fst ch)) * (oa (ix3 0 ch x) * sg (ix3 0 (fst ch) x)))
        + ∑ ch : Fin 512, wo (ix2 d (snd ch)) * (ob (ix3 0 ch x) * sg (ix3 0 (snd ch) x))) := by
  pointwise [k0_pay1, fst, snd]

/-- The residual stream after the layer: the residual and the gated product of the output weights with both attentions'
    channels, each times its own gate. -/
def output (x : S2x16384x1024.Idx → EReal) (oa ob : S2x512x16384.Idx → EReal) (sg : S2x1024x17408.Idx → EReal) (gate : S2x1x1024.Idx → EReal)
    (wo : S1024x1024.Idx → EReal) (b : Fin 2) (s : Fin 16384) (d : Fin 1024) : EReal :=
  x (ix3 b s d) + gate (ix3 b 0 d) *
    ((∑ ch : Fin 512, wo (ix2 d (fst ch)) * (oa (ix3 b ch s) * sg (ix3 b (fst ch) (wide s))))
      + ∑ ch : Fin 512, wo (ix2 d (snd ch)) * (ob (ix3 b ch s) * sg (ix3 b (snd ch) (wide s))))

variable (m : (ℓ : Loc nD τ sig) → Buf (Elt Ideal) ℓ) (c : Dev nD)

/-- Where each window's block lies at a point: point `t` is batch `t / 16` and tile `t % 16`. -/
theorem idx0 : ∀ t : Fin cfg0.N, win0_0.index t = ![t.val / 16, t.val % 16, 0] := (by decide +kernel : ∀ t : Fin grid0.N, _)
theorem idx1 : ∀ t : Fin cfg0.N, win0_1.index t = ![t.val / 16, 0, t.val % 16] := (by decide +kernel : ∀ t : Fin grid0.N, _)
theorem idx2 : ∀ t : Fin cfg0.N, win0_2.index t = ![t.val / 16, 0, t.val % 16] := (by decide +kernel : ∀ t : Fin grid0.N, _)
theorem idx3 : ∀ t : Fin cfg0.N, win0_3.index t = ![t.val / 16, 0, t.val % 16] := (by decide +kernel : ∀ t : Fin grid0.N, _)
theorem idx4 : ∀ t : Fin cfg0.N, win0_4.index t = ![t.val / 16, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val / 16, t.val % 16, 0] := (by decide +kernel : ∀ t : Fin grid0.N, _)
/-- The result's blocks cover its array. -/
theorem covers : win0_6.Covers := by decide +kernel

/-- The blocks at an index. -/
theorem x_at (t : Fin cfg0.N) (x d : Fin 1024) (b : Fin 2) (s : Fin 16384) (hb : b.val = t.val / 16) (hs : s.val = t.val % 16 * 1024 + x.val) :
    iblk m c 0 t (ix3 0 x d) = m ((c : Thread nD τ).loc main_arg0) (ix3 b s d) := by
  blk_ext! [iblk, V, idx0 t, hb, hs]

theorem oa_at (t : Fin cfg0.N) (ch : Fin 512) (x : Fin 1024) (b : Fin 2) (s : Fin 16384) (hb : b.val = t.val / 16) (hs : s.val = t.val % 16 * 1024 + x.val) :
    iblk m c 1 t (ix3 0 ch x) = m ((c : Thread nD τ).loc main_arg1) (ix3 b ch s) := by
  blk_ext! [iblk, V, idx1 t, hb, hs]

theorem ob_at (t : Fin cfg0.N) (ch : Fin 512) (x : Fin 1024) (b : Fin 2) (s : Fin 16384) (hb : b.val = t.val / 16) (hs : s.val = t.val % 16 * 1024 + x.val) :
    iblk m c 2 t (ix3 0 ch x) = m ((c : Thread nD τ).loc main_arg2) (ix3 b ch s) := by
  blk_ext! [iblk, V, idx2 t, hb, hs]

theorem sg_at (t : Fin cfg0.N) (ch : Fin 1024) (x : Fin 1024) (b : Fin 2) (s : Fin 17408) (hb : b.val = t.val / 16) (hs : s.val = t.val % 16 * 1024 + x.val) :
    iblk m c 3 t (ix3 0 ch x) = m ((c : Thread nD τ).loc main_arg3) (ix3 b ch s) := by
  blk_ext! [iblk, V, idx3 t, hb, hs]

theorem gate_at (t : Fin cfg0.N) (d : Fin 1024) (b : Fin 2) (hb : b.val = t.val / 16) :
    iblk m c 4 t (ix3 0 0 d) = m ((c : Thread nD τ).loc main_arg4) (ix3 b 0 d) := by
  blk_ext! [iblk, V, idx4 t, hb]

theorem wo_at (t : Fin cfg0.N) (d k : Fin 1024) : iblk m c 5 t (ix2 d k) = m ((c : Thread nD τ).loc main_arg5) (ix2 d k) := by
  blk_ext! [iblk, V, idx5 t]

/-- Every load takes its whole block, and the store its whole buffer. -/
theorem out_eq (x0 : Vec Ideal S1x1024x1024 .f32) (x1 x2 : Vec Ideal S1x512x1024 .bf16) (x3 : Vec Ideal S1x1024x1024 .bf16) (x4 : Vec Ideal S1x1x1024 .f32) (x5 : Vec Ideal S1024x1024 .bf16) :
    out0_6 (F := Ideal) x0 x1 x2 x3 x4 x5 = k0_pay1 x1 x2 x3 x5 x0 x4 := by
  unfold out0_6
  have h0 : ∀ X : Vec Ideal S1x512x1024 .bf16, View.ld X r0_0 = X := fun X => View.ld_unit_lit _ X (by decide)
  have h1 : ∀ X : Vec Ideal S1x1024x1024 .f32, View.ld X r0_1 = X := fun X => View.ld_unit_lit _ X (by decide)
  have h1' : ∀ X : Vec Ideal S1x1024x1024 .bf16, View.ld X r0_1 = X := fun X => View.ld_unit_lit _ X (by decide)
  have h2 : ∀ X : Vec Ideal S1024x1024 .bf16, View.ld X r0_2 = X := fun X => View.ld_unit_lit _ X (by decide)
  have h3 : ∀ X : Vec Ideal S1x1x1024 .f32, View.ld X r0_3 = X := fun X => View.ld_unit_lit _ X (by decide)
  rw [h0, h0, h1, h1', h2, h3]
  exact View.canon_cons_unit_lit _ _ _ (by decide)

/-- The residual stream after the layer, on a device. -/
def result (c : Dev nD) (y : S2x16384x1024.Idx) : EReal :=
  output (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (y 0) (y 1) (y 2)

/-- What a point writes back. -/
theorem out_at (t : Fin cfg0.N) (x d : Fin 1024) (b : Fin 2) (s : Fin 16384) (hb : b.val = t.val / 16) (hs : s.val = t.val % 16 * 1024 + x.val) :
    out0_6 (F := Ideal) (iblk m c 0 t) (iblk m c 1 t) (iblk m c 2 t) (iblk m c 3 t) (iblk m c 4 t) (iblk m c 5 t) (ix3 0 x d) = result m c (ix3 b s d) := by
  have hw : (wide s).val = t.val % 16 * 1024 + x.val := hs
  rw [out_eq, point_at]
  refine congrArg₂ (· + ·) (x_at m c t x d b s hb hs) (congrArg₂ (· * ·) (gate_at m c t d b hb) (congrArg₂ (· + ·) ?_ ?_))
  · exact Finset.sum_congr rfl fun ch _ => congrArg₂ (· * ·) (wo_at m c t d _) (congrArg₂ (· * ·) (oa_at m c t ch x b s hb hs) (sg_at m c t _ x b _ hb hw))
  · exact Finset.sum_congr rfl fun ch _ => congrArg₂ (· * ·) (wo_at m c t d _) (congrArg₂ (· * ·) (ob_at m c t ch x b s hb hs) (sg_at m c t _ x b _ hb hw))

/-- The array after the run. -/
theorem arr_eq : (dats m 0 c).arrAt 6 cfg0.N = result m c := by
  refine (dats m 0 c).arrAt_eq_of_covers 6 _ covers fun t hf y => ?_
  have ht : t.val < 32 := t.isLt
  blk_simp
  obtain ⟨x, hx⟩ : ∃ x : Fin 1024, x.val = (y 1).val := ⟨⟨(y 1).val, (y 1).isLt⟩, rfl⟩
  obtain ⟨d, hd⟩ : ∃ d : Fin 1024, d.val = (y 2).val := ⟨⟨(y 2).val, (y 2).isLt⟩, rfl⟩
  have h0 : (y 0).val = 0 := by have : (y 0).val < 1 := (y 0).isLt; omega
  obtain ⟨b, hb⟩ : ∃ b : Fin 2, b.val = t.val / 16 := ⟨⟨t.val / 16, by omega⟩, rfl⟩
  obtain ⟨s, hs⟩ : ∃ s : Fin 16384, s.val = t.val % 16 * 1024 + x.val := ⟨⟨t.val % 16 * 1024 + x.val, by omega⟩, rfl⟩
  have ey : (win0_6.blk t).view.emb y = (ix3 b s d : S2x16384x1024.Idx) := by
    blk_ext [idx6 t, hb, hs, hx, hd, h0]
  have ez : y = (ix3 0 x d : S1x1024x1024.Idx) := by
    funext a; apply Fin.ext; fin_cases a <;> simp [ix3, hx, hd, h0]
  rw [ey]
  refine (congrArg ((dats m 0 c).after 6 t) ez).trans ?_
  rw [after0_6]
  exact out_at m c t x d b s hb hs

end Cert.JointIdeal.Out
end
-- ==== Proof.JointIdeal.Reference.lean ====
/- The first layer's output projection's reference, read at an index: the same sums as the kernel's. -/
module

public import proofs.«01_k».proof.Proof.Gen.JointReferenceIdeal.Run
public import proofs.«01_k».proof.Proof.JointIdeal.Result

@[expose] public section

set_option maxRecDepth 16384
set_option maxHeartbeats 1000000

noncomputable section

namespace Cert.JointReferenceIdeal.Out

open Cert.JointReferenceIdeal Cert.JointReferenceIdeal.Gen
open Cert.JointIdeal.Out (output wide fst snd)
open Idealize.ShloMosaic
open Idealize.ShloMosaic.TcCoe

/-- The reference's result. -/
def reference (x : FVec Ideal S2x16384x1024 .f32) (oa ob : FVec Ideal S2x512x16384 .bf16) (sg : FVec Ideal S2x1024x17408 .bf16) (gate : FVec Ideal S2x1x1024 .f32)
    (wo : FVec Ideal S1024x1024 .bf16) : FVec Ideal S2x16384x1024 .f32 :=
  addf x (mulf (broadcastInDim S2x16384x1024 ![0, 1, 2] bcast_S2x1x1024_S2x16384x1024_0_1_2 gate) (Host.dotGeneral dot_S2x1024x16384_S1024x1024_S2x16384x1024_1_1_02_0_n_n none
    (mulf (concatenate S2x1024x16384 1 [⟨S2x512x16384, oa⟩, ⟨S2x512x16384, ob⟩] concatenates_S2x512x16384_S2x512x16384_S2x1024x16384_d1) (extractStridedSlice S2x1024x16384 ![0, 0, 0] sg slices_S2x1024x17408_S2x1024x16384_0_0_0)) wo))

/-- It is the kernel's. -/
theorem reference_eq (x : FVec Ideal S2x16384x1024 .f32) (oa ob : FVec Ideal S2x512x16384 .bf16) (sg : FVec Ideal S2x1024x17408 .bf16) (gate : FVec Ideal S2x1x1024 .f32)
    (wo : FVec Ideal S1024x1024 .bf16) : reference x oa ob sg gate wo = fun y => output x oa ob sg gate wo (y 0) (y 1) (y 2) := by
  funext y
  obtain ⟨b, s, d, rfl⟩ : ∃ b s d, y = ix3 b s d := ⟨y 0, y 1, y 2, eq_ix3 y⟩
  show _ = output x oa ob sg gate wo b s d
  unfold output
  simp only [mul_comm (wo _)]
  pointwise [reference, fst, snd, wide]

end Cert.JointReferenceIdeal.Out
end
-- ==== Proof.ModulationIdeal.Result.lean ====
/- The modulation: what one grid point computes, element by element, and what the points write back as one function of the
   arguments. -/
module

public import proofs.«01_k».proof.Proof.Gen.ModulationIdeal.Value
public import Idealize.ShloMosaic.Lib.Pointwise
public import Idealize.ShloMosaic.Lib.Pipeline.ValueKit.Point

@[expose] public section

set_option maxRecDepth 16384
set_option maxHeartbeats 1000000

noncomputable section

namespace Cert.ModulationIdeal.Out

open Cert.ModulationIdeal Cert.ModulationIdeal.Gen
open Idealize.ShloMosaic
open Idealize.ShloMosaic.TcCoe
open Idealize.SL.Sem

/-- The gate as the kernel writes it, by the hyperbolic tangent of the half. -/
def silu (x : EReal) : EReal := Ideal.ofBits .f32 0x3F000000#32 * x + Ideal.ofBits .f32 0x3F000000#32 * x * Ideal.tanh (Ideal.ofBits .f32 0x3F000000#32 * x)

/-- A point's result, at a row and a column. -/
theorem point_at (v : Vec Ideal S8x1024 .f32) (w : Vec Ideal S1x1024x1024 .f32) (b : Vec Ideal S1x1x1024 .f32) (r : Fin 8) (n : Fin 1024) :
    k0_pay1 v w b (ix3 0 r n) = (∑ k : Fin 1024, silu (v (ix2 r k)) * w (ix3 0 k n)) + b (ix3 0 0 n) := by
  pointwise [k0_pay1, silu]

/-- The modulation: each layer's product of its weights with the gated rows, plus its bias. -/
def output (v : S8x1024.Idx → EReal) (w : S2x1024x3072.Idx → EReal) (b : S2x3072.Idx → EReal) (l : Fin 2) (r : Fin 8) (n : Fin 3072) : EReal :=
  (∑ k : Fin 1024, silu (v (ix2 r k)) * w (ix3 l k n)) + b (ix2 l n)

variable (m : (ℓ : Loc nD τ sig) → Buf (Elt Ideal) ℓ) (c : Dev nD)

/-- Where each window's block lies at a point: point `t` is layer `t / 3` and column tile `t % 3`. -/
theorem idx0 : ∀ t : Fin cfg0.N, win0_0.index t = ![0, 0] := (by decide +kernel : ∀ t : Fin grid0.N, _)
theorem idx1 : ∀ t : Fin cfg0.N, win0_1.index t = ![t.val / 3, 0, t.val % 3] := (by decide +kernel : ∀ t : Fin grid0.N, _)
theorem idx2 : ∀ t : Fin cfg0.N, win0_2.index t = ![t.val / 3, 0, t.val % 3] := (by decide +kernel : ∀ t : Fin grid0.N, _)
theorem idx3 : ∀ t : Fin cfg0.N, win0_3.index t = ![t.val / 3, 0, t.val % 3] := (by decide +kernel : ∀ t : Fin grid0.N, _)
/-- The result's blocks cover its array. -/
theorem covers : win0_3.Covers := by decide +kernel

/-- The blocks at an index. -/
theorem v_at (t : Fin cfg0.N) (r : Fin 8) (k : Fin 1024) : iblk m c 0 t (ix2 r k) = m ((c : Thread nD τ).loc main_arg0) (ix2 r k) := by
  blk_ext! [iblk, V, idx0 t]

theorem w_at (t : Fin cfg0.N) (k x : Fin 1024) (l : Fin 2) (n : Fin 3072) (hl : l.val = t.val / 3) (hn : n.val = t.val % 3 * 1024 + x.val) :
    iblk m c 1 t (ix3 0 k x) = m ((c : Thread nD τ).loc main_arg1) (ix3 l k n) := by
  blk_ext! [iblk, V, idx1 t, hl, hn]

theorem b_at (t : Fin cfg0.N) (x : Fin 1024) (l : Fin 2) (n : Fin 3072) (hl : l.val = t.val / 3) (hn : n.val = t.val % 3 * 1024 + x.val) :
    iblk m c 2 t (ix3 0 0 x) = m ((c : Thread nD τ).loc main_arg2) (ix2 l n) := by
  blk_ext! [iblk, V, idx2 t, hl, hn]

/-- Every load takes its whole block, and the store its whole buffer. -/
theorem out_eq (x0 : Vec Ideal S8x1024 .f32) (x1 : Vec Ideal S1x1024x1024 .f32) (x2 : Vec Ideal S1x1x1024 .f32) :
    out0_3 (F := Ideal) x0 x1 x2 = k0_pay1 x0 x1 x2 := by
  unfold out0_3
  have h0 : View.ld x0 r0_0 = x0 := View.ld_unit_lit _ x0 (by decide)
  have h1 : View.ld x1 r0_1 = x1 := View.ld_unit_lit _ x1 (by decide)
  have h2 : View.ld x2 r0_2 = x2 := View.ld_unit_lit _ x2 (by decide)
  rw [h0, h1, h2]
  exact View.canon_cons_unit_lit _ _ _ (by decide)

/-- The modulation on a device. -/
def result (c : Dev nD) (y : S2x8x3072.Idx) : EReal :=
  output (m ((c : Thread nD τ).loc main_arg0)) (m ((c : Thread nD τ).loc main_arg1)) (m ((c : Thread nD τ).loc main_arg2)) (y 0) (y 1) (y 2)

/-- What a point writes back. -/
theorem out_at (t : Fin cfg0.N) (r : Fin 8) (x : Fin 1024) (l : Fin 2) (n : Fin 3072) (hl : l.val = t.val / 3) (hn : n.val = t.val % 3 * 1024 + x.val) :
    out0_3 (F := Ideal) (iblk m c 0 t) (iblk m c 1 t) (iblk m c 2 t) (ix3 0 r x) = result m c (ix3 l r n) := by
  rw [out_eq, point_at]
  exact congrArg₂ (· + ·) (Finset.sum_congr rfl fun k _ => congrArg₂ (· * ·) (congrArg silu (v_at m c t r k)) (w_at m c t k x l n hl hn)) (b_at m c t x l n hl hn)

/-- The array after the run. -/
theorem arr_eq : (dats m 0 c).arrAt 3 cfg0.N = result m c := by
  refine (dats m 0 c).arrAt_eq_of_covers 3 _ covers fun t hf y => ?_
  have ht : t.val < 6 := t.isLt
  blk_simp
  obtain ⟨r, hr⟩ : ∃ r : Fin 8, r.val = (y 1).val := ⟨⟨(y 1).val, (y 1).isLt⟩, rfl⟩
  obtain ⟨x, hx⟩ : ∃ x : Fin 1024, x.val = (y 2).val := ⟨⟨(y 2).val, (y 2).isLt⟩, rfl⟩
  have h0 : (y 0).val = 0 := by have : (y 0).val < 1 := (y 0).isLt; omega
  obtain ⟨l, hl⟩ : ∃ l : Fin 2, l.val = t.val / 3 := ⟨⟨t.val / 3, by omega⟩, rfl⟩
  obtain ⟨n, hn⟩ : ∃ n : Fin 3072, n.val = t.val % 3 * 1024 + x.val := ⟨⟨t.val % 3 * 1024 + x.val, by omega⟩, rfl⟩
  have ey : (win0_3.blk t).view.emb y = (ix3 l r n : S2x8x3072.Idx) := by
    blk_ext [idx3 t, hl, hn, hr, hx, h0]
  have ez : y = (ix3 0 r x : S1x8x1024.Idx) := by
    funext a; apply Fin.ext; fin_cases a <;> simp [ix3, hr, hx, h0]
  rw [ey]
  refine (congrArg ((dats m 0 c).after 3 t) ez).trans ?_
  rw [after0_3]
  exact out_at m c t r x l n hl hn

end Cert.ModulationIdeal.Out
end
-- ==== Proof.ModulationIdeal.Reference.lean ====
/- The modulation's reference, read at an index: the kernel's, when the conditioning rows are finite. -/
module

public import proofs.«01_k».proof.Proof.Gen.ModulationReferenceIdeal.Run
public import proofs.«01_k».proof.Proof.Gen.Pre_finite_conditioning
public import proofs.«01_k».proof.Proof.ModulationIdeal.Result
public import proofs.«01_k».proof.Proof.Stream.Reference

@[expose] public section

set_option maxRecDepth 16384
set_option maxHeartbeats 1000000

noncomputable section

namespace Cert.ModulationReferenceIdeal.Out

open Cert.ModulationReferenceIdeal Cert.ModulationReferenceIdeal.Gen
open Cert.ModulationIdeal.Out (output silu)
open Idealize.ShloMosaic
open Idealize.ShloMosaic.TcCoe

theorem half32 : Ideal.ofBits .f32 0x3F000000#32 = ((1 / 2 : ℝ) : EReal) := by
  simp [Ideal.ofBits, Ideal.ieee]
  rw [← EReal.coe_mul]
  norm_num

theorem one32 : Ideal.ofBits .f32 0x3F800000#32 = ((1 : ℝ) : EReal) := by
  simp [Ideal.ofBits, Ideal.ieee]
  rw [← EReal.coe_mul]
  norm_num

/-- Half of a number times one plus the tangent of the half is the number times its logistic. -/
theorem half_tanh (r : ℝ) : 1 / 2 * r + 1 / 2 * r * Real.tanh (1 / 2 * r) = r * (1 / (1 + Real.exp (-r))) := by
  have e : Real.exp (-r) = Real.exp (-(1 / 2 * r)) * Real.exp (-(1 / 2 * r)) := by rw [← Real.exp_add]; ring_nf
  have p := Real.exp_pos (1 / 2 * r)
  have q := Real.exp_pos (-(1 / 2 * r))
  rw [Real.tanh_eq_sinh_div_cosh, Real.sinh_eq, Real.cosh_eq, e]
  have s : (0 : ℝ) < 1 + Real.exp (-(1 / 2 * r)) * Real.exp (-(1 / 2 * r)) := by positivity
  have s' : Real.exp (1 / 2 * r) + Real.exp (-(1 / 2 * r)) ≠ 0 := by positivity
  field_simp
  have f' : Real.exp (r / 2) * Real.exp (-(r / 2)) = 1 := by rw [← Real.exp_add]; simp
  linear_combination (2 * r * Real.exp (-(r / 2))) * f'

/-- The two ways to write the gate. -/
theorem silu_coe (r : ℝ) : silu (r : EReal) = (r : EReal) * Ideal.div (Ideal.ofBits .f32 0x3F800000#32) (Ideal.ofBits .f32 0x3F800000#32 + Ideal.exp (-(r : EReal))) := by
  have h : (1 + Real.exp (-r)) ≠ 0 := by positivity
  unfold silu
  rw [half32, one32, ← EReal.coe_neg, Ideal.exp_coe, ← EReal.coe_add, ← EReal.coe_mul, Ideal.tanh_coe, ← EReal.coe_mul, ← EReal.coe_add, half_tanh]
  rw [show Ideal.div ((1 : ℝ) : EReal) ((1 + Real.exp (-r) : ℝ) : EReal) = ((1 / (1 + Real.exp (-r)) : ℝ) : EReal) from by
    rw [Ideal.div_coe h, ← EReal.coe_mul, one_mul], ← EReal.coe_mul]

/-- The reference's result. -/
def reference (v : FVec Ideal S8x1024 .f32) (w : FVec Ideal S2x1024x3072 .f32) (b : FVec Ideal S2x3072 .f32) : FVec Ideal S2x8x3072 .f32 :=
  addf (transpose S2x8x3072 [0, 2, 1] (Host.dotGeneral dot_S2x1024x3072_S8x1024_S2x3072x8_1_1_02_0_n_n none w (mulf v (Host.divf (broadcastInDim S8x1024 ![] bcast_S_S8x1024 (constant S_ .f32 0x3F800000#32)) (addf (broadcastInDim S8x1024 ![] bcast_S_S8x1024 (constant S_ .f32 0x3F800000#32)) (Host.exp (Host.negf v)))))) transposes_S2x3072x8_S2x8x3072_0_2_1) (broadcastInDim S2x8x3072 ![0, 1, 2] bcast_S2x1x3072_S2x8x3072_0_1_2 (broadcastInDim S2x1x3072 ![0, 2] bcast_S2x3072_S2x1x3072_0_2 b))

/-- The precondition makes every conditioning element a real. -/
theorem finite (v : FVec Ideal S8x1024 .f32) (w : FVec Ideal S2x1024x3072 .f32) (b : FVec Ideal S2x3072 .f32)
    (h : Cert.Pre_finite_conditioning.fn v w b = fun _ => 1#1) (r : Fin 8) (k : Fin 1024) : ∃ x : ℝ, v (ix2 r k) = (x : EReal) := by
  have e := congrFun h (Shape.Idx.first Cert.Pre_finite_conditioning.Gen.h_S_)
  simp only [Cert.Pre_finite_conditioning.fn] at e
  have := Host.reduce_andi_all _ _ _ _ _ e (ix2 r k)
  refine Cert.ReferenceIdeal.Softmax.real_of_abs (Eq.trans ?_ this)
  symm
  pointwise []
  rfl

/-- It is the kernel's. -/
theorem reference_eq (v : FVec Ideal S8x1024 .f32) (w : FVec Ideal S2x1024x3072 .f32) (b : FVec Ideal S2x3072 .f32)
    (h : Cert.Pre_finite_conditioning.fn v w b = fun _ => 1#1) : reference v w b = fun y => output v w b (y 0) (y 1) (y 2) := by
  funext y
  obtain ⟨l, r, n, rfl⟩ : ∃ l r n, y = ix3 l r n := ⟨y 0, y 1, y 2, eq_ix3 y⟩
  show _ = output v w b l r n
  have e : ∀ k, silu (v (ix2 r k)) = v (ix2 r k) * Ideal.div (Ideal.ofBits .f32 0x3F800000#32) (Ideal.ofBits .f32 0x3F800000#32 + Ideal.exp (-v (ix2 r k))) := by
    intro k
    obtain ⟨x, hx⟩ := finite v w b h r k
    rw [hx, silu_coe]
  unfold output
  simp only [e, mul_comm _ (w _)]
  pointwise [reference]

end Cert.ModulationReferenceIdeal.Out
end
-- ==== Proof.ContextIdeal.Head.lean ====
/- One head of the context attention: the values of 256 keys against the softmax (base two) of their scores, from the head's
   queries, keys and values. -/
module

public import proofs.«01_k».proof.Proof.Gen.ContextIdeal.Value
public import proofs.«01_k».proof.Proof.Stream.Reference
public import Idealize.ShloMosaic.Lib.Pointwise

@[expose] public section

set_option maxRecDepth 16384
set_option maxHeartbeats 1000000

noncomputable section

namespace Cert.ContextIdeal.Attn

open Cert.ContextIdeal Cert.ContextIdeal.Gen
open Cert.KernelIdeal.Stream (wt exp2_sub quot_eq neg_inf32)
open Cert.ReferenceIdeal.Softmax (fold_real)
open Idealize.ShloMosaic
open Idealize.ShloMosaic.TcCoe

/-- A context position among the calls' positions. -/
def far (x : Fin 256) : Fin 17408 := ⟨16384 + x.val, by omega⟩

/-- The attention of one query: the values against the softmax (base two) of the scores, over 256 keys. -/
def attn (s : ℕ → ℝ) (u : ℕ → EReal) : EReal :=
  Ideal.div (∑ n ∈ Finset.range 256, u n * wt (s n) 0) (∑ n ∈ Finset.range 256, wt (s n) 0)

/-- The scores, key by query; -/
def points (k : Vec Ideal S1x1x256x128 .bf16) (q : Vec Ideal S1x1x128x256 .bf16) : FVec Ideal S256x256 .f32 :=
  matmul dot_S256x128_S128x256_S256x256_1_0_0_1_n_n none (shapeCast S256x128 k shapeCasts_S1x1x256x128_S256x128 : FVec Ideal S256x128 .bf16)
    (shapeCast S128x256 q shapeCasts_S1x1x128x256_S128x256 : FVec Ideal S128x256 .bf16) (constant S256x256 .f32 0x00000000#32)

/-- each query's greatest; -/
def peak (s : FVec Ideal S256x256 .f32) : FVec Ideal S256 .f32 :=
  multiReduction .maximumf [0] S256 s 0xFF800000#32 reduces_S256x256_S256 (.inl rfl) rfl

/-- the weights against it; -/
def weigh (s : FVec Ideal S256x256 .f32) (M : FVec Ideal S256 .f32) : FVec Ideal S256x256 .f32 :=
  exp2 (subf s (broadcastTo S256x256 (shapeCast S1x256 M shapeCasts_S256_S1x256) broadcasts_S1x256_S256x256))

/-- and the quotient of the sums. -/
def rest (p : FVec Ideal S256x256 .f32) (v : Vec Ideal S1x1x64x256 .bf16) : FVec Ideal S1x1x64x256 .bf16 :=
  shapeCast S1x1x64x256 (truncf .bf16 (divf
    (matmul dot_S64x256_S256x256_S64x256_1_0_0_1_n_n none (shapeCast S64x256 v shapeCasts_S1x1x64x256_S64x256 : FVec Ideal S64x256 .bf16) (truncf .bf16 p bitsLt_bf16_f32) (constant S64x256 .f32 0x00000000#32))
    (broadcastTo S64x256 (shapeCast S1x256 (multiReduction .add [0] S256 p 0x00000000#32 reduces_S256x256_S256 (.inl rfl) rfl) shapeCasts_S256_S1x256) broadcasts_S1x256_S64x256)) bitsLt_bf16_f32)
    shapeCasts_S64x256_S1x1x64x256

/-- A head's result. -/
def head (k : Vec Ideal S1x1x256x128 .bf16) (q : Vec Ideal S1x1x128x256 .bf16) (v : Vec Ideal S1x1x64x256 .bf16) : FVec Ideal S1x1x64x256 .bf16 :=
  rest (weigh (points k q) (peak (points k q))) v

theorem points_at (k : Vec Ideal S1x1x256x128 .bf16) (q : Vec Ideal S1x1x128x256 .bf16) (j x : Fin 256) :
    points k q (ix2 j x) = ∑ d : Fin 128, k (ix4 0 0 j d) * q (ix4 0 0 d x) := by
  pointwise [points]

theorem weigh_at (s : FVec Ideal S256x256 .f32) (M : FVec Ideal S256 .f32) (j x : Fin 256) :
    weigh s M (ix2 j x) = Ideal.exp2 (s (ix2 j x) - M (ix1 x)) := by
  pointwise [weigh]
  rfl

theorem rest_at (p : FVec Ideal S256x256 .f32) (v : Vec Ideal S1x1x64x256 .bf16) (d : Fin 64) (x : Fin 256) :
    rest p v (ix4 0 0 d x) = Ideal.div (∑ j : Fin 256, v (ix4 0 0 d j) * p (ix2 j x)) (∑ j : Fin 256, p (ix2 j x)) := by
  pointwise [rest]

/-- The greatest of real scores is a real. -/
theorem peak_real (s : FVec Ideal S256x256 .f32) (h : ∀ i, ∃ r : ℝ, s i = (r : EReal)) (x : Fin 256) : ∃ r : ℝ, peak s (ix1 x) = (r : EReal) := by
  obtain ⟨r, hr⟩ := fold_real Finset.univ (s ∘ Shape.Reduces.lift reduces_S256x256_S256 (ix1 x)) (fun i _ => h _) ⟨(⟨0, Nat.zero_lt_succ _⟩ : Fin 256), Finset.mem_univ _⟩
  refine ⟨r, (Ideal.multiReduction_maximumf_single s 0xFF800000#32 reduces_S256x256_S256 (.inl rfl) rfl (ix1 x)).trans (Eq.trans ?_ hr)⟩
  congr 1

/-- A head's result is the attention, when its scores are reals. -/
theorem head_at (k : Vec Ideal S1x1x256x128 .bf16) (q : Vec Ideal S1x1x128x256 .bf16) (v : Vec Ideal S1x1x64x256 .bf16)
    (s : Fin 256 → ℕ → ℝ) (u : Fin 64 → ℕ → EReal) (hs : ∀ j x : Fin 256, ∑ d : Fin 128, k (ix4 0 0 j d) * q (ix4 0 0 d x) = ((s x j.val : ℝ) : EReal))
    (hu : ∀ (d : Fin 64) (j : Fin 256), v (ix4 0 0 d j) = u d j.val) (d : Fin 64) (x : Fin 256) : head k q v (ix4 0 0 d x) = attn (s x) (u d) := by
  have hp : ∀ j x : Fin 256, points k q (ix2 j x) = ((s x j.val : ℝ) : EReal) := fun j x => (points_at k q j x).trans (hs j x)
  obtain ⟨μ, hμ⟩ := peak_real (points k q) (fun i => by
    obtain ⟨j, x, rfl⟩ : ∃ j x, i = ix2 j x := ⟨i 0, i 1, by funext a; fin_cases a <;> rfl⟩
    exact ⟨_, hp j x⟩) x
  have hw : ∀ j : Fin 256, weigh (points k q) (peak (points k q)) (ix2 j x) = wt (s x j.val) μ := by
    intro j
    rw [weigh_at, hp, hμ, exp2_sub]
  unfold head
  rw [rest_at]
  simp only [hw, hu]
  rw [← Finset.sum_range (fun n => u d n * wt (s x n) μ), ← Finset.sum_range (fun n => wt (s x n) μ)]
  exact quot_eq (by decide) (s x) (u d) μ 0

/-- A payload that is right at each head's indices, at an index of the buffer. -/
theorem tile {y : S1x8x64x256.Idx} (g : Fin 8) (w : S1x1x64x256.Idx → Elt Ideal .bf16) (E : S1x8x64x256.Idx → Elt Ideal .bf16)
    (h : ∀ d x, w (ix4 0 0 d x) = E (ix4 0 g d x)) : View.TileAt (Val := Elt Ideal) (S := S1x8x64x256) (e := .bf16) y ![0, g.val, 0, 0] S1x1x64x256.size w (E y) := by
  intro x hx
  have h0 : (x 0).val = 0 := by have : (x 0).val < 1 := (x 0).isLt; omega
  have h1 : (x 1).val = 0 := by have : (x 1).val < 1 := (x 1).isLt; omega
  have ex : x = ix4 0 0 (x 2) (x 3) := by
    funext a; apply Fin.ext; fin_cases a <;> simp [ix4, h0, h1]
  have ey : y = ix4 0 g (x 2) (x 3) := by
    funext a
    apply Fin.ext
    rw [hx a]
    fin_cases a <;> simp [ix4, h0, h1]
  rw [ey]
  exact (congrArg w ex).trans (h _ _)

end Cert.ContextIdeal.Attn
end
-- ==== Proof.ContextIdeal.Result.lean ====
/- The first context attention: what the points write back as one function of the arguments. -/
module

public import proofs.«01_k».proof.Proof.ContextIdeal.Head
public import Idealize.ShloMosaic.Lib.Pipeline.ValueKit.Point

@[expose] public section

set_option maxRecDepth 16384
set_option maxHeartbeats 1000000

noncomputable section

namespace Cert.ContextIdeal.Attn

open Cert.ContextIdeal Cert.ContextIdeal.Gen
open Cert.KernelIdeal.Stream (dotE sc vl)
open Idealize.ShloMosaic
open Idealize.ShloMosaic.TcCoe
open Idealize.SL.Sem

/-- The attention of the context positions' queries `q` over their keys `k` and values `v`. -/
def attention (q : S2x8x128x17408.Idx → EReal) (k : S2x8x17408x128.Idx → EReal) (v : S2x8x64x17408.Idx → EReal) (b : Fin 2) (g : Fin 8) (d : Fin 64) (x : Fin 256) : EReal :=
  attn (fun n => sc q k b g (far x) (16384 + n)) (fun n => vl v b g d (16384 + n))

variable (m : (ℓ : Loc nD τ sig) → Buf (Elt Ideal) ℓ) (c : Dev nD)

/-- Where each window's block lies at a point: point `t` is batch `t`, and the context follows the latent positions. -/
theorem idx0 : ∀ t : Fin cfg0.N, win0_0.index t = ![t.val, 0, 0, 64] := (by decide +kernel : ∀ t : Fin grid0.N, _)
theorem idx1 : ∀ t : Fin cfg0.N, win0_1.index t = ![t.val, 0, 64, 0] := (by decide +kernel : ∀ t : Fin grid0.N, _)
theorem idx2 : ∀ t : Fin cfg0.N, win0_2.index t = ![t.val, 0, 0, 64] := (by decide +kernel : ∀ t : Fin grid0.N, _)
theorem idx3 : ∀ t : Fin cfg0.N, win0_3.index t = ![t.val, 0, 0, 0] := (by decide +kernel : ∀ t : Fin grid0.N, _)
/-- The result's blocks cover its array. -/
theorem covers : win0_3.Covers := by decide +kernel

/-- The blocks at an index. -/
theorem q_at (t : Fin cfg0.N) (g : Fin 8) (d : Fin 128) (x : Fin 256) (b : Fin 2) (hb : b.val = t.val) :
    iblk m c 0 t (ix4 0 g d x) = m ((c : Thread nD τ).loc main_arg0) (ix4 b g d (far x)) := by
  blk_ext! [iblk, V, idx0 t, hb, far]

theorem k_at (t : Fin cfg0.N) (g : Fin 8) (x : Fin 256) (d : Fin 128) (b : Fin 2) (hb : b.val = t.val) :
    iblk m c 1 t (ix4 0 g x d) = m ((c : Thread nD τ).loc main_arg1) (ix4 b g (far x) d) := by
  blk_ext! [iblk, V, idx1 t, hb, far]

theorem v_at (t : Fin cfg0.N) (g : Fin 8) (d : Fin 64) (x : Fin 256) (b : Fin 2) (hb : b.val = t.val) :
    iblk m c 2 t (ix4 0 g d x) = m ((c : Thread nD τ).loc main_arg2) (ix4 b g d (far x)) := by
  blk_ext! [iblk, V, idx2 t, hb, far]

/-- One head's loads, at an index. -/
theorem ldq_at (x0 : Vec Ideal S1x8x128x256 .bf16) (g : Fin 8) (inb) (d : Fin 128) (x : Fin 256) :
    View.ld x0 (Rect.unit (s := S1x8x128x256) ![0, g.val, 0, 0] S1x1x128x256.size inb) (ix4 0 0 d x) = x0 (ix4 0 g d x) :=
  View.ld_unit_apply_of _ _ _ _ _ _ fun a => by fin_cases a <;> simp [ix4]
theorem ldk_at (x1 : Vec Ideal S1x8x256x128 .bf16) (g : Fin 8) (inb) (x : Fin 256) (d : Fin 128) :
    View.ld x1 (Rect.unit (s := S1x8x256x128) ![0, g.val, 0, 0] S1x1x256x128.size inb) (ix4 0 0 x d) = x1 (ix4 0 g x d) :=
  View.ld_unit_apply_of _ _ _ _ _ _ fun a => by fin_cases a <;> simp [ix4]
theorem ldv_at (x2 : Vec Ideal S1x8x64x256 .bf16) (g : Fin 8) (inb) (d : Fin 64) (x : Fin 256) :
    View.ld x2 (Rect.unit (s := S1x8x64x256) ![0, g.val, 0, 0] S1x1x64x256.size inb) (ix4 0 0 d x) = x2 (ix4 0 g d x) :=
  View.ld_unit_apply_of _ _ _ _ _ _ fun a => by fin_cases a <;> simp [ix4]

/-- The body leaves a head's result in each head's part of the buffer. -/
theorem out_eq (x0 : Vec Ideal S1x8x128x256 .bf16) (x1 : Vec Ideal S1x8x256x128 .bf16) (x2 : Vec Ideal S1x8x64x256 .bf16) (E : S1x8x64x256.Idx → Elt Ideal .bf16)
    (h : ∀ (g : Fin 8) ik iq iv d x, head (View.ld x1 (Rect.unit (s := S1x8x256x128) ![0, g.val, 0, 0] S1x1x256x128.size ik)) (View.ld x0 (Rect.unit (s := S1x8x128x256) ![0, g.val, 0, 0] S1x1x128x256.size iq))
      (View.ld x2 (Rect.unit (s := S1x8x64x256) ![0, g.val, 0, 0] S1x1x64x256.size iv)) (ix4 0 0 d x) = E (ix4 0 g d x)) : out0_3 x0 x1 x2 = E := by
  funext y
  unfold out0_3
  refine View.canon_eq_of_allAt _ y _ (cover0_3 _ _ _ _ _ _ _ _ y) ?_
  refine View.allAt_cons_unit _ _ _ _ _ (tile 7 _ E fun d x => h 7 _ _ _ d x) ?_
  refine View.allAt_cons_unit _ _ _ _ _ (tile 6 _ E fun d x => h 6 _ _ _ d x) ?_
  refine View.allAt_cons_unit _ _ _ _ _ (tile 5 _ E fun d x => h 5 _ _ _ d x) ?_
  refine View.allAt_cons_unit _ _ _ _ _ (tile 4 _ E fun d x => h 4 _ _ _ d x) ?_
  refine View.allAt_cons_unit _ _ _ _ _ (tile 3 _ E fun d x => h 3 _ _ _ d x) ?_
  refine View.allAt_cons_unit _ _ _ _ _ (tile 2 _ E fun d x => h 2 _ _ _ d x) ?_
  refine View.allAt_cons_unit _ _ _ _ _ (tile 1 _ E fun d x => h 1 _ _ _ d x) ?_
  exact View.allAt_cons_unit _ _ _ _ _ (tile 0 _ E fun d x => h 0 _ _ _ d x) (View.allAt_nil _ _)

/-- Every score of a context query against a context key is a real. -/
def RealScores (q : S2x8x128x17408.Idx → EReal) (k : S2x8x17408x128.Idx → EReal) : Prop :=
  ∀ (b : Fin 2) (g : Fin 8) (x n : Fin 256), ∃ r : ℝ, dotE q k b g (far x) (far n) = r

/-- Such a score is its real. -/
theorem sc_eq (q : S2x8x128x17408.Idx → EReal) (k : S2x8x17408x128.Idx → EReal) (h : RealScores q k) (b : Fin 2) (g : Fin 8) (x n : Fin 256) :
    dotE q k b g (far x) (far n) = ((sc q k b g (far x) (16384 + n.val) : ℝ) : EReal) := by
  obtain ⟨r, hr⟩ := h b g x n
  unfold sc
  rw [dif_pos (show 16384 + n.val < 17408 by omega), show (⟨16384 + n.val, _⟩ : Fin 17408) = far n from rfl, hr, EReal.toReal_coe]

theorem vl_eq (v : S2x8x64x17408.Idx → EReal) (b : Fin 2) (g : Fin 8) (d : Fin 64) (n : Fin 256) : v (ix4 b g d (far n)) = vl v b g d (16384 + n.val) := by
  unfold vl
  rw [dif_pos (show 16384 + n.val < 17408 by omega)]
  rfl

/-- The context's attention on a device. -/
def result (c : Dev nD) (y : S2x8x64x256.Idx) : EReal :=
  attention (m ((c : Thread nD τ).loc main_arg0)) (m ((c : Thread nD τ).loc main_arg1)) (m ((c : Thread nD τ).loc main_arg2)) (y 0) (y 1) (y 2) (y 3)

/-- What a point writes back. -/
theorem out_at (h : RealScores (m ((c : Thread nD τ).loc main_arg0)) (m ((c : Thread nD τ).loc main_arg1))) (t : Fin cfg0.N) (b : Fin 2) (hb : b.val = t.val) :
    out0_3 (F := Ideal) (iblk m c 0 t) (iblk m c 1 t) (iblk m c 2 t) = fun y => result m c (ix4 b (y 1) (y 2) (y 3)) := by
  refine out_eq _ _ _ _ fun g ik iq iv d x => ?_
  refine head_at _ _ _ (fun x n => sc (m ((c : Thread nD τ).loc main_arg0)) (m ((c : Thread nD τ).loc main_arg1)) b g (far x) (16384 + n))
    (fun d n => vl (m ((c : Thread nD τ).loc main_arg2)) b g d (16384 + n)) (fun j x => ?_) (fun d j => ?_) d x
  · refine Eq.trans (Finset.sum_congr rfl fun d _ => congrArg₂ (· * ·) ((ldk_at _ g ik j d).trans (k_at m c t g j d b hb)) ((ldq_at _ g iq d x).trans (q_at m c t g d x b hb))) ?_
    exact sc_eq _ _ h b g x j
  · exact ((ldv_at _ g iv d j).trans (v_at m c t g d j b hb)).trans (vl_eq _ b g d j)

/-- The array after the run. -/
theorem arr_eq (h : RealScores (m ((c : Thread nD τ).loc main_arg0)) (m ((c : Thread nD τ).loc main_arg1))) : (dats m 0 c).arrAt 3 cfg0.N = result m c := by
  refine (dats m 0 c).arrAt_eq_of_covers 3 _ covers fun t hf y => ?_
  have ht : t.val < 2 := t.isLt
  blk_simp
  obtain ⟨g, hg⟩ : ∃ g : Fin 8, g.val = (y 1).val := ⟨⟨(y 1).val, (y 1).isLt⟩, rfl⟩
  obtain ⟨d, hd⟩ : ∃ d : Fin 64, d.val = (y 2).val := ⟨⟨(y 2).val, (y 2).isLt⟩, rfl⟩
  obtain ⟨x, hx⟩ : ∃ x : Fin 256, x.val = (y 3).val := ⟨⟨(y 3).val, (y 3).isLt⟩, rfl⟩
  have h0 : (y 0).val = 0 := by have : (y 0).val < 1 := (y 0).isLt; omega
  obtain ⟨b, hb⟩ : ∃ b : Fin 2, b.val = t.val := ⟨⟨t.val, by omega⟩, rfl⟩
  have ey : (win0_3.blk t).view.emb y = (ix4 b g d x : S2x8x64x256.Idx) := by
    blk_ext [idx3 t, hb, hg, hd, hx, h0]
  have ez : y = (ix4 0 g d x : S1x8x64x256.Idx) := by
    funext a; apply Fin.ext; fin_cases a <;> simp [ix4, hg, hd, hx, h0]
  rw [ey]
  refine (congrArg ((dats m 0 c).after 3 t) ez).trans ?_
  rw [after0_3, out_at m c h t b hb]
  rfl

end Cert.ContextIdeal.Attn
end
-- ==== Proof.ContextIdeal.Reference.lean ====
/- The first context attention's reference, read at an index: the same quotient of sums as the kernel's, when the context's
   queries and keys are finite. -/
module

public import proofs.«01_k».proof.Proof.Gen.ContextReferenceIdeal.Run
public import proofs.«01_k».proof.Proof.Gen.Pre_finite_context_queries_and_keys
public import proofs.«01_k».proof.Proof.ContextIdeal.Result

@[expose] public section

set_option maxRecDepth 16384
set_option maxHeartbeats 1000000

noncomputable section

namespace Cert.ContextReferenceIdeal.Softmax

open Cert.ContextReferenceIdeal Cert.ContextReferenceIdeal.Gen
open Cert.ContextIdeal.Attn (attention attn far RealScores sc_eq vl_eq)
open Cert.KernelIdeal.Stream (wt dotE sc vl neg_inf32)
open Cert.ReferenceIdeal.Softmax (ln2 exp_sub ratio real_sum real_of_abs reduce_real maximumf_at splat_at)
open Idealize.ShloMosaic
open Idealize.ShloMosaic.TcCoe

/-! ## The softmax over the context's keys -/

abbrev Scores := FVec Ideal S2x8x256x256 .f32

def top (s : Scores) : FVec Ideal S2x8x256 .f32 :=
  maximumf (broadcastInDim S2x8x256 ![] bcast_S_S2x8x256 (constant S_ .f32 0xFF800000#32)) (Host.reduce FloatOps.maximumf s (constant S_ .f32 0xFF800000#32) reducesTo_S2x8x256x256_S2x8x256_d3 h_S_)

def spread (x : FVec Ideal S2x8x256 .f32) : Scores :=
  broadcastInDim S2x8x256x256 ![0, 1, 2, 3] bcast_S2x8x256x1_S2x8x256x256_0_1_2_3 (broadcastInDim S2x8x256x1 ![0, 1, 2] bcast_S2x8x256_S2x8x256x1_0_1_2 x)

def weights (s : Scores) : Scores := Host.exp (subf s (spread (top s)))

def total (e : Scores) : FVec Ideal S2x8x256 .f32 := Host.reduceAdd e (constant S_ .f32 0x00000000#32) reducesTo_S2x8x256x256_S2x8x256_d3 h_S_

def soft (e : Scores) : FVec Ideal S2x8x256x256 .bf16 := truncf .bf16 (Host.divf e (spread (total e))) bitsLt_bf16_f32

/-- The values against the softmax. -/
def mix (v : FVec Ideal S2x8x64x256 .f32) (p : FVec Ideal S2x8x256x256 .bf16) : FVec Ideal S2x8x64x256 .bf16 :=
  truncf .bf16 (Host.dotGeneral dot_S2x8x64x256_S2x8x256x256_S2x8x64x256_3_3_2_2_01_01 none v (extf .f32 p bitsLt_bf16_f32)) bitsLt_bf16_f32

theorem weights_at (s : Scores) (b : Fin 2) (g : Fin 8) (Q n : Fin 256) : weights s (ix4 b g Q n) = Ideal.exp (s (ix4 b g Q n) - top s (ix3 b g Q)) := by
  pointwise [weights, spread]
theorem total_at (e : Scores) (b : Fin 2) (g : Fin 8) (Q : Fin 256) : total e (ix3 b g Q) = ∑ n, e (ix4 b g Q n) := by
  pointwise [total]
theorem soft_at (e : Scores) (b : Fin 2) (g : Fin 8) (Q n : Fin 256) : soft e (ix4 b g Q n) = Ideal.div (e (ix4 b g Q n)) (total e (ix3 b g Q)) := by
  pointwise [soft, spread]
theorem mix_at (v : FVec Ideal S2x8x64x256 .f32) (p : FVec Ideal S2x8x256x256 .bf16) (b : Fin 2) (g : Fin 8) (d : Fin 64) (Q : Fin 256) :
    mix v p (ix4 b g d Q) = ∑ n, v (ix4 b g d n) * p (ix4 b g Q n) := by
  pointwise [mix]

/-- The greatest of real scores is a real. -/
theorem top_real (s : Scores) (h : ∀ i, ∃ r : ℝ, s i = (r : EReal)) (b : Fin 2) (g : Fin 8) (Q : Fin 256) : ∃ r : ℝ, top s (ix3 b g Q) = (r : EReal) := by
  obtain ⟨r, hr⟩ := reduce_real s (constant S_ .f32 0xFF800000#32) reducesTo_S2x8x256x256_S2x8x256_d3 h_S_ (ix3 b g Q) neg_inf32 h
    (ix4 b g Q ⟨0, Nat.zero_lt_succ _⟩) (by
      funext a
      apply Fin.ext
      fin_cases a
      · exact Shape.ReducesTo.drop_apply_val_of_eq reducesTo_S2x8x256x256_S2x8x256_d3 _ 0 0
      · exact Shape.ReducesTo.drop_apply_val_of_eq reducesTo_S2x8x256x256_S2x8x256_d3 _ 1 1
      · exact Shape.ReducesTo.drop_apply_val_of_eq reducesTo_S2x8x256x256_S2x8x256_d3 _ 2 2)
  refine ⟨r, ?_⟩
  unfold top
  rw [maximumf_at, hr, splat_at, neg_inf32]
  exact max_eq_right bot_le

/-- Values summed against the softmax of scores that are reals times `log 2` are the attention. -/
theorem mix_attn (S : Scores) (v : FVec Ideal S2x8x64x256 .f32) (s : Fin 2 → Fin 8 → Fin 256 → ℕ → ℝ) (u : Fin 2 → Fin 8 → Fin 64 → ℕ → EReal)
    (h : ∀ b g Q (n : Fin 256), S (ix4 b g Q n) = ((s b g Q n.val : ℝ) : EReal) * ((Real.log 2 : ℝ) : EReal)) (hv : ∀ b g d (n : Fin 256), v (ix4 b g d n) = u b g d n.val)
    (b : Fin 2) (g : Fin 8) (d : Fin 64) (Q : Fin 256) : mix v (soft (weights S)) (ix4 b g d Q) = attn (s b g Q) (u b g d) := by
  obtain ⟨μ, hμ⟩ := top_real S (fun i => by
    obtain ⟨b, g, Q, n, rfl⟩ : ∃ b g Q n, i = ix4 b g Q n := ⟨i 0, i 1, i 2, i 3, by funext a; fin_cases a <;> rfl⟩
    exact ⟨_, (h b g Q n).trans (EReal.coe_mul _ _).symm⟩) b g Q
  have hw : ∀ n : Fin 256, weights S (ix4 b g Q n) = wt (s b g Q n.val) (μ / Real.log 2) := by
    intro n
    rw [weights_at, h, hμ, ← EReal.coe_mul, exp_sub]
  rw [mix_at]
  simp only [soft_at, total_at, hw, hv]
  exact ratio (Nat.zero_lt_succ _) (s b g Q) (u b g d) _

/-! ## The reference -/

def scores (q : FVec Ideal S2x8x128x17408 .bf16) (k : FVec Ideal S2x8x17408x128 .bf16) : Scores :=
  mulf (Host.dotGeneral dot_S2x8x128x256_S2x8x256x128_S2x8x256x256_2_3_3_2_01_01 none (extf .f32 (extractStridedSlice S2x8x128x256 ![0, 0, 0, 16384] q slices_S2x8x128x17408_S2x8x128x256_0_0_0_16384) bitsLt_bf16_f32) (extf .f32 (extractStridedSlice S2x8x256x128 ![0, 0, 16384, 0] k slices_S2x8x17408x128_S2x8x256x128_0_0_16384_0) bitsLt_bf16_f32)) (broadcastInDim S2x8x256x256 ![] bcast_S_S2x8x256x256 (Host.log (constant S_ .f32 0x40000000#32)))

def values (v : FVec Ideal S2x8x64x17408 .bf16) : FVec Ideal S2x8x64x256 .f32 :=
  extf .f32 (extractStridedSlice S2x8x64x256 ![0, 0, 0, 16384] v slices_S2x8x64x17408_S2x8x64x256_0_0_0_16384) bitsLt_bf16_f32

theorem scores_at (q : FVec Ideal S2x8x128x17408 .bf16) (k : FVec Ideal S2x8x17408x128 .bf16) (b : Fin 2) (g : Fin 8) (Q n : Fin 256) :
    scores q k (ix4 b g Q n) = dotE q k b g (far Q) (far n) * ((Real.log 2 : ℝ) : EReal) := by
  unfold dotE
  rw [← ln2, Finset.sum_congr rfl fun d _ => mul_comm _ _]
  pointwise [scores, far]

theorem values_at (v : FVec Ideal S2x8x64x17408 .bf16) (b : Fin 2) (g : Fin 8) (d : Fin 64) (n : Fin 256) : values v (ix4 b g d n) = v (ix4 b g d (far n)) := by
  pointwise [values, far]

/-- The precondition makes every query and key of the context a real, -/
theorem finite (q : FVec Ideal S2x8x128x17408 .bf16) (k : FVec Ideal S2x8x17408x128 .bf16) (v : FVec Ideal S2x8x64x17408 .bf16)
    (h : Cert.Pre_finite_context_queries_and_keys.fn q k v = fun _ => 1#1) :
    (∀ b g d Q, ∃ r : ℝ, q (ix4 b g d (far Q)) = (r : EReal)) ∧ ∀ b g n d, ∃ r : ℝ, k (ix4 b g (far n) d) = (r : EReal) := by
  have e := congrFun h (Shape.Idx.first Cert.Pre_finite_context_queries_and_keys.Gen.h_S_)
  simp only [Cert.Pre_finite_context_queries_and_keys.fn, andi] at e
  obtain ⟨e1, e2⟩ := IntOp.andi_eq_one.1 e
  refine ⟨fun b g d Q => ?_, fun b g n d => ?_⟩
  · have := Host.reduce_andi_all _ _ _ _ _ e1 (ix4 b g d Q)
    refine real_of_abs (Eq.trans ?_ this)
    symm
    pointwise [far]
    rfl
  · have := Host.reduce_andi_all _ _ _ _ _ e2 (ix4 b g n d)
    refine real_of_abs (Eq.trans ?_ this)
    symm
    pointwise [far]
    rfl

/-- and so every score. -/
theorem realScores (q : FVec Ideal S2x8x128x17408 .bf16) (k : FVec Ideal S2x8x17408x128 .bf16) (v : FVec Ideal S2x8x64x17408 .bf16)
    (h : Cert.Pre_finite_context_queries_and_keys.fn q k v = fun _ => 1#1) : RealScores q k := by
  intro b g x n
  obtain ⟨hq, hk⟩ := finite q k v h
  refine real_sum _ _ fun d => ?_
  obtain ⟨r, hr⟩ := hq b g d x
  obtain ⟨t, ht⟩ := hk b g n d
  exact ⟨t * r, by rw [hr, ht, EReal.coe_mul]⟩

/-- The reference's result is the attention of its arguments. -/
theorem reference_eq (q : FVec Ideal S2x8x128x17408 .bf16) (k : FVec Ideal S2x8x17408x128 .bf16) (v : FVec Ideal S2x8x64x17408 .bf16)
    (h : Cert.Pre_finite_context_queries_and_keys.fn q k v = fun _ => 1#1) :
    mix (values v) (soft (weights (scores q k))) = fun y => attention q k v (y 0) (y 1) (y 2) (y 3) := by
  funext y
  obtain ⟨b, g, d, Q, rfl⟩ : ∃ b g d Q, y = ix4 b g d Q := ⟨y 0, y 1, y 2, y 3, by funext a; fin_cases a <;> rfl⟩
  refine mix_attn _ _ (fun b g Q n => sc q k b g (far Q) (16384 + n)) (fun b g d n => vl v b g d (16384 + n)) (fun b g Q n => ?_) (fun b g d n => ?_) b g d Q
  · rw [scores_at, sc_eq q k (realScores q k v h)]
  · exact (values_at v b g d n).trans (vl_eq v b g d n)

end Cert.ContextReferenceIdeal.Softmax
end
-- ==== Proof.ContextGroupedIdeal.Result.lean ====
/- The grouped context attention: what the points write back as one function of the arguments. -/
module

public import proofs.«01_k».proof.Proof.Gen.ContextGroupedIdeal.Value
public import proofs.«01_k».proof.Proof.ContextIdeal.Head
public import proofs.«01_k».proof.Proof.GroupedStream.Result
public import Idealize.ShloMosaic.Lib.Pipeline.ValueKit.Point

@[expose] public section

set_option maxRecDepth 16384
set_option maxHeartbeats 1000000

noncomputable section

namespace Cert.ContextGroupedIdeal.Attn

open Cert.ContextGroupedIdeal Cert.ContextGroupedIdeal.Gen
open Cert.ContextIdeal.Attn (far attn head head_at tile)
open Cert.GroupedIdeal.Stream (dotE sc vl grp)
open Idealize.ShloMosaic
open Idealize.ShloMosaic.TcCoe
open Idealize.SL.Sem

/-- The attention of the context positions' queries `q` over their keys `k` and values `v`, the keys the same for every head and the values
    those of its group. -/
def attention (q : S2x8x128x17408.Idx → EReal) (k : S2x1x17408x128.Idx → EReal) (v : S2x2x64x17408.Idx → EReal) (b : Fin 2) (g : Fin 8) (d : Fin 64) (x : Fin 256) : EReal :=
  attn (fun n => sc q k b g (far x) (16384 + n)) (fun n => vl v b g d (16384 + n))

variable (m : (ℓ : Loc nD τ sig) → Buf (Elt Ideal) ℓ) (c : Dev nD)

/-- Where each window's block lies at a point: point `t` is batch `t`, and the context follows the latent positions. -/
theorem idx0 : ∀ t : Fin cfg0.N, win0_0.index t = ![t.val, 0, 0, 64] := (by decide +kernel : ∀ t : Fin grid0.N, _)
theorem idx1 : ∀ t : Fin cfg0.N, win0_1.index t = ![t.val, 0, 64, 0] := (by decide +kernel : ∀ t : Fin grid0.N, _)
theorem idx2 : ∀ t : Fin cfg0.N, win0_2.index t = ![t.val, 0, 0, 64] := (by decide +kernel : ∀ t : Fin grid0.N, _)
theorem idx3 : ∀ t : Fin cfg0.N, win0_3.index t = ![t.val, 0, 0, 0] := (by decide +kernel : ∀ t : Fin grid0.N, _)
/-- The result's blocks cover its array. -/
theorem covers : win0_3.Covers := by decide +kernel

/-- The blocks at an index. -/
theorem q_at (t : Fin cfg0.N) (g : Fin 8) (d : Fin 128) (x : Fin 256) (b : Fin 2) (hb : b.val = t.val) :
    iblk m c 0 t (ix4 0 g d x) = m ((c : Thread nD τ).loc main_arg0) (ix4 b g d (far x)) := by
  blk_ext! [iblk, V, idx0 t, hb, far]

theorem k_at (t : Fin cfg0.N) (x : Fin 256) (d : Fin 128) (b : Fin 2) (hb : b.val = t.val) :
    iblk m c 1 t (ix4 0 0 x d) = m ((c : Thread nD τ).loc main_arg1) (ix4 b 0 (far x) d) := by
  blk_ext! [iblk, V, idx1 t, hb, far]

theorem v_at (t : Fin cfg0.N) (e : Fin 2) (d : Fin 64) (x : Fin 256) (b : Fin 2) (hb : b.val = t.val) :
    iblk m c 2 t (ix4 0 e d x) = m ((c : Thread nD τ).loc main_arg2) (ix4 b e d (far x)) := by
  blk_ext! [iblk, V, idx2 t, hb, far]

/-- One head's loads, at an index. -/
theorem ldq_at (x0 : Vec Ideal S1x8x128x256 .bf16) (g : Fin 8) (inb) (d : Fin 128) (x : Fin 256) :
    View.ld x0 (Rect.unit (s := S1x8x128x256) ![0, g.val, 0, 0] S1x1x128x256.size inb) (ix4 0 0 d x) = x0 (ix4 0 g d x) :=
  View.ld_unit_apply_of _ _ _ _ _ _ fun a => by fin_cases a <;> simp [ix4]
theorem ldk_at (x1 : Vec Ideal S1x1x256x128 .bf16) (inb) (x : Fin 256) (d : Fin 128) :
    View.ld x1 (Rect.unit (s := S1x1x256x128) ![0, 0, 0, 0] S1x1x256x128.size inb) (ix4 0 0 x d) = x1 (ix4 0 0 x d) :=
  View.ld_unit_apply_of _ _ _ _ _ _ fun a => by fin_cases a <;> simp [ix4]
theorem ldv_at (x2 : Vec Ideal S1x2x64x256 .bf16) (e : Fin 2) (inb) (d : Fin 64) (x : Fin 256) :
    View.ld x2 (Rect.unit (s := S1x2x64x256) ![0, e.val, 0, 0] S1x1x64x256.size inb) (ix4 0 0 d x) = x2 (ix4 0 e d x) :=
  View.ld_unit_apply_of _ _ _ _ _ _ fun a => by fin_cases a <;> simp [ix4]

/-- The body leaves a head's result in each head's part of the buffer. -/
theorem out_eq (x0 : Vec Ideal S1x8x128x256 .bf16) (x1 : Vec Ideal S1x1x256x128 .bf16) (x2 : Vec Ideal S1x2x64x256 .bf16) (E : S1x8x64x256.Idx → Elt Ideal .bf16)
    (h : ∀ (g : Fin 8) ik iq iv d x, head (View.ld x1 (Rect.unit (s := S1x1x256x128) ![0, 0, 0, 0] S1x1x256x128.size ik)) (View.ld x0 (Rect.unit (s := S1x8x128x256) ![0, g.val, 0, 0] S1x1x128x256.size iq))
      (View.ld x2 (Rect.unit (s := S1x2x64x256) ![0, (grp g).val, 0, 0] S1x1x64x256.size iv)) (ix4 0 0 d x) = E (ix4 0 g d x)) : out0_3 x0 x1 x2 = E := by
  funext y
  unfold out0_3
  refine View.canon_eq_of_allAt _ y _ (cover0_3 _ _ _ _ _ _ _ _ y) ?_
  refine View.allAt_cons_unit _ _ _ _ _ (tile 7 _ E fun d x => h 7 _ _ _ d x) ?_
  refine View.allAt_cons_unit _ _ _ _ _ (tile 6 _ E fun d x => h 6 _ _ _ d x) ?_
  refine View.allAt_cons_unit _ _ _ _ _ (tile 5 _ E fun d x => h 5 _ _ _ d x) ?_
  refine View.allAt_cons_unit _ _ _ _ _ (tile 4 _ E fun d x => h 4 _ _ _ d x) ?_
  refine View.allAt_cons_unit _ _ _ _ _ (tile 3 _ E fun d x => h 3 _ _ _ d x) ?_
  refine View.allAt_cons_unit _ _ _ _ _ (tile 2 _ E fun d x => h 2 _ _ _ d x) ?_
  refine View.allAt_cons_unit _ _ _ _ _ (tile 1 _ E fun d x => h 1 _ _ _ d x) ?_
  exact View.allAt_cons_unit _ _ _ _ _ (tile 0 _ E fun d x => h 0 _ _ _ d x) (View.allAt_nil _ _)

/-- Every score of a context query against a context key is a real. -/
def RealScores (q : S2x8x128x17408.Idx → EReal) (k : S2x1x17408x128.Idx → EReal) : Prop :=
  ∀ (b : Fin 2) (g : Fin 8) (x n : Fin 256), ∃ r : ℝ, dotE q k b g (far x) (far n) = r

/-- Such a score is its real. -/
theorem sc_eq (q : S2x8x128x17408.Idx → EReal) (k : S2x1x17408x128.Idx → EReal) (h : RealScores q k) (b : Fin 2) (g : Fin 8) (x n : Fin 256) :
    dotE q k b g (far x) (far n) = ((sc q k b g (far x) (16384 + n.val) : ℝ) : EReal) := by
  obtain ⟨r, hr⟩ := h b g x n
  unfold sc
  rw [dif_pos (show 16384 + n.val < 17408 by omega), show (⟨16384 + n.val, _⟩ : Fin 17408) = far n from rfl, hr, EReal.toReal_coe]

theorem vl_eq (v : S2x2x64x17408.Idx → EReal) (b : Fin 2) (g : Fin 8) (d : Fin 64) (n : Fin 256) : v (ix4 b (grp g) d (far n)) = vl v b g d (16384 + n.val) := by
  unfold vl
  rw [dif_pos (show 16384 + n.val < 17408 by omega)]
  rfl

/-- The context's attention on a device. -/
def result (c : Dev nD) (y : S2x8x64x256.Idx) : EReal :=
  attention (m ((c : Thread nD τ).loc main_arg0)) (m ((c : Thread nD τ).loc main_arg1)) (m ((c : Thread nD τ).loc main_arg2)) (y 0) (y 1) (y 2) (y 3)

/-- What a point writes back. -/
theorem out_at (h : RealScores (m ((c : Thread nD τ).loc main_arg0)) (m ((c : Thread nD τ).loc main_arg1))) (t : Fin cfg0.N) (b : Fin 2) (hb : b.val = t.val) :
    out0_3 (F := Ideal) (iblk m c 0 t) (iblk m c 1 t) (iblk m c 2 t) = fun y => result m c (ix4 b (y 1) (y 2) (y 3)) := by
  refine out_eq _ _ _ _ fun g ik iq iv d x => ?_
  refine head_at _ _ _ (fun x n => sc (m ((c : Thread nD τ).loc main_arg0)) (m ((c : Thread nD τ).loc main_arg1)) b g (far x) (16384 + n))
    (fun d n => vl (m ((c : Thread nD τ).loc main_arg2)) b g d (16384 + n)) (fun j x => ?_) (fun d j => ?_) d x
  · refine Eq.trans (Finset.sum_congr rfl fun d _ => congrArg₂ (· * ·) ((ldk_at _ ik j d).trans (k_at m c t j d b hb)) ((ldq_at _ g iq d x).trans (q_at m c t g d x b hb))) ?_
    exact sc_eq _ _ h b g x j
  · exact ((ldv_at _ (grp g) iv d j).trans (v_at m c t (grp g) d j b hb)).trans (vl_eq _ b g d j)

/-- The array after the run. -/
theorem arr_eq (h : RealScores (m ((c : Thread nD τ).loc main_arg0)) (m ((c : Thread nD τ).loc main_arg1))) : (dats m 0 c).arrAt 3 cfg0.N = result m c := by
  refine (dats m 0 c).arrAt_eq_of_covers 3 _ covers fun t hf y => ?_
  have ht : t.val < 2 := t.isLt
  blk_simp
  obtain ⟨g, hg⟩ : ∃ g : Fin 8, g.val = (y 1).val := ⟨⟨(y 1).val, (y 1).isLt⟩, rfl⟩
  obtain ⟨d, hd⟩ : ∃ d : Fin 64, d.val = (y 2).val := ⟨⟨(y 2).val, (y 2).isLt⟩, rfl⟩
  obtain ⟨x, hx⟩ : ∃ x : Fin 256, x.val = (y 3).val := ⟨⟨(y 3).val, (y 3).isLt⟩, rfl⟩
  have h0 : (y 0).val = 0 := by have : (y 0).val < 1 := (y 0).isLt; omega
  obtain ⟨b, hb⟩ : ∃ b : Fin 2, b.val = t.val := ⟨⟨t.val, by omega⟩, rfl⟩
  have ey : (win0_3.blk t).view.emb y = (ix4 b g d x : S2x8x64x256.Idx) := by
    blk_ext [idx3 t, hb, hg, hd, hx, h0]
  have ez : y = (ix4 0 g d x : S1x8x64x256.Idx) := by
    funext a; apply Fin.ext; fin_cases a <;> simp [ix4, hg, hd, hx, h0]
  rw [ey]
  refine (congrArg ((dats m 0 c).after 3 t) ez).trans ?_
  rw [after0_3, out_at m c h t b hb]
  rfl

end Cert.ContextGroupedIdeal.Attn
end
-- ==== Proof.ContextGroupedIdeal.Reference.lean ====
/- The grouped context attention's reference, read at an index: the same quotient of sums as the kernel's, when the context's
   queries and keys are finite. -/
module

public import proofs.«01_k».proof.Proof.Gen.ContextGroupedReferenceIdeal.Run
public import proofs.«01_k».proof.Proof.Gen.Pre_finite_context_grouped_queries_and_keys
public import proofs.«01_k».proof.Proof.ContextGroupedIdeal.Result
public import proofs.«01_k».proof.Proof.ContextIdeal.Reference

@[expose] public section

set_option maxRecDepth 16384
set_option maxHeartbeats 1000000

noncomputable section

namespace Cert.ContextGroupedReferenceIdeal.Softmax

open Cert.ContextGroupedReferenceIdeal Cert.ContextGroupedReferenceIdeal.Gen
open Cert.ContextIdeal.Attn (far)
open Cert.ContextGroupedIdeal.Attn (attention RealScores sc_eq vl_eq)
open Cert.ContextReferenceIdeal.Softmax (Scores weights soft mix mix_attn)
open Cert.GroupedIdeal.Stream (dotE sc vl grp)
open Cert.ReferenceIdeal.Softmax (ln2 real_sum real_of_abs)
open Idealize.ShloMosaic
open Idealize.ShloMosaic.TcCoe

/-- The scores, times `log 2`: the keys are the same for every head. -/
def scores (q : FVec Ideal S2x8x128x17408 .bf16) (k : FVec Ideal S2x1x17408x128 .bf16) : Scores :=
  mulf (Host.dotGeneral dot_S2x8x128x256_S2x256x128_S2x8x256x256_2_2_13_1_0_0 none (extf .f32 (extractStridedSlice S2x8x128x256 ![0, 0, 0, 16384] q slices_S2x8x128x17408_S2x8x128x256_0_0_0_16384) bitsLt_bf16_f32) (extf .f32 (shapeCast S2x256x128 (extractStridedSlice S2x1x256x128 ![0, 0, 16384, 0] k slices_S2x1x17408x128_S2x1x256x128_0_0_16384_0) shapeCasts_S2x1x256x128_S2x256x128) bitsLt_bf16_f32)) (broadcastInDim S2x8x256x256 ![] bcast_S_S2x8x256x256 (Host.log (constant S_ .f32 0x40000000#32)))

/-- The values, each group's repeated for its four heads. -/
def values (v : FVec Ideal S2x2x64x17408 .bf16) : FVec Ideal S2x8x64x256 .f32 :=
  shapeCast S2x8x64x256 (broadcastInDim S2x2x4x64x256 ![0, 1, 2, 3, 4] bcast_S2x2x1x64x256_S2x2x4x64x256_0_1_2_3_4 (broadcastInDim S2x2x1x64x256 ![0, 1, 3, 4] bcast_S2x2x64x256_S2x2x1x64x256_0_1_3_4 (extf .f32 (extractStridedSlice S2x2x64x256 ![0, 0, 0, 16384] v slices_S2x2x64x17408_S2x2x64x256_0_0_0_16384) bitsLt_bf16_f32))) shapeCasts_S2x2x4x64x256_S2x8x64x256

theorem scores_at (q : FVec Ideal S2x8x128x17408 .bf16) (k : FVec Ideal S2x1x17408x128 .bf16) (b : Fin 2) (g : Fin 8) (Q n : Fin 256) :
    scores q k (ix4 b g Q n) = dotE q k b g (far Q) (far n) * ((Real.log 2 : ℝ) : EReal) := by
  unfold dotE
  rw [← ln2, Finset.sum_congr rfl fun d _ => mul_comm _ _]
  pointwise [scores, far]

theorem values_at (v : FVec Ideal S2x2x64x17408 .bf16) (b : Fin 2) (g : Fin 8) (d : Fin 64) (n : Fin 256) : values v (ix4 b g d n) = v (ix4 b (grp g) d (far n)) := by
  pointwise [values, grp, far]

/-- The precondition makes every query and key of the context a real, -/
theorem finite (q : FVec Ideal S2x8x128x17408 .bf16) (k : FVec Ideal S2x1x17408x128 .bf16) (v : FVec Ideal S2x2x64x17408 .bf16)
    (h : Cert.Pre_finite_context_grouped_queries_and_keys.fn q k v = fun _ => 1#1) :
    (∀ b g d Q, ∃ r : ℝ, q (ix4 b g d (far Q)) = (r : EReal)) ∧ ∀ b n d, ∃ r : ℝ, k (ix4 b 0 (far n) d) = (r : EReal) := by
  have e := congrFun h (Shape.Idx.first Cert.Pre_finite_context_grouped_queries_and_keys.Gen.h_S_)
  simp only [Cert.Pre_finite_context_grouped_queries_and_keys.fn, andi] at e
  obtain ⟨e1, e2⟩ := IntOp.andi_eq_one.1 e
  refine ⟨fun b g d Q => ?_, fun b n d => ?_⟩
  · have := Host.reduce_andi_all _ _ _ _ _ e1 (ix4 b g d Q)
    refine real_of_abs (Eq.trans ?_ this)
    symm
    pointwise [far]
    rfl
  · have := Host.reduce_andi_all _ _ _ _ _ e2 (ix3 b n d)
    refine real_of_abs (Eq.trans ?_ this)
    symm
    pointwise [far]
    rfl

/-- and so every score. -/
theorem realScores (q : FVec Ideal S2x8x128x17408 .bf16) (k : FVec Ideal S2x1x17408x128 .bf16) (v : FVec Ideal S2x2x64x17408 .bf16)
    (h : Cert.Pre_finite_context_grouped_queries_and_keys.fn q k v = fun _ => 1#1) : RealScores q k := by
  intro b g x n
  obtain ⟨hq, hk⟩ := finite q k v h
  refine real_sum _ _ fun d => ?_
  obtain ⟨r, hr⟩ := hq b g d x
  obtain ⟨t, ht⟩ := hk b n d
  exact ⟨t * r, by rw [hr, ht, EReal.coe_mul]⟩

/-- The reference's result is the attention of its arguments. -/
theorem reference_eq (q : FVec Ideal S2x8x128x17408 .bf16) (k : FVec Ideal S2x1x17408x128 .bf16) (v : FVec Ideal S2x2x64x17408 .bf16)
    (h : Cert.Pre_finite_context_grouped_queries_and_keys.fn q k v = fun _ => 1#1) :
    mix (values v) (soft (weights (scores q k))) = fun y => attention q k v (y 0) (y 1) (y 2) (y 3) := by
  funext y
  obtain ⟨b, g, d, Q, rfl⟩ : ∃ b g d Q, y = ix4 b g d Q := ⟨y 0, y 1, y 2, y 3, by funext a; fin_cases a <;> rfl⟩
  refine mix_attn _ _ (fun b g Q n => sc q k b g (far Q) (16384 + n)) (fun b g d n => vl v b g d (16384 + n)) (fun b g Q n => ?_) (fun b g d n => ?_) b g d Q
  · rw [scores_at, sc_eq q k (realScores q k v h)]
  · exact (values_at v b g d n).trans (vl_eq v b g d n)

end Cert.ContextGroupedReferenceIdeal.Softmax
end
-- ==== Proof.JointContextIdeal.Result.lean ====
/- The first layer's output projection on the context positions: what one grid point computes, element by element, and what the points write back
   as one function of the arguments. -/
module

public import proofs.«01_k».proof.Proof.Gen.JointContextIdeal.Value
public import Idealize.ShloMosaic.Lib.Pointwise
public import Idealize.ShloMosaic.Lib.Pipeline.ValueKit.Point

@[expose] public section

set_option maxRecDepth 16384
set_option maxHeartbeats 1000000

noncomputable section

namespace Cert.JointContextIdeal.Out

open Cert.JointContextIdeal Cert.JointContextIdeal.Gen
open Idealize.ShloMosaic
open Idealize.ShloMosaic.TcCoe
open Idealize.SL.Sem

/-- A context position among the gates' positions, after the latent ones. -/
def wide (s : Fin 256) : Fin 17408 := ⟨16384 + s.val, by omega⟩
/-- A channel of the first attention, and one of the second, among all. -/
def fst (ch : Fin 512) : Fin 1024 := ⟨ch.val, by omega⟩
def snd (ch : Fin 512) : Fin 1024 := ⟨512 + ch.val, by omega⟩

/-- The point's result at a position and a channel: the residual and the gated product of the output weights with both
    attentions' channels. -/
theorem point_at (oa ob : Vec Ideal S1x512x256 .bf16) (sg : Vec Ideal S1x1024x256 .bf16) (wo : Vec Ideal S1024x1024 .bf16) (r : Vec Ideal S1x256x1024 .f32)
    (gate : Vec Ideal S1x1x1024 .f32) (x : Fin 256) (d : Fin 1024) :
    k0_pay1 oa ob sg wo r gate (ix3 0 x d) = r (ix3 0 x d) + gate (ix3 0 0 d) *
      ((∑ ch : Fin 512, wo (ix2 d (fst ch)) * (oa (ix3 0 ch x) * sg (ix3 0 (fst ch) x)))
        + ∑ ch : Fin 512, wo (ix2 d (snd ch)) * (ob (ix3 0 ch x) * sg (ix3 0 (snd ch) x))) := by
  pointwise [k0_pay1, fst, snd]

/-- The residual stream after the layer: the residual and the gated product of the output weights with both attentions'
    channels, each times its own gate. -/
def output (x : S2x256x1024.Idx → EReal) (oa ob : S2x512x256.Idx → EReal) (sg : S2x1024x17408.Idx → EReal) (gate : S2x1x1024.Idx → EReal)
    (wo : S1024x1024.Idx → EReal) (b : Fin 2) (s : Fin 256) (d : Fin 1024) : EReal :=
  x (ix3 b s d) + gate (ix3 b 0 d) *
    ((∑ ch : Fin 512, wo (ix2 d (fst ch)) * (oa (ix3 b ch s) * sg (ix3 b (fst ch) (wide s))))
      + ∑ ch : Fin 512, wo (ix2 d (snd ch)) * (ob (ix3 b ch s) * sg (ix3 b (snd ch) (wide s))))

variable (m : (ℓ : Loc nD τ sig) → Buf (Elt Ideal) ℓ) (c : Dev nD)

/-- Where each window's block lies at a point: point `t` is batch `t`, all its context positions. -/
theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 64] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0, 0] := (by decide +kernel : ∀ t : Fin grid0.N, _)
/-- The result's blocks cover its array. -/
theorem covers : win0_6.Covers := by decide +kernel

/-- The blocks at an index. -/
theorem x_at (t : Fin cfg0.N) (x : Fin 256) (d : Fin 1024) (b : Fin 2) (s : Fin 256) (hb : b.val = t.val) (hs : s.val = x.val) :
    iblk m c 0 t (ix3 0 x d) = m ((c : Thread nD τ).loc main_arg0) (ix3 b s d) := by
  blk_ext! [iblk, V, idx0 t, hb, hs]

theorem oa_at (t : Fin cfg0.N) (ch : Fin 512) (x : Fin 256) (b : Fin 2) (s : Fin 256) (hb : b.val = t.val) (hs : s.val = x.val) :
    iblk m c 1 t (ix3 0 ch x) = m ((c : Thread nD τ).loc main_arg1) (ix3 b ch s) := by
  blk_ext! [iblk, V, idx1 t, hb, hs]

theorem ob_at (t : Fin cfg0.N) (ch : Fin 512) (x : Fin 256) (b : Fin 2) (s : Fin 256) (hb : b.val = t.val) (hs : s.val = x.val) :
    iblk m c 2 t (ix3 0 ch x) = m ((c : Thread nD τ).loc main_arg2) (ix3 b ch s) := by
  blk_ext! [iblk, V, idx2 t, hb, hs]

theorem sg_at (t : Fin cfg0.N) (ch : Fin 1024) (x : Fin 256) (b : Fin 2) (s : Fin 17408) (hb : b.val = t.val) (hs : s.val = 16384 + x.val) :
    iblk m c 3 t (ix3 0 ch x) = m ((c : Thread nD τ).loc main_arg3) (ix3 b ch s) := by
  blk_ext! [iblk, V, idx3 t, hb, hs]

theorem gate_at (t : Fin cfg0.N) (d : Fin 1024) (b : Fin 2) (hb : b.val = t.val) :
    iblk m c 4 t (ix3 0 0 d) = m ((c : Thread nD τ).loc main_arg4) (ix3 b 0 d) := by
  blk_ext! [iblk, V, idx4 t, hb]

theorem wo_at (t : Fin cfg0.N) (d k : Fin 1024) : iblk m c 5 t (ix2 d k) = m ((c : Thread nD τ).loc main_arg5) (ix2 d k) := by
  blk_ext! [iblk, V, idx5 t]

/-- Every load takes its whole block, and the store its whole buffer. -/
theorem out_eq (x0 : Vec Ideal S1x256x1024 .f32) (x1 x2 : Vec Ideal S1x512x256 .bf16) (x3 : Vec Ideal S1x1024x256 .bf16) (x4 : Vec Ideal S1x1x1024 .f32) (x5 : Vec Ideal S1024x1024 .bf16) :
    out0_6 (F := Ideal) x0 x1 x2 x3 x4 x5 = k0_pay1 x1 x2 x3 x5 x0 x4 := by
  unfold out0_6
  have h0 : ∀ X : Vec Ideal S1x512x256 .bf16, View.ld X r0_0 = X := fun X => View.ld_unit_lit _ X (by decide)
  have h1 : ∀ X : Vec Ideal S1x1024x256 .bf16, View.ld X r0_1 = X := fun X => View.ld_unit_lit _ X (by decide)
  have h2 : ∀ X : Vec Ideal S1024x1024 .bf16, View.ld X r0_2 = X := fun X => View.ld_unit_lit _ X (by decide)
  have h3 : ∀ X : Vec Ideal S1x256x1024 .f32, View.ld X r0_3 = X := fun X => View.ld_unit_lit _ X (by decide)
  have h4 : ∀ X : Vec Ideal S1x1x1024 .f32, View.ld X r0_4 = X := fun X => View.ld_unit_lit _ X (by decide)
  rw [h0, h0, h1, h2, h3, h4]
  exact View.canon_cons_unit_lit _ _ _ (by decide)

/-- The residual stream after the layer, on a device. -/
def result (c : Dev nD) (y : S2x256x1024.Idx) : EReal :=
  output (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (y 0) (y 1) (y 2)

/-- What a point writes back. -/
theorem out_at (t : Fin cfg0.N) (x : Fin 256) (d : Fin 1024) (b : Fin 2) (s : Fin 256) (hb : b.val = t.val) (hs : s.val = x.val) :
    out0_6 (F := Ideal) (iblk m c 0 t) (iblk m c 1 t) (iblk m c 2 t) (iblk m c 3 t) (iblk m c 4 t) (iblk m c 5 t) (ix3 0 x d) = result m c (ix3 b s d) := by
  have hw : (wide s).val = 16384 + x.val := by rw [← hs]; rfl
  rw [out_eq, point_at]
  refine congrArg₂ (· + ·) (x_at m c t x d b s hb hs) (congrArg₂ (· * ·) (gate_at m c t d b hb) (congrArg₂ (· + ·) ?_ ?_))
  · exact Finset.sum_congr rfl fun ch _ => congrArg₂ (· * ·) (wo_at m c t d _) (congrArg₂ (· * ·) (oa_at m c t ch x b s hb hs) (sg_at m c t _ x b _ hb hw))
  · exact Finset.sum_congr rfl fun ch _ => congrArg₂ (· * ·) (wo_at m c t d _) (congrArg₂ (· * ·) (ob_at m c t ch x b s hb hs) (sg_at m c t _ x b _ hb hw))

/-- The array after the run. -/
theorem arr_eq : (dats m 0 c).arrAt 6 cfg0.N = result m c := by
  refine (dats m 0 c).arrAt_eq_of_covers 6 _ covers fun t hf y => ?_
  have ht : t.val < 2 := t.isLt
  blk_simp
  obtain ⟨x, hx⟩ : ∃ x : Fin 256, x.val = (y 1).val := ⟨⟨(y 1).val, (y 1).isLt⟩, rfl⟩
  obtain ⟨d, hd⟩ : ∃ d : Fin 1024, d.val = (y 2).val := ⟨⟨(y 2).val, (y 2).isLt⟩, rfl⟩
  have h0 : (y 0).val = 0 := by have : (y 0).val < 1 := (y 0).isLt; omega
  obtain ⟨b, hb⟩ : ∃ b : Fin 2, b.val = t.val := ⟨⟨t.val, by omega⟩, rfl⟩
  obtain ⟨s, hs⟩ : ∃ s : Fin 256, s.val = x.val := ⟨x, rfl⟩
  have ey : (win0_6.blk t).view.emb y = (ix3 b s d : S2x256x1024.Idx) := by
    blk_ext [idx6 t, hb, hs, hx, hd, h0]
  have ez : y = (ix3 0 x d : S1x256x1024.Idx) := by
    funext a; apply Fin.ext; fin_cases a <;> simp [ix3, hx, hd, h0]
  rw [ey]
  refine (congrArg ((dats m 0 c).after 6 t) ez).trans ?_
  rw [after0_6]
  exact out_at m c t x d b s hb hs

end Cert.JointContextIdeal.Out
end
-- ==== Proof.JointContextIdeal.Reference.lean ====
/- The first layer's output projection's reference on the context positions, read at an index: the same sums as the kernel's. -/
module

public import proofs.«01_k».proof.Proof.Gen.JointContextReferenceIdeal.Run
public import proofs.«01_k».proof.Proof.JointContextIdeal.Result

@[expose] public section

set_option maxRecDepth 16384
set_option maxHeartbeats 1000000

noncomputable section

namespace Cert.JointContextReferenceIdeal.Out

open Cert.JointContextReferenceIdeal Cert.JointContextReferenceIdeal.Gen
open Cert.JointContextIdeal.Out (output wide fst snd)
open Idealize.ShloMosaic
open Idealize.ShloMosaic.TcCoe

/-- The reference's result. -/
def reference (x : FVec Ideal S2x256x1024 .f32) (oa ob : FVec Ideal S2x512x256 .bf16) (sg : FVec Ideal S2x1024x17408 .bf16) (gate : FVec Ideal S2x1x1024 .f32)
    (wo : FVec Ideal S1024x1024 .bf16) : FVec Ideal S2x256x1024 .f32 :=
  addf x (mulf (broadcastInDim S2x256x1024 ![0, 1, 2] bcast_S2x1x1024_S2x256x1024_0_1_2 gate) (Host.dotGeneral dot_S2x1024x256_S1024x1024_S2x256x1024_1_1_02_0_n_n none
    (mulf (concatenate S2x1024x256 1 [⟨S2x512x256, oa⟩, ⟨S2x512x256, ob⟩] concatenates_S2x512x256_S2x512x256_S2x1024x256_d1) (extractStridedSlice S2x1024x256 ![0, 0, 16384] sg slices_S2x1024x17408_S2x1024x256_0_0_16384)) wo))

/-- It is the kernel's. -/
theorem reference_eq (x : FVec Ideal S2x256x1024 .f32) (oa ob : FVec Ideal S2x512x256 .bf16) (sg : FVec Ideal S2x1024x17408 .bf16) (gate : FVec Ideal S2x1x1024 .f32)
    (wo : FVec Ideal S1024x1024 .bf16) : reference x oa ob sg gate wo = fun y => output x oa ob sg gate wo (y 0) (y 1) (y 2) := by
  funext y
  obtain ⟨b, s, d, rfl⟩ : ∃ b s d, y = ix3 b s d := ⟨y 0, y 1, y 2, eq_ix3 y⟩
  show _ = output x oa ob sg gate wo b s d
  unfold output
  simp only [mul_comm (wo _)]
  pointwise [reference, fst, snd, wide]

end Cert.JointContextReferenceIdeal.Out
end
-- ==== Proof.ProjectionIdeal.Payload.lean ====
/- The second layer's input projection: what one grid point writes for the values, the convolution's gate and the
   convolution's input, element by element. -/
module

public import proofs.«01_k».proof.Proof.Gen.ProjectionIdeal.Value
public import Idealize.ShloMosaic.Lib.Pointwise
public import Idealize.ShloMosaic.Lib.Pipeline.ValueKit.Point

@[expose] public section

set_option maxRecDepth 16384
set_option maxHeartbeats 1000000

noncomputable section

namespace Cert.ProjectionIdeal.Out

open Cert.ProjectionIdeal Cert.ProjectionIdeal.Gen
open Idealize.ShloMosaic
open Idealize.ShloMosaic.TcCoe
open Idealize.SL.Sem

/-- A position of a tile's first, second, third and fourth part. -/
def at0 (x : Fin 256) : Fin 1024 := ⟨x.val, by omega⟩
def at1 (x : Fin 256) : Fin 1024 := ⟨256 + x.val, by omega⟩
def at2 (x : Fin 256) : Fin 1024 := ⟨512 + x.val, by omega⟩
def at3 (x : Fin 256) : Fin 1024 := ⟨768 + x.val, by omega⟩

/-- A row over the root of its mean square, scaled and shifted. -/
def normed (r sh sc : Fin 1024 → EReal) (k : Fin 1024) : EReal :=
  r k * Ideal.rsqrt (Ideal.div (∑ j, r j * r j) (Ideal.ofBits FTy.f32 1149239296#32) + Ideal.ofBits FTy.f32 897988541#32) * (1 + sc k) + sh k

/-- A feature of a row after that: the product with the feature's weights. -/
def feature (w : S3328x1024.Idx → EReal) (r sh sc : Fin 1024 → EReal) (f : Fin 3328) : EReal := ∑ k : Fin 1024, w (ix2 f k) * normed r sh sc k

/-! ## The parts, normed -/

theorem norm0 (i : grid0.Coords) (v1 : Vec Ideal S1x256x1024 .f32) (v5 : Vec Ideal S1x1024x1024 .f32) (v8 v10 : Vec Ideal S1x1x1x1024 .f32) (x : Fin 256) (k : Fin 1024) :
    k0_pay7 i v1 v5 v8 v10 (ix2 x k) = normed (fun k => k0_pay4 i v1 v5 (ix2 (at0 x) k)) (fun k => v8 (ix4 0 0 0 k)) (fun k => v10 (ix4 0 0 0 k)) k := by
  have e : ∀ (v7 : FVec Ideal S1024x1024 .f32) (h : k0_pay4 i v1 v5 = v7), k0_pay7 i v1 v5 v8 v10 (ix2 x k)
      = normed (fun k => v7 (ix2 (at0 x) k)) (fun k => v8 (ix4 0 0 0 k)) (fun k => v10 (ix4 0 0 0 k)) k := fun v7 h => by
    unfold k0_pay7
    rw [h]
    pointwise [k0_pay5, k0_pay6, at0, normed]
  exact e _ rfl

theorem norm1 (v7 : FVec Ideal S1024x1024 .f32) (v9 v11 : FVec Ideal S1x1024 .f32) (x : Fin 256) (k : Fin 1024) :
    k0_pay15 v7 v9 v11 (ix2 x k) = normed (fun k => v7 (ix2 (at1 x) k)) (fun k => v9 (ix2 0 k)) (fun k => v11 (ix2 0 k)) k := by
  pointwise [k0_pay15, at1, normed]

theorem norm2 (v7 : FVec Ideal S1024x1024 .f32) (v9 v11 : FVec Ideal S1x1024 .f32) (x : Fin 256) (k : Fin 1024) :
    k0_pay63 v7 v9 v11 (ix2 x k) = normed (fun k => v7 (ix2 (at2 x) k)) (fun k => v9 (ix2 0 k)) (fun k => v11 (ix2 0 k)) k := by
  pointwise [k0_pay63, at2, normed]

theorem norm3 (v7 : FVec Ideal S1024x1024 .f32) (v9 v11 : FVec Ideal S1x1024 .f32) (x : Fin 256) (k : Fin 1024) :
    k0_pay108 v7 v9 v11 (ix2 x k) = normed (fun k => v7 (ix2 (at3 x) k)) (fun k => v9 (ix2 0 k)) (fun k => v11 (ix2 0 k)) k := by
  pointwise [k0_pay108, at3, normed]

theorem shift_at (v : Vec Ideal S1x1x1x1024 .f32) (k : Fin 1024) : k0_pay5 v (ix2 0 k) = v (ix4 0 0 0 k) := by pointwise [k0_pay5]
theorem scale_at (v : Vec Ideal S1x1x1x1024 .f32) (k : Fin 1024) : k0_pay6 v (ix2 0 k) = v (ix4 0 0 0 k) := by pointwise [k0_pay6]

/-! ## The rows: the tile's own, and past the sixteenth tile the context's in every part -/

/-- The choice of a tile by its number. -/
theorem pick (n : Fin 17) (a b : EReal) : Scalar.select (Scalar.cmpi CmpIPredicate.slt (BitVec.ofNat 32 n.val) 16#32) a b = if n.val < 16 then a else b := by
  fin_cases n <;> rfl

theorem rows0 (i : grid0.Coords) (v1 : Vec Ideal S1x256x1024 .f32) (v5 : Vec Ideal S1x1024x1024 .f32) (x : Fin 256) (k : Fin 1024) :
    k0_pay4 i v1 v5 (ix2 (at0 x) k) = if (i 1).val < 16 then v5 (ix3 0 (at0 x) k) else v1 (ix3 0 x k) := by
  pointwise [k0_pay4, at0]
  exact pick (i 1) _ _
theorem rows1 (i : grid0.Coords) (v1 : Vec Ideal S1x256x1024 .f32) (v5 : Vec Ideal S1x1024x1024 .f32) (x : Fin 256) (k : Fin 1024) :
    k0_pay4 i v1 v5 (ix2 (at1 x) k) = if (i 1).val < 16 then v5 (ix3 0 (at1 x) k) else v1 (ix3 0 x k) := by
  pointwise [k0_pay4, at1]
  exact pick (i 1) _ _
theorem rows2 (i : grid0.Coords) (v1 : Vec Ideal S1x256x1024 .f32) (v5 : Vec Ideal S1x1024x1024 .f32) (x : Fin 256) (k : Fin 1024) :
    k0_pay4 i v1 v5 (ix2 (at2 x) k) = if (i 1).val < 16 then v5 (ix3 0 (at2 x) k) else v1 (ix3 0 x k) := by
  pointwise [k0_pay4, at2]
  rw [dif_neg (by omega), dif_neg (by omega), dif_pos (by omega)]
  exact (pick (i 1) _ _).trans (by rw [show (⟨512 + x.val - 256 - 256, by omega⟩ : Fin 256) = x from Fin.ext (by show 512 + x.val - 256 - 256 = x.val; omega)])
theorem rows3 (i : grid0.Coords) (v1 : Vec Ideal S1x256x1024 .f32) (v5 : Vec Ideal S1x1024x1024 .f32) (x : Fin 256) (k : Fin 1024) :
    k0_pay4 i v1 v5 (ix2 (at3 x) k) = if (i 1).val < 16 then v5 (ix3 0 (at3 x) k) else v1 (ix3 0 x k) := by
  pointwise [k0_pay4, at3]
  rw [dif_neg (by omega), dif_neg (by omega), dif_neg (by omega)]
  exact (pick (i 1) _ _).trans (by rw [show (⟨768 + x.val - 256 - 256 - 256, by omega⟩ : Fin 256) = x from Fin.ext (by show 768 + x.val - 256 - 256 - 256 = x.val; omega)])

/-! ## One part's stores -/

theorem mid_at (v29 : FVec Ideal S256x1024 .bf16) (v32 : Vec Ideal S768x1024 .bf16) (f : Fin 768) (x : Fin 256) :
    k0_pay9 v29 v32 (ix2 f x) = ∑ k : Fin 1024, v32 (ix2 f k) * v29 (ix2 x k) := by
  pointwise [k0_pay9]
theorem conv_at (v29 : FVec Ideal S256x1024 .bf16) (v34 : Vec Ideal S1024x1024 .bf16) (f : Fin 1024) (x : Fin 256) :
    k0_pay10 v29 v34 (ix2 f x) = ∑ k : Fin 1024, v34 (ix2 f k) * v29 (ix2 x k) := by
  pointwise [k0_pay10]

theorem v0_of (p : FVec Ideal S768x256 .f32) (d : Fin 64) (x : Fin 256) : k0_pay46 p (ix4 0 0 d x) = p (ix2 ⟨128 + d.val, by omega⟩ x) := by
  pointwise [k0_pay46]
theorem v1_of (p : FVec Ideal S768x256 .f32) (d : Fin 64) (x : Fin 256) : k0_pay95 p (ix4 0 0 d x) = p (ix2 ⟨192 + d.val, by omega⟩ x) := by
  pointwise [k0_pay95]
theorem gb_of (p : FVec Ideal S768x256 .f32) (ch : Fin 512) (x : Fin 256) : k0_pay51 p (ix3 0 ch x) = p (ix2 ⟨256 + ch.val, by omega⟩ x) := by
  pointwise [k0_pay51]
theorem u_of (p : FVec Ideal S1024x256 .f32) (ch : Fin 512) (x : Fin 256) :
    k0_pay53 p (ix3 0 ch x) = p (ix2 ⟨ch.val, by omega⟩ x) * p (ix2 ⟨512 + ch.val, by omega⟩ x) := by
  pointwise [k0_pay53]

/-- The weights' rows that a load takes. -/
theorem ldm_at (w : Vec Ideal S3328x1024 .bf16) (f : Fin 768) (k : Fin 1024) : View.ld w r0_5 (ix2 f k) = w (ix2 ⟨512 + f.val, by omega⟩ k) :=
  View.ld_unit_apply_of _ _ _ _ _ _ fun a => by fin_cases a <;> simp [ix2]
theorem ldc_at (w : Vec Ideal S3328x1024 .bf16) (f : Fin 1024) (k : Fin 1024) : View.ld w r0_6 (ix2 f k) = w (ix2 ⟨1280 + f.val, by omega⟩ k) :=
  View.ld_unit_apply_of _ _ _ _ _ _ fun a => by fin_cases a <;> simp [ix2]

section Part

variable (N : FVec Ideal S256x1024 .bf16) (w : Vec Ideal S3328x1024 .bf16) (r : Fin 256 → Fin 1024 → EReal) (sh sc : Fin 1024 → EReal)
  (hN : ∀ x k, N (ix2 x k) = normed (r x) sh sc k)
include hN

theorem mid_eq (f : Fin 768) (x : Fin 256) : k0_pay9 N (View.ld w r0_5) (ix2 f x) = feature w (r x) sh sc ⟨512 + f.val, by omega⟩ :=
  (mid_at _ _ _ _).trans (Finset.sum_congr rfl fun k _ => congrArg₂ (· * ·) (ldm_at w f k) (hN x k))
theorem conv_eq (f : Fin 1024) (x : Fin 256) : k0_pay10 N (View.ld w r0_6) (ix2 f x) = feature w (r x) sh sc ⟨1280 + f.val, by omega⟩ :=
  (conv_at _ _ _ _).trans (Finset.sum_congr rfl fun k _ => congrArg₂ (· * ·) (ldc_at w f k) (hN x k))

/-- The values of the two groups, -/
theorem v0_eq (d : Fin 64) (x : Fin 256) : k0_pay46 (k0_pay9 N (View.ld w r0_5)) (ix4 0 0 d x) = feature w (r x) sh sc ⟨640 + d.val, by omega⟩ :=
  (v0_of _ d x).trans ((mid_eq N w r sh sc hN _ x).trans (congrArg _ (Fin.ext (by show 512 + (128 + d.val) = 640 + d.val; omega))))
theorem v1_eq (d : Fin 64) (x : Fin 256) : k0_pay95 (k0_pay9 N (View.ld w r0_5)) (ix4 0 0 d x) = feature w (r x) sh sc ⟨704 + d.val, by omega⟩ :=
  (v1_of _ d x).trans ((mid_eq N w r sh sc hN _ x).trans (congrArg _ (Fin.ext (by show 512 + (192 + d.val) = 704 + d.val; omega))))
/-- the convolution's gate, -/
theorem gb_eq (ch : Fin 512) (x : Fin 256) : k0_pay51 (k0_pay9 N (View.ld w r0_5)) (ix3 0 ch x) = feature w (r x) sh sc ⟨768 + ch.val, by omega⟩ :=
  (gb_of _ ch x).trans ((mid_eq N w r sh sc hN _ x).trans (congrArg _ (Fin.ext (by show 512 + (256 + ch.val) = 768 + ch.val; omega))))
/-- and its input, the product of two features. -/
theorem u_eq (ch : Fin 512) (x : Fin 256) : k0_pay53 (k0_pay10 N (View.ld w r0_6)) (ix3 0 ch x)
    = feature w (r x) sh sc ⟨1280 + ch.val, by omega⟩ * feature w (r x) sh sc ⟨1792 + ch.val, by omega⟩ :=
  (u_of _ ch x).trans (congrArg₂ (· * ·) (conv_eq N w r sh sc hN _ x)
    ((conv_eq N w r sh sc hN _ x).trans (congrArg _ (Fin.ext (by show 1280 + (512 + ch.val) = 1792 + ch.val; omega)))))

end Part

end Cert.ProjectionIdeal.Out
end
-- ==== Proof.ProjectionIdeal.Body.lean ====
/- The second layer's input projection: the three buffers one grid point leaves, as functions of its blocks. -/
module

public import proofs.«01_k».proof.Proof.ProjectionIdeal.Payload

@[expose] public section

set_option maxRecDepth 16384
set_option maxHeartbeats 1000000

noncomputable section

namespace Cert.ProjectionIdeal.Out

open Cert.ProjectionIdeal Cert.ProjectionIdeal.Gen
open Idealize.ShloMosaic
open Idealize.ShloMosaic.TcCoe
open Idealize.SL.Sem

theorem norm_congr {r r' sh sh' sc sc' : Fin 1024 → EReal} (hr : ∀ k, r k = r' k) (hs : ∀ k, sh k = sh' k) (hc : ∀ k, sc k = sc' k) (k : Fin 1024) :
    normed r sh sc k = normed r' sh' sc' k := by
  rw [funext hr, funext hs, funext hc]

section Point

variable (i : grid0.Coords) (x0 : Vec Ideal S1x1024x1024 .f32) (x1 : Vec Ideal S1x256x1024 .f32) (x2 : Vec Ideal S1x1x2x1024 .f32) (x3 : Vec Ideal S3328x1024 .bf16)
  (x4 x5 : Vec Ideal S64x256 .f32) (x6 x7 : Vec Ideal S64x1024 .f32)

/-- A row of the tile: its own, and past the sixteenth tile the context's, four times over. -/
def row (s k : Fin 1024) : EReal := if (i 1).val < 16 then x0 (ix3 0 s k) else x1 (ix3 0 ⟨s.val % 256, Nat.mod_lt _ (by decide)⟩ k)
/-- The shift and the scale. -/
def shift (k : Fin 1024) : EReal := x2 (ix4 0 0 0 k)
def scale (k : Fin 1024) : EReal := x2 (ix4 0 0 1 k)

theorem ld_rows : View.ld x0 r0_1 = x0 := View.ld_unit_lit _ x0 (by decide)
theorem ld_ctx : View.ld x1 r0_0 = x1 := View.ld_unit_lit _ x1 (by decide)
theorem ld_shift (k : Fin 1024) : View.ld x2 r0_2 (ix4 0 0 0 k) = shift x2 k :=
  View.ld_unit_apply_of _ _ _ _ _ _ fun a => by fin_cases a <;> simp [ix4]
theorem ld_scale (k : Fin 1024) : View.ld x2 r0_3 (ix4 0 0 0 k) = scale x2 k :=
  View.ld_unit_apply_of _ _ _ _ _ _ fun a => by fin_cases a <;> simp [ix4]

/-- A part's row is the tile's row at its position. -/
theorem row_of (s : Fin 1024) (x : Fin 256) (h : s.val % 256 = x.val) (k : Fin 1024) :
    (if (i 1).val < 16 then View.ld x0 r0_1 (ix3 0 s k) else View.ld x1 r0_0 (ix3 0 x k)) = row i x0 x1 s k := by
  unfold row
  rw [ld_rows, ld_ctx, show (⟨s.val % 256, Nat.mod_lt _ (by decide)⟩ : Fin 256) = x from Fin.ext h]

theorem part0 (x : Fin 256) (k : Fin 1024) : k0_pay199 i x0 x1 x2 x3 x4 x5 x6 x7 (ix2 x k) = normed (row i x0 x1 (at0 x)) (shift x2) (scale x2) k := by
  unfold k0_pay199
  exact (norm0 _ _ _ _ _ x k).trans (norm_congr (fun k => (rows0 _ _ _ x k).trans (row_of i x0 x1 _ _ (by show x.val % 256 = _; omega) k))
    (fun k => ld_shift x2 k) (fun k => ld_scale x2 k) k)
theorem part1 (x : Fin 256) (k : Fin 1024) : k0_pay202 i x0 x1 x2 x3 x4 x5 x6 x7 (ix2 x k) = normed (row i x0 x1 (at1 x)) (shift x2) (scale x2) k := by
  unfold k0_pay202
  exact (norm1 _ _ _ x k).trans (norm_congr (fun k => (rows1 _ _ _ x k).trans (row_of i x0 x1 _ _ (by show (256 + x.val) % 256 = _; omega) k))
    (fun k => (shift_at _ k).trans (ld_shift x2 k)) (fun k => (scale_at _ k).trans (ld_scale x2 k)) k)
theorem part2 (x : Fin 256) (k : Fin 1024) : k0_pay206 i x0 x1 x2 x3 x4 x5 x6 x7 (ix2 x k) = normed (row i x0 x1 (at2 x)) (shift x2) (scale x2) k := by
  unfold k0_pay206
  exact (norm2 _ _ _ x k).trans (norm_congr (fun k => (rows2 _ _ _ x k).trans (row_of i x0 x1 _ _ (by show (512 + x.val) % 256 = _; omega) k))
    (fun k => (shift_at _ k).trans (ld_shift x2 k)) (fun k => (scale_at _ k).trans (ld_scale x2 k)) k)
theorem part3 (x : Fin 256) (k : Fin 1024) : k0_pay211 i x0 x1 x2 x3 x4 x5 x6 x7 (ix2 x k) = normed (row i x0 x1 (at3 x)) (shift x2) (scale x2) k := by
  unfold k0_pay211
  exact (norm3 _ _ _ x k).trans (norm_congr (fun k => (rows3 _ _ _ x k).trans (row_of i x0 x1 _ _ (by show (768 + x.val) % 256 = _; omega) k))
    (fun k => (shift_at _ k).trans (ld_shift x2 k)) (fun k => (scale_at _ k).trans (ld_scale x2 k)) k)

/-- A feature of the tile's row. -/
def feat (s : Fin 1024) (f : Fin 3328) : EReal := feature x3 (row i x0 x1 s) (shift x2) (scale x2) f

/-- A payload that is right at each index of its piece, at an index of the buffer: the values' pieces, -/
theorem tileV {y : S1x2x64x1024.Idx} (g : Fin 2) (o : ℕ) (s : Fin 256 → Fin 1024) (hs : ∀ x, (s x).val = o + x.val) (w : S1x1x64x256.Idx → Elt Ideal .bf16)
    (E : S1x2x64x1024.Idx → Elt Ideal .bf16) (h : ∀ d x, w (ix4 0 0 d x) = E (ix4 0 g d (s x))) :
    View.TileAt (Val := Elt Ideal) (S := S1x2x64x1024) (e := .bf16) y ![0, g.val, 0, o] S1x1x64x256.size w (E y) := by
  intro x hx
  have h0 : (x 0).val = 0 := by have : (x 0).val < 1 := (x 0).isLt; omega
  have h1 : (x 1).val = 0 := by have : (x 1).val < 1 := (x 1).isLt; omega
  have h3 : (s (x 3)).val = o + (x 3).val := hs (x 3)
  have ex : x = ix4 0 0 (x 2) (x 3) := by
    funext a; apply Fin.ext; fin_cases a <;> simp [ix4, h0, h1]
  have ey : y = ix4 0 g (x 2) (s (x 3)) := by
    funext a
    apply Fin.ext
    rw [hx a]
    fin_cases a <;> simp [ix4, h0, h1, h3]
  rw [ey]
  exact (congrArg w ex).trans (h _ _)

/-- and the convolution's. -/
theorem tileC {y : S1x512x1024.Idx} (o : ℕ) (s : Fin 256 → Fin 1024) (hs : ∀ x, (s x).val = o + x.val) (w : S1x512x256.Idx → Elt Ideal .bf16)
    (E : S1x512x1024.Idx → Elt Ideal .bf16) (h : ∀ d x, w (ix3 0 d x) = E (ix3 0 d (s x))) :
    View.TileAt (Val := Elt Ideal) (S := S1x512x1024) (e := .bf16) y ![0, 0, o] S1x512x256.size w (E y) := by
  intro x hx
  have h0 : (x 0).val = 0 := by have : (x 0).val < 1 := (x 0).isLt; omega
  have h3 : (s (x 2)).val = o + (x 2).val := hs (x 2)
  have ex : x = ix3 0 (x 1) (x 2) := by
    funext a; apply Fin.ext; fin_cases a <;> simp [ix3, h0]
  have ey : y = ix3 0 (x 1) (s (x 2)) := by
    funext a
    apply Fin.ext
    rw [hx a]
    fin_cases a <;> simp [ix3, h0, h3]
  rw [ey]
  exact (congrArg w ex).trans (h _ _)

theorem at0_val (x : Fin 256) : (at0 x).val = 0 + x.val := (Nat.zero_add _).symm

/-- What the buffers hold: the values, group by group, -/
def bufV (y : S1x2x64x1024.Idx) : Elt Ideal .bf16 :=
  feat i x0 x1 x2 x3 (y 3) ⟨640 + 64 * (y 1).val + (y 2).val, by have : (y 1).val < 2 := (y 1).isLt; have : (y 2).val < 64 := (y 2).isLt; omega⟩
/-- the convolution's gate, -/
def bufG (y : S1x512x1024.Idx) : Elt Ideal .bf16 := feat i x0 x1 x2 x3 (y 2) ⟨768 + (y 1).val, by have : (y 1).val < 512 := (y 1).isLt; omega⟩
/-- and its input. -/
def bufU (y : S1x512x1024.Idx) : Elt Ideal .bf16 :=
  (feat i x0 x1 x2 x3 (y 2) ⟨1280 + (y 1).val, by have : (y 1).val < 512 := (y 1).isLt; omega⟩
    * feat i x0 x1 x2 x3 (y 2) ⟨1792 + (y 1).val, by have : (y 1).val < 512 := (y 1).isLt; omega⟩ : EReal)

/-- The buffer of the values. -/
theorem out_v : out0_10 (F := Ideal) i x0 x1 x2 x3 x4 x5 x6 x7 = bufV i x0 x1 x2 x3 := by
  funext y
  unfold out0_10
  refine View.canon_eq_of_allAt _ y _ (cover0_10 _ _ _ _ _ _ _ _ y) ?_
  refine View.allAt_cons_unit _ _ _ _ _ (tileV 1 768 at3 (fun _ => rfl) _ (bufV i x0 x1 x2 x3) fun d x => v1_eq _ x3 _ _ _ (part3 i x0 x1 x2 x3 x4 x5 x6 x7) d x) ?_
  refine View.allAt_cons_unit _ _ _ _ _ (tileV 0 768 at3 (fun _ => rfl) _ (bufV i x0 x1 x2 x3) fun d x => v0_eq _ x3 _ _ _ (part3 i x0 x1 x2 x3 x4 x5 x6 x7) d x) ?_
  refine View.allAt_cons_unit _ _ _ _ _ (tileV 1 512 at2 (fun _ => rfl) _ (bufV i x0 x1 x2 x3) fun d x => v1_eq _ x3 _ _ _ (part2 i x0 x1 x2 x3 x4 x5 x6 x7) d x) ?_
  refine View.allAt_cons_unit _ _ _ _ _ (tileV 0 512 at2 (fun _ => rfl) _ (bufV i x0 x1 x2 x3) fun d x => v0_eq _ x3 _ _ _ (part2 i x0 x1 x2 x3 x4 x5 x6 x7) d x) ?_
  refine View.allAt_cons_unit _ _ _ _ _ (tileV 1 256 at1 (fun _ => rfl) _ (bufV i x0 x1 x2 x3) fun d x => v1_eq _ x3 _ _ _ (part1 i x0 x1 x2 x3 x4 x5 x6 x7) d x) ?_
  refine View.allAt_cons_unit _ _ _ _ _ (tileV 0 256 at1 (fun _ => rfl) _ (bufV i x0 x1 x2 x3) fun d x => v0_eq _ x3 _ _ _ (part1 i x0 x1 x2 x3 x4 x5 x6 x7) d x) ?_
  refine View.allAt_cons_unit _ _ _ _ _ (tileV 1 0 at0 at0_val _ (bufV i x0 x1 x2 x3) fun d x => v1_eq _ x3 _ _ _ (part0 i x0 x1 x2 x3 x4 x5 x6 x7) d x) ?_
  exact View.allAt_cons_unit _ _ _ _ _ (tileV 0 0 at0 at0_val _ (bufV i x0 x1 x2 x3) fun d x => v0_eq _ x3 _ _ _ (part0 i x0 x1 x2 x3 x4 x5 x6 x7) d x) (View.allAt_nil _ _)

/-- The buffer of the convolution's gate. -/
theorem out_gb : out0_11 (F := Ideal) i x0 x1 x2 x3 x4 x5 x6 x7 = bufG i x0 x1 x2 x3 := by
  funext y
  unfold out0_11
  refine View.canon_eq_of_allAt _ y _ (cover0_11 _ _ _ _ y) ?_
  refine View.allAt_cons_unit _ _ _ _ _ (tileC 768 at3 (fun _ => rfl) _ (bufG i x0 x1 x2 x3) fun d x => gb_eq _ x3 _ _ _ (part3 i x0 x1 x2 x3 x4 x5 x6 x7) d x) ?_
  refine View.allAt_cons_unit _ _ _ _ _ (tileC 512 at2 (fun _ => rfl) _ (bufG i x0 x1 x2 x3) fun d x => gb_eq _ x3 _ _ _ (part2 i x0 x1 x2 x3 x4 x5 x6 x7) d x) ?_
  refine View.allAt_cons_unit _ _ _ _ _ (tileC 256 at1 (fun _ => rfl) _ (bufG i x0 x1 x2 x3) fun d x => gb_eq _ x3 _ _ _ (part1 i x0 x1 x2 x3 x4 x5 x6 x7) d x) ?_
  exact View.allAt_cons_unit _ _ _ _ _ (tileC 0 at0 at0_val _ (bufG i x0 x1 x2 x3) fun d x => gb_eq _ x3 _ _ _ (part0 i x0 x1 x2 x3 x4 x5 x6 x7) d x) (View.allAt_nil _ _)

/-- The buffer of the convolution's input. -/
theorem out_u : out0_12 (F := Ideal) i x0 x1 x2 x3 x4 x5 x6 x7 = bufU i x0 x1 x2 x3 := by
  funext y
  unfold out0_12
  refine View.canon_eq_of_allAt _ y _ (cover0_12 _ _ _ _ y) ?_
  refine View.allAt_cons_unit _ _ _ _ _ (tileC 768 at3 (fun _ => rfl) _ (bufU i x0 x1 x2 x3) fun d x => u_eq _ x3 _ _ _ (part3 i x0 x1 x2 x3 x4 x5 x6 x7) d x) ?_
  refine View.allAt_cons_unit _ _ _ _ _ (tileC 512 at2 (fun _ => rfl) _ (bufU i x0 x1 x2 x3) fun d x => u_eq _ x3 _ _ _ (part2 i x0 x1 x2 x3 x4 x5 x6 x7) d x) ?_
  refine View.allAt_cons_unit _ _ _ _ _ (tileC 256 at1 (fun _ => rfl) _ (bufU i x0 x1 x2 x3) fun d x => u_eq _ x3 _ _ _ (part1 i x0 x1 x2 x3 x4 x5 x6 x7) d x) ?_
  exact View.allAt_cons_unit _ _ _ _ _ (tileC 0 at0 at0_val _ (bufU i x0 x1 x2 x3) fun d x => u_eq _ x3 _ _ _ (part0 i x0 x1 x2 x3 x4 x5 x6 x7) d x) (View.allAt_nil _ _)

end Point

end Cert.ProjectionIdeal.Out
end
-- ==== Proof.ProjectionIdeal.Result.lean ====
/- The second layer's input projection: what the points write back as functions of the arguments. -/
module

public import proofs.«01_k».proof.Proof.ProjectionIdeal.Body

@[expose] public section

set_option maxRecDepth 16384
set_option maxHeartbeats 1000000

noncomputable section

namespace Cert.ProjectionIdeal.Out

open Cert.ProjectionIdeal Cert.ProjectionIdeal.Gen
open Idealize.ShloMosaic
open Idealize.ShloMosaic.TcCoe
open Idealize.SL.Sem

/-- The modulation a position takes: the latent rows' or the context rows'. -/
def kind (n : Fin 17408) : Fin 2 := if n.val < 16384 then 0 else 1
/-- The row of a position: the latent rows, then the context's rows, four times over. -/
def rowAt (x : S2x16384x1024.Idx → EReal) (ctx : S2x256x1024.Idx → EReal) (b : Fin 2) (n : Fin 17408) (k : Fin 1024) : EReal :=
  if h : n.val < 16384 then x (ix3 b ⟨n.val, h⟩ k) else ctx (ix3 b ⟨n.val % 256, Nat.mod_lt _ (by decide)⟩ k)
/-- A feature of a position: the product of its weights with the position's row, normed, scaled and shifted. -/
def projected (x : S2x16384x1024.Idx → EReal) (ctx : S2x256x1024.Idx → EReal) (mods : S2x2x2x1024.Idx → EReal) (w : S3328x1024.Idx → EReal)
    (b : Fin 2) (f : Fin 3328) (n : Fin 17408) : EReal :=
  feature w (rowAt x ctx b n) (fun k => mods (ix4 b (kind n) 0 k)) (fun k => mods (ix4 b (kind n) 1 k)) f

/-- The feature of a value, of a channel of the convolution's gate, and the two of a channel of its input. -/
def fv (g : Fin 2) (d : Fin 64) : Fin 3328 := ⟨640 + 64 * g.val + d.val, by omega⟩
def fg (ch : Fin 512) : Fin 3328 := ⟨768 + ch.val, by omega⟩
def fb (ch : Fin 512) : Fin 3328 := ⟨1280 + ch.val, by omega⟩
def fx (ch : Fin 512) : Fin 3328 := ⟨1792 + ch.val, by omega⟩

variable (m : (ℓ : Loc nD τ sig) → Buf (Elt Ideal) ℓ) (c : Dev nD)

/-- Where each window's block lies at a point: point `t` is batch `t / 17` and tile `t % 17`, and the tile past the latent
    rows is the context's. -/
theorem coord : ∀ t : Fin cfg0.N, (grid0.coords t 1).val = t.val % 17 := (by decide +kernel : ∀ t : Fin grid0.N, _)
theorem idx0 : ∀ t : Fin cfg0.N, t.val % 17 < 16 → win0_0.index t = ![t.val / 17, t.val % 17, 0] := (by decide +kernel : ∀ t : Fin grid0.N, _)
theorem idx1 : ∀ t : Fin cfg0.N, win0_1.index t = ![t.val / 17, 0, 0] := (by decide +kernel : ∀ t : Fin grid0.N, _)
theorem idx2 : ∀ t : Fin cfg0.N, win0_2.index t = ![t.val / 17, t.val % 17 / 16, 0, 0] := (by decide +kernel : ∀ t : Fin grid0.N, _)
theorem idx3 : ∀ t : Fin cfg0.N, win0_3.index t = ![0, 0] := (by decide +kernel : ∀ t : Fin grid0.N, _)
theorem idx10 : ∀ t : Fin cfg0.N, win0_10.index t = ![t.val / 17, 0, 0, t.val % 17] := (by decide +kernel : ∀ t : Fin grid0.N, _)
theorem idx11 : ∀ t : Fin cfg0.N, win0_11.index t = ![t.val / 17, 0, t.val % 17] := (by decide +kernel : ∀ t : Fin grid0.N, _)
theorem idx12 : ∀ t : Fin cfg0.N, win0_12.index t = ![t.val / 17, 0, t.val % 17] := (by decide +kernel : ∀ t : Fin grid0.N, _)
/-- The results' blocks cover their arrays. -/
theorem covers10 : win0_10.Covers := by decide +kernel
theorem covers11 : win0_11.Covers := by decide +kernel
theorem covers12 : win0_12.Covers := by decide +kernel

/-- The blocks at an index. -/
theorem x_at (t : Fin cfg0.N) (ht : t.val % 17 < 16) (s k : Fin 1024) (b : Fin 2) (n : Fin 16384) (hb : b.val = t.val / 17) (hn : n.val = t.val % 17 * 1024 + s.val) :
    iblk m c 0 t (ix3 0 s k) = m ((c : Thread nD τ).loc main_arg0) (ix3 b n k) := by
  blk_ext! [iblk, V, idx0 t ht, hb, hn]

theorem ctx_at (t : Fin cfg0.N) (s : Fin 256) (k : Fin 1024) (b : Fin 2) (hb : b.val = t.val / 17) :
    iblk m c 1 t (ix3 0 s k) = m ((c : Thread nD τ).loc main_arg1) (ix3 b s k) := by
  blk_ext! [iblk, V, idx1 t, hb]

theorem mods_at (t : Fin cfg0.N) (j : Fin 2) (k : Fin 1024) (b p : Fin 2) (hb : b.val = t.val / 17) (hp : p.val = t.val % 17 / 16) :
    iblk m c 2 t (ix4 0 0 j k) = m ((c : Thread nD τ).loc main_arg2) (ix4 b p j k) := by
  blk_ext! [iblk, V, idx2 t, hb, hp]

theorem w_at (t : Fin cfg0.N) (f : Fin 3328) (k : Fin 1024) : iblk m c 3 t (ix2 f k) = m ((c : Thread nD τ).loc main_arg3) (ix2 f k) := by
  blk_ext! [iblk, V, idx3 t]

/-- A feature on a device. -/
def value (c : Dev nD) (b : Fin 2) (f : Fin 3328) (n : Fin 17408) : EReal :=
  projected (m ((c : Thread nD τ).loc main_arg0)) (m ((c : Thread nD τ).loc main_arg1)) (m ((c : Thread nD τ).loc main_arg2)) (m ((c : Thread nD τ).loc main_arg3)) b f n

/-- A point's feature is the position's. -/
theorem feat_at (t : Fin cfg0.N) (s : Fin 1024) (f : Fin 3328) (b : Fin 2) (n : Fin 17408) (hb : b.val = t.val / 17) (hn : n.val = t.val % 17 * 1024 + s.val) :
    feat (grid0.coords t) (iblk m c 0 t) (iblk m c 1 t) (iblk m c 2 t) (iblk m c 3 t) s f = value m c b f n := by
  have hp : (kind n).val = t.val % 17 / 16 := by
    unfold kind
    by_cases h : n.val < 16384
    · rw [if_pos h]; show 0 = _; omega
    · rw [if_neg h]; show 1 = _; omega
  have hr : ∀ k, row (grid0.coords t) (iblk m c 0 t) (iblk m c 1 t) s k = rowAt (m ((c : Thread nD τ).loc main_arg0)) (m ((c : Thread nD τ).loc main_arg1)) b n k := by
    intro k
    unfold row rowAt
    rw [coord t]
    by_cases h : t.val % 17 < 16
    · rw [if_pos h, dif_pos (by omega)]
      exact x_at m c t h s k b _ hb hn
    · rw [if_neg h, dif_neg (by omega)]
      refine (ctx_at m c t _ k b hb).trans ?_
      rw [show (⟨s.val % 256, Nat.mod_lt _ (by decide)⟩ : Fin 256) = ⟨n.val % 256, Nat.mod_lt _ (by decide)⟩ from Fin.ext (by show s.val % 256 = n.val % 256; omega)]
  unfold feat value projected feature
  exact Finset.sum_congr rfl fun k _ => congrArg₂ (fun a b : EReal => a * b) (w_at m c t f k)
    (norm_congr hr (fun k => mods_at m c t 0 k b _ hb hp) (fun k => mods_at m c t 1 k b _ hb hp) k)

/-- The results on a device: the values, -/
def resV (c : Dev nD) (y : S2x2x64x17408.Idx) : Elt Ideal .bf16 := value m c (y 0) (fv (y 1) (y 2)) (y 3)
/-- the convolution's gate, -/
def resG (c : Dev nD) (y : S2x512x17408.Idx) : Elt Ideal .bf16 := value m c (y 0) (fg (y 1)) (y 2)
/-- and its input. -/
def resU (c : Dev nD) (y : S2x512x17408.Idx) : Elt Ideal .bf16 := (value m c (y 0) (fb (y 1)) (y 2) * value m c (y 0) (fx (y 1)) (y 2) : EReal)

/-- The arrays after the run. -/
theorem arr_v : (dats m 0 c).arrAt 10 cfg0.N = resV m c := by
  refine (dats m 0 c).arrAt_eq_of_covers 10 _ covers10 fun t hf y => ?_
  have ht : t.val < 34 := t.isLt
  blk_simp
  obtain ⟨g, hg⟩ : ∃ g : Fin 2, g.val = (y 1).val := ⟨⟨(y 1).val, (y 1).isLt⟩, rfl⟩
  obtain ⟨d, hd⟩ : ∃ d : Fin 64, d.val = (y 2).val := ⟨⟨(y 2).val, (y 2).isLt⟩, rfl⟩
  obtain ⟨s, hs⟩ : ∃ s : Fin 1024, s.val = (y 3).val := ⟨⟨(y 3).val, (y 3).isLt⟩, rfl⟩
  have h0 : (y 0).val = 0 := by have : (y 0).val < 1 := (y 0).isLt; omega
  obtain ⟨b, hb⟩ : ∃ b : Fin 2, b.val = t.val / 17 := ⟨⟨t.val / 17, by omega⟩, rfl⟩
  obtain ⟨n, hn⟩ : ∃ n : Fin 17408, n.val = t.val % 17 * 1024 + s.val := ⟨⟨t.val % 17 * 1024 + s.val, by omega⟩, rfl⟩
  have ey : (win0_10.blk t).view.emb y = (ix4 b g d n : S2x2x64x17408.Idx) := by
    blk_ext [idx10 t, hb, hg, hd, hn, hs, h0]
  have ez : y = (ix4 0 g d s : S1x2x64x1024.Idx) := by
    funext a; apply Fin.ext; fin_cases a <;> simp [ix4, hg, hd, hs, h0]
  rw [ey]
  refine (congrArg ((dats m 0 c).after 10 t) ez).trans ?_
  rw [after0_10, out_v]
  exact feat_at m c t s (fv g d) b n hb hn

theorem arr_gb : (dats m 0 c).arrAt 11 cfg0.N = resG m c := by
  refine (dats m 0 c).arrAt_eq_of_covers 11 _ covers11 fun t hf y => ?_
  have ht : t.val < 34 := t.isLt
  blk_simp
  obtain ⟨d, hd⟩ : ∃ d : Fin 512, d.val = (y 1).val := ⟨⟨(y 1).val, (y 1).isLt⟩, rfl⟩
  obtain ⟨s, hs⟩ : ∃ s : Fin 1024, s.val = (y 2).val := ⟨⟨(y 2).val, (y 2).isLt⟩, rfl⟩
  have h0 : (y 0).val = 0 := by have : (y 0).val < 1 := (y 0).isLt; omega
  obtain ⟨b, hb⟩ : ∃ b : Fin 2, b.val = t.val / 17 := ⟨⟨t.val / 17, by omega⟩, rfl⟩
  obtain ⟨n, hn⟩ : ∃ n : Fin 17408, n.val = t.val % 17 * 1024 + s.val := ⟨⟨t.val % 17 * 1024 + s.val, by omega⟩, rfl⟩
  have ey : (win0_11.blk t).view.emb y = (ix3 b d n : S2x512x17408.Idx) := by
    blk_ext [idx11 t, hb, hd, hn, hs, h0]
  have ez : y = (ix3 0 d s : S1x512x1024.Idx) := by
    funext a; apply Fin.ext; fin_cases a <;> simp [ix3, hd, hs, h0]
  rw [ey]
  refine (congrArg ((dats m 0 c).after 11 t) ez).trans ?_
  rw [after0_11, out_gb]
  exact feat_at m c t s (fg d) b n hb hn

theorem arr_u : (dats m 0 c).arrAt 12 cfg0.N = resU m c := by
  refine (dats m 0 c).arrAt_eq_of_covers 12 _ covers12 fun t hf y => ?_
  have ht : t.val < 34 := t.isLt
  blk_simp
  obtain ⟨d, hd⟩ : ∃ d : Fin 512, d.val = (y 1).val := ⟨⟨(y 1).val, (y 1).isLt⟩, rfl⟩
  obtain ⟨s, hs⟩ : ∃ s : Fin 1024, s.val = (y 2).val := ⟨⟨(y 2).val, (y 2).isLt⟩, rfl⟩
  have h0 : (y 0).val = 0 := by have : (y 0).val < 1 := (y 0).isLt; omega
  obtain ⟨b, hb⟩ : ∃ b : Fin 2, b.val = t.val / 17 := ⟨⟨t.val / 17, by omega⟩, rfl⟩
  obtain ⟨n, hn⟩ : ∃ n : Fin 17408, n.val = t.val % 17 * 1024 + s.val := ⟨⟨t.val % 17 * 1024 + s.val, by omega⟩, rfl⟩
  have ey : (win0_12.blk t).view.emb y = (ix3 b d n : S2x512x17408.Idx) := by
    blk_ext [idx12 t, hb, hd, hn, hs, h0]
  have ez : y = (ix3 0 d s : S1x512x1024.Idx) := by
    funext a; apply Fin.ext; fin_cases a <;> simp [ix3, hd, hs, h0]
  rw [ey]
  refine (congrArg ((dats m 0 c).after 12 t) ez).trans ?_
  rw [after0_12, out_u]
  exact congrArg₂ (fun a b : EReal => a * b) (feat_at m c t s (fb d) b n hb hn) (feat_at m c t s (fx d) b n hb hn)

end Cert.ProjectionIdeal.Out
end
-- ==== Proof.ProjectionIdeal.Reference.lean ====
/- The second layer's input projection's reference, read at an index: the same sums as the kernel's. -/
module

public import proofs.«01_k».proof.Proof.Gen.ProjectionReferenceIdeal.Run
public import proofs.«01_k».proof.Proof.ProjectionIdeal.Result

@[expose] public section

set_option maxRecDepth 16384
set_option maxHeartbeats 1000000

noncomputable section

namespace Cert.ProjectionReferenceIdeal.Out

open Cert.ProjectionReferenceIdeal Cert.ProjectionReferenceIdeal.Gen
open Cert.ProjectionIdeal.Out (normed feature kind rowAt projected fv fg fb fx norm_congr)
open Idealize.ShloMosaic
open Idealize.ShloMosaic.TcCoe

/-- The latent rows, normed, scaled and shifted; -/
def latent (x : FVec Ideal S2x16384x1024 .f32) (mods : FVec Ideal S2x2x2x1024 .f32) : FVec Ideal S2x16384x1024 .bf16 :=
  truncf .bf16 (addf (mulf (mulf x (broadcastInDim S2x16384x1024 ![0, 1, 2] bcast_S2x16384x1_S2x16384x1024_0_1_2 (Host.rsqrt (addf (Host.divf (broadcastInDim S2x16384x1 ![0, 1] bcast_S2x16384_S2x16384x1_0_1
    (Host.reduceAdd (mulf x x) (constant S_ .f32 0x00000000#32) reducesTo_S2x16384x1024_S2x16384_d2 h_S_)) (broadcastInDim S2x16384x1 ![] bcast_S_S2x16384x1 (constant S_ .f32 0x44800000#32)))
    (broadcastInDim S2x16384x1 ![] bcast_S_S2x16384x1 (constant S_ .f32 0x358637BD#32))))))
    (broadcastInDim S2x16384x1024 ![0, 1, 2] bcast_S2x1x1024_S2x16384x1024_0_1_2 (addf (broadcastInDim S2x1x1024 ![] bcast_S_S2x1x1024 (constant S_ .f32 0x3F800000#32))
      (extractStridedSlice S2x1x1024 ![0, 1, 0] (shapeCast _ (extractStridedSlice S2x1x2x1024 ![0, 0, 0, 0] mods slices_S2x2x2x1024_S2x1x2x1024_0_0_0_0) shapeCasts_S2x1x2x1024_S2x2x1024) slices_S2x2x1024_S2x1x1024_0_1_0))))
    (broadcastInDim S2x16384x1024 ![0, 1, 2] bcast_S2x1x1024_S2x16384x1024_0_1_2
      (extractStridedSlice S2x1x1024 ![0, 0, 0] (shapeCast _ (extractStridedSlice S2x1x2x1024 ![0, 0, 0, 0] mods slices_S2x2x2x1024_S2x1x2x1024_0_0_0_0) shapeCasts_S2x1x2x1024_S2x2x1024) slices_S2x2x1024_S2x1x1024_0_0_0))) bitsLt_bf16_f32

/-- the context's; -/
def context (x : FVec Ideal S2x256x1024 .f32) (mods : FVec Ideal S2x2x2x1024 .f32) : FVec Ideal S2x256x1024 .bf16 :=
  truncf .bf16 (addf (mulf (mulf x (broadcastInDim S2x256x1024 ![0, 1, 2] bcast_S2x256x1_S2x256x1024_0_1_2 (Host.rsqrt (addf (Host.divf (broadcastInDim S2x256x1 ![0, 1] bcast_S2x256_S2x256x1_0_1
    (Host.reduceAdd (mulf x x) (constant S_ .f32 0x00000000#32) reducesTo_S2x256x1024_S2x256_d2 h_S_)) (broadcastInDim S2x256x1 ![] bcast_S_S2x256x1 (constant S_ .f32 0x44800000#32)))
    (broadcastInDim S2x256x1 ![] bcast_S_S2x256x1 (constant S_ .f32 0x358637BD#32))))))
    (broadcastInDim S2x256x1024 ![0, 1, 2] bcast_S2x1x1024_S2x256x1024_0_1_2 (addf (broadcastInDim S2x1x1024 ![] bcast_S_S2x1x1024 (constant S_ .f32 0x3F800000#32))
      (extractStridedSlice S2x1x1024 ![0, 1, 0] (shapeCast _ (extractStridedSlice S2x1x2x1024 ![0, 1, 0, 0] mods slices_S2x2x2x1024_S2x1x2x1024_0_1_0_0) shapeCasts_S2x1x2x1024_S2x2x1024) slices_S2x2x1024_S2x1x1024_0_1_0))))
    (broadcastInDim S2x256x1024 ![0, 1, 2] bcast_S2x1x1024_S2x256x1024_0_1_2
      (extractStridedSlice S2x1x1024 ![0, 0, 0] (shapeCast _ (extractStridedSlice S2x1x2x1024 ![0, 1, 0, 0] mods slices_S2x2x2x1024_S2x1x2x1024_0_1_0_0) shapeCasts_S2x1x2x1024_S2x2x1024) slices_S2x2x1024_S2x1x1024_0_0_0))) bitsLt_bf16_f32

/-- both, the context's four times; -/
def rows (l : FVec Ideal S2x16384x1024 .bf16) (h : FVec Ideal S2x256x1024 .bf16) : FVec Ideal S2x17408x1024 .bf16 :=
  concatenate S2x17408x1024 1 [⟨S2x16384x1024, l⟩, ⟨S2x256x1024, h⟩, ⟨S2x256x1024, h⟩, ⟨S2x256x1024, h⟩, ⟨S2x256x1024, h⟩]
    concatenates_S2x16384x1024_S2x256x1024_S2x256x1024_S2x256x1024_S2x256x1024_S2x17408x1024_d1

/-- every feature; -/
def features (w : FVec Ideal S3328x1024 .bf16) (h : FVec Ideal S2x17408x1024 .bf16) : FVec Ideal S2x3328x17408 .f32 :=
  transpose S2x3328x17408 [1, 0, 2] (Host.dotGeneral dot_S3328x1024_S2x17408x1024_S3328x2x17408_1_2_0_01_n_n none w h) transposes_S3328x2x17408_S2x3328x17408_1_0_2

/-- and the results. -/
def outV (p : FVec Ideal S2x3328x17408 .f32) : FVec Ideal S2x2x64x17408 .bf16 :=
  truncf .bf16 (shapeCast _ (extractStridedSlice S2x128x17408 ![0, 640, 0] p slices_S2x3328x17408_S2x128x17408_0_640_0) shapeCasts_S2x128x17408_S2x2x64x17408) bitsLt_bf16_f32
def outG (p : FVec Ideal S2x3328x17408 .f32) : FVec Ideal S2x512x17408 .bf16 :=
  truncf .bf16 (extractStridedSlice S2x512x17408 ![0, 768, 0] p slices_S2x3328x17408_S2x512x17408_0_768_0) bitsLt_bf16_f32
def outU (p : FVec Ideal S2x3328x17408 .f32) : FVec Ideal S2x512x17408 .bf16 :=
  truncf .bf16 (mulf (extractStridedSlice S2x512x17408 ![0, 1280, 0] p slices_S2x3328x17408_S2x512x17408_0_1280_0)
    (extractStridedSlice S2x512x17408 ![0, 1792, 0] p slices_S2x3328x17408_S2x512x17408_0_1792_0)) bitsLt_bf16_f32

theorem latent_at (x : FVec Ideal S2x16384x1024 .f32) (mods : FVec Ideal S2x2x2x1024 .f32) (b : Fin 2) (n : Fin 16384) (k : Fin 1024) :
    latent x mods (ix3 b n k) = normed (fun k => x (ix3 b n k)) (fun k => mods (ix4 b 0 0 k)) (fun k => mods (ix4 b 0 1 k)) k := by
  pointwise [latent, normed]

theorem context_at (x : FVec Ideal S2x256x1024 .f32) (mods : FVec Ideal S2x2x2x1024 .f32) (b : Fin 2) (n : Fin 256) (k : Fin 1024) :
    context x mods (ix3 b n k) = normed (fun k => x (ix3 b n k)) (fun k => mods (ix4 b 1 0 k)) (fun k => mods (ix4 b 1 1 k)) k := by
  pointwise [context, normed]

theorem rows_at (l : FVec Ideal S2x16384x1024 .bf16) (h : FVec Ideal S2x256x1024 .bf16) (b : Fin 2) (n : Fin 17408) (k : Fin 1024) :
    rows l h (ix3 b n k) = if hn : n.val < 16384 then l (ix3 b ⟨n.val, hn⟩ k) else h (ix3 b ⟨n.val % 256, Nat.mod_lt _ (by decide)⟩ k) := by
  have e : ∀ (p : ℕ) (hp : p < 256), p = n.val % 256 → h (ix3 b ⟨p, hp⟩ k) = h (ix3 b ⟨n.val % 256, Nat.mod_lt _ (by decide)⟩ k) := fun p hp he => by
    subst he
    rfl
  pointwise [rows]
  split_ifs <;> first | exact e _ _ (by omega) | rfl

theorem features_at (w : FVec Ideal S3328x1024 .bf16) (h : FVec Ideal S2x17408x1024 .bf16) (b : Fin 2) (f : Fin 3328) (n : Fin 17408) :
    features w h (ix3 b f n) = ∑ k : Fin 1024, w (ix2 f k) * h (ix3 b n k) := by
  pointwise [features]

theorem outV_at (p : FVec Ideal S2x3328x17408 .f32) (b g : Fin 2) (d : Fin 64) (n : Fin 17408) : outV p (ix4 b g d n) = p (ix3 b (fv g d) n) := by
  pointwise [outV, fv]
  exact congrArg (fun f => p (ix3 b f n)) (Fin.ext (by show 640 + (g.val * 64 + d.val) = 640 + 64 * g.val + d.val; omega))
theorem outG_at (p : FVec Ideal S2x3328x17408 .f32) (b : Fin 2) (ch : Fin 512) (n : Fin 17408) : outG p (ix3 b ch n) = p (ix3 b (fg ch) n) := by
  pointwise [outG, fg]
theorem outU_at (p : FVec Ideal S2x3328x17408 .f32) (b : Fin 2) (ch : Fin 512) (n : Fin 17408) : outU p (ix3 b ch n) = (p (ix3 b (fb ch) n) * p (ix3 b (fx ch) n) : EReal) := by
  pointwise [outU, fb, fx]

/-- The reference's features are the kernel's. -/
theorem features_eq (x : FVec Ideal S2x16384x1024 .f32) (ctx : FVec Ideal S2x256x1024 .f32) (mods : FVec Ideal S2x2x2x1024 .f32) (w : FVec Ideal S3328x1024 .bf16)
    (b : Fin 2) (f : Fin 3328) (n : Fin 17408) : features w (rows (latent x mods) (context ctx mods)) (ix3 b f n) = projected x ctx mods w b f n := by
  refine (features_at _ _ b f n).trans (Finset.sum_congr rfl fun k _ => congrArg (w (ix2 f k) * ·) ((rows_at _ _ b n k).trans ?_))
  by_cases h : n.val < 16384
  · have hk : kind n = 0 := if_pos h
    rw [dif_pos h, hk]
    exact (latent_at x mods b _ k).trans (norm_congr (fun k => (show rowAt x ctx b n k = _ from dif_pos h).symm) (fun _ => rfl) (fun _ => rfl) k)
  · have hk : kind n = 1 := if_neg h
    rw [dif_neg h, hk]
    exact (context_at ctx mods b _ k).trans (norm_congr (fun k => (show rowAt x ctx b n k = _ from dif_neg h).symm) (fun _ => rfl) (fun _ => rfl) k)

variable (m : (ℓ : Loc nD τ sig) → Buf (Elt Ideal) ℓ) (c : Dev nD)

/-- The features on a device. -/
def all : FVec Ideal S2x3328x17408 .f32 :=
  features (m ((c.tc : Thread nD τ).loc main_arg3)) (rows (latent (m ((c.tc : Thread nD τ).loc main_arg0)) (m ((c.tc : Thread nD τ).loc main_arg2)))
    (context (m ((c.tc : Thread nD τ).loc main_arg1)) (m ((c.tc : Thread nD τ).loc main_arg2))))

theorem res_v : Value.res_out0 m c = outV (all m c) := rfl
theorem res_gb : Value.res_out1 m c = outG (all m c) := rfl
theorem res_u : Value.res_out2 m c = outU (all m c) := rfl

theorem all_at (b : Fin 2) (f : Fin 3328) (n : Fin 17408) : all m c (ix3 b f n)
    = projected (m ((c.tc : Thread nD τ).loc main_arg0)) (m ((c.tc : Thread nD τ).loc main_arg1)) (m ((c.tc : Thread nD τ).loc main_arg2)) (m ((c.tc : Thread nD τ).loc main_arg3)) b f n :=
  features_eq _ _ _ _ b f n

/-- The results on a device are the kernel's functions of the arguments. -/
theorem res_v_at (y : S2x2x64x17408.Idx) : Value.res_out0 m c y = projected (m ((c.tc : Thread nD τ).loc main_arg0)) (m ((c.tc : Thread nD τ).loc main_arg1))
    (m ((c.tc : Thread nD τ).loc main_arg2)) (m ((c.tc : Thread nD τ).loc main_arg3)) (y 0) (fv (y 1) (y 2)) (y 3) := by
  obtain ⟨b, g, d, n, rfl⟩ : ∃ b g d n, y = ix4 b g d n := ⟨y 0, y 1, y 2, y 3, eq_ix4 y⟩
  rw [res_v]
  exact (outV_at _ b g d n).trans (all_at m c b _ n)
theorem res_gb_at (y : S2x512x17408.Idx) : Value.res_out1 m c y = projected (m ((c.tc : Thread nD τ).loc main_arg0)) (m ((c.tc : Thread nD τ).loc main_arg1))
    (m ((c.tc : Thread nD τ).loc main_arg2)) (m ((c.tc : Thread nD τ).loc main_arg3)) (y 0) (fg (y 1)) (y 2) := by
  obtain ⟨b, ch, n, rfl⟩ : ∃ b ch n, y = ix3 b ch n := ⟨y 0, y 1, y 2, eq_ix3 y⟩
  rw [res_gb]
  exact (outG_at _ b ch n).trans (all_at m c b _ n)
theorem res_u_at (y : S2x512x17408.Idx) : Value.res_out2 m c y
    = (projected (m ((c.tc : Thread nD τ).loc main_arg0)) (m ((c.tc : Thread nD τ).loc main_arg1)) (m ((c.tc : Thread nD τ).loc main_arg2)) (m ((c.tc : Thread nD τ).loc main_arg3)) (y 0) (fb (y 1)) (y 2)
      * projected (m ((c.tc : Thread nD τ).loc main_arg0)) (m ((c.tc : Thread nD τ).loc main_arg1)) (m ((c.tc : Thread nD τ).loc main_arg2)) (m ((c.tc : Thread nD τ).loc main_arg3)) (y 0) (fx (y 1)) (y 2) : EReal) := by
  obtain ⟨b, ch, n, rfl⟩ : ∃ b ch n, y = ix3 b ch n := ⟨y 0, y 1, y 2, eq_ix3 y⟩
  rw [res_u]
  exact (outU_at _ b ch n).trans (congrArg₂ (fun a b : EReal => a * b) (all_at m c b _ n) (all_at m c b _ n))

end Cert.ProjectionReferenceIdeal.Out
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.Gen.Pre_finite_queries_and_keys
public import proofs.«01_k».proof.Proof.Stream.Reference
public import proofs.«01_k».proof.Proof.Gen.Grouped
public import proofs.«01_k».proof.Proof.Gen.Grouped.Skeleton
public import proofs.«01_k».proof.Proof.Gen.Grouped.Loops
public import proofs.«01_k».proof.Proof.Gen.Grouped.Launch
public import proofs.«01_k».proof.Proof.Gen.Grouped.Points
public import proofs.«01_k».proof.Proof.Gen.Grouped.Frame
public import proofs.«01_k».proof.Proof.Gen.GroupedIdeal
public import proofs.«01_k».proof.Proof.Gen.GroupedIdeal.Skeleton
public import proofs.«01_k».proof.Proof.Gen.GroupedIdeal.Loops
public import proofs.«01_k».proof.Proof.Gen.GroupedIdeal.Launch
public import proofs.«01_k».proof.Proof.Gen.GroupedIdeal.Points
public import proofs.«01_k».proof.Proof.Gen.GroupedIdeal.Frame
public import proofs.«01_k».proof.Proof.Gen.GroupedReferenceIdeal
public import proofs.«01_k».proof.Proof.Gen.GroupedReferenceIdeal.Run
public import proofs.«01_k».proof.Proof.Gen.Pre_finite_grouped_queries_and_keys
public import proofs.«01_k».proof.Proof.Grouped.Frame
public import proofs.«01_k».proof.Proof.GroupedIdeal.Frame
public import proofs.«01_k».proof.Proof.GroupedStream.Reference
public import proofs.«01_k».proof.Proof.Gen.Output
public import proofs.«01_k».proof.Proof.Gen.Output.Skeleton
public import proofs.«01_k».proof.Proof.Gen.Output.Launch
public import proofs.«01_k».proof.Proof.Gen.Output.Points
public import proofs.«01_k».proof.Proof.Gen.Output.Frame
public import proofs.«01_k».proof.Proof.Gen.OutputIdeal
public import proofs.«01_k».proof.Proof.Gen.OutputIdeal.Skeleton
public import proofs.«01_k».proof.Proof.Gen.OutputIdeal.Launch
public import proofs.«01_k».proof.Proof.Gen.OutputIdeal.Points
public import proofs.«01_k».proof.Proof.Gen.OutputIdeal.Frame
public import proofs.«01_k».proof.Proof.Gen.OutputIdeal.Value
public import proofs.«01_k».proof.Proof.Gen.OutputReferenceIdeal
public import proofs.«01_k».proof.Proof.Gen.OutputReferenceIdeal.Run
public import proofs.«01_k».proof.Proof.OutputIdeal.Reference
public import proofs.«01_k».proof.Proof.Gen.Joint
public import proofs.«01_k».proof.Proof.Gen.Joint.Skeleton
public import proofs.«01_k».proof.Proof.Gen.Joint.Launch
public import proofs.«01_k».proof.Proof.Gen.Joint.Points
public import proofs.«01_k».proof.Proof.Gen.Joint.Frame
public import proofs.«01_k».proof.Proof.Gen.JointIdeal
public import proofs.«01_k».proof.Proof.Gen.JointIdeal.Skeleton
public import proofs.«01_k».proof.Proof.Gen.JointIdeal.Launch
public import proofs.«01_k».proof.Proof.Gen.JointIdeal.Points
public import proofs.«01_k».proof.Proof.Gen.JointIdeal.Frame
public import proofs.«01_k».proof.Proof.Gen.JointIdeal.Value
public import proofs.«01_k».proof.Proof.Gen.JointReferenceIdeal
public import proofs.«01_k».proof.Proof.Gen.JointReferenceIdeal.Run
public import proofs.«01_k».proof.Proof.JointIdeal.Reference
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationIdeal.Value
public import proofs.«01_k».proof.Proof.Gen.ModulationReferenceIdeal
public import proofs.«01_k».proof.Proof.Gen.ModulationReferenceIdeal.Run
public import proofs.«01_k».proof.Proof.Gen.Pre_finite_conditioning
public import proofs.«01_k».proof.Proof.ModulationIdeal.Reference
public import proofs.«01_k».proof.Proof.Gen.Context
public import proofs.«01_k».proof.Proof.Gen.Context.Skeleton
public import proofs.«01_k».proof.Proof.Gen.Context.Launch
public import proofs.«01_k».proof.Proof.Gen.Context.Points
public import proofs.«01_k».proof.Proof.Gen.Context.Frame
public import proofs.«01_k».proof.Proof.Gen.ContextIdeal
public import proofs.«01_k».proof.Proof.Gen.ContextIdeal.Skeleton
public import proofs.«01_k».proof.Proof.Gen.ContextIdeal.Launch
public import proofs.«01_k».proof.Proof.Gen.ContextIdeal.Points
public import proofs.«01_k».proof.Proof.Gen.ContextIdeal.Frame
public import proofs.«01_k».proof.Proof.Gen.ContextIdeal.Value
public import proofs.«01_k».proof.Proof.Gen.ContextReferenceIdeal
public import proofs.«01_k».proof.Proof.Gen.ContextReferenceIdeal.Run
public import proofs.«01_k».proof.Proof.Gen.ContextGrouped
public import proofs.«01_k».proof.Proof.Gen.ContextGrouped.Skeleton
public import proofs.«01_k».proof.Proof.Gen.ContextGrouped.Launch
public import proofs.«01_k».proof.Proof.Gen.ContextGrouped.Points
public import proofs.«01_k».proof.Proof.Gen.ContextGrouped.Frame
public import proofs.«01_k».proof.Proof.Gen.ContextGroupedIdeal
public import proofs.«01_k».proof.Proof.Gen.ContextGroupedIdeal.Skeleton
public import proofs.«01_k».proof.Proof.Gen.ContextGroupedIdeal.Launch
public import proofs.«01_k».proof.Proof.Gen.ContextGroupedIdeal.Points
public import proofs.«01_k».proof.Proof.Gen.ContextGroupedIdeal.Frame
public import proofs.«01_k».proof.Proof.Gen.ContextGroupedIdeal.Value
public import proofs.«01_k».proof.Proof.Gen.ContextGroupedReferenceIdeal
public import proofs.«01_k».proof.Proof.Gen.ContextGroupedReferenceIdeal.Run
public import proofs.«01_k».proof.Proof.Gen.Pre_finite_context_queries_and_keys
public import proofs.«01_k».proof.Proof.Gen.Pre_finite_context_grouped_queries_and_keys
public import proofs.«01_k».proof.Proof.ContextIdeal.Reference
public import proofs.«01_k».proof.Proof.ContextGroupedIdeal.Reference
public import proofs.«01_k».proof.Proof.Gen.JointContext
public import proofs.«01_k».proof.Proof.Gen.JointContext.Skeleton
public import proofs.«01_k».proof.Proof.Gen.JointContext.Launch
public import proofs.«01_k».proof.Proof.Gen.JointContext.Points
public import proofs.«01_k».proof.Proof.Gen.JointContext.Frame
public import proofs.«01_k».proof.Proof.Gen.JointContextIdeal
public import proofs.«01_k».proof.Proof.Gen.JointContextIdeal.Skeleton
public import proofs.«01_k».proof.Proof.Gen.JointContextIdeal.Launch
public import proofs.«01_k».proof.Proof.Gen.JointContextIdeal.Points
public import proofs.«01_k».proof.Proof.Gen.JointContextIdeal.Frame
public import proofs.«01_k».proof.Proof.Gen.JointContextIdeal.Value
public import proofs.«01_k».proof.Proof.Gen.JointContextReferenceIdeal
public import proofs.«01_k».proof.Proof.Gen.JointContextReferenceIdeal.Run
public import proofs.«01_k».proof.Proof.JointContextIdeal.Reference
public import proofs.«01_k».proof.Proof.Gen.Projection
public import proofs.«01_k».proof.Proof.Gen.Projection.Skeleton
public import proofs.«01_k».proof.Proof.Gen.Projection.Launch
public import proofs.«01_k».proof.Proof.Gen.Projection.Points
public import proofs.«01_k».proof.Proof.Gen.Projection.Frame
public import proofs.«01_k».proof.Proof.Gen.ProjectionIdeal
public import proofs.«01_k».proof.Proof.Gen.ProjectionIdeal.Skeleton
public import proofs.«01_k».proof.Proof.Gen.ProjectionIdeal.Launch
public import proofs.«01_k».proof.Proof.Gen.ProjectionIdeal.Points
public import proofs.«01_k».proof.Proof.Gen.ProjectionIdeal.Frame
public import proofs.«01_k».proof.Proof.Gen.ProjectionIdeal.Value
public import proofs.«01_k».proof.Proof.Gen.ProjectionReferenceIdeal
public import proofs.«01_k».proof.Proof.Gen.ProjectionReferenceIdeal.Run
public import proofs.«01_k».proof.Proof.ProjectionIdeal.Reference
public import Idealize.ShloMosaic.Adequacy
public import Idealize.ShloMosaic.Init

@[expose] public section

noncomputable section

namespace Cert.Proof

open Idealize.ShloMosaic Idealize.SL.Sem

/-- The host reference terminates with its inputs unchanged and every counter at zero. -/
theorem reference_quiescent : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The named constant is the reciprocal of the natural logarithm of two. -/
theorem preserves : Cert.preserves_Kernel_KernelIdeal :=
  IdealRules.named_const.statement Cert.KernelIdeal.κ "inv_ln2" .f32 0x3FB8AA3B#32 (((Real.log 2)⁻¹ : ℝ) : EReal) rfl

/-- At exact arithmetic the kernel and the reference end with the attention of the arguments. -/
theorem algebraic : Cert.algebraic_KernelIdeal_ReferenceIdeal_pre_finite_queries_and_keys := by
  intro m g m' g' hpre hagree
  refine ⟨Cert.KernelIdeal.Stream.result m, Cert.KernelIdeal.Stream.run m g fun c => Cert.ReferenceIdeal.Softmax.realScores m c (hpre c), ?_⟩
  refine (θ_run Cert.ReferenceIdeal.defs _ _).mono (fun _ h c => ⟨(h c).1.trans ?_, (h c).2⟩) (Cert.ReferenceIdeal.Value.run (F := Ideal) m' g')
  rw [(hagree c).1, (hagree c).2.1, (hagree c).2.2]
  exact Cert.ReferenceIdeal.Softmax.reference_eq _ _ _ (hpre c)

/-! ## The grouped call -/

/-- The grouped call's reference likewise, -/
theorem grouped_reference_quiescent : Cert.quiescent_GroupedReferenceIdeal := fun m g _ =>
  (θ_run Cert.GroupedReferenceIdeal.defs _ _).mono (fun r h => ⟨fun c => (h c).2, sem_eq_zero_of_no_sems (by decide) r.2⟩)
    (Cert.GroupedReferenceIdeal.Value.run (F := Ideal) m g)

/-- its named constant, -/
theorem grouped_preserves : Cert.preserves_Grouped_GroupedIdeal :=
  IdealRules.named_const.statement Cert.GroupedIdeal.κ "inv_ln2" .f32 0x3FB8AA3B#32 (((Real.log 2)⁻¹ : ℝ) : EReal) rfl

/-- and its result: every head's attention over the shared keys and its group's values. -/
theorem grouped_algebraic : Cert.algebraic_GroupedIdeal_GroupedReferenceIdeal_pre_finite_grouped_queries_and_keys := by
  intro m g m' g' hpre hagree
  refine ⟨Cert.GroupedIdeal.Stream.result m, Cert.GroupedIdeal.Stream.run m g fun c => Cert.GroupedReferenceIdeal.Softmax.realScores m c (hpre c), ?_⟩
  refine (θ_run Cert.GroupedReferenceIdeal.defs _ _).mono (fun _ h c => ⟨(h c).1.trans ?_, (h c).2⟩) (Cert.GroupedReferenceIdeal.Value.run (F := Ideal) m' g')
  rw [(hagree c).1, (hagree c).2.1, (hagree c).2.2]
  exact Cert.GroupedReferenceIdeal.Softmax.reference_eq _ _ _ (hpre c)

/-! ## The last layer's output projection -/

/-- Its reference likewise, -/
theorem output_reference_quiescent : Cert.quiescent_OutputReferenceIdeal := fun m g _ =>
  (θ_run Cert.OutputReferenceIdeal.defs _ _).mono (fun r h => ⟨fun c => (h c).2, sem_eq_zero_of_no_sems (by decide) r.2⟩)
    (Cert.OutputReferenceIdeal.Value.run (F := Ideal) m g)

/-- and its result: the residual stream after the layer. -/
theorem output_algebraic : Cert.algebraic_OutputIdeal_OutputReferenceIdeal := by
  intro m g m' g' _ hagree
  refine ⟨Cert.OutputIdeal.Out.result m, (θ_run Cert.OutputIdeal.defs _ _).mono (fun _ h c => ⟨(h c).1.trans (Cert.OutputIdeal.Out.arr_eq m c), (h c).2⟩)
    (Cert.OutputIdeal.Value.run_blocks m g), ?_⟩
  refine (θ_run Cert.OutputReferenceIdeal.defs _ _).mono (fun _ h c => ⟨(h c).1.trans ?_, (h c).2⟩) (Cert.OutputReferenceIdeal.Value.run (F := Ideal) m' g')
  obtain ⟨h0, h1, h2, h3, h4, h5, h6, h7⟩ := hagree c
  rw [h0, h1, h2, h3, h4, h5, h6, h7]
  exact Cert.OutputReferenceIdeal.Out.reference_eq _ _ _ _ _ _ _ _

/-! ## The first layer's output projection -/

/-- Its reference, -/
theorem joint_reference_quiescent : Cert.quiescent_JointReferenceIdeal := fun m g _ =>
  (θ_run Cert.JointReferenceIdeal.defs _ _).mono (fun r h => ⟨fun c => (h c).2, sem_eq_zero_of_no_sems (by decide) r.2⟩)
    (Cert.JointReferenceIdeal.Value.run (F := Ideal) m g)

/-- and its result. -/
theorem joint_algebraic : Cert.algebraic_JointIdeal_JointReferenceIdeal := by
  intro m g m' g' _ hagree
  refine ⟨Cert.JointIdeal.Out.result m, (θ_run Cert.JointIdeal.defs _ _).mono (fun _ h c => ⟨(h c).1.trans (Cert.JointIdeal.Out.arr_eq m c), (h c).2⟩)
    (Cert.JointIdeal.Value.run_blocks m g), ?_⟩
  refine (θ_run Cert.JointReferenceIdeal.defs _ _).mono (fun _ h c => ⟨(h c).1.trans ?_, (h c).2⟩) (Cert.JointReferenceIdeal.Value.run (F := Ideal) m' g')
  obtain ⟨h0, h1, h2, h3, h4, h5⟩ := hagree c
  rw [h0, h1, h2, h3, h4, h5]
  exact Cert.JointReferenceIdeal.Out.reference_eq _ _ _ _ _ _

/-! ## The modulation -/

/-- Its reference, -/
theorem modulation_reference_quiescent : Cert.quiescent_ModulationReferenceIdeal := fun m g _ =>
  (θ_run Cert.ModulationReferenceIdeal.defs _ _).mono (fun r h => ⟨fun c => (h c).2, sem_eq_zero_of_no_sems (by decide) r.2⟩)
    (Cert.ModulationReferenceIdeal.Value.run (F := Ideal) m g)

/-- and its result: every layer's shift, scale and gate. -/
theorem modulation_algebraic : Cert.algebraic_ModulationIdeal_ModulationReferenceIdeal_pre_finite_conditioning := by
  intro m g m' g' hpre hagree
  refine ⟨Cert.ModulationIdeal.Out.result m, (θ_run Cert.ModulationIdeal.defs _ _).mono (fun _ h c => ⟨(h c).1.trans (Cert.ModulationIdeal.Out.arr_eq m c), (h c).2⟩)
    (Cert.ModulationIdeal.Value.run_blocks m g), ?_⟩
  refine (θ_run Cert.ModulationReferenceIdeal.defs _ _).mono (fun _ h c => ⟨(h c).1.trans ?_, (h c).2⟩) (Cert.ModulationReferenceIdeal.Value.run (F := Ideal) m' g')
  obtain ⟨h0, h1, h2⟩ := hagree c
  rw [h0, h1, h2]
  exact Cert.ModulationReferenceIdeal.Out.reference_eq _ _ _ (hpre c)

/-! ## The context's attention -/

/-- Its reference, -/
theorem context_reference_quiescent : Cert.quiescent_ContextReferenceIdeal := fun m g _ =>
  (θ_run Cert.ContextReferenceIdeal.defs _ _).mono (fun r h => ⟨fun c => (h c).2, sem_eq_zero_of_no_sems (by decide) r.2⟩)
    (Cert.ContextReferenceIdeal.Value.run (F := Ideal) m g)

/-- and its result: the attention among the context positions. -/
theorem context_algebraic : Cert.algebraic_ContextIdeal_ContextReferenceIdeal_pre_finite_context_queries_and_keys := by
  intro m g m' g' hpre hagree
  refine ⟨Cert.ContextIdeal.Attn.result m, (θ_run Cert.ContextIdeal.defs _ _).mono
    (fun _ h c => ⟨(h c).1.trans (Cert.ContextIdeal.Attn.arr_eq m c (Cert.ContextReferenceIdeal.Softmax.realScores _ _ _ (hpre c))), (h c).2⟩) (Cert.ContextIdeal.Value.run_blocks m g), ?_⟩
  refine (θ_run Cert.ContextReferenceIdeal.defs _ _).mono (fun _ h c => ⟨(h c).1.trans ?_, (h c).2⟩) (Cert.ContextReferenceIdeal.Value.run (F := Ideal) m' g')
  obtain ⟨h0, h1, h2⟩ := hagree c
  rw [h0, h1, h2]
  exact Cert.ContextReferenceIdeal.Softmax.reference_eq _ _ _ (hpre c)

/-! ## The context's grouped attention -/

/-- Its reference, -/
theorem context_grouped_reference_quiescent : Cert.quiescent_ContextGroupedReferenceIdeal := fun m g _ =>
  (θ_run Cert.ContextGroupedReferenceIdeal.defs _ _).mono (fun r h => ⟨fun c => (h c).2, sem_eq_zero_of_no_sems (by decide) r.2⟩)
    (Cert.ContextGroupedReferenceIdeal.Value.run (F := Ideal) m g)

/-- and its result: the same over shared keys and each group's values. -/
theorem context_grouped_algebraic : Cert.algebraic_ContextGroupedIdeal_ContextGroupedReferenceIdeal_pre_finite_context_grouped_queries_and_keys := by
  intro m g m' g' hpre hagree
  refine ⟨Cert.ContextGroupedIdeal.Attn.result m, (θ_run Cert.ContextGroupedIdeal.defs _ _).mono
    (fun _ h c => ⟨(h c).1.trans (Cert.ContextGroupedIdeal.Attn.arr_eq m c (Cert.ContextGroupedReferenceIdeal.Softmax.realScores _ _ _ (hpre c))), (h c).2⟩) (Cert.ContextGroupedIdeal.Value.run_blocks m g), ?_⟩
  refine (θ_run Cert.ContextGroupedReferenceIdeal.defs _ _).mono (fun _ h c => ⟨(h c).1.trans ?_, (h c).2⟩) (Cert.ContextGroupedReferenceIdeal.Value.run (F := Ideal) m' g')
  obtain ⟨h0, h1, h2⟩ := hagree c
  rw [h0, h1, h2]
  exact Cert.ContextGroupedReferenceIdeal.Softmax.reference_eq _ _ _ (hpre c)

/-! ## The first layer's output projection on the context -/

/-- Its reference, -/
theorem joint_context_reference_quiescent : Cert.quiescent_JointContextReferenceIdeal := fun m g _ =>
  (θ_run Cert.JointContextReferenceIdeal.defs _ _).mono (fun r h => ⟨fun c => (h c).2, sem_eq_zero_of_no_sems (by decide) r.2⟩)
    (Cert.JointContextReferenceIdeal.Value.run (F := Ideal) m g)

/-- and its result. -/
theorem joint_context_algebraic : Cert.algebraic_JointContextIdeal_JointContextReferenceIdeal := by
  intro m g m' g' _ hagree
  refine ⟨Cert.JointContextIdeal.Out.result m, (θ_run Cert.JointContextIdeal.defs _ _).mono (fun _ h c => ⟨(h c).1.trans (Cert.JointContextIdeal.Out.arr_eq m c), (h c).2⟩)
    (Cert.JointContextIdeal.Value.run_blocks m g), ?_⟩
  refine (θ_run Cert.JointContextReferenceIdeal.defs _ _).mono (fun _ h c => ⟨(h c).1.trans ?_, (h c).2⟩) (Cert.JointContextReferenceIdeal.Value.run (F := Ideal) m' g')
  obtain ⟨h0, h1, h2, h3, h4, h5⟩ := hagree c
  rw [h0, h1, h2, h3, h4, h5]
  exact Cert.JointContextReferenceIdeal.Out.reference_eq _ _ _ _ _ _

/-! ## The second layer's input projection -/

/-- Its reference, -/
theorem projection_reference_quiescent : Cert.quiescent_ProjectionReferenceIdeal := fun m g _ =>
  (θ_run Cert.ProjectionReferenceIdeal.defs _ _).mono (fun r h => ⟨fun c => (h c).2.2.2, sem_eq_zero_of_no_sems (by decide) r.2⟩)
    (Cert.ProjectionReferenceIdeal.Value.run (F := Ideal) m g)

/-- and its results. -/
theorem projection_algebraic : Cert.algebraic_ProjectionIdeal_ProjectionReferenceIdeal := by
  intro m g m' g' _ hagree
  refine ⟨Cert.ProjectionIdeal.Out.resV m, Cert.ProjectionIdeal.Out.resG m, Cert.ProjectionIdeal.Out.resU m,
    (θ_run Cert.ProjectionIdeal.defs _ _).mono (fun _ h c => ?_) (Cert.ProjectionIdeal.Value.run_blocks m g), ?_⟩
  · obtain ⟨-, -, hv, hg, hu, -, ha⟩ := h c
    exact ⟨hv.trans (Cert.ProjectionIdeal.Out.arr_v m c), hg.trans (Cert.ProjectionIdeal.Out.arr_gb m c), hu.trans (Cert.ProjectionIdeal.Out.arr_u m c), ha⟩
  · refine (θ_run Cert.ProjectionReferenceIdeal.defs _ _).mono (fun _ h c => ?_) (Cert.ProjectionReferenceIdeal.Value.run (F := Ideal) m' g')
    obtain ⟨hv, hg, hu, ha⟩ := h c
    obtain ⟨h0, h1, h2, h3, -⟩ := hagree c
    refine ⟨hv.trans ?_, hg.trans ?_, hu.trans ?_, ha⟩
    · refine funext fun y => (Cert.ProjectionReferenceIdeal.Out.res_v_at m' c y).trans ?_
      rw [h0, h1, h2, h3]
      rfl
    · refine funext fun y => (Cert.ProjectionReferenceIdeal.Out.res_gb_at m' c y).trans ?_
      rw [h0, h1, h2, h3]
      rfl
    · refine funext fun y => (Cert.ProjectionReferenceIdeal.Out.res_u_at m' c y).trans ?_
      rw [h0, h1, h2, h3]
      rfl

theorem claim : Cert.Claim :=
  ⟨Cert.Kernel.Gen.facts, Cert.KernelIdeal.Gen.facts, Cert.ReferenceIdeal.Gen.facts, Cert.Grouped.Gen.facts, Cert.GroupedIdeal.Gen.facts, Cert.GroupedReferenceIdeal.Gen.facts,
    Cert.Output.Gen.facts, Cert.OutputIdeal.Gen.facts, Cert.OutputReferenceIdeal.Gen.facts,
    Cert.Joint.Gen.facts, Cert.JointIdeal.Gen.facts, Cert.JointReferenceIdeal.Gen.facts,
    Cert.Modulation.Gen.facts, Cert.ModulationIdeal.Gen.facts, Cert.ModulationReferenceIdeal.Gen.facts,
    Cert.Context.Gen.facts, Cert.ContextIdeal.Gen.facts, Cert.ContextReferenceIdeal.Gen.facts,
    Cert.ContextGrouped.Gen.facts, Cert.ContextGroupedIdeal.Gen.facts, Cert.ContextGroupedReferenceIdeal.Gen.facts,
    Cert.JointContext.Gen.facts, Cert.JointContextIdeal.Gen.facts, Cert.JointContextReferenceIdeal.Gen.facts,
    Cert.Projection.Gen.facts, Cert.ProjectionIdeal.Gen.facts, Cert.ProjectionReferenceIdeal.Gen.facts,
    Cert.Pre_finite_queries_and_keys.Gen.facts, Cert.Pre_finite_grouped_queries_and_keys.Gen.facts, Cert.Pre_finite_conditioning.Gen.facts,
    Cert.Pre_finite_context_queries_and_keys.Gen.facts, Cert.Pre_finite_context_grouped_queries_and_keys.Gen.facts,
    fun m g _ => Cert.Kernel.Body.quiescent m g, fun m g _ => Cert.KernelIdeal.Body.quiescent m g, fun m g _ => Cert.KernelIdeal.Body.quiescent m g,
    reference_quiescent, fun m g _ => reference_quiescent m g trivial,
    fun m g _ => Cert.Grouped.Body.quiescent m g, fun m g _ => Cert.GroupedIdeal.Body.quiescent m g, fun m g _ => Cert.GroupedIdeal.Body.quiescent m g,
    grouped_reference_quiescent, fun m g _ => grouped_reference_quiescent m g trivial,
    fun m g _ => Cert.Output.Gen.frame m g, fun m g _ => Cert.OutputIdeal.Gen.frame m g, output_reference_quiescent,
    fun m g _ => Cert.Joint.Gen.frame m g, fun m g _ => Cert.JointIdeal.Gen.frame m g, joint_reference_quiescent,
    fun m g _ => Cert.Modulation.Gen.frame m g, fun m g _ => Cert.ModulationIdeal.Gen.frame m g, fun m g _ => Cert.ModulationIdeal.Gen.frame m g,
    modulation_reference_quiescent, fun m g _ => modulation_reference_quiescent m g trivial,
    fun m g _ => Cert.Context.Gen.frame m g, fun m g _ => Cert.ContextIdeal.Gen.frame m g, fun m g _ => Cert.ContextIdeal.Gen.frame m g,
    context_reference_quiescent, fun m g _ => context_reference_quiescent m g trivial,
    fun m g _ => Cert.ContextGrouped.Gen.frame m g, fun m g _ => Cert.ContextGroupedIdeal.Gen.frame m g, fun m g _ => Cert.ContextGroupedIdeal.Gen.frame m g,
    context_grouped_reference_quiescent, fun m g _ => context_grouped_reference_quiescent m g trivial,
    fun m g _ => Cert.JointContext.Gen.frame m g, fun m g _ => Cert.JointContextIdeal.Gen.frame m g, joint_context_reference_quiescent,
    fun m g _ => Cert.Projection.Gen.frame m g, fun m g _ => Cert.ProjectionIdeal.Gen.frame m g, projection_reference_quiescent,
    preserves, algebraic, grouped_preserves, grouped_algebraic, trivial, output_algebraic, trivial, joint_algebraic,
    trivial, modulation_algebraic, trivial, context_algebraic, trivial, context_grouped_algebraic,
    trivial, joint_context_algebraic, trivial, projection_algebraic⟩

end Cert.Proof

end
